-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23)
      ∧ r.2.mem ((c.tc : Thread Cert.Kernel4.nD Cert.Kernel4.τ).loc Cert.Kernel4.main_arg24) = m ((c.tc : Thread Cert.Kernel4.nD Cert.Kernel4.τ).loc Cert.Kernel4.main_arg24)
      ∧ r.2.mem ((c.tc : Thread Cert.Kernel4.nD Cert.Kernel4.τ).loc Cert.Kernel4.main_arg25) = m ((c.tc : Thread Cert.Kernel4.nD Cert.Kernel4.τ).loc Cert.Kernel4.main_arg25)
      ∧ r.2.mem ((c.tc : Thread Cert.Kernel4.nD Cert.Kernel4.τ).loc Cert.Kernel4.main_arg26) = m ((c.tc : Thread Cert.Kernel4.nD Cert.Kernel4.τ).loc Cert.Kernel4.main_arg26)
      ∧ r.2.mem ((c.tc : Thread Cert.Kernel4.nD Cert.Kernel4.τ).loc Cert.Kernel4.main_arg27) = m ((c.tc : Thread Cert.Kernel4.nD Cert.Kernel4.τ).loc Cert.Kernel4.main_arg27)
      ∧ r.2.mem ((c.tc : Thread Cert.Kernel4.nD Cert.Kernel4.τ).loc Cert.Kernel4.main_arg28) = m ((c.tc : Thread Cert.Kernel4.nD Cert.Kernel4.τ).loc Cert.Kernel4.main_arg28)
      ∧ r.2.mem ((c.tc : Thread Cert.Kernel4.nD Cert.Kernel4.τ).loc Cert.Kernel4.main_arg29) = m ((c.tc : Thread Cert.Kernel4.nD Cert.Kernel4.τ).loc Cert.Kernel4.main_arg29)
      ∧ r.2.mem ((c.tc : Thread Cert.Kernel4.nD Cert.Kernel4.τ).loc Cert.Kernel4.main_arg30) = m ((c.tc : Thread Cert.Kernel4.nD Cert.Kernel4.τ).loc Cert.Kernel4.main_arg30)
      ∧ r.2.mem ((c.tc : Thread Cert.Kernel4.nD Cert.Kernel4.τ).loc Cert.Kernel4.main_arg31) = m ((c.tc : Thread Cert.Kernel4.nD Cert.Kernel4.τ).loc Cert.Kernel4.main_arg31)
      ∧ r.2.mem ((c.tc : Thread Cert.Kernel4.nD Cert.Kernel4.τ).loc Cert.Kernel4.main_arg32) = m ((c.tc : Thread Cert.Kernel4.nD Cert.Kernel4.τ).loc Cert.Kernel4.main_arg32)
      ∧ r.2.mem ((c.tc : Thread Cert.Kernel4.nD Cert.Kernel4.τ).loc Cert.Kernel4.main_arg33) = m ((c.tc : Thread Cert.Kernel4.nD Cert.Kernel4.τ).loc Cert.Kernel4.main_arg33)
      ∧ r.2.mem ((c.tc : Thread Cert.Kernel4.nD Cert.Kernel4.τ).loc Cert.Kernel4.main_arg34) = m ((c.tc : Thread Cert.Kernel4.nD Cert.Kernel4.τ).loc Cert.Kernel4.main_arg34)
      ∧ r.2.mem ((c.tc : Thread Cert.Kernel4.nD Cert.Kernel4.τ).loc Cert.Kernel4.main_arg35) = m ((c.tc : Thread Cert.Kernel4.nD Cert.Kernel4.τ).loc Cert.Kernel4.main_arg35)
      ∧ r.2.mem ((c.tc : Thread Cert.Kernel4.nD Cert.Kernel4.τ).loc Cert.Kernel4.main_arg36) = m ((c.tc : Thread Cert.Kernel4.nD Cert.Kernel4.τ).loc Cert.Kernel4.main_arg36)
      ∧ r.2.mem ((c.tc : Thread Cert.Kernel4.nD Cert.Kernel4.τ).loc Cert.Kernel4.main_arg37) = m ((c.tc : Thread Cert.Kernel4.nD Cert.Kernel4.τ).loc Cert.Kernel4.main_arg37)
      ∧ r.2.mem ((c.tc : Thread Cert.Kernel4.nD Cert.Kernel4.τ).loc Cert.Kernel4.main_arg38) = m ((c.tc : Thread Cert.Kernel4.nD Cert.Kernel4.τ).loc Cert.Kernel4.main_arg38)
      ∧ r.2.mem ((c.tc : Thread Cert.Kernel4.nD Cert.Kernel4.τ).loc Cert.Kernel4.main_arg39) = m ((c.tc : Thread Cert.Kernel4.nD Cert.Kernel4.τ).loc Cert.Kernel4.main_arg39))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
      ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
      ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
      ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
      ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
      ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
      ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
      ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
      ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31)
      ∧ r.2.mem ((c.tc : Thread Cert.Kernel4Ideal.nD Cert.Kernel4Ideal.τ).loc Cert.Kernel4Ideal.main_arg32) = m ((c.tc : Thread Cert.Kernel4Ideal.nD Cert.Kernel4Ideal.τ).loc Cert.Kernel4Ideal.main_arg32)
      ∧ r.2.mem ((c.tc : Thread Cert.Kernel4Ideal.nD Cert.Kernel4Ideal.τ).loc Cert.Kernel4Ideal.main_arg33) = m ((c.tc : Thread Cert.Kernel4Ideal.nD Cert.Kernel4Ideal.τ).loc Cert.Kernel4Ideal.main_arg33)
      ∧ r.2.mem ((c.tc : Thread Cert.Kernel4Ideal.nD Cert.Kernel4Ideal.τ).loc Cert.Kernel4Ideal.main_arg34) = m ((c.tc : Thread Cert.Kernel4Ideal.nD Cert.Kernel4Ideal.τ).loc Cert.Kernel4Ideal.main_arg34)
      ∧ r.2.mem ((c.tc : Thread Cert.Kernel4Ideal.nD Cert.Kernel4Ideal.τ).loc Cert.Kernel4Ideal.main_arg35) = m ((c.tc : Thread Cert.Kernel4Ideal.nD Cert.Kernel4Ideal.τ).loc Cert.Kernel4Ideal.main_arg35)
      ∧ r.2.mem ((c.tc : Thread Cert.Kernel4Ideal.nD Cert.Kernel4Ideal.τ).loc Cert.Kernel4Ideal.main_arg36) = m ((c.tc : Thread Cert.Kernel4Ideal.nD Cert.Kernel4Ideal.τ).loc Cert.Kernel4Ideal.main_arg36)
      ∧ r.2.mem ((c.tc : Thread Cert.Kernel4Ideal.nD Cert.Kernel4Ideal.τ).loc Cert.Kernel4Ideal.main_arg37) = m ((c.tc : Thread Cert.Kernel4Ideal.nD Cert.Kernel4Ideal.τ).loc Cert.Kernel4Ideal.main_arg37)
      ∧ r.2.mem ((c.tc : Thread Cert.Kernel4Ideal.nD Cert.Kernel4Ideal.τ).loc Cert.Kernel4Ideal.main_arg38) = m ((c.tc : Thread Cert.Kernel4Ideal.nD Cert.Kernel4Ideal.τ).loc Cert.Kernel4Ideal.main_arg38)
      ∧ r.2.mem ((c.tc : Thread Cert.Kernel4Ideal.nD Cert.Kernel4Ideal.τ).loc Cert.Kernel4Ideal.main_arg39) = m ((c.tc : Thread Cert.Kernel4Ideal.nD Cert.Kernel4Ideal.τ).loc Cert.Kernel4Ideal.main_arg39))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24)
      ∧ r.2.mem ((c.tc : Thread Cert.Reference4Ideal.nD Cert.Reference4Ideal.τ).loc Cert.Reference4Ideal.main_arg25) = m ((c.tc : Thread Cert.Reference4Ideal.nD Cert.Reference4Ideal.τ).loc Cert.Reference4Ideal.main_arg25)
      ∧ r.2.mem ((c.tc : Thread Cert.Reference4Ideal.nD Cert.Reference4Ideal.τ).loc Cert.Reference4Ideal.main_arg26) = m ((c.tc : Thread Cert.Reference4Ideal.nD Cert.Reference4Ideal.τ).loc Cert.Reference4Ideal.main_arg26)
      ∧ r.2.mem ((c.tc : Thread Cert.Reference4Ideal.nD Cert.Reference4Ideal.τ).loc Cert.Reference4Ideal.main_arg27) = m ((c.tc : Thread Cert.Reference4Ideal.nD Cert.Reference4Ideal.τ).loc Cert.Reference4Ideal.main_arg27)
      ∧ r.2.mem ((c.tc : Thread Cert.Reference4Ideal.nD Cert.Reference4Ideal.τ).loc Cert.Reference4Ideal.main_arg28) = m ((c.tc : Thread Cert.Reference4Ideal.nD Cert.Reference4Ideal.τ).loc Cert.Reference4Ideal.main_arg28)
      ∧ r.2.mem ((c.tc : Thread Cert.Reference4Ideal.nD Cert.Reference4Ideal.τ).loc Cert.Reference4Ideal.main_arg29) = m ((c.tc : Thread Cert.Reference4Ideal.nD Cert.Reference4Ideal.τ).loc Cert.Reference4Ideal.main_arg29)
      ∧ r.2.mem ((c.tc : Thread Cert.Reference4Ideal.nD Cert.Reference4Ideal.τ).loc Cert.Reference4Ideal.main_arg30) = m ((c.tc : Thread Cert.Reference4Ideal.nD Cert.Reference4Ideal.τ).loc Cert.Reference4Ideal.main_arg30)
      ∧ r.2.mem ((c.tc : Thread Cert.Reference4Ideal.nD Cert.Reference4Ideal.τ).loc Cert.Reference4Ideal.main_arg31) = m ((c.tc : Thread Cert.Reference4Ideal.nD Cert.Reference4Ideal.τ).loc Cert.Reference4Ideal.main_arg31)
      ∧ r.2.mem ((c.tc : Thread Cert.Reference4Ideal.nD Cert.Reference4Ideal.τ).loc Cert.Reference4Ideal.main_arg32) = m ((c.tc : Thread Cert.Reference4Ideal.nD Cert.Reference4Ideal.τ).loc Cert.Reference4Ideal.main_arg32)
      ∧ r.2.mem ((c.tc : Thread Cert.Reference4Ideal.nD Cert.Reference4Ideal.τ).loc Cert.Reference4Ideal.main_arg33) = m ((c.tc : Thread Cert.Reference4Ideal.nD Cert.Reference4Ideal.τ).loc Cert.Reference4Ideal.main_arg33)
      ∧ r.2.mem ((c.tc : Thread Cert.Reference4Ideal.nD Cert.Reference4Ideal.τ).loc Cert.Reference4Ideal.main_arg34) = m ((c.tc : Thread Cert.Reference4Ideal.nD Cert.Reference4Ideal.τ).loc Cert.Reference4Ideal.main_arg34)
      ∧ r.2.mem ((c.tc : Thread Cert.Reference4Ideal.nD Cert.Reference4Ideal.τ).loc Cert.Reference4Ideal.main_arg35) = m ((c.tc : Thread Cert.Reference4Ideal.nD Cert.Reference4Ideal.τ).loc Cert.Reference4Ideal.main_arg35)
      ∧ r.2.mem ((c.tc : Thread Cert.Reference4Ideal.nD Cert.Reference4Ideal.τ).loc Cert.Reference4Ideal.main_arg36) = m ((c.tc : Thread Cert.Reference4Ideal.nD Cert.Reference4Ideal.τ).loc Cert.Reference4Ideal.main_arg36)
      ∧ r.2.mem ((c.tc : Thread Cert.Reference4Ideal.nD Cert.Reference4Ideal.τ).loc Cert.Reference4Ideal.main_arg37) = m ((c.tc : Thread Cert.Reference4Ideal.nD Cert.Reference4Ideal.τ).loc Cert.Reference4Ideal.main_arg37)
      ∧ r.2.mem ((c.tc : Thread Cert.Reference4Ideal.nD Cert.Reference4Ideal.τ).loc Cert.Reference4Ideal.main_arg38) = m ((c.tc : Thread Cert.Reference4Ideal.nD Cert.Reference4Ideal.τ).loc Cert.Reference4Ideal.main_arg38)
      ∧ r.2.mem ((c.tc : Thread Cert.Reference4Ideal.nD Cert.Reference4Ideal.τ).loc Cert.Reference4Ideal.main_arg39) = m ((c.tc : Thread Cert.Reference4Ideal.nD Cert.Reference4Ideal.τ).loc Cert.Reference4Ideal.main_arg39))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v2_2)) (v1 : (c : Dev Cert.Kernel2Ideal.nD) → Buf (Elt Ideal) ((c.tc : Thread Cert.Kernel2Ideal.nD Cert.Kernel2Ideal.τ).loc Cert.Kernel2Ideal.main_v2_3)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v4)) (v4 : (c : Dev Cert.Kernel2Ideal.nD) → Buf (Elt Ideal) ((c.tc : Thread Cert.Kernel2Ideal.nD Cert.Kernel2Ideal.τ).loc Cert.Kernel2Ideal.main_v7_0)) (v5 : (c : Dev Cert.Kernel2Ideal.nD) → Buf (Elt Ideal) ((c.tc : Thread Cert.Kernel2Ideal.nD Cert.Kernel2Ideal.τ).loc Cert.Kernel2Ideal.main_v7_1)) (v6 : (c : Dev Cert.Kernel2Ideal.nD) → Buf (Elt Ideal) ((c.tc : Thread Cert.Kernel2Ideal.nD Cert.Kernel2Ideal.τ).loc Cert.Kernel2Ideal.main_v9)) (v7 : (c : Dev Cert.Kernel2Ideal.nD) → Buf (Elt Ideal) ((c.tc : Thread Cert.Kernel2Ideal.nD Cert.Kernel2Ideal.τ).loc Cert.Kernel2Ideal.main_v8)) (v8 : (c : Dev Cert.Kernel2Ideal.nD) → Buf (Elt Ideal) ((c.tc : Thread Cert.Kernel2Ideal.nD Cert.Kernel2Ideal.τ).loc Cert.Kernel2Ideal.main_v6_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_2) = v0 c
          ∧ r.2.mem ((c.tc : Thread Cert.Kernel2Ideal.nD Cert.Kernel2Ideal.τ).loc Cert.Kernel2Ideal.main_v2_3) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v4) = v3 c
          ∧ r.2.mem ((c.tc : Thread Cert.Kernel2Ideal.nD Cert.Kernel2Ideal.τ).loc Cert.Kernel2Ideal.main_v7_0) = v4 c
          ∧ r.2.mem ((c.tc : Thread Cert.Kernel2Ideal.nD Cert.Kernel2Ideal.τ).loc Cert.Kernel2Ideal.main_v7_1) = v5 c
          ∧ r.2.mem ((c.tc : Thread Cert.Kernel2Ideal.nD Cert.Kernel2Ideal.τ).loc Cert.Kernel2Ideal.main_v9) = v6 c
          ∧ r.2.mem ((c.tc : Thread Cert.Kernel2Ideal.nD Cert.Kernel2Ideal.τ).loc Cert.Kernel2Ideal.main_v8) = v7 c
          ∧ r.2.mem ((c.tc : Thread Cert.Kernel2Ideal.nD Cert.Kernel2Ideal.τ).loc Cert.Kernel2Ideal.main_v6_0) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v115) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v94) = v2 c
          ∧ r.2.mem ((c.tc : Thread Cert.Reference2Ideal.nD Cert.Reference2Ideal.τ).loc Cert.Reference2Ideal.main_v117) = v3 c
          ∧ r.2.mem ((c.tc : Thread Cert.Reference2Ideal.nD Cert.Reference2Ideal.τ).loc Cert.Reference2Ideal.main_v119) = v4 c
          ∧ r.2.mem ((c.tc : Thread Cert.Reference2Ideal.nD Cert.Reference2Ideal.τ).loc Cert.Reference2Ideal.main_v121) = v5 c
          ∧ r.2.mem ((c.tc : Thread Cert.Reference2Ideal.nD Cert.Reference2Ideal.τ).loc Cert.Reference2Ideal.main_v122) = v6 c
          ∧ r.2.mem ((c.tc : Thread Cert.Reference2Ideal.nD Cert.Reference2Ideal.τ).loc Cert.Reference2Ideal.main_v114) = v7 c
          ∧ r.2.mem ((c.tc : Thread Cert.Reference2Ideal.nD Cert.Reference2Ideal.τ).loc Cert.Reference2Ideal.main_v111) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v2_0)) (v2 : (c : Dev Cert.Kernel3Ideal.nD) → Buf (Elt Ideal) ((c.tc : Thread Cert.Kernel3Ideal.nD Cert.Kernel3Ideal.τ).loc Cert.Kernel3Ideal.main_v2_1)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v2_0) = v1 c
          ∧ r.2.mem ((c.tc : Thread Cert.Kernel3Ideal.nD Cert.Kernel3Ideal.τ).loc Cert.Kernel3Ideal.main_v2_1) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v20) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)
      ∧ m' ((c.tc : Thread Cert.Reference4Ideal.nD Cert.Reference4Ideal.τ).loc Cert.Reference4Ideal.main_arg24) = m ((c.tc : Thread Cert.Kernel4Ideal.nD Cert.Kernel4Ideal.τ).loc Cert.Kernel4Ideal.main_arg24)
      ∧ m' ((c.tc : Thread Cert.Reference4Ideal.nD Cert.Reference4Ideal.τ).loc Cert.Reference4Ideal.main_arg25) = m ((c.tc : Thread Cert.Kernel4Ideal.nD Cert.Kernel4Ideal.τ).loc Cert.Kernel4Ideal.main_arg25)
      ∧ m' ((c.tc : Thread Cert.Reference4Ideal.nD Cert.Reference4Ideal.τ).loc Cert.Reference4Ideal.main_arg26) = m ((c.tc : Thread Cert.Kernel4Ideal.nD Cert.Kernel4Ideal.τ).loc Cert.Kernel4Ideal.main_arg26)
      ∧ m' ((c.tc : Thread Cert.Reference4Ideal.nD Cert.Reference4Ideal.τ).loc Cert.Reference4Ideal.main_arg27) = m ((c.tc : Thread Cert.Kernel4Ideal.nD Cert.Kernel4Ideal.τ).loc Cert.Kernel4Ideal.main_arg27)
      ∧ m' ((c.tc : Thread Cert.Reference4Ideal.nD Cert.Reference4Ideal.τ).loc Cert.Reference4Ideal.main_arg28) = m ((c.tc : Thread Cert.Kernel4Ideal.nD Cert.Kernel4Ideal.τ).loc Cert.Kernel4Ideal.main_arg28)
      ∧ m' ((c.tc : Thread Cert.Reference4Ideal.nD Cert.Reference4Ideal.τ).loc Cert.Reference4Ideal.main_arg29) = m ((c.tc : Thread Cert.Kernel4Ideal.nD Cert.Kernel4Ideal.τ).loc Cert.Kernel4Ideal.main_arg29)
      ∧ m' ((c.tc : Thread Cert.Reference4Ideal.nD Cert.Reference4Ideal.τ).loc Cert.Reference4Ideal.main_arg30) = m ((c.tc : Thread Cert.Kernel4Ideal.nD Cert.Kernel4Ideal.τ).loc Cert.Kernel4Ideal.main_arg30)
      ∧ m' ((c.tc : Thread Cert.Reference4Ideal.nD Cert.Reference4Ideal.τ).loc Cert.Reference4Ideal.main_arg31) = m ((c.tc : Thread Cert.Kernel4Ideal.nD Cert.Kernel4Ideal.τ).loc Cert.Kernel4Ideal.main_arg31)
      ∧ m' ((c.tc : Thread Cert.Reference4Ideal.nD Cert.Reference4Ideal.τ).loc Cert.Reference4Ideal.main_arg32) = m ((c.tc : Thread Cert.Kernel4Ideal.nD Cert.Kernel4Ideal.τ).loc Cert.Kernel4Ideal.main_arg32)
      ∧ m' ((c.tc : Thread Cert.Reference4Ideal.nD Cert.Reference4Ideal.τ).loc Cert.Reference4Ideal.main_arg33) = m ((c.tc : Thread Cert.Kernel4Ideal.nD Cert.Kernel4Ideal.τ).loc Cert.Kernel4Ideal.main_arg33)
      ∧ m' ((c.tc : Thread Cert.Reference4Ideal.nD Cert.Reference4Ideal.τ).loc Cert.Reference4Ideal.main_arg34) = m ((c.tc : Thread Cert.Kernel4Ideal.nD Cert.Kernel4Ideal.τ).loc Cert.Kernel4Ideal.main_arg34)
      ∧ m' ((c.tc : Thread Cert.Reference4Ideal.nD Cert.Reference4Ideal.τ).loc Cert.Reference4Ideal.main_arg35) = m ((c.tc : Thread Cert.Kernel4Ideal.nD Cert.Kernel4Ideal.τ).loc Cert.Kernel4Ideal.main_arg35)
      ∧ m' ((c.tc : Thread Cert.Reference4Ideal.nD Cert.Reference4Ideal.τ).loc Cert.Reference4Ideal.main_arg36) = m ((c.tc : Thread Cert.Kernel4Ideal.nD Cert.Kernel4Ideal.τ).loc Cert.Kernel4Ideal.main_arg36)
      ∧ m' ((c.tc : Thread Cert.Reference4Ideal.nD Cert.Reference4Ideal.τ).loc Cert.Reference4Ideal.main_arg37) = m ((c.tc : Thread Cert.Kernel4Ideal.nD Cert.Kernel4Ideal.τ).loc Cert.Kernel4Ideal.main_arg37)
      ∧ m' ((c.tc : Thread Cert.Reference4Ideal.nD Cert.Reference4Ideal.τ).loc Cert.Reference4Ideal.main_arg38) = m ((c.tc : Thread Cert.Kernel4Ideal.nD Cert.Kernel4Ideal.τ).loc Cert.Kernel4Ideal.main_arg38)
      ∧ m' ((c.tc : Thread Cert.Reference4Ideal.nD Cert.Reference4Ideal.τ).loc Cert.Reference4Ideal.main_arg39) = m ((c.tc : Thread Cert.Kernel4Ideal.nD Cert.Kernel4Ideal.τ).loc Cert.Kernel4Ideal.main_arg39)) →
    ∃ (v0 : (c : Dev Cert.Kernel4Ideal.nD) → Buf (Elt Ideal) ((c.tc : Thread Cert.Kernel4Ideal.nD Cert.Kernel4Ideal.τ).loc Cert.Kernel4Ideal.main_v91)) (v1 : (c : Dev Cert.Kernel4Ideal.nD) → Buf (Elt Ideal) ((c.tc : Thread Cert.Kernel4Ideal.nD Cert.Kernel4Ideal.τ).loc Cert.Kernel4Ideal.main_v93)) (v2 : (c : Dev Cert.Kernel4Ideal.nD) → Buf (Elt Ideal) ((c.tc : Thread Cert.Kernel4Ideal.nD Cert.Kernel4Ideal.τ).loc Cert.Kernel4Ideal.main_v95)) (v3 : (c : Dev Cert.Kernel4Ideal.nD) → Buf (Elt Ideal) ((c.tc : Thread Cert.Kernel4Ideal.nD Cert.Kernel4Ideal.τ).loc Cert.Kernel4Ideal.main_v97)) (v4 : (c : Dev Cert.Kernel4Ideal.nD) → Buf (Elt Ideal) ((c.tc : Thread Cert.Kernel4Ideal.nD Cert.Kernel4Ideal.τ).loc Cert.Kernel4Ideal.main_v99)) (v5 : (c : Dev Cert.Kernel4Ideal.nD) → Buf (Elt Ideal) ((c.tc : Thread Cert.Kernel4Ideal.nD Cert.Kernel4Ideal.τ).loc Cert.Kernel4Ideal.main_v101)) (v6 : (c : Dev Cert.Kernel4Ideal.nD) → Buf (Elt Ideal) ((c.tc : Thread Cert.Kernel4Ideal.nD Cert.Kernel4Ideal.τ).loc Cert.Kernel4Ideal.main_v103)) (v7 : (c : Dev Cert.Kernel4Ideal.nD) → Buf (Elt Ideal) ((c.tc : Thread Cert.Kernel4Ideal.nD Cert.Kernel4Ideal.τ).loc Cert.Kernel4Ideal.main_v105)) (v8 : (c : Dev Cert.Kernel4Ideal.nD) → Buf (Elt Ideal) ((c.tc : Thread Cert.Kernel4Ideal.nD Cert.Kernel4Ideal.τ).loc Cert.Kernel4Ideal.main_v107)) (v9 : (c : Dev Cert.Kernel4Ideal.nD) → Buf (Elt Ideal) ((c.tc : Thread Cert.Kernel4Ideal.nD Cert.Kernel4Ideal.τ).loc Cert.Kernel4Ideal.main_v108)) (v10 : (c : Dev Cert.Kernel4Ideal.nD) → Buf (Elt Ideal) ((c.tc : Thread Cert.Kernel4Ideal.nD Cert.Kernel4Ideal.τ).loc Cert.Kernel4Ideal.main_v111)) (v11 : (c : Dev Cert.Kernel4Ideal.nD) → Buf (Elt Ideal) ((c.tc : Thread Cert.Kernel4Ideal.nD Cert.Kernel4Ideal.τ).loc Cert.Kernel4Ideal.main_v113)) (v12 : (c : Dev Cert.Kernel4Ideal.nD) → Buf (Elt Ideal) ((c.tc : Thread Cert.Kernel4Ideal.nD Cert.Kernel4Ideal.τ).loc Cert.Kernel4Ideal.main_v115)) (v13 : (c : Dev Cert.Kernel4Ideal.nD) → Buf (Elt Ideal) ((c.tc : Thread Cert.Kernel4Ideal.nD Cert.Kernel4Ideal.τ).loc Cert.Kernel4Ideal.main_v117)) (v14 : (c : Dev Cert.Kernel4Ideal.nD) → Buf (Elt Ideal) ((c.tc : Thread Cert.Kernel4Ideal.nD Cert.Kernel4Ideal.τ).loc Cert.Kernel4Ideal.main_v119)) (v15 : (c : Dev Cert.Kernel4Ideal.nD) → Buf (Elt Ideal) ((c.tc : Thread Cert.Kernel4Ideal.nD Cert.Kernel4Ideal.τ).loc Cert.Kernel4Ideal.main_v121)) (v16 : (c : Dev Cert.Kernel4Ideal.nD) → Buf (Elt Ideal) ((c.tc : Thread Cert.Kernel4Ideal.nD Cert.Kernel4Ideal.τ).loc Cert.Kernel4Ideal.main_v123)) (v17 : (c : Dev Cert.Kernel4Ideal.nD) → Buf (Elt Ideal) ((c.tc : Thread Cert.Kernel4Ideal.nD Cert.Kernel4Ideal.τ).loc Cert.Kernel4Ideal.main_v125)) (v18 : (c : Dev Cert.Kernel4Ideal.nD) → Buf (Elt Ideal) ((c.tc : Thread Cert.Kernel4Ideal.nD Cert.Kernel4Ideal.τ).loc Cert.Kernel4Ideal.main_v127)) (v19 : (c : Dev Cert.Kernel4Ideal.nD) → Buf (Elt Ideal) ((c.tc : Thread Cert.Kernel4Ideal.nD Cert.Kernel4Ideal.τ).loc Cert.Kernel4Ideal.main_v128)) (v20 : (c : Dev Cert.Kernel4Ideal.nD) → Buf (Elt Ideal) ((c.tc : Thread Cert.Kernel4Ideal.nD Cert.Kernel4Ideal.τ).loc Cert.Kernel4Ideal.main_v131)) (v21 : (c : Dev Cert.Kernel4Ideal.nD) → Buf (Elt Ideal) ((c.tc : Thread Cert.Kernel4Ideal.nD Cert.Kernel4Ideal.τ).loc Cert.Kernel4Ideal.main_v133)) (v22 : (c : Dev Cert.Kernel4Ideal.nD) → Buf (Elt Ideal) ((c.tc : Thread Cert.Kernel4Ideal.nD Cert.Kernel4Ideal.τ).loc Cert.Kernel4Ideal.main_v135)) (v23 : (c : Dev Cert.Kernel4Ideal.nD) → Buf (Elt Ideal) ((c.tc : Thread Cert.Kernel4Ideal.nD Cert.Kernel4Ideal.τ).loc Cert.Kernel4Ideal.main_v137)) (v24 : (c : Dev Cert.Kernel4Ideal.nD) → Buf (Elt Ideal) ((c.tc : Thread Cert.Kernel4Ideal.nD Cert.Kernel4Ideal.τ).loc Cert.Kernel4Ideal.main_v139)) (v25 : (c : Dev Cert.Kernel4Ideal.nD) → Buf (Elt Ideal) ((c.tc : Thread Cert.Kernel4Ideal.nD Cert.Kernel4Ideal.τ).loc Cert.Kernel4Ideal.main_v141)) (v26 : (c : Dev Cert.Kernel4Ideal.nD) → Buf (Elt Ideal) ((c.tc : Thread Cert.Kernel4Ideal.nD Cert.Kernel4Ideal.τ).loc Cert.Kernel4Ideal.main_v143)) (v27 : (c : Dev Cert.Kernel4Ideal.nD) → Buf (Elt Ideal) ((c.tc : Thread Cert.Kernel4Ideal.nD Cert.Kernel4Ideal.τ).loc Cert.Kernel4Ideal.main_v145)) (v28 : (c : Dev Cert.Kernel4Ideal.nD) → Buf (Elt Ideal) ((c.tc : Thread Cert.Kernel4Ideal.nD Cert.Kernel4Ideal.τ).loc Cert.Kernel4Ideal.main_v147)) (v29 : (c : Dev Cert.Kernel4Ideal.nD) → Buf (Elt Ideal) ((c.tc : Thread Cert.Kernel4Ideal.nD Cert.Kernel4Ideal.τ).loc Cert.Kernel4Ideal.main_v148)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v91) = v0 c
          ∧ r.2.mem ((c.tc : Thread Cert.Kernel4Ideal.nD Cert.Kernel4Ideal.τ).loc Cert.Kernel4Ideal.main_v93) = v1 c
          ∧ r.2.mem ((c.tc : Thread Cert.Kernel4Ideal.nD Cert.Kernel4Ideal.τ).loc Cert.Kernel4Ideal.main_v95) = v2 c
          ∧ r.2.mem ((c.tc : Thread Cert.Kernel4Ideal.nD Cert.Kernel4Ideal.τ).loc Cert.Kernel4Ideal.main_v97) = v3 c
          ∧ r.2.mem ((c.tc : Thread Cert.Kernel4Ideal.nD Cert.Kernel4Ideal.τ).loc Cert.Kernel4Ideal.main_v99) = v4 c
          ∧ r.2.mem ((c.tc : Thread Cert.Kernel4Ideal.nD Cert.Kernel4Ideal.τ).loc Cert.Kernel4Ideal.main_v101) = v5 c
          ∧ r.2.mem ((c.tc : Thread Cert.Kernel4Ideal.nD Cert.Kernel4Ideal.τ).loc Cert.Kernel4Ideal.main_v103) = v6 c
          ∧ r.2.mem ((c.tc : Thread Cert.Kernel4Ideal.nD Cert.Kernel4Ideal.τ).loc Cert.Kernel4Ideal.main_v105) = v7 c
          ∧ r.2.mem ((c.tc : Thread Cert.Kernel4Ideal.nD Cert.Kernel4Ideal.τ).loc Cert.Kernel4Ideal.main_v107) = v8 c
          ∧ r.2.mem ((c.tc : Thread Cert.Kernel4Ideal.nD Cert.Kernel4Ideal.τ).loc Cert.Kernel4Ideal.main_v108) = v9 c
          ∧ r.2.mem ((c.tc : Thread Cert.Kernel4Ideal.nD Cert.Kernel4Ideal.τ).loc Cert.Kernel4Ideal.main_v111) = v10 c
          ∧ r.2.mem ((c.tc : Thread Cert.Kernel4Ideal.nD Cert.Kernel4Ideal.τ).loc Cert.Kernel4Ideal.main_v113) = v11 c
          ∧ r.2.mem ((c.tc : Thread Cert.Kernel4Ideal.nD Cert.Kernel4Ideal.τ).loc Cert.Kernel4Ideal.main_v115) = v12 c
          ∧ r.2.mem ((c.tc : Thread Cert.Kernel4Ideal.nD Cert.Kernel4Ideal.τ).loc Cert.Kernel4Ideal.main_v117) = v13 c
          ∧ r.2.mem ((c.tc : Thread Cert.Kernel4Ideal.nD Cert.Kernel4Ideal.τ).loc Cert.Kernel4Ideal.main_v119) = v14 c
          ∧ r.2.mem ((c.tc : Thread Cert.Kernel4Ideal.nD Cert.Kernel4Ideal.τ).loc Cert.Kernel4Ideal.main_v121) = v15 c
          ∧ r.2.mem ((c.tc : Thread Cert.Kernel4Ideal.nD Cert.Kernel4Ideal.τ).loc Cert.Kernel4Ideal.main_v123) = v16 c
          ∧ r.2.mem ((c.tc : Thread Cert.Kernel4Ideal.nD Cert.Kernel4Ideal.τ).loc Cert.Kernel4Ideal.main_v125) = v17 c
          ∧ r.2.mem ((c.tc : Thread Cert.Kernel4Ideal.nD Cert.Kernel4Ideal.τ).loc Cert.Kernel4Ideal.main_v127) = v18 c
          ∧ r.2.mem ((c.tc : Thread Cert.Kernel4Ideal.nD Cert.Kernel4Ideal.τ).loc Cert.Kernel4Ideal.main_v128) = v19 c
          ∧ r.2.mem ((c.tc : Thread Cert.Kernel4Ideal.nD Cert.Kernel4Ideal.τ).loc Cert.Kernel4Ideal.main_v131) = v20 c
          ∧ r.2.mem ((c.tc : Thread Cert.Kernel4Ideal.nD Cert.Kernel4Ideal.τ).loc Cert.Kernel4Ideal.main_v133) = v21 c
          ∧ r.2.mem ((c.tc : Thread Cert.Kernel4Ideal.nD Cert.Kernel4Ideal.τ).loc Cert.Kernel4Ideal.main_v135) = v22 c
          ∧ r.2.mem ((c.tc : Thread Cert.Kernel4Ideal.nD Cert.Kernel4Ideal.τ).loc Cert.Kernel4Ideal.main_v137) = v23 c
          ∧ r.2.mem ((c.tc : Thread Cert.Kernel4Ideal.nD Cert.Kernel4Ideal.τ).loc Cert.Kernel4Ideal.main_v139) = v24 c
          ∧ r.2.mem ((c.tc : Thread Cert.Kernel4Ideal.nD Cert.Kernel4Ideal.τ).loc Cert.Kernel4Ideal.main_v141) = v25 c
          ∧ r.2.mem ((c.tc : Thread Cert.Kernel4Ideal.nD Cert.Kernel4Ideal.τ).loc Cert.Kernel4Ideal.main_v143) = v26 c
          ∧ r.2.mem ((c.tc : Thread Cert.Kernel4Ideal.nD Cert.Kernel4Ideal.τ).loc Cert.Kernel4Ideal.main_v145) = v27 c
          ∧ r.2.mem ((c.tc : Thread Cert.Kernel4Ideal.nD Cert.Kernel4Ideal.τ).loc Cert.Kernel4Ideal.main_v147) = v28 c
          ∧ r.2.mem ((c.tc : Thread Cert.Kernel4Ideal.nD Cert.Kernel4Ideal.τ).loc Cert.Kernel4Ideal.main_v148) = v29 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
          ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
          ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
          ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
          ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
          ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
          ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
          ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
          ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31)
          ∧ r.2.mem ((c.tc : Thread Cert.Kernel4Ideal.nD Cert.Kernel4Ideal.τ).loc Cert.Kernel4Ideal.main_arg32) = m ((c.tc : Thread Cert.Kernel4Ideal.nD Cert.Kernel4Ideal.τ).loc Cert.Kernel4Ideal.main_arg32)
          ∧ r.2.mem ((c.tc : Thread Cert.Kernel4Ideal.nD Cert.Kernel4Ideal.τ).loc Cert.Kernel4Ideal.main_arg33) = m ((c.tc : Thread Cert.Kernel4Ideal.nD Cert.Kernel4Ideal.τ).loc Cert.Kernel4Ideal.main_arg33)
          ∧ r.2.mem ((c.tc : Thread Cert.Kernel4Ideal.nD Cert.Kernel4Ideal.τ).loc Cert.Kernel4Ideal.main_arg34) = m ((c.tc : Thread Cert.Kernel4Ideal.nD Cert.Kernel4Ideal.τ).loc Cert.Kernel4Ideal.main_arg34)
          ∧ r.2.mem ((c.tc : Thread Cert.Kernel4Ideal.nD Cert.Kernel4Ideal.τ).loc Cert.Kernel4Ideal.main_arg35) = m ((c.tc : Thread Cert.Kernel4Ideal.nD Cert.Kernel4Ideal.τ).loc Cert.Kernel4Ideal.main_arg35)
          ∧ r.2.mem ((c.tc : Thread Cert.Kernel4Ideal.nD Cert.Kernel4Ideal.τ).loc Cert.Kernel4Ideal.main_arg36) = m ((c.tc : Thread Cert.Kernel4Ideal.nD Cert.Kernel4Ideal.τ).loc Cert.Kernel4Ideal.main_arg36)
          ∧ r.2.mem ((c.tc : Thread Cert.Kernel4Ideal.nD Cert.Kernel4Ideal.τ).loc Cert.Kernel4Ideal.main_arg37) = m ((c.tc : Thread Cert.Kernel4Ideal.nD Cert.Kernel4Ideal.τ).loc Cert.Kernel4Ideal.main_arg37)
          ∧ r.2.mem ((c.tc : Thread Cert.Kernel4Ideal.nD Cert.Kernel4Ideal.τ).loc Cert.Kernel4Ideal.main_arg38) = m ((c.tc : Thread Cert.Kernel4Ideal.nD Cert.Kernel4Ideal.τ).loc Cert.Kernel4Ideal.main_arg38)
          ∧ r.2.mem ((c.tc : Thread Cert.Kernel4Ideal.nD Cert.Kernel4Ideal.τ).loc Cert.Kernel4Ideal.main_arg39) = m ((c.tc : Thread Cert.Kernel4Ideal.nD Cert.Kernel4Ideal.τ).loc Cert.Kernel4Ideal.main_arg39))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_v119) = v4 c
          ∧ r.2.mem ((c.tc : Thread Cert.Reference4Ideal.nD Cert.Reference4Ideal.τ).loc Cert.Reference4Ideal.main_v143) = v5 c
          ∧ r.2.mem ((c.tc : Thread Cert.Reference4Ideal.nD Cert.Reference4Ideal.τ).loc Cert.Reference4Ideal.main_v167) = v6 c
          ∧ r.2.mem ((c.tc : Thread Cert.Reference4Ideal.nD Cert.Reference4Ideal.τ).loc Cert.Reference4Ideal.main_v191) = v7 c
          ∧ r.2.mem ((c.tc : Thread Cert.Reference4Ideal.nD Cert.Reference4Ideal.τ).loc Cert.Reference4Ideal.main_v215) = v8 c
          ∧ r.2.mem ((c.tc : Thread Cert.Reference4Ideal.nD Cert.Reference4Ideal.τ).loc Cert.Reference4Ideal.main_v239) = v9 c
          ∧ r.2.mem ((c.tc : Thread Cert.Reference4Ideal.nD Cert.Reference4Ideal.τ).loc Cert.Reference4Ideal.main_v4) = v10 c
          ∧ r.2.mem ((c.tc : Thread Cert.Reference4Ideal.nD Cert.Reference4Ideal.τ).loc Cert.Reference4Ideal.main_v28) = v11 c
          ∧ r.2.mem ((c.tc : Thread Cert.Reference4Ideal.nD Cert.Reference4Ideal.τ).loc Cert.Reference4Ideal.main_v52) = v12 c
          ∧ r.2.mem ((c.tc : Thread Cert.Reference4Ideal.nD Cert.Reference4Ideal.τ).loc Cert.Reference4Ideal.main_v76) = v13 c
          ∧ r.2.mem ((c.tc : Thread Cert.Reference4Ideal.nD Cert.Reference4Ideal.τ).loc Cert.Reference4Ideal.main_v100) = v14 c
          ∧ r.2.mem ((c.tc : Thread Cert.Reference4Ideal.nD Cert.Reference4Ideal.τ).loc Cert.Reference4Ideal.main_v124) = v15 c
          ∧ r.2.mem ((c.tc : Thread Cert.Reference4Ideal.nD Cert.Reference4Ideal.τ).loc Cert.Reference4Ideal.main_v148) = v16 c
          ∧ r.2.mem ((c.tc : Thread Cert.Reference4Ideal.nD Cert.Reference4Ideal.τ).loc Cert.Reference4Ideal.main_v172) = v17 c
          ∧ r.2.mem ((c.tc : Thread Cert.Reference4Ideal.nD Cert.Reference4Ideal.τ).loc Cert.Reference4Ideal.main_v196) = v18 c
          ∧ r.2.mem ((c.tc : Thread Cert.Reference4Ideal.nD Cert.Reference4Ideal.τ).loc Cert.Reference4Ideal.main_v220) = v19 c
          ∧ r.2.mem ((c.tc : Thread Cert.Reference4Ideal.nD Cert.Reference4Ideal.τ).loc Cert.Reference4Ideal.main_v10) = v20 c
          ∧ r.2.mem ((c.tc : Thread Cert.Reference4Ideal.nD Cert.Reference4Ideal.τ).loc Cert.Reference4Ideal.main_v34) = v21 c
          ∧ r.2.mem ((c.tc : Thread Cert.Reference4Ideal.nD Cert.Reference4Ideal.τ).loc Cert.Reference4Ideal.main_v58) = v22 c
          ∧ r.2.mem ((c.tc : Thread Cert.Reference4Ideal.nD Cert.Reference4Ideal.τ).loc Cert.Reference4Ideal.main_v82) = v23 c
          ∧ r.2.mem ((c.tc : Thread Cert.Reference4Ideal.nD Cert.Reference4Ideal.τ).loc Cert.Reference4Ideal.main_v106) = v24 c
          ∧ r.2.mem ((c.tc : Thread Cert.Reference4Ideal.nD Cert.Reference4Ideal.τ).loc Cert.Reference4Ideal.main_v130) = v25 c
          ∧ r.2.mem ((c.tc : Thread Cert.Reference4Ideal.nD Cert.Reference4Ideal.τ).loc Cert.Reference4Ideal.main_v154) = v26 c
          ∧ r.2.mem ((c.tc : Thread Cert.Reference4Ideal.nD Cert.Reference4Ideal.τ).loc Cert.Reference4Ideal.main_v178) = v27 c
          ∧ r.2.mem ((c.tc : Thread Cert.Reference4Ideal.nD Cert.Reference4Ideal.τ).loc Cert.Reference4Ideal.main_v202) = v28 c
          ∧ r.2.mem ((c.tc : Thread Cert.Reference4Ideal.nD Cert.Reference4Ideal.τ).loc Cert.Reference4Ideal.main_v226) = v29 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23)
          ∧ r.2.mem ((c.tc : Thread Cert.Reference4Ideal.nD Cert.Reference4Ideal.τ).loc Cert.Reference4Ideal.main_arg24) = m' ((c.tc : Thread Cert.Reference4Ideal.nD Cert.Reference4Ideal.τ).loc Cert.Reference4Ideal.main_arg24)
          ∧ r.2.mem ((c.tc : Thread Cert.Reference4Ideal.nD Cert.Reference4Ideal.τ).loc Cert.Reference4Ideal.main_arg25) = m' ((c.tc : Thread Cert.Reference4Ideal.nD Cert.Reference4Ideal.τ).loc Cert.Reference4Ideal.main_arg25)
          ∧ r.2.mem ((c.tc : Thread Cert.Reference4Ideal.nD Cert.Reference4Ideal.τ).loc Cert.Reference4Ideal.main_arg26) = m' ((c.tc : Thread Cert.Reference4Ideal.nD Cert.Reference4Ideal.τ).loc Cert.Reference4Ideal.main_arg26)
          ∧ r.2.mem ((c.tc : Thread Cert.Reference4Ideal.nD Cert.Reference4Ideal.τ).loc Cert.Reference4Ideal.main_arg27) = m' ((c.tc : Thread Cert.Reference4Ideal.nD Cert.Reference4Ideal.τ).loc Cert.Reference4Ideal.main_arg27)
          ∧ r.2.mem ((c.tc : Thread Cert.Reference4Ideal.nD Cert.Reference4Ideal.τ).loc Cert.Reference4Ideal.main_arg28) = m' ((c.tc : Thread Cert.Reference4Ideal.nD Cert.Reference4Ideal.τ).loc Cert.Reference4Ideal.main_arg28)
          ∧ r.2.mem ((c.tc : Thread Cert.Reference4Ideal.nD Cert.Reference4Ideal.τ).loc Cert.Reference4Ideal.main_arg29) = m' ((c.tc : Thread Cert.Reference4Ideal.nD Cert.Reference4Ideal.τ).loc Cert.Reference4Ideal.main_arg29)
          ∧ r.2.mem ((c.tc : Thread Cert.Reference4Ideal.nD Cert.Reference4Ideal.τ).loc Cert.Reference4Ideal.main_arg30) = m' ((c.tc : Thread Cert.Reference4Ideal.nD Cert.Reference4Ideal.τ).loc Cert.Reference4Ideal.main_arg30)
          ∧ r.2.mem ((c.tc : Thread Cert.Reference4Ideal.nD Cert.Reference4Ideal.τ).loc Cert.Reference4Ideal.main_arg31) = m' ((c.tc : Thread Cert.Reference4Ideal.nD Cert.Reference4Ideal.τ).loc Cert.Reference4Ideal.main_arg31)
          ∧ r.2.mem ((c.tc : Thread Cert.Reference4Ideal.nD Cert.Reference4Ideal.τ).loc Cert.Reference4Ideal.main_arg32) = m' ((c.tc : Thread Cert.Reference4Ideal.nD Cert.Reference4Ideal.τ).loc Cert.Reference4Ideal.main_arg32)
          ∧ r.2.mem ((c.tc : Thread Cert.Reference4Ideal.nD Cert.Reference4Ideal.τ).loc Cert.Reference4Ideal.main_arg33) = m' ((c.tc : Thread Cert.Reference4Ideal.nD Cert.Reference4Ideal.τ).loc Cert.Reference4Ideal.main_arg33)
          ∧ r.2.mem ((c.tc : Thread Cert.Reference4Ideal.nD Cert.Reference4Ideal.τ).loc Cert.Reference4Ideal.main_arg34) = m' ((c.tc : Thread Cert.Reference4Ideal.nD Cert.Reference4Ideal.τ).loc Cert.Reference4Ideal.main_arg34)
          ∧ r.2.mem ((c.tc : Thread Cert.Reference4Ideal.nD Cert.Reference4Ideal.τ).loc Cert.Reference4Ideal.main_arg35) = m' ((c.tc : Thread Cert.Reference4Ideal.nD Cert.Reference4Ideal.τ).loc Cert.Reference4Ideal.main_arg35)
          ∧ r.2.mem ((c.tc : Thread Cert.Reference4Ideal.nD Cert.Reference4Ideal.τ).loc Cert.Reference4Ideal.main_arg36) = m' ((c.tc : Thread Cert.Reference4Ideal.nD Cert.Reference4Ideal.τ).loc Cert.Reference4Ideal.main_arg36)
          ∧ r.2.mem ((c.tc : Thread Cert.Reference4Ideal.nD Cert.Reference4Ideal.τ).loc Cert.Reference4Ideal.main_arg37) = m' ((c.tc : Thread Cert.Reference4Ideal.nD Cert.Reference4Ideal.τ).loc Cert.Reference4Ideal.main_arg37)
          ∧ r.2.mem ((c.tc : Thread Cert.Reference4Ideal.nD Cert.Reference4Ideal.τ).loc Cert.Reference4Ideal.main_arg38) = m' ((c.tc : Thread Cert.Reference4Ideal.nD Cert.Reference4Ideal.τ).loc Cert.Reference4Ideal.main_arg38)
          ∧ r.2.mem ((c.tc : Thread Cert.Reference4Ideal.nD Cert.Reference4Ideal.τ).loc Cert.Reference4Ideal.main_arg39) = m' ((c.tc : Thread Cert.Reference4Ideal.nD Cert.Reference4Ideal.τ).loc Cert.Reference4Ideal.main_arg39))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v6)) (v3 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v6) = v2 c
          ∧ r.2.mem ((c.tc : Thread Cert.Kernel5Ideal.nD Cert.Kernel5Ideal.τ).loc Cert.Kernel5Ideal.main_v7) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v20) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8)) (v1 : (c : Dev Cert.Kernel6Ideal.nD) → Buf (Elt Ideal) ((c.tc : Thread Cert.Kernel6Ideal.nD Cert.Kernel6Ideal.τ).loc Cert.Kernel6Ideal.main_v10)) (v2 : (c : Dev Cert.Kernel6Ideal.nD) → Buf (Elt Ideal) ((c.tc : Thread Cert.Kernel6Ideal.nD Cert.Kernel6Ideal.τ).loc Cert.Kernel6Ideal.main_v12)) (v3 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_v10) = v1 c
          ∧ r.2.mem ((c.tc : Thread Cert.Kernel6Ideal.nD Cert.Kernel6Ideal.τ).loc Cert.Kernel6Ideal.main_v12) = v2 c
          ∧ r.2.mem ((c.tc : Thread Cert.Kernel6Ideal.nD Cert.Kernel6Ideal.τ).loc Cert.Kernel6Ideal.main_v14) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8)) (v1 : (c : Dev Cert.Kernel7Ideal.nD) → Buf (Elt Ideal) ((c.tc : Thread Cert.Kernel7Ideal.nD Cert.Kernel7Ideal.τ).loc Cert.Kernel7Ideal.main_v10)) (v2 : (c : Dev Cert.Kernel7Ideal.nD) → Buf (Elt Ideal) ((c.tc : Thread Cert.Kernel7Ideal.nD Cert.Kernel7Ideal.τ).loc Cert.Kernel7Ideal.main_v12)) (v3 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_v10) = v1 c
          ∧ r.2.mem ((c.tc : Thread Cert.Kernel7Ideal.nD Cert.Kernel7Ideal.τ).loc Cert.Kernel7Ideal.main_v12) = v2 c
          ∧ r.2.mem ((c.tc : Thread Cert.Kernel7Ideal.nD Cert.Kernel7Ideal.τ).loc Cert.Kernel7Ideal.main_v14) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_v15) = v2 c
          ∧ r.2.mem ((c.tc : Thread Cert.Reference7Ideal.nD Cert.Reference7Ideal.τ).loc Cert.Reference7Ideal.main_v21) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_v5)) (v2 : (c : Dev Cert.Kernel8Ideal.nD) → Buf (Elt Ideal) ((c.tc : Thread Cert.Kernel8Ideal.nD Cert.Kernel8Ideal.τ).loc Cert.Kernel8Ideal.main_v6)) (v3 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_v5) = v1 c
          ∧ r.2.mem ((c.tc : Thread Cert.Kernel8Ideal.nD Cert.Kernel8Ideal.τ).loc Cert.Kernel8Ideal.main_v6) = v2 c
          ∧ r.2.mem ((c.tc : Thread Cert.Kernel8Ideal.nD Cert.Kernel8Ideal.τ).loc Cert.Kernel8Ideal.main_v7) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_v20) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4)) (v1 : (c : Dev Cert.Kernel9Ideal.nD) → Buf (Elt Ideal) ((c.tc : Thread Cert.Kernel9Ideal.nD Cert.Kernel9Ideal.τ).loc Cert.Kernel9Ideal.main_v5)) (v2 : (c : Dev Cert.Kernel9Ideal.nD) → Buf (Elt Ideal) ((c.tc : Thread Cert.Kernel9Ideal.nD Cert.Kernel9Ideal.τ).loc Cert.Kernel9Ideal.main_v6)) (v3 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_v5) = v1 c
          ∧ r.2.mem ((c.tc : Thread Cert.Kernel9Ideal.nD Cert.Kernel9Ideal.τ).loc Cert.Kernel9Ideal.main_v6) = v2 c
          ∧ r.2.mem ((c.tc : Thread Cert.Kernel9Ideal.nD Cert.Kernel9Ideal.τ).loc Cert.Kernel9Ideal.main_v7) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_v22) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2048x1024 : Shape := ⟨2, ![2048, 1024]⟩
abbrev S2048x4224 : Shape := ⟨2, ![2048, 4224]⟩
abbrev S4x2x2048 : Shape := ⟨3, ![4, 2, 2048]⟩
abbrev S2048x512 : Shape := ⟨2, ![2048, 512]⟩
abbrev S_ : Shape := ⟨0, ![]⟩

class Facts : Prop where
  bcast_S_S2048x1024 : S_.BroadcastsInDim S2048x1024 (![] : Fin 0 → Fin S2048x1024.rank)
  bcast_S_S2048x4224 : S_.BroadcastsInDim S2048x4224 (![] : Fin 0 → Fin S2048x4224.rank)
  bcast_S_S4x2x2048 : S_.BroadcastsInDim S4x2x2048 (![] : Fin 0 → Fin S4x2x2048.rank)
  bcast_S_S2048x512 : S_.BroadcastsInDim S2048x512 (![] : Fin 0 → Fin S2048x512.rank)

variable [Facts]

def fn {F : FTy → Type} [FloatOps F] (main_arg0 : FVec F S2048x1024 .f32) (main_arg1 : FVec F S2048x4224 .f32) (main_arg2 : FVec F S4x2x2048 .f32) (main_arg3 : FVec F S2048x512 .f32) : IVec S2048x1024 1 × IVec S2048x4224 1 × IVec S4x2x2048 1 × IVec S2048x512 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x4224 .f32 := Host.absf main_arg1
  let main_cst_0 : FVec F S_ .f32 := constant S_ .f32 0x7F800000#32
  let main_v4 : FVec F S2048x4224 .f32 := broadcastInDim S2048x4224 ![] bcast_S_S2048x4224 main_cst_0
  let main_v5 : IVec S2048x4224 1 := cmpf .olt main_v3 main_v4
  let main_v6 : FVec F S4x2x2048 .f32 := Host.absf main_arg2
  let main_cst_1 : FVec F S_ .f32 := constant S_ .f32 0x7F800000#32
  let main_v7 : FVec F S4x2x2048 .f32 := broadcastInDim S4x2x2048 ![] bcast_S_S4x2x2048 main_cst_1
  let main_v8 : IVec S4x2x2048 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  (main_v2, main_v5, main_v8, main_v11)
-- ==== Kernel.lean ====
abbrev S2048x1024 : Shape := ⟨2, ![2048, 1024]⟩
abbrev S2048x4224 : Shape := ⟨2, ![2048, 4224]⟩
abbrev S4x2x2048 : Shape := ⟨3, ![4, 2, 2048]⟩
abbrev S2048x512 : Shape := ⟨2, ![2048, 512]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x1 : Shape := ⟨3, ![8, 2048, 1]⟩
abbrev S8x64x2048 : Shape := ⟨3, ![8, 64, 2048]⟩
abbrev S2048x8 : Shape := ⟨2, ![2048, 8]⟩
abbrev S2048x128 : Shape := ⟨2, ![2048, 128]⟩
abbrev S256x128 : Shape := ⟨2, ![256, 128]⟩
abbrev S1x2x256 : Shape := ⟨3, ![1, 2, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S256x256 : Shape := ⟨2, ![256, 256]⟩

abbrev nBuf : Space → Nat
  | .hbm => 53
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x4224, .f32⟩
  | .hbm, ⟨2, _⟩ => ⟨S4x2x2048, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S8x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x64x2048, .f32⟩
  | .hbm, ⟨41, _⟩ => ⟨S2048x8x64, .f32⟩
  | .hbm, ⟨42, _⟩ => ⟨S2048x512, .f32⟩
  | .hbm, ⟨43, _⟩ => ⟨S8x2048x1, .f32⟩
  | .hbm, ⟨44, _⟩ => ⟨S8x2048x1, .f32⟩
  | .hbm, ⟨45, _⟩ => ⟨S8x2048, .f32⟩
  | .hbm, ⟨46, _⟩ => ⟨S2048x8, .f32⟩
  | .hbm, ⟨47, _⟩ => ⟨S2048x8x64, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .bf16⟩
  | .hbm, ⟨52, _⟩ => ⟨S4x2x2048, .f32⟩
  | .local _ .vmem, ⟨0, _⟩ => ⟨S2048x128, .f32⟩
  | .local _ .vmem, ⟨1, _⟩ => ⟨S2048x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x2x256, .f32⟩
  | .local _ .vmem, ⟨7, _⟩ => ⟨S1x2x256, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S256x128, .f32⟩
  | .local _ .vmem, ⟨17, _⟩ => ⟨S256x128, .f32⟩
  | .local _ .vmem, ⟨18, _⟩ => ⟨S256x128, .bf16⟩
  | .local _ .vmem, ⟨19, _⟩ => ⟨S256x128, .bf16⟩
  | .local _ .vmem, ⟨20, _⟩ => ⟨S1x2x256, .f32⟩
  | .local _ .vmem, ⟨21, _⟩ => ⟨S1x2x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v38_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v27 : BitVec 32 := Scalar.muli arg1 c256_i32
  v27
def k0_off1 (i : grid0.Coords) : Fin 2 → Nat :=
  let arg1 : BitVec 32 := BitVec.ofNat 32 (i 1).val
  let c256_i32 : BitVec 32 := 256#32
  let v27 : BitVec 32 := Scalar.muli arg1 c256_i32
  let v28 : BitVec 32 := v27
  let v29 : Index := Scalar.indexCast v28
  let c0_15 : Index := 0#32
  ![v29.toNat, 0]
@[reducible] def k0_t1_loop (i : grid0.Coords) : Scf.Loop 32 :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let c1_i32_57 : BitVec 32 := 1#32
  ⟨v151, v156, c1_i32_57⟩
def k0_mult2 (i : grid0.Coords) (k0_t1 : Fin (k0_t1_loop i).trips) : BitVec 32 :=
  let arg1 : BitVec 32 := BitVec.ofNat 32 (i 1).val
  let c1_i32 : BitVec 32 := 1#32
  let v151 : BitVec 32 := Scalar.addi arg1 c1_i32
  let c1_i32_57 : BitVec 32 := 1#32
  let arg13 : BitVec 32 := Scf.iv v151 c1_i32_57 k0_t1
  let c256_i32_69 : BitVec 32 := 256#32
  let v168 : BitVec 32 := Scalar.muli arg13 c256_i32_69
  v168
def k0_off2 (i : grid0.Coords) (k0_t1 : Fin (k0_t1_loop i).trips) : Fin 2 → Nat :=
  let arg1 : BitVec 32 := BitVec.ofNat 32 (i 1).val
  let c1_i32 : BitVec 32 := 1#32
  let v151 : BitVec 32 := Scalar.addi arg1 c1_i32
  let c1_i32_57 : BitVec 32 := 1#32
  let arg13 : BitVec 32 := Scf.iv v151 c1_i32_57 k0_t1
  let c256_i32_69 : BitVec 32 := 256#32
  let v168 : BitVec 32 := Scalar.muli arg13 c256_i32_69
  let v169 : BitVec 32 := v168
  let v170 : Index := Scalar.indexCast v169
  let c0_70 : Index := 0#32
  ![v170.toNat, 0]
@[reducible] def k0_t2_loop (i : grid0.Coords) : Scf.Loop 32 :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let v153 : BitVec 32 := Scalar.addi v151 v152
  let c1_i32_58 : BitVec 32 := 1#32
  ⟨v156, v153, c1_i32_58⟩
def k0_mult3 (i : grid0.Coords) (k0_t2 : Fin (k0_t2_loop i).trips) : BitVec 32 :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let c1_i32_58 : BitVec 32 := 1#32
  let arg13 : BitVec 32 := Scf.iv v156 c1_i32_58 k0_t2
  let c256_i32_69 : BitVec 32 := 256#32
  let v168 : BitVec 32 := Scalar.muli arg13 c256_i32_69
  v168
def k0_off3 (i : grid0.Coords) (k0_t2 : Fin (k0_t2_loop i).trips) : Fin 2 → Nat :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let c1_i32_58 : BitVec 32 := 1#32
  let arg13 : BitVec 32 := Scf.iv v156 c1_i32_58 k0_t2
  let c256_i32_69 : BitVec 32 := 256#32
  let v168 : BitVec 32 := Scalar.muli arg13 c256_i32_69
  let v169 : BitVec 32 := v168
  let v170 : Index := Scalar.indexCast v169
  let c0_70 : Index := 0#32
  ![v170.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
abbrev S2048x1024 : Shape := ⟨2, ![2048, 1024]⟩
abbrev S2048x4224 : Shape := ⟨2, ![2048, 4224]⟩
abbrev S4x2x2048 : Shape := ⟨3, ![4, 2, 2048]⟩
abbrev S2048x512 : Shape := ⟨2, ![2048, 512]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x1 : Shape := ⟨3, ![8, 2048, 1]⟩
abbrev S8x64x2048 : Shape := ⟨3, ![8, 64, 2048]⟩
abbrev S2048x8 : Shape := ⟨2, ![2048, 8]⟩
abbrev S2048x128 : Shape := ⟨2, ![2048, 128]⟩
abbrev S256x128 : Shape := ⟨2, ![256, 128]⟩
abbrev S1x2x256 : Shape := ⟨3, ![1, 2, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S256x256 : Shape := ⟨2, ![256, 256]⟩

abbrev nBuf : Space → Nat
  | .hbm => 53
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x4224, .f32⟩
  | .hbm, ⟨2, _⟩ => ⟨S4x2x2048, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S8x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x64x2048, .f32⟩
  | .hbm, ⟨41, _⟩ => ⟨S2048x8x64, .f32⟩
  | .hbm, ⟨42, _⟩ => ⟨S2048x512, .f32⟩
  | .hbm, ⟨43, _⟩ => ⟨S8x2048x1, .f32⟩
  | .hbm, ⟨44, _⟩ => ⟨S8x2048x1, .f32⟩
  | .hbm, ⟨45, _⟩ => ⟨S8x2048, .f32⟩
  | .hbm, ⟨46, _⟩ => ⟨S2048x8, .f32⟩
  | .hbm, ⟨47, _⟩ => ⟨S2048x8x64, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .bf16⟩
  | .hbm, ⟨52, _⟩ => ⟨S4x2x2048, .f32⟩
  | .local _ .vmem, ⟨0, _⟩ => ⟨S2048x128, .f32⟩
  | .local _ .vmem, ⟨1, _⟩ => ⟨S2048x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x2x256, .f32⟩
  | .local _ .vmem, ⟨7, _⟩ => ⟨S1x2x256, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S256x128, .f32⟩
  | .local _ .vmem, ⟨17, _⟩ => ⟨S256x128, .f32⟩
  | .local _ .vmem, ⟨18, _⟩ => ⟨S256x128, .bf16⟩
  | .local _ .vmem, ⟨19, _⟩ => ⟨S256x128, .bf16⟩
  | .local _ .vmem, ⟨20, _⟩ => ⟨S1x2x256, .f32⟩
  | .local _ .vmem, ⟨21, _⟩ => ⟨S1x2x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v38_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v27 : BitVec 32 := Scalar.muli arg1 c256_i32
  v27
def k0_off1 (i : grid0.Coords) : Fin 2 → Nat :=
  let arg1 : BitVec 32 := BitVec.ofNat 32 (i 1).val
  let c256_i32 : BitVec 32 := 256#32
  let v27 : BitVec 32 := Scalar.muli arg1 c256_i32
  let v28 : BitVec 32 := v27
  let v29 : Index := Scalar.indexCast v28
  let c0_15 : Index := 0#32
  ![v29.toNat, 0]
@[reducible] def k0_t1_loop (i : grid0.Coords) : Scf.Loop 32 :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let c1_i32_57 : BitVec 32 := 1#32
  ⟨v151, v156, c1_i32_57⟩
def k0_mult2 (i : grid0.Coords) (k0_t1 : Fin (k0_t1_loop i).trips) : BitVec 32 :=
  let arg1 : BitVec 32 := BitVec.ofNat 32 (i 1).val
  let c1_i32 : BitVec 32 := 1#32
  let v151 : BitVec 32 := Scalar.addi arg1 c1_i32
  let c1_i32_57 : BitVec 32 := 1#32
  let arg13 : BitVec 32 := Scf.iv v151 c1_i32_57 k0_t1
  let c256_i32_69 : BitVec 32 := 256#32
  let v168 : BitVec 32 := Scalar.muli arg13 c256_i32_69
  v168
def k0_off2 (i : grid0.Coords) (k0_t1 : Fin (k0_t1_loop i).trips) : Fin 2 → Nat :=
  let arg1 : BitVec 32 := BitVec.ofNat 32 (i 1).val
  let c1_i32 : BitVec 32 := 1#32
  let v151 : BitVec 32 := Scalar.addi arg1 c1_i32
  let c1_i32_57 : BitVec 32 := 1#32
  let arg13 : BitVec 32 := Scf.iv v151 c1_i32_57 k0_t1
  let c256_i32_69 : BitVec 32 := 256#32
  let v168 : BitVec 32 := Scalar.muli arg13 c256_i32_69
  let v169 : BitVec 32 := v168
  let v170 : Index := Scalar.indexCast v169
  let c0_70 : Index := 0#32
  ![v170.toNat, 0]
@[reducible] def k0_t2_loop (i : grid0.Coords) : Scf.Loop 32 :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let v153 : BitVec 32 := Scalar.addi v151 v152
  let c1_i32_58 : BitVec 32 := 1#32
  ⟨v156, v153, c1_i32_58⟩
def k0_mult3 (i : grid0.Coords) (k0_t2 : Fin (k0_t2_loop i).trips) : BitVec 32 :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let c1_i32_58 : BitVec 32 := 1#32
  let arg13 : BitVec 32 := Scf.iv v156 c1_i32_58 k0_t2
  let c256_i32_69 : BitVec 32 := 256#32
  let v168 : BitVec 32 := Scalar.muli arg13 c256_i32_69
  v168
def k0_off3 (i : grid0.Coords) (k0_t2 : Fin (k0_t2_loop i).trips) : Fin 2 → Nat :=
  let arg1 : BitVec 32 := BitVec.ofNat 32 (i 1).val
  let c1_i32 : BitVec 32 := 1#32
  let v151 : BitVec 32 := Scalar.addi arg1 c1_i32
  let c8_i32 : BitVec 32 := 8#32
  let v152 : BitVec 32 := Scalar.subi c8_i32 v151
  let c1_i32_56 : BitVec 32 := 1#32
  let v154 : BitVec 32 := Scalar.divsi v152 c1_i32_56
  let v155 : BitVec 32 := Scalar.muli v154 c1_i32_56
  let v156 : BitVec 32 := Scalar.addi v151 v155
  let c1_i32_58 : BitVec 32 := 1#32
  let arg13 : BitVec 32 := Scf.iv v156 c1_i32_58 k0_t2
  let c256_i32_69 : BitVec 32 := 256#32
  let v168 : BitVec 32 := Scalar.muli arg13 c256_i32_69
  let v169 : BitVec 32 := v168
  let v170 : Index := Scalar.indexCast v169
  let c0_70 : Index := 0#32
  ![v170.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2048x1024 : Shape := ⟨2, ![2048, 1024]⟩
abbrev S2048x4224 : Shape := ⟨2, ![2048, 4224]⟩
abbrev S4x2x2048 : Shape := ⟨3, ![4, 2, 2048]⟩
abbrev S2048x512 : Shape := ⟨2, ![2048, 512]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 120
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4224, .f32⟩
  | .hbm, ⟨2, _⟩ => ⟨S4x2x2048, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S8x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x1, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S2048x1, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .i1⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .i1⟩
  | .hbm, ⟨48, _⟩ => ⟨S_, .f32⟩
  | .hbm, ⟨49, _⟩ => ⟨S8x2048, .f32⟩
  | .hbm, ⟨50, _⟩ => ⟨S8x2048, .i1⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x64x2048, .f32⟩
  | .hbm, ⟨73, _⟩ => ⟨S2048x8x64, .f32⟩
  | .hbm, ⟨74, _⟩ => ⟨S2048x8x64, .f32⟩
  | .hbm, ⟨75, _⟩ => ⟨S8x64x2048, .f32⟩
  | .hbm, ⟨76, _⟩ => ⟨S8x2048x2048, .f32⟩
  | .hbm, ⟨77, _⟩ => ⟨S8x64x2048, .f32⟩
  | .hbm, ⟨78, _⟩ => ⟨S2048x8x64, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048, .f32⟩
  | .hbm, ⟨98, _⟩ => ⟨S8x2048x1, .f32⟩
  | .hbm, ⟨99, _⟩ => ⟨S8x2048x2048, .f32⟩
  | .hbm, ⟨100, _⟩ => ⟨S_, .f32⟩
  | .hbm, ⟨101, _⟩ => ⟨S8x2048, .f32⟩
  | .hbm, ⟨102, _⟩ => ⟨S8x1x2048, .f32⟩
  | .hbm, ⟨103, _⟩ => ⟨S_, .f32⟩
  | .hbm, ⟨104, _⟩ => ⟨S8x2048, .f32⟩
  | .hbm, ⟨105, _⟩ => ⟨S_, .f32⟩
  | .hbm, ⟨106, _⟩ => ⟨S8x2048, .f32⟩
  | .hbm, ⟨107, _⟩ => ⟨S8x2048, .f32⟩
  | .hbm, ⟨108, _⟩ => ⟨S_, .f32⟩
  | .hbm, ⟨109, _⟩ => ⟨S8x2048x2048, .f32⟩
  | .hbm, ⟨110, _⟩ => ⟨S8x2048x2048, .f32⟩
  | .hbm, ⟨111, _⟩ => ⟨S8x2048x64, .f32⟩
  | .hbm, ⟨112, _⟩ => ⟨S2048x8x64, .f32⟩
  | .hbm, ⟨113, _⟩ => ⟨S8x2048x64, .f32⟩
  | .hbm, ⟨114, _⟩ => ⟨S2048x8x64, .f32⟩
  | .hbm, ⟨115, _⟩ => ⟨S2048x512, .f32⟩
  | .hbm, ⟨116, _⟩ => ⟨S2048x512, .f32⟩
  | .hbm, ⟨117, _⟩ => ⟨S2048x8x64, .bf16⟩
  | .hbm, ⟨118, _⟩ => ⟨S2048x512, .bf16⟩
  | .hbm, ⟨119, _⟩ => ⟨S4x2x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]
-- ==== Kernel2.lean ====
abbrev S2048x1024 : Shape := ⟨2, ![2048, 1024]⟩
abbrev S1024x1024 : Shape := ⟨2, ![1024, 1024]⟩
abbrev S1x1024 : Shape := ⟨2, ![1, 1024]⟩
abbrev S4x704x1024 : Shape := ⟨3, ![4, 704, 1024]⟩
abbrev S1024 : Shape := ⟨1, ![1024]⟩
abbrev S1024x1 : Shape := ⟨2, ![1024, 1]⟩
abbrev S4x2048x704 : Shape := ⟨3, ![4, 2048, 704]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x2048x704 : Shape := ⟨3, ![1, 2048, 704]⟩
abbrev S2048x704 : Shape := ⟨2, ![2048, 704]⟩

abbrev nBuf : Space → Nat
  | .hbm => 29
  | .vmem => 93
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S4x2048x704, .bf16⟩
  | .hbm, ⟨12, _⟩ => ⟨S4x2048x704, .bf16⟩
  | .hbm, ⟨13, _⟩ => ⟨S4x2048x704, .bf16⟩
  | .hbm, ⟨14, _⟩ => ⟨S2048x1024, .f32⟩
  | .hbm, ⟨15, _⟩ => ⟨S2048x1024, .bf16⟩
  | .hbm, ⟨16, _⟩ => ⟨S1x128, .f32⟩
  | .hbm, ⟨17, _⟩ => ⟨S1x1024, .f32⟩
  | .hbm, ⟨18, _⟩ => ⟨S4x2048x704, .bf16⟩
  | .hbm, ⟨19, _⟩ => ⟨S4x2048x704, .bf16⟩
  | .hbm, ⟨20, _⟩ => ⟨S4x704x1024, .bf16⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S4x704x1024, .bf16⟩
  | .hbm, ⟨26, _⟩ => ⟨S4x704x1024, .bf16⟩
  | .hbm, ⟨27, _⟩ => ⟨S2048x1024, .f32⟩
  | .hbm, ⟨28, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x704x1024, .f32⟩
  | .local _ .vmem, ⟨13, _⟩ => ⟨S1x704x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x704x1024, .f32⟩
  | .local _ .vmem, ⟨17, _⟩ => ⟨S1x704x1024, .f32⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x704x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S1x128, .f32⟩
  | .local _ .vmem, ⟨37, _⟩ => ⟨S1x1024, .f32⟩
  | .local _ .vmem, ⟨38, _⟩ => ⟨S1024x1024, .bf16⟩
  | .local _ .vmem, ⟨39, _⟩ => ⟨S1024x1024, .bf16⟩
  | .local _ .vmem, ⟨40, _⟩ => ⟨S1x704x1024, .f32⟩
  | .local _ .vmem, ⟨41, _⟩ => ⟨S1x704x1024, .f32⟩
  | .local _ .vmem, ⟨42, _⟩ => ⟨S1x1024x704, .bf16⟩
  | .local _ .vmem, ⟨43, _⟩ => ⟨S1x1024x704, .bf16⟩
  | .local _ .vmem, ⟨44, _⟩ => ⟨S1x1024x704, .bf16⟩
  | .local _ .vmem, ⟨45, _⟩ => ⟨S1x1024x704, .bf16⟩
  | .local _ .vmem, ⟨46, _⟩ => ⟨S1x1024x704, .bf16⟩
  | .local _ .vmem, ⟨47, _⟩ => ⟨S1x1024x704, .bf16⟩
  | .local _ .vmem, ⟨48, _⟩ => ⟨S1x1024x704, .bf16⟩
  | .local _ .vmem, ⟨49, _⟩ => ⟨S1x1024x704, .bf16⟩
  | .local _ .vmem, ⟨50, _⟩ => ⟨S1x2048x704, .bf16⟩
  | .local _ .vmem, ⟨51, _⟩ => ⟨S1x2048x704, .bf16⟩
  | .local _ .vmem, ⟨52, _⟩ => ⟨S2048x1024, .bf16⟩
  | .local _ .vmem, ⟨53, _⟩ => ⟨S1x704x1024, .bf16⟩
  | .local _ .vmem, ⟨54, _⟩ => ⟨S1x704x1024, .bf16⟩
  | .local _ .vmem, ⟨55, _⟩ => ⟨S4x512x704, .bf16⟩
  | .local _ .vmem, ⟨56, _⟩ => ⟨S4x512x704, .bf16⟩
  | .local _ .vmem, ⟨57, _⟩ => ⟨S4x704x1024, .f32⟩
  | .local _ .vmem, ⟨58, _⟩ => ⟨S512x1024, .f32⟩
  | .local _ .vmem, ⟨59, _⟩ => ⟨S512x1024, .f32⟩
  | .local _ .vmem, ⟨60, _⟩ => ⟨S4x512x704, .bf16⟩
  | .local _ .vmem, ⟨61, _⟩ => ⟨S4x512x704, .bf16⟩
  | .local _ .vmem, ⟨62, _⟩ => ⟨S4x704x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S1x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .bf16⟩
  | .local _ .vmem, ⟨73, _⟩ => ⟨S512x1024, .bf16⟩
  | .local _ .vmem, ⟨74, _⟩ => ⟨S1x1024, .f32⟩
  | .local _ .vmem, ⟨75, _⟩ => ⟨S1x2048x704, .bf16⟩
  | .local _ .vmem, ⟨76, _⟩ => ⟨S1x2048x704, .bf16⟩
  | .local _ .vmem, ⟨77, _⟩ => ⟨S2048x1024, .bf16⟩
  | .local _ .vmem, ⟨78, _⟩ => ⟨S1x2048x704, .bf16⟩
  | .local _ .vmem, ⟨79, _⟩ => ⟨S1x2048x704, .bf16⟩
  | .local _ .vmem, ⟨80, _⟩ => ⟨S2048x1024, .bf16⟩
  | .local _ .vmem, ⟨81, _⟩ => ⟨S1x704x1024, .bf16⟩
  | .local _ .vmem, ⟨82, _⟩ => ⟨S1x704x1024, .bf16⟩
  | .local _ .vmem, ⟨83, _⟩ => ⟨S1x704x1024, .bf16⟩
  | .local _ .vmem, ⟨84, _⟩ => ⟨S1x704x1024, .bf16⟩
  | .local _ .vmem, ⟨85, _⟩ => ⟨S1024x1024, .bf16⟩
  | .local _ .vmem, ⟨86, _⟩ => ⟨S1024x1024, .bf16⟩
  | .local _ .vmem, ⟨87, _⟩ => ⟨S1024x1024, .f32⟩
  | .local _ .vmem, ⟨88, _⟩ => ⟨S1024x1024, .f32⟩
  | .local _ .vmem, ⟨89, _⟩ => ⟨S1024x1024, .f32⟩
  | .local _ .vmem, ⟨90, _⟩ => ⟨S2048x1024, .f32⟩
  | .local _ .vmem, ⟨91, _⟩ => ⟨S2048x1024, .bf16⟩
  | .local _ .vmem, ⟨92, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v3_0 : Ref sig .tc := ⟨.hbm, 18, rfl⟩
abbrev main_v3_1 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v7_0 : Ref sig .tc := ⟨.hbm, 25, rfl⟩
abbrev main_v7_1 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg8_0 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg2_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg2_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc6_stg4_0 : Ref sig .tc := ⟨.vmem, 67, rfl⟩
abbrev cc6_stg4_1 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg6_1 : Ref sig .tc := ⟨.vmem, 71, rfl⟩
abbrev cc6_stg7_0 : Ref sig .tc := ⟨.vmem, 72, rfl⟩
abbrev cc6_stg7_1 : Ref sig .tc := ⟨.vmem, 73, rfl⟩
abbrev cc6_stg8_0 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg2_0 : Ref sig .tc := ⟨.vmem, 78, rfl⟩
abbrev cc7_stg2_1 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg4_1 : Ref sig .tc := ⟨.vmem, 82, rfl⟩
abbrev cc7_stg5_0 : Ref sig .tc := ⟨.vmem, 83, rfl⟩
abbrev cc7_stg5_1 : Ref sig .tc := ⟨.vmem, 84, rfl⟩
abbrev cc8_stg0_0 : Ref sig .tc := ⟨.vmem, 85, rfl⟩
abbrev cc8_stg0_1 : Ref sig .tc := ⟨.vmem, 86, rfl⟩
abbrev cc8_stg1_0 : Ref sig .tc := ⟨.vmem, 87, rfl⟩
abbrev cc8_stg2_0 : Ref sig .tc := ⟨.vmem, 88, rfl⟩
abbrev cc8_stg2_1 : Ref sig .tc := ⟨.vmem, 89, rfl⟩
abbrev cc9_stg0_0 : Ref sig .tc := ⟨.vmem, 90, rfl⟩
abbrev cc9_stg1_0 : Ref sig .tc := ⟨.vmem, 91, rfl⟩
abbrev cc9_stg2_0 : Ref sig .tc := ⟨.vmem, 92, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem8_0 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem5_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem2_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem2_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem2_1 : DmaSem sig := 64
abbrev cc6_sem3_0 : DmaSem sig := 65
abbrev cc6_sem3_1 : DmaSem sig := 66
abbrev cc6_sem4_0 : DmaSem sig := 67
abbrev cc6_sem4_1 : DmaSem sig := 68
abbrev cc6_sem5_0 : DmaSem sig := 69
abbrev cc6_sem6_0 : DmaSem sig := 70
abbrev cc6_sem6_1 : DmaSem sig := 71
abbrev cc6_sem7_0 : DmaSem sig := 72
abbrev cc6_sem7_1 : DmaSem sig := 73
abbrev cc6_sem8_0 : DmaSem sig := 74
abbrev cc7_sem0_0 : DmaSem sig := 75
abbrev cc7_sem0_1 : DmaSem sig := 76
abbrev cc7_sem1_0 : DmaSem sig := 77
abbrev cc7_sem2_0 : DmaSem sig := 78
abbrev cc7_sem2_1 : DmaSem sig := 79
abbrev cc7_sem3_0 : DmaSem sig := 80
abbrev cc7_sem4_0 : DmaSem sig := 81
abbrev cc7_sem4_1 : DmaSem sig := 82
abbrev cc7_sem5_0 : DmaSem sig := 83
abbrev cc7_sem5_1 : DmaSem sig := 84
abbrev cc8_sem0_0 : DmaSem sig := 85
abbrev cc8_sem0_1 : DmaSem sig := 86
abbrev cc8_sem1_0 : DmaSem sig := 87
abbrev cc8_sem2_0 : DmaSem sig := 88
abbrev cc8_sem2_1 : DmaSem sig := 89
abbrev cc9_sem0_0 : DmaSem sig := 90
abbrev cc9_sem1_0 : DmaSem sig := 91
abbrev cc9_sem2_0 : DmaSem sig := 92

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x704x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x704x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4x704x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x704x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1024x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1024x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![4, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4x512x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4x704x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 1], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4x512x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4x704x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 2 → Memref sig .tc .vmem S512x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, false]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev stage6_8 : Fin 1 → Memref sig .tc .vmem S1x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false, false]

abbrev grid7 : Pipeline.Grid := ⟨2, ![4, 1], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x2048x704 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S1x2048x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 1 → Memref sig .tc .vmem S2048x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x704x1024 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S1x704x1024 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S2048x1024 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S1024x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]
-- ==== Reference2Ideal.lean ====
abbrev S2048x1024 : Shape := ⟨2, ![2048, 1024]⟩
abbrev S1024x1024 : Shape := ⟨2, ![1024, 1024]⟩
abbrev S1x1024 : Shape := ⟨2, ![1, 1024]⟩
abbrev S4x704x1024 : Shape := ⟨3, ![4, 704, 1024]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1024x2816 : Shape := ⟨2, ![1024, 2816]⟩
abbrev S2048x2816 : Shape := ⟨2, ![2048, 2816]⟩
abbrev S1024 : Shape := ⟨1, ![1024]⟩
abbrev S1x128 : Shape := ⟨2, ![1, 128]⟩

abbrev nBuf : Space → Nat
  | .hbm => 171
  | .vmem => 0
  | .smem => 0
  | _ => 0

abbrev hbmTy0_0 (i : Nat) : BufTy := match i % 128 with
  | 0 => ⟨S2048x1024, .f32⟩
  | 1 => ⟨S2048x1024, .f32⟩
  | 2 => ⟨S1024x1024, .f32⟩
  | 3 => ⟨S1x1024, .f32⟩
  | 4 => ⟨S4x704x1024, .f32⟩
  | 5 => ⟨S4x704x1024, .f32⟩
  | 6 => ⟨S4x704x1024, .f32⟩
  | 7 => ⟨S2048x1024, .f32⟩
  | 8 => ⟨S1x1024, .f32⟩
  | 9 => ⟨S2816x1024, .f32⟩
  | 10 => ⟨S2816x1024, .f32⟩
  | 11 => ⟨S2816x1024, .f32⟩
  | 12 => ⟨S2048x1024, .f32⟩
  | 13 => ⟨S2048x1024, .f32⟩
  | 14 => ⟨S2048x1024, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1, .f32⟩
  | 25 => ⟨S2048x1, .f32⟩
  | 26 => ⟨S_, .f32⟩
  | 27 => ⟨S2048x1, .f32⟩
  | 28 => ⟨S2048x1, .f32⟩
  | 29 => ⟨S2048x1024, .f32⟩
  | 30 => ⟨S2048x1024, .f32⟩
  | 31 => ⟨S2048x1024, .f32⟩
  | 32 => ⟨S2048x1024, .f32⟩
  | 33 => ⟨S1024x2816, .f32⟩
  | 34 => ⟨S2048x2816, .f32⟩
  | 35 => ⟨S2048x2816, .f32⟩
  | 36 => ⟨S2048x2816, .f32⟩
  | 37 => ⟨S_, .f32⟩
  | 38 => ⟨S2048x2816, .f32⟩
  | 39 => ⟨S2048x2816, .f32⟩
  | 40 => ⟨S_, .f32⟩
  | 41 => ⟨S2048x2816, .f32⟩
  | 42 => ⟨S2048x2816, .f32⟩
  | 43 => ⟨S_, .f32⟩
  | 44 => ⟨S2048x2816, .f32⟩
  | 45 => ⟨S2048x2816, .f32⟩
  | 46 => ⟨S2048x2816, .f32⟩
  | 47 => ⟨S2048x2816, .f32⟩
  | 48 => ⟨S1024x2816, .f32⟩
  | 49 => ⟨S2048x2816, .f32⟩
  | 50 => ⟨S2048x2816, .f32⟩
  | 51 => ⟨S2048x1024, .f32⟩
  | 52 => ⟨S2048x1024, .f32⟩
  | 53 => ⟨S2048x1024, .f32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1, .f32⟩
  | 64 => ⟨S2048x1, .f32⟩
  | 65 => ⟨S_, .f32⟩
  | 66 => ⟨S2048x1, .f32⟩
  | 67 => ⟨S2048x1, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S_, .f32⟩
  | 78 => ⟨S2048, .f32⟩
  | 79 => ⟨S_, .f32⟩
  | 80 => ⟨S2048, .f32⟩
  | 81 => ⟨S2048, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S2048, .f32⟩
  | 90 => ⟨S_, .f32⟩
  | 91 => ⟨S2048, .f32⟩
  | 92 => ⟨S2048, .f32⟩
  | 93 => ⟨S2048x1024, .f32⟩
  | 94 => ⟨S2048x1024, .f32⟩
  | 95 => ⟨S2048x1024, .f32⟩
  | 96 => ⟨S_, .f32⟩
  | 97 => ⟨S1024, .f32⟩
  | 98 => ⟨S1x1024, .f32⟩
  | 99 => ⟨S2048x1024, .f32⟩
  | 100 => ⟨S2048x1024, .f32⟩
  | 101 => ⟨S2048x1024, .f32⟩
  | 102 => ⟨S_, .f32⟩
  | 103 => ⟨S2048, .f32⟩
  | 104 => ⟨S2048x1, .f32⟩
  | 105 => ⟨S2048x1024, .f32⟩
  | 106 => ⟨S2048x1024, .f32⟩
  | 107 => ⟨S2048x1, .f32⟩
  | 108 => ⟨S_, .f32⟩
  | 109 => ⟨S2048x1, .f32⟩
  | 110 => ⟨S2048x1, .f32⟩
  | 111 => ⟨S_, .f32⟩
  | 112 => ⟨S2048, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S1024x2816, .f32⟩
  | 119 => ⟨S2816x1024, .f32⟩
  | 120 => ⟨S2048x2816, .f32⟩
  | 121 => ⟨S2048x2816, .f32⟩
  | 122 => ⟨S2048x2816, .f32⟩
  | 123 => ⟨S2816x1024, .f32⟩
  | 124 => ⟨S1024x2816, .f32⟩
  | 125 => ⟨S2048x1024, .f32⟩
  | 126 => ⟨S2816x1024, .f32⟩
  | 127 => ⟨S2048x2816, .f32⟩
  | _ => ⟨S2048x1024, .f32⟩

abbrev hbmTy0_1 (i : Nat) : BufTy := match i % 128 with
  | 0 => ⟨S2048x2816, .f32⟩
  | 1 => ⟨S2048x2816, .f32⟩
  | 2 => ⟨S2048x2816, .f32⟩
  | 3 => ⟨S2816x1024, .f32⟩
  | 4 => ⟨S1024x2816, .f32⟩
  | 5 => ⟨S2048x1024, .f32⟩
  | 6 => ⟨S2048x1024, .f32⟩
  | 7 => ⟨S2816x1024, .f32⟩
  | 8 => ⟨S2048x1024, .f32⟩
  | 9 => ⟨S_, .f32⟩
  | 10 => ⟨S1024, .f32⟩
  | 11 => ⟨S1x1024, .f32⟩
  | 12 => ⟨S2048x1024, .f32⟩
  | 13 => ⟨S2048x1024, .f32⟩
  | 14 => ⟨S2048x1024, .f32⟩
  | 15 => ⟨S_, .f32⟩
  | 16 => ⟨S2048, .f32⟩
  | 17 => ⟨S2048x1, .f32⟩
  | 18 => ⟨S2048x1024, .f32⟩
  | 19 => ⟨S2048x1024, .f32⟩
  | 20 => ⟨S2048x1024, .f32⟩
  | 21 => ⟨S2048x1, .f32⟩
  | 22 => ⟨S_, .f32⟩
  | 23 => ⟨S2048x1, .f32⟩
  | 24 => ⟨S2048x1, .f32⟩
  | 25 => ⟨S_, .f32⟩
  | 26 => ⟨S2048, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S1024x1024, .f32⟩
  | 33 => ⟨S1024x1024, .f32⟩
  | 34 => ⟨S2048x1024, .f32⟩
  | 35 => ⟨S1x128, .f32⟩
  | 36 => ⟨S4x704x1024, .f32⟩
  | 37 => ⟨S4x704x1024, .bf16⟩
  | 38 => ⟨S4x704x1024, .f32⟩
  | 39 => ⟨S4x704x1024, .bf16⟩
  | 40 => ⟨S4x704x1024, .f32⟩
  | 41 => ⟨S4x704x1024, .bf16⟩
  | 42 => ⟨S1024x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_cst_12 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_cst_14 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_15 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_16 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_17 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_19 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_20 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_21 : Ref sig .tc := ⟨.hbm, 150, rfl⟩
abbrev main_v104 : Ref sig .tc := ⟨.hbm, 151, rfl⟩
abbrev main_v105 : Ref sig .tc := ⟨.hbm, 152, rfl⟩
abbrev main_cst_22 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S4224x1024 : Shape := ⟨2, ![4224, 1024]⟩
abbrev S2048x4224 : Shape := ⟨2, ![2048, 4224]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1408x1024 : Shape := ⟨2, ![1408, 1024]⟩
abbrev S1024x1408 : Shape := ⟨2, ![1024, 1408]⟩
abbrev S512x4224 : Shape := ⟨2, ![512, 4224]⟩
abbrev S1024 : Shape := ⟨1, ![1024]⟩
abbrev S2048x1408 : Shape := ⟨2, ![2048, 1408]⟩

abbrev nBuf : Space → Nat
  | .hbm => 10
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4224x1024, .f32⟩
  | .hbm, ⟨3, _⟩ => ⟨S2048x4224, .f32⟩
  | .hbm, ⟨4, _⟩ => ⟨S2048x1024, .f32⟩
  | .hbm, ⟨5, _⟩ => ⟨S2048x1024, .bf16⟩
  | .hbm, ⟨6, _⟩ => ⟨S2048x4224, .f32⟩
  | .hbm, ⟨7, _⟩ => ⟨S2048x1024, .f32⟩
  | .hbm, ⟨8, _⟩ => ⟨S1x1024, .f32⟩
  | .hbm, ⟨9, _⟩ => ⟨S4224x1024, .f32⟩
  | .local _ .vmem, ⟨0, _⟩ => ⟨S1x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1408x1024, .f32⟩
  | .local _ .vmem, ⟨8, _⟩ => ⟨S1408x1024, .f32⟩
  | .local _ .vmem, ⟨9, _⟩ => ⟨S1024x1408, .f32⟩
  | .local _ .vmem, ⟨10, _⟩ => ⟨S1024x1408, .f32⟩
  | .local _ .vmem, ⟨11, _⟩ => ⟨S512x4224, .f32⟩
  | .local _ .vmem, ⟨12, _⟩ => ⟨S512x4224, .f32⟩
  | .local _ .vmem, ⟨13, _⟩ => ⟨S4224x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S2048x1408, .f32⟩
  | .local _ .vmem, ⟨23, _⟩ => ⟨S2048x1408, .f32⟩
  | .local _ .vmem, ⟨24, _⟩ => ⟨S2048x1024, .bf16⟩
  | .local _ .vmem, ⟨25, _⟩ => ⟨S1408x1024, .f32⟩
  | .local _ .vmem, ⟨26, _⟩ => ⟨S1408x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc2_sem6_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1408x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4224 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4224x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev grid3 : Pipeline.Grid := ⟨3, ![3, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference3Ideal.lean ====
abbrev S2048x1024 : Shape := ⟨2, ![2048, 1024]⟩
abbrev S1x1024 : Shape := ⟨2, ![1, 1024]⟩
abbrev S4224x1024 : Shape := ⟨2, ![4224, 1024]⟩
abbrev S2048x4224 : Shape := ⟨2, ![2048, 4224]⟩
abbrev S_ : Shape := ⟨0, ![]⟩
abbrev S2048 : Shape := ⟨1, ![2048]⟩
abbrev S2048x1 : Shape := ⟨2, ![2048, 1]⟩
abbrev S1024x4224 : Shape := ⟨2, ![1024, 4224]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4224x1024, .f32⟩
  | .hbm, ⟨3, _⟩ => ⟨S2048x4224, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x4224, .f32⟩
  | .hbm, ⟨25, _⟩ => ⟨S2048x4224, .f32⟩
  | .hbm, ⟨26, _⟩ => ⟨S4224x1024, .f32⟩
  | .hbm, ⟨27, _⟩ => ⟨S1024x4224, .f32⟩
  | .hbm, ⟨28, _⟩ => ⟨S2048x1024, .f32⟩
  | .hbm, ⟨29, _⟩ => ⟨S4224x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S1x1024 : Shape := ⟨2, ![1, 1024]⟩
abbrev S1x4x384 : Shape := ⟨3, ![1, 4, 384]⟩
abbrev S1x8 : Shape := ⟨2, ![1, 8]⟩
abbrev S1x64 : Shape := ⟨2, ![1, 64]⟩
abbrev S1024 : Shape := ⟨1, ![1024]⟩
abbrev S_ : Shape := ⟨0, ![]⟩
abbrev S1536 : Shape := ⟨1, ![1536]⟩
abbrev S8 : Shape := ⟨1, ![8]⟩
abbrev S128 : Shape := ⟨1, ![128]⟩
abbrev S64 : Shape := ⟨1, ![64]⟩
abbrev S5376 : Shape := ⟨1, ![5376]⟩
abbrev S6144 : Shape := ⟨1, ![6144]⟩
abbrev S48x128 : Shape := ⟨2, ![48, 128]⟩

abbrev nBuf : Space → Nat
  | .hbm => 279
  | .vmem => 7
  | .smem => 0
  | _ => 0

abbrev hbmTy0_0 (i : Nat) : BufTy := match i % 128 with
  | 0 => ⟨S1x1024, .f32⟩
  | 1 => ⟨S1x4x384, .f32⟩
  | 2 => ⟨S1x8, .f32⟩
  | 3 => ⟨S1x8, .f32⟩
  | 4 => ⟨S1x64, .f32⟩
  | 5 => ⟨S1x8, .f32⟩
  | 6 => ⟨S1x64, .f32⟩
  | 7 => ⟨S1x64, .f32⟩
  | 8 => ⟨S1x1024, .f32⟩
  | 9 => ⟨S1024, .f32⟩
  | 10 => ⟨S1x1024, .f32⟩
  | 11 => ⟨S1x4x384, .f32⟩
  | 12 => ⟨S1x8, .f32⟩
  | 13 => ⟨S1x8, .f32⟩
  | 14 => ⟨S1x64, .f32⟩
  | 15 => ⟨S1x8, .f32⟩
  | 16 => ⟨S1x64, .f32⟩
  | 17 => ⟨S1x64, .f32⟩
  | 18 => ⟨S1x1024, .f32⟩
  | 19 => ⟨S1024, .f32⟩
  | 20 => ⟨S1x1024, .f32⟩
  | 21 => ⟨S1x4x384, .f32⟩
  | 22 => ⟨S1x8, .f32⟩
  | 23 => ⟨S1x8, .f32⟩
  | 24 => ⟨S1x64, .f32⟩
  | 25 => ⟨S1x8, .f32⟩
  | 26 => ⟨S1x64, .f32⟩
  | 27 => ⟨S1x64, .f32⟩
  | 28 => ⟨S1x1024, .f32⟩
  | 29 => ⟨S1024, .f32⟩
  | 30 => ⟨S1x1024, .f32⟩
  | 31 => ⟨S1x4x384, .f32⟩
  | 32 => ⟨S1x8, .f32⟩
  | 33 => ⟨S1x8, .f32⟩
  | 34 => ⟨S1x64, .f32⟩
  | 35 => ⟨S1x8, .f32⟩
  | 36 => ⟨S1x64, .f32⟩
  | 37 => ⟨S1x64, .f32⟩
  | 38 => ⟨S1x1024, .f32⟩
  | 39 => ⟨S1024, .f32⟩
  | 40 => ⟨S1024, .f32⟩
  | 41 => ⟨S_, .i32⟩
  | 42 => ⟨S_, .f32⟩
  | 43 => ⟨S1024, .f32⟩
  | 44 => ⟨S1536, .f32⟩
  | 45 => ⟨S_, .i32⟩
  | 46 => ⟨S_, .f32⟩
  | 47 => ⟨S1536, .f32⟩
  | 48 => ⟨S8, .f32⟩
  | 49 => ⟨S_, .i32⟩
  | 50 => ⟨S_, .f32⟩
  | 51 => ⟨S128, .f32⟩
  | 52 => ⟨S8, .f32⟩
  | 53 => ⟨S_, .i32⟩
  | 54 => ⟨S_, .f32⟩
  | 55 => ⟨S128, .f32⟩
  | 56 => ⟨S64, .f32⟩
  | 57 => ⟨S_, .i32⟩
  | 58 => ⟨S_, .f32⟩
  | 59 => ⟨S128, .f32⟩
  | 60 => ⟨S8, .f32⟩
  | 61 => ⟨S_, .i32⟩
  | 62 => ⟨S_, .f32⟩
  | 63 => ⟨S128, .f32⟩
  | 64 => ⟨S64, .f32⟩
  | 65 => ⟨S_, .i32⟩
  | 66 => ⟨S_, .f32⟩
  | 67 => ⟨S128, .f32⟩
  | 68 => ⟨S64, .f32⟩
  | 69 => ⟨S_, .i32⟩
  | 70 => ⟨S_, .f32⟩
  | 71 => ⟨S128, .f32⟩
  | 72 => ⟨S1024, .f32⟩
  | 73 => ⟨S_, .i32⟩
  | 74 => ⟨S_, .f32⟩
  | 75 => ⟨S1024, .f32⟩
  | 76 => ⟨S_, .i32⟩
  | 77 => ⟨S_, .f32⟩
  | 78 => ⟨S1024, .f32⟩
  | 79 => ⟨S5376, .f32⟩
  | 80 => ⟨S_, .i32⟩
  | 81 => ⟨S_, .f32⟩
  | 82 => ⟨S6144, .f32⟩
  | 83 => ⟨S48x128, .f32⟩
  | 84 => ⟨S1024, .f32⟩
  | 85 => ⟨S_, .i32⟩
  | 86 => ⟨S_, .f32⟩
  | 87 => ⟨S1024, .f32⟩
  | 88 => ⟨S1536, .f32⟩
  | 89 => ⟨S_, .i32⟩
  | 90 => ⟨S_, .f32⟩
  | 91 => ⟨S1536, .f32⟩
  | 92 => ⟨S8, .f32⟩
  | 93 => ⟨S_, .i32⟩
  | 94 => ⟨S_, .f32⟩
  | 95 => ⟨S128, .f32⟩
  | 96 => ⟨S8, .f32⟩
  | 97 => ⟨S_, .i32⟩
  | 98 => ⟨S_, .f32⟩
  | 99 => ⟨S128, .f32⟩
  | 100 => ⟨S64, .f32⟩
  | 101 => ⟨S_, .i32⟩
  | 102 => ⟨S_, .f32⟩
  | 103 => ⟨S128, .f32⟩
  | 104 => ⟨S8, .f32⟩
  | 105 => ⟨S_, .i32⟩
  | 106 => ⟨S_, .f32⟩
  | 107 => ⟨S128, .f32⟩
  | 108 => ⟨S64, .f32⟩
  | 109 => ⟨S_, .i32⟩
  | 110 => ⟨S_, .f32⟩
  | 111 => ⟨S128, .f32⟩
  | 112 => ⟨S64, .f32⟩
  | 113 => ⟨S_, .i32⟩
  | 114 => ⟨S_, .f32⟩
  | 115 => ⟨S128, .f32⟩
  | 116 => ⟨S1024, .f32⟩
  | 117 => ⟨S_, .i32⟩
  | 118 => ⟨S_, .f32⟩
  | 119 => ⟨S1024, .f32⟩
  | 120 => ⟨S_, .i32⟩
  | 121 => ⟨S_, .f32⟩
  | 122 => ⟨S1024, .f32⟩
  | 123 => ⟨S5376, .f32⟩
  | 124 => ⟨S_, .i32⟩
  | 125 => ⟨S_, .f32⟩
  | 126 => ⟨S6144, .f32⟩
  | 127 => ⟨S48x128, .f32⟩
  | _ => ⟨S1x1024, .f32⟩

abbrev hbmTy0_1 (i : Nat) : BufTy := match i % 128 with
  | 0 => ⟨S1024, .f32⟩
  | 1 => ⟨S_, .i32⟩
  | 2 => ⟨S_, .f32⟩
  | 3 => ⟨S1024, .f32⟩
  | 4 => ⟨S1536, .f32⟩
  | 5 => ⟨S_, .i32⟩
  | 6 => ⟨S_, .f32⟩
  | 7 => ⟨S1536, .f32⟩
  | 8 => ⟨S8, .f32⟩
  | 9 => ⟨S_, .i32⟩
  | 10 => ⟨S_, .f32⟩
  | 11 => ⟨S128, .f32⟩
  | 12 => ⟨S8, .f32⟩
  | 13 => ⟨S_, .i32⟩
  | 14 => ⟨S_, .f32⟩
  | 15 => ⟨S128, .f32⟩
  | 16 => ⟨S64, .f32⟩
  | 17 => ⟨S_, .i32⟩
  | 18 => ⟨S_, .f32⟩
  | 19 => ⟨S128, .f32⟩
  | 20 => ⟨S8, .f32⟩
  | 21 => ⟨S_, .i32⟩
  | 22 => ⟨S_, .f32⟩
  | 23 => ⟨S128, .f32⟩
  | 24 => ⟨S64, .f32⟩
  | 25 => ⟨S_, .i32⟩
  | 26 => ⟨S_, .f32⟩
  | 27 => ⟨S128, .f32⟩
  | 28 => ⟨S64, .f32⟩
  | 29 => ⟨S_, .i32⟩
  | 30 => ⟨S_, .f32⟩
  | 31 => ⟨S128, .f32⟩
  | 32 => ⟨S1024, .f32⟩
  | 33 => ⟨S_, .i32⟩
  | 34 => ⟨S_, .f32⟩
  | 35 => ⟨S1024, .f32⟩
  | 36 => ⟨S_, .i32⟩
  | 37 => ⟨S_, .f32⟩
  | 38 => ⟨S1024, .f32⟩
  | 39 => ⟨S5376, .f32⟩
  | 40 => ⟨S_, .i32⟩
  | 41 => ⟨S_, .f32⟩
  | 42 => ⟨S6144, .f32⟩
  | 43 => ⟨S48x128, .f32⟩
  | 44 => ⟨S1024, .f32⟩
  | 45 => ⟨S_, .i32⟩
  | 46 => ⟨S_, .f32⟩
  | 47 => ⟨S1024, .f32⟩
  | 48 => ⟨S1536, .f32⟩
  | 49 => ⟨S_, .i32⟩
  | 50 => ⟨S_, .f32⟩
  | 51 => ⟨S1536, .f32⟩
  | 52 => ⟨S8, .f32⟩
  | 53 => ⟨S_, .i32⟩
  | 54 => ⟨S_, .f32⟩
  | 55 => ⟨S128, .f32⟩
  | 56 => ⟨S8, .f32⟩
  | 57 => ⟨S_, .i32⟩
  | 58 => ⟨S_, .f32⟩
  | 59 => ⟨S128, .f32⟩
  | 60 => ⟨S64, .f32⟩
  | 61 => ⟨S_, .i32⟩
  | 62 => ⟨S_, .f32⟩
  | 63 => ⟨S128, .f32⟩
  | 64 => ⟨S8, .f32⟩
  | 65 => ⟨S_, .i32⟩
  | 66 => ⟨S_, .f32⟩
  | 67 => ⟨S128, .f32⟩
  | 68 => ⟨S64, .f32⟩
  | 69 => ⟨S_, .i32⟩
  | 70 => ⟨S_, .f32⟩
  | 71 => ⟨S128, .f32⟩
  | 72 => ⟨S64, .f32⟩
  | 73 => ⟨S_, .i32⟩
  | 74 => ⟨S_, .f32⟩
  | 75 => ⟨S128, .f32⟩
  | 76 => ⟨S1024, .f32⟩
  | 77 => ⟨S_, .i32⟩
  | 78 => ⟨S_, .f32⟩
  | 79 => ⟨S1024, .f32⟩
  | 80 => ⟨S_, .i32⟩
  | 81 => ⟨S_, .f32⟩
  | 82 => ⟨S1024, .f32⟩
  | 83 => ⟨S5376, .f32⟩
  | 84 => ⟨S_, .i32⟩
  | 85 => ⟨S_, .f32⟩
  | 86 => ⟨S6144, .f32⟩
  | 87 => ⟨S48x128, .f32⟩
  | 88 => ⟨S48x128, .f32⟩
  | 89 => ⟨S48x128, .f32⟩
  | 90 => ⟨S48x128, .f32⟩
  | 91 => ⟨S6144, .f32⟩
  | 92 => ⟨S1024, .f32⟩
  | 93 => ⟨S1x1024, .f32⟩
  | 94 => ⟨S1536, .f32⟩
  | 95 => ⟨S1x4x384, .f32⟩
  | 96 => ⟨S8, .f32⟩
  | 97 => ⟨S1x8, .f32⟩
  | 98 => ⟨S8, .f32⟩
  | 99 => ⟨S1x8, .f32⟩
  | 100 => ⟨S64, .f32⟩
  | 101 => ⟨S1x64, .f32⟩
  | 102 => ⟨S8, .f32⟩
  | 103 => ⟨S1x8, .f32⟩
  | 104 => ⟨S64, .f32⟩
  | 105 => ⟨S1x64, .f32⟩
  | 106 => ⟨S64, .f32⟩
  | 107 => ⟨S1x64, .f32⟩
  | 108 => ⟨S1024, .f32⟩
  | 109 => ⟨S1x1024, .f32⟩
  | 110 => ⟨S1024, .f32⟩
  | 111 => ⟨S6144, .f32⟩
  | 112 => ⟨S1024, .f32⟩
  | 113 => ⟨S1x1024, .f32⟩
  | 114 => ⟨S1536, .f32⟩
  | 115 => ⟨S1x4x384, .f32⟩
  | 116 => ⟨S8, .f32⟩
  | 117 => ⟨S1x8, .f32⟩
  | 118 => ⟨S8, .f32⟩
  | 119 => ⟨S1x8, .f32⟩
  | 120 => ⟨S64, .f32⟩
  | 121 => ⟨S1x64, .f32⟩
  | 122 => ⟨S8, .f32⟩
  | 123 => ⟨S1x8, .f32⟩
  | 124 => ⟨S64, .f32⟩
  | 125 => ⟨S1x64, .f32⟩
  | 126 => ⟨S64, .f32⟩
  | 127 => ⟨S1x64, .f32⟩
  | _ => ⟨S1x1024, .f32⟩

abbrev hbmTy0_2 (i : Nat) : BufTy := match i % 128 with
  | 0 => ⟨S1024, .f32⟩
  | 1 => ⟨S1x1024, .f32⟩
  | 2 => ⟨S1024, .f32⟩
  | 3 => ⟨S6144, .f32⟩
  | 4 => ⟨S1024, .f32⟩
  | 5 => ⟨S1x1024, .f32⟩
  | 6 => ⟨S1536, .f32⟩
  | 7 => ⟨S1x4x384, .f32⟩
  | 8 => ⟨S8, .f32⟩
  | 9 => ⟨S1x8, .f32⟩
  | 10 => ⟨S8, .f32⟩
  | 11 => ⟨S1x8, .f32⟩
  | 12 => ⟨S64, .f32⟩
  | 13 => ⟨S1x64, .f32⟩
  | 14 => ⟨S8, .f32⟩
  | 15 => ⟨S1x8, .f32⟩
  | 16 => ⟨S64, .f32⟩
  | 17 => ⟨S1x64, .f32⟩
  | 18 => ⟨S64, .f32⟩
  | 19 => ⟨S1x64, .f32⟩
  | 20 => ⟨S1024, .f32⟩
  | 21 => ⟨S1x1024, .f32⟩
  | 22 => ⟨S1024, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_c : Ref sig .tc := ⟨.hbm, 41, rfl⟩
abbrev main_call0_v0 : Ref sig .tc := ⟨.hbm, 42, rfl⟩
abbrev main_v1 : Ref sig .tc := ⟨.hbm, 43, rfl⟩
abbrev main_v2 : Ref sig .tc := ⟨.hbm, 44, rfl⟩
abbrev main_c_0 : Ref sig .tc := ⟨.hbm, 45, rfl⟩
abbrev main_call1_v0 : Ref sig .tc := ⟨.hbm, 46, rfl⟩
abbrev main_v3 : Ref sig .tc := ⟨.hbm, 47, rfl⟩
abbrev main_v4 : Ref sig .tc := ⟨.hbm, 48, rfl⟩
abbrev main_c_1 : Ref sig .tc := ⟨.hbm, 49, rfl⟩
abbrev main_call2_v0 : Ref sig .tc := ⟨.hbm, 50, rfl⟩
abbrev main_v5 : Ref sig .tc := ⟨.hbm, 51, rfl⟩
abbrev main_v6 : Ref sig .tc := ⟨.hbm, 52, rfl⟩
abbrev main_c_2 : Ref sig .tc := ⟨.hbm, 53, rfl⟩
abbrev main_call3_v0 : Ref sig .tc := ⟨.hbm, 54, rfl⟩
abbrev main_v7 : Ref sig .tc := ⟨.hbm, 55, rfl⟩
abbrev main_v8 : Ref sig .tc := ⟨.hbm, 56, rfl⟩
abbrev main_c_3 : Ref sig .tc := ⟨.hbm, 57, rfl⟩
abbrev main_call4_v0 : Ref sig .tc := ⟨.hbm, 58, rfl⟩
abbrev main_v9 : Ref sig .tc := ⟨.hbm, 59, rfl⟩
abbrev main_v10 : Ref sig .tc := ⟨.hbm, 60, rfl⟩
abbrev main_c_4 : Ref sig .tc := ⟨.hbm, 61, rfl⟩
abbrev main_call5_v0 : Ref sig .tc := ⟨.hbm, 62, rfl⟩
abbrev main_v11 : Ref sig .tc := ⟨.hbm, 63, rfl⟩
abbrev main_v12 : Ref sig .tc := ⟨.hbm, 64, rfl⟩
abbrev main_c_5 : Ref sig .tc := ⟨.hbm, 65, rfl⟩
abbrev main_call6_v0 : Ref sig .tc := ⟨.hbm, 66, rfl⟩
abbrev main_v13 : Ref sig .tc := ⟨.hbm, 67, rfl⟩
abbrev main_v14 : Ref sig .tc := ⟨.hbm, 68, rfl⟩
abbrev main_c_6 : Ref sig .tc := ⟨.hbm, 69, rfl⟩
abbrev main_call7_v0 : Ref sig .tc := ⟨.hbm, 70, rfl⟩
abbrev main_v15 : Ref sig .tc := ⟨.hbm, 71, rfl⟩
abbrev main_v16 : Ref sig .tc := ⟨.hbm, 72, rfl⟩
abbrev main_c_7 : Ref sig .tc := ⟨.hbm, 73, rfl⟩
abbrev main_call8_v0 : Ref sig .tc := ⟨.hbm, 74, rfl⟩
abbrev main_v17 : Ref sig .tc := ⟨.hbm, 75, rfl⟩
abbrev main_c_8 : Ref sig .tc := ⟨.hbm, 76, rfl⟩
abbrev main_call9_v0 : Ref sig .tc := ⟨.hbm, 77, rfl⟩
abbrev main_v18 : Ref sig .tc := ⟨.hbm, 78, rfl⟩
abbrev main_v19 : Ref sig .tc := ⟨.hbm, 79, rfl⟩
abbrev main_c_9 : Ref sig .tc := ⟨.hbm, 80, rfl⟩
abbrev main_call10_v0 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_10 : Ref sig .tc := ⟨.hbm, 85, rfl⟩
abbrev main_call11_v0 : Ref sig .tc := ⟨.hbm, 86, rfl⟩
abbrev main_v23 : Ref sig .tc := ⟨.hbm, 87, rfl⟩
abbrev main_v24 : Ref sig .tc := ⟨.hbm, 88, rfl⟩
abbrev main_c_11 : Ref sig .tc := ⟨.hbm, 89, rfl⟩
abbrev main_call12_v0 : Ref sig .tc := ⟨.hbm, 90, rfl⟩
abbrev main_v25 : Ref sig .tc := ⟨.hbm, 91, rfl⟩
abbrev main_v26 : Ref sig .tc := ⟨.hbm, 92, rfl⟩
abbrev main_c_12 : Ref sig .tc := ⟨.hbm, 93, rfl⟩
abbrev main_call13_v0 : Ref sig .tc := ⟨.hbm, 94, rfl⟩
abbrev main_v27 : Ref sig .tc := ⟨.hbm, 95, rfl⟩
abbrev main_v28 : Ref sig .tc := ⟨.hbm, 96, rfl⟩
abbrev main_c_13 : Ref sig .tc := ⟨.hbm, 97, rfl⟩
abbrev main_call14_v0 : Ref sig .tc := ⟨.hbm, 98, rfl⟩
abbrev main_v29 : Ref sig .tc := ⟨.hbm, 99, rfl⟩
abbrev main_v30 : Ref sig .tc := ⟨.hbm, 100, rfl⟩
abbrev main_c_14 : Ref sig .tc := ⟨.hbm, 101, rfl⟩
abbrev main_call15_v0 : Ref sig .tc := ⟨.hbm, 102, rfl⟩
abbrev main_v31 : Ref sig .tc := ⟨.hbm, 103, rfl⟩
abbrev main_v32 : Ref sig .tc := ⟨.hbm, 104, rfl⟩
abbrev main_c_15 : Ref sig .tc := ⟨.hbm, 105, rfl⟩
abbrev main_call16_v0 : Ref sig .tc := ⟨.hbm, 106, rfl⟩
abbrev main_v33 : Ref sig .tc := ⟨.hbm, 107, rfl⟩
abbrev main_v34 : Ref sig .tc := ⟨.hbm, 108, rfl⟩
abbrev main_c_16 : Ref sig .tc := ⟨.hbm, 109, rfl⟩
abbrev main_call17_v0 : Ref sig .tc := ⟨.hbm, 110, rfl⟩
abbrev main_v35 : Ref sig .tc := ⟨.hbm, 111, rfl⟩
abbrev main_v36 : Ref sig .tc := ⟨.hbm, 112, rfl⟩
abbrev main_c_17 : Ref sig .tc := ⟨.hbm, 113, rfl⟩
abbrev main_call18_v0 : Ref sig .tc := ⟨.hbm, 114, rfl⟩
abbrev main_v37 : Ref sig .tc := ⟨.hbm, 115, rfl⟩
abbrev main_v38 : Ref sig .tc := ⟨.hbm, 116, rfl⟩
abbrev main_c_18 : Ref sig .tc := ⟨.hbm, 117, rfl⟩
abbrev main_call19_v0 : Ref sig .tc := ⟨.hbm, 118, rfl⟩
abbrev main_v39 : Ref sig .tc := ⟨.hbm, 119, rfl⟩
abbrev main_c_19 : Ref sig .tc := ⟨.hbm, 120, rfl⟩
abbrev main_call20_v0 : Ref sig .tc := ⟨.hbm, 121, rfl⟩
abbrev main_v40 : Ref sig .tc := ⟨.hbm, 122, rfl⟩
abbrev main_v41 : Ref sig .tc := ⟨.hbm, 123, rfl⟩
abbrev main_c_20 : Ref sig .tc := ⟨.hbm, 124, rfl⟩
abbrev main_call21_v0 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_c_21 : Ref sig .tc := ⟨.hbm, 129, rfl⟩
abbrev main_call22_v0 : Ref sig .tc := ⟨.hbm, 130, rfl⟩
abbrev main_v45 : Ref sig .tc := ⟨.hbm, 131, rfl⟩
abbrev main_v46 : Ref sig .tc := ⟨.hbm, 132, rfl⟩
abbrev main_c_22 : Ref sig .tc := ⟨.hbm, 133, rfl⟩
abbrev main_call23_v0 : Ref sig .tc := ⟨.hbm, 134, rfl⟩
abbrev main_v47 : Ref sig .tc := ⟨.hbm, 135, rfl⟩
abbrev main_v48 : Ref sig .tc := ⟨.hbm, 136, rfl⟩
abbrev main_c_23 : Ref sig .tc := ⟨.hbm, 137, rfl⟩
abbrev main_call24_v0 : Ref sig .tc := ⟨.hbm, 138, rfl⟩
abbrev main_v49 : Ref sig .tc := ⟨.hbm, 139, rfl⟩
abbrev main_v50 : Ref sig .tc := ⟨.hbm, 140, rfl⟩
abbrev main_c_24 : Ref sig .tc := ⟨.hbm, 141, rfl⟩
abbrev main_call25_v0 : Ref sig .tc := ⟨.hbm, 142, rfl⟩
abbrev main_v51 : Ref sig .tc := ⟨.hbm, 143, rfl⟩
abbrev main_v52 : Ref sig .tc := ⟨.hbm, 144, rfl⟩
abbrev main_c_25 : Ref sig .tc := ⟨.hbm, 145, rfl⟩
abbrev main_call26_v0 : Ref sig .tc := ⟨.hbm, 146, rfl⟩
abbrev main_v53 : Ref sig .tc := ⟨.hbm, 147, rfl⟩
abbrev main_v54 : Ref sig .tc := ⟨.hbm, 148, rfl⟩
abbrev main_c_26 : Ref sig .tc := ⟨.hbm, 149, rfl⟩
abbrev main_call27_v0 : Ref sig .tc := ⟨.hbm, 150, rfl⟩
abbrev main_v55 : Ref sig .tc := ⟨.hbm, 151, rfl⟩
abbrev main_v56 : Ref sig .tc := ⟨.hbm, 152, rfl⟩
abbrev main_c_27 : Ref sig .tc := ⟨.hbm, 153, rfl⟩
abbrev main_call28_v0 : Ref sig .tc := ⟨.hbm, 154, rfl⟩
abbrev main_v57 : Ref sig .tc := ⟨.hbm, 155, rfl⟩
abbrev main_v58 : Ref sig .tc := ⟨.hbm, 156, rfl⟩
abbrev main_c_28 : Ref sig .tc := ⟨.hbm, 157, rfl⟩
abbrev main_call29_v0 : Ref sig .tc := ⟨.hbm, 158, rfl⟩
abbrev main_v59 : Ref sig .tc := ⟨.hbm, 159, rfl⟩
abbrev main_v60 : Ref sig .tc := ⟨.hbm, 160, rfl⟩
abbrev main_c_29 : Ref sig .tc := ⟨.hbm, 161, rfl⟩
abbrev main_call30_v0 : Ref sig .tc := ⟨.hbm, 162, rfl⟩
abbrev main_v61 : Ref sig .tc := ⟨.hbm, 163, rfl⟩
abbrev main_c_30 : Ref sig .tc := ⟨.hbm, 164, rfl⟩
abbrev main_call31_v0 : Ref sig .tc := ⟨.hbm, 165, rfl⟩
abbrev main_v62 : Ref sig .tc := ⟨.hbm, 166, rfl⟩
abbrev main_v63 : Ref sig .tc := ⟨.hbm, 167, rfl⟩
abbrev main_c_31 : Ref sig .tc := ⟨.hbm, 168, rfl⟩
abbrev main_call32_v0 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_c_32 : Ref sig .tc := ⟨.hbm, 173, rfl⟩
abbrev main_call33_v0 : Ref sig .tc := ⟨.hbm, 174, rfl⟩
abbrev main_v67 : Ref sig .tc := ⟨.hbm, 175, rfl⟩
abbrev main_v68 : Ref sig .tc := ⟨.hbm, 176, rfl⟩
abbrev main_c_33 : Ref sig .tc := ⟨.hbm, 177, rfl⟩
abbrev main_call34_v0 : Ref sig .tc := ⟨.hbm, 178, rfl⟩
abbrev main_v69 : Ref sig .tc := ⟨.hbm, 179, rfl⟩
abbrev main_v70 : Ref sig .tc := ⟨.hbm, 180, rfl⟩
abbrev main_c_34 : Ref sig .tc := ⟨.hbm, 181, rfl⟩
abbrev main_call35_v0 : Ref sig .tc := ⟨.hbm, 182, rfl⟩
abbrev main_v71 : Ref sig .tc := ⟨.hbm, 183, rfl⟩
abbrev main_v72 : Ref sig .tc := ⟨.hbm, 184, rfl⟩
abbrev main_c_35 : Ref sig .tc := ⟨.hbm, 185, rfl⟩
abbrev main_call36_v0 : Ref sig .tc := ⟨.hbm, 186, rfl⟩
abbrev main_v73 : Ref sig .tc := ⟨.hbm, 187, rfl⟩
abbrev main_v74 : Ref sig .tc := ⟨.hbm, 188, rfl⟩
abbrev main_c_36 : Ref sig .tc := ⟨.hbm, 189, rfl⟩
abbrev main_call37_v0 : Ref sig .tc := ⟨.hbm, 190, rfl⟩
abbrev main_v75 : Ref sig .tc := ⟨.hbm, 191, rfl⟩
abbrev main_v76 : Ref sig .tc := ⟨.hbm, 192, rfl⟩
abbrev main_c_37 : Ref sig .tc := ⟨.hbm, 193, rfl⟩
abbrev main_call38_v0 : Ref sig .tc := ⟨.hbm, 194, rfl⟩
abbrev main_v77 : Ref sig .tc := ⟨.hbm, 195, rfl⟩
abbrev main_v78 : Ref sig .tc := ⟨.hbm, 196, rfl⟩
abbrev main_c_38 : Ref sig .tc := ⟨.hbm, 197, rfl⟩
abbrev main_call39_v0 : Ref sig .tc := ⟨.hbm, 198, rfl⟩
abbrev main_v79 : Ref sig .tc := ⟨.hbm, 199, rfl⟩
abbrev main_v80 : Ref sig .tc := ⟨.hbm, 200, rfl⟩
abbrev main_c_39 : Ref sig .tc := ⟨.hbm, 201, rfl⟩
abbrev main_call40_v0 : Ref sig .tc := ⟨.hbm, 202, rfl⟩
abbrev main_v81 : Ref sig .tc := ⟨.hbm, 203, rfl⟩
abbrev main_v82 : Ref sig .tc := ⟨.hbm, 204, rfl⟩
abbrev main_c_40 : Ref sig .tc := ⟨.hbm, 205, rfl⟩
abbrev main_call41_v0 : Ref sig .tc := ⟨.hbm, 206, rfl⟩
abbrev main_v83 : Ref sig .tc := ⟨.hbm, 207, rfl⟩
abbrev main_c_41 : Ref sig .tc := ⟨.hbm, 208, rfl⟩
abbrev main_call42_v0 : Ref sig .tc := ⟨.hbm, 209, rfl⟩
abbrev main_v84 : Ref sig .tc := ⟨.hbm, 210, rfl⟩
abbrev main_v85 : Ref sig .tc := ⟨.hbm, 211, rfl⟩
abbrev main_c_42 : Ref sig .tc := ⟨.hbm, 212, rfl⟩
abbrev main_call43_v0 : Ref sig .tc := ⟨.hbm, 213, rfl⟩
abbrev main_v86 : Ref sig .tc := ⟨.hbm, 214, rfl⟩
abbrev main_v87 : Ref sig .tc := ⟨.hbm, 215, rfl⟩
abbrev main_v88_0 : Ref sig .tc := ⟨.hbm, 216, rfl⟩
abbrev main_v88_1 : Ref sig .tc := ⟨.hbm, 217, rfl⟩
abbrev main_v88_2 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_v142 : Ref sig .tc := ⟨.hbm, 272, rfl⟩
abbrev main_v143 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference4Ideal.lean ====
abbrev S1x1024 : Shape := ⟨2, ![1, 1024]⟩
abbrev S1x4x384 : Shape := ⟨3, ![1, 4, 384]⟩
abbrev S1x8 : Shape := ⟨2, ![1, 8]⟩
abbrev S1x64 : Shape := ⟨2, ![1, 64]⟩
abbrev S1024 : Shape := ⟨1, ![1024]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S1x1024, .f32⟩
  | 1 => ⟨S1x4x384, .f32⟩
  | 2 => ⟨S1x8, .f32⟩
  | 3 => ⟨S1x8, .f32⟩
  | 4 => ⟨S1x64, .f32⟩
  | 5 => ⟨S1x8, .f32⟩
  | 6 => ⟨S1x64, .f32⟩
  | 7 => ⟨S1x64, .f32⟩
  | 8 => ⟨S1x1024, .f32⟩
  | 9 => ⟨S1024, .f32⟩
  | 10 => ⟨S1x1024, .f32⟩
  | 11 => ⟨S1x4x384, .f32⟩
  | 12 => ⟨S1x8, .f32⟩
  | 13 => ⟨S1x8, .f32⟩
  | 14 => ⟨S1x64, .f32⟩
  | 15 => ⟨S1x8, .f32⟩
  | 16 => ⟨S1x64, .f32⟩
  | 17 => ⟨S1x64, .f32⟩
  | 18 => ⟨S1x1024, .f32⟩
  | 19 => ⟨S1024, .f32⟩
  | 20 => ⟨S1x1024, .f32⟩
  | 21 => ⟨S1x4x384, .f32⟩
  | 22 => ⟨S1x8, .f32⟩
  | 23 => ⟨S1x8, .f32⟩
  | 24 => ⟨S1x64, .f32⟩
  | 25 => ⟨S1x8, .f32⟩
  | 26 => ⟨S1x64, .f32⟩
  | 27 => ⟨S1x64, .f32⟩
  | 28 => ⟨S1x1024, .f32⟩
  | 29 => ⟨S1024, .f32⟩
  | 30 => ⟨S1x1024, .f32⟩
  | 31 => ⟨S1x4x384, .f32⟩
  | 32 => ⟨S1x8, .f32⟩
  | 33 => ⟨S1x8, .f32⟩
  | 34 => ⟨S1x64, .f32⟩
  | 35 => ⟨S1x8, .f32⟩
  | 36 => ⟨S1x64, .f32⟩
  | 37 => ⟨S1x64, .f32⟩
  | 38 => ⟨S1x1024, .f32⟩
  | 39 => ⟨S1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S_, .f32⟩
  | 74 => ⟨S1x4x384, .f32⟩
  | 75 => ⟨S1x4x384, .f32⟩
  | 76 => ⟨S_, .f32⟩
  | 77 => ⟨S1x4x384, .f32⟩
  | 78 => ⟨S1x4x384, .f32⟩
  | 79 => ⟨S1x4x384, .f32⟩
  | 80 => ⟨S_, .f32⟩
  | 81 => ⟨S1x4x384, .f32⟩
  | 82 => ⟨S1x4x384, .f32⟩
  | 83 => ⟨S1x4x384, .f32⟩
  | 84 => ⟨S_, .f32⟩
  | 85 => ⟨S1x4x384, .f32⟩
  | 86 => ⟨S1x4x384, .f32⟩
  | 87 => ⟨S1x4x384, .f32⟩
  | 88 => ⟨S_, .f32⟩
  | 89 => ⟨S1x4x384, .f32⟩
  | 90 => ⟨S1x4x384, .f32⟩
  | 91 => ⟨S_, .f32⟩
  | 92 => ⟨S1x4x384, .f32⟩
  | 93 => ⟨S1x4x384, .f32⟩
  | 94 => ⟨S1x4x384, .f32⟩
  | 95 => ⟨S_, .f32⟩
  | 96 => ⟨S1x4x384, .f32⟩
  | 97 => ⟨S1x4x384, .f32⟩
  | 98 => ⟨S1x4x384, .f32⟩
  | 99 => ⟨S_, .f32⟩
  | 100 => ⟨S1x4x384, .f32⟩
  | 101 => ⟨S1x4x384, .f32⟩
  | 102 => ⟨S1x4x384, .f32⟩
  | 103 => ⟨S_, .f32⟩
  | 104 => ⟨S1x4x384, .f32⟩
  | 105 => ⟨S1x4x384, .f32⟩
  | 106 => ⟨S_, .f32⟩
  | 107 => ⟨S1x8, .f32⟩
  | 108 => ⟨S1x8, .f32⟩
  | 109 => ⟨S_, .f32⟩
  | 110 => ⟨S1x8, .f32⟩
  | 111 => ⟨S1x8, .f32⟩
  | 112 => ⟨S1x8, .f32⟩
  | 113 => ⟨S_, .f32⟩
  | 114 => ⟨S1x8, .f32⟩
  | 115 => ⟨S1x8, .f32⟩
  | 116 => ⟨S1x8, .f32⟩
  | 117 => ⟨S_, .f32⟩
  | 118 => ⟨S1x8, .f32⟩
  | 119 => ⟨S1x8, .f32⟩
  | 120 => ⟨S1x8, .f32⟩
  | 121 => ⟨S_, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S1x8, .f32⟩
  | _ => ⟨S1x1024, .f32⟩

abbrev hbmTy0_1 (i : Nat) : BufTy := match i % 128 with
  | 0 => ⟨S_, .f32⟩
  | 1 => ⟨S1x8, .f32⟩
  | 2 => ⟨S1x8, .f32⟩
  | 3 => ⟨S1x8, .f32⟩
  | 4 => ⟨S_, .f32⟩
  | 5 => ⟨S1x8, .f32⟩
  | 6 => ⟨S1x8, .f32⟩
  | 7 => ⟨S1x8, .f32⟩
  | 8 => ⟨S_, .f32⟩
  | 9 => ⟨S1x8, .f32⟩
  | 10 => ⟨S1x8, .f32⟩
  | 11 => ⟨S_, .f32⟩
  | 12 => ⟨S1x8, .f32⟩
  | 13 => ⟨S1x8, .f32⟩
  | 14 => ⟨S_, .f32⟩
  | 15 => ⟨S1x8, .f32⟩
  | 16 => ⟨S1x8, .f32⟩
  | 17 => ⟨S1x8, .f32⟩
  | 18 => ⟨S_, .f32⟩
  | 19 => ⟨S1x8, .f32⟩
  | 20 => ⟨S1x8, .f32⟩
  | 21 => ⟨S1x8, .f32⟩
  | 22 => ⟨S_, .f32⟩
  | 23 => ⟨S1x8, .f32⟩
  | 24 => ⟨S1x8, .f32⟩
  | 25 => ⟨S1x8, .f32⟩
  | 26 => ⟨S_, .f32⟩
  | 27 => ⟨S1x8, .f32⟩
  | 28 => ⟨S1x8, .f32⟩
  | 29 => ⟨S_, .f32⟩
  | 30 => ⟨S1x8, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S1x8, .f32⟩
  | 37 => ⟨S_, .f32⟩
  | 38 => ⟨S1x8, .f32⟩
  | 39 => ⟨S1x8, .f32⟩
  | 40 => ⟨S1x8, .f32⟩
  | 41 => ⟨S_, .f32⟩
  | 42 => ⟨S1x8, .f32⟩
  | 43 => ⟨S1x8, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S_, .f32⟩
  | 78 => ⟨S1x8, .f32⟩
  | 79 => ⟨S1x8, .f32⟩
  | 80 => ⟨S_, .f32⟩
  | 81 => ⟨S1x8, .f32⟩
  | 82 => ⟨S1x8, .f32⟩
  | 83 => ⟨S1x8, .f32⟩
  | 84 => ⟨S_, .f32⟩
  | 85 => ⟨S1x8, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S_, .f32⟩
  | 96 => ⟨S1x8, .f32⟩
  | 97 => ⟨S1x8, .f32⟩
  | 98 => ⟨S1x8, .f32⟩
  | 99 => ⟨S_, .f32⟩
  | 100 => ⟨S1x8, .f32⟩
  | 101 => ⟨S1x8, .f32⟩
  | 102 => ⟨S1x8, .f32⟩
  | 103 => ⟨S_, .f32⟩
  | 104 => ⟨S1x8, .f32⟩
  | 105 => ⟨S1x8, .f32⟩
  | 106 => ⟨S1x8, .f32⟩
  | 107 => ⟨S_, .f32⟩
  | 108 => ⟨S1x8, .f32⟩
  | 109 => ⟨S1x8, .f32⟩
  | 110 => ⟨S_, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S1x1024, .f32⟩

abbrev hbmTy0_2 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Kernel5.lean ====
abbrev S2 : Shape := ⟨1, ![2]⟩
abbrev S1x256x1024 : Shape := ⟨3, ![1, 256, 1024]⟩
abbrev S256x512 : Shape := ⟨2, ![256, 512]⟩
abbrev S256x1024 : Shape := ⟨2, ![256, 1024]⟩
abbrev S1 : Shape := ⟨1, ![1]⟩

abbrev nBuf : Space → Nat
  | .hbm => 16
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S256x512, .f32⟩
  | .hbm, ⟨2, _⟩ => ⟨S256x512, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .smem, ⟨0, _⟩ => ⟨S2, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel5Ideal.lean ====
abbrev S2 : Shape := ⟨1, ![2]⟩
abbrev S1x256x1024 : Shape := ⟨3, ![1, 256, 1024]⟩
abbrev S256x512 : Shape := ⟨2, ![256, 512]⟩
abbrev S256x1024 : Shape := ⟨2, ![256, 1024]⟩
abbrev S1 : Shape := ⟨1, ![1]⟩

abbrev nBuf : Space → Nat
  | .hbm => 16
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S256x512, .f32⟩
  | .hbm, ⟨2, _⟩ => ⟨S256x512, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .smem, ⟨0, _⟩ => ⟨S2, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2 : Shape := ⟨1, ![2]⟩
abbrev S1x256x1024 : Shape := ⟨3, ![1, 256, 1024]⟩
abbrev S256x512 : Shape := ⟨2, ![256, 512]⟩
abbrev S1 : Shape := ⟨1, ![1]⟩
abbrev S_ : Shape := ⟨0, ![]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x256x1024, .f32⟩
  | .hbm, ⟨2, _⟩ => ⟨S256x512, .f32⟩
  | .hbm, ⟨3, _⟩ => ⟨S256x512, .f32⟩
  | .hbm, ⟨4, _⟩ => ⟨S1x256x1024, .f32⟩
  | .hbm, ⟨5, _⟩ => ⟨S1x256x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x512, .f32⟩
  | .hbm, ⟨16, _⟩ => ⟨S256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | .hbm, ⟨39, _⟩ => ⟨S1x256x1024, .f32⟩
  | .hbm, ⟨40, _⟩ => ⟨S_, .f32⟩
  | .hbm, ⟨41, _⟩ => ⟨S1x256x1024, .f32⟩
  | .hbm, ⟨42, _⟩ => ⟨S1x256x1024, .f32⟩
  | .hbm, ⟨43, _⟩ => ⟨S1x256x1024, .f32⟩
  | .hbm, ⟨44, _⟩ => ⟨S_, .f32⟩
  | .hbm, ⟨45, _⟩ => ⟨S1x256x1024, .f32⟩
  | .hbm, ⟨46, _⟩ => ⟨S1x256x1024, .f32⟩
  | .hbm, ⟨47, _⟩ => ⟨S1x256x1024, .f32⟩
  | .hbm, ⟨48, _⟩ => ⟨S_, .f32⟩
  | .hbm, ⟨49, _⟩ => ⟨S1x256x1024, .f32⟩
  | .hbm, ⟨50, _⟩ => ⟨S1x256x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel6.lean ====
abbrev S2 : Shape := ⟨1, ![2]⟩
abbrev S1x1024x704 : Shape := ⟨3, ![1, 1024, 704]⟩
abbrev S704x512 : Shape := ⟨2, ![704, 512]⟩
abbrev S1024x704 : Shape := ⟨2, ![1024, 704]⟩
abbrev S704x1024 : Shape := ⟨2, ![704, 1024]⟩
abbrev S1 : Shape := ⟨1, ![1]⟩

abbrev nBuf : Space → Nat
  | .hbm => 23
  | .vmem => 16
  | .smem => 1
  | _ => 0

abbrev bufTy : (tb : Table) → Fin (tcTables nBuf tb) → BufTy
  | .hbm, ⟨0, _⟩ => ⟨S1x1024x704, .f32⟩
  | .hbm, ⟨1, _⟩ => ⟨S704x512, .f32⟩
  | .hbm, ⟨2, _⟩ => ⟨S704x512, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .hbm, ⟨19, _⟩ => ⟨S1024x704, .f32⟩
  | .hbm, ⟨20, _⟩ => ⟨S1x1024x704, .f32⟩
  | .hbm, ⟨21, _⟩ => ⟨S1024x704, .f32⟩
  | .hbm, ⟨22, _⟩ => ⟨S1x1024x704, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S2, .i32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S704x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S704x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
abbrev S2 : Shape := ⟨1, ![2]⟩
abbrev S1x1024x704 : Shape := ⟨3, ![1, 1024, 704]⟩
abbrev S704x512 : Shape := ⟨2, ![704, 512]⟩
abbrev S1024x704 : Shape := ⟨2, ![1024, 704]⟩
abbrev S704x1024 : Shape := ⟨2, ![704, 1024]⟩
abbrev S1 : Shape := ⟨1, ![1]⟩

abbrev nBuf : Space → Nat
  | .hbm => 23
  | .vmem => 16
  | .smem => 1
  | _ => 0

abbrev bufTy : (tb : Table) → Fin (tcTables nBuf tb) → BufTy
  | .hbm, ⟨0, _⟩ => ⟨S1x1024x704, .f32⟩
  | .hbm, ⟨1, _⟩ => ⟨S704x512, .f32⟩
  | .hbm, ⟨2, _⟩ => ⟨S704x512, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .hbm, ⟨19, _⟩ => ⟨S1024x704, .f32⟩
  | .hbm, ⟨20, _⟩ => ⟨S1x1024x704, .f32⟩
  | .hbm, ⟨21, _⟩ => ⟨S1024x704, .f32⟩
  | .hbm, ⟨22, _⟩ => ⟨S1x1024x704, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S2, .i32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S704x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S704x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S2 : Shape := ⟨1, ![2]⟩
abbrev S1x1024x704 : Shape := ⟨3, ![1, 1024, 704]⟩
abbrev S704x512 : Shape := ⟨2, ![704, 512]⟩
abbrev S1 : Shape := ⟨1, ![1]⟩
abbrev S_ : Shape := ⟨0, ![]⟩
abbrev S704x1024 : Shape := ⟨2, ![704, 1024]⟩
abbrev S1024x704 : Shape := ⟨2, ![1024, 704]⟩

abbrev nBuf : Space → Nat
  | .hbm => 52
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x1024x704, .f32⟩
  | .hbm, ⟨2, _⟩ => ⟨S704x512, .f32⟩
  | .hbm, ⟨3, _⟩ => ⟨S704x512, .f32⟩
  | .hbm, ⟨4, _⟩ => ⟨S1x1024x704, .f32⟩
  | .hbm, ⟨5, _⟩ => ⟨S1x1024x704, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S704x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S704x512, .f32⟩
  | .hbm, ⟨16, _⟩ => ⟨S704x1024, .f32⟩
  | .hbm, ⟨17, _⟩ => ⟨S1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S_, .f32⟩
  | .hbm, ⟨38, _⟩ => ⟨S1x1024x704, .f32⟩
  | .hbm, ⟨39, _⟩ => ⟨S1x1024x704, .f32⟩
  | .hbm, ⟨40, _⟩ => ⟨S1x1024x704, .f32⟩
  | .hbm, ⟨41, _⟩ => ⟨S_, .f32⟩
  | .hbm, ⟨42, _⟩ => ⟨S1x1024x704, .f32⟩
  | .hbm, ⟨43, _⟩ => ⟨S1x1024x704, .f32⟩
  | .hbm, ⟨44, _⟩ => ⟨S1x1024x704, .f32⟩
  | .hbm, ⟨45, _⟩ => ⟨S_, .f32⟩
  | .hbm, ⟨46, _⟩ => ⟨S1x1024x704, .f32⟩
  | .hbm, ⟨47, _⟩ => ⟨S1x1024x704, .f32⟩
  | .hbm, ⟨48, _⟩ => ⟨S1x1024x704, .f32⟩
  | .hbm, ⟨49, _⟩ => ⟨S_, .f32⟩
  | .hbm, ⟨50, _⟩ => ⟨S1x1024x704, .f32⟩
  | .hbm, ⟨51, _⟩ => ⟨S1x1024x704, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel7.lean ====
abbrev S2 : Shape := ⟨1, ![2]⟩
abbrev S1x1024x704 : Shape := ⟨3, ![1, 1024, 704]⟩
abbrev S704x512 : Shape := ⟨2, ![704, 512]⟩
abbrev S1024x704 : Shape := ⟨2, ![1024, 704]⟩
abbrev S704x1024 : Shape := ⟨2, ![704, 1024]⟩
abbrev S1 : Shape := ⟨1, ![1]⟩

abbrev nBuf : Space → Nat
  | .hbm => 23
  | .vmem => 16
  | .smem => 1
  | _ => 0

abbrev bufTy : (tb : Table) → Fin (tcTables nBuf tb) → BufTy
  | .hbm, ⟨0, _⟩ => ⟨S1x1024x704, .f32⟩
  | .hbm, ⟨1, _⟩ => ⟨S704x512, .f32⟩
  | .hbm, ⟨2, _⟩ => ⟨S704x512, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .hbm, ⟨19, _⟩ => ⟨S1024x704, .f32⟩
  | .hbm, ⟨20, _⟩ => ⟨S1x1024x704, .f32⟩
  | .hbm, ⟨21, _⟩ => ⟨S1024x704, .f32⟩
  | .hbm, ⟨22, _⟩ => ⟨S1x1024x704, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S2, .i32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S704x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S704x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel7Ideal.lean ====
abbrev S2 : Shape := ⟨1, ![2]⟩
abbrev S1x1024x704 : Shape := ⟨3, ![1, 1024, 704]⟩
abbrev S704x512 : Shape := ⟨2, ![704, 512]⟩
abbrev S1024x704 : Shape := ⟨2, ![1024, 704]⟩
abbrev S704x1024 : Shape := ⟨2, ![704, 1024]⟩
abbrev S1 : Shape := ⟨1, ![1]⟩

abbrev nBuf : Space → Nat
  | .hbm => 23
  | .vmem => 16
  | .smem => 1
  | _ => 0

abbrev bufTy : (tb : Table) → Fin (tcTables nBuf tb) → BufTy
  | .hbm, ⟨0, _⟩ => ⟨S1x1024x704, .f32⟩
  | .hbm, ⟨1, _⟩ => ⟨S704x512, .f32⟩
  | .hbm, ⟨2, _⟩ => ⟨S704x512, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .hbm, ⟨19, _⟩ => ⟨S1024x704, .f32⟩
  | .hbm, ⟨20, _⟩ => ⟨S1x1024x704, .f32⟩
  | .hbm, ⟨21, _⟩ => ⟨S1024x704, .f32⟩
  | .hbm, ⟨22, _⟩ => ⟨S1x1024x704, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S2, .i32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S704x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S704x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S2 : Shape := ⟨1, ![2]⟩
abbrev S1x1024x704 : Shape := ⟨3, ![1, 1024, 704]⟩
abbrev S704x512 : Shape := ⟨2, ![704, 512]⟩
abbrev S1 : Shape := ⟨1, ![1]⟩
abbrev S_ : Shape := ⟨0, ![]⟩
abbrev S704x1024 : Shape := ⟨2, ![704, 1024]⟩
abbrev S1024x704 : Shape := ⟨2, ![1024, 704]⟩

abbrev nBuf : Space → Nat
  | .hbm => 52
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x1024x704, .f32⟩
  | .hbm, ⟨2, _⟩ => ⟨S704x512, .f32⟩
  | .hbm, ⟨3, _⟩ => ⟨S704x512, .f32⟩
  | .hbm, ⟨4, _⟩ => ⟨S1x1024x704, .f32⟩
  | .hbm, ⟨5, _⟩ => ⟨S1x1024x704, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S704x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S704x512, .f32⟩
  | .hbm, ⟨16, _⟩ => ⟨S704x1024, .f32⟩
  | .hbm, ⟨17, _⟩ => ⟨S1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S_, .f32⟩
  | .hbm, ⟨38, _⟩ => ⟨S1x1024x704, .f32⟩
  | .hbm, ⟨39, _⟩ => ⟨S1x1024x704, .f32⟩
  | .hbm, ⟨40, _⟩ => ⟨S1x1024x704, .f32⟩
  | .hbm, ⟨41, _⟩ => ⟨S_, .f32⟩
  | .hbm, ⟨42, _⟩ => ⟨S1x1024x704, .f32⟩
  | .hbm, ⟨43, _⟩ => ⟨S1x1024x704, .f32⟩
  | .hbm, ⟨44, _⟩ => ⟨S1x1024x704, .f32⟩
  | .hbm, ⟨45, _⟩ => ⟨S_, .f32⟩
  | .hbm, ⟨46, _⟩ => ⟨S1x1024x704, .f32⟩
  | .hbm, ⟨47, _⟩ => ⟨S1x1024x704, .f32⟩
  | .hbm, ⟨48, _⟩ => ⟨S1x1024x704, .f32⟩
  | .hbm, ⟨49, _⟩ => ⟨S_, .f32⟩
  | .hbm, ⟨50, _⟩ => ⟨S1x1024x704, .f32⟩
  | .hbm, ⟨51, _⟩ => ⟨S1x1024x704, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel8.lean ====
abbrev S2 : Shape := ⟨1, ![2]⟩
abbrev S1x704x1024 : Shape := ⟨3, ![1, 704, 1024]⟩
abbrev S704x512 : Shape := ⟨2, ![704, 512]⟩
abbrev S704x1024 : Shape := ⟨2, ![704, 1024]⟩
abbrev S1 : Shape := ⟨1, ![1]⟩

abbrev nBuf : Space → Nat
  | .hbm => 16
  | .vmem => 16
  | .smem => 1
  | _ => 0

abbrev bufTy : (tb : Table) → Fin (tcTables nBuf tb) → BufTy
  | .hbm, ⟨0, _⟩ => ⟨S1x704x1024, .f32⟩
  | .hbm, ⟨1, _⟩ => ⟨S704x512, .f32⟩
  | .hbm, ⟨2, _⟩ => ⟨S704x512, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S2, .i32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S704x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S704x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel8Ideal.lean ====
abbrev S2 : Shape := ⟨1, ![2]⟩
abbrev S1x704x1024 : Shape := ⟨3, ![1, 704, 1024]⟩
abbrev S704x512 : Shape := ⟨2, ![704, 512]⟩
abbrev S704x1024 : Shape := ⟨2, ![704, 1024]⟩
abbrev S1 : Shape := ⟨1, ![1]⟩

abbrev nBuf : Space → Nat
  | .hbm => 16
  | .vmem => 16
  | .smem => 1
  | _ => 0

abbrev bufTy : (tb : Table) → Fin (tcTables nBuf tb) → BufTy
  | .hbm, ⟨0, _⟩ => ⟨S1x704x1024, .f32⟩
  | .hbm, ⟨1, _⟩ => ⟨S704x512, .f32⟩
  | .hbm, ⟨2, _⟩ => ⟨S704x512, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | .local _ .smem, ⟨0, _⟩ => ⟨S2, .i32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S704x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S704x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2 : Shape := ⟨1, ![2]⟩
abbrev S1x704x1024 : Shape := ⟨3, ![1, 704, 1024]⟩
abbrev S704x512 : Shape := ⟨2, ![704, 512]⟩
abbrev S1 : Shape := ⟨1, ![1]⟩
abbrev S_ : Shape := ⟨0, ![]⟩
abbrev S704x1024 : Shape := ⟨2, ![704, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x704x1024, .f32⟩
  | .hbm, ⟨2, _⟩ => ⟨S704x512, .f32⟩
  | .hbm, ⟨3, _⟩ => ⟨S704x512, .f32⟩
  | .hbm, ⟨4, _⟩ => ⟨S1x704x1024, .f32⟩
  | .hbm, ⟨5, _⟩ => ⟨S1x704x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S704x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S704x512, .f32⟩
  | .hbm, ⟨16, _⟩ => ⟨S704x1024, .f32⟩
  | .hbm, ⟨17, _⟩ => ⟨S1x704x1024, .f32⟩
  | .hbm, ⟨18, _⟩ => ⟨S_, .f32⟩
  | .hbm, ⟨19, _⟩ => ⟨S1x704x1024, .f32⟩
  | .hbm, ⟨20, _⟩ => ⟨S1x704x1024, .f32⟩
  | .hbm, ⟨21, _⟩ => ⟨S_, .f32⟩
  | .hbm, ⟨22, _⟩ => ⟨S1x704x1024, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S_, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S_, .f32⟩
  | .hbm, ⟨37, _⟩ => ⟨S1x704x1024, .f32⟩
  | .hbm, ⟨38, _⟩ => ⟨S1x704x1024, .f32⟩
  | .hbm, ⟨39, _⟩ => ⟨S1x704x1024, .f32⟩
  | .hbm, ⟨40, _⟩ => ⟨S_, .f32⟩
  | .hbm, ⟨41, _⟩ => ⟨S1x704x1024, .f32⟩
  | .hbm, ⟨42, _⟩ => ⟨S1x704x1024, .f32⟩
  | .hbm, ⟨43, _⟩ => ⟨S1x704x1024, .f32⟩
  | .hbm, ⟨44, _⟩ => ⟨S_, .f32⟩
  | .hbm, ⟨45, _⟩ => ⟨S1x704x1024, .f32⟩
  | .hbm, ⟨46, _⟩ => ⟨S1x704x1024, .f32⟩
  | .hbm, ⟨47, _⟩ => ⟨S1x704x1024, .f32⟩
  | .hbm, ⟨48, _⟩ => ⟨S_, .f32⟩
  | .hbm, ⟨49, _⟩ => ⟨S1x704x1024, .f32⟩
  | .hbm, ⟨50, _⟩ => ⟨S1x704x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel9.lean ====
abbrev S2 : Shape := ⟨1, ![2]⟩
abbrev S1x1024x1030 : Shape := ⟨3, ![1, 1024, 1030]⟩
abbrev S1030x1x512 : Shape := ⟨3, ![1030, 1, 512]⟩
abbrev S1030x1x1024 : Shape := ⟨3, ![1030, 1, 1024]⟩
abbrev S206x1x256 : Shape := ⟨3, ![206, 1, 256]⟩
abbrev S1 : Shape := ⟨1, ![1]⟩

abbrev nBuf : Space → Nat
  | .hbm => 16
  | .vmem => 18
  | .smem => 1
  | _ => 0

abbrev bufTy : (tb : Table) → Fin (tcTables nBuf tb) → BufTy
  | .hbm, ⟨0, _⟩ => ⟨S1x1024x1030, .f32⟩
  | .hbm, ⟨1, _⟩ => ⟨S1030x1x512, .f32⟩
  | .hbm, ⟨2, _⟩ => ⟨S1030x1x512, .f32⟩
  | .hbm, ⟨3, _⟩ => ⟨S1x1024x1030, .f32⟩
  | .hbm, ⟨4, _⟩ => ⟨S1x1024x1030, .f32⟩
  | .hbm, ⟨5, _⟩ => ⟨S1030x1x1024, .f32⟩
  | .hbm, ⟨6, _⟩ => ⟨S1030x1x1024, .f32⟩
  | .hbm, ⟨7, _⟩ => ⟨S1030x1x1024, .f32⟩
  | .hbm, ⟨8, _⟩ => ⟨S1030x1x1024, .f32⟩
  | .hbm, ⟨9, _⟩ => ⟨S1030x1x1024, .f32⟩
  | .hbm, ⟨10, _⟩ => ⟨S1030x1x1024, .f32⟩
  | .hbm, ⟨11, _⟩ => ⟨S1030x1x1024, .f32⟩
  | .hbm, ⟨12, _⟩ => ⟨S1x1024x1030, .f32⟩
  | .hbm, ⟨13, _⟩ => ⟨S1x1024x1030, .f32⟩
  | .hbm, ⟨14, _⟩ => ⟨S1x1024x1030, .f32⟩
  | .hbm, ⟨15, _⟩ => ⟨S1x1024x1030, .f32⟩
  | .local _ .vmem, ⟨0, _⟩ => ⟨S206x1x256, .f32⟩
  | .local _ .vmem, ⟨1, _⟩ => ⟨S206x1x256, .f32⟩
  | .local _ .vmem, ⟨2, _⟩ => ⟨S206x1x256, .f32⟩
  | .local _ .vmem, ⟨3, _⟩ => ⟨S206x1x256, .f32⟩
  | .local _ .vmem, ⟨4, _⟩ => ⟨S206x1x256, .f32⟩
  | .local _ .vmem, ⟨5, _⟩ => ⟨S206x1x256, .f32⟩
  | .local _ .vmem, ⟨6, _⟩ => ⟨S206x1x256, .f32⟩
  | .local _ .vmem, ⟨7, _⟩ => ⟨S206x1x256, .f32⟩
  | .local _ .vmem, ⟨8, _⟩ => ⟨S206x1x256, .f32⟩
  | .local _ .vmem, ⟨9, _⟩ => ⟨S206x1x256, .f32⟩
  | .local _ .vmem, ⟨10, _⟩ => ⟨S206x1x256, .f32⟩
  | .local _ .vmem, ⟨11, _⟩ => ⟨S206x1x256, .f32⟩
  | .local _ .vmem, ⟨12, _⟩ => ⟨S206x1x256, .f32⟩
  | .local _ .vmem, ⟨13, _⟩ => ⟨S206x1x256, .f32⟩
  | .local _ .vmem, ⟨14, _⟩ => ⟨S206x1x256, .f32⟩
  | .local _ .vmem, ⟨15, _⟩ => ⟨S206x1x256, .f32⟩
  | .local _ .vmem, ⟨16, _⟩ => ⟨S206x1x256, .f32⟩
  | .local _ .vmem, ⟨17, _⟩ => ⟨S206x1x256, .f32⟩
  | .local _ .smem, ⟨0, _⟩ => ⟨S2, .i32⟩
  | _, _ => ⟨S1x1024x1030, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 5], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![arg2.toNat, c0_i32.toNat, v1.toNat]

abbrev stage0_0 : Fin 2 → Memref sig .tc .vmem S206x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S206x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S206x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S206x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S206x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S206x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S206x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S206x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S206x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference9Ideal.lean ====
abbrev S2 : Shape := ⟨1, ![2]⟩
abbrev S1x1024x1030 : Shape := ⟨3, ![1, 1024, 1030]⟩
abbrev S1030x1x512 : Shape := ⟨3, ![1030, 1, 512]⟩
abbrev S1 : Shape := ⟨1, ![1]⟩
abbrev S_ : Shape := ⟨0, ![]⟩
abbrev S1030x1x1024 : Shape := ⟨3, ![1030, 1, 1024]⟩
abbrev S1030x1024 : Shape := ⟨2, ![1030, 1024]⟩
abbrev S1024x1030 : Shape := ⟨2, ![1024, 1030]⟩

abbrev nBuf : Space → Nat
  | .hbm => 53
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x1024x1030, .f32⟩
  | .hbm, ⟨2, _⟩ => ⟨S1030x1x512, .f32⟩
  | .hbm, ⟨3, _⟩ => ⟨S1030x1x512, .f32⟩
  | .hbm, ⟨4, _⟩ => ⟨S1x1024x1030, .f32⟩
  | .hbm, ⟨5, _⟩ => ⟨S1x1024x1030, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1030x1x512, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1030x1x512, .f32⟩
  | .hbm, ⟨16, _⟩ => ⟨S1030x1x1024, .f32⟩
  | .hbm, ⟨17, _⟩ => ⟨S1030x1024, .f32⟩
  | .hbm, ⟨18, _⟩ => ⟨S1024x1030, .f32⟩
  | .hbm, ⟨19, _⟩ => ⟨S1x1024x1030, .f32⟩
  | .hbm, ⟨20, _⟩ => ⟨S_, .f32⟩
  | .hbm, ⟨21, _⟩ => ⟨S1x1024x1030, .f32⟩
  | .hbm, ⟨22, _⟩ => ⟨S1x1024x1030, .f32⟩
  | .hbm, ⟨23, _⟩ => ⟨S_, .f32⟩
  | .hbm, ⟨24, _⟩ => ⟨S1x1024x1030, .f32⟩
  | .hbm, ⟨25, _⟩ => ⟨S1x1024x1030, .f32⟩
  | .hbm, ⟨26, _⟩ => ⟨S1x1024x1030, .f32⟩
  | .hbm, ⟨27, _⟩ => ⟨S_, .f32⟩
  | .hbm, ⟨28, _⟩ => ⟨S1x1024x1030, .f32⟩
  | .hbm, ⟨29, _⟩ => ⟨S1x1024x1030, .f32⟩
  | .hbm, ⟨30, _⟩ => ⟨S1x1024x1030, .f32⟩
  | .hbm, ⟨31, _⟩ => ⟨S_, .f32⟩
  | .hbm, ⟨32, _⟩ => ⟨S1x1024x1030, .f32⟩
  | .hbm, ⟨33, _⟩ => ⟨S1x1024x1030, .f32⟩
  | .hbm, ⟨34, _⟩ => ⟨S1x1024x1030, .f32⟩
  | .hbm, ⟨35, _⟩ => ⟨S_, .f32⟩
  | .hbm, ⟨36, _⟩ => ⟨S1x1024x1030, .f32⟩
  | .hbm, ⟨37, _⟩ => ⟨S1x1024x1030, .f32⟩
  | .hbm, ⟨38, _⟩ => ⟨S_, .f32⟩
  | .hbm, ⟨39, _⟩ => ⟨S1x1024x1030, .f32⟩
  | .hbm, ⟨40, _⟩ => ⟨S1x1024x1030, .f32⟩
  | .hbm, ⟨41, _⟩ => ⟨S1x1024x1030, .f32⟩
  | .hbm, ⟨42, _⟩ => ⟨S_, .f32⟩
  | .hbm, ⟨43, _⟩ => ⟨S1x1024x1030, .f32⟩
  | .hbm, ⟨44, _⟩ => ⟨S1x1024x1030, .f32⟩
  | .hbm, ⟨45, _⟩ => ⟨S1x1024x1030, .f32⟩
  | .hbm, ⟨46, _⟩ => ⟨S_, .f32⟩
  | .hbm, ⟨47, _⟩ => ⟨S1x1024x1030, .f32⟩
  | .hbm, ⟨48, _⟩ => ⟨S1x1024x1030, .f32⟩
  | .hbm, ⟨49, _⟩ => ⟨S1x1024x1030, .f32⟩
  | .hbm, ⟨50, _⟩ => ⟨S_, .f32⟩
  | .hbm, ⟨51, _⟩ => ⟨S1x1024x1030, .f32⟩
  | .hbm, ⟨52, _⟩ => ⟨S1x1024x1030, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel10.lean ====
abbrev S1x64 : Shape := ⟨2, ![1, 64]⟩
abbrev S2048x4224 : Shape := ⟨2, ![2048, 4224]⟩
abbrev S2048x512 : Shape := ⟨2, ![2048, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1024 : Shape := ⟨2, ![1, 1024]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S8x64 : Shape := ⟨2, ![8, 64]⟩
abbrev S_ : Shape := ⟨0, ![]⟩
abbrev S64 : Shape := ⟨1, ![64]⟩

abbrev nBuf : Space → Nat
  | .hbm => 16
  | .vmem => 10
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2048x4224, .f32⟩
  | .hbm, ⟨3, _⟩ => ⟨S2048x512, .f32⟩
  | .hbm, ⟨4, _⟩ => ⟨S1x1x1x64, .f32⟩
  | .hbm, ⟨5, _⟩ => ⟨S1x1x8x64, .f32⟩
  | .hbm, ⟨6, _⟩ => ⟨S1x512, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S1x1024, .f32⟩
  | .hbm, ⟨11, _⟩ => ⟨S2048x512, .bf16⟩
  | .hbm, ⟨12, _⟩ => ⟨S1x512, .f32⟩
  | .hbm, ⟨13, _⟩ => ⟨S8x64, .f32⟩
  | .hbm, ⟨14, _⟩ => ⟨S_, .f32⟩
  | .hbm, ⟨15, _⟩ => ⟨S64, .f32⟩
  | .local _ .vmem, ⟨0, _⟩ => ⟨S1x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel10Ideal.lean ====
abbrev S1x64 : Shape := ⟨2, ![1, 64]⟩
abbrev S2048x4224 : Shape := ⟨2, ![2048, 4224]⟩
abbrev S2048x512 : Shape := ⟨2, ![2048, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1024 : Shape := ⟨2, ![1, 1024]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S8x64 : Shape := ⟨2, ![8, 64]⟩
abbrev S_ : Shape := ⟨0, ![]⟩
abbrev S64 : Shape := ⟨1, ![64]⟩

abbrev nBuf : Space → Nat
  | .hbm => 16
  | .vmem => 10
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2048x4224, .f32⟩
  | .hbm, ⟨3, _⟩ => ⟨S2048x512, .f32⟩
  | .hbm, ⟨4, _⟩ => ⟨S1x1x1x64, .f32⟩
  | .hbm, ⟨5, _⟩ => ⟨S1x1x8x64, .f32⟩
  | .hbm, ⟨6, _⟩ => ⟨S1x512, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S1x1024, .f32⟩
  | .hbm, ⟨11, _⟩ => ⟨S2048x512, .bf16⟩
  | .hbm, ⟨12, _⟩ => ⟨S1x512, .f32⟩
  | .hbm, ⟨13, _⟩ => ⟨S8x64, .f32⟩
  | .hbm, ⟨14, _⟩ => ⟨S_, .f32⟩
  | .hbm, ⟨15, _⟩ => ⟨S64, .f32⟩
  | .local _ .vmem, ⟨0, _⟩ => ⟨S1x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S1x64 : Shape := ⟨2, ![1, 64]⟩
abbrev S2048x4224 : Shape := ⟨2, ![2048, 4224]⟩
abbrev S2048x512 : Shape := ⟨2, ![2048, 512]⟩
abbrev S2048x8x64 : Shape := ⟨3, ![2048, 8, 64]⟩
abbrev S64 : Shape := ⟨1, ![64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2048x4224, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S64, .f32⟩
  | .hbm, ⟨7, _⟩ => ⟨S2048x8x64, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x64, .f32⟩
  | .hbm, ⟨19, _⟩ => ⟨S2048x8x64, .f32⟩
  | .hbm, ⟨20, _⟩ => ⟨S1x1x64, .f32⟩
  | .hbm, ⟨21, _⟩ => ⟨S2048x8x64, .f32⟩
  | .hbm, ⟨22, _⟩ => ⟨S2048x8x64, .f32⟩
  | .hbm, ⟨23, _⟩ => ⟨S2048x8x64, .f32⟩
  | .hbm, ⟨24, _⟩ => ⟨S2048x8x64, .f32⟩
  | .hbm, ⟨25, _⟩ => ⟨S_, .f32⟩
  | .hbm, ⟨26, _⟩ => ⟨S64, .f32⟩
  | .hbm, ⟨27, _⟩ => ⟨S1x1x64, .f32⟩
  | .hbm, ⟨28, _⟩ => ⟨S_, .f32⟩
  | .hbm, ⟨29, _⟩ => ⟨S64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel11.lean ====
abbrev S1x64 : Shape := ⟨2, ![1, 64]⟩
abbrev S2048x4224 : Shape := ⟨2, ![2048, 4224]⟩
abbrev S2048x512 : Shape := ⟨2, ![2048, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1024 : Shape := ⟨2, ![1, 1024]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S8x64 : Shape := ⟨2, ![8, 64]⟩
abbrev S_ : Shape := ⟨0, ![]⟩
abbrev S64 : Shape := ⟨1, ![64]⟩

abbrev nBuf : Space → Nat
  | .hbm => 16
  | .vmem => 10
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2048x4224, .f32⟩
  | .hbm, ⟨3, _⟩ => ⟨S2048x512, .f32⟩
  | .hbm, ⟨4, _⟩ => ⟨S1x1x1x64, .f32⟩
  | .hbm, ⟨5, _⟩ => ⟨S1x1x8x64, .f32⟩
  | .hbm, ⟨6, _⟩ => ⟨S1x512, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S1x1024, .f32⟩
  | .hbm, ⟨11, _⟩ => ⟨S2048x512, .bf16⟩
  | .hbm, ⟨12, _⟩ => ⟨S1x512, .f32⟩
  | .hbm, ⟨13, _⟩ => ⟨S8x64, .f32⟩
  | .hbm, ⟨14, _⟩ => ⟨S_, .f32⟩
  | .hbm, ⟨15, _⟩ => ⟨S64, .f32⟩
  | .local _ .vmem, ⟨0, _⟩ => ⟨S1x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S1x64 : Shape := ⟨2, ![1, 64]⟩
abbrev S2048x4224 : Shape := ⟨2, ![2048, 4224]⟩
abbrev S2048x512 : Shape := ⟨2, ![2048, 512]⟩
abbrev S2048x8x64 : Shape := ⟨3, ![2048, 8, 64]⟩
abbrev S64 : Shape := ⟨1, ![64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2048x4224, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S64, .f32⟩
  | .hbm, ⟨7, _⟩ => ⟨S2048x8x64, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x64, .f32⟩
  | .hbm, ⟨19, _⟩ => ⟨S2048x8x64, .f32⟩
  | .hbm, ⟨20, _⟩ => ⟨S1x1x64, .f32⟩
  | .hbm, ⟨21, _⟩ => ⟨S2048x8x64, .f32⟩
  | .hbm, ⟨22, _⟩ => ⟨S2048x8x64, .f32⟩
  | .hbm, ⟨23, _⟩ => ⟨S2048x8x64, .f32⟩
  | .hbm, ⟨24, _⟩ => ⟨S2048x8x64, .f32⟩
  | .hbm, ⟨25, _⟩ => ⟨S_, .f32⟩
  | .hbm, ⟨26, _⟩ => ⟨S64, .f32⟩
  | .hbm, ⟨27, _⟩ => ⟨S1x1x64, .f32⟩
  | .hbm, ⟨28, _⟩ => ⟨S_, .f32⟩
  | .hbm, ⟨29, _⟩ => ⟨S64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel12.lean ====
abbrev S1x64 : Shape := ⟨2, ![1, 64]⟩
abbrev S2048x512 : Shape := ⟨2, ![2048, 512]⟩
abbrev S2048x4224 : Shape := ⟨2, ![2048, 4224]⟩
abbrev S2048x1024 : Shape := ⟨2, ![2048, 1024]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x512 : Shape := ⟨2, ![1, 512]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S8x64 : Shape := ⟨2, ![8, 64]⟩
abbrev S_ : Shape := ⟨0, ![]⟩
abbrev S64 : Shape := ⟨1, ![64]⟩

abbrev nBuf : Space → Nat
  | .hbm => 13
  | .vmem => 13
  | .smem => 0
  | _ => 0

abbrev bufTy : (tb : Table) → Fin (tcTables nBuf tb) → BufTy
  | .hbm, ⟨0, _⟩ => ⟨S1x64, .f32⟩
  | .hbm, ⟨1, _⟩ => ⟨S2048x512, .f32⟩
  | .hbm, ⟨2, _⟩ => ⟨S2048x4224, .f32⟩
  | .hbm, ⟨3, _⟩ => ⟨S2048x1024, .f32⟩
  | .hbm, ⟨4, _⟩ => ⟨S1x1x1x64, .f32⟩
  | .hbm, ⟨5, _⟩ => ⟨S1x1x2x64, .f32⟩
  | .hbm, ⟨6, _⟩ => ⟨S1x128, .f32⟩
  | .hbm, ⟨7, _⟩ => ⟨S2048x512, .f32⟩
  | .hbm, ⟨8, _⟩ => ⟨S2048x512, .bf16⟩
  | .hbm, ⟨9, _⟩ => ⟨S1x512, .f32⟩
  | .hbm, ⟨10, _⟩ => ⟨S8x64, .f32⟩
  | .hbm, ⟨11, _⟩ => ⟨S_, .f32⟩
  | .hbm, ⟨12, _⟩ => ⟨S64, .f32⟩
  | .local _ .vmem, ⟨0, _⟩ => ⟨S1x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1x128, .f32⟩
  | .local _ .vmem, ⟨12, _⟩ => ⟨S1x128, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference12Ideal.lean ====
abbrev S1x64 : Shape := ⟨2, ![1, 64]⟩
abbrev S2048x512 : Shape := ⟨2, ![2048, 512]⟩
abbrev S2048x4224 : Shape := ⟨2, ![2048, 4224]⟩
abbrev S2048x1024 : Shape := ⟨2, ![2048, 1024]⟩
abbrev S2048x8x64 : Shape := ⟨3, ![2048, 8, 64]⟩
abbrev S64 : Shape := ⟨1, ![64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S2048x512, .f32⟩
  | .hbm, ⟨2, _⟩ => ⟨S2048x4224, .f32⟩
  | .hbm, ⟨3, _⟩ => ⟨S2048x1024, .f32⟩
  | .hbm, ⟨4, _⟩ => ⟨S2048x8x64, .f32⟩
  | .hbm, ⟨5, _⟩ => ⟨S2048x512, .f32⟩
  | .hbm, ⟨6, _⟩ => ⟨S2048x8x64, .f32⟩
  | .hbm, ⟨7, _⟩ => ⟨S64, .f32⟩
  | .hbm, ⟨8, _⟩ => ⟨S2048x8x64, .f32⟩
  | .hbm, ⟨9, _⟩ => ⟨S_, .f32⟩
  | .hbm, ⟨10, _⟩ => ⟨S2048x8, .f32⟩
  | .hbm, ⟨11, _⟩ => ⟨S2048x8x1, .f32⟩
  | .hbm, ⟨12, _⟩ => ⟨S_, .f32⟩
  | .hbm, ⟨13, _⟩ => ⟨S2048x8x1, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S2048x8x1, .f32⟩
  | .hbm, ⟨19, _⟩ => ⟨S2048x8x64, .f32⟩
  | .hbm, ⟨20, _⟩ => ⟨S2048x8x64, .f32⟩
  | .hbm, ⟨21, _⟩ => ⟨S1x1x64, .f32⟩
  | .hbm, ⟨22, _⟩ => ⟨S2048x8x64, .f32⟩
  | .hbm, ⟨23, _⟩ => ⟨S2048x8x64, .f32⟩
  | .hbm, ⟨24, _⟩ => ⟨S2048x8x64, .f32⟩
  | .hbm, ⟨25, _⟩ => ⟨S2048x8x64, .f32⟩
  | .hbm, ⟨26, _⟩ => ⟨S_, .f32⟩
  | .hbm, ⟨27, _⟩ => ⟨S2048x8x64, .f32⟩
  | .hbm, ⟨28, _⟩ => ⟨S2048x8x64, .f32⟩
  | .hbm, ⟨29, _⟩ => ⟨S_, .f32⟩
  | .hbm, ⟨30, _⟩ => ⟨S2048x8x64, .f32⟩
  | .hbm, ⟨31, _⟩ => ⟨S2048x8x64, .f32⟩
  | .hbm, ⟨32, _⟩ => ⟨S2048x8x64, .f32⟩
  | .hbm, ⟨33, _⟩ => ⟨S2048x8x64, .f32⟩
  | .hbm, ⟨34, _⟩ => ⟨S2048x512, .f32⟩
  | .hbm, ⟨35, _⟩ => ⟨S2048x8x64, .f32⟩
  | .hbm, ⟨36, _⟩ => ⟨S2048x8x64, .f32⟩
  | .hbm, ⟨37, _⟩ => ⟨S2048x8x64, .f32⟩
  | .hbm, ⟨38, _⟩ => ⟨S_, .f32⟩
  | .hbm, ⟨39, _⟩ => ⟨S64, .f32⟩
  | .hbm, ⟨40, _⟩ => ⟨S1x1x64, .f32⟩
  | .hbm, ⟨41, _⟩ => ⟨S_, .f32⟩
  | .hbm, ⟨42, _⟩ => ⟨S64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.Pipeline.FrameBody

/-!
# What one grid point of the attention backward kernel computes, as functions

One grid point holds a block of 256 keys and values (of one pair of heads) and walks the blocks of 256 queries from its own
(the diagonal tile, where the causal mask cuts) to the last. It carries the gradients of the keys, the values and the two rows
of the cumulative gate, and adds the query gradient of each tile into the rows of the resident query gradient. The functions
below name these values over any interpretation of the floats; `Body` proves the program computes them.
-/

@[expose] public section

set_option maxRecDepth 16384

noncomputable section

namespace Cert.Proof

open Cert.KernelIdeal Cert.KernelIdeal.Gen Idealize.ShloMosaic Idealize.ShloMosaic.TcCoe

variable {F : FTy → Type} [FloatOps F]

/-- The four carried values: gradients of the keys, of the values, and of the two gate rows. -/
abbrev Carry (F : FTy → Type) [FloatOps F] : Type :=
  FVec F S256x128 .f32 × FVec F S256x128 .f32 × FVec F S1x256 .f32 × FVec F S1x256 .f32

/-- The 256 rows at `off` of a buffer of 2048 rows. -/
abbrev rowsAt (X : Vec F S2048x128 .f32) (off : Fin 2 → ℕ) (h : ∀ a, off a + S256x128.size a ≤ S2048x128.size a) :
    Vec F S256x128 .f32 :=
  View.ld X (Rect.unit (s := S2048x128) off S256x128.size h)

/-- The buffer of 2048 rows with the 256 rows at `off` replaced. -/
def putRows (X : Vec F S2048x128 .f32) (off : Fin 2 → ℕ) (h : ∀ a, off a + S256x128.size a ≤ S2048x128.size a)
    (w : Vec F S256x128 .f32) : Vec F S2048x128 .f32 :=
  (Rect.unit (s := S2048x128) off S256x128.size h).overlay X w

/-- The gate row of the pair's first head. -/
abbrev gate0 (x3 : Vec F S1x2x256 .f32) : Vec F S1x1x256 .f32 :=
  View.ld x3 (Rect.unit (s := S1x2x256) ![0, 0, 0] S1x1x256.size inb_S1x2x256_S1x1x256_0_0_0)

/-- The gate row of the pair's second head. -/
abbrev gate1 (x3 : Vec F S1x2x256 .f32) : Vec F S1x1x256 .f32 :=
  View.ld x3 (Rect.unit (s := S1x2x256) ![0, 1, 0] S1x1x256.size inb_S1x2x256_S1x1x256_0_1_0)

/-- The mask's fill value, minus infinity. -/
abbrev ninf : F .f32 := Scalar.ofBits .f32 0xFF800000#32

/-! ## A tile below the diagonal -/

section Tile

variable (x1 x2 : Vec F S256x128 .f32) (g0 g1 : Vec F S1x1x256 .f32) (q o l g : Vec F S256x128 .f32)

/-- The first head's score gradient of a tile. -/
def tileDs0 : FVec F S256x256 .f32 :=
  k0_pay12 k0_pay34 (k0_pay37 x1) (k0_pay38 x2) (k0_pay41 g0) (k0_pay5 g o) (k0_pay6 k0_pay34 q) (k0_pay7 k0_pay34 g)
    (k0_pay8 k0_pay34 l) ninf

/-- The second head's probabilities of a tile. -/
def tileP1 : FVec F S256x256 .f32 :=
  k0_pay13 k0_pay34 k0_pay35 (k0_pay37 x1) (k0_pay42 g1) (k0_pay3 q) (k0_pay4 l)

/-- The second head's score gradient of a tile. -/
def tileDs1 : FVec F S256x256 .f32 :=
  k0_pay14 k0_pay34 k0_pay35 (k0_pay37 x1) (k0_pay38 x2) (k0_pay42 g1) (k0_pay3 q) g (k0_pay4 l) (k0_pay5 g o)

/-- The first head's part of the value gradient of a tile. -/
def tileDv0 : FVec F S256x128 .f32 :=
  k0_pay15 (k0_pay37 x1) (k0_pay41 g0) (k0_pay6 k0_pay34 q) (k0_pay7 k0_pay34 g) (k0_pay8 k0_pay34 l)

/-- The first head's part of the key gradient of a tile. -/
def tileDk0 : FVec F S256x128 .f32 :=
  k0_pay16 k0_pay34 (k0_pay37 x1) (k0_pay38 x2) (k0_pay41 g0) (k0_pay5 g o) (k0_pay6 k0_pay34 q) (k0_pay7 k0_pay34 g)
    (k0_pay8 k0_pay34 l) ninf

/-- The first head's score gradient of a tile, as the query product takes it. -/
def tileDs0b : FVec F S256x256 .bf16 :=
  k0_pay17 k0_pay34 (k0_pay37 x1) (k0_pay38 x2) (k0_pay41 g0) (k0_pay5 g o) (k0_pay6 k0_pay34 q) (k0_pay7 k0_pay34 g)
    (k0_pay8 k0_pay34 l) ninf

/-- The carried values after a tile. -/
def tileC (acc : Carry F) : Carry F :=
  (k0_pay67 acc.1 (k0_pay9 k0_pay35 (k0_pay3 q)) (tileDs1 x1 x2 g1 q o l g) (tileDk0 x1 x2 g0 q o l g),
   k0_pay68 acc.2.1 (k0_pay10 k0_pay35 g) (tileP1 x1 g1 q l) (tileDv0 x1 g0 q l g),
   k0_pay69 acc.2.2.1 (tileDs0 x1 x2 g0 q o l g),
   k0_pay70 acc.2.2.2 (tileDs1 x1 x2 g1 q o l g))

/-- A tile's rows of the query gradient, from what they held. -/
def tileQ (d : Vec F S256x128 .f32) : Vec F S256x128 .f32 :=
  k0_pay66 (k0_pay39 x1) (k0_pay40 x1) (tileDs1 x1 x2 g1 q o l g) (tileDs0b x1 x2 g0 q o l g) d

/-! ## The tile on the diagonal -/

/-- The second head's masked queries on the diagonal. -/
def diagQh1 : FVec F S256x128 .bf16 := k0_pay52 k0_pay35 (k0_pay45 q)

/-- The first head's score gradient on the diagonal. -/
def diagDs0 : FVec F S256x256 .f32 :=
  k0_pay56 (k0_pay37 x1) (k0_pay38 x2) (k0_pay41 g0) (k0_pay48 k0_pay34 (k0_pay45 q)) (k0_pay49 k0_pay34 g)
    (k0_pay50 k0_pay34 l) (k0_pay51 k0_pay34 g o)

/-- The second head's probabilities on the diagonal. -/
def diagP1 : FVec F S256x256 .f32 :=
  k0_pay57 k0_pay34 (k0_pay37 x1) (k0_pay42 g1) (k0_pay46 l) (diagQh1 q)

/-- The second head's score gradient on the diagonal. -/
def diagDs1 : FVec F S256x256 .f32 :=
  k0_pay58 k0_pay34 k0_pay35 (k0_pay37 x1) (k0_pay38 x2) (k0_pay42 g1) g (k0_pay46 l) (k0_pay47 g o) (diagQh1 q) k0_pay53

/-- The first head's part of the value gradient on the diagonal. -/
def diagDv0 : FVec F S256x128 .f32 :=
  k0_pay59 (k0_pay37 x1) (k0_pay41 g0) (k0_pay48 k0_pay34 (k0_pay45 q)) (k0_pay49 k0_pay34 g) (k0_pay50 k0_pay34 l)

/-- The first head's part of the key gradient on the diagonal. -/
def diagDk0 : FVec F S256x128 .f32 :=
  k0_pay60 (k0_pay37 x1) (k0_pay38 x2) (k0_pay41 g0) (k0_pay48 k0_pay34 (k0_pay45 q)) (k0_pay49 k0_pay34 g)
    (k0_pay50 k0_pay34 l) (k0_pay51 k0_pay34 g o)

/-- The carried values after the diagonal tile. -/
def diagC : Carry F :=
  (k0_pay62 k0_pay43 (diagQh1 q) (diagDs1 x1 x2 g1 q o l g) (diagDk0 x1 x2 g0 q o l g),
   k0_pay63 k0_pay43 (k0_pay54 k0_pay35 g k0_pay53) (diagP1 x1 g1 q l) (diagDv0 x1 g0 q l g),
   k0_pay64 k0_pay44 (diagDs0 x1 x2 g0 q o l g),
   k0_pay65 k0_pay44 (diagDs1 x1 x2 g1 q o l g))

/-- The diagonal tile's rows of the query gradient, from what they held. -/
def diagQ (d : Vec F S256x128 .f32) : Vec F S256x128 .f32 :=
  k0_pay61 (k0_pay39 x1) (k0_pay40 x1) (diagDs0 x1 x2 g0 q o l g) (diagDs1 x1 x2 g1 q o l g) d

end Tile

/-! ## The walk over the query blocks -/

section Walk

variable (i : grid0.Coords) (x0 : Vec F S2048x128 .f32) (x1 x2 : Vec F S256x128 .f32) (x3 : Vec F S1x2x256 .f32)
  (x4 x5 x6 : Vec F S2048x128 .f32)

/-- The query gradient the diagonal tile finds: zeros at the first key block, else what the key blocks before left. -/
def start (d : Vec F S2048x128 .f32) : Vec F S2048x128 .f32 :=
  if (i 1).val = 0 then k0_pay33 else d

/-- After the diagonal tile: the carried values and the query gradient. -/
def diagState (d : Vec F S2048x128 .f32) : Carry F × Vec F S2048x128 .f32 :=
  (diagC x1 x2 (gate0 x3) (gate1 x3) (rowsAt x0 (k0_off1 i) (k0_off1_inb i)) (rowsAt x4 (k0_off1 i) (k0_off1_inb i))
      (rowsAt x5 (k0_off1 i) (k0_off1_inb i)) (rowsAt x6 (k0_off1 i) (k0_off1_inb i)),
   putRows d (k0_off1 i) (k0_off1_inb i)
     (diagQ x1 x2 (gate0 x3) (gate1 x3) (rowsAt x0 (k0_off1 i) (k0_off1_inb i)) (rowsAt x4 (k0_off1 i) (k0_off1_inb i))
       (rowsAt x5 (k0_off1 i) (k0_off1_inb i)) (rowsAt x6 (k0_off1 i) (k0_off1_inb i))
       (rowsAt d (k0_off1 i) (k0_off1_inb i))))

/-- One tile below the diagonal. -/
def tileState (k : Fin (k0_t1_loop i).trips) (s : Carry F × Vec F S2048x128 .f32) : Carry F × Vec F S2048x128 .f32 :=
  (tileC x1 x2 (gate0 x3) (gate1 x3) (rowsAt x0 (k0_off2 i k) (k0_off2_inb i k)) (rowsAt x4 (k0_off2 i k) (k0_off2_inb i k))
      (rowsAt x5 (k0_off2 i k) (k0_off2_inb i k)) (rowsAt x6 (k0_off2 i k) (k0_off2_inb i k)) s.1,
   putRows s.2 (k0_off2 i k) (k0_off2_inb i k)
     (tileQ x1 x2 (gate0 x3) (gate1 x3) (rowsAt x0 (k0_off2 i k) (k0_off2_inb i k))
       (rowsAt x4 (k0_off2 i k) (k0_off2_inb i k)) (rowsAt x5 (k0_off2 i k) (k0_off2_inb i k))
       (rowsAt x6 (k0_off2 i k) (k0_off2_inb i k)) (rowsAt s.2 (k0_off2 i k) (k0_off2_inb i k))))

/-- The state before tile `n` of the walk, from the state `s` after the diagonal tile. -/
def walk (s : Carry F × Vec F S2048x128 .f32) : ℕ → Carry F × Vec F S2048x128 .f32
  | 0 => s
  | n + 1 => if h : n < (k0_t1_loop i).trips then tileState i x0 x1 x2 x3 x4 x5 x6 ⟨n, h⟩ (walk s n) else walk s n

theorem walk_succ (s : Carry F × Vec F S2048x128 .f32) (k : Fin (k0_t1_loop i).trips) :
    walk i x0 x1 x2 x3 x4 x5 x6 s (k.val + 1) = tileState i x0 x1 x2 x3 x4 x5 x6 k (walk i x0 x1 x2 x3 x4 x5 x6 s k.val) := by
  rw [walk]; exact dif_pos k.isLt

/-- What the grid point leaves: the carried values and the query gradient, from the query gradient `d` it finds. -/
def point (d : Vec F S2048x128 .f32) : Carry F × Vec F S2048x128 .f32 :=
  walk i x0 x1 x2 x3 x4 x5 x6 (diagState i x0 x1 x2 x3 x4 x5 x6 (start i d)) (k0_t1_loop i).trips

/-- The two stored rows of the gate gradient. -/
def gateOut (a b : FVec F S1x256 .f32) : Vec F S1x2x256 .f32 :=
  View.canon (Val := Elt F) (s := S1x2x256) (e := .f32)
    [⟨Rect.unit (s := S1x2x256) ![0, 1, 0] S1x1x256.size inb_S1x2x256_S1x1x256_0_1_0, k0_pay2 b⟩,
     ⟨Rect.unit (s := S1x2x256) ![0, 0, 0] S1x1x256.size inb_S1x2x256_S1x1x256_0_0_0, k0_pay1 a⟩]

end Walk

end Cert.Proof

end
-- ==== Proof.Body.lean ====
module

public import proofs.«01_k».proof.Proof.Step
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-!
# The body of one grid point runs and leaves what `Step` names
-/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a list of stores leaves, the last one laid over the rest. -/
theorem read_writes_cons_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

section Trips

variable (𝒱 : Variants) (c : Dev nD) (bd : Option 𝒱.V) (i : grid0.Coords) (arg2 : Memref sig .tc .vmem S2048x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x2x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S1x2x256 .f32) (harg12 : arg12.IsWhole)
  (arg1 : BitVec 32) (v25 : FVec F S256x128 .f32) (v26 : FVec F S1x256 .f32) (v28 : BitVec 32) (v76 v79 : FVec F S256x128 .bf16)
  (v113 v116 v119 : FVec F S256x256 .f32) (v121 v123 : FVec F S256x128 .f32) (v151 : BitVec 32)
  (x0 : Vec F S2048x128 .f32) (x1 x2 : Vec F S256x128 .f32) (x3 : Vec F S1x2x256 .f32) (x4 x5 x6 : Vec F S2048x128 .f32)

/-- A tile's carried values are the ones `tileState` names. -/
theorem tripR_eq (k : Fin (k0_t1_loop i).trips) (acc : Carry F) (f : BufTy.Contents (Elt F) arg9.view.ty) (d : Vec F S2048x128 .f32) :
    tripR_k0_t1 (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) k acc f
      = (tileState i x0 x1 x2 x3 x4 x5 x6 k (acc, d)).1 := by
  unfold tripR_k0_t1 trip_k0_t1
  dsimp only
  simp only [trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r, View.readAt_eq_ld, harg2.read_unread, harg6.read_unread, harg7.read_unread, harg8.read_unread]
  rfl

/-- A tile stores one piece, the rows `tileState` puts. -/
theorem tripL_eq (k : Fin (k0_t1_loop i).trips) (acc : Carry F) (f : BufTy.Contents (Elt F) arg9.view.ty) :
    arg9.view.read (Elt F) (arg9.view.writes (Elt F) f (tripL_k0_t1 (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) k acc f))
      = (tileState i x0 x1 x2 x3 x4 x5 x6 k (acc, arg9.view.read (Elt F) f)).2 := by
  unfold tripL_k0_t1 trip_k0_t1
  dsimp only
  simp only [View.readAt_eq_ld, harg2.read_unread, harg6.read_unread, harg7.read_unread, harg8.read_unread]
  rw [read_writes_cons_overlay, View.writes_nil]
  simp only [trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r, View.readAt_eq_ld, harg2.read_unread, harg6.read_unread, harg7.read_unread, harg8.read_unread]
  rfl

/-- Before tile `n` the loop holds the walk's state. -/
theorem st_eq (G : BufTy.Contents (Elt F) arg9.view.ty) (init : Carry F) : ∀ n ≤ (k0_t1_loop i).trips,
    (st_k0_t1 (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) G init n).1 = (walk i x0 x1 x2 x3 x4 x5 x6 (init, arg9.view.read (Elt F) G) n).1
    ∧ arg9.view.read (Elt F) (arg9.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) G init n).2)
      = (walk i x0 x1 x2 x3 x4 x5 x6 (init, arg9.view.read (Elt F) G) n).2
  | 0, _ => ⟨rfl, by rw [st_k0_t1.eq_1, View.writes_nil]; rfl⟩
  | n + 1, hn => by
    obtain ⟨h1, h2⟩ := st_eq G init n (Nat.le_of_succ_le hn)
    have e := st_k0_t1_succ (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) G init ⟨n, hn⟩
    have w := walk_succ i x0 x1 x2 x3 x4 x5 x6 (init, arg9.view.read (Elt F) G) ⟨n, hn⟩
    dsimp only at e w
    rw [e, w]
    constructor
    · rw [tripR_eq (d := (walk i x0 x1 x2 x3 x4 x5 x6 (init, arg9.view.read (Elt F) G) n).2), h1]
    · rw [View.writes_append, tripL_eq, h1, h2]

/-- After the last tile: the carried values and the query gradient are the walk's, from the state the loop started at. -/
theorem fin_eq (n : ℕ) (hn : n = (k0_t1_loop i).trips) (G : BufTy.Contents (Elt F) arg9.view.ty) (init : Carry F) (s : Carry F × Vec F S2048x128 .f32)
    (hs : (init, arg9.view.read (Elt F) G) = s) :
    (st_k0_t1 (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) G init n).1 = (walk i x0 x1 x2 x3 x4 x5 x6 s (k0_t1_loop i).trips).1
    ∧ arg9.view.read (Elt F) (arg9.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg1 k0_pay34 k0_pay35 (k0_pay37 x1) (k0_pay38 x2) (k0_pay39 x1) (k0_pay40 x1) (k0_pay41 (gate0 x3)) (k0_pay42 (gate1 x3)) v25 v26 v28 v76 v79 v113 v116 v119 v121 v123 v151 (harg2.unread x0) (harg6.unread x4) (harg7.unread x5) (harg8.unread x6) G init n).2)
      = (walk i x0 x1 x2 x3 x4 x5 x6 s (k0_t1_loop i).trips).2 := by
  subst hs hn
  exact st_eq 𝒱 c bd i arg2 harg2 arg3 harg3 arg4 harg4 arg5 harg5 arg6 harg6 arg7 harg7 arg8 harg8 arg9 harg9 arg10 harg10 arg11 harg11 arg12 harg12 arg1 v25 v26 v28 v76 v79 v113 v116 v119 v121 v123 v151 x0 x1 x2 x3 x4 x5 x6 G init _ le_rfl

end Trips

/-- A load of a whole 256×128 block is the block. -/
theorem ld_block {e : EltTy} (X : Vec F S256x128 e) :
    View.ld X (Rect.unit (s := S256x128) ![0, 0] ![256, 128] inb_S256x128_S256x128_0_0) = X :=
  View.ld_unit_zero (by funext a; fin_cases a <;> rfl) _ X

/-- The second loop (the remainder of an unrolling by one) has no trip. -/
theorem trips2 (i : grid0.Coords) : (k0_t2_loop i).trips = 0 := Nat.le_zero.mp (k0_t2_abs i).2.1

/-- The second loop leaves its initial state. -/
theorem st2_eq (𝒱 : Variants) (c : Dev nD) (bd : Option 𝒱.V) (i : grid0.Coords) (arg2 : Memref sig .tc .vmem S2048x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x2x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S1x2x256 .f32) (harg12 : arg12.IsWhole) (arg1 : BitVec 32) (v5 : IVec S256x128 1) (v6 : IVec S256x128 1) (v12 : FVec F S256x128 .bf16) (v14 : FVec F S256x128 .bf16) (v17 : FVec F S256x128 .bf16) (v20 : FVec F S256x128 .bf16) (v22 : FVec F S1x256 .f32) (v24 : FVec F S1x256 .f32) (v25 : FVec F S256x128 .f32) (v26 : FVec F S1x256 .f32) (v28 : BitVec 32) (v76 : FVec F S256x128 .bf16) (v79 : FVec F S256x128 .bf16) (v113 : FVec F S256x256 .f32) (v116 : FVec F S256x256 .f32) (v119 : FVec F S256x256 .f32) (v121 : FVec F S256x128 .f32) (v123 : FVec F S256x128 .f32) (v156 : BitVec 32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (init : FVec F S256x128 .f32 × FVec F S256x128 .f32 × FVec F S1x256 .f32 × FVec F S1x256 .f32) :
    st_k0_t2 (F := F) 𝒱 c bd i arg2 harg2 arg3 harg3 arg4 harg4 arg5 harg5 arg6 harg6 arg7 harg7 arg8 harg8 arg9 harg9 arg10 harg10 arg11 harg11 arg12 harg12 arg1 v5 v6 v12 v14 v17 v20 v22 v24 v25 v26 v28 v76 v79 v113 v116 v119 v121 v123 v156 X_arg2 X_arg6 X_arg7 X_arg8 G_arg9 init (Scf.trips (k0_t2_loop i).lb (k0_t2_loop i).ub (k0_t2_loop i).st) = (init, []) := by
  have h : Scf.trips (k0_t2_loop i).lb (k0_t2_loop i).ub (k0_t2_loop i).st = 0 := trips2 i
  rw [h]; rfl

/-- One store over a whole buffer reads as what was stored. -/
theorem read_whole {S : Shape} {e : EltTy} (v : View sig .tc .vmem S e) (f : v.ty.Contents (Elt F)) {off : Fin S.rank → ℕ}
    (h : off = fun _ => 0) (inb : ∀ a, off a + S.size a ≤ S.size a) (w : Vec F S e) :
    v.read (Elt F) (v.writes (Elt F) f [⟨Rect.unit off S.size inb, w⟩]) = w := by
  rw [View.read_writes_eq_canon v f _ fun y => ⟨_, List.mem_singleton_self _, View.mem_set_unit_zero h inb y⟩]
  exact View.canon_unit_zero h inb w

/-- Zeros stored over the resident query gradient read as zeros. -/
theorem read_fill (v : View sig .tc .vmem S2048x128 .f32) (f : v.ty.Contents (Elt F)) (w : Vec F S2048x128 .f32) :
    v.read (Elt F) (v.writes (Elt F) f [⟨Rect.unit (s := S2048x128) ![0, 0] ![2048, 128] inb_S2048x128_S2048x128_0_0, w⟩]) = w :=
  read_whole v f (by funext a; fin_cases a <;> rfl) _ w

/-- A block stored whole reads as what was stored. -/
theorem read_block {e : EltTy} (v : View sig .tc .vmem S256x128 e) (f : v.ty.Contents (Elt F)) (w : Vec F S256x128 e) :
    v.read (Elt F) (v.writes (Elt F) f [⟨Rect.unit (s := S256x128) ![0, 0] S256x128.size inb_S256x128_S256x128_0_0, w⟩]) = w :=
  read_whole v f (by funext a; fin_cases a <;> rfl) _ w

/-- The two stored rows fill the gate gradient's block. -/
theorem read_gate (v : View sig .tc .vmem S1x2x256 .f32) (f : v.ty.Contents (Elt F)) (a b : FVec F S1x256 .f32) :
    v.read (Elt F) (v.writes (Elt F) f
      [⟨Rect.unit (s := S1x2x256) ![0, 1, 0] S1x1x256.size inb_S1x2x256_S1x1x256_0_1_0, k0_pay2 b⟩,
       ⟨Rect.unit (s := S1x2x256) ![0, 0, 0] S1x1x256.size inb_S1x2x256_S1x1x256_0_0_0, k0_pay1 a⟩]) = gateOut a b := by
  refine View.read_writes_eq_canon v f _ fun y => ?_
  have h0 : (y 0).val < 1 := (y 0).isLt
  have h1 : (y 1).val < 2 := (y 1).isLt
  have h2 : (y 2).val < 256 := (y 2).isLt
  by_cases hy : (y 1).val = 0
  · have h : y ∈ (Rect.unit (s := S1x2x256) ![0, 0, 0] S1x1x256.size inb_S1x2x256_S1x1x256_0_0_0).set := by
      rw [Rect.mem_set_unit]; intro a
      fin_cases a <;> simp [S1x1x256, hy] <;> omega
    exact ⟨_, List.mem_cons_of_mem _ (List.mem_singleton_self _), h⟩
  · have h : y ∈ (Rect.unit (s := S1x2x256) ![0, 1, 0] S1x1x256.size inb_S1x2x256_S1x1x256_0_1_0).set := by
      rw [Rect.mem_set_unit]; intro a
      fin_cases a <;> simp [S1x1x256] <;> omega
    exact ⟨_, List.mem_cons_self .., h⟩

/-- The condition of the zeroing at the first key block, in closed form. -/
theorem cond_iff (i : grid0.Coords) :
    (Scalar.cmpi .ne (Scalar.extui (Scalar.cmpi .eq (BitVec.ofNat 32 (i 1).val) 0#32) : BitVec 32) 0#32 = 1#1) ↔ (i 1).val = 0 := by
  revert i; decide +kernel

set_option maxHeartbeats 1000000 in
/-- The body's triple: on whole buffers, the inputs at their contents and the resident query gradient at `d`, the body leaves
the outputs at what `point` names. -/
theorem body_run (c : Dev nD) (i : grid0.Coords) (arg2 : Memref sig .tc .vmem S2048x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x2x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S1x2x256 .f32) (harg12 : arg12.IsWhole)
    (x0 : Vec F S2048x128 .f32) (x1 x2 : Vec F S256x128 .f32) (x3 : Vec F S1x2x256 .f32) (x4 x5 x6 d : Vec F S2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ owns (c : Thread nD τ) arg9 fullShare (point i x0 x1 x2 x3 x4 x5 x6 d).2
              ∗ owns (c : Thread nD τ) arg10 fullShare (point i x0 x1 x2 x3 x4 x5 x6 d).1.1
              ∗ owns (c : Thread nD τ) arg11 fullShare (k0_pay76 (point i x0 x1 x2 x3 x4 x5 x6 d).1.2.1)
              ∗ owns (c : Thread nD τ) arg12 fullShare (gateOut (point i x0 x1 x2 x3 x4 x5 x6 d).1.2.2.1 (point i x0 x1 x2 x3 x4 x5 x6 d).1.2.2.2)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
    intro E K
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    by_cases hc : (i 1).val = 0
    · have hc0 := (cond_iff i).mpr hc
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; swap; · iexact H7
        ipureintro
        rw [st2_eq]
        generalize hn : Scf.trips (k0_t1_loop i).lb (k0_t1_loop i).ub (k0_t1_loop i).st = n
        delta body_run.sl.r_22 body_run.sl.r_21 body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v151 body_run.sl.H7_1 body_run.sl.v27
        simp only [View.readAt_eq_ld, hf0, hf1, hf2, hf3, hf4, hf5, hf6, hf7, ld_block, List.nil_append]
        rw [View.writes_append]
        refine (fin_eq (x0 := x0) (x1 := x1) (x2 := x2) (x3 := x3) (x4 := x4) (x5 := x5) (x6 := x6) (n := n) (hn := hn.symm) (s := diagState i x0 x1 x2 x3 x4 x5 x6 (start i d)) (hs := ?_) ..).2
        rw [read_writes_cons_overlay]
        simp only [read_fill, start, if_pos hc]
        rfl
      isplitl [H8]
      · iexists _; isplitr; swap; · iexact H8
        ipureintro
        rw [read_block]
        rw [st2_eq]
        generalize hn : Scf.trips (k0_t1_loop i).lb (k0_t1_loop i).ub (k0_t1_loop i).st = n
        delta body_run.sl.r_22 body_run.sl.r_21 body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v151 body_run.sl.H7_1 body_run.sl.v27
        simp only [View.readAt_eq_ld, hf0, hf1, hf2, hf3, hf4, hf5, hf6, hf7, ld_block, List.nil_append]
        refine congrArg (·.1) (fin_eq (x0 := x0) (x1 := x1) (x2 := x2) (x3 := x3) (x4 := x4) (x5 := x5) (x6 := x6) (n := n) (hn := hn.symm) (s := diagState i x0 x1 x2 x3 x4 x5 x6 (start i d)) (hs := ?_) ..).1
        rw [read_writes_cons_overlay]
        simp only [read_fill, start, if_pos hc]
        rfl
      isplitl [H9]
      · iexists _; isplitr; swap; · iexact H9
        ipureintro
        rw [read_block]
        rw [st2_eq]
        generalize hn : Scf.trips (k0_t1_loop i).lb (k0_t1_loop i).ub (k0_t1_loop i).st = n
        delta body_run.sl.r_22 body_run.sl.r_21 body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v151 body_run.sl.H7_1 body_run.sl.v27
        simp only [View.readAt_eq_ld, hf0, hf1, hf2, hf3, hf4, hf5, hf6, hf7, ld_block, List.nil_append]
        refine congrArg (fun s : Carry F => k0_pay76 s.2.1) (fin_eq (x0 := x0) (x1 := x1) (x2 := x2) (x3 := x3) (x4 := x4) (x5 := x5) (x6 := x6) (n := n) (hn := hn.symm) (s := diagState i x0 x1 x2 x3 x4 x5 x6 (start i d)) (hs := ?_) ..).1
        rw [read_writes_cons_overlay]
        simp only [read_fill, start, if_pos hc]
        rfl
      iexists _; isplitr; swap; · iexact H10
      ipureintro
      rw [read_gate]
      delta body_run.sl.r_22 body_run.sl.r_21
      rw [st2_eq]
      generalize hn : Scf.trips (k0_t1_loop i).lb (k0_t1_loop i).ub (k0_t1_loop i).st = n
      delta body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v151 body_run.sl.H7_1 body_run.sl.v27
      simp only [View.readAt_eq_ld, hf0, hf1, hf2, hf3, hf4, hf5, hf6, hf7, ld_block, List.nil_append]
      refine congrArg (fun s : Carry F => gateOut s.2.2.1 s.2.2.2) (fin_eq (x0 := x0) (x1 := x1) (x2 := x2) (x3 := x3) (x4 := x4) (x5 := x5) (x6 := x6) (n := n) (hn := hn.symm) (s := diagState i x0 x1 x2 x3 x4 x5 x6 (start i d)) (hs := ?_) ..).1
      rw [read_writes_cons_overlay]
      simp only [read_fill, start, if_pos hc]
      rfl
    · have hc0 : ¬ (Scalar.cmpi .ne (Scalar.extui (Scalar.cmpi .eq (BitVec.ofNat 32 (i 1).val) 0#32) : BitVec 32) 0#32 = 1#1) := fun h => hc ((cond_iff i).mp h)
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; swap; · iexact H7
        ipureintro
        rw [st2_eq]
        generalize hn : Scf.trips (k0_t1_loop i).lb (k0_t1_loop i).ub (k0_t1_loop i).st = n
        delta body_run.sl.r_45 body_run.sl.r_44 body_run.sl.r_43 body_run.sl.r_42 body_run.sl.r_41 body_run.sl.r_40 body_run.sl.r_39 body_run.sl.r_38 body_run.sl.r_37 body_run.sl.r_36 body_run.sl.r_35 body_run.sl.r_34 body_run.sl.r_33 body_run.sl.r_32 body_run.sl.r_31 body_run.sl.r_30 body_run.sl.r_29 body_run.sl.r_28 body_run.sl.r_27 body_run.sl.r_26 body_run.sl.r_25 body_run.sl.r_24 body_run.sl.r_23 body_run.sl.v151_1 body_run.sl.v27_1
        simp only [View.readAt_eq_ld, hf0, hf1, hf2, hf3, hf4, hf5, hf6, hf7, ld_block, List.nil_append]
        rw [View.writes_append]
        refine (fin_eq (x0 := x0) (x1 := x1) (x2 := x2) (x3 := x3) (x4 := x4) (x5 := x5) (x6 := x6) (n := n) (hn := hn.symm) (s := diagState i x0 x1 x2 x3 x4 x5 x6 (start i d)) (hs := ?_) ..).2
        rw [read_writes_cons_overlay]
        simp only [View.writes_nil, hf7, start, if_neg hc]
        rfl
      isplitl [H8]
      · iexists _; isplitr; swap; · iexact H8
        ipureintro
        rw [read_block]
        rw [st2_eq]
        generalize hn : Scf.trips (k0_t1_loop i).lb (k0_t1_loop i).ub (k0_t1_loop i).st = n
        delta body_run.sl.r_45 body_run.sl.r_44 body_run.sl.r_43 body_run.sl.r_42 body_run.sl.r_41 body_run.sl.r_40 body_run.sl.r_39 body_run.sl.r_38 body_run.sl.r_37 body_run.sl.r_36 body_run.sl.r_35 body_run.sl.r_34 body_run.sl.r_33 body_run.sl.r_32 body_run.sl.r_31 body_run.sl.r_30 body_run.sl.r_29 body_run.sl.r_28 body_run.sl.r_27 body_run.sl.r_26 body_run.sl.r_25 body_run.sl.r_24 body_run.sl.r_23 body_run.sl.v151_1 body_run.sl.v27_1
        simp only [View.readAt_eq_ld, hf0, hf1, hf2, hf3, hf4, hf5, hf6, hf7, ld_block, List.nil_append]
        refine congrArg (·.1) (fin_eq (x0 := x0) (x1 := x1) (x2 := x2) (x3 := x3) (x4 := x4) (x5 := x5) (x6 := x6) (n := n) (hn := hn.symm) (s := diagState i x0 x1 x2 x3 x4 x5 x6 (start i d)) (hs := ?_) ..).1
        rw [read_writes_cons_overlay]
        simp only [View.writes_nil, hf7, start, if_neg hc]
        rfl
      isplitl [H9]
      · iexists _; isplitr; swap; · iexact H9
        ipureintro
        rw [read_block]
        rw [st2_eq]
        generalize hn : Scf.trips (k0_t1_loop i).lb (k0_t1_loop i).ub (k0_t1_loop i).st = n
        delta body_run.sl.r_45 body_run.sl.r_44 body_run.sl.r_43 body_run.sl.r_42 body_run.sl.r_41 body_run.sl.r_40 body_run.sl.r_39 body_run.sl.r_38 body_run.sl.r_37 body_run.sl.r_36 body_run.sl.r_35 body_run.sl.r_34 body_run.sl.r_33 body_run.sl.r_32 body_run.sl.r_31 body_run.sl.r_30 body_run.sl.r_29 body_run.sl.r_28 body_run.sl.r_27 body_run.sl.r_26 body_run.sl.r_25 body_run.sl.r_24 body_run.sl.r_23 body_run.sl.v151_1 body_run.sl.v27_1
        simp only [View.readAt_eq_ld, hf0, hf1, hf2, hf3, hf4, hf5, hf6, hf7, ld_block, List.nil_append]
        refine congrArg (fun s : Carry F => k0_pay76 s.2.1) (fin_eq (x0 := x0) (x1 := x1) (x2 := x2) (x3 := x3) (x4 := x4) (x5 := x5) (x6 := x6) (n := n) (hn := hn.symm) (s := diagState i x0 x1 x2 x3 x4 x5 x6 (start i d)) (hs := ?_) ..).1
        rw [read_writes_cons_overlay]
        simp only [View.writes_nil, hf7, start, if_neg hc]
        rfl
      iexists _; isplitr; swap; · iexact H10
      ipureintro
      rw [read_gate]
      delta body_run.sl.r_45 body_run.sl.r_44
      rw [st2_eq]
      generalize hn : Scf.trips (k0_t1_loop i).lb (k0_t1_loop i).ub (k0_t1_loop i).st = n
      delta body_run.sl.r_43 body_run.sl.r_42 body_run.sl.r_41 body_run.sl.r_40 body_run.sl.r_39 body_run.sl.r_38 body_run.sl.r_37 body_run.sl.r_36 body_run.sl.r_35 body_run.sl.r_34 body_run.sl.r_33 body_run.sl.r_32 body_run.sl.r_31 body_run.sl.r_30 body_run.sl.r_29 body_run.sl.r_28 body_run.sl.r_27 body_run.sl.r_26 body_run.sl.r_25 body_run.sl.r_24 body_run.sl.r_23 body_run.sl.v151_1 body_run.sl.v27_1
      simp only [View.readAt_eq_ld, hf0, hf1, hf2, hf3, hf4, hf5, hf6, hf7, ld_block, List.nil_append]
      refine congrArg (fun s : Carry F => gateOut s.2.2.1 s.2.2.2) (fin_eq (x0 := x0) (x1 := x1) (x2 := x2) (x3 := x3) (x4 := x4) (x5 := x5) (x6 := x6) (n := n) (hn := hn.symm) (s := diagState i x0 x1 x2 x3 x4 x5 x6 (start i d)) (hs := ?_) ..).1
      rw [read_writes_cons_overlay]
      simp only [View.writes_nil, hf7, start, if_neg hc]
      rfl

end Cert.Proof
end
-- ==== Proof.Run.lean ====
module

public import proofs.«01_k».proof.Proof.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.Claim

/-!
# The launch

The grid runs the body at 32 points (four pairs of heads, eight key blocks each). The query gradient's block stays in its
buffer over the eight key blocks of a pair: `found` is what each point finds there, and every output's block after a point is
named by `point`. The run ends with every output array at what the write-backs put together of these blocks, and with the
arguments unchanged.
-/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- What point `t` leaves, from the query gradient `d` it finds: the carried values and the query gradient. -/
def pt (c : Dev nD) (t : Fin cfg0.N) (d : Vec F S2048x128 .f32) : Carry F × Vec F S2048x128 .f32 :=
  point (grid0.coords t) (iblk m c 0 t) (iblk m c 1 t) (iblk m c 2 t) (iblk m c 3 t) (iblk m c 4 t) (iblk m c 5 t) (iblk m c 6 t) d

/-- The query gradient point `n` finds. -/
def found (c : Dev nD) : ℕ → Vec F S2048x128 .f32
  | 0 => k0_pay33
  | n + 1 => if h : n < cfg0.N then (pt m c ⟨n, h⟩ (found c n)).2 else found c n

theorem found_succ (c : Dev nD) (t : Fin cfg0.N) : found m c (t.val + 1) = (pt m c t (found m c t.val)).2 := by
  rw [found]; exact dif_pos t.isLt

/-- The key block's number at point `t`. -/
theorem coord1 (t : Fin cfg0.N) : (grid0.coords t 1).val = t.val % 8 := by
  have e1 : (grid0.coords t 1).val = t.val / 1 % 8 := Pipeline.Grid.coords_val t 1 (by decide) rfl
  rwa [Nat.div_one] at e1

/-- The pair's number at point `t`. -/
theorem coord0 (t : Fin cfg0.N) : (grid0.coords t 0).val = t.val / 8 := by
  have ht : t.val < 32 := Nat.lt_of_lt_of_eq t.isLt N_0
  have e0 : (grid0.coords t 0).val = t.val / 8 % 4 := Pipeline.Grid.coords_val t 0 (by decide) rfl
  omega

/-- At a pair's first key block the query gradient found does not matter. -/
theorem pt_reset (c : Dev nD) (t : Fin cfg0.N) (h : t.val % 8 = 0) (d d' : Vec F S2048x128 .f32) : pt m c t d = pt m c t d' := by
  have h' : (grid0.coords t 1).val = 0 := (coord1 t).trans h
  unfold pt point start
  rw [if_pos h', if_pos h']

/-! ## The pipeline's proof data -/

/-- The arrays as the region finds them; after the body at `t` each input's buffer at its block and the outputs at what `pt`
names of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (pt m c t (found m c t.val)).2
    | ⟨8, _⟩ => (pt m c t (found m c t.val)).1.1
    | ⟨9, _⟩ => k0_pay76 (pt m c t (found m c t.val)).1.2.1
    | ⟨10, _⟩ => gateOut (pt m c t (found m c t.val)).1.2.2.1 (pt m c t (found m c t.val)).1.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (pt m c t (found m c t.val)).2 := by dsimp only [dats]
theorem after_8 (c : Dev nD) (t : Fin cfg0.N) : (dats m 0 c).after 8 t = (pt m c t (found m c t.val)).1.1 := by dsimp only [dats]
theorem after_9 (c : Dev nD) (t : Fin cfg0.N) : (dats m 0 c).after 9 t = k0_pay76 (pt m c t (found m c t.val)).1.2.1 := by dsimp only [dats]
theorem after_10 (c : Dev nD) (t : Fin cfg0.N) : (dats m 0 c).after 10 t = gateOut (pt m c t (found m c t.val)).1.2.2.1 (pt m c t (found m c t.val)).1.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Past a pair's first key block the query gradient's buffer still holds what the point before left. -/
theorem before_7 (c : Dev nD) (t : Fin cfg0.N) (h : t.val % 8 ≠ 0) (d) : (dats m 0 c).before 7 t d = found m c t.val := by
  have ht : t.val ≠ 0 := fun e => h (by rw [e])
  have hfl : (cfg0.win 7).flush ⟨t.val - 1, Nat.lt_of_le_of_lt (Nat.sub_le _ _) t.isLt⟩ = false := by
    rw [Bool.eq_false_iff]
    intro hf
    have := (flush0_7 _).mp hf
    dsimp only at this
    omega
  rw [(dats m 0 c).before_out_kept 7 rfl t ht hfl (fun _ => rfl) (fun _ _ => rfl) d, after_7]
  have e := found_succ m c ⟨t.val - 1, Nat.lt_of_le_of_lt (Nat.sub_le _ _) t.isLt⟩
  dsimp only at e
  rw [← e, show t.val - 1 + 1 = t.val by omega]

/-- Whatever the query gradient's buffer holds before point `t`, the point leaves the same. -/
theorem pt_before (c : Dev nD) (t : Fin cfg0.N) (d) : pt m c t ((dats m 0 c).before 7 t d) = pt m c t (found m c t.val) := by
  by_cases h : t.val % 8 = 0
  · exact pt_reset m c t h _ _
  · rw [before_7 m c t h]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S2048x128 .f32) fullShare ((dats m 0 c).before 0 t d))
    ∗ (∃ d, owns (c : Thread nD τ) (win0_1.stage (cfg0.slots t 1) : Memref sig .tc .vmem S256x128 .f32) fullShare ((dats m 0 c).before 1 t d))
    ∗ (∃ d, owns (c : Thread nD τ) (win0_2.stage (cfg0.slots t 2) : Memref sig .tc .vmem S256x128 .f32) fullShare ((dats m 0 c).before 2 t d))
    ∗ (∃ d, owns (c : Thread nD τ) (win0_3.stage (cfg0.slots t 3) : Memref sig .tc .vmem S1x2x256 .f32) fullShare ((dats m 0 c).before 3 t d))
    ∗ (∃ d, owns (c : Thread nD τ) (win0_4.stage (cfg0.slots t 4) : Memref sig .tc .vmem S2048x128 .f32) fullShare ((dats m 0 c).before 4 t d))
    ∗ (∃ d, owns (c : Thread nD τ) (win0_5.stage (cfg0.slots t 5) : Memref sig .tc .vmem S2048x128 .f32) fullShare ((dats m 0 c).before 5 t d))
    ∗ (∃ d, owns (c : Thread nD τ) (win0_6.stage (cfg0.slots t 6) : Memref sig .tc .vmem S2048x128 .f32) fullShare ((dats m 0 c).before 6 t d))
    ∗ (∃ d, owns (c : Thread nD τ) (win0_7.stage (cfg0.slots t 7) : Memref sig .tc .vmem S2048x128 .f32) fullShare ((dats m 0 c).before 7 t d))
    ∗ (∃ d, owns (c : Thread nD τ) (win0_8.stage (cfg0.slots t 8) : Memref sig .tc .vmem S256x128 .f32) fullShare ((dats m 0 c).before 8 t d))
    ∗ (∃ d, owns (c : Thread nD τ) (win0_9.stage (cfg0.slots t 9) : Memref sig .tc .vmem S256x128 .bf16) fullShare ((dats m 0 c).before 9 t d))
    ∗ (∃ d, owns (c : Thread nD τ) (win0_10.stage (cfg0.slots t 10) : Memref sig .tc .vmem S1x2x256 .f32) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0) : Memref sig .tc .vmem S2048x128 .f32) fullShare ((dats m 0 c).after 0 t)
    ∗ owns (c : Thread nD τ) (win0_1.stage (cfg0.slots t 1) : Memref sig .tc .vmem S256x128 .f32) fullShare ((dats m 0 c).after 1 t)
    ∗ owns (c : Thread nD τ) (win0_2.stage (cfg0.slots t 2) : Memref sig .tc .vmem S256x128 .f32) fullShare ((dats m 0 c).after 2 t)
    ∗ owns (c : Thread nD τ) (win0_3.stage (cfg0.slots t 3) : Memref sig .tc .vmem S1x2x256 .f32) fullShare ((dats m 0 c).after 3 t)
    ∗ owns (c : Thread nD τ) (win0_4.stage (cfg0.slots t 4) : Memref sig .tc .vmem S2048x128 .f32) fullShare ((dats m 0 c).after 4 t)
    ∗ owns (c : Thread nD τ) (win0_5.stage (cfg0.slots t 5) : Memref sig .tc .vmem S2048x128 .f32) fullShare ((dats m 0 c).after 5 t)
    ∗ owns (c : Thread nD τ) (win0_6.stage (cfg0.slots t 6) : Memref sig .tc .vmem S2048x128 .f32) fullShare ((dats m 0 c).after 6 t)
    ∗ owns (c : Thread nD τ) (win0_7.stage (cfg0.slots t 7) : Memref sig .tc .vmem S2048x128 .f32) fullShare ((dats m 0 c).after 7 t)
    ∗ owns (c : Thread nD τ) (win0_8.stage (cfg0.slots t 8) : Memref sig .tc .vmem S256x128 .f32) fullShare ((dats m 0 c).after 8 t)
    ∗ owns (c : Thread nD τ) (win0_9.stage (cfg0.slots t 9) : Memref sig .tc .vmem S256x128 .bf16) fullShare ((dats m 0 c).after 9 t)
    ∗ owns (c : Thread nD τ) (win0_10.stage (cfg0.slots t 10) : Memref sig .tc .vmem S1x2x256 .f32) fullShare ((dats m 0 c).after 10 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e := pt_before m c t d7
  rw [← e]
  unfold pt
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body on them. -/
theorem row (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- Every execution ends with each window's array at what its write-backs left, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The frame: the arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof

end
-- ==== Proof.Spec.lean ====
module

public import Mathlib.Analysis.SpecialFunctions.Log.Basic
public import Mathlib.Algebra.BigOperators.Field

/-!
# The gradients of the forgetting attention, over the real numbers

Eight heads, 2048 positions, 64 channels. The score of query `t` against key `u` is the scaled product of the two less the
cumulated log gate at `u`; the weights are the scores' softmax over the keys `u ≤ t`; the output is the weighted sum of the
values. Below: the weights, the four gradients by the softmax's derivative, and the identities the two programs differ by — a
row's scores may be shifted by any number, the weights' gradient meets the output where it meets the weights, and the scores'
gradient sums to zero along a row.
-/

@[expose] public section

noncomputable section

namespace Cert.Proof.Spec

open Finset Real

/-- The five operands by head, position and channel (numbers beyond their ranges are not read). -/
structure Data where
  /-- queries -/
  Q : ℕ → ℕ → ℕ → ℝ
  /-- keys -/
  K : ℕ → ℕ → ℕ → ℝ
  /-- values -/
  V : ℕ → ℕ → ℕ → ℝ
  /-- incoming gradient of the output -/
  G : ℕ → ℕ → ℕ → ℝ
  /-- cumulated log gates -/
  F : ℕ → ℕ → ℝ

variable (D : Data)

/-- The score, up to a number that depends on the row alone. -/
def sc (h t u : ℕ) : ℝ := (∑ d ∈ range 64, D.Q h t d * D.K h u d) * (1 / 8) - D.F h u

/-- The row's normaliser. -/
def Z (h t : ℕ) : ℝ := ∑ u ∈ range 2048, if u ≤ t then exp (sc D h t u) else 0

/-- The attention weight. -/
def P (h t u : ℕ) : ℝ := if u ≤ t then exp (sc D h t u) / Z D h t else 0

/-- The output. -/
def O (h t d : ℕ) : ℝ := ∑ u ∈ range 2048, P D h t u * D.V h u d

/-- The gradient of a weight. -/
def dP (h t u : ℕ) : ℝ := ∑ d ∈ range 64, D.G h t d * D.V h u d

/-- The incoming gradient against the output. -/
def Del (h t : ℕ) : ℝ := ∑ d ∈ range 64, D.G h t d * O D h t d

/-- The gradient of a score. -/
def DS (h t u : ℕ) : ℝ := P D h t u * (dP D h t u - Del D h t)

/-- The gradient of the queries. -/
def dQ (h t d : ℕ) : ℝ := (∑ u ∈ range 2048, DS D h t u * D.K h u d) * (1 / 8)
/-- The gradient of the keys. -/
def dK (h u d : ℕ) : ℝ := (∑ t ∈ range 2048, DS D h t u * D.Q h t d) * (1 / 8)
/-- The gradient of the values. -/
def dV (h u d : ℕ) : ℝ := ∑ t ∈ range 2048, P D h t u * D.G h t d
/-- The gradient of the cumulated log gates. -/
def dF (h u : ℕ) : ℝ := - ∑ t ∈ range 2048, DS D h t u

/-- The normaliser is positive: its first term is. -/
theorem Z_pos (h t : ℕ) : 0 < Z D h t := by
  refine sum_pos' (fun u _ => ?_) ⟨0, by simp, by simp [exp_pos]⟩
  split
  · exact (exp_pos _).le
  · exact le_rfl

/-- A weight on or before the diagonal, by the normaliser's logarithm. -/
theorem P_eq_exp {h t u : ℕ} (hu : u ≤ t) : P D h t u = exp (sc D h t u - log (Z D h t)) := by
  rw [P, if_pos hu, exp_sub, exp_log (Z_pos D h t)]

theorem P_zero {h t u : ℕ} (hu : t < u) : P D h t u = 0 := if_neg (by omega)

theorem DS_zero {h t u : ℕ} (hu : t < u) : DS D h t u = 0 := by rw [DS, P_zero D hu, zero_mul]

/-- A row's weights sum to one. -/
theorem sum_P (h t : ℕ) : ∑ u ∈ range 2048, P D h t u = 1 := by
  have : ∀ u, P D h t u = (if u ≤ t then exp (sc D h t u) else 0) / Z D h t := fun u => by
    rw [P]; split <;> simp
  simp only [this]
  rw [← sum_div]
  exact div_self (Z_pos D h t).ne'

/-- The incoming gradient against the output is the weights' gradient against the weights. -/
theorem Del_eq (h t : ℕ) : Del D h t = ∑ u ∈ range 2048, P D h t u * dP D h t u := by
  simp only [Del, O, dP, mul_sum]
  rw [sum_comm]
  exact sum_congr rfl fun u _ => sum_congr rfl fun d _ => by ring

/-- The scores' gradient sums to zero along a row. -/
theorem sum_DS (h t : ℕ) : ∑ u ∈ range 2048, DS D h t u = 0 := by
  simp only [DS, mul_sub]
  rw [sum_sub_distrib, ← sum_mul, sum_P, one_mul, Del_eq, sub_self]

/-! ## The softmax with its row shifted -/

/-- The exponentials of a row whose scores are shifted by `a`. -/
def E (a : ℝ) (h t u : ℕ) : ℝ := if u ≤ t then exp (sc D h t u + a) else 0

theorem E_eq (a : ℝ) (h t u : ℕ) : E D a h t u = exp a * (if u ≤ t then exp (sc D h t u) else 0) := by
  rw [E]; split
  · rw [exp_add, mul_comm]
  · rw [mul_zero]

theorem sum_E (a : ℝ) (h t : ℕ) : ∑ u ∈ range 2048, E D a h t u = exp a * Z D h t := by
  simp only [E_eq, ← mul_sum]; rfl

theorem sum_E_pos (a : ℝ) (h t : ℕ) : 0 < ∑ u ∈ range 2048, E D a h t u := by
  rw [sum_E]; exact mul_pos (exp_pos _) (Z_pos D h t)

/-- Shifted or not, the weights are the same. -/
theorem E_div (a : ℝ) (h t u : ℕ) : E D a h t u / ∑ u' ∈ range 2048, E D a h t u' = P D h t u := by
  rw [sum_E, E_eq, mul_div_mul_left _ _ (exp_pos a).ne', P]
  split <;> simp

/-- Shifted by `−m`, the logarithm of the sum and `m` together are the normaliser's logarithm. -/
theorem log_sum_E (m : ℝ) (h t : ℕ) : m + log (∑ u ∈ range 2048, E D (-m) h t u) = log (Z D h t) := by
  rw [sum_E, log_mul (exp_pos _).ne' (Z_pos D h t).ne', log_exp]; ring

/-- The scores' gradient as differentiating the quotient of exponential and sum gives it. -/
theorem DS_of_E (a : ℝ) {h t u : ℕ} (hu : u ≤ t) (L : ℝ) (hL : L = ∑ u' ∈ range 2048, E D a h t u') :
    (dP D h t u / L + -∑ u' ∈ range 2048, dP D h t u' * (1 / (L * L)) * E D a h t u') * E D a h t u = DS D h t u := by
  have hp : ∀ u', E D a h t u' = L * P D h t u' := fun u' => by
    have := E_div D a h t u'
    rw [← hL] at this
    rw [← this, mul_div_cancel₀]
    rw [hL]; exact (sum_E_pos D a h t).ne'
  have hL0 : L ≠ 0 := by rw [hL]; exact (sum_E_pos D a h t).ne'
  have hs : ∑ u' ∈ range 2048, dP D h t u' * (1 / (L * L)) * E D a h t u' = Del D h t / L := by
    rw [Del_eq, sum_div]
    refine sum_congr rfl fun u' _ => ?_
    rw [hp]; field_simp
  rw [hs, hp, DS]; field_simp; ring

end Cert.Proof.Spec

end
-- ==== Proof.Scalars.lean ====
module

public import proofs.«01_k».proof.Proof.Spec
public import Idealize.ShloMosaic.Lib.Pointwise
public import Mathlib.Algebra.BigOperators.Fin

/-!
# Reading scalars and sums of the exact arithmetic as real numbers

The constants, the lane and causal masks, sums and products of finitely many reals, and the greatest of a row of equal numbers.
-/

@[expose] public section

noncomputable section

namespace Cert.Proof

open Idealize.ShloMosaic Finset

/-- The scale of the scores, as the programs spell it. -/
theorem eighth_word : Ideal.ofBits .f32 1040187392#32 = (((1 : ℝ) / 8 : ℝ) : EReal) := by
  simp [Ideal.ofBits, Ideal.ieee, -EReal.coe_mul]; norm_num

/-- Minus infinity, as the programs spell it. -/
theorem ninf_word : Ideal.ofBits .f32 4286578688#32 = ⊥ := by
  simp [Ideal.ofBits, Ideal.ieee]

/-- The word of a number below two to the 31st reads back as the number. -/
theorem word_toInt {n : ℕ} (h : n < 2147483648) : (BitVec.ofNat 32 n).toInt = n := by
  have e : (BitVec.ofNat 32 n).toNat = n := by rw [BitVec.toNat_ofNat]; omega
  rw [BitVec.toInt_eq_toNat_of_lt (by rw [e]; omega), e]

/-- A choice by whether a small number is below another. -/
theorem select_slt {α : Type} {m n : ℕ} (hm : m < 2147483648) (hn : n < 2147483648) (a b : α) :
    Scalar.select (IntOp.cmpi CmpIPredicate.slt (BitVec.ofNat 32 m) (BitVec.ofNat 32 n)) a b = if m < n then a else b := by
  have : (BitVec.ofNat 32 m).slt (BitVec.ofNat 32 n) = decide (m < n) := by
    rw [BitVec.slt, word_toInt hm, word_toInt hn]; simp
  simp only [Scalar.select, IntOp.cmpi, this]
  by_cases h : m < n <;> simp [h]

/-- A choice by whether a small number is at least another. -/
theorem select_sge {α : Type} {m n : ℕ} (hm : m < 2147483648) (hn : n < 2147483648) (a b : α) :
    Scalar.select (IntOp.cmpi CmpIPredicate.sge (BitVec.ofNat 32 m) (BitVec.ofNat 32 n)) a b = if n ≤ m then a else b := by
  have : (BitVec.ofNat 32 n).sle (BitVec.ofNat 32 m) = decide (n ≤ m) := by
    rw [BitVec.sle, word_toInt hm, word_toInt hn]; simp
  simp only [Scalar.select, IntOp.cmpi, this]
  by_cases h : n ≤ m <;> simp [h]

/-- A finite sum of reals. -/
theorem sum_coe {n : ℕ} (a : Fin n → EReal) (f : ℕ → ℝ) (h : ∀ i, a i = ((f i : ℝ) : EReal)) :
    ∑ i, a i = ((∑ i ∈ range n, f i : ℝ) : EReal) := by
  rw [Finset.sum_range]
  simp only [h]
  exact (map_sum (⟨⟨((↑) : ℝ → EReal), EReal.coe_zero⟩, EReal.coe_add⟩ : ℝ →+ EReal) _ _).symm

/-- A finite sum of products of reals. -/
theorem dot_coe {n : ℕ} (a b : Fin n → EReal) (f g : ℕ → ℝ) (ha : ∀ i, a i = ((f i : ℝ) : EReal))
    (hb : ∀ i, b i = ((g i : ℝ) : EReal)) : ∑ i, a i * b i = ((∑ i ∈ range n, f i * g i : ℝ) : EReal) :=
  sum_coe _ _ fun i => by rw [ha, hb, EReal.coe_mul]

/-- A choice between reals. -/
theorem coe_ite (p : Prop) [Decidable p] (a b : ℝ) :
    ((if p then a else b : ℝ) : EReal) = if p then (a : EReal) else (b : EReal) := by split <;> rfl

/-- The greatest of a row whose numbers are `c` or minus infinity, `c` somewhere. -/
theorem fold_max_const {n : ℕ} (f : Fin n → EReal) (c : EReal) (hle : ∀ i, f i ≤ c) (i₀ : Fin n) (h : f i₀ = c) :
    Finset.fold max ⊥ f univ = c := by
  refine le_antisymm (Finset.fold_max_le _ |>.2 ⟨bot_le, fun i _ => hle i⟩) ?_
  exact (Finset.le_fold_max _).2 (Or.inr ⟨i₀, mem_univ _, h.ge⟩)

/-- The greatest along the last axis, as the host's maximum over it computes. -/
theorem row_max {a b n : ℕ} {u : Shape} (s : (⟨3, ![a, b, n]⟩ : Shape).Idx → EReal) (c : u.Idx → EReal)
    (h : (⟨3, ![a, b, n]⟩ : Shape).ReducesTo [2] ⟨2, ![a, b]⟩) (h0 : 0 < u.numel) (i : Fin a) (j : Fin b) :
    Host.reduce max s c h h0 (ix2 i j) = fold max (c (Shape.Idx.first h0)) (fun u => s (ix3 i j u)) univ := by
  rw [Host.reduce_eq_fold]
  simp only [pointwise]

/-- The same, as the programs spell the maximum. -/
theorem host_max {a b n : ℕ} {u : Shape} (s : FVec Ideal ⟨3, ![a, b, n]⟩ .f32) (c : FVec Ideal u .f32)
    (h : (⟨3, ![a, b, n]⟩ : Shape).ReducesTo [2] ⟨2, ![a, b]⟩) (h0 : 0 < u.numel) (i : Fin a) (j : Fin b) :
    Host.reduce FloatOps.maximumf s c h h0 (ix2 i j) = fold max (c (Shape.Idx.first h0)) (fun u => s (ix3 i j u)) univ :=
  row_max s c h h0 i j

/-- A causal row of scores has a real greatest element, and less it exponentiates to reals. -/
theorem exp_row {n : ℕ} (s : Fin n → EReal) (x : ℕ → ℝ) (t : Fin n)
    (h : ∀ u : Fin n, s u = if u.val ≤ t.val then ((x u : ℝ) : EReal) else ⊥) :
    ∃ M : ℝ, fold max ⊥ s univ = (M : EReal)
      ∧ ∀ u, Ideal.exp (s u - (M : EReal)) = ((if u.val ≤ t.val then Real.exp (x u - M) else 0 : ℝ) : EReal) := by
  have hbot : fold max ⊥ s univ ≠ ⊥ := by
    have : ((x t : ℝ) : EReal) ≤ fold max ⊥ s univ :=
      (Finset.le_fold_max _).2 (Or.inr ⟨t, mem_univ _, by rw [h t, if_pos (Nat.le_refl _)]⟩)
    exact fun e => EReal.coe_ne_bot _ (le_bot_iff.1 (e ▸ this))
  have htop : fold max ⊥ s univ ≠ ⊤ := by
    refine ne_of_lt ((Finset.fold_max_lt _).2 ⟨bot_lt_top, fun u _ => ?_⟩)
    rw [h u]; split
    · exact EReal.coe_lt_top _
    · exact bot_lt_top
  refine ⟨(fold max ⊥ s univ).toReal, (EReal.coe_toReal htop hbot).symm, fun u => ?_⟩
  rw [h u]; split
  · rw [← EReal.coe_sub, Ideal.exp_coe]
  · rw [EReal.bot_sub, Ideal.exp_bot]; rfl

/-- A row's sum over the lower half of 128 lanes. -/
theorem sum_lo (a : ℕ → ℝ) : ∑ c ∈ range 128, (if c < 64 then a c else 0) = ∑ d ∈ range 64, a d := by
  rw [show (128 : ℕ) = 64 + 64 from rfl, sum_range_add]
  rw [sum_congr rfl fun c hc => if_pos (mem_range.1 hc), sum_congr rfl fun c _ => if_neg (by omega : ¬ (64 + c < 64))]
  simp

/-- A row's sum over the upper half of 128 lanes. -/
theorem sum_hi (a : ℕ → ℝ) : ∑ c ∈ range 128, (if c < 64 then 0 else a c) = ∑ d ∈ range 64, a (64 + d) := by
  rw [show (128 : ℕ) = 64 + 64 from rfl, sum_range_add]
  rw [sum_congr rfl fun c hc => if_pos (mem_range.1 hc), sum_congr rfl fun c _ => if_neg (by omega : ¬ (64 + c < 64))]
  simp

end Cert.Proof

end
-- ==== Proof.Tile.lean ====
module

public import proofs.«01_k».proof.Proof.Step
public import proofs.«01_k».proof.Proof.Scalars
public import Idealize.ShloMosaic.Lib.Pointwise

/-!
# A tile's values over the exact arithmetic

On real operands the values a tile computes are the real formulas of softmax attention's gradient: the probabilities from the
scores and the row's logarithm, the scores' gradient, and what the tile adds to each carried gradient. A tile's 128 lanes hold two
heads of 64 channels; the product of one head masks the other's lanes.
-/

@[expose] public section

set_option maxRecDepth 16384

noncomputable section

namespace Cert.Proof

open Cert.KernelIdeal Cert.KernelIdeal.Gen Idealize.ShloMosaic Idealize.ShloMosaic.TcCoe Finset

/-- The real operands of a tile: 256 rows by 128 lanes of queries, keys, values, outputs and output gradients, and for either half
    of the lanes (a head) a gate per key and a logarithm per query row. -/
structure TileData where
  /-- queries -/
  q : ℕ → ℕ → ℝ
  /-- keys -/
  k : ℕ → ℕ → ℝ
  /-- values -/
  v : ℕ → ℕ → ℝ
  /-- outputs -/
  o : ℕ → ℕ → ℝ
  /-- output gradients -/
  g : ℕ → ℕ → ℝ
  /-- gates, by half and key -/
  f : ℕ → ℕ → ℝ
  /-- logarithms, by half and query row -/
  lam : ℕ → ℕ → ℝ

namespace TileData

variable (D : TileData)

/-- A probability of half `b`. -/
def p (b r u : ℕ) : ℝ :=
  Real.exp ((∑ d ∈ range 64, D.q r (64 * b + d) * (1 / 8) * D.k u (64 * b + d)) - D.f b u - D.lam b r)

/-- Half `b`'s output gradient against the values. -/
def dp (b r u : ℕ) : ℝ := ∑ d ∈ range 64, D.g r (64 * b + d) * D.v u (64 * b + d)

/-- Half `b`'s output gradient against the outputs. -/
def del (b r : ℕ) : ℝ := ∑ d ∈ range 64, D.g r (64 * b + d) * D.o r (64 * b + d)

/-- A score gradient of half `b`. -/
def ds (b r u : ℕ) : ℝ := D.p b r u * (D.dp b r u - D.del b r)

/-- The probabilities with the causal mask of a diagonal tile. -/
def pd (b r u : ℕ) : ℝ := if u ≤ r then D.p b r u else 0

/-- The score gradients with the causal mask of a diagonal tile. -/
def dsd (b r u : ℕ) : ℝ := D.pd b r u * (D.dp b r u - D.del b r)

end TileData

/-- The tile's arrays hold these reals. -/
structure Holds (D : TileData) (x1 x2 : Vec Ideal S256x128 .f32) (g0 g1 : Vec Ideal S1x1x256 .f32)
    (q o l g : Vec Ideal S256x128 .f32) : Prop where
  hq : ∀ (r : Fin 256) (c : Fin 128), q (ix2 r c) = ((D.q r c : ℝ) : EReal)
  hk : ∀ (r : Fin 256) (c : Fin 128), x1 (ix2 r c) = ((D.k r c : ℝ) : EReal)
  hv : ∀ (r : Fin 256) (c : Fin 128), x2 (ix2 r c) = ((D.v r c : ℝ) : EReal)
  ho : ∀ (r : Fin 256) (c : Fin 128), o (ix2 r c) = ((D.o r c : ℝ) : EReal)
  hg : ∀ (r : Fin 256) (c : Fin 128), g (ix2 r c) = ((D.g r c : ℝ) : EReal)
  hl : ∀ (r : Fin 256) (c : Fin 128), l (ix2 r c) = ((D.lam (c / 64) r : ℝ) : EReal)
  hf0 : ∀ u : Fin 256, g0 (ix3 0 0 u) = ((D.f 0 u : ℝ) : EReal)
  hf1 : ∀ u : Fin 256, g1 (ix3 0 0 u) = ((D.f 1 u : ℝ) : EReal)

/-! ## The lane masks -/

/-- The first head's lane mask chooses by whether the lane is below 64. -/
theorem select_lo {α : Type} (r : Fin 256) (c : Fin 128) (a b : α) :
    Scalar.select (k0_pay34 (ix2 r c)) a b = if c.val < 64 then a else b := by
  pointwise [k0_pay34]
  exact select_slt (by omega) (by omega) a b

/-- The second head's lane mask is the first's complement. -/
theorem select_hi {α : Type} (r : Fin 256) (c : Fin 128) (a b : α) :
    Scalar.select (IntOp.xori (k0_pay34 (ix2 r c)) 1#1) a b = if c.val < 64 then b else a := by
  have h : k0_pay34 (ix2 r c) = if c.val < 64 then 1#1 else 0#1 := by
    have := select_lo r c (1#1) (0#1)
    rw [← this]
    generalize k0_pay34 (ix2 r c) = w
    revert w; decide
  rw [h]
  split <;> rfl

/-- The greatest of a row over the first head's lanes, equal on them. -/
theorem rowmax_lo (w : Fin 128 → EReal) (x : ℕ → ℝ) (h : ∀ c : Fin 128, w c = ((x (c / 64) : ℝ) : EReal)) :
    fold max ⊥ (fun c : Fin 128 => if c.val < 64 then w c else ⊥) univ = ((x 0 : ℝ) : EReal) := by
  refine fold_max_const _ _ (fun c => ?_) 0 ?_
  · show (if c.val < 64 then w c else ⊥) ≤ _
    split
    · rw [h, Nat.div_eq_of_lt ‹_›]
    · exact bot_le
  · show (if ((0 : Fin 128).val < 64) then w 0 else ⊥) = _
    rw [if_pos (by decide), h]; rfl

/-- The greatest of a row over the second head's lanes, equal on them. -/
theorem rowmax_hi (w : Fin 128 → EReal) (x : ℕ → ℝ) (h : ∀ c : Fin 128, w c = ((x (c / 64) : ℝ) : EReal)) :
    fold max ⊥ (fun c : Fin 128 => if c.val < 64 then ⊥ else w c) univ = ((x 1 : ℝ) : EReal) := by
  refine fold_max_const _ _ (fun c => ?_) 64 ?_
  · show (if c.val < 64 then ⊥ else w c) ≤ _
    split
    · exact bot_le
    · rw [h, show c.val / 64 = 1 by omega]
  · show (if ((64 : Fin 128).val < 64) then ⊥ else w 64) = _
    rw [if_neg (by decide), h]; rfl

/-- A row of one head's lanes against another row. -/
theorem dot_lo (a b : ℕ → ℝ) : ∑ c ∈ range 128, (if c < 64 then a c else 0) * b c = ∑ d ∈ range 64, a (64 * 0 + d) * b (64 * 0 + d) := by
  simp only [ite_mul, zero_mul, sum_lo, Nat.mul_zero, Nat.zero_add]

/-- A row of the other head's lanes against another row. -/
theorem dot_hi (a b : ℕ → ℝ) : ∑ c ∈ range 128, (if c < 64 then 0 else a c) * b c = ∑ d ∈ range 64, a (64 * 1 + d) * b (64 * 1 + d) := by
  simp only [ite_mul, zero_mul, sum_hi, Nat.mul_one]

section Reads

variable {D : TileData} {x1 x2 : Vec Ideal S256x128 .f32} {g0 g1 : Vec Ideal S1x1x256 .f32}
    {q o l g : Vec Ideal S256x128 .f32} (H : Holds D x1 x2 g0 g1 q o l g)
include H

/-! ## Operands -/

theorem qh0_read (r : Fin 256) (c : Fin 128) :
    k0_pay6 k0_pay34 q (ix2 r c) = ((if c.val < 64 then D.q r c * (1 / 8) else 0 : ℝ) : EReal) := by
  pointwise [k0_pay6, k0_pay3]
  rw [select_lo, coe_ite, H.hq, eighth_word, EReal.coe_mul, EReal.coe_zero]

theorem qh1_read (r : Fin 256) (c : Fin 128) :
    k0_pay9 k0_pay35 (k0_pay3 q) (ix2 r c) = ((if c.val < 64 then 0 else D.q r c * (1 / 8) : ℝ) : EReal) := by
  pointwise [k0_pay9, k0_pay35, k0_pay3]
  rw [select_hi, coe_ite, H.hq, eighth_word, EReal.coe_mul, EReal.coe_zero]

theorem gh0_read (r : Fin 256) (c : Fin 128) :
    k0_pay7 k0_pay34 g (ix2 r c) = ((if c.val < 64 then D.g r c else 0 : ℝ) : EReal) := by
  pointwise [k0_pay7]
  rw [select_lo, coe_ite, H.hg, EReal.coe_zero]

theorem gh1_read (r : Fin 256) (c : Fin 128) :
    k0_pay10 k0_pay35 g (ix2 r c) = ((if c.val < 64 then 0 else D.g r c : ℝ) : EReal) := by
  pointwise [k0_pay10, k0_pay35]
  rw [select_hi, coe_ite, H.hg, EReal.coe_zero]

theorem kh0_read (r : Fin 256) (c : Fin 128) :
    k0_pay39 x1 (ix2 r c) = ((if c.val < 64 then D.k r c else 0 : ℝ) : EReal) := by
  change k0_pay7 k0_pay34 x1 (ix2 r c) = _
  pointwise [k0_pay7]
  rw [select_lo, coe_ite, H.hk, EReal.coe_zero]

theorem kh1_read (r : Fin 256) (c : Fin 128) :
    k0_pay40 x1 (ix2 r c) = ((if c.val < 64 then 0 else D.k r c : ℝ) : EReal) := by
  change k0_pay10 k0_pay35 x1 (ix2 r c) = _
  pointwise [k0_pay10, k0_pay35]
  rw [select_hi, coe_ite, H.hk, EReal.coe_zero]

theorem k_read (r : Fin 256) (c : Fin 128) : k0_pay37 x1 (ix2 r c) = ((D.k r c : ℝ) : EReal) := by
  pointwise [k0_pay37]; exact H.hk r c

theorem v_read (r : Fin 256) (c : Fin 128) : k0_pay38 x2 (ix2 r c) = ((D.v r c : ℝ) : EReal) := by
  pointwise [k0_pay38]; exact H.hv r c

theorem f0_read (u : Fin 256) : k0_pay41 g0 (ix2 0 u) = ((D.f 0 u : ℝ) : EReal) := by
  pointwise [k0_pay41]; exact H.hf0 u

theorem f1_read (u : Fin 256) : k0_pay42 g1 (ix2 0 u) = ((D.f 1 u : ℝ) : EReal) := by
  pointwise [k0_pay42]; exact H.hf1 u

theorem l_read (r : Fin 256) (c : Fin 128) : k0_pay4 l (ix2 r c) = ((D.lam (c / 64) r : ℝ) : EReal) := by
  pointwise [k0_pay4]; exact H.hl r c

theorem lam0_read (r : Fin 256) : k0_pay8 k0_pay34 l (ix2 r 0) = ((D.lam 0 r : ℝ) : EReal) := by
  pointwise [k0_pay8, k0_pay4]
  simp only [select_lo, ninf_word]
  exact rowmax_lo _ (fun b => D.lam b r) (H.hl r)

theorem del_read (r : Fin 256) (c : Fin 128) : k0_pay5 g o (ix2 r c) = ((D.del (c / 64) r : ℝ) : EReal) := by
  pointwise [k0_pay5]
  rw [select_slt (by omega) (by omega)]
  split
  · rw [Nat.div_eq_of_lt ‹_›, TileData.del, ← dot_lo]
    refine sum_coe _ _ fun i => ?_
    rw [select_slt (by omega) (by omega), H.hg, H.ho, ite_mul, zero_mul, coe_ite, EReal.coe_mul, EReal.coe_zero]
  · rw [show c.val / 64 = 1 by omega, TileData.del, ← dot_hi]
    refine sum_coe _ _ fun i => ?_
    rw [select_slt (by omega) (by omega), H.hg, H.ho, ite_mul, zero_mul, coe_ite, EReal.coe_mul, EReal.coe_zero]

/-! ## Scores' parts -/

theorem s0_read (r u : Fin 256) :
    ∑ x : Fin 128, k0_pay6 k0_pay34 q (ix2 r x) * k0_pay37 x1 (ix2 u x) - k0_pay41 g0 (ix2 0 u)
      = (((∑ d ∈ range 64, D.q r (64 * 0 + d) * (1 / 8) * D.k u (64 * 0 + d)) - D.f 0 u : ℝ) : EReal) := by
  rw [dot_coe _ _ (fun c => if c < 64 then D.q r c * (1 / 8) else 0) (fun c => D.k u c) (qh0_read H r) (k_read H u), f0_read H,
    dot_lo, EReal.coe_sub]

theorem s1_read (r u : Fin 256) :
    ∑ x : Fin 128, k0_pay9 k0_pay35 (k0_pay3 q) (ix2 r x) * k0_pay37 x1 (ix2 u x) - k0_pay42 g1 (ix2 0 u)
      = (((∑ d ∈ range 64, D.q r (64 * 1 + d) * (1 / 8) * D.k u (64 * 1 + d)) - D.f 1 u : ℝ) : EReal) := by
  rw [dot_coe _ _ (fun c => if c < 64 then 0 else D.q r c * (1 / 8)) (fun c => D.k u c) (qh1_read H r) (k_read H u), f1_read H,
    dot_hi, EReal.coe_sub]

theorem dp0_read (r u : Fin 256) :
    ∑ x : Fin 128, k0_pay7 k0_pay34 g (ix2 r x) * k0_pay38 x2 (ix2 u x) = ((D.dp 0 r u : ℝ) : EReal) := by
  rw [dot_coe _ _ (fun c => if c < 64 then D.g r c else 0) (fun c => D.v u c) (gh0_read H r) (v_read H u), dot_lo]; rfl

theorem dp1_read (r u : Fin 256) :
    ∑ x : Fin 128, k0_pay10 k0_pay35 g (ix2 r x) * k0_pay38 x2 (ix2 u x) = ((D.dp 1 r u : ℝ) : EReal) := by
  rw [dot_coe _ _ (fun c => if c < 64 then 0 else D.g r c) (fun c => D.v u c) (gh1_read H r) (v_read H u), dot_hi]; rfl

theorem lam1_read (r : Fin 256) :
    fold max ⊥ (fun x : Fin 128 => if x.val < 64 then ⊥ else k0_pay4 l (ix2 r x)) univ = ((D.lam 1 r : ℝ) : EReal) :=
  rowmax_hi _ (fun b => D.lam b r) (l_read H r)

theorem del0_read (r : Fin 256) :
    fold max ⊥ (fun x : Fin 128 => if x.val < 64 then k0_pay5 g o (ix2 r x) else ⊥) univ = ((D.del 0 r : ℝ) : EReal) :=
  rowmax_lo _ (fun b => D.del b r) (del_read H r)

theorem del1_read (r : Fin 256) :
    fold max ⊥ (fun x : Fin 128 => if x.val < 64 then ⊥ else k0_pay5 g o (ix2 r x)) univ = ((D.del 1 r : ℝ) : EReal) :=
  rowmax_hi _ (fun b => D.del b r) (del_read H r)

/-! ## Probabilities and score gradients, below the diagonal -/

theorem p0_read (r u : Fin 256) :
    k0_pay11 (k0_pay37 x1) (k0_pay41 g0) (k0_pay6 k0_pay34 q) (k0_pay8 k0_pay34 l) (ix2 r u) = ((D.p 0 r u : ℝ) : EReal) := by
  pointwise [k0_pay11]
  rw [s0_read H, lam0_read H, ← EReal.coe_sub, Ideal.exp_coe]; rfl

theorem ds0_read (r u : Fin 256) : tileDs0 x1 x2 g0 q o l g (ix2 r u) = ((D.ds 0 r u : ℝ) : EReal) := by
  pointwise [tileDs0, k0_pay12]
  simp only [select_lo, ninf_word]
  rw [del0_read H, dp0_read H, p0_read H, ← EReal.coe_sub, ← EReal.coe_mul]; rfl

theorem p1_read (r u : Fin 256) : tileP1 x1 g1 q l (ix2 r u) = ((D.p 1 r u : ℝ) : EReal) := by
  pointwise [tileP1, k0_pay13]
  simp only [select_hi, ninf_word]
  rw [s1_read H, lam1_read H, ← EReal.coe_sub, Ideal.exp_coe]; rfl

theorem ds1_read (r u : Fin 256) : tileDs1 x1 x2 g1 q o l g (ix2 r u) = ((D.ds 1 r u : ℝ) : EReal) := by
  have hp := p1_read H r u
  rw [tileP1] at hp
  pointwise [tileDs1, k0_pay14]
  simp only [select_hi, ninf_word]
  rw [del1_read H, dp1_read H, hp, ← EReal.coe_sub, ← EReal.coe_mul]; rfl

/-! ## On the diagonal -/

theorem pd0_read (r u : Fin 256) :
    k0_pay55 (k0_pay37 x1) (k0_pay41 g0) (k0_pay48 k0_pay34 (k0_pay45 q)) (k0_pay50 k0_pay34 l) (ix2 r u) = ((D.pd 0 r u : ℝ) : EReal) := by
  change k0_pay55 (k0_pay37 x1) (k0_pay41 g0) (k0_pay6 k0_pay34 q) (k0_pay8 k0_pay34 l) (ix2 r u) = _
  pointwise [k0_pay55]
  rw [select_sge (by omega) (by omega), s0_read H, lam0_read H, ninf_word, TileData.pd]
  split
  · rw [← EReal.coe_sub, Ideal.exp_coe]; rfl
  · rw [EReal.bot_sub, Ideal.exp_bot, EReal.coe_zero]

theorem dsd0_read (r u : Fin 256) : diagDs0 x1 x2 g0 q o l g (ix2 r u) = ((D.dsd 0 r u : ℝ) : EReal) := by
  have h : k0_pay51 k0_pay34 g o (ix2 r 0) = ((D.del 0 r : ℝ) : EReal) := by
    pointwise [k0_pay51]
    simp only [select_lo, ninf_word]
    exact del0_read H r
  have hd := dp0_read H r u
  change ∑ x : Fin 128, k0_pay49 k0_pay34 g (ix2 r x) * k0_pay38 x2 (ix2 u x) = _ at hd
  pointwise [diagDs0, k0_pay56]
  rw [h, hd, pd0_read H, ← EReal.coe_sub, ← EReal.coe_mul]; rfl

theorem pd1_read (r u : Fin 256) : diagP1 x1 g1 q l (ix2 r u) = ((D.pd 1 r u : ℝ) : EReal) := by
  change k0_pay57 k0_pay34 (k0_pay37 x1) (k0_pay42 g1) (k0_pay4 l) (k0_pay9 k0_pay35 (k0_pay3 q)) (ix2 r u) = _
  pointwise [k0_pay57]
  simp only [select_hi, ninf_word]
  rw [select_sge (by omega) (by omega), s1_read H, lam1_read H, TileData.pd]
  split
  · rw [← EReal.coe_sub, Ideal.exp_coe]; rfl
  · rw [EReal.bot_sub, Ideal.exp_bot, EReal.coe_zero]

theorem dsd1_read (r u : Fin 256) : diagDs1 x1 x2 g1 q o l g (ix2 r u) = ((D.dsd 1 r u : ℝ) : EReal) := by
  have hp := pd1_read H r u
  rw [diagP1] at hp
  have hd := dp1_read H r u
  change ∑ x : Fin 128, k0_pay54 k0_pay35 g k0_pay53 (ix2 r x) * k0_pay38 x2 (ix2 u x) = _ at hd
  have hl := del1_read H r
  change fold max ⊥ (fun x : Fin 128 => if x.val < 64 then ⊥ else k0_pay47 g o (ix2 r x)) univ = _ at hl
  pointwise [diagDs1, k0_pay58]
  simp only [select_hi, ninf_word]
  rw [hl, hd, hp, ← EReal.coe_sub, ← EReal.coe_mul]; rfl

end Reads
end Cert.Proof
end
-- ==== Proof.Sums.lean ====
module

public import proofs.«01_k».proof.Proof.Tile

/-!
# What a tile adds to the carried gradients

Each carried gradient grows by the tile's real contribution: for a lane of one half, the products with that half's probabilities
or score gradients, the other half's lanes being masked.
-/

@[expose] public section

set_option maxRecDepth 16384

noncomputable section

namespace Cert.Proof

open Cert.KernelIdeal Cert.KernelIdeal.Gen Idealize.ShloMosaic Idealize.ShloMosaic.TcCoe Finset

/-- The two heads' products for one lane: the lane's own head is left. -/
theorem halves (c : ℕ) (hc : c < 128) (n : ℕ) (A : ℕ → ℕ → ℝ) (w : ℕ → ℝ) :
    (∑ r ∈ range n, A 0 r * (if c < 64 then w r else 0)) + ∑ r ∈ range n, A 1 r * (if c < 64 then 0 else w r)
      = ∑ r ∈ range n, A (c / 64) r * w r := by
  by_cases h : c < 64
  · simp only [if_pos h, mul_zero, sum_const_zero, add_zero, Nat.div_eq_of_lt h]
  · simp only [if_neg h, mul_zero, sum_const_zero, zero_add, show c / 64 = 1 by omega]

section Add

variable {D : TileData} {x1 x2 : Vec Ideal S256x128 .f32} {g0 g1 : Vec Ideal S1x1x256 .f32}
    {q o l g : Vec Ideal S256x128 .f32} (H : Holds D x1 x2 g0 g1 q o l g) (acc : Carry Ideal)

/-- The keys' gradient after a tile below the diagonal. -/
theorem tileC_dk (H : Holds D x1 x2 g0 g1 q o l g) (u : Fin 256) (c : Fin 128) (a : ℝ) (ha : acc.1 (ix2 u c) = ((a : ℝ) : EReal)) :
    (tileC x1 x2 g0 g1 q o l g acc).1 (ix2 u c)
      = ((a + ∑ r ∈ range 256, D.ds (c / 64) r u * (D.q r c * (1 / 8)) : ℝ) : EReal) := by
  have h0 := ds0_read H
  rw [tileDs0] at h0
  have e0 : tileDk0 x1 x2 g0 q o l g (ix2 u c) = ((∑ r ∈ range 256, D.ds 0 r u * (if c.val < 64 then D.q r c * (1 / 8) else 0) : ℝ) : EReal) := by
    pointwise [tileDk0, k0_pay16]
    exact dot_coe _ _ _ (fun r => if c.val < 64 then D.q r c * (1 / 8) else 0) (fun r => h0 r u) (fun r => qh0_read H r c)
  pointwise [tileC, k0_pay67]
  rw [dot_coe _ _ (fun r => D.ds 1 r u) (fun r => if c.val < 64 then 0 else D.q r c * (1 / 8)) (fun r => ds1_read H r u) (fun r => qh1_read H r c),
    e0, ha, ← EReal.coe_add, ← EReal.coe_add, add_assoc, halves c c.isLt 256 (fun b r => D.ds b r u)]

/-- The values' gradient after a tile below the diagonal. -/
theorem tileC_dv (H : Holds D x1 x2 g0 g1 q o l g) (u : Fin 256) (c : Fin 128) (a : ℝ) (ha : acc.2.1 (ix2 u c) = ((a : ℝ) : EReal)) :
    (tileC x1 x2 g0 g1 q o l g acc).2.1 (ix2 u c)
      = ((a + ∑ r ∈ range 256, D.p (c / 64) r u * D.g r c : ℝ) : EReal) := by
  have e0 : tileDv0 x1 g0 q l g (ix2 u c) = ((∑ r ∈ range 256, D.p 0 r u * (if c.val < 64 then D.g r c else 0) : ℝ) : EReal) := by
    pointwise [tileDv0, k0_pay15]
    exact dot_coe _ _ _ (fun r => if c.val < 64 then D.g r c else 0) (fun r => p0_read H r u) (fun r => gh0_read H r c)
  pointwise [tileC, k0_pay68]
  rw [dot_coe _ _ (fun r => D.p 1 r u) (fun r => if c.val < 64 then 0 else D.g r c) (fun r => p1_read H r u) (fun r => gh1_read H r c),
    e0, ha, ← EReal.coe_add, ← EReal.coe_add, add_assoc, halves c c.isLt 256 (fun b r => D.p b r u)]

/-- The first head's gate gradient after a tile below the diagonal. -/
theorem tileC_df0 (H : Holds D x1 x2 g0 g1 q o l g) (u : Fin 256) (a : ℝ) (ha : acc.2.2.1 (ix2 0 u) = ((a : ℝ) : EReal)) :
    (tileC x1 x2 g0 g1 q o l g acc).2.2.1 (ix2 0 u) = ((a - ∑ r ∈ range 256, D.ds 0 r u : ℝ) : EReal) := by
  pointwise [tileC, k0_pay69]
  rw [sum_coe _ (fun r => D.ds 0 r u) (fun r => ds0_read H r u), ha, ← EReal.coe_sub]

/-- The second head's gate gradient after a tile below the diagonal. -/
theorem tileC_df1 (H : Holds D x1 x2 g0 g1 q o l g) (u : Fin 256) (a : ℝ) (ha : acc.2.2.2 (ix2 0 u) = ((a : ℝ) : EReal)) :
    (tileC x1 x2 g0 g1 q o l g acc).2.2.2 (ix2 0 u) = ((a - ∑ r ∈ range 256, D.ds 1 r u : ℝ) : EReal) := by
  pointwise [tileC, k0_pay70]
  rw [sum_coe _ (fun r => D.ds 1 r u) (fun r => ds1_read H r u), ha, ← EReal.coe_sub]

/-- The queries' gradient after a tile below the diagonal. -/
theorem tileQ_read (H : Holds D x1 x2 g0 g1 q o l g) (d : Vec Ideal S256x128 .f32) (r : Fin 256) (c : Fin 128) (a : ℝ)
    (ha : d (ix2 r c) = ((a : ℝ) : EReal)) :
    tileQ x1 x2 g0 g1 q o l g d (ix2 r c)
      = ((a + (∑ u ∈ range 256, D.ds (c / 64) r u * D.k u c) * (1 / 8) : ℝ) : EReal) := by
  have h0 : ∀ u : Fin 256, tileDs0b x1 x2 g0 q o l g (ix2 r u) = ((D.ds 0 r u : ℝ) : EReal) := fun u => by
    have := ds0_read H r u
    rw [tileDs0] at this
    pointwise [tileDs0b, k0_pay17]
    exact this
  pointwise [tileQ, k0_pay66]
  rw [dot_coe _ _ (fun u => D.ds 0 r u) (fun u => if c.val < 64 then D.k u c else 0) h0 (fun u => kh0_read H u c),
    dot_coe _ _ (fun u => D.ds 1 r u) (fun u => if c.val < 64 then 0 else D.k u c) (fun u => ds1_read H r u) (fun u => kh1_read H u c),
    ha, eighth_word, ← EReal.coe_add, halves c c.isLt 256 (fun b u => D.ds b r u), ← EReal.coe_mul, ← EReal.coe_add]

/-- The keys' gradient after the diagonal tile. -/
theorem diagC_dk (H : Holds D x1 x2 g0 g1 q o l g) (u : Fin 256) (c : Fin 128) :
    (diagC x1 x2 g0 g1 q o l g).1 (ix2 u c)
      = ((∑ r ∈ range 256, D.dsd (c / 64) r u * (D.q r c * (1 / 8)) : ℝ) : EReal) := by
  have h0 := dsd0_read H
  rw [diagDs0] at h0
  have e0 : diagDk0 x1 x2 g0 q o l g (ix2 u c) = ((∑ r ∈ range 256, D.dsd 0 r u * (if c.val < 64 then D.q r c * (1 / 8) else 0) : ℝ) : EReal) := by
    pointwise [diagDk0, k0_pay60]
    exact dot_coe _ _ _ (fun r => if c.val < 64 then D.q r c * (1 / 8) else 0) (fun r => h0 r u) (fun r => qh0_read H r c)
  pointwise [diagC, k0_pay62, k0_pay43]
  rw [dot_coe _ (fun r => diagQh1 q (ix2 r c)) (fun r => D.dsd 1 r u) (fun r => if c.val < 64 then 0 else D.q r c * (1 / 8)) (fun r => dsd1_read H r u) (fun r => qh1_read H r c),
    e0, ← EReal.coe_add, halves c c.isLt 256 (fun b r => D.dsd b r u)]

/-- The values' gradient after the diagonal tile. -/
theorem diagC_dv (H : Holds D x1 x2 g0 g1 q o l g) (u : Fin 256) (c : Fin 128) :
    (diagC x1 x2 g0 g1 q o l g).2.1 (ix2 u c)
      = ((∑ r ∈ range 256, D.pd (c / 64) r u * D.g r c : ℝ) : EReal) := by
  have e0 : diagDv0 x1 g0 q l g (ix2 u c) = ((∑ r ∈ range 256, D.pd 0 r u * (if c.val < 64 then D.g r c else 0) : ℝ) : EReal) := by
    pointwise [diagDv0, k0_pay59]
    exact dot_coe _ _ _ (fun r => if c.val < 64 then D.g r c else 0) (fun r => pd0_read H r u) (fun r => gh0_read H r c)
  pointwise [diagC, k0_pay63, k0_pay43]
  rw [dot_coe _ (fun r => k0_pay54 k0_pay35 g k0_pay53 (ix2 r c)) (fun r => D.pd 1 r u) (fun r => if c.val < 64 then 0 else D.g r c) (fun r => pd1_read H r u) (fun r => gh1_read H r c),
    e0, ← EReal.coe_add, halves c c.isLt 256 (fun b r => D.pd b r u)]

/-- The first head's gate gradient after the diagonal tile. -/
theorem diagC_df0 (H : Holds D x1 x2 g0 g1 q o l g) (u : Fin 256) :
    (diagC x1 x2 g0 g1 q o l g).2.2.1 (ix2 0 u) = ((- ∑ r ∈ range 256, D.dsd 0 r u : ℝ) : EReal) := by
  pointwise [diagC, k0_pay64, k0_pay44]
  rw [sum_coe _ (fun r => D.dsd 0 r u) (fun r => dsd0_read H r u), EReal.coe_neg, zero_sub]

/-- The second head's gate gradient after the diagonal tile. -/
theorem diagC_df1 (H : Holds D x1 x2 g0 g1 q o l g) (u : Fin 256) :
    (diagC x1 x2 g0 g1 q o l g).2.2.2 (ix2 0 u) = ((- ∑ r ∈ range 256, D.dsd 1 r u : ℝ) : EReal) := by
  pointwise [diagC, k0_pay65, k0_pay44]
  rw [sum_coe _ (fun r => D.dsd 1 r u) (fun r => dsd1_read H r u), EReal.coe_neg, zero_sub]

/-- The queries' gradient after the diagonal tile. -/
theorem diagQ_read (H : Holds D x1 x2 g0 g1 q o l g) (d : Vec Ideal S256x128 .f32) (r : Fin 256) (c : Fin 128) (a : ℝ)
    (ha : d (ix2 r c) = ((a : ℝ) : EReal)) :
    diagQ x1 x2 g0 g1 q o l g d (ix2 r c)
      = ((a + (∑ u ∈ range 256, D.dsd (c / 64) r u * D.k u c) * (1 / 8) : ℝ) : EReal) := by
  pointwise [diagQ, k0_pay61]
  rw [dot_coe _ _ (fun u => D.dsd 0 r u) (fun u => if c.val < 64 then D.k u c else 0) (fun u => dsd0_read H r u) (fun u => kh0_read H u c),
    dot_coe _ _ (fun u => D.dsd 1 r u) (fun u => if c.val < 64 then 0 else D.k u c) (fun u => dsd1_read H r u) (fun u => kh1_read H u c),
    ha, eighth_word, ← EReal.coe_add, halves c c.isLt 256 (fun b u => D.dsd b r u), ← EReal.coe_mul, ← EReal.coe_add]

end Add
end Cert.Proof
end
-- ==== Proof.Blocks.lean ====
module

public import proofs.«01_k».proof.Proof.Tile

/-!
# The gradients by blocks of 256 positions

A tile of one key block and one query block holds a piece of the weights and of the scores' gradient; the sums over all positions
are the sums over blocks, those of query blocks before the key block being zero.
-/

@[expose] public section

noncomputable section

namespace Cert.Proof

open Finset

variable (D : Spec.Data) (p ki j : ℕ)

/-- The operands of the tile of pair `p`, key block `ki` and query block `j`. -/
def blk : TileData where
  q r c := D.Q (2 * p + c / 64) (256 * j + r) (c % 64)
  k u c := D.K (2 * p + c / 64) (256 * ki + u) (c % 64)
  v u c := D.V (2 * p + c / 64) (256 * ki + u) (c % 64)
  o r c := Spec.O D (2 * p + c / 64) (256 * j + r) (c % 64)
  g r c := D.G (2 * p + c / 64) (256 * j + r) (c % 64)
  f b u := D.F (2 * p + b) (256 * ki + u)
  lam b r := Real.log (Spec.Z D (2 * p + b) (256 * j + r))

theorem lane_div (b d : ℕ) (hd : d ∈ range 64) : (64 * b + d) / 64 = b := by
  have := mem_range.1 hd; omega
theorem lane_mod (b d : ℕ) (hd : d ∈ range 64) : (64 * b + d) % 64 = d := by
  have := mem_range.1 hd; omega

theorem p_blk (b r u : ℕ) : (blk D p ki j).p b r u
    = Real.exp (Spec.sc D (2 * p + b) (256 * j + r) (256 * ki + u) - Real.log (Spec.Z D (2 * p + b) (256 * j + r))) := by
  simp only [TileData.p, Spec.sc, blk, sum_mul]
  rw [sum_congr rfl fun d hd => by rw [lane_div b d hd, lane_mod b d hd, mul_right_comm]]

theorem dp_blk (b r u : ℕ) : (blk D p ki j).dp b r u = Spec.dP D (2 * p + b) (256 * j + r) (256 * ki + u) := by
  simp only [TileData.dp, Spec.dP, blk]
  exact sum_congr rfl fun d hd => by rw [lane_div b d hd, lane_mod b d hd]

theorem del_blk (b r : ℕ) : (blk D p ki j).del b r = Spec.Del D (2 * p + b) (256 * j + r) := by
  simp only [TileData.del, Spec.Del, blk]
  exact sum_congr rfl fun d hd => by rw [lane_div b d hd, lane_mod b d hd]

theorem p_below (b r u : ℕ) (h : ki < j) (hu : u < 256) :
    (blk D p ki j).p b r u = Spec.P D (2 * p + b) (256 * j + r) (256 * ki + u) := by
  rw [p_blk, Spec.P_eq_exp D (by omega)]

theorem ds_below (b r u : ℕ) (h : ki < j) (hu : u < 256) :
    (blk D p ki j).ds b r u = Spec.DS D (2 * p + b) (256 * j + r) (256 * ki + u) := by
  rw [TileData.ds, Spec.DS, p_below D p ki j b r u h hu, dp_blk, del_blk]

theorem p_diag (b r u : ℕ) :
    (blk D p ki ki).pd b r u = Spec.P D (2 * p + b) (256 * ki + r) (256 * ki + u) := by
  rw [TileData.pd]
  split
  · rw [p_blk, Spec.P_eq_exp D (by omega)]
  · rw [Spec.P_zero D (by omega)]

theorem ds_diag (b r u : ℕ) :
    (blk D p ki ki).dsd b r u = Spec.DS D (2 * p + b) (256 * ki + r) (256 * ki + u) := by
  rw [TileData.dsd, Spec.DS, p_diag, dp_blk, del_blk]

/-! ## Partial sums over query blocks -/

/-- The keys' gradient from the query blocks before `m`. -/
def dKp (m h u d : ℕ) : ℝ := (∑ t ∈ range (256 * m), Spec.DS D h t u * D.Q h t d) * (1 / 8)
/-- The values' gradient from the query blocks before `m`. -/
def dVp (m h u d : ℕ) : ℝ := ∑ t ∈ range (256 * m), Spec.P D h t u * D.G h t d
/-- The gates' gradient from the query blocks before `m`. -/
def dFp (m h u : ℕ) : ℝ := - ∑ t ∈ range (256 * m), Spec.DS D h t u

variable {D}

theorem dKp_succ (m h u d : ℕ) : dKp D (m + 1) h u d
    = dKp D m h u d + ∑ r ∈ range 256, Spec.DS D h (256 * m + r) u * (D.Q h (256 * m + r) d * (1 / 8)) := by
  simp only [dKp, Nat.mul_succ, sum_range_add, add_mul, sum_mul, mul_assoc]

theorem dVp_succ (m h u d : ℕ) : dVp D (m + 1) h u d
    = dVp D m h u d + ∑ r ∈ range 256, Spec.P D h (256 * m + r) u * D.G h (256 * m + r) d := by
  simp only [dVp, Nat.mul_succ, sum_range_add]

theorem dFp_succ (m h u : ℕ) : dFp D (m + 1) h u = dFp D m h u - ∑ r ∈ range 256, Spec.DS D h (256 * m + r) u := by
  simp only [dFp, Nat.mul_succ, sum_range_add]; ring

theorem dKp_zero (h u d : ℕ) : dKp D ki h (256 * ki + u) d = 0 := by
  rw [dKp, sum_eq_zero fun t ht => by rw [Spec.DS_zero D (by have := mem_range.1 ht; omega), zero_mul], zero_mul]

theorem dVp_zero (h u d : ℕ) : dVp D ki h (256 * ki + u) d = 0 :=
  sum_eq_zero fun t ht => by rw [Spec.P_zero D (by have := mem_range.1 ht; omega), zero_mul]

theorem dFp_zero (h u : ℕ) : dFp D ki h (256 * ki + u) = 0 := by
  rw [dFp, sum_eq_zero fun t ht => Spec.DS_zero D (by have := mem_range.1 ht; omega), neg_zero]

theorem dKp_all (h u d : ℕ) : dKp D 8 h u d = Spec.dK D h u d := rfl
theorem dVp_all (h u d : ℕ) : dVp D 8 h u d = Spec.dV D h u d := rfl
theorem dFp_all (h u : ℕ) : dFp D 8 h u = Spec.dF D h u := rfl

/-! ## Partial sums over key blocks -/

variable (D) in
/-- The queries' gradient from the first `n` key blocks. -/
def dQk (n h t d : ℕ) : ℝ := (∑ u ∈ range (256 * n), Spec.DS D h t u * D.K h u d) * (1 / 8)

variable (D) in
/-- The queries' gradient while key block `ki` is walked: its part is in for the query blocks before `m`. -/
def dQp (m h t d : ℕ) : ℝ := dQk D (if t / 256 < m then ki + 1 else ki) h t d

theorem dQk_succ (n h t d : ℕ) : dQk D (n + 1) h t d
    = dQk D n h t d + (∑ u ∈ range 256, Spec.DS D h t (256 * n + u) * D.K h (256 * n + u) d) * (1 / 8) := by
  simp only [dQk, Nat.mul_succ, sum_range_add, add_mul]

theorem dQk_zero (h t d : ℕ) : dQk D 0 h t d = 0 := by simp [dQk]

theorem dQk_all (h t d : ℕ) : dQk D 8 h t d = Spec.dQ D h t d := rfl

/-- Before the walk: the query blocks before the key block take nothing from it. -/
theorem dQp_start (h t d : ℕ) : dQp D ki ki h t d = dQk D ki h t d := by
  rw [dQp]; split
  · rw [dQk_succ, sum_eq_zero fun u _ => by rw [Spec.DS_zero D (by omega), zero_mul], zero_mul, add_zero]
  · rfl

theorem dQp_in (m h t d : ℕ) (ht : t / 256 = m) : dQp D ki (m + 1) h t d
    = dQp D ki m h t d + (∑ u ∈ range 256, Spec.DS D h t (256 * ki + u) * D.K h (256 * ki + u) d) * (1 / 8) := by
  rw [dQp, dQp, if_pos (by omega), if_neg (by omega), dQk_succ]

theorem dQp_out (m h t d : ℕ) (ht : t / 256 ≠ m) : dQp D ki (m + 1) h t d = dQp D ki m h t d := by
  rw [dQp, dQp]
  by_cases h1 : t / 256 < m
  · rw [if_pos (by omega), if_pos h1]
  · rw [if_neg (by omega), if_neg h1]

theorem dQp_end (h t d : ℕ) (ht : t < 2048) : dQp D ki 8 h t d = dQk D (ki + 1) h t d := by
  rw [dQp, if_pos (by omega)]

end Cert.Proof

end
-- ==== Proof.Fold.lean ====
module

public import proofs.«01_k».proof.Proof.Sums
public import proofs.«01_k».proof.Proof.Blocks

/-!
# The walk of one grid point in real numbers

`Inv m` says what the carried values and the query gradient hold once the query blocks before `m` are in. The diagonal tile
establishes it, each tile below keeps it, so the point leaves the sums over all query blocks.
-/

@[expose] public section

set_option maxRecDepth 16384

noncomputable section

namespace Cert.Proof

open Cert.KernelIdeal Cert.KernelIdeal.Gen Idealize.ShloMosaic Idealize.ShloMosaic.TcCoe Finset

/-! ## Rows of a buffer of 2048 rows -/

section Rows

variable (X : Vec Ideal S2048x128 .f32) (off : Fin 2 → ℕ) (h : ∀ a, off a + S256x128.size a ≤ S2048x128.size a)
  (j : ℕ) (e : off = ![256 * j, 0])

include e in
theorem rowsAt_idx (r : Fin 256) (c : Fin 128) (hr : 256 * j + r.val < 2048) :
    (Rect.unit (s := S2048x128) off S256x128.size h).idx (ix2 r c) = ix2 ⟨256 * j + r.val, hr⟩ c := by
  subst e
  funext a
  fin_cases a
  · exact Fin.ext (show 256 * j + 1 * r.val = 256 * j + r.val by omega)
  · exact Fin.ext (show 0 + 1 * c.val = c.val by omega)

include e in
theorem rowsAt_read (r : Fin 256) (c : Fin 128) (hr : 256 * j + r.val < 2048) :
    rowsAt X off h (ix2 r c) = X (ix2 ⟨256 * j + r.val, hr⟩ c) := by
  show X ((Rect.unit (s := S2048x128) off S256x128.size h).idx (ix2 r c)) = _
  rw [rowsAt_idx off h j e r c hr]

include e in
theorem putRows_in (w : Vec Ideal S256x128 .f32) (t : Fin 2048) (r : Fin 256) (c : Fin 128) (ht : t.val = 256 * j + r.val) :
    putRows X off h w (ix2 t c) = w (ix2 r c) := by
  have hr : 256 * j + r.val < 2048 := ht ▸ t.isLt
  rw [show t = ⟨256 * j + r.val, hr⟩ from Fin.ext ht, ← rowsAt_idx off h j e r c hr]
  exact Rect.overlay_emb (Rect.unit (s := S2048x128) off S256x128.size h) X w (ix2 r c)

include e in
theorem putRows_out (w : Vec Ideal S256x128 .f32) (t : Fin 2048) (c : Fin 128) (ht : t.val / 256 ≠ j) :
    putRows X off h w (ix2 t c) = X (ix2 t c) := by
  subst e
  refine Rect.overlay_of_not_mem (Rect.unit (s := S2048x128) ![256 * j, 0] S256x128.size h) X w fun hm => ht ?_
  have h0 := Rect.mem_set_unit.1 hm 0
  have h1 : 256 * j ≤ t.val ∧ t.val < 256 * j + 256 := h0
  omega

end Rows

/-! ## The windows -/

/-- The blocks of one grid point hold these reals: `p` is its pair of heads and `ki` its key block. -/
structure Windows (D : Spec.Data) (p ki : ℕ) (x0 : Vec Ideal S2048x128 .f32) (x1 x2 : Vec Ideal S256x128 .f32)
    (x3 : Vec Ideal S1x2x256 .f32) (x4 x5 x6 : Vec Ideal S2048x128 .f32) : Prop where
  hq : ∀ (t : Fin 2048) (c : Fin 128), x0 (ix2 t c) = ((D.Q (2 * p + c / 64) t (c % 64) : ℝ) : EReal)
  hk : ∀ (u : Fin 256) (c : Fin 128), x1 (ix2 u c) = ((D.K (2 * p + c / 64) (256 * ki + u) (c % 64) : ℝ) : EReal)
  hv : ∀ (u : Fin 256) (c : Fin 128), x2 (ix2 u c) = ((D.V (2 * p + c / 64) (256 * ki + u) (c % 64) : ℝ) : EReal)
  hf : ∀ (b : Fin 2) (u : Fin 256), x3 (ix3 0 b u) = ((D.F (2 * p + b) (256 * ki + u) : ℝ) : EReal)
  ho : ∀ (t : Fin 2048) (c : Fin 128), x4 (ix2 t c) = ((Spec.O D (2 * p + c / 64) t (c % 64) : ℝ) : EReal)
  hl : ∀ (t : Fin 2048) (c : Fin 128), x5 (ix2 t c) = ((Real.log (Spec.Z D (2 * p + c / 64) t) : ℝ) : EReal)
  hg : ∀ (t : Fin 2048) (c : Fin 128), x6 (ix2 t c) = ((D.G (2 * p + c / 64) t (c % 64) : ℝ) : EReal)

section Point

variable {D : Spec.Data} {p ki : ℕ} {x0 : Vec Ideal S2048x128 .f32} {x1 x2 : Vec Ideal S256x128 .f32}
    {x3 : Vec Ideal S1x2x256 .f32} {x4 x5 x6 : Vec Ideal S2048x128 .f32}

/-- The rows of query block `j` with the key block make a tile. -/
theorem holds_rows (W : Windows D p ki x0 x1 x2 x3 x4 x5 x6) (off : Fin 2 → ℕ)
    (h : ∀ a, off a + S256x128.size a ≤ S2048x128.size a) (j : ℕ) (e : off = ![256 * j, 0]) (hj : j < 8) :
    Holds (blk D p ki j) x1 x2 (gate0 x3) (gate1 x3) (rowsAt x0 off h) (rowsAt x4 off h) (rowsAt x5 off h) (rowsAt x6 off h) where
  hq r c := (rowsAt_read x0 off h j e r c (by omega)).trans (W.hq _ c)
  hk := W.hk
  hv := W.hv
  ho r c := (rowsAt_read x4 off h j e r c (by omega)).trans (W.ho _ c)
  hg r c := (rowsAt_read x6 off h j e r c (by omega)).trans (W.hg _ c)
  hl r c := (rowsAt_read x5 off h j e r c (by omega)).trans (W.hl _ c)
  hf0 u := by
    refine Eq.trans ?_ (W.hf 0 u)
    show x3 _ = x3 _
    congr 1
    funext a
    fin_cases a
    · rfl
    · rfl
    · exact Fin.ext (show 0 + 1 * u.val = u.val by omega)
  hf1 u := by
    refine Eq.trans ?_ (W.hf 1 u)
    show x3 _ = x3 _
    congr 1
    funext a
    fin_cases a
    · rfl
    · rfl
    · exact Fin.ext (show 0 + 1 * u.val = u.val by omega)

variable (D p ki) in
/-- What the walk holds once the query blocks before `m` are in. -/
structure Inv (m : ℕ) (s : Carry Ideal × Vec Ideal S2048x128 .f32) : Prop where
  dk : ∀ (u : Fin 256) (c : Fin 128), s.1.1 (ix2 u c) = ((dKp D m (2 * p + c / 64) (256 * ki + u) (c % 64) : ℝ) : EReal)
  dv : ∀ (u : Fin 256) (c : Fin 128), s.1.2.1 (ix2 u c) = ((dVp D m (2 * p + c / 64) (256 * ki + u) (c % 64) : ℝ) : EReal)
  df0 : ∀ u : Fin 256, s.1.2.2.1 (ix2 0 u) = ((dFp D m (2 * p + 0) (256 * ki + u) : ℝ) : EReal)
  df1 : ∀ u : Fin 256, s.1.2.2.2 (ix2 0 u) = ((dFp D m (2 * p + 1) (256 * ki + u) : ℝ) : EReal)
  dq : ∀ (t : Fin 2048) (c : Fin 128), s.2 (ix2 t c) = ((dQp D ki m (2 * p + c / 64) t (c % 64) : ℝ) : EReal)

variable (i : grid0.Coords)

/-- The diagonal tile. -/
theorem diag_inv (W : Windows D p ki x0 x1 x2 x3 x4 x5 x6) (hki : (i 1).val = ki) (d : Vec Ideal S2048x128 .f32)
    (hd : ∀ (t : Fin 2048) (c : Fin 128), d (ix2 t c) = ((dQk D ki (2 * p + c / 64) t (c % 64) : ℝ) : EReal)) :
    Inv D p ki (ki + 1) (diagState i x0 x1 x2 x3 x4 x5 x6 d) := by
  have hlt : ki < 8 := hki ▸ (i 1).isLt
  have e : k0_off1 i = ![256 * ki, 0] := by rw [k0_off1_eq, hki]
  have H := holds_rows W (k0_off1 i) (k0_off1_inb i) ki e hlt
  constructor
  · intro u c
    refine (diagC_dk H u c).trans ?_
    rw [dKp_succ, dKp_zero, zero_add]
    simp only [ds_diag]; rfl
  · intro u c
    refine (diagC_dv H u c).trans ?_
    rw [dVp_succ, dVp_zero, zero_add]
    simp only [p_diag]; rfl
  · intro u
    refine (diagC_df0 H u).trans ?_
    rw [dFp_succ, dFp_zero, zero_sub]
    simp only [ds_diag]
  · intro u
    refine (diagC_df1 H u).trans ?_
    rw [dFp_succ, dFp_zero, zero_sub]
    simp only [ds_diag]
  · intro t c
    show putRows d _ _ _ _ = _
    by_cases ht : t.val / 256 = ki
    · have hr : t.val % 256 < 256 := Nat.mod_lt _ (by omega)
      have ht' : t.val = 256 * ki + t.val % 256 := by omega
      rw [putRows_in d _ _ ki e _ t ⟨t.val % 256, hr⟩ c ht', dQp_in _ _ _ _ _ ht, dQp_start]
      refine (diagQ_read H _ ⟨t.val % 256, hr⟩ c _ ((rowsAt_read d _ _ ki e _ c (by omega)).trans (hd _ c))).trans ?_
      simp only [ds_diag]
      rw [← ht']; rfl
    · rw [putRows_out d _ _ ki e _ t c ht, dQp_out _ _ _ _ _ ht, dQp_start]
      exact hd t c

/-- A tile below the diagonal. -/
theorem tile_inv (W : Windows D p ki x0 x1 x2 x3 x4 x5 x6) (hki : (i 1).val = ki) (k : Fin (k0_t1_loop i).trips)
    (s : Carry Ideal × Vec Ideal S2048x128 .f32) (m : ℕ) (hm : m = ki + 1 + k.val) (hm8 : m < 8) (I : Inv D p ki m s) :
    Inv D p ki (m + 1) (tileState i x0 x1 x2 x3 x4 x5 x6 k s) := by
  have e : k0_off2 i k = ![256 * m, 0] := by
    rw [k0_off2_eq, hki, hm]; congr 1; omega
  have hlt : ki < m := by omega
  have H := holds_rows W (k0_off2 i k) (k0_off2_inb i k) m e hm8
  constructor
  · intro u c
    refine (tileC_dk _ H u c _ (I.dk u c)).trans ?_
    rw [dKp_succ]
    simp only [ds_below D p ki m _ _ _ hlt u.isLt]; rfl
  · intro u c
    refine (tileC_dv _ H u c _ (I.dv u c)).trans ?_
    rw [dVp_succ]
    simp only [p_below D p ki m _ _ _ hlt u.isLt]; rfl
  · intro u
    refine (tileC_df0 _ H u _ (I.df0 u)).trans ?_
    rw [dFp_succ]
    simp only [ds_below D p ki m _ _ _ hlt u.isLt]
  · intro u
    refine (tileC_df1 _ H u _ (I.df1 u)).trans ?_
    rw [dFp_succ]
    simp only [ds_below D p ki m _ _ _ hlt u.isLt]
  · intro t c
    show putRows s.2 _ _ _ _ = _
    by_cases ht : t.val / 256 = m
    · have hr : t.val % 256 < 256 := Nat.mod_lt _ (by omega)
      have ht' : t.val = 256 * m + t.val % 256 := by omega
      rw [putRows_in s.2 _ _ m e _ t ⟨t.val % 256, hr⟩ c ht', dQp_in _ _ _ _ _ ht]
      refine (tileQ_read H _ ⟨t.val % 256, hr⟩ c _ ((rowsAt_read s.2 _ _ m e _ c (by omega)).trans (I.dq _ c))).trans ?_
      rw [sum_congr rfl fun u hu => by rw [ds_below D p ki m _ _ _ hlt (mem_range.1 hu)]]
      simp only [← ht']; rfl
    · rw [putRows_out s.2 _ _ m e _ t c ht, dQp_out _ _ _ _ _ ht]
      exact I.dq t c

theorem trips_eq : ∀ i : grid0.Coords, (k0_t1_loop i).trips = 7 - (i 1).val := by decide +kernel

/-- The walk. -/
theorem walk_inv (W : Windows D p ki x0 x1 x2 x3 x4 x5 x6) (hki : (i 1).val = ki) (s : Carry Ideal × Vec Ideal S2048x128 .f32)
    (I : Inv D p ki (ki + 1) s) : ∀ n ≤ 7 - ki, Inv D p ki (ki + 1 + n) (walk i x0 x1 x2 x3 x4 x5 x6 s n)
  | 0, _ => I
  | n + 1, hn => by
    have hk : n < (k0_t1_loop i).trips := by rw [trips_eq, hki]; omega
    have := walk_succ i x0 x1 x2 x3 x4 x5 x6 s ⟨n, hk⟩
    dsimp only at this
    rw [this, ← Nat.add_assoc]
    exact tile_inv i W hki ⟨n, hk⟩ _ _ rfl (by omega) (walk_inv W hki s I n (by omega))

/-- What the point finds: nothing at the first key block, else the query gradient from the key blocks before. -/
def Found (D : Spec.Data) (p ki : ℕ) (d : Vec Ideal S2048x128 .f32) : Prop :=
  ∀ (t : Fin 2048) (c : Fin 128), d (ix2 t c) = ((dQk D ki (2 * p + c / 64) t (c % 64) : ℝ) : EReal)

theorem found_start (hki : (i 1).val = ki) (d : Vec Ideal S2048x128 .f32) (hd : ki ≠ 0 → Found D p ki d) :
    Found D p ki (start i d) := by
  intro t c
  unfold start
  by_cases h0 : ki = 0
  · rw [if_pos (hki.trans h0), h0, dQk_zero]
    pointwise [k0_pay33]
    rfl
  · rw [if_neg (by omega)]; exact hd h0 t c

/-- The point leaves the sums over all query blocks. -/
theorem point_inv (W : Windows D p ki x0 x1 x2 x3 x4 x5 x6) (hki : (i 1).val = ki) (d : Vec Ideal S2048x128 .f32)
    (hd : ki ≠ 0 → Found D p ki d) : Inv D p ki 8 (point i x0 x1 x2 x3 x4 x5 x6 d) := by
  have hlt : ki < 8 := hki ▸ (i 1).isLt
  have I := walk_inv i W hki _ (diag_inv i W hki _ (found_start i hki d hd)) (7 - ki) (Nat.le_refl _)
  rw [show ki + 1 + (7 - ki) = 8 by omega] at I
  unfold point
  rw [trips_eq, hki]
  exact I

/-- And the query gradient with this key block's part in. -/
theorem point_found (W : Windows D p ki x0 x1 x2 x3 x4 x5 x6) (hki : (i 1).val = ki) (d : Vec Ideal S2048x128 .f32)
    (hd : ki ≠ 0 → Found D p ki d) : Found D p (ki + 1) (point i x0 x1 x2 x3 x4 x5 x6 d).2 := fun t c => by
  rw [(point_inv i W hki d hd).dq t c, dQp_end _ _ _ _ t.isLt]

end Point

end Cert.Proof

end
-- ==== Proof.Arrays.lean ====
module

public import proofs.«01_k».proof.Proof.Run
public import proofs.«01_k».proof.Proof.Fold

/-!
# From grid points to whole arrays

`Entry` says what reals the arrays hold when the grid starts. Every window's block is then a block of these, the points leave the
gradients' blocks, and the write-backs tile the four result arrays with the whole gradients.
-/

@[expose] public section

set_option maxRecDepth 16384

noncomputable section

namespace Cert.Proof

open Cert.KernelIdeal Cert.KernelIdeal.Gen Idealize.ShloMosaic Idealize.ShloMosaic.TcCoe
open Idealize.ShloMosaic.Pipeline (Dat Cfg Window)

/-! ## The blocks' places -/

theorem index_0 : ∀ t : Fin grid0.N, win0_0.index t 0 = 0 ∧ win0_0.index t 1 = t.val / 8 := by decide +kernel
theorem index_1 : ∀ t : Fin grid0.N, win0_1.index t 0 = t.val % 8 ∧ win0_1.index t 1 = 4 + t.val / 8 := by decide +kernel
theorem index_2 : ∀ t : Fin grid0.N, win0_2.index t 0 = t.val % 8 ∧ win0_2.index t 1 = 24 + t.val / 8 := by decide +kernel
theorem index_3 : ∀ t : Fin grid0.N, win0_3.index t 0 = t.val / 8 ∧ win0_3.index t 1 = 0 ∧ win0_3.index t 2 = t.val % 8 := by decide +kernel
theorem index_4 : ∀ t : Fin grid0.N, win0_4.index t 0 = 0 ∧ win0_4.index t 1 = t.val / 8 := by decide +kernel
theorem index_5 : ∀ t : Fin grid0.N, win0_5.index t 0 = 0 ∧ win0_5.index t 1 = t.val / 8 := by decide +kernel
theorem index_6 : ∀ t : Fin grid0.N, win0_6.index t 0 = 0 ∧ win0_6.index t 1 = t.val / 8 := by decide +kernel
theorem index_7 : ∀ t : Fin grid0.N, win0_7.index t 0 = 0 ∧ win0_7.index t 1 = t.val / 8 := by decide +kernel
theorem index_8 : ∀ t : Fin grid0.N, win0_8.index t 0 = t.val % 8 ∧ win0_8.index t 1 = t.val / 8 := by decide +kernel
theorem index_9 : ∀ t : Fin grid0.N, win0_9.index t 0 = t.val % 8 ∧ win0_9.index t 1 = t.val / 8 := by decide +kernel
theorem index_10 : ∀ t : Fin grid0.N, win0_10.index t 0 = t.val / 8 ∧ win0_10.index t 1 = 0 ∧ win0_10.index t 2 = t.val % 8 := by decide +kernel

theorem point_lt (t : Fin cfg0.N) : t.val < 32 := Nat.lt_of_lt_of_eq t.isLt N_0

section Blocks

variable {F : FTy → Type} [FloatOps F] (m : (ℓ : Loc nD τ sig) → Buf (Elt F) ℓ)

theorem iblk_0 (c : Dev nD) (t : Fin cfg0.N) (r : Fin 2048) (l : Fin 128) (hr : r.val < 2048) (hl : 128 * (t.val / 8) + l.val < 1024) :
    iblk m c 0 t (ix2 r l) = V m c main_arg0 (ix2 ⟨r.val, hr⟩ ⟨128 * (t.val / 8) + l.val, hl⟩) := by
  show V m c main_arg0 (((cfg0.win 0).blk t).view.emb (ix2 r l)) = _
  congr 1
  funext a
  fin_cases a
  · exact Fin.ext (show win0_0.index t 0 * 2048 + 1 * r.val = r.val by rw [(index_0 t).1]; omega)
  · exact Fin.ext (show win0_0.index t 1 * 128 + 1 * l.val = 128 * (t.val / 8) + l.val by rw [(index_0 t).2]; omega)

theorem iblk_1 (c : Dev nD) (t : Fin cfg0.N) (r : Fin 256) (l : Fin 128) (hr : 256 * (t.val % 8) + r.val < 2048) (hl : 512 + 128 * (t.val / 8) + l.val < 1024) :
    iblk m c 1 t (ix2 r l) = V m c main_arg0 (ix2 ⟨256 * (t.val % 8) + r.val, hr⟩ ⟨512 + 128 * (t.val / 8) + l.val, hl⟩) := by
  show V m c main_arg0 (((cfg0.win 1).blk t).view.emb (ix2 r l)) = _
  congr 1
  funext a
  fin_cases a
  · exact Fin.ext (show win0_1.index t 0 * 256 + 1 * r.val = 256 * (t.val % 8) + r.val by rw [(index_1 t).1]; omega)
  · exact Fin.ext (show win0_1.index t 1 * 128 + 1 * l.val = 512 + 128 * (t.val / 8) + l.val by rw [(index_1 t).2]; omega)

theorem iblk_2 (c : Dev nD) (t : Fin cfg0.N) (r : Fin 256) (l : Fin 128) (hr : 256 * (t.val % 8) + r.val < 2048) (hl : 3072 + 128 * (t.val / 8) + l.val < 4224) :
    iblk m c 2 t (ix2 r l) = V m c main_arg1 (ix2 ⟨256 * (t.val % 8) + r.val, hr⟩ ⟨3072 + 128 * (t.val / 8) + l.val, hl⟩) := by
  show V m c main_arg1 (((cfg0.win 2).blk t).view.emb (ix2 r l)) = _
  congr 1
  funext a
  fin_cases a
  · exact Fin.ext (show win0_2.index t 0 * 256 + 1 * r.val = 256 * (t.val % 8) + r.val by rw [(index_2 t).1]; omega)
  · exact Fin.ext (show win0_2.index t 1 * 128 + 1 * l.val = 3072 + 128 * (t.val / 8) + l.val by rw [(index_2 t).2]; omega)

theorem iblk_4 (c : Dev nD) (t : Fin cfg0.N) (r : Fin 2048) (l : Fin 128) (hr : r.val < 2048) (hl : 128 * (t.val / 8) + l.val < 512) :
    iblk m c 4 t (ix2 r l) = V m c main_v31 (ix2 ⟨r.val, hr⟩ ⟨128 * (t.val / 8) + l.val, hl⟩) := by
  show V m c main_v31 (((cfg0.win 4).blk t).view.emb (ix2 r l)) = _
  congr 1
  funext a
  fin_cases a
  · exact Fin.ext (show win0_4.index t 0 * 2048 + 1 * r.val = r.val by rw [(index_4 t).1]; omega)
  · exact Fin.ext (show win0_4.index t 1 * 128 + 1 * l.val = 128 * (t.val / 8) + l.val by rw [(index_4 t).2]; omega)

theorem iblk_5 (c : Dev nD) (t : Fin cfg0.N) (r : Fin 2048) (l : Fin 128) (hr : r.val < 2048) (hl : 128 * (t.val / 8) + l.val < 512) :
    iblk m c 5 t (ix2 r l) = V m c main_v37 (ix2 ⟨r.val, hr⟩ ⟨128 * (t.val / 8) + l.val, hl⟩) := by
  show V m c main_v37 (((cfg0.win 5).blk t).view.emb (ix2 r l)) = _
  congr 1
  funext a
  fin_cases a
  · exact Fin.ext (show win0_5.index t 0 * 2048 + 1 * r.val = r.val by rw [(index_5 t).1]; omega)
  · exact Fin.ext (show win0_5.index t 1 * 128 + 1 * l.val = 128 * (t.val / 8) + l.val by rw [(index_5 t).2]; omega)

theorem iblk_6 (c : Dev nD) (t : Fin cfg0.N) (r : Fin 2048) (l : Fin 128) (hr : r.val < 2048) (hl : 128 * (t.val / 8) + l.val < 512) :
    iblk m c 6 t (ix2 r l) = V m c main_arg3 (ix2 ⟨r.val, hr⟩ ⟨128 * (t.val / 8) + l.val, hl⟩) := by
  show V m c main_arg3 (((cfg0.win 6).blk t).view.emb (ix2 r l)) = _
  congr 1
  funext a
  fin_cases a
  · exact Fin.ext (show win0_6.index t 0 * 2048 + 1 * r.val = r.val by rw [(index_6 t).1]; omega)
  · exact Fin.ext (show win0_6.index t 1 * 128 + 1 * l.val = 128 * (t.val / 8) + l.val by rw [(index_6 t).2]; omega)

theorem iblk_3 (c : Dev nD) (t : Fin cfg0.N) (b : Fin 2) (u : Fin 256) (hp : t.val / 8 < 4) (hu : 256 * (t.val % 8) + u.val < 2048) :
    iblk m c 3 t (ix3 0 b u) = V m c main_arg2 (ix3 ⟨t.val / 8, hp⟩ b ⟨256 * (t.val % 8) + u.val, hu⟩) := by
  show V m c main_arg2 (((cfg0.win 3).blk t).view.emb (ix3 0 b u)) = _
  congr 1
  funext a
  fin_cases a
  · exact Fin.ext (show win0_3.index t 0 * 1 + 1 * 0 = t.val / 8 by rw [(index_3 t).1]; omega)
  · exact Fin.ext (show win0_3.index t 1 * 2 + 1 * b.val = b.val by rw [(index_3 t).2.1]; omega)
  · exact Fin.ext (show win0_3.index t 2 * 256 + 1 * u.val = 256 * (t.val % 8) + u.val by rw [(index_3 t).2.2]; omega)

end Blocks

/-! ## The reals at the region's entry -/

/-- The arrays hold these reals: queries and keys side by side, the values inside the projection's row, the gate by pairs, the
attention's output and log-sum-exp as the forward pass saved them, and the cotangent. -/
structure Entry (D : Spec.Data) (a0 : Vec Ideal S2048x1024 .f32) (a1 : Vec Ideal S2048x4224 .f32) (a2 : Vec Ideal S4x2x2048 .f32)
    (a3 ao lse : Vec Ideal S2048x512 .f32) : Prop where
  hq : ∀ (t : Fin 2048) (l : Fin 1024), l.val < 512 → a0 (ix2 t l) = ((D.Q (l / 64) t (l % 64) : ℝ) : EReal)
  hk : ∀ (t : Fin 2048) (l : Fin 1024) (n : ℕ), l.val = 512 + n → a0 (ix2 t l) = ((D.K (n / 64) t (n % 64) : ℝ) : EReal)
  hv : ∀ (t : Fin 2048) (l : Fin 4224) (n : ℕ), l.val = 3072 + n → n < 512 → a1 (ix2 t l) = ((D.V (n / 64) t (n % 64) : ℝ) : EReal)
  hf : ∀ (p : Fin 4) (b : Fin 2) (t : Fin 2048), a2 (ix3 p b t) = ((D.F (2 * p + b) t : ℝ) : EReal)
  hg : ∀ (t : Fin 2048) (l : Fin 512), a3 (ix2 t l) = ((D.G (l / 64) t (l % 64) : ℝ) : EReal)
  ho : ∀ (t : Fin 2048) (l : Fin 512), ao (ix2 t l) = ((Spec.O D (l / 64) t (l % 64) : ℝ) : EReal)
  hl : ∀ (t : Fin 2048) (l : Fin 512), lse (ix2 t l) = ((Real.log (Spec.Z D (l / 64) t) : ℝ) : EReal)

section Final

variable (m : (ℓ : Loc nD τ sig) → Buf (Elt Ideal) ℓ) (D : Spec.Data) (c : Dev nD)

/-- The entry condition of one device. -/
abbrev Enters : Prop :=
  Entry D (V m c main_arg0) (V m c main_arg1) (V m c main_arg2) (V m c main_arg3) (V m c main_v31) (V m c main_v37)

variable {m D c}

theorem head_of (p l : ℕ) : (128 * p + l) / 64 = 2 * p + l / 64 := by omega
theorem lane_of (p l : ℕ) : (128 * p + l) % 64 = l % 64 := by omega

/-- The blocks at a point. -/
theorem windows (E : Enters m D c) (t : Fin cfg0.N) :
    Windows D (t.val / 8) (t.val % 8) (iblk m c 0 t) (iblk m c 1 t) (iblk m c 2 t) (iblk m c 3 t) (iblk m c 4 t) (iblk m c 5 t)
      (iblk m c 6 t) := by
  have ht := point_lt t
  constructor
  · intro r l
    rw [iblk_0 m c t r l (by omega) (by omega), E.hq _ _ (by dsimp only; omega)]
    dsimp only; rw [head_of, lane_of]
  · intro r l
    rw [iblk_1 m c t r l (by omega) (by omega), E.hk _ _ (128 * (t.val / 8) + l.val) (by dsimp only; omega), head_of, lane_of]
  · intro r l
    rw [iblk_2 m c t r l (by omega) (by omega), E.hv _ _ (128 * (t.val / 8) + l.val) (by dsimp only; omega) (by omega), head_of, lane_of]
  · intro b u
    rw [iblk_3 m c t b u (by omega) (by omega), E.hf]
  · intro r l
    rw [iblk_4 m c t r l (by omega) (by omega), E.ho]
    dsimp only; rw [head_of, lane_of]
  · intro r l
    rw [iblk_5 m c t r l (by omega) (by omega), E.hl]
    dsimp only; rw [head_of]
  · intro r l
    rw [iblk_6 m c t r l (by omega) (by omega), E.hg]
    dsimp only; rw [head_of, lane_of]

/-- What a point finds of the query gradient. -/
theorem found_eq (E : Enters m D c) : ∀ n, (h : n < cfg0.N) → n % 8 ≠ 0 → Found D (n / 8) (n % 8) (found m c n)
  | 0, _, h0 => absurd rfl h0
  | n + 1, h, h0 => by
    have hn : n < cfg0.N := Nat.lt_of_succ_lt h
    have e := found_succ m c ⟨n, hn⟩
    dsimp only at e
    rw [e, show (n + 1) / 8 = n / 8 by omega, show (n + 1) % 8 = n % 8 + 1 by omega]
    exact point_found _ (windows E ⟨n, hn⟩) (coord1 _) _ (found_eq E n hn)

/-- What a point leaves. -/
theorem pt_inv (E : Enters m D c) (t : Fin cfg0.N) : Inv D (t.val / 8) (t.val % 8) 8 (pt m c t (found m c t.val)) :=
  point_inv _ (windows E t) (coord1 t) _ (found_eq E t.val t.isLt)

variable (D) in
/-- The queries' gradient, head after head along the lanes. -/
def outQ : Vec Ideal S2048x512 .f32 := fun i => ((Spec.dQ D ((i 1).val / 64) (i 0).val ((i 1).val % 64) : ℝ) : EReal)
variable (D) in
/-- The keys' gradient. -/
def outK : Vec Ideal S2048x512 .f32 := fun i => ((Spec.dK D ((i 1).val / 64) (i 0).val ((i 1).val % 64) : ℝ) : EReal)
variable (D) in
/-- The values' gradient. -/
def outV : Vec Ideal S2048x512 .bf16 := fun i => ((Spec.dV D ((i 1).val / 64) (i 0).val ((i 1).val % 64) : ℝ) : EReal)
variable (D) in
/-- The cumulative gate's gradient, by pairs of heads. -/
def outF : Vec Ideal S4x2x2048 .f32 := fun i => ((Spec.dF D (2 * (i 0).val + (i 1).val) (i 2).val : ℝ) : EReal)

theorem flushed_7 (E : Enters m D c) (t : Fin cfg0.N) (hf : (cfg0.win 7).flush t = true) :
    (dats m 0 c).flushed 7 t = ((cfg0.win 7).blk t).view.read (Elt Ideal) (outQ D) := by
  have h7 : t.val % 8 = 7 := (flush0_7 t).mp hf
  show (cfg0.win 7).cut (grid0.coords t) ((dats m 0 c).after 7 t) = _
  rw [after_7]
  funext j
  obtain ⟨r, l, rfl⟩ : ∃ (r : Fin 2048) (l : Fin 128), j = ix2 r l := ⟨j 0, j 1, eq_ix2 j⟩
  show (pt m c t (found m c t.val)).2 (ix2 r l) = outQ D (((cfg0.win 7).blk t).view.emb (ix2 r l))
  rw [(pt_inv E t).dq r l, dQp_end _ _ _ _ r.isLt, h7, dQk_all, outQ]
  have e0 : (((cfg0.win 7).blk t).view.emb (ix2 r l) 0).val = r.val :=
    (show win0_7.index t 0 * 2048 + 1 * r.val = r.val by rw [(index_7 t).1]; omega)
  have e1 : (((cfg0.win 7).blk t).view.emb (ix2 r l) 1).val = 128 * (t.val / 8) + l.val :=
    (show win0_7.index t 1 * 128 + 1 * l.val = 128 * (t.val / 8) + l.val by rw [(index_7 t).2]; omega)
  rw [e0, e1, head_of, lane_of]

theorem flushed_8 (E : Enters m D c) (t : Fin cfg0.N) (_ : (cfg0.win 8).flush t = true) :
    (dats m 0 c).flushed 8 t = ((cfg0.win 8).blk t).view.read (Elt Ideal) (outK D) := by
  show (cfg0.win 8).cut (grid0.coords t) ((dats m 0 c).after 8 t) = _
  rw [after_8]
  funext j
  obtain ⟨r, l, rfl⟩ : ∃ (r : Fin 256) (l : Fin 128), j = ix2 r l := ⟨j 0, j 1, eq_ix2 j⟩
  show (pt m c t (found m c t.val)).1.1 (ix2 r l) = outK D (((cfg0.win 8).blk t).view.emb (ix2 r l))
  refine ((pt_inv E t).dk r l).trans ?_
  rw [dKp_all, outK]
  have e0 : (((cfg0.win 8).blk t).view.emb (ix2 r l) 0).val = 256 * (t.val % 8) + r.val :=
    (show win0_8.index t 0 * 256 + 1 * r.val = 256 * (t.val % 8) + r.val by rw [(index_8 t).1]; omega)
  have e1 : (((cfg0.win 8).blk t).view.emb (ix2 r l) 1).val = 128 * (t.val / 8) + l.val :=
    (show win0_8.index t 1 * 128 + 1 * l.val = 128 * (t.val / 8) + l.val by rw [(index_8 t).2]; omega)
  rw [e0, e1, head_of, lane_of]

theorem flushed_9 (E : Enters m D c) (t : Fin cfg0.N) (_ : (cfg0.win 9).flush t = true) :
    (dats m 0 c).flushed 9 t = ((cfg0.win 9).blk t).view.read (Elt Ideal) (outV D) := by
  show (cfg0.win 9).cut (grid0.coords t) ((dats m 0 c).after 9 t) = _
  rw [after_9]
  funext j
  obtain ⟨r, l, rfl⟩ : ∃ (r : Fin 256) (l : Fin 128), j = ix2 r l := ⟨j 0, j 1, eq_ix2 j⟩
  show k0_pay76 (pt m c t (found m c t.val)).1.2.1 (ix2 r l) = outV D (((cfg0.win 9).blk t).view.emb (ix2 r l))
  refine ((pt_inv E t).dv r l).trans ?_
  rw [dVp_all, outV]
  have e0 : (((cfg0.win 9).blk t).view.emb (ix2 r l) 0).val = 256 * (t.val % 8) + r.val :=
    (show win0_9.index t 0 * 256 + 1 * r.val = 256 * (t.val % 8) + r.val by rw [(index_9 t).1]; omega)
  have e1 : (((cfg0.win 9).blk t).view.emb (ix2 r l) 1).val = 128 * (t.val / 8) + l.val :=
    (show win0_9.index t 1 * 128 + 1 * l.val = 128 * (t.val / 8) + l.val by rw [(index_9 t).2]; omega)
  rw [e0, e1, head_of, lane_of]

/-- The two rows' places in the stored block. -/
theorem row_at (b : Fin 2) (inb : ∀ a, (![0, b.val, 0] : Fin 3 → ℕ) a + S1x1x256.size a ≤ S1x2x256.size a) (u : Fin 256) :
    (Rect.unit (s := S1x2x256) ![0, b.val, 0] S1x1x256.size inb).emb (ix3 0 0 u) = ix3 0 b u := by
  funext a
  fin_cases a
  · rfl
  · exact Fin.ext (show b.val + 1 * 0 = b.val by omega)
  · exact Fin.ext (show 0 + 1 * u.val = u.val by omega)

/-- The stored gate rows: the pair's first head's is row 0; -/
theorem gateOut_0 (a b : FVec Ideal S1x256 .f32) (u : Fin 256) : gateOut a b (ix3 0 0 u) = a (ix2 0 u) := by
  unfold gateOut
  rw [View.canon_cons_of_not_mem, ← row_at 0 inb_S1x2x256_S1x1x256_0_0_0 u]
  · refine (View.canon_cons_emb _ _ _ _).trans ?_
    pointwise [k0_pay1]
  · intro hm
    have hm' : ix3 0 0 u ∈ (Rect.unit (s := S1x2x256) ![0, 1, 0] S1x1x256.size inb_S1x2x256_S1x1x256_0_1_0).set := hm
    have h1 : 1 ≤ 0 := (Rect.mem_set_unit.1 hm' 1).1
    omega

/-- the second's is row 1. -/
theorem gateOut_1 (a b : FVec Ideal S1x256 .f32) (u : Fin 256) : gateOut a b (ix3 0 1 u) = b (ix2 0 u) := by
  unfold gateOut
  rw [← row_at 1 inb_S1x2x256_S1x1x256_0_1_0 u]
  refine (View.canon_cons_emb _ _ _ _).trans ?_
  pointwise [k0_pay2]

theorem flushed_10 (E : Enters m D c) (t : Fin cfg0.N) (_ : (cfg0.win 10).flush t = true) :
    (dats m 0 c).flushed 10 t = ((cfg0.win 10).blk t).view.read (Elt Ideal) (outF D) := by
  show (cfg0.win 10).cut (grid0.coords t) ((dats m 0 c).after 10 t) = _
  rw [after_10]
  funext j
  obtain ⟨z, b, u, rfl⟩ : ∃ (z : Fin 1) (b : Fin 2) (u : Fin 256), j = ix3 z b u := ⟨j 0, j 1, j 2, eq_ix3 j⟩
  obtain rfl : z = 0 := Subsingleton.elim _ _
  show gateOut (pt m c t (found m c t.val)).1.2.2.1 (pt m c t (found m c t.val)).1.2.2.2 (ix3 0 b u)
    = outF D (((cfg0.win 10).blk t).view.emb (ix3 0 b u))
  have e0 : (((cfg0.win 10).blk t).view.emb (ix3 0 b u) 0).val = t.val / 8 :=
    (show win0_10.index t 0 * 1 + 1 * 0 = t.val / 8 by rw [(index_10 t).1]; omega)
  have e1 : (((cfg0.win 10).blk t).view.emb (ix3 0 b u) 1).val = b.val :=
    (show win0_10.index t 1 * 2 + 1 * b.val = b.val by rw [(index_10 t).2.1]; omega)
  have e2 : (((cfg0.win 10).blk t).view.emb (ix3 0 b u) 2).val = 256 * (t.val % 8) + u.val :=
    (show win0_10.index t 2 * 256 + 1 * u.val = 256 * (t.val % 8) + u.val by rw [(index_10 t).2.2]; omega)
  rw [outF, e0, e1, e2]
  fin_cases b
  · exact (gateOut_0 _ _ u).trans (((pt_inv E t).df0 u).trans (by rw [dFp_all]))
  · exact (gateOut_1 _ _ u).trans (((pt_inv E t).df1 u).trans (by rw [dFp_all]))

/-! ## The four result arrays -/

theorem final_7 (E : Enters m D c) : (dats m 0 c).arrAt 7 cfg0.N = outQ D :=
  (dats m 0 c).arrAt_eq_of_cover 7 (outQ D) (flushed_7 E) fun i => by
    have h0 : (i 0).val < 2048 := (i 0).isLt
    have h1 : (i 1).val < 512 := (i 1).isLt
    have hN : (i 1).val / 128 * 8 + 7 < cfg0.N := Nat.lt_of_lt_of_eq (by omega) N_0.symm
    have hi := index_7 ⟨(i 1).val / 128 * 8 + 7, hN⟩
    dsimp only at hi
    refine ⟨⟨(i 1).val / 128 * 8 + 7, hN⟩, (flush0_7 _).mpr (by dsimp only; omega), ?_⟩
    show i ∈ ((View.whole main_v38_0).slice (win0_7.rect ⟨(i 1).val / 128 * 8 + 7, hN⟩)).set
    rw [View.set_slice_whole, Rect.mem_set_unit]
    intro a
    match a with
    | ⟨0, _⟩ =>
      show win0_7.index ⟨(i 1).val / 128 * 8 + 7, hN⟩ 0 * 2048 ≤ (i 0).val ∧ (i 0).val < win0_7.index ⟨(i 1).val / 128 * 8 + 7, hN⟩ 0 * 2048 + 2048
      rw [hi.1]; omega
    | ⟨1, _⟩ =>
      show win0_7.index ⟨(i 1).val / 128 * 8 + 7, hN⟩ 1 * 128 ≤ (i 1).val ∧ (i 1).val < win0_7.index ⟨(i 1).val / 128 * 8 + 7, hN⟩ 1 * 128 + 128
      rw [hi.2]; omega

theorem final_8 (E : Enters m D c) : (dats m 0 c).arrAt 8 cfg0.N = outK D :=
  (dats m 0 c).arrAt_eq_of_cover 8 (outK D) (flushed_8 E) fun i => by
    have h0 : (i 0).val < 2048 := (i 0).isLt
    have h1 : (i 1).val < 512 := (i 1).isLt
    have hN : (i 1).val / 128 * 8 + (i 0).val / 256 < cfg0.N := Nat.lt_of_lt_of_eq (by omega) N_0.symm
    have hi := index_8 ⟨(i 1).val / 128 * 8 + (i 0).val / 256, hN⟩
    dsimp only at hi
    refine ⟨⟨(i 1).val / 128 * 8 + (i 0).val / 256, hN⟩, flush0_8 _, ?_⟩
    show i ∈ ((View.whole main_v38_1).slice (win0_8.rect ⟨(i 1).val / 128 * 8 + (i 0).val / 256, hN⟩)).set
    rw [View.set_slice_whole, Rect.mem_set_unit]
    intro a
    match a with
    | ⟨0, _⟩ =>
      show win0_8.index ⟨(i 1).val / 128 * 8 + (i 0).val / 256, hN⟩ 0 * 256 ≤ (i 0).val ∧ (i 0).val < win0_8.index ⟨(i 1).val / 128 * 8 + (i 0).val / 256, hN⟩ 0 * 256 + 256
      rw [hi.1]; omega
    | ⟨1, _⟩ =>
      show win0_8.index ⟨(i 1).val / 128 * 8 + (i 0).val / 256, hN⟩ 1 * 128 ≤ (i 1).val ∧ (i 1).val < win0_8.index ⟨(i 1).val / 128 * 8 + (i 0).val / 256, hN⟩ 1 * 128 + 128
      rw [hi.2]; omega

theorem final_9 (E : Enters m D c) : (dats m 0 c).arrAt 9 cfg0.N = outV D :=
  (dats m 0 c).arrAt_eq_of_cover 9 (outV D) (flushed_9 E) fun i => by
    have h0 : (i 0).val < 2048 := (i 0).isLt
    have h1 : (i 1).val < 512 := (i 1).isLt
    have hN : (i 1).val / 128 * 8 + (i 0).val / 256 < cfg0.N := Nat.lt_of_lt_of_eq (by omega) N_0.symm
    have hi := index_9 ⟨(i 1).val / 128 * 8 + (i 0).val / 256, hN⟩
    dsimp only at hi
    refine ⟨⟨(i 1).val / 128 * 8 + (i 0).val / 256, hN⟩, flush0_9 _, ?_⟩
    show i ∈ ((View.whole main_v38_2).slice (win0_9.rect ⟨(i 1).val / 128 * 8 + (i 0).val / 256, hN⟩)).set
    rw [View.set_slice_whole, Rect.mem_set_unit]
    intro a
    match a with
    | ⟨0, _⟩ =>
      show win0_9.index ⟨(i 1).val / 128 * 8 + (i 0).val / 256, hN⟩ 0 * 256 ≤ (i 0).val ∧ (i 0).val < win0_9.index ⟨(i 1).val / 128 * 8 + (i 0).val / 256, hN⟩ 0 * 256 + 256
      rw [hi.1]; omega
    | ⟨1, _⟩ =>
      show win0_9.index ⟨(i 1).val / 128 * 8 + (i 0).val / 256, hN⟩ 1 * 128 ≤ (i 1).val ∧ (i 1).val < win0_9.index ⟨(i 1).val / 128 * 8 + (i 0).val / 256, hN⟩ 1 * 128 + 128
      rw [hi.2]; omega

theorem final_10 (E : Enters m D c) : (dats m 0 c).arrAt 10 cfg0.N = outF D :=
  (dats m 0 c).arrAt_eq_of_cover 10 (outF D) (flushed_10 E) fun i => by
    have h0 : (i 0).val < 4 := (i 0).isLt
    have h1 : (i 1).val < 2 := (i 1).isLt
    have h2 : (i 2).val < 2048 := (i 2).isLt
    have hN : (i 0).val * 8 + (i 2).val / 256 < cfg0.N := Nat.lt_of_lt_of_eq (by omega) N_0.symm
    have hi := index_10 ⟨(i 0).val * 8 + (i 2).val / 256, hN⟩
    dsimp only at hi
    refine ⟨⟨(i 0).val * 8 + (i 2).val / 256, hN⟩, flush0_10 _, ?_⟩
    show i ∈ ((View.whole main_v38_3).slice (win0_10.rect ⟨(i 0).val * 8 + (i 2).val / 256, hN⟩)).set
    rw [View.set_slice_whole, Rect.mem_set_unit]
    intro a
    match a with
    | ⟨0, _⟩ =>
      show win0_10.index ⟨(i 0).val * 8 + (i 2).val / 256, hN⟩ 0 * 1 ≤ (i 0).val ∧ (i 0).val < win0_10.index ⟨(i 0).val * 8 + (i 2).val / 256, hN⟩ 0 * 1 + 1
      rw [hi.1]; omega
    | ⟨1, _⟩ =>
      show win0_10.index ⟨(i 0).val * 8 + (i 2).val / 256, hN⟩ 1 * 2 ≤ (i 1).val ∧ (i 1).val < win0_10.index ⟨(i 0).val * 8 + (i 2).val / 256, hN⟩ 1 * 2 + 2
      rw [hi.2.1]; omega
    | ⟨2, _⟩ =>
      show win0_10.index ⟨(i 0).val * 8 + (i 2).val / 256, hN⟩ 2 * 256 ≤ (i 2).val ∧ (i 2).val < win0_10.index ⟨(i 0).val * 8 + (i 2).val / 256, hN⟩ 2 * 256 + 256
      rw [hi.2.2]; omega

end Final

end Cert.Proof

end
-- ==== Proof.RefRun.lean ====
/-
  The reference's run. Its @main is a straight line of 116 host operations; here they are listed in four stretches
  (masked scores; softmax; the gradients of the softmax; the four results), and each stretch's results are given as
  functions of what it reads. Nothing here depends on which floats are computed with.
-/
module

public import proofs.«01_k».proof.ReferenceIdeal
public import proofs.«01_k».proof.Proof.Gen.ReferenceIdeal
public import Idealize.ShloMosaic.Lib.StableHlo.Run
public import Idealize.ShloMosaic.Lib.StableHlo.RunHlo
public import Idealize.ShloMosaic.Lib.Claim

@[expose] public section
noncomputable section
namespace Cert.Proof.Ref
open Cert.ReferenceIdeal Cert.ReferenceIdeal.Gen Idealize.ShloMosaic Idealize.ShloMosaic.TcCoe Idealize.SL.Sem Idealize.ShloMosaic.StableHlo
variable {F : FTy → Type} [FloatOps F]

/-- An array of a buffer of a shape and entry type. -/
abbrev B (F : FTy → Type) (S : Shape) (e : EltTy) := (⟨S, e⟩ : BufTy).Contents (Elt F)

/-! ## What the stretches compute -/

/-- The queries by position, head and channel: the left half of the packed array. -/
def qR (x : Vec F S2048x1024 .f32) : Vec F S2048x8x64 .f32 :=
  shapeCast S2048x8x64 (extractStridedSlice S2048x512 ![0, 0] x slices_S2048x1024_S2048x512_0_0) shapeCasts_S2048x512_S2048x8x64
/-- The keys: the right half of the packed array. -/
def kR (x : Vec F S2048x1024 .f32) : Vec F S2048x8x64 .f32 :=
  shapeCast S2048x8x64 (extractStridedSlice S2048x512 ![0, 512] x slices_S2048x1024_S2048x512_0_512) shapeCasts_S2048x512_S2048x8x64
/-- The values: columns 3072 to 3583 of the projection. -/
def vR (x : Vec F S2048x4224 .f32) : Vec F S2048x8x64 .f32 :=
  shapeCast S2048x8x64 (extractStridedSlice S2048x512 ![0, 3072] x slices_S2048x4224_S2048x512_0_3072) shapeCasts_S2048x512_S2048x8x64
/-- The cumulated log forget gates by head and position. -/
def fR (x : Vec F S4x2x2048 .f32) : Vec F S8x2048 .f32 := shapeCast S8x2048 x shapeCasts_S4x2x2048_S8x2048
/-- The incoming gradient by position, head and channel. -/
def gR (x : Vec F S2048x512 .f32) : Vec F S2048x8x64 .f32 := shapeCast S2048x8x64 x shapeCasts_S2048x512_S2048x8x64
/-- Which key positions each query position sees. -/
def maskR : Vec F S8x2048x2048 .i1 :=
  broadcastInDim S8x2048x2048 ![1, 2] bcast_S2048x2048_S8x2048x2048_1_2
    (cmpi .sge (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0))))
/-- The scores, −∞ where the key is later than the query. -/
def scoresR (q k : Vec F S2048x8x64 .f32) (f : Vec F S8x2048 .f32) : Vec F S8x2048x2048 .f32 :=
  select (maskR (F := F))
    (addf (mulf (Host.dotGeneral dot_S2048x8x64_S2048x8x64_S8x2048x2048_2_2_0_0_1_1 none q k)
        (broadcastInDim S8x2048x2048 ![] bcast_S_S8x2048x2048 (constant S_ .f32 0x3E000000#32)))
      (subf (broadcastInDim S8x2048x2048 ![0, 1, 2] bcast_S8x2048x1_S8x2048x2048_0_1_2 (broadcastInDim S8x2048x1 ![0, 1] bcast_S8x2048_S8x2048x1_0_1 f))
        (broadcastInDim S8x2048x2048 ![0, 1, 2] bcast_S8x1x2048_S8x2048x2048_0_1_2 (broadcastInDim S8x1x2048 ![0, 2] bcast_S8x2048_S8x1x2048_0_2 f))))
    (broadcastInDim S8x2048x2048 ![] bcast_S_S8x2048x2048 (id (constant S_ .f32 0xFF800000#32)))
/-- The rows' greatest scores. -/
def maxR (s : Vec F S8x2048x2048 .f32) : Vec F S8x2048 .f32 :=
  Host.reduce FloatOps.maximumf s (constant S_ .f32 0xFF800000#32) reducesTo_S8x2048x2048_S8x2048_d2 h_S_
/-- The scores less their row's greatest, exponentiated. -/
def expR (s : Vec F S8x2048x2048 .f32) : Vec F S8x2048x2048 .f32 :=
  Host.exp (subf s (broadcastInDim S8x2048x2048 ![0, 1, 2] bcast_S8x2048x1_S8x2048x2048_0_1_2
    (broadcastInDim S8x2048x1 ![0, 1] bcast_S8x2048_S8x2048x1_0_1
      (maximumf (broadcastInDim S8x2048 ![] bcast_S_S8x2048 (constant S_ .f32 0xFF800000#32)) (maxR s)))))
/-- Their row sums. -/
def sumR (e : Vec F S8x2048x2048 .f32) : Vec F S8x2048x1 .f32 :=
  broadcastInDim S8x2048x1 ![0, 1] bcast_S8x2048_S8x2048x1_0_1
    (Host.reduceAdd e (constant S_ .f32 0x00000000#32) reducesTo_S8x2048x2048_S8x2048_d2 h_S_)
/-- The attention weights. -/
def probR (e : Vec F S8x2048x2048 .f32) (l : Vec F S8x2048x1 .f32) : Vec F S8x2048x2048 .f32 :=
  Host.divf e (broadcastInDim S8x2048x2048 ![0, 1, 2] bcast_S8x2048x1_S8x2048x2048_0_1_2 l)
/-- The gradient of the values. -/
def dvR (g : Vec F S2048x8x64 .f32) (p : Vec F S8x2048x2048 .f32) : Vec F S2048x8x64 .f32 :=
  transpose S2048x8x64 [2, 0, 1]
    (Host.dotGeneral dot_S8x64x2048_S8x2048x2048_S8x64x2048_2_1_1_2_0_0 none
      (transpose S8x64x2048 [1, 2, 0] g transposes_S2048x8x64_S8x64x2048_1_2_0) p)
    transposes_S8x64x2048_S2048x8x64_2_0_1
/-- The gradient of the attention weights. -/
def dpR (g v : Vec F S2048x8x64 .f32) : Vec F S8x2048x2048 .f32 :=
  Host.dotGeneral dot_S8x64x2048_S2048x8x64_S8x2048x2048_1_2_2_0_0_1 none
    (transpose S8x64x2048 [1, 2, 0] g transposes_S2048x8x64_S8x64x2048_1_2_0) v
/-- What reaches the row sums, negated: the weights' gradient against the quotient's derivative. -/
def dlR (dp e : Vec F S8x2048x2048 .f32) (ll : Vec F S8x2048x1 .f32) : Vec F S8x2048 .f32 :=
  Host.reduceAdd
    (Host.negf (shapeCast S8x2048x1
      (Host.reduceAdd
        (mulf (mulf dp (broadcastInDim S8x2048x2048 ![0, 1, 2] bcast_S8x2048x1_S8x2048x2048_0_1_2
            (Host.divf (broadcastInDim S8x2048x1 ![] bcast_S_S8x2048x1 (constant S_ .f32 0x3F800000#32)) ll))) e)
        (constant S_ .f32 0x00000000#32) reducesTo_S8x2048x2048_S8x2048_d2 h_S_)
      shapeCasts_S8x2048_S8x2048x1))
    (constant S_ .f32 0x00000000#32) reducesTo_S8x2048x1_S8x2048_d2 h_S_
/-- The gradient of the scores. -/
def dsR (mask : Vec F S8x2048x2048 .i1) (dp e : Vec F S8x2048x2048 .f32) (l ll : Vec F S8x2048x1 .f32) : Vec F S8x2048x2048 .f32 :=
  select mask
    (mulf (addf (Host.divf dp (broadcastInDim S8x2048x2048 ![0, 1, 2] bcast_S8x2048x1_S8x2048x2048_0_1_2 l))
      (broadcastInDim S8x2048x2048 ![0, 1] bcast_S8x2048_S8x2048x2048_0_1 (dlR dp e ll))) e)
    (broadcastInDim S8x2048x2048 ![] bcast_S_S8x2048x2048 (constant S_ .f32 0x00000000#32))
/-- The scores' gradient by the scale of the scores. -/
def scaledR (ds : Vec F S8x2048x2048 .f32) : Vec F S8x2048x2048 .f32 :=
  mulf ds (broadcastInDim S8x2048x2048 ![] bcast_S_S8x2048x2048 (constant S_ .f32 0x3E000000#32))
/-- The gradient of the queries. -/
def dqR (ds : Vec F S8x2048x2048 .f32) (k : Vec F S2048x8x64 .f32) : Vec F S2048x512 .f32 :=
  shapeCast S2048x512 (transpose S2048x8x64 [1, 0, 2]
    (Host.dotGeneral dot_S8x2048x2048_S2048x8x64_S8x2048x64_2_0_1_2_0_1 none (scaledR ds) k)
    transposes_S8x2048x64_S2048x8x64_1_0_2) shapeCasts_S2048x8x64_S2048x512
/-- The gradient of the keys. -/
def dkR (ds : Vec F S8x2048x2048 .f32) (q : Vec F S2048x8x64 .f32) : Vec F S2048x512 .f32 :=
  shapeCast S2048x512 (transpose S2048x8x64 [1, 0, 2]
    (Host.dotGeneral dot_S8x2048x2048_S2048x8x64_S8x2048x64_1_0_2_2_0_1 none (scaledR ds) q)
    transposes_S8x2048x64_S2048x8x64_1_0_2) shapeCasts_S2048x8x64_S2048x512
/-- The values' gradient as it is returned. -/
def dvOut (dv : Vec F S2048x8x64 .f32) : Vec F S2048x512 .bf16 :=
  shapeCast S2048x512 (truncf .bf16 dv bitsLt_bf16_f32 : Vec F S2048x8x64 .bf16) shapeCasts_S2048x8x64_S2048x512
/-- The gates' gradient: row sums of the scores' gradient less its column sums. -/
def dfR (ds : Vec F S8x2048x2048 .f32) : Vec F S4x2x2048 .f32 :=
  shapeCast S4x2x2048
    (addf
      (Host.reduceAdd (shapeCast S8x1x2048
          (Host.reduceAdd (Host.negf ds) (constant S_ .f32 0x00000000#32) reducesTo_S8x2048x2048_S8x2048_d1 h_S_)
          shapeCasts_S8x2048_S8x1x2048)
        (constant S_ .f32 0x00000000#32) reducesTo_S8x1x2048_S8x2048_d1 h_S_)
      (Host.reduceAdd (shapeCast S8x2048x1
          (Host.reduceAdd ds (constant S_ .f32 0x00000000#32) reducesTo_S8x2048x2048_S8x2048_d2 h_S_)
          shapeCasts_S8x2048_S8x2048x1)
        (constant S_ .f32 0x00000000#32) reducesTo_S8x2048x1_S8x2048_d2 h_S_))
    shapeCasts_S8x2048_S4x2x2048

/-! ## The four stretches -/

/-- Operations 0 to 29: the operands and the masked scores. -/
abbrev opsA : List (HloOp τ sig (Elt F)) :=
  [ unary main_arg0 main_v0 ((extractStridedSlice S2048x512 ![0, 0] · slices_S2048x1024_S2048x512_0_0) : B F S2048x1024 .f32 → B F S2048x512 .f32),
    reshape main_v0 main_v1 (rfl : (.f32 : EltTy) = .f32) shapeCasts_S2048x512_S2048x8x64,
    unary main_arg0 main_v2 ((extractStridedSlice S2048x512 ![0, 512] · slices_S2048x1024_S2048x512_0_512) : B F S2048x1024 .f32 → B F S2048x512 .f32),
    reshape main_v2 main_v3 (rfl : (.f32 : EltTy) = .f32) shapeCasts_S2048x512_S2048x8x64,
    unary main_arg1 main_v4 ((extractStridedSlice S2048x512 ![0, 3072] · slices_S2048x4224_S2048x512_0_3072) : B F S2048x4224 .f32 → B F S2048x512 .f32),
    reshape main_v4 main_v5 (rfl : (.f32 : EltTy) = .f32) shapeCasts_S2048x512_S2048x8x64,
    reshape main_arg2 main_v6 (rfl : (.f32 : EltTy) = .f32) shapeCasts_S4x2x2048_S8x2048,
    binary main_v1 main_v3 main_v7 ((fun l r => Host.dotGeneral dot_S2048x8x64_S2048x8x64_S8x2048x2048_2_2_0_0_1_1 none l r) : B F S2048x8x64 .f32 → B F S2048x8x64 .f32 → B F S8x2048x2048 .f32),
    nullary main_cst (constant S_ .f32 0x3E000000#32),
    unary main_cst main_v8 (broadcastInDim S8x2048x2048 ![] bcast_S_S8x2048x2048 : B F S_ .f32 → B F S8x2048x2048 .f32),
    binary main_v7 main_v8 main_v9 (mulf : B F S8x2048x2048 .f32 → B F S8x2048x2048 .f32 → B F S8x2048x2048 .f32),
    unary main_v6 main_v10 (broadcastInDim S8x2048x1 ![0, 1] bcast_S8x2048_S8x2048x1_0_1 : B F S8x2048 .f32 → B F S8x2048x1 .f32),
    unary main_v6 main_v11 (broadcastInDim S8x1x2048 ![0, 2] bcast_S8x2048_S8x1x2048_0_2 : B F S8x2048 .f32 → B F S8x1x2048 .f32),
    unary main_v10 main_v12 (broadcastInDim S8x2048x2048 ![0, 1, 2] bcast_S8x2048x1_S8x2048x2048_0_1_2 : B F S8x2048x1 .f32 → B F S8x2048x2048 .f32),
    unary main_v11 main_v13 (broadcastInDim S8x2048x2048 ![0, 1, 2] bcast_S8x1x2048_S8x2048x2048_0_1_2 : B F S8x1x2048 .f32 → B F S8x2048x2048 .f32),
    binary main_v12 main_v13 main_v14 (subf : B F S8x2048x2048 .f32 → B F S8x2048x2048 .f32 → B F S8x2048x2048 .f32),
    binary main_v9 main_v14 main_v15 (addf : B F S8x2048x2048 .f32 → B F S8x2048x2048 .f32 → B F S8x2048x2048 .f32),
    nullary main_v16 (iotaInDim S2048 32 0),
    unary main_v16 main_v17 (broadcastInDim S2048x1 ![0] bcast_S2048_S2048x1_0 : B F S2048 .i32 → B F S2048x1 .i32),
    unary main_v16 main_v18 (broadcastInDim S1x2048 ![1] bcast_S2048_S1x2048_1 : B F S2048 .i32 → B F S1x2048 .i32),
    unary main_v17 main_v19 (broadcastInDim S2048x2048 ![0, 1] bcast_S2048x1_S2048x2048_0_1 : B F S2048x1 .i32 → B F S2048x2048 .i32),
    unary main_v18 main_v20 (broadcastInDim S2048x2048 ![0, 1] bcast_S1x2048_S2048x2048_0_1 : B F S1x2048 .i32 → B F S2048x2048 .i32),
    binary main_v19 main_v20 main_v21 (cmpi .sge : B F S2048x2048 .i32 → B F S2048x2048 .i32 → B F S2048x2048 .i1),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S2048x2048, .i1⟩) main_v21) (TRef.of (T := ⟨S8x2048x2048, .i1⟩) main_v22_1) (broadcastInDim S8x2048x2048 ![1, 2] bcast_S2048x2048_S8x2048x2048_1_2),
    TRef.unary (TRef.of (T := ⟨S_, .f32⟩) main_call0_v0) (TRef.of (T := ⟨S8x2048x2048, .f32⟩) main_call0_v2) (broadcastInDim S8x2048x2048 ![] bcast_S_S8x2048x2048),
    TRef.ternary (TRef.of (T := ⟨S8x2048x2048, .i1⟩) main_v22_1) (TRef.of (T := ⟨S8x2048x2048, .f32⟩) main_v15) (TRef.of (T := ⟨S8x2048x2048, .f32⟩) main_call0_v2) (TRef.of (T := ⟨S8x2048x2048, .f32⟩) main_v22_0) select,
    TRef.nullary (TRef.of (T := ⟨S_, .f32⟩) main_call0_cst) (constant S_ .f32 0x00000000#32),
    TRef.unary (TRef.of (T := ⟨S_, .f32⟩) main_call0_cst) (TRef.of (T := ⟨S8x2048x2048, .f32⟩) main_v22_2) (broadcastInDim S8x2048x2048 ![] bcast_S_S8x2048x2048) ]
/-- Operations 30 to 64: the softmax. -/
abbrev opsB : List (HloOp τ sig (Elt F)) :=
  [ nullary main_cst_1 (constant S_ .f32 0xFF800000#32),
    binary main_v22_0 main_cst_1 main_v23 ((fun x v => Host.reduce FloatOps.maximumf x v reducesTo_S8x2048x2048_S8x2048_d2 h_S_) : B F S8x2048x2048 .f32 → B F S_ .f32 → B F S8x2048 .f32),
    reshape main_v23 main_v24 (rfl : (.f32 : EltTy) = .f32) shapeCasts_S8x2048_S8x2048x1,
    unary main_v24 main_v25 (broadcastInDim S8x2048x2048 ![0, 1, 2] bcast_S8x2048x1_S8x2048x2048_0_1_2 : B F S8x2048x1 .f32 → B F S8x2048x2048 .f32),
    binary main_v22_0 main_v25 main_v26 (cmpf .oeq : B F S8x2048x2048 .f32 → B F S8x2048x2048 .f32 → B F S8x2048x2048 .i1),
    unary main_v26 main_v27 (uitofp .f32 : B F S8x2048x2048 .i1 → B F S8x2048x2048 .f32),
    nullary main_cst_2 (constant S_ .f32 0x00000000#32),
    binary main_v27 main_cst_2 main_v28 ((fun x v => Host.reduceAdd x v reducesTo_S8x2048x2048_S8x2048_d2 h_S_) : B F S8x2048x2048 .f32 → B F S_ .f32 → B F S8x2048 .f32),
    nullary main_cst_3 (constant S_ .f32 0xFF800000#32),
    unary main_cst_3 main_v29 (broadcastInDim S8x2048 ![] bcast_S_S8x2048 : B F S_ .f32 → B F S8x2048 .f32),
    binary main_v29 main_v23 main_v30 (maximumf : B F S8x2048 .f32 → B F S8x2048 .f32 → B F S8x2048 .f32),
    nullary main_cst_4 (constant S_ .f32 0xFF800000#32),
    unary main_cst_4 main_v31 (broadcastInDim S8x2048 ![] bcast_S_S8x2048 : B F S_ .f32 → B F S8x2048 .f32),
    binary main_v23 main_v31 main_v32 (cmpf .ogt : B F S8x2048 .f32 → B F S8x2048 .f32 → B F S8x2048 .i1),
    nullary main_cst_5 (constant S_ .f32 0xFF800000#32),
    unary main_cst_5 main_v33 (broadcastInDim S8x2048 ![] bcast_S_S8x2048 : B F S_ .f32 → B F S8x2048 .f32),
    binary main_v23 main_v33 main_v34 (cmpf .oeq : B F S8x2048 .f32 → B F S8x2048 .f32 → B F S8x2048 .i1),
    nullary main_cst_6 (constant S_ .f32 0x3F800000#32),
    unary main_cst_6 main_v35 (broadcastInDim S8x2048 ![] bcast_S_S8x2048 : B F S_ .f32 → B F S8x2048 .f32),
    nullary main_cst_7 (constant S_ .f32 0x00000000#32),
    unary main_cst_7 main_v36 (broadcastInDim S8x2048 ![] bcast_S_S8x2048 : B F S_ .f32 → B F S8x2048 .f32),
    nullary main_cst_8 (constant S_ .f32 0x3F000000#32),
    unary main_cst_8 main_v37 (broadcastInDim S8x2048 ![] bcast_S_S8x2048 : B F S_ .f32 → B F S8x2048 .f32),
    ternary main_v34 main_v37 main_v36 main_v38 (select : B F S8x2048 .i1 → B F S8x2048 .f32 → B F S8x2048 .f32 → B F S8x2048 .f32),
    ternary main_v32 main_v35 main_v38 main_v39 (select : B F S8x2048 .i1 → B F S8x2048 .f32 → B F S8x2048 .f32 → B F S8x2048 .f32),
    unary main_v30 main_v40 (broadcastInDim S8x2048x1 ![0, 1] bcast_S8x2048_S8x2048x1_0_1 : B F S8x2048 .f32 → B F S8x2048x1 .f32),
    unary main_v40 main_v41 (broadcastInDim S8x2048x2048 ![0, 1, 2] bcast_S8x2048x1_S8x2048x2048_0_1_2 : B F S8x2048x1 .f32 → B F S8x2048x2048 .f32),
    binary main_v22_0 main_v41 main_v42 (subf : B F S8x2048x2048 .f32 → B F S8x2048x2048 .f32 → B F S8x2048x2048 .f32),
    unary main_v42 main_v43 (Host.exp : B F S8x2048x2048 .f32 → B F S8x2048x2048 .f32),
    nullary main_cst_9 (constant S_ .f32 0x00000000#32),
    binary main_v43 main_cst_9 main_v44 ((fun x v => Host.reduceAdd x v reducesTo_S8x2048x2048_S8x2048_d2 h_S_) : B F S8x2048x2048 .f32 → B F S_ .f32 → B F S8x2048 .f32),
    unary main_v44 main_v45 (broadcastInDim S8x2048x1 ![0, 1] bcast_S8x2048_S8x2048x1_0_1 : B F S8x2048 .f32 → B F S8x2048x1 .f32),
    unary main_v45 main_v46 (broadcastInDim S8x2048x2048 ![0, 1, 2] bcast_S8x2048x1_S8x2048x2048_0_1_2 : B F S8x2048x1 .f32 → B F S8x2048x2048 .f32),
    binary main_v43 main_v46 main_v47 (Host.divf : B F S8x2048x2048 .f32 → B F S8x2048x2048 .f32 → B F S8x2048x2048 .f32),
    binary main_v45 main_v45 main_v48 (mulf : B F S8x2048x1 .f32 → B F S8x2048x1 .f32 → B F S8x2048x1 .f32) ]
/-- Operations 65 to 91: the values' gradient and the scores'. -/
abbrev opsC : List (HloOp τ sig (Elt F)) :=
  [ nullary main_cst_10 (constant S_ .f32 0x3F800000#32),
    unary main_cst_10 main_v49 (broadcastInDim S8x2048x1 ![] bcast_S_S8x2048x1 : B F S_ .f32 → B F S8x2048x1 .f32),
    binary main_v49 main_v48 main_v50 (Host.divf : B F S8x2048x1 .f32 → B F S8x2048x1 .f32 → B F S8x2048x1 .f32),
    binary main_v5 main_v47 main_v51 ((fun l r => Host.dotGeneral dot_S2048x8x64_S8x2048x2048_S8x64x2048_0_2_2_1_1_0 none l r) : B F S2048x8x64 .f32 → B F S8x2048x2048 .f32 → B F S8x64x2048 .f32),
    unary main_v51 main_v52 ((transpose S2048x8x64 [2, 0, 1] · transposes_S8x64x2048_S2048x8x64_2_0_1) : B F S8x64x2048 .f32 → B F S2048x8x64 .f32),
    reshape main_arg3 main_v53 (rfl : (.f32 : EltTy) = .f32) shapeCasts_S2048x512_S2048x8x64,
    unary main_v53 main_v54 ((transpose S8x64x2048 [1, 2, 0] · transposes_S2048x8x64_S8x64x2048_1_2_0) : B F S2048x8x64 .f32 → B F S8x64x2048 .f32),
    binary main_v54 main_v5 main_v55 ((fun l r => Host.dotGeneral dot_S8x64x2048_S2048x8x64_S8x2048x2048_1_2_2_0_0_1 none l r) : B F S8x64x2048 .f32 → B F S2048x8x64 .f32 → B F S8x2048x2048 .f32),
    binary main_v54 main_v47 main_v56 ((fun l r => Host.dotGeneral dot_S8x64x2048_S8x2048x2048_S8x64x2048_2_1_1_2_0_0 none l r) : B F S8x64x2048 .f32 → B F S8x2048x2048 .f32 → B F S8x64x2048 .f32),
    unary main_v56 main_v57 ((transpose S2048x8x64 [2, 0, 1] · transposes_S8x64x2048_S2048x8x64_2_0_1) : B F S8x64x2048 .f32 → B F S2048x8x64 .f32),
    unary main_v50 main_v58 (broadcastInDim S8x2048x2048 ![0, 1, 2] bcast_S8x2048x1_S8x2048x2048_0_1_2 : B F S8x2048x1 .f32 → B F S8x2048x2048 .f32),
    binary main_v55 main_v58 main_v59 (mulf : B F S8x2048x2048 .f32 → B F S8x2048x2048 .f32 → B F S8x2048x2048 .f32),
    binary main_v59 main_v43 main_v60 (mulf : B F S8x2048x2048 .f32 → B F S8x2048x2048 .f32 → B F S8x2048x2048 .f32),
    nullary main_cst_11 (constant S_ .f32 0x00000000#32),
    binary main_v60 main_cst_11 main_v61 ((fun x v => Host.reduceAdd x v reducesTo_S8x2048x2048_S8x2048_d2 h_S_) : B F S8x2048x2048 .f32 → B F S_ .f32 → B F S8x2048 .f32),
    reshape main_v61 main_v62 (rfl : (.f32 : EltTy) = .f32) shapeCasts_S8x2048_S8x2048x1,
    unary main_v62 main_v63 (Host.negf : B F S8x2048x1 .f32 → B F S8x2048x1 .f32),
    unary main_v45 main_v64 (broadcastInDim S8x2048x2048 ![0, 1, 2] bcast_S8x2048x1_S8x2048x2048_0_1_2 : B F S8x2048x1 .f32 → B F S8x2048x2048 .f32),
    binary main_v55 main_v64 main_v65 (Host.divf : B F S8x2048x2048 .f32 → B F S8x2048x2048 .f32 → B F S8x2048x2048 .f32),
    nullary main_cst_12 (constant S_ .f32 0x00000000#32),
    binary main_v63 main_cst_12 main_v66 ((fun x v => Host.reduceAdd x v reducesTo_S8x2048x1_S8x2048_d2 h_S_) : B F S8x2048x1 .f32 → B F S_ .f32 → B F S8x2048 .f32),
    unary main_v66 main_v67 (broadcastInDim S8x2048x2048 ![0, 1] bcast_S8x2048_S8x2048x2048_0_1 : B F S8x2048 .f32 → B F S8x2048x2048 .f32),
    binary main_v65 main_v67 main_v68 (addf : B F S8x2048x2048 .f32 → B F S8x2048x2048 .f32 → B F S8x2048x2048 .f32),
    binary main_v68 main_v43 main_v69 (mulf : B F S8x2048x2048 .f32 → B F S8x2048x2048 .f32 → B F S8x2048x2048 .f32),
    TRef.nullary (TRef.of (T := ⟨S_, .f32⟩) main_call1_cst) (constant S_ .f32 0x00000000#32),
    TRef.unary (TRef.of (T := ⟨S_, .f32⟩) main_call1_cst) (TRef.of (T := ⟨S8x2048x2048, .f32⟩) main_call1_v0) (broadcastInDim S8x2048x2048 ![] bcast_S_S8x2048x2048),
    TRef.ternary (TRef.of (T := ⟨S8x2048x2048, .i1⟩) main_v22_1) (TRef.of (T := ⟨S8x2048x2048, .f32⟩) main_v69) (TRef.of (T := ⟨S8x2048x2048, .f32⟩) main_call1_v0) (TRef.of (T := ⟨S8x2048x2048, .f32⟩) main_v70) select ]
/-- Operations 92 to 115: the four results. -/
abbrev opsD : List (HloOp τ sig (Elt F)) :=
  [ nullary main_cst_13 (constant S_ .f32 0x00000000#32),
    binary main_v70 main_cst_13 main_v71 ((fun x v => Host.reduceAdd x v reducesTo_S8x2048x2048_S8x2048_d2 h_S_) : B F S8x2048x2048 .f32 → B F S_ .f32 → B F S8x2048 .f32),
    reshape main_v71 main_v72 (rfl : (.f32 : EltTy) = .f32) shapeCasts_S8x2048_S8x2048x1,
    unary main_v70 main_v73 (Host.negf : B F S8x2048x2048 .f32 → B F S8x2048x2048 .f32),
    nullary main_cst_14 (constant S_ .f32 0x00000000#32),
    binary main_v73 main_cst_14 main_v74 ((fun x v => Host.reduceAdd x v reducesTo_S8x2048x2048_S8x2048_d1 h_S_) : B F S8x2048x2048 .f32 → B F S_ .f32 → B F S8x2048 .f32),
    reshape main_v74 main_v75 (rfl : (.f32 : EltTy) = .f32) shapeCasts_S8x2048_S8x1x2048,
    nullary main_cst_15 (constant S_ .f32 0x00000000#32),
    binary main_v75 main_cst_15 main_v76 ((fun x v => Host.reduceAdd x v reducesTo_S8x1x2048_S8x2048_d1 h_S_) : B F S8x1x2048 .f32 → B F S_ .f32 → B F S8x2048 .f32),
    nullary main_cst_16 (constant S_ .f32 0x00000000#32),
    binary main_v72 main_cst_16 main_v77 ((fun x v => Host.reduceAdd x v reducesTo_S8x2048x1_S8x2048_d2 h_S_) : B F S8x2048x1 .f32 → B F S_ .f32 → B F S8x2048 .f32),
    binary main_v76 main_v77 main_v78 (addf : B F S8x2048 .f32 → B F S8x2048 .f32 → B F S8x2048 .f32),
    nullary main_cst_17 (constant S_ .f32 0x3E000000#32),
    unary main_cst_17 main_v79 (broadcastInDim S8x2048x2048 ![] bcast_S_S8x2048x2048 : B F S_ .f32 → B F S8x2048x2048 .f32),
    binary main_v70 main_v79 main_v80 (mulf : B F S8x2048x2048 .f32 → B F S8x2048x2048 .f32 → B F S8x2048x2048 .f32),
    binary main_v80 main_v1 main_v81 ((fun l r => Host.dotGeneral dot_S8x2048x2048_S2048x8x64_S8x2048x64_1_0_2_2_0_1 none l r) : B F S8x2048x2048 .f32 → B F S2048x8x64 .f32 → B F S8x2048x64 .f32),
    unary main_v81 main_v82 ((transpose S2048x8x64 [1, 0, 2] · transposes_S8x2048x64_S2048x8x64_1_0_2) : B F S8x2048x64 .f32 → B F S2048x8x64 .f32),
    binary main_v80 main_v3 main_v83 ((fun l r => Host.dotGeneral dot_S8x2048x2048_S2048x8x64_S8x2048x64_2_0_1_2_0_1 none l r) : B F S8x2048x2048 .f32 → B F S2048x8x64 .f32 → B F S8x2048x64 .f32),
    unary main_v83 main_v84 ((transpose S2048x8x64 [1, 0, 2] · transposes_S8x2048x64_S2048x8x64_1_0_2) : B F S8x2048x64 .f32 → B F S2048x8x64 .f32),
    reshape main_v84 main_v85 (rfl : (.f32 : EltTy) = .f32) shapeCasts_S2048x8x64_S2048x512,
    reshape main_v82 main_v86 (rfl : (.f32 : EltTy) = .f32) shapeCasts_S2048x8x64_S2048x512,
    unary main_v57 main_v87 ((truncf .bf16 · bitsLt_bf16_f32) : B F S2048x8x64 .f32 → B F S2048x8x64 .bf16),
    reshape main_v87 main_v88 (rfl : (.bf16 : EltTy) = .bf16) shapeCasts_S2048x8x64_S2048x512,
    reshape main_v78 main_v89 (rfl : (.f32 : EltTy) = .f32) shapeCasts_S8x2048_S4x2x2048 ]

theorem opsA_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub .., reshape_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub ..⟩

theorem opsB_sub : (opsB : List (HloOp τ sig (Elt F))).Forall fun op => op.bufs ⊆ tcRefs τ sig :=
  ⟨nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

theorem opsC_sub : (opsC : List (HloOp τ sig (Elt F))).Forall fun op => op.bufs ⊆ tcRefs τ sig :=
  ⟨nullary_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub ..⟩

theorem opsD_sub : (opsD : List (HloOp τ sig (Elt F))).Forall fun op => op.bufs ⊆ tcRefs τ sig :=
  ⟨nullary_bufs_sub .., binary_bufs_sub .., reshape_bufs_sub .., unary_bufs_sub .., nullary_bufs_sub .., binary_bufs_sub .., reshape_bufs_sub .., nullary_bufs_sub .., binary_bufs_sub .., nullary_bufs_sub .., binary_bufs_sub .., binary_bufs_sub .., nullary_bufs_sub .., unary_bufs_sub .., binary_bufs_sub .., binary_bufs_sub .., unary_bufs_sub .., binary_bufs_sub .., unary_bufs_sub .., reshape_bufs_sub .., reshape_bufs_sub .., unary_bufs_sub .., reshape_bufs_sub .., reshape_bufs_sub ..⟩

/-- The whole list. -/
abbrev opsAll : List (HloOp τ sig (Elt F)) := (opsA ++ opsB) ++ (opsC ++ opsD)

set_option maxRecDepth 8192 in
theorem part0_eq (c : Dev nD) : main_part0 (F := F) c = seq (opsA ++ opsB) := rfl
set_option maxRecDepth 8192 in
theorem part1_eq (c : Dev nD) : main_part1 (F := F) c = seq (opsC ++ opsD) := rfl

/-- @main is the list, run in order. -/
theorem main_eq (c : Dev nD) : main (F := F) c = seq opsAll := by
  unfold main
  rw [part0_eq, part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig := by
  simp only [opsAll, List.forall_append]
  exact ⟨⟨opsA_sub, opsB_sub⟩, opsC_sub, opsD_sub⟩

/-- @main terminates with every buffer at what the operations leave in it. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsAll (launchContents m c) (Proc.devRef .tc b) :=
  run_seq scopedRefs_eq scopedSems_eq defs main (fun _ => opsAll) main_eq (fun _ => opsAll_sub) m ρ

/-! ## The stretches' results, of what they read -/

section Values
variable (W : Valuation τ sig (Elt F))

set_option maxRecDepth 8192
set_option maxHeartbeats 4000000

/-- What the first stretch leaves, -/
theorem opsA_at :
    after opsA W (Proc.devRef .tc main_v1) = qR (W (Proc.devRef .tc main_arg0))
    ∧ after opsA W (Proc.devRef .tc main_v3) = kR (W (Proc.devRef .tc main_arg0))
    ∧ after opsA W (Proc.devRef .tc main_v5) = vR (W (Proc.devRef .tc main_arg1))
    ∧ after opsA W (Proc.devRef .tc main_v22_1) = maskR (F := F)
    ∧ after opsA W (Proc.devRef .tc main_v22_0) = scoresR (qR (W (Proc.devRef .tc main_arg0))) (kR (W (Proc.devRef .tc main_arg0))) (fR (W (Proc.devRef .tc main_arg2)))
    ∧ after opsA W (Proc.devRef .tc main_arg0) = W (Proc.devRef .tc main_arg0)
    ∧ after opsA W (Proc.devRef .tc main_arg1) = W (Proc.devRef .tc main_arg1)
    ∧ after opsA W (Proc.devRef .tc main_arg2) = W (Proc.devRef .tc main_arg2)
    ∧ after opsA W (Proc.devRef .tc main_arg3) = W (Proc.devRef .tc main_arg3) := by
  refine ⟨?_, ?_, ?_, ?_, ?_, ?_, ?_, ?_, ?_⟩ <;>
    (simp only [opsA, TRef.nullary, TRef.ternary, TRef.unary, TRef.toBuf, TRef.ofBuf, cast_eq]
     after_results_simp <;> rfl)

/-- the second, -/
theorem opsB_at :
    after opsB W (Proc.devRef .tc main_v43) = expR (W (Proc.devRef .tc main_v22_0))
    ∧ after opsB W (Proc.devRef .tc main_v45) = sumR (expR (W (Proc.devRef .tc main_v22_0)))
    ∧ after opsB W (Proc.devRef .tc main_v47) = probR (expR (W (Proc.devRef .tc main_v22_0))) (sumR (expR (W (Proc.devRef .tc main_v22_0))))
    ∧ after opsB W (Proc.devRef .tc main_v48) = mulf (sumR (expR (W (Proc.devRef .tc main_v22_0)))) (sumR (expR (W (Proc.devRef .tc main_v22_0))))
    ∧ after opsB W (Proc.devRef .tc main_arg0) = W (Proc.devRef .tc main_arg0)
    ∧ after opsB W (Proc.devRef .tc main_arg1) = W (Proc.devRef .tc main_arg1)
    ∧ after opsB W (Proc.devRef .tc main_arg2) = W (Proc.devRef .tc main_arg2)
    ∧ after opsB W (Proc.devRef .tc main_arg3) = W (Proc.devRef .tc main_arg3)
    ∧ after opsB W (Proc.devRef .tc main_v1) = W (Proc.devRef .tc main_v1)
    ∧ after opsB W (Proc.devRef .tc main_v3) = W (Proc.devRef .tc main_v3)
    ∧ after opsB W (Proc.devRef .tc main_v5) = W (Proc.devRef .tc main_v5)
    ∧ after opsB W (Proc.devRef .tc main_v22_1) = W (Proc.devRef .tc main_v22_1) := by
  refine ⟨?_, ?_, ?_, ?_, ?_, ?_, ?_, ?_, ?_, ?_, ?_, ?_⟩ <;>
    (simp only [opsB, TRef.nullary, TRef.ternary, TRef.unary, TRef.toBuf, TRef.ofBuf, cast_eq]
     after_results_simp <;> rfl)

/-- the third, -/
theorem opsC_at :
    after opsC W (Proc.devRef .tc main_v57) = dvR (gR (W (Proc.devRef .tc main_arg3))) (W (Proc.devRef .tc main_v47))
    ∧ after opsC W (Proc.devRef .tc main_v70) = dsR (W (Proc.devRef .tc main_v22_1)) (dpR (gR (W (Proc.devRef .tc main_arg3))) (W (Proc.devRef .tc main_v5))) (W (Proc.devRef .tc main_v43)) (W (Proc.devRef .tc main_v45)) (W (Proc.devRef .tc main_v48))
    ∧ after opsC W (Proc.devRef .tc main_arg0) = W (Proc.devRef .tc main_arg0)
    ∧ after opsC W (Proc.devRef .tc main_arg1) = W (Proc.devRef .tc main_arg1)
    ∧ after opsC W (Proc.devRef .tc main_arg2) = W (Proc.devRef .tc main_arg2)
    ∧ after opsC W (Proc.devRef .tc main_arg3) = W (Proc.devRef .tc main_arg3)
    ∧ after opsC W (Proc.devRef .tc main_v1) = W (Proc.devRef .tc main_v1)
    ∧ after opsC W (Proc.devRef .tc main_v3) = W (Proc.devRef .tc main_v3) := by
  refine ⟨?_, ?_, ?_, ?_, ?_, ?_, ?_, ?_⟩ <;>
    (simp only [opsC, TRef.nullary, TRef.ternary, TRef.unary, TRef.toBuf, TRef.ofBuf, cast_eq]
     after_results_simp <;> rfl)

/-- and the last. -/
theorem opsD_at :
    after opsD W (Proc.devRef .tc main_v85) = dqR (W (Proc.devRef .tc main_v70)) (W (Proc.devRef .tc main_v3))
    ∧ after opsD W (Proc.devRef .tc main_v86) = dkR (W (Proc.devRef .tc main_v70)) (W (Proc.devRef .tc main_v1))
    ∧ after opsD W (Proc.devRef .tc main_v88) = dvOut (W (Proc.devRef .tc main_v57))
    ∧ after opsD W (Proc.devRef .tc main_v89) = dfR (W (Proc.devRef .tc main_v70))
    ∧ after opsD W (Proc.devRef .tc main_arg0) = W (Proc.devRef .tc main_arg0)
    ∧ after opsD W (Proc.devRef .tc main_arg1) = W (Proc.devRef .tc main_arg1)
    ∧ after opsD W (Proc.devRef .tc main_arg2) = W (Proc.devRef .tc main_arg2)
    ∧ after opsD W (Proc.devRef .tc main_arg3) = W (Proc.devRef .tc main_arg3) := by
  refine ⟨?_, ?_, ?_, ?_, ?_, ?_, ?_, ?_⟩ <;>
    (simp only [opsD, TRef.nullary, TRef.ternary, TRef.unary, TRef.toBuf, TRef.ofBuf, cast_eq]
     after_results_simp <;> rfl)

end Values

/-! ## The run -/

/-- One list after another: the second runs from what the first leaves. -/
theorem after_two (a b : List (HloOp τ sig (Elt F))) (V : Valuation τ sig (Elt F)) : after (a ++ b) V = after b (after a V) := by
  induction a generalizing V with
  | nil => rfl
  | cons op l ih => exact ih _

/-- The exponentials, of the arguments. -/
def expOf (x0 : Vec F S2048x1024 .f32) (x2 : Vec F S4x2x2048 .f32) : Vec F S8x2048x2048 .f32 :=
  expR (scoresR (qR x0) (kR x0) (fR x2))
/-- The scores' gradient, of the arguments. -/
def dsOf (x0 : Vec F S2048x1024 .f32) (x1 : Vec F S2048x4224 .f32) (x2 : Vec F S4x2x2048 .f32) (x3 : Vec F S2048x512 .f32) :
    Vec F S8x2048x2048 .f32 :=
  dsR maskR (dpR (gR x3) (vR x1)) (expOf x0 x2) (sumR (expOf x0 x2)) (mulf (sumR (expOf x0 x2)) (sumR (expOf x0 x2)))
/-- The queries' gradient, of the arguments. -/
def dqOf (x0 : Vec F S2048x1024 .f32) (x1 : Vec F S2048x4224 .f32) (x2 : Vec F S4x2x2048 .f32) (x3 : Vec F S2048x512 .f32) :
    Vec F S2048x512 .f32 := dqR (dsOf x0 x1 x2 x3) (kR x0)
/-- The keys' gradient, of the arguments. -/
def dkOf (x0 : Vec F S2048x1024 .f32) (x1 : Vec F S2048x4224 .f32) (x2 : Vec F S4x2x2048 .f32) (x3 : Vec F S2048x512 .f32) :
    Vec F S2048x512 .f32 := dkR (dsOf x0 x1 x2 x3) (qR x0)
/-- The values' gradient, of the arguments. -/
def dvOf (x0 : Vec F S2048x1024 .f32) (x2 : Vec F S4x2x2048 .f32) (x3 : Vec F S2048x512 .f32) : Vec F S2048x512 .bf16 :=
  dvOut (dvR (gR x3) (probR (expOf x0 x2) (sumR (expOf x0 x2))))
/-- The gates' gradient, of the arguments. -/
def dfOf (x0 : Vec F S2048x1024 .f32) (x1 : Vec F S2048x4224 .f32) (x2 : Vec F S4x2x2048 .f32) (x3 : Vec F S2048x512 .f32) :
    Vec F S4x2x2048 .f32 := dfR (dsOf x0 x1 x2 x3)

/-- The reference runs: its four results at the functions above of its arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = dqOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v86) = dkOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v88) = dvOf (m ((c.tc : Thread nD τ).loc main_arg0)) (m ((c.tc : Thread nD τ).loc main_arg2)) (m ((c.tc : Thread nD τ).loc main_arg3))
      ∧ r.2.mem ((c.tc : Thread nD τ).loc main_v89) = dfOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_ops m ρ)
  refine ⟨(h c _).trans ?_, (h c _).trans ?_, (h c _).trans ?_, (h c _).trans ?_, (h c _).trans ?_, (h c _).trans ?_, (h c _).trans ?_, (h c _).trans ?_⟩ <;>
    rw [after_two, after_two, after_two]
  · rw [(opsD_at _).1, (opsC_at _).2.1, (opsC_at _).2.2.2.2.2.2.2, (opsB_at _).2.2.2.2.2.2.2.2.2.2.2, (opsB_at _).2.2.2.2.2.2.2.1, (opsB_at _).2.2.2.2.2.2.2.2.2.2.1, (opsB_at _).1, (opsB_at _).2.1, (opsB_at _).2.2.2.1, (opsB_at _).2.2.2.2.2.2.2.2.2.1, (opsA_at _).2.2.2.1, (opsA_at _).2.2.2.2.2.2.2.2, (opsA_at _).2.2.1, (opsA_at _).2.2.2.2.1, (opsA_at _).2.1]; rfl
  · rw [(opsD_at _).2.1, (opsC_at _).2.1, (opsC_at _).2.2.2.2.2.2.1, (opsB_at _).2.2.2.2.2.2.2.2.2.2.2, (opsB_at _).2.2.2.2.2.2.2.1, (opsB_at _).2.2.2.2.2.2.2.2.2.2.1, (opsB_at _).1, (opsB_at _).2.1, (opsB_at _).2.2.2.1, (opsB_at _).2.2.2.2.2.2.2.2.1, (opsA_at _).2.2.2.1, (opsA_at _).2.2.2.2.2.2.2.2, (opsA_at _).2.2.1, (opsA_at _).2.2.2.2.1, (opsA_at _).1]; rfl
  · rw [(opsD_at _).2.2.1, (opsC_at _).1, (opsB_at _).2.2.2.2.2.2.2.1, (opsB_at _).2.2.1, (opsA_at _).2.2.2.2.2.2.2.2, (opsA_at _).2.2.2.2.1]; rfl
  · rw [(opsD_at _).2.2.2.1, (opsC_at _).2.1, (opsB_at _).2.2.2.2.2.2.2.2.2.2.2, (opsB_at _).2.2.2.2.2.2.2.1, (opsB_at _).2.2.2.2.2.2.2.2.2.2.1, (opsB_at _).1, (opsB_at _).2.1, (opsB_at _).2.2.2.1, (opsA_at _).2.2.2.1, (opsA_at _).2.2.2.2.2.2.2.2, (opsA_at _).2.2.1, (opsA_at _).2.2.2.2.1]; rfl
  · rw [(opsD_at _).2.2.2.2.1, (opsC_at _).2.2.1, (opsB_at _).2.2.2.2.1, (opsA_at _).2.2.2.2.2.1]
  · rw [(opsD_at _).2.2.2.2.2.1, (opsC_at _).2.2.2.1, (opsB_at _).2.2.2.2.2.1, (opsA_at _).2.2.2.2.2.2.1]
  · rw [(opsD_at _).2.2.2.2.2.2.1, (opsC_at _).2.2.2.2.1, (opsB_at _).2.2.2.2.2.2.1, (opsA_at _).2.2.2.2.2.2.2.1]
  · rw [(opsD_at _).2.2.2.2.2.2.2, (opsC_at _).2.2.2.2.2.1, (opsB_at _).2.2.2.2.2.2.2.1, (opsA_at _).2.2.2.2.2.2.2.2]

/-- The reference's frame: it runs, its arguments end unchanged, and its counters are at rest, for it has none. -/
theorem frame_run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨(h c).2.2.2.2.1, (h c).2.2.2.2.2.1, (h c).2.2.2.2.2.2.1, (h c).2.2.2.2.2.2.2⟩,
    sem_eq_zero_of_no_sems (by decide) r.2⟩) (run m ρ)

end Cert.Proof.Ref
-- ==== Proof.Args.lean ====
module

public import proofs.«01_k».proof.Proof.Scalars
public import proofs.«01_k».proof.ReferenceIdeal

/-!
# What reals the arguments hold
-/

@[expose] public section

noncomputable section

namespace Cert.Proof

open Cert.ReferenceIdeal Idealize.ShloMosaic

/-- The arguments hold these reals: queries and keys side by side, the values inside the projection's row, the gate by pairs of
heads, and the cotangent of the attention's output. -/
structure Args (D : Spec.Data) (x0 : Vec Ideal S2048x1024 .f32) (x1 : Vec Ideal S2048x4224 .f32) (x2 : Vec Ideal S4x2x2048 .f32)
    (x3 : Vec Ideal S2048x512 .f32) : Prop where
  hq : ∀ (t : Fin 2048) (l : Fin 1024), l.val < 512 → x0 (ix2 t l) = ((D.Q (l / 64) t (l % 64) : ℝ) : EReal)
  hk : ∀ (t : Fin 2048) (l : Fin 1024) (n : ℕ), l.val = 512 + n → x0 (ix2 t l) = ((D.K (n / 64) t (n % 64) : ℝ) : EReal)
  hv : ∀ (t : Fin 2048) (l : Fin 4224) (n : ℕ), l.val = 3072 + n → n < 512 → x1 (ix2 t l) = ((D.V (n / 64) t (n % 64) : ℝ) : EReal)
  hf : ∀ (p : Fin 4) (b : Fin 2) (t : Fin 2048), x2 (ix3 p b t) = ((D.F (2 * p + b) t : ℝ) : EReal)
  hg : ∀ (t : Fin 2048) (l : Fin 512), x3 (ix2 t l) = ((D.G (l / 64) t (l % 64) : ℝ) : EReal)

/-- Arrays of real entries hold some such reals. -/
theorem args_of_real (x0 : Vec Ideal S2048x1024 .f32) (x1 : Vec Ideal S2048x4224 .f32) (x2 : Vec Ideal S4x2x2048 .f32)
    (x3 : Vec Ideal S2048x512 .f32) (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) : ∃ D, Args D x0 x1 x2 x3 := by
  choose r0 e0 using h0
  choose r1 e1 using h1
  choose r2 e2 using h2
  choose r3 e3 using h3
  have z2048 : 0 < 2048 := by omega
  refine ⟨{
    Q := fun h t d => r0 (ix2 (Fin.ofNat 2048 t) (Fin.ofNat 1024 (64 * h + d)))
    K := fun h t d => r0 (ix2 (Fin.ofNat 2048 t) (Fin.ofNat 1024 (512 + (64 * h + d))))
    V := fun h t d => r1 (ix2 (Fin.ofNat 2048 t) (Fin.ofNat 4224 (3072 + (64 * h + d))))
    G := fun h t d => r3 (ix2 (Fin.ofNat 2048 t) (Fin.ofNat 512 (64 * h + d)))
    F := fun h t => r2 (ix3 (Fin.ofNat 4 (h / 2)) (Fin.ofNat 2 h) (Fin.ofNat 2048 t)) }, ?_, ?_, ?_, ?_, ?_⟩
  · intro t l _
    rw [e0]; dsimp only
    rw [show Fin.ofNat 2048 t.val = t from Fin.ext (Nat.mod_eq_of_lt t.isLt),
      show Fin.ofNat 1024 (64 * (l.val / 64) + l.val % 64) = l from Fin.ext (show _ % 1024 = _ by omega)]
  · intro t l n hn
    rw [e0]; dsimp only
    rw [show Fin.ofNat 2048 t.val = t from Fin.ext (Nat.mod_eq_of_lt t.isLt),
      show Fin.ofNat 1024 (512 + (64 * (n / 64) + n % 64)) = l from Fin.ext (show _ % 1024 = _ by omega)]
  · intro t l n hn _
    rw [e1]; dsimp only
    rw [show Fin.ofNat 2048 t.val = t from Fin.ext (Nat.mod_eq_of_lt t.isLt),
      show Fin.ofNat 4224 (3072 + (64 * (n / 64) + n % 64)) = l from Fin.ext (show _ % 4224 = _ by omega)]
  · intro p b t
    rw [e2]; dsimp only
    rw [show Fin.ofNat 2048 t.val = t from Fin.ext (Nat.mod_eq_of_lt t.isLt),
      show Fin.ofNat 4 ((2 * p.val + b.val) / 2) = p from Fin.ext (show _ % 4 = _ by omega),
      show Fin.ofNat 2 (2 * p.val + b.val) = b from Fin.ext (show _ % 2 = _ by omega)]
  · intro t l
    rw [e3]; dsimp only
    rw [show Fin.ofNat 2048 t.val = t from Fin.ext (Nat.mod_eq_of_lt t.isLt),
      show Fin.ofNat 512 (64 * (l.val / 64) + l.val % 64) = l from Fin.ext (show _ % 512 = _ by omega)]

end Cert.Proof

end
-- ==== Proof.RefValue.lean ====
module

public import proofs.«01_k».proof.Proof.RefRun
public import proofs.«01_k».proof.Proof.Args

/-!
# The reference's four results in real numbers

Each stage of the reference is read at an index and computed over the reals the arguments hold; the differentiation of the
softmax comes out as the weights times the weights' gradient less its mean, and the gate's row sums vanish.
-/

@[expose] public section

set_option maxRecDepth 16384

noncomputable section

namespace Cert.Proof.Ref

open Cert.ReferenceIdeal Cert.ReferenceIdeal.Gen Idealize.ShloMosaic Idealize.ShloMosaic.TcCoe Finset

variable {D : Spec.Data} {x0 : Vec Ideal S2048x1024 .f32} {x1 : Vec Ideal S2048x4224 .f32} {x2 : Vec Ideal S4x2x2048 .f32}
    {x3 : Vec Ideal S2048x512 .f32}

theorem q_real (A : Args D x0 x1 x2 x3) (t : Fin 2048) (h : Fin 8) (d : Fin 64) :
    qR x0 (ix3 t h d) = ((D.Q h t d : ℝ) : EReal) := by
  pointwise [qR]
  rw [A.hq _ _ (by dsimp only; omega)]
  dsimp only
  rw [show (h.val * 64 + d.val) / 64 = h.val by omega, show (h.val * 64 + d.val) % 64 = d.val by omega]

theorem k_real (A : Args D x0 x1 x2 x3) (t : Fin 2048) (h : Fin 8) (d : Fin 64) :
    kR x0 (ix3 t h d) = ((D.K h t d : ℝ) : EReal) := by
  pointwise [kR]
  rw [A.hk _ _ (h.val * 64 + d.val) rfl, show (h.val * 64 + d.val) / 64 = h.val by omega, show (h.val * 64 + d.val) % 64 = d.val by omega]

theorem v_real (A : Args D x0 x1 x2 x3) (t : Fin 2048) (h : Fin 8) (d : Fin 64) :
    vR x1 (ix3 t h d) = ((D.V h t d : ℝ) : EReal) := by
  pointwise [vR]
  rw [A.hv _ _ (h.val * 64 + d.val) rfl (by omega), show (h.val * 64 + d.val) / 64 = h.val by omega,
    show (h.val * 64 + d.val) % 64 = d.val by omega]

theorem g_real (A : Args D x0 x1 x2 x3) (t : Fin 2048) (h : Fin 8) (d : Fin 64) :
    gR x3 (ix3 t h d) = ((D.G h t d : ℝ) : EReal) := by
  pointwise [gR]
  rw [A.hg]
  dsimp only
  rw [show (h.val * 64 + d.val) / 64 = h.val by omega, show (h.val * 64 + d.val) % 64 = d.val by omega]

theorem f_real (A : Args D x0 x1 x2 x3) (h : Fin 8) (t : Fin 2048) : fR x2 (ix2 h t) = ((D.F h t : ℝ) : EReal) := by
  pointwise [fR]
  rw [A.hf]
  dsimp only
  rw [show 2 * (h.val / 2) + h.val % 2 = h.val by omega]

/-- The masked scores: the key's gate taken off and the query's put on. -/
theorem scores_real (A : Args D x0 x1 x2 x3) (h : Fin 8) (t u : Fin 2048) : scoresR (qR x0) (kR x0) (fR x2) (ix3 h t u)
    = if u.val ≤ t.val then ((Spec.sc D h t u + D.F h t : ℝ) : EReal) else ⊥ := by
  have e : scoresR (qR x0) (kR x0) (fR x2) (ix3 h t u) = Scalar.select (IntOp.cmpi CmpIPredicate.sge (BitVec.ofNat 32 ↑t) (BitVec.ofNat 32 ↑u))
      ((∑ x, qR x0 (ix3 t h x) * kR x0 (ix3 u h x)) * Ideal.ofBits FTy.f32 1040187392#32 + (fR x2 (ix2 h t) - fR x2 (ix2 h u)))
      (Ideal.ofBits FTy.f32 4286578688#32) := by
    pointwise [scoresR, maskR]; rfl
  rw [e, select_sge (by omega) (by omega), ninf_word, eighth_word,
    dot_coe _ _ (fun d => D.Q h t d) (fun d => D.K h u d) (fun d => q_real A t h d) (fun d => k_real A u h d), f_real A, f_real A,
    ← EReal.coe_sub, ← EReal.coe_mul, ← EReal.coe_add]
  congr 2
  rw [Spec.sc]; ring

theorem max_read (s : Vec Ideal S8x2048x2048 .f32) (h : Fin 8) (t : Fin 2048) :
    maxR s (ix2 h t) = fold max ⊥ (fun u => s (ix3 h t u)) univ := by
  refine (host_max s _ reducesTo_S8x2048x2048_S8x2048_d2 h_S_ h t).trans ?_
  rw [← ninf_word]; rfl

/-- A row's number taken off and the rest exponentiated. -/
theorem shift_read (s : Vec Ideal S8x2048x2048 .f32) (M : Vec Ideal S8x2048 .f32) (h : Fin 8) (t u : Fin 2048) :
    (Host.exp (subf s (broadcastInDim S8x2048x2048 ![0, 1, 2] bcast_S8x2048x1_S8x2048x2048_0_1_2
      (broadcastInDim S8x2048x1 ![0, 1] bcast_S8x2048_S8x2048x1_0_1 M))) : FVec Ideal S8x2048x2048 .f32) (ix3 h t u)
      = Ideal.exp (s (ix3 h t u) - M (ix2 h t)) := by
  pointwise []

/-- The greatest of minus infinity and a row's number is the number. -/
theorem ninf_max (M : Vec Ideal S8x2048 .f32) (h : Fin 8) (t : Fin 2048) :
    (maximumf (broadcastInDim S8x2048 ![] bcast_S_S8x2048 (constant S_ .f32 0xFF800000#32)) M : FVec Ideal S8x2048 .f32) (ix2 h t)
      = M (ix2 h t) := by
  show max (Ideal.ofBits .f32 4286578688#32) (M (ix2 h t)) = _
  rw [ninf_word, max_eq_right bot_le]

theorem exp_read (s : Vec Ideal S8x2048x2048 .f32) (h : Fin 8) (t u : Fin 2048) :
    expR s (ix3 h t u) = Ideal.exp (s (ix3 h t u) - maxR s (ix2 h t)) := by
  unfold expR
  rw [shift_read, ninf_max]

/-- The exponentials: of the scores shifted by one real number in each row. -/
theorem exp_real (A : Args D x0 x1 x2 x3) : ∃ a : Fin 8 → Fin 2048 → ℝ, ∀ (h : Fin 8) (t u : Fin 2048),
    expOf x0 x2 (ix3 h t u) = ((Spec.E D (a h t) h t u : ℝ) : EReal) := by
  have hx := fun (h : Fin 8) (t : Fin 2048) => exp_row (fun u => scoresR (qR x0) (kR x0) (fR x2) (ix3 h t u))
    (fun u => Spec.sc D h t u + D.F h t) t (fun u => scores_real A h t u)
  choose M hM hE using hx
  refine ⟨fun h t => D.F h t - M h t, fun h t u => ?_⟩
  unfold expOf
  rw [exp_read, max_read, hM h t, hE h t u, Spec.E]
  simp only [add_sub_assoc]

section Softmax

variable {e : Vec Ideal S8x2048x2048 .f32} {a : Fin 8 → Fin 2048 → ℝ}

theorem sum_real (He : ∀ (h : Fin 8) (t u : Fin 2048), e (ix3 h t u) = ((Spec.E D (a h t) h t u : ℝ) : EReal)) (h : Fin 8)
    (t : Fin 2048) : sumR e (ix3 h t 0) = ((∑ u ∈ range 2048, Spec.E D (a h t) h t u : ℝ) : EReal) := by
  pointwise [sumR]
  exact sum_coe _ _ fun u => He h t u

/-- The weights. -/
theorem prob_real (He : ∀ (h : Fin 8) (t u : Fin 2048), e (ix3 h t u) = ((Spec.E D (a h t) h t u : ℝ) : EReal)) (h : Fin 8)
    (t u : Fin 2048) : probR e (sumR e) (ix3 h t u) = ((Spec.P D h t u : ℝ) : EReal) := by
  pointwise [probR]
  rw [sum_real He, He, Ideal.div_coe (Spec.sum_E_pos D _ _ _).ne', ← EReal.coe_mul, ← Spec.E_div D (a h t), mul_one_div]

end Softmax

theorem dp_real (A : Args D x0 x1 x2 x3) (h : Fin 8) (t u : Fin 2048) :
    dpR (gR x3) (vR x1) (ix3 h t u) = ((Spec.dP D h t u : ℝ) : EReal) := by
  pointwise [dpR]
  exact dot_coe _ _ _ _ (fun d => g_real A t h d) (fun d => v_real A u h d)

section Scores

variable {e dp : Vec Ideal S8x2048x2048 .f32} {a : Fin 8 → Fin 2048 → ℝ}

/-- What reaches a row's normaliser. -/
theorem dl_real (He : ∀ (h : Fin 8) (t u : Fin 2048), e (ix3 h t u) = ((Spec.E D (a h t) h t u : ℝ) : EReal))
    (Hp : ∀ (h : Fin 8) (t u : Fin 2048), dp (ix3 h t u) = ((Spec.dP D h t u : ℝ) : EReal)) (h : Fin 8) (t : Fin 2048) (L : ℝ)
    (hL : 0 < L) (ll : Vec Ideal S8x2048x1 .f32) (hll : ll (ix3 h t 0) = ((L * L : ℝ) : EReal)) : dlR dp e ll (ix2 h t)
    = ((-∑ u ∈ range 2048, Spec.dP D h t u * (1 / (L * L)) * Spec.E D (a h t) h t u : ℝ) : EReal) := by
  pointwise [dlR]
  rw [Fin.sum_univ_one, hll, Ideal.div_coe (mul_pos hL hL).ne', one_mul,
    dot_coe _ _ (fun u => Spec.dP D h t u * (1 / (L * L))) (fun u => Spec.E D (a h t) h t u)
      (fun u => by rw [Hp, ← EReal.coe_mul]) (fun u => He h t u), EReal.coe_neg]

/-- The scores' gradient. -/
theorem ds_real (He : ∀ (h : Fin 8) (t u : Fin 2048), e (ix3 h t u) = ((Spec.E D (a h t) h t u : ℝ) : EReal))
    (Hp : ∀ (h : Fin 8) (t u : Fin 2048), dp (ix3 h t u) = ((Spec.dP D h t u : ℝ) : EReal)) (h : Fin 8) (t u : Fin 2048) :
    dsR maskR dp e (sumR e) (mulf (sumR e) (sumR e)) (ix3 h t u) = ((Spec.DS D h t u : ℝ) : EReal) := by
  have hL := Spec.sum_E_pos D (a h t) h t
  have e1 : dsR maskR dp e (sumR e) (mulf (sumR e) (sumR e)) (ix3 h t u)
      = Scalar.select (IntOp.cmpi CmpIPredicate.sge (BitVec.ofNat 32 ↑t) (BitVec.ofNat 32 ↑u))
        ((Ideal.div (dp (ix3 h t u)) (sumR e (ix3 h t 0)) + dlR dp e (mulf (sumR e) (sumR e)) (ix2 h t)) * e (ix3 h t u)) 0 := by
    pointwise [dsR, maskR]
  rw [e1, select_sge (by omega) (by omega)]
  split
  · next hu =>
    rw [dl_real He Hp h t _ hL _ (by
        show sumR e (ix3 h t 0) * sumR e (ix3 h t 0) = _
        rw [sum_real He, ← EReal.coe_mul]), sum_real He, He, Hp, Ideal.div_coe hL.ne', ← EReal.coe_mul, ← EReal.coe_add,
      ← EReal.coe_mul, mul_one_div, Spec.DS_of_E D (a h t) hu _ rfl]
  · next hu => rw [Spec.DS_zero D (by omega)]; rfl

end Scores

theorem dsOf_real (A : Args D x0 x1 x2 x3) (h : Fin 8) (t u : Fin 2048) :
    dsOf x0 x1 x2 x3 (ix3 h t u) = ((Spec.DS D h t u : ℝ) : EReal) := by
  obtain ⟨a, He⟩ := exp_real A
  exact ds_real He (dp_real A) h t u

/-! ## The four results -/

theorem dq_real (A : Args D x0 x1 x2 x3) (t : Fin 2048) (l : Fin 512) :
    dqOf x0 x1 x2 x3 (ix2 t l) = ((Spec.dQ D (l / 64) t (l % 64) : ℝ) : EReal) := by
  unfold dqOf
  pointwise [dqR, scaledR]
  rw [eighth_word, dot_coe _ _ (fun u => Spec.DS D (l / 64) t u * (1 / 8)) (fun u => D.K (l / 64) u (l % 64))
    (fun u => by rw [dsOf_real A, ← EReal.coe_mul]) (fun u => k_real A u _ _), Spec.dQ, sum_mul]
  simp only [mul_right_comm]

theorem dk_real (A : Args D x0 x1 x2 x3) (u : Fin 2048) (l : Fin 512) :
    dkOf x0 x1 x2 x3 (ix2 u l) = ((Spec.dK D (l / 64) u (l % 64) : ℝ) : EReal) := by
  unfold dkOf
  pointwise [dkR, scaledR]
  rw [eighth_word, dot_coe _ _ (fun t => Spec.DS D (l / 64) t u * (1 / 8)) (fun t => D.Q (l / 64) t (l % 64))
    (fun t => by rw [dsOf_real A, ← EReal.coe_mul]) (fun t => q_real A t _ _), Spec.dK, sum_mul]
  simp only [mul_right_comm]

theorem dv_real (A : Args D x0 x1 x2 x3) (u : Fin 2048) (l : Fin 512) :
    dvOf x0 x2 x3 (ix2 u l) = ((Spec.dV D (l / 64) u (l % 64) : ℝ) : EReal) := by
  obtain ⟨a, He⟩ := exp_real A
  have hP := prob_real He
  unfold dvOf
  generalize probR (expOf x0 x2) (sumR (expOf x0 x2)) = w at hP ⊢
  have hG := g_real A
  generalize gR x3 = g at hG ⊢
  pointwise [dvOut, dvR]
  refine (dot_coe _ _ (fun t => D.G (l / 64) t (l % 64)) (fun t => Spec.P D (l / 64) t u)
    (fun t => hG t ⟨l / 64, by omega⟩ ⟨l % 64, by omega⟩) (fun t => hP ⟨l / 64, by omega⟩ t u)).trans ?_
  simp only [Spec.dV, mul_comm]

theorem df_real (A : Args D x0 x1 x2 x3) (p : Fin 4) (b : Fin 2) (u : Fin 2048) :
    dfOf x0 x1 x2 x3 (ix3 p b u) = ((Spec.dF D (2 * p + b) u : ℝ) : EReal) := by
  have hS := dsOf_real A
  unfold dfOf
  generalize dsOf x0 x1 x2 x3 = ds at hS ⊢
  pointwise [dfR]
  rw [Fin.sum_univ_one, Fin.sum_univ_one,
    sum_coe _ (fun t => - Spec.DS D (p * 2 + b) t u) (fun t => by rw [hS, EReal.coe_neg]),
    sum_coe _ (fun v => Spec.DS D (p * 2 + b) u v) (fun v => hS ⟨p * 2 + b, by omega⟩ u v), Spec.sum_DS, sum_neg_distrib, EReal.coe_zero, add_zero,
    Spec.dF, mul_comm p.val 2]

end Cert.Proof.Ref

end
-- ==== Proof.Host.lean ====
module

public import proofs.«01_k».proof.Proof.Gen.KernelIdeal.Frame
public import proofs.«01_k».proof.Proof.RefValue
public import Idealize.ShloMosaic.Lib.StableHlo.Run
public import Idealize.ShloMosaic.Lib.StableHlo.RunHlo

/-!
# The saved forward values

The host lines before the kernel compute what the forward pass saves: the attention's output and, for each row, the logarithm of
the sum of its exponentials. Here they are read off the host operations and computed in real numbers.
-/

@[expose] public section

set_option maxRecDepth 16384

noncomputable section

namespace Cert.Proof.Host

open Cert.KernelIdeal Cert.KernelIdeal.Gen Idealize.ShloMosaic Idealize.ShloMosaic.TcCoe Idealize.ShloMosaic.StableHlo Finset
open Cert.Proof.Ref (qR kR vR fR maskR maxR sumR probR)

variable {F : FTy → Type} [FloatOps F]

/-! ## What the host lines compute -/

/-- The scores without the mask. -/
def rawH (q k : Vec F S2048x8x64 .f32) (f : Vec F S8x2048 .f32) : Vec F S8x2048x2048 .f32 :=
  subf (mulf (Host.dotGeneral dot_S2048x8x64_S2048x8x64_S8x2048x2048_2_2_0_0_1_1 none q k)
      (broadcastInDim S8x2048x2048 ![] bcast_S_S8x2048x2048 (constant S_ .f32 0x3E000000#32)))
    (broadcastInDim S8x2048x2048 ![0, 1, 2] bcast_S8x1x2048_S8x2048x2048_0_1_2 (broadcastInDim S8x1x2048 ![0, 2] bcast_S8x2048_S8x1x2048_0_2 f))

/-- Which keys a query sees, one head. -/
def maskH : Vec F S2048x2048 .i1 :=
  cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The masking. -/
def fillH (m : Vec F S2048x2048 .i1) (s : Vec F S8x2048x2048 .f32) (z : Vec F S_ .f32) : Vec F S8x2048x2048 .f32 :=
  select (broadcastInDim S8x2048x2048 ![1, 2] bcast_S2048x2048_S8x2048x2048_1_2 m) s
    (broadcastInDim S8x2048x2048 ![] bcast_S_S8x2048x2048 (id z))

/-- The masked scores. -/
def scoresH (q k : Vec F S2048x8x64 .f32) (f : Vec F S8x2048 .f32) : Vec F S8x2048x2048 .f32 :=
  fillH maskH (rawH q k f) (constant S_ .f32 0xFF800000#32)

/-- The rows' greatest scores, as a column. -/
def topH (s : Vec F S8x2048x2048 .f32) : Vec F S8x2048x1 .f32 := broadcastInDim S8x2048x1 ![0, 1] bcast_S8x2048_S8x2048x1_0_1 (maxR s)

/-- The exponentials of the scores less their row's greatest. -/
def expH (s : Vec F S8x2048x2048 .f32) : Vec F S8x2048x2048 .f32 :=
  Host.exp (subf s (broadcastInDim S8x2048x2048 ![0, 1, 2] bcast_S8x2048x1_S8x2048x2048_0_1_2 (topH s)))

/-- The output of the attention. -/
def aoH (v : Vec F S2048x8x64 .f32) (p : Vec F S8x2048x2048 .f32) : Vec F S2048x512 .f32 :=
  shapeCast S2048x512 (transpose S2048x8x64 [2, 0, 1]
    (Host.dotGeneral dot_S2048x8x64_S8x2048x2048_S8x64x2048_0_2_2_1_1_0 none v p) transposes_S8x64x2048_S2048x8x64_2_0_1)
    shapeCasts_S2048x8x64_S2048x512

/-- The rows' log-sum-exp, repeated over a head's channels. -/
def lseH (t l : Vec F S8x2048x1 .f32) : Vec F S2048x512 .f32 :=
  shapeCast S2048x512 (broadcastInDim S2048x8x64 ![0, 1] bcast_S2048x8_S2048x8x64_0_1
    (transpose S2048x8 [1, 0] (shapeCast S8x2048 (addf t (Host.log l)) shapeCasts_S8x2048x1_S8x2048) transposes_S8x2048_S2048x8_1_0))
    shapeCasts_S2048x8x64_S2048x512

/-! ## The stretches' results -/

section Stretches

variable (W : Valuation τ sig (Elt F))

theorem first_v5 : after hostOps0 W (Proc.devRef .tc main_v5) = vR (W (Proc.devRef .tc main_arg1)) := by
  simp only [hostOps0]
  after_results_simp <;> rfl

theorem first_v12 : after hostOps0 W (Proc.devRef .tc main_v12) = rawH (qR (W (Proc.devRef .tc main_arg0))) (kR (W (Proc.devRef .tc main_arg0))) (fR (W (Proc.devRef .tc main_arg2))) := by
  simp only [hostOps0]
  after_results_simp <;> rfl

theorem first_v18 : after hostOps0 W (Proc.devRef .tc main_v18) = maskH (F := F) := by
  simp only [hostOps0]
  after_results_simp <;> rfl

theorem first_cst : after hostOps0 W (Proc.devRef .tc main_cst_0) = (constant S_ .f32 0xFF800000#32 : Vec F S_ .f32) := by
  simp only [hostOps0]
  after_results_simp <;> rfl

theorem second_v19 : after hostOps0_1 W (Proc.devRef .tc main_v19)
    = fillH (W (Proc.devRef .tc main_v18)) (W (Proc.devRef .tc main_v12)) (W (Proc.devRef .tc main_cst_0)) := by
  simp only [hostOps0_1, TRef.nullary, TRef.ternary, TRef.unary, TRef.toBuf, TRef.ofBuf, cast_eq]
  after_results_simp <;> rfl

theorem second_v5 : after hostOps0_1 W (Proc.devRef .tc main_v5) = W (Proc.devRef .tc main_v5) := by
  simp only [hostOps0_1, TRef.nullary, TRef.ternary, TRef.unary, TRef.toBuf, TRef.ofBuf, cast_eq]
  after_results_simp <;> rfl

theorem third_v31 : after hostOps0_2 W (Proc.devRef .tc main_v31)
    = aoH (W (Proc.devRef .tc main_v5)) (probR (expH (W (Proc.devRef .tc main_v19))) (sumR (expH (W (Proc.devRef .tc main_v19))))) := by
  simp only [hostOps0_2]
  after_results_simp <;> rfl

theorem third_v37 : after hostOps0_2 W (Proc.devRef .tc main_v37)
    = lseH (topH (W (Proc.devRef .tc main_v19))) (sumR (expH (W (Proc.devRef .tc main_v19)))) := by
  simp only [hostOps0_2]
  after_results_simp <;> rfl

/-- The masked scores of the arguments. -/
def scoresOf (x0 : Vec F S2048x1024 .f32) (x2 : Vec F S4x2x2048 .f32) : Vec F S8x2048x2048 .f32 := scoresH (qR x0) (kR x0) (fR x2)

/-- The attention's output, of the arguments. -/
def aoOf (x0 : Vec F S2048x1024 .f32) (x1 : Vec F S2048x4224 .f32) (x2 : Vec F S4x2x2048 .f32) : Vec F S2048x512 .f32 :=
  aoH (vR x1) (probR (expH (scoresOf x0 x2)) (sumR (expH (scoresOf x0 x2))))

/-- The rows' log-sum-exp, of the arguments. -/
def lseOf (x0 : Vec F S2048x1024 .f32) (x2 : Vec F S4x2x2048 .f32) : Vec F S2048x512 .f32 :=
  lseH (topH (scoresOf x0 x2)) (sumR (expH (scoresOf x0 x2)))

/-- Two stretches of host operations, one after the other. -/
theorem after_two (a b : List (HloOp τ sig (Elt F))) (W : Valuation τ sig (Elt F)) : after (a ++ b) W = after b (after a W) := by
  induction a generalizing W with
  | nil => rfl
  | cons op l ih => exact ih _

/-- The three stretches of host operations, one after the other. -/
theorem three : after (List.flatten [hostOps0, hostOps0_1, hostOps0_2]) W = after hostOps0_2 (after hostOps0_1 (after hostOps0 W)) := by
  simp only [List.flatten_cons, List.flatten_nil, List.append_nil]
  rw [after_two, after_two]

end Stretches

variable (m : (ℓ : Loc nD τ sig) → Buf (Elt F) ℓ) (c : Dev nD)

theorem v31_eq : V m c main_v31 = aoOf (m ((c : Thread nD τ).loc main_arg0)) (m ((c : Thread nD τ).loc main_arg1)) (m ((c : Thread nD τ).loc main_arg2)) := by
  show after _ _ _ = _
  rw [three, third_v31, second_v5, first_v5, second_v19, first_v18, first_v12, first_cst]
  rfl

theorem v37_eq : V m c main_v37 = lseOf (m ((c : Thread nD τ).loc main_arg0)) (m ((c : Thread nD τ).loc main_arg2)) := by
  show after _ _ _ = _
  rw [three, third_v37, second_v19, first_v18, first_v12, first_cst]
  rfl

/-! ## In real numbers -/

section Real

variable {D : Spec.Data} {x0 : Vec Ideal S2048x1024 .f32} {x1 : Vec Ideal S2048x4224 .f32} {x2 : Vec Ideal S4x2x2048 .f32}
    {x3 : Vec Ideal S2048x512 .f32}

theorem scores_real (A : Args D x0 x1 x2 x3) (h : Fin 8) (t u : Fin 2048) : scoresOf x0 x2 (ix3 h t u)
    = if u.val ≤ t.val then ((Spec.sc D h t u : ℝ) : EReal) else ⊥ := by
  have e : scoresOf x0 x2 (ix3 h t u) = Scalar.select (IntOp.cmpi CmpIPredicate.sge (BitVec.ofNat 32 ↑t) (BitVec.ofNat 32 ↑u))
      ((∑ x, qR x0 (ix3 t h x) * kR x0 (ix3 u h x)) * Ideal.ofBits FTy.f32 1040187392#32 - fR x2 (ix2 h u))
      (Ideal.ofBits FTy.f32 4286578688#32) := by
    unfold scoresOf scoresH
    generalize qR x0 = q; generalize kR x0 = k; generalize fR x2 = f
    pointwise [fillH, rawH, maskH]; rfl
  rw [e, select_sge (by omega) (by omega), ninf_word, eighth_word,
    dot_coe _ _ (fun d => D.Q h t d) (fun d => D.K h u d) (fun d => Ref.q_real A t h d) (fun d => Ref.k_real A u h d), Ref.f_real A,
    ← EReal.coe_mul, ← EReal.coe_sub]
  rfl

/-- A row's exponentials and its greatest score. -/
theorem rows_real (A : Args D x0 x1 x2 x3) : ∃ M : Fin 8 → Fin 2048 → ℝ, ∀ (h : Fin 8) (t : Fin 2048),
    maxR (scoresOf x0 x2) (ix2 h t) = ((M h t : ℝ) : EReal)
    ∧ ∀ u : Fin 2048, expH (scoresOf x0 x2) (ix3 h t u) = ((Spec.E D (-M h t) h t u : ℝ) : EReal) := by
  have hx := fun (h : Fin 8) (t : Fin 2048) => exp_row (fun u => scoresOf x0 x2 (ix3 h t u))
    (fun u => Spec.sc D h t u) t (fun u => scores_real A h t u)
  choose M hM hE using hx
  refine ⟨M, fun h t => ⟨(Ref.max_read _ h t).trans (hM h t), fun u => ?_⟩⟩
  refine (Ref.shift_read _ (maxR (scoresOf x0 x2)) h t u).trans ?_
  rw [Ref.max_read, hM h t, hE h t u, Spec.E]
  simp only [sub_eq_add_neg]

/-- The attention's output. -/
theorem ao_real (A : Args D x0 x1 x2 x3) (t : Fin 2048) (l : Fin 512) :
    aoOf x0 x1 x2 (ix2 t l) = ((Spec.O D (l / 64) t (l % 64) : ℝ) : EReal) := by
  obtain ⟨M, hM⟩ := rows_real A
  have hP := Ref.prob_real (a := fun h t => -M h t) fun h t u => (hM h t).2 u
  have hV := Ref.v_real A
  unfold aoOf
  generalize probR (expH (scoresOf x0 x2)) (sumR (expH (scoresOf x0 x2))) = p at hP ⊢
  generalize vR x1 = v at hV ⊢
  pointwise [aoH]
  refine (dot_coe _ _ (fun u => D.V (l / 64) u (l % 64)) (fun u => Spec.P D (l / 64) t u)
    (fun u => hV u ⟨l / 64, by omega⟩ ⟨l % 64, by omega⟩) (fun u => hP ⟨l / 64, by omega⟩ t u)).trans ?_
  simp only [Spec.O, mul_comm]

/-- One entry of the log-sum-exp, from the row's greatest score and the row's sum. -/
theorem lse_read (M : FVec Ideal S8x2048 .f32) (L : FVec Ideal S8x2048x1 .f32) (t : Fin 2048) (l : Fin 512) :
    lseH (F := Ideal) (broadcastInDim S8x2048x1 ![0, 1] bcast_S8x2048_S8x2048x1_0_1 M) L (ix2 t l)
      = M (ix2 (⟨l / 64, by omega⟩ : Fin 8) t) + Ideal.log (L (ix3 (⟨l / 64, by omega⟩ : Fin 8) t (0 : Fin 1))) := by
  pointwise [lseH]

/-- The rows' log-sum-exp. -/
theorem lse_real (A : Args D x0 x1 x2 x3) (t : Fin 2048) (l : Fin 512) :
    lseOf x0 x2 (ix2 t l) = ((Real.log (Spec.Z D (l / 64) t) : ℝ) : EReal) := by
  obtain ⟨M, hM⟩ := rows_real A
  have hL := Ref.sum_real (a := fun h t => -M h t) fun h t u => (hM h t).2 u
  have h1 := (hM ⟨l / 64, by omega⟩ t).1
  have h2 := hL ⟨l / 64, by omega⟩ t
  unfold lseOf topH
  generalize sumR (expH (scoresOf x0 x2)) = L at h2 ⊢
  generalize maxR (scoresOf x0 x2) = N at h1 ⊢
  refine (lse_read N L t l).trans ?_
  rw [h1, h2, Ideal.log_coe, if_neg (not_le.2 (Spec.sum_E_pos D _ _ _)), ← EReal.coe_add, Spec.log_sum_E]

end Real

end Cert.Proof.Host

end
-- ==== Proof.Equal.lean ====
module

public import proofs.«01_k».proof.Defs
public import proofs.«01_k».proof.Proof.Arrays
public import proofs.«01_k».proof.Proof.Host

/-!
# The two programs agree

Finite arguments hold real numbers, so the host's saved values and the arguments are entries of the kind the grid's proof starts
from. The kernel then leaves the four gradients of `Spec`, and so does the reference.
-/

@[expose] public section

set_option maxRecDepth 16384

noncomputable section

namespace Cert.Proof

open Idealize.ShloMosaic Idealize.ShloMosaic.TcCoe

/-! ## The precondition -/

/-- Plus infinity, as the precondition spells it. -/
theorem inf_word : Ideal.ofBits .f32 2139095040#32 = ⊤ := by
  simp [Ideal.ofBits, Ideal.ieee]

/-- An entry whose absolute value is below plus infinity is a real number. -/
theorem real_of_below (x : Ideal .f32) (h : Ideal.cmp .olt (max x (-x)) (Ideal.ofBits .f32 2139095040#32) = 1#1) :
    ∃ r : ℝ, x = (r : EReal) := by
  rw [inf_word] at h
  have hlt : max (x : EReal) (-x) < ⊤ := by
    by_contra hn
    simp [Ideal.cmp, hn] at h
  have h1 : (x : EReal) ≠ ⊤ := (lt_of_le_of_lt (le_max_left _ _) hlt).ne
  have h2 : (x : EReal) ≠ ⊥ := by
    rintro rfl
    simp at hlt
  exact ⟨EReal.toReal x, (EReal.coe_toReal h1 h2).symm⟩

/-- The precondition's own shape conditions. -/
theorem preFacts : Cert.Pre_finite.Facts := ⟨by decide, by decide, by decide, by decide⟩

/-! ## The kernel's side -/

section Kernel

open Cert.KernelIdeal Cert.KernelIdeal.Gen

variable (m : (ℓ : Loc nD τ sig) → Buf (Elt Ideal) ℓ)

/-- Finite arguments hold reals. -/
theorem args_of_pre (h : Pre_KernelIdeal_finite (hPre_finite := preFacts) m) (c : Dev nD) :
    ∃ D, Args D (m ((c.tc : Thread nD τ).loc main_arg0)) (m ((c.tc : Thread nD τ).loc main_arg1)) (m ((c.tc : Thread nD τ).loc main_arg2))
      (m ((c.tc : Thread nD τ).loc main_arg3)) := by
  obtain ⟨h0, h1, h2, h3⟩ := h c
  exact args_of_real _ _ _ _ (fun i => real_of_below _ (congrFun h0 i)) (fun i => real_of_below _ (congrFun h1 i))
    (fun i => real_of_below _ (congrFun h2 i)) (fun i => real_of_below _ (congrFun h3 i))

variable {m}

/-- What the grid starts from, given what the arguments hold. -/
theorem enters_of_args {D : Spec.Data} {c : Dev nD} (A : Args D (m ((c.tc : Thread nD τ).loc main_arg0))
    (m ((c.tc : Thread nD τ).loc main_arg1)) (m ((c.tc : Thread nD τ).loc main_arg2)) (m ((c.tc : Thread nD τ).loc main_arg3))) :
    Enters m D c := by
  show Entry D _ _ _ _ _ _
  rw [V_main_arg0, V_main_arg1, V_main_arg2, V_main_arg3, Host.v31_eq, Host.v37_eq]
  exact ⟨A.hq, A.hk, A.hv, A.hf, A.hg, Host.ao_real A, Host.lse_real A⟩

/-- The kernel leaves the four gradients. -/
theorem kernel_value {D : Dev nD → Spec.Data} (g : Dev nD → PrngReg) (E : ∀ c, Enters m (D c) c) :
    θ_run (defs (F := Ideal)) (onTc (τ := τ) (main (F := Ideal))) ⟨m, fun _ => 0, g⟩ (fun r => ∀ c : Dev nD,
      r.2.mem ((c.tc : Thread nD τ).loc main_v38_0) = outQ (D c)
      ∧ r.2.mem ((c.tc : Thread nD τ).loc main_v38_1) = outK (D c)
      ∧ r.2.mem ((c.tc : Thread nD τ).loc main_v38_2) = outV (D c)
      ∧ r.2.mem ((c.tc : Thread nD τ).loc main_v38_3) = outF (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 7).trans (final_7 (E c)), ((h.1 c).1 8).trans (final_8 (E c)),
    ((h.1 c).1 9).trans (final_9 (E c)), ((h.1 c).1 10).trans (final_10 (E c)), h.2.1 c⟩)
    (θ_run_and ((θ_run defs _ _).mono (fun _ h => h.1) (run_main m g)) (frame_run m g))

end Kernel

/-! ## The reference's side -/

section Reference

open Cert.ReferenceIdeal

variable {m : (ℓ : Loc nD τ sig) → Buf (Elt Ideal) ℓ}

/-- The reference leaves the same four gradients. -/
theorem reference_value {D : Dev nD → Spec.Data} (g : Dev nD → PrngReg) (A : ∀ c : Dev nD, Args (D c) (m ((c.tc : Thread nD τ).loc main_arg0))
    (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ (fun r => ∀ c : Dev nD,
      r.2.mem ((c.tc : Thread nD τ).loc main_v85) = outQ (D c)
      ∧ r.2.mem ((c.tc : Thread nD τ).loc main_v86) = outK (D c)
      ∧ r.2.mem ((c.tc : Thread nD τ).loc main_v88) = outV (D c)
      ∧ r.2.mem ((c.tc : Thread nD τ).loc main_v89) = outF (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have eQ : ∀ c : Dev nD, Ref.dqOf (m ((c.tc : Thread nD τ).loc main_arg0)) (m ((c.tc : Thread nD τ).loc main_arg1))
      (m ((c.tc : Thread nD τ).loc main_arg2)) (m ((c.tc : Thread nD τ).loc main_arg3)) = outQ (D c) := fun c => funext fun i => by
    obtain ⟨t, l, rfl⟩ : ∃ (t : Fin 2048) (l : Fin 512), i = ix2 t l := ⟨i 0, i 1, eq_ix2 i⟩
    exact Ref.dq_real (A c) t l
  have eK : ∀ c : Dev nD, Ref.dkOf (m ((c.tc : Thread nD τ).loc main_arg0)) (m ((c.tc : Thread nD τ).loc main_arg1))
      (m ((c.tc : Thread nD τ).loc main_arg2)) (m ((c.tc : Thread nD τ).loc main_arg3)) = outK (D c) := fun c => funext fun i => by
    obtain ⟨t, l, rfl⟩ : ∃ (t : Fin 2048) (l : Fin 512), i = ix2 t l := ⟨i 0, i 1, eq_ix2 i⟩
    exact Ref.dk_real (A c) t l
  have eV : ∀ c : Dev nD, Ref.dvOf (m ((c.tc : Thread nD τ).loc main_arg0)) (m ((c.tc : Thread nD τ).loc main_arg2))
      (m ((c.tc : Thread nD τ).loc main_arg3)) = outV (D c) := fun c => funext fun i => by
    obtain ⟨t, l, rfl⟩ : ∃ (t : Fin 2048) (l : Fin 512), i = ix2 t l := ⟨i 0, i 1, eq_ix2 i⟩
    exact Ref.dv_real (A c) t l
  have eF : ∀ c : Dev nD, Ref.dfOf (m ((c.tc : Thread nD τ).loc main_arg0)) (m ((c.tc : Thread nD τ).loc main_arg1))
      (m ((c.tc : Thread nD τ).loc main_arg2)) (m ((c.tc : Thread nD τ).loc main_arg3)) = outF (D c) := fun c => funext fun i => by
    obtain ⟨p, b, u, rfl⟩ : ∃ (p : Fin 4) (b : Fin 2) (u : Fin 2048), i = ix3 p b u := ⟨i 0, i 1, i 2, eq_ix3 i⟩
    exact Ref.df_real (A c) p b u
  exact (θ_run defs _ _).mono (fun r h c => ⟨(h c).1.trans (eQ c), (h c).2.1.trans (eK c), (h c).2.2.1.trans (eV c),
    (h c).2.2.2.1.trans (eF c), (h c).2.2.2.2⟩) (Ref.run m g)

end Reference

/-- Idealized kernel and reference end with equal results. -/
theorem agree : algebraic_KernelIdeal_ReferenceIdeal_pre_finite (hKernelIdeal := Cert.KernelIdeal.Gen.facts)
    (hReferenceIdeal := Cert.ReferenceIdeal.Gen.facts) (hPre_finite := preFacts) := by
  intro m g m' g' hpre hag
  have hD := fun c => args_of_pre m hpre c
  choose D A using hD
  refine ⟨fun c => outQ (D c), fun c => outK (D c), fun c => outV (D c), fun c => outF (D c),
    kernel_value g fun c => enters_of_args (A c), reference_value g' fun c => ?_⟩
  obtain ⟨e0, e1, e2, e3⟩ := hag c
  rw [e0, e1, e2, e3]
  exact A c

end Cert.Proof

end
-- ==== Proof.Same.lean ====
/- `Kernel` and `KernelIdeal` have the same text: no rule is applied. Here their programs are shown equal, so that the run of
   the one over the hardware's bits is the run of the other. -/
module

public import proofs.«01_k».proof.Kernel
public import proofs.«01_k».proof.KernelIdeal
public import Idealize.ShloMosaic.PureOps.BitExact

@[expose] public section

set_option maxHeartbeats 4000000

noncomputable section

namespace Cert.Proof

open Idealize.ShloMosaic

universe u

variable [Cert.KernelIdeal.Facts] [Cert.Kernel.Facts]

/-- Two sequences are equal if their first steps are and, after any value of it, their rests are. -/
theorem seq_congr {E : Type → Type u} {α β : Type} {x y : Idealize.SL.Sem.Prog E α} {f g : α → Idealize.SL.Sem.Prog E β}
    (h : x = y) (h' : ∀ a, f a = g a) : (x >>= f) = (y >>= g) := by
  rw [h, funext h']

/-- The body tables are equal. -/
theorem bodies_same : Cert.KernelIdeal.defs₀ (F := Bits) = Cert.Kernel.defs₀ (F := Bits) := by
  unfold Cert.KernelIdeal.defs₀ Cert.Kernel.defs₀
  refine congrArg Defs.onTc ?_
  funext f a
  match f, a with
  | 0, (t, s) => exact rfl
  | ⟨_ + 1, h⟩, _ => exact absurd h (Nat.not_lt.2 (Nat.le_add_left _ _))

/-- The definition tables are equal. -/
theorem defs_same : Cert.KernelIdeal.defs (F := Bits) = Cert.Kernel.defs (F := Bits) :=
  congrArg (Pipeline.defs Cert.Kernel.pcfgs) bodies_same

/-- The host programs are equal, operation by operation. -/
theorem main_same : Cert.KernelIdeal.main (F := Bits) = Cert.Kernel.main (F := Bits) := by
  unfold Cert.KernelIdeal.main Cert.Kernel.main
  funext c
  iterate 40 (refine seq_congr ?_ fun _ => ?_; · exact rfl)
  exact rfl

end Cert.Proof

end
-- ==== Proof.Ffn.Shapes.lean ====
module

public import proofs.«01_k».proof.Proof.Gen.Kernel2Ideal.Frame.Region2
public import Idealize.ShloMosaic.Lib.Pointwise

/-!
# Arrays of the training step

The shapes in which the calls hold a quantity: a matrix, the hidden layer in four slabs, a matrix of weights in four slabs, a row.
-/

@[expose] public section

noncomputable section

namespace Cert.Proof.Ffn

open Idealize.ShloMosaic

/-- A matrix. -/
def mat {n m : ℕ} (f : ℕ → ℕ → EReal) : (⟨2, ![n, m]⟩ : Shape).Idx → EReal := fun i => f (i 0).val (i 1).val
/-- Rows of the hidden layer, the layer in slabs of 704. -/
def hid {n m : ℕ} (f : ℕ → ℕ → EReal) : (⟨3, ![4, n, m]⟩ : Shape).Idx → EReal := fun i => f (i 1).val (704 * (i 0).val + (i 2).val)
/-- Weights of the hidden layer, the layer in slabs of 704. -/
def slab {n m : ℕ} (f : ℕ → ℕ → EReal) : (⟨3, ![4, n, m]⟩ : Shape).Idx → EReal := fun i => f (704 * (i 0).val + (i 1).val) (i 2).val
/-- A row. -/
def row {m : ℕ} (f : ℕ → EReal) : (⟨2, ![1, m]⟩ : Shape).Idx → EReal := fun i => f (i 1).val

/-! An entry of each, at an index whose coordinates are known. -/

theorem mat_at {n m : ℕ} {f : ℕ → ℕ → EReal} {i : (⟨2, ![n, m]⟩ : Shape).Idx} {r c : ℕ} (e0 : (i 0).val = r) (e1 : (i 1).val = c) : mat f i = f r c := by
  rw [mat, e0, e1]
theorem hid_at {n m : ℕ} {f : ℕ → ℕ → EReal} {i : (⟨3, ![4, n, m]⟩ : Shape).Idx} {a r c : ℕ} (e0 : (i 0).val = a) (e1 : (i 1).val = r) (e2 : (i 2).val = c) :
    hid f i = f r (704 * a + c) := by
  rw [hid, e0, e1, e2]
theorem slab_at {n m : ℕ} {f : ℕ → ℕ → EReal} {i : (⟨3, ![4, n, m]⟩ : Shape).Idx} {a r c : ℕ} (e0 : (i 0).val = a) (e1 : (i 1).val = r) (e2 : (i 2).val = c) :
    slab f i = f (704 * a + r) c := by
  rw [slab, e0, e1, e2]
theorem row_at {m : ℕ} {f : ℕ → EReal} {i : (⟨2, ![1, m]⟩ : Shape).Idx} {c : ℕ} (e1 : (i 1).val = c) : row f i = f c := by
  rw [row, e1]

end Cert.Proof.Ffn

end
-- ==== Proof.Ffn.Spec.lean ====
module

public import Idealize.ShloMosaic.PureOps.Ideal
public import Mathlib.Algebra.BigOperators.Fin

/-!
# The second half of the training step, in plain words

From the attention's output to the loss and back: output projection and residual, RMS norm, gated feed-forward layer and residual,
final RMS norm and squared error, and the gradients of all of these. Every quantity is a function of natural numbers into the extended
reals: a row and a column of the model (1024 wide), or a row and a column of the hidden layer (2816 wide).
-/

@[expose] public section

noncomputable section

namespace Cert.Proof.Ffn

open Idealize.ShloMosaic

/-- The width of the model. -/
def width : EReal := Ideal.ofBits .f32 0x44800000#32
/-- What the RMS norm adds to the mean square. -/
def eps : EReal := Ideal.ofBits .f32 0x358637BD#32
/-- Minus a half, of the derivative of the reciprocal square root. -/
def negHalf : EReal := Ideal.ofBits .f32 0xBF000000#32
/-- A half, of the squared error. -/
def half : EReal := Ideal.ofBits .f32 0x3F000000#32

/-- The mean square of a row, and `eps`. -/
def msq (f : ℕ → ℕ → EReal) (r : ℕ) : EReal := Ideal.div (∑ c : Fin 1024, f r c * f r c) width + eps
/-- What the RMS norm scales a row by. -/
def rn (f : ℕ → ℕ → EReal) (r : ℕ) : EReal := Ideal.rsqrt (msq f r)
/-- The part of the RMS norm's gradient along the row. -/
def along (f g : ℕ → ℕ → EReal) (r : ℕ) : EReal :=
  Ideal.div ((∑ c : Fin 1024, f r c * g r c) * (negHalf * Ideal.div (rn f r) (msq f r))) width
/-- The RMS norm's gradient: `f` the rows, `g` the gradient of the scaled rows. -/
def normGrad (f g : ℕ → ℕ → EReal) (r c : ℕ) : EReal := (g r c * rn f r + f r c * along f g r) + along f g r * f r c

/-- The arguments: the attention's output, the residual stream, the target, and the weights. -/
structure Data where
  mix : ℕ → ℕ → EReal
  x : ℕ → ℕ → EReal
  tgt : ℕ → ℕ → EReal
  wo : ℕ → ℕ → EReal
  n2 : ℕ → EReal
  fw : ℕ → EReal
  wg : ℕ → ℕ → EReal
  wu : ℕ → ℕ → EReal
  wd : ℕ → ℕ → EReal

namespace Data

variable (D : Data)

/-- The residual stream after the attention. -/
def x1 (r c : ℕ) : EReal := (∑ k : Fin 1024, D.mix r k * D.wo k c) + D.x r c
/-- Its RMS norm. -/
def h2 (r c : ℕ) : EReal := D.x1 r c * rn D.x1 r * D.n2 c
/-- The hidden layer's gate. -/
def gate (r q : ℕ) : EReal := ∑ c : Fin 1024, D.h2 r c * D.wg q c
/-- The hidden layer's values. -/
def up (r q : ℕ) : EReal := ∑ c : Fin 1024, D.h2 r c * D.wu q c
/-- The logistic function of the gate. -/
def sig (r q : ℕ) : EReal := Ideal.logistic (D.gate r q)
/-- The hidden layer's activation. -/
def act (r q : ℕ) : EReal := D.gate r q * D.sig r q * D.up r q
/-- The residual stream after the feed-forward layer. -/
def x2 (r c : ℕ) : EReal := (∑ q : Fin 2816, D.act r q * D.wd q c) + D.x1 r c
/-- Output minus target. -/
def err (r c : ℕ) : EReal := D.x2 r c * rn D.x2 r * D.fw c - D.tgt r c
/-- The loss. -/
def loss : EReal := half * ∑ r : Fin 2048, Ideal.div (∑ c : Fin 1024, D.err r c * D.err r c) width
/-- The gradient of the output. -/
def dy (r c : ℕ) : EReal := Ideal.div (D.err r c) width
/-- The gradient of the final norm's weights. -/
def dfw (c : ℕ) : EReal := ∑ r : Fin 2048, D.x2 r c * rn D.x2 r * D.dy r c
/-- The gradient of the final norm's scaled rows. -/
def dn (r c : ℕ) : EReal := D.dy r c * D.fw c
/-- The gradient of `x2`. -/
def dx2 (r c : ℕ) : EReal := normGrad D.x2 D.dn r c
/-- The gradient of the activation. -/
def dact (r q : ℕ) : EReal := ∑ c : Fin 1024, D.dx2 r c * D.wd q c
/-- The gradient of the hidden layer's values. -/
def dup (r q : ℕ) : EReal := D.gate r q * D.sig r q * D.dact r q
/-- The gradient of the gate. -/
def dgate (r q : ℕ) : EReal :=
  D.dact r q * D.up r q * D.sig r q + D.gate r q * (D.dact r q * D.up r q) * (D.sig r q * (1 - D.sig r q))
/-- The gradient of `h2` from the gate. -/
def dh2g (r c : ℕ) : EReal := ∑ q : Fin 2816, D.dgate r q * D.wg q c
/-- The gradient of `h2`. -/
def dh2 (r c : ℕ) : EReal := (∑ q : Fin 2816, D.dup r q * D.wu q c) + D.dh2g r c
/-- The gradient of the second norm's scaled rows. -/
def dm (r c : ℕ) : EReal := D.dh2 r c * D.n2 c
/-- The gradient of `x1`. -/
def dx1 (r c : ℕ) : EReal := normGrad D.x1 D.dm r c + D.dx2 r c
/-- The gradient of the second norm's weights. -/
def dn2 (c : ℕ) : EReal := ∑ r : Fin 2048, D.x1 r c * rn D.x1 r * D.dh2 r c
/-- The gradient of the down projection. -/
def gd (q c : ℕ) : EReal := ∑ r : Fin 2048, D.act r q * D.dx2 r c
/-- The gradient of the gate's projection. -/
def gg (q c : ℕ) : EReal := ∑ r : Fin 2048, D.dgate r q * D.h2 r c
/-- The gradient of the up projection. -/
def gu (q c : ℕ) : EReal := ∑ r : Fin 2048, D.dup r q * D.h2 r c
/-- The gradient of the attention's output. -/
def dmix (r k : ℕ) : EReal := ∑ c : Fin 1024, D.dx1 r c * D.wo k c
/-- The gradient of the output projection. -/
def gout (k c : ℕ) : EReal := ∑ r : Fin 2048, D.mix r k * D.dx1 r c

end Data

end Cert.Proof.Ffn

end
-- ==== Proof.Ffn.Holds.lean ====
module

public import proofs.«01_k».proof.Proof.Ffn.Shapes
public import proofs.«01_k».proof.Proof.Ffn.Spec

/-!
# What the arguments hold

Any arguments hold some extended reals.
-/

@[expose] public section

noncomputable section

namespace Cert.Proof.Ffn

open Idealize.ShloMosaic

/-- What the arguments hold. -/
structure Holds (D : Data) (a0 : Vec Ideal ⟨2, ![2048, 1024]⟩ .f32) (a1 : Vec Ideal ⟨2, ![2048, 1024]⟩ .f32) (a2 : Vec Ideal ⟨2, ![1024, 1024]⟩ .f32) (a3 : Vec Ideal ⟨2, ![1, 1024]⟩ .f32) (a4 : Vec Ideal ⟨3, ![4, 704, 1024]⟩ .f32) (a5 : Vec Ideal ⟨3, ![4, 704, 1024]⟩ .f32) (a6 : Vec Ideal ⟨3, ![4, 704, 1024]⟩ .f32) (a7 : Vec Ideal ⟨2, ![2048, 1024]⟩ .f32) (a8 : Vec Ideal ⟨2, ![1, 1024]⟩ .f32) : Prop where
  h0 : a0 = mat D.mix
  h1 : a1 = mat D.x
  h2 : a2 = mat D.wo
  h3 : a3 = row D.n2
  h4 : a4 = slab D.wg
  h5 : a5 = slab D.wu
  h6 : a6 = slab D.wd
  h7 : a7 = mat D.tgt
  h8 : a8 = row D.fw

/-- Every matrix is one of natural indices, -/
theorem exists_mat {n m : ℕ} [NeZero n] [NeZero m] (x : (⟨2, ![n, m]⟩ : Shape).Idx → EReal) : ∃ f, x = mat f :=
  ⟨fun r c => x (ix2 (Fin.ofNat n r) (Fin.ofNat m c)), funext fun i => by
    obtain ⟨r, c, rfl⟩ : ∃ (r : Fin n) (c : Fin m), i = ix2 r c := ⟨i 0, i 1, eq_ix2 i⟩
    show _ = x (ix2 (Fin.ofNat n r.val) (Fin.ofNat m c.val))
    rw [show Fin.ofNat n r.val = r from Fin.ext (Nat.mod_eq_of_lt r.isLt), show Fin.ofNat m c.val = c from Fin.ext (Nat.mod_eq_of_lt c.isLt)]⟩

/-- every row, -/
theorem exists_row {m : ℕ} [NeZero m] (x : (⟨2, ![1, m]⟩ : Shape).Idx → EReal) : ∃ f, x = row f :=
  ⟨fun c => x (ix2 0 (Fin.ofNat m c)), funext fun i => by
    obtain ⟨r, c, rfl⟩ : ∃ (r : Fin 1) (c : Fin m), i = ix2 r c := ⟨i 0, i 1, eq_ix2 i⟩
    show _ = x (ix2 0 (Fin.ofNat m c.val))
    rw [show Fin.ofNat m c.val = c from Fin.ext (Nat.mod_eq_of_lt c.isLt), Subsingleton.elim r 0]⟩

/-- and every stack of four slabs. -/
theorem exists_slab (x : (⟨3, ![4, 704, 1024]⟩ : Shape).Idx → EReal) : ∃ f, x = slab f :=
  ⟨fun q c => x (ix3 (Fin.ofNat 4 (q / 704)) (Fin.ofNat 704 q) (Fin.ofNat 1024 c)), funext fun i => by
    obtain ⟨a, r, c, rfl⟩ : ∃ (a : Fin 4) (r : Fin 704) (c : Fin 1024), i = ix3 a r c := ⟨i 0, i 1, i 2, eq_ix3 i⟩
    show _ = x (ix3 (Fin.ofNat 4 ((704 * a.val + r.val) / 704)) (Fin.ofNat 704 (704 * a.val + r.val)) (Fin.ofNat 1024 c.val))
    rw [show Fin.ofNat 1024 c.val = c from Fin.ext (Nat.mod_eq_of_lt c.isLt),
      show Fin.ofNat 4 ((704 * a.val + r.val) / 704) = a from Fin.ext (show _ % 4 = _ by omega),
      show Fin.ofNat 704 (704 * a.val + r.val) = r from Fin.ext (show _ % 704 = _ by omega)]⟩

/-- Any arguments hold something. -/
theorem exists_holds (a0 : Vec Ideal ⟨2, ![2048, 1024]⟩ .f32) (a1 : Vec Ideal ⟨2, ![2048, 1024]⟩ .f32) (a2 : Vec Ideal ⟨2, ![1024, 1024]⟩ .f32) (a3 : Vec Ideal ⟨2, ![1, 1024]⟩ .f32) (a4 : Vec Ideal ⟨3, ![4, 704, 1024]⟩ .f32) (a5 : Vec Ideal ⟨3, ![4, 704, 1024]⟩ .f32) (a6 : Vec Ideal ⟨3, ![4, 704, 1024]⟩ .f32) (a7 : Vec Ideal ⟨2, ![2048, 1024]⟩ .f32) (a8 : Vec Ideal ⟨2, ![1, 1024]⟩ .f32) : ∃ D, Holds D a0 a1 a2 a3 a4 a5 a6 a7 a8 := by
  obtain ⟨mix, e0⟩ := exists_mat a0
  obtain ⟨x, e1⟩ := exists_mat a1
  obtain ⟨wo, e2⟩ := exists_mat a2
  obtain ⟨n2, e3⟩ := exists_row a3
  obtain ⟨wg, e4⟩ := exists_slab a4
  obtain ⟨wu, e5⟩ := exists_slab a5
  obtain ⟨wd, e6⟩ := exists_slab a6
  obtain ⟨tgt, e7⟩ := exists_mat a7
  obtain ⟨fw, e8⟩ := exists_row a8
  exact ⟨⟨mix, x, tgt, wo, n2, fw, wg, wu, wd⟩, e0, e1, e2, e3, e4, e5, e6, e7, e8⟩

end Cert.Proof.Ffn

end
-- ==== Proof.Ffn.Stores.lean ====
module

public import proofs.«01_k».proof.Proof.Gen.Kernel2Ideal.Frame.Region2
public import proofs.«01_k».proof.Proof.Gen.Kernel2Ideal.Frame.Region6
public import Idealize.ShloMosaic.Lib.Pointwise

/-!
# What the two accumulating calls leave

A body that runs under a condition leaves its outputs as lists of stores. Here every list is read as the one array that it amounts to.
-/

@[expose] public section

set_option maxRecDepth 16384

noncomputable section

namespace Cert.Proof.Ffn

open Cert.Kernel2Ideal Cert.Kernel2Ideal.Gen Idealize.ShloMosaic Idealize.ShloMosaic.TcCoe

variable {F : FTy → Type} [FloatOps F]

/-- The origin of a matrix. -/
theorem origin2 : (![0, 0] : Fin 2 → ℕ) = fun _ => 0 := by funext a; fin_cases a <;> rfl

/-- The origin of a stack of matrices. -/
theorem origin3 : (![0, 0, 0] : Fin 3 → ℕ) = fun _ => 0 := by funext a; fin_cases a <;> rfl

/-- The last of some stores, if it is over a whole buffer, is what the buffer then reads as. -/
theorem read_last {S : Shape} {e : EltTy} (v : View sig .tc .vmem S e) (f : v.ty.Contents (Elt F)) {off : Fin S.rank → ℕ}
    (h : off = fun _ => 0) (inb : ∀ a, off a + S.size a ≤ S.size a) (w : Vec F S e) (L : List (View.Piece (Elt F) S e)) :
    v.read (Elt F) (v.writes (Elt F) f (⟨Rect.unit off S.size inb, w⟩ :: L)) = w := by
  rw [View.read_writes_eq_canon v f _ fun y => ⟨_, List.mem_cons_self, View.mem_set_unit_zero h inb y⟩]
  exact View.canon_cons_unit_zero h inb w L

/-- A load of a whole buffer reads the buffer. -/
theorem ld_whole2 {a b : ℕ} {e : EltTy} (inb : ∀ i, (![0, 0] : Fin 2 → ℕ) i + (![a, b] : Fin 2 → ℕ) i ≤ (⟨2, ![a, b]⟩ : Shape).size i)
    (X : Vec F ⟨2, ![a, b]⟩ e) : View.ld X (Rect.unit (s := ⟨2, ![a, b]⟩) ![0, 0] ![a, b] inb) = X :=
  View.ld_unit_zero (S := ⟨2, ![a, b]⟩) origin2 inb X

/-- A load of a whole buffer, after a store over all of it, reads what was stored. -/
theorem readCov_whole2 {a b : ℕ} {e : EltTy} (v : View sig .tc .vmem ⟨2, ![a, b]⟩ e)
    (inb : ∀ i, (![0, 0] : Fin 2 → ℕ) i + (![a, b] : Fin 2 → ℕ) i ≤ (⟨2, ![a, b]⟩ : Shape).size i) (w : Vec F ⟨2, ![a, b]⟩ e) :
    v.readCov [(⟨Rect.unit (s := ⟨2, ![a, b]⟩) ![0, 0] ![a, b] inb, w⟩ : View.Piece (Elt F) ⟨2, ![a, b]⟩ e)]
      (Rect.unit (s := ⟨2, ![a, b]⟩) ![0, 0] ![a, b] inb).toLoadRect = w :=
  View.readCov_unit_zero (S := ⟨2, ![a, b]⟩) v origin2 inb w

/-- A product along the hidden layer, slab by slab, of a block of rows: the feed-forward layer's output. -/
def down (x0 : Vec F S4x512x704 .bf16) (x1 : Vec F S4x704x1024 .f32) : FVec F S512x1024 .f32 :=
  k2_pay7 (View.ld x0 (Rect.unit (s := S4x512x704) ![0, 0, 0] S1x512x704.size inb_S4x512x704_S1x512x704_0_0_0))
    (View.ld x1 (Rect.unit (s := S4x704x1024) ![0, 0, 0] S1x704x1024.size inb_S4x704x1024_S1x704x1024_0_0_0))
    (View.ld x0 (Rect.unit (s := S4x512x704) ![1, 0, 0] S1x512x704.size inb_S4x512x704_S1x512x704_1_0_0))
    (View.ld x1 (Rect.unit (s := S4x704x1024) ![1, 0, 0] S1x704x1024.size inb_S4x704x1024_S1x704x1024_1_0_0))
    (View.ld x0 (Rect.unit (s := S4x512x704) ![2, 0, 0] S1x512x704.size inb_S4x512x704_S1x512x704_2_0_0))
    (View.ld x1 (Rect.unit (s := S4x704x1024) ![2, 0, 0] S1x704x1024.size inb_S4x704x1024_S1x704x1024_2_0_0))
    (View.ld x0 (Rect.unit (s := S4x512x704) ![3, 0, 0] S1x512x704.size inb_S4x512x704_S1x512x704_3_0_0))
    (View.ld x1 (Rect.unit (s := S4x704x1024) ![3, 0, 0] S1x704x1024.size inb_S4x704x1024_S1x704x1024_3_0_0))

variable (V : (c : Dev nD) → (b : Ref sig .tc) → Buf (Elt F) ((c : Thread nD τ).loc b))

/-- The gradient of a block of the feed-forward layer's output and residual. -/
def top (x0 : Vec F S4x512x704 .bf16) (x1 : Vec F S4x704x1024 .f32) (x2 x3 : Vec F S512x1024 .f32) (x4 : Vec F S1x1024 .f32) : FVec F S512x1024 .f32 :=
  k2_pay1 (k2_pay8 (down x0 x1) x2) (k2_pay17 (down x0 x1) x2 x3 x4) (k2_pay18 (down x0 x1) x2 x3 x4)

/-- The first point of the call on the loss. -/
theorem outs2_first (c : Dev nD) (t : Fin cfg2.N) (h0 : t.val % 4 = 0) :
    outsAt2 V c t.val t.isLt = (top (iblk2 V c 0 t) (iblk2 V c 1 t) (iblk2 V c 2 t) (iblk2 V c 3 t) (iblk2 V c 4 t),
      truncf .bf16 (top (iblk2 V c 0 t) (iblk2 V c 1 t) (iblk2 V c 2 t) (iblk2 V c 3 t) (iblk2 V c 4 t)) bitsLt_bf16_f32,
      k2_pay5 (k2_pay13 (down (iblk2 V c 0 t) (iblk2 V c 1 t)) (iblk2 V c 2 t) (iblk2 V c 3 t) (iblk2 V c 4 t)) k2_pay3,
      k2_pay6 (k2_pay15 (down (iblk2 V c 0 t) (iblk2 V c 1 t)) (iblk2 V c 2 t) (iblk2 V c 3 t) (iblk2 V c 4 t)) k2_pay4) := by
  rw [outsAt2_A V c t h0]
  unfold out2_A_5 out2_A_6 out2_A_7 out2_A_8
  dsimp only [kernelRun2_A]
  rw [read_last _ _ origin2, read_last _ _ origin2, read_last _ _ origin2, read_last _ _ origin2]
  simp only [kernelRun2_A.sl.r, kernelRun2_A.sl.r_1, kernelRun2_A.sl.r_2, kernelRun2_A.sl.r_3, kernelRun2_A.sl.r_4, kernelRun2_A.sl.r_5, kernelRun2_A.sl.r_6, kernelRun2_A.sl.v84, kernelRun2_A.sl.v88, kernelRun2_A.sl.H7_1, kernelRun2_A.sl.H8_1, readCov_whole2, View.readAt_eq_ld, Memref.IsWhole.read_unread, ld_whole2]
  rfl

/-- The other points add to what the point before left. -/
theorem outs2_next (c : Dev nD) (t : Fin cfg2.N) (h0 : ¬t.val % 4 = 0) :
    outsAt2 V c t.val t.isLt = (top (iblk2 V c 0 t) (iblk2 V c 1 t) (iblk2 V c 2 t) (iblk2 V c 3 t) (iblk2 V c 4 t),
      truncf .bf16 (top (iblk2 V c 0 t) (iblk2 V c 1 t) (iblk2 V c 2 t) (iblk2 V c 3 t) (iblk2 V c 4 t)) bitsLt_bf16_f32,
      k2_pay5 (k2_pay13 (down (iblk2 V c 0 t) (iblk2 V c 1 t)) (iblk2 V c 2 t) (iblk2 V c 3 t) (iblk2 V c 4 t))
        (outsAt2 V c (t.val - 1) (Nat.lt_of_le_of_lt (Nat.sub_le _ _) t.isLt)).2.2.1,
      k2_pay6 (k2_pay15 (down (iblk2 V c 0 t) (iblk2 V c 1 t)) (iblk2 V c 2 t) (iblk2 V c 3 t) (iblk2 V c 4 t))
        (outsAt2 V c (t.val - 1) (Nat.lt_of_le_of_lt (Nat.sub_le _ _) t.isLt)).2.2.2) := by
  rw [outsAt2_B V c t h0]
  unfold out2_B_5 out2_B_6 out2_B_7 out2_B_8
  dsimp only [kernelRun2_B]
  rw [read_last _ _ origin2, read_last _ _ origin2, read_last _ _ origin2, read_last _ _ origin2]
  simp only [kernelRun2_B.sl.r, kernelRun2_B.sl.r_1, kernelRun2_B.sl.r_2, kernelRun2_B.sl.r_3, kernelRun2_B.sl.r_4, kernelRun2_B.sl.r_5, kernelRun2_B.sl.r_6, View.readAt_eq_ld, Memref.IsWhole.read_unread, ld_whole2]
  rfl

/-- The gradient of a block of the attention half's output. -/
def bottom (x0 : Vec F S4x512x704 .bf16) (x1 : Vec F S4x704x1024 .f32) (x2 x3 x4 : Vec F S512x1024 .f32) (x5 : Vec F S1x1024 .f32) : FVec F S512x1024 .f32 :=
  k6_pay13 (down x0 x1) x2 x3 x4 x5

/-- The first point of the call on the second norm. -/
theorem outs6_first (c : Dev nD) (t : Fin cfg6.N) (h0 : t.val % 4 = 0) :
    outsAt6 V c t.val t.isLt = (bottom (iblk6 V c 0 t) (iblk6 V c 1 t) (iblk6 V c 2 t) (iblk6 V c 3 t) (iblk6 V c 4 t) (iblk6 V c 5 t),
      truncf .bf16 (bottom (iblk6 V c 0 t) (iblk6 V c 1 t) (iblk6 V c 2 t) (iblk6 V c 3 t) (iblk6 V c 4 t) (iblk6 V c 5 t)) bitsLt_bf16_f32,
      k6_pay3 (k6_pay10 (down (iblk6 V c 0 t) (iblk6 V c 1 t)) (iblk6 V c 2 t) (iblk6 V c 3 t)) k6_pay2) := by
  rw [outsAt6_A V c t h0]
  unfold out6_A_6 out6_A_7 out6_A_8
  dsimp only [kernelRun6_A]
  rw [read_last _ _ origin2, read_last _ _ origin2, read_last _ _ origin2]
  simp only [kernelRun6_A.sl.r, kernelRun6_A.sl.r_1, kernelRun6_A.sl.r_2, kernelRun6_A.sl.r_3, kernelRun6_A.sl.v76, kernelRun6_A.sl.H8_1, readCov_whole2, View.readAt_eq_ld, Memref.IsWhole.read_unread, ld_whole2]
  rfl

/-- The other points add to what the point before left. -/
theorem outs6_next (c : Dev nD) (t : Fin cfg6.N) (h0 : ¬t.val % 4 = 0) :
    outsAt6 V c t.val t.isLt = (bottom (iblk6 V c 0 t) (iblk6 V c 1 t) (iblk6 V c 2 t) (iblk6 V c 3 t) (iblk6 V c 4 t) (iblk6 V c 5 t),
      truncf .bf16 (bottom (iblk6 V c 0 t) (iblk6 V c 1 t) (iblk6 V c 2 t) (iblk6 V c 3 t) (iblk6 V c 4 t) (iblk6 V c 5 t)) bitsLt_bf16_f32,
      k6_pay3 (k6_pay10 (down (iblk6 V c 0 t) (iblk6 V c 1 t)) (iblk6 V c 2 t) (iblk6 V c 3 t))
        (outsAt6 V c (t.val - 1) (Nat.lt_of_le_of_lt (Nat.sub_le _ _) t.isLt)).2.2) := by
  rw [outsAt6_B V c t h0]
  unfold out6_B_6 out6_B_7 out6_B_8
  dsimp only [kernelRun6_B]
  rw [read_last _ _ origin2, read_last _ _ origin2, read_last _ _ origin2]
  simp only [kernelRun6_B.sl.r, kernelRun6_B.sl.r_1, kernelRun6_B.sl.r_2, kernelRun6_B.sl.r_3, View.readAt_eq_ld, Memref.IsWhole.read_unread, ld_whole2]
  rfl

end Cert.Proof.Ffn

end
-- ==== Proof.Ffn.Pay.lean ====
module

public import proofs.«01_k».proof.Proof.Ffn.Spec
public import proofs.«01_k».proof.Proof.Ffn.Stores
public import Idealize.ShloMosaic.Lib.Pointwise

/-!
# What a block's computation is

Every stored array of the ten calls at an index, of blocks that hold these rows of these quantities.
-/

@[expose] public section

set_option maxRecDepth 16384

noncomputable section

namespace Cert.Proof.Ffn

open Cert.Kernel2Ideal Cert.Kernel2Ideal.Gen Idealize.ShloMosaic

variable (D : Data)

/-- A sum along the hidden layer, slab by slab. -/
theorem sum_hidden (f : ℕ → EReal) :
    ∑ q : Fin 2816, f q = (∑ k : Fin 704, f (0 + k)) + (∑ k : Fin 704, f (704 + k)) + (∑ k : Fin 704, f (1408 + k)) + ∑ k : Fin 704, f (2112 + k) := by
  rw [← Finset.sum_range f, show 2816 = 704 + 704 + 704 + 704 from rfl, Finset.sum_range_add, Finset.sum_range_add, Finset.sum_range_add]
  simp only [Finset.sum_range, Nat.zero_add]

/-- A sum over the rows, block by block. -/
theorem sum_rows (f : ℕ → EReal) :
    ∑ r : Fin 2048, f r = (∑ k : Fin 512, f (0 + k)) + (∑ k : Fin 512, f (512 + k)) + (∑ k : Fin 512, f (1024 + k)) + ∑ k : Fin 512, f (1536 + k) := by
  rw [← Finset.sum_range f, show 2048 = 512 + 512 + 512 + 512 from rfl, Finset.sum_range_add, Finset.sum_range_add, Finset.sum_range_add]
  simp only [Finset.sum_range, Nat.zero_add]

/-- Output projection and residual. -/
theorem x1_block (o : ℕ) {x0 x1 x2 : Vec Ideal S1024x1024 .f32} (h0 : ∀ r k, x0 (ix2 r k) = D.mix (o + r) k) (h1 : ∀ k c, x1 (ix2 k c) = D.wo k c)
    (h2 : ∀ r c, x2 (ix2 r c) = D.x (o + r) c) (r c : Fin 1024) : k0_pay1 x0 x1 x2 (ix2 r c) = D.x1 (o + r) c := by
  pointwise [k0_pay1]
  simp only [h0, h1, h2]
  rfl

/-- The second norm. -/
theorem h2_block (o : ℕ) {x0 x1 x2 : Vec Ideal S1024x1024 .f32} {x3 : Vec Ideal S1x1024 .f32} (h0 : ∀ r k, x0 (ix2 r k) = D.mix (o + r) k)
    (h1 : ∀ k c, x1 (ix2 k c) = D.wo k c) (h2 : ∀ r c, x2 (ix2 r c) = D.x (o + r) c) (h3 : ∀ r c, x3 (ix2 r c) = D.n2 c) (r c : Fin 1024) :
    k0_pay2 x0 x1 x2 x3 (ix2 r c) = D.h2 (o + r) c := by
  have e := x1_block D o h0 h1 h2
  unfold k0_pay2
  generalize k0_pay1 x0 x1 x2 = X at e ⊢
  pointwise
  simp only [e, h3]
  rfl

/-- Hidden values of a block of rows and a slab of weights. -/
theorem hidden_block (f w : ℕ → ℕ → EReal) (o p : ℕ) {x0 : Vec Ideal S1024x1024 .bf16} {x1 : Vec Ideal S1x704x1024 .f32}
    (h0 : ∀ r c, x0 (ix2 r c) = f (o + r) c) (h1 : ∀ a k c, x1 (ix3 a k c) = w (p + k) c) (r : Fin 1024) (k : Fin 704) :
    k1_pay1 x0 x1 (ix2 r k) = ∑ c : Fin 1024, f (o + r) c * w (p + k) c := by
  pointwise [k1_pay1]
  simp only [h0, h1]

/-- The gate. -/
theorem gate_block (o p : ℕ) {x0 : Vec Ideal S1024x1024 .bf16} {x1 : Vec Ideal S1x704x1024 .f32}
    (h0 : ∀ r c, x0 (ix2 r c) = D.h2 (o + r) c) (h1 : ∀ a k c, x1 (ix3 a k c) = D.wg (p + k) c) (a : Fin 1) (r : Fin 1024) (k : Fin 704) :
    k1_pay3 x0 x1 (ix3 a r k) = D.gate (o + r) (p + k) := by
  have e : ∀ (r : Fin 1024) (k : Fin 704), k1_pay2 x0 x1 (ix2 r k) = D.gate (o + r) (p + k) := hidden_block D.h2 D.wg o p h0 h1
  unfold k1_pay3
  generalize k1_pay2 x0 x1 = X at e ⊢
  pointwise
  exact e _ _

/-- The hidden values. -/
theorem up_block (o p : ℕ) {x0 : Vec Ideal S1024x1024 .bf16} {x1 : Vec Ideal S1x704x1024 .f32}
    (h0 : ∀ r c, x0 (ix2 r c) = D.h2 (o + r) c) (h1 : ∀ a k c, x1 (ix3 a k c) = D.wu (p + k) c) (a : Fin 1) (r : Fin 1024) (k : Fin 704) :
    k1_pay4 x0 x1 (ix3 a r k) = D.up (o + r) (p + k) := by
  have e : ∀ (r : Fin 1024) (k : Fin 704), k1_pay1 x0 x1 (ix2 r k) = D.up (o + r) (p + k) := hidden_block D.h2 D.wu o p h0 h1
  unfold k1_pay4
  generalize k1_pay1 x0 x1 = X at e ⊢
  pointwise
  exact e _ _

/-- The activation. -/
theorem act_block (o p : ℕ) {x0 x2 : Vec Ideal S1024x1024 .bf16} {x1 x3 : Vec Ideal S1x704x1024 .f32}
    (h0 : ∀ r c, x0 (ix2 r c) = D.h2 (o + r) c) (h1 : ∀ a k c, x1 (ix3 a k c) = D.wu (p + k) c) (h2 : ∀ r c, x2 (ix2 r c) = D.h2 (o + r) c)
    (h3 : ∀ a k c, x3 (ix3 a k c) = D.wg (p + k) c) (a : Fin 1) (r : Fin 1024) (k : Fin 704) :
    k1_pay5 x0 x1 x2 x3 (ix3 a r k) = D.act (o + r) (p + k) := by
  have e : ∀ (r : Fin 1024) (k : Fin 704), k1_pay1 x0 x1 (ix2 r k) = D.up (o + r) (p + k) := hidden_block D.h2 D.wu o p h0 h1
  have e' : ∀ (r : Fin 1024) (k : Fin 704), k1_pay2 x2 x3 (ix2 r k) = D.gate (o + r) (p + k) := hidden_block D.h2 D.wg o p h2 h3
  unfold k1_pay5
  generalize k1_pay1 x0 x1 = X at e ⊢
  generalize k1_pay2 x2 x3 = Y at e' ⊢
  pointwise
  simp only [e, e']
  rfl

theorem at0 : 704 * ((0 : Fin 4) : ℕ) = 0 := rfl
theorem at1 : 704 * ((1 : Fin 4) : ℕ) = 704 := rfl
theorem at2 : 704 * ((2 : Fin 4) : ℕ) = 1408 := rfl
theorem at3 : 704 * ((3 : Fin 4) : ℕ) = 2112 := rfl

/-- A product along the hidden layer. -/
theorem down_block (f w : ℕ → ℕ → EReal) (o : ℕ) {x0 : Vec Ideal S4x512x704 .bf16} {x1 : Vec Ideal S4x704x1024 .f32}
    (h0 : ∀ j r k, x0 (ix3 j r k) = f (o + r) (704 * j + k)) (h1 : ∀ j k c, x1 (ix3 j k c) = w (704 * j + k) c) (r : Fin 512) (c : Fin 1024) :
    down x0 x1 (ix2 r c) = ∑ q : Fin 2816, f (o + r) q * w q c := by
  rw [sum_hidden fun q => f (o + r) q * w q c]
  pointwise [down, k2_pay7]
  simp only [h0, h1, at0, at1, at2, at3, Nat.zero_add]

/-! ## The final norm and the loss -/

section Loss

variable (o : ℕ) {s v y : Vec Ideal S512x1024 .f32} {w : Vec Ideal S1x1024 .f32}

/-- The residual stream after the feed-forward layer. -/
theorem x2_block (hs : ∀ r c, s (ix2 r c) = ∑ q : Fin 2816, D.act (o + r) q * D.wd q c) (hv : ∀ r c, v (ix2 r c) = D.x1 (o + r) c)
    (r : Fin 512) (c : Fin 1024) : k2_pay8 s v (ix2 r c) = D.x2 (o + r) c := by
  pointwise [k2_pay8]
  simp only [hs, hv]
  rfl

variable (hX : ∀ r c, k2_pay8 s v (ix2 r c) = D.x2 (o + r) c) (hy : ∀ r c, y (ix2 r c) = D.tgt (o + r) c) (hw : ∀ a c, w (ix2 a c) = D.fw c)
include hX

theorem msq_block (r : Fin 512) (a : Fin 1) : k2_pay9 s v (ix2 r a) = msq D.x2 (o + r) := by
  unfold k2_pay9
  generalize k2_pay8 s v = X at hX ⊢
  pointwise
  simp only [hX]
  rfl

theorem rn_block (r : Fin 512) (a : Fin 1) : k2_pay10 s v (ix2 r a) = rn D.x2 (o + r) := by
  have e := msq_block D o hX
  unfold k2_pay10
  generalize k2_pay9 s v = X at e ⊢
  pointwise
  rw [e]
  rfl

theorem scaled_block (r : Fin 512) (c : Fin 1024) : k2_pay11 s v (ix2 r c) = D.x2 (o + r) c * rn D.x2 (o + r) := by
  have e := rn_block D o hX
  unfold k2_pay11
  generalize k2_pay10 s v = X at e ⊢
  generalize k2_pay8 s v = Y at hX ⊢
  pointwise
  rw [e, hX]

include hy hw

/-- Output minus target. -/
theorem err_block (r : Fin 512) (c : Fin 1024) : k2_pay12 s v y w (ix2 r c) = D.err (o + r) c := by
  have e := scaled_block D o hX
  unfold k2_pay12
  generalize k2_pay11 s v = X at e ⊢
  pointwise
  rw [e, hy, hw]
  rfl

/-- The loss of a block of rows. -/
theorem loss_block : k2_pay13 s v y w = Ideal.div (half * ∑ r : Fin 512, ∑ c : Fin 1024, D.err (o + r) c * D.err (o + r) c) width := by
  have e := err_block D o hX hy hw
  unfold k2_pay13
  generalize k2_pay12 s v y w = X at e ⊢
  pointwise
  simp only [e]
  rfl

/-- The gradient of the output. -/
theorem dy_block (r : Fin 512) (c : Fin 1024) : k2_pay14 s v y w (ix2 r c) = D.dy (o + r) c := by
  have e := err_block D o hX hy hw
  unfold k2_pay14
  generalize k2_pay12 s v y w = X at e ⊢
  pointwise
  rw [e]
  rfl

/-- The gradient of the final norm's weights, of a block of rows. -/
theorem dfw_block (a : Fin 1) (c : Fin 1024) : k2_pay15 s v y w (ix2 a c) = ∑ r : Fin 512, D.x2 (o + r) c * rn D.x2 (o + r) * D.dy (o + r) c := by
  have e := dy_block D o hX hy hw
  have e' := scaled_block D o hX
  unfold k2_pay15
  generalize k2_pay14 s v y w = X at e ⊢
  generalize k2_pay11 s v = Y at e' ⊢
  pointwise
  simp only [e, e']

theorem dn_block (r : Fin 512) (c : Fin 1024) : k2_pay16 s v y w (ix2 r c) = D.dn (o + r) c := by
  have e := dy_block D o hX hy hw
  unfold k2_pay16
  generalize k2_pay14 s v y w = X at e ⊢
  pointwise
  rw [e, hw]
  rfl

theorem across_block (r : Fin 512) (c : Fin 1024) : k2_pay17 s v y w (ix2 r c) = D.dn (o + r) c * rn D.x2 (o + r) := by
  have e := dn_block D o hX hy hw
  have e' := rn_block D o hX
  unfold k2_pay17
  generalize k2_pay16 s v y w = X at e ⊢
  generalize k2_pay10 s v = Y at e' ⊢
  pointwise
  rw [e, e']

theorem along_block (r : Fin 512) (a : Fin 1) : k2_pay18 s v y w (ix2 r a) = along D.x2 D.dn (o + r) := by
  have e := dn_block D o hX hy hw
  have e' := rn_block D o hX
  have e'' := msq_block D o hX
  unfold k2_pay18
  generalize k2_pay16 s v y w = X at e ⊢
  generalize k2_pay10 s v = Y at e' ⊢
  generalize k2_pay9 s v = Z at e'' ⊢
  generalize k2_pay8 s v = W at hX ⊢
  pointwise
  simp only [e, e', e'', hX, Fin.sum_univ_one]
  rfl

/-- The gradient of the residual stream after the feed-forward layer. -/
theorem dx2_block (r : Fin 512) (c : Fin 1024) : k2_pay1 (k2_pay8 s v) (k2_pay17 s v y w) (k2_pay18 s v y w) (ix2 r c) = D.dx2 (o + r) c := by
  have e := across_block D o hX hy hw
  have e' := along_block D o hX hy hw
  generalize k2_pay17 s v y w = X at e ⊢
  generalize k2_pay18 s v y w = Y at e' ⊢
  generalize k2_pay8 s v = W at hX ⊢
  pointwise [k2_pay1]
  rw [e, e', hX]
  rfl

end Loss

/-! ## The hidden layer's gradients -/

section Hidden

variable (o p : ℕ) {x0 : Vec Ideal S1024x1024 .bf16} {x1 : Vec Ideal S1x704x1024 .f32} {x2 x3 : Vec Ideal S1x1024x704 .bf16}
  (h0 : ∀ r c, x0 (ix2 r c) = D.dx2 (o + r) c) (h1 : ∀ a k c, x1 (ix3 a k c) = D.wd (p + k) c)
  (h2 : ∀ a r k, x2 (ix3 a r k) = D.gate (o + r) (p + k)) (h3 : ∀ a r k, x3 (ix3 a r k) = D.up (o + r) (p + k))

include h2 in
theorem sig_block (r : Fin 1024) (k : Fin 704) : k3_pay2 x2 (ix2 r k) = D.gate (o + r) (p + k) ∧ k3_pay3 x2 (ix2 r k) = D.sig (o + r) (p + k) := by
  constructor
  · pointwise [k3_pay2]
    rw [h2]
  · pointwise [k3_pay3, k3_pay2]
    rw [h2]
    rfl

include h0 h1 in
theorem dact_block (r : Fin 1024) (k : Fin 704) : k3_pay1 x0 x1 (ix2 r k) = D.dact (o + r) (p + k) :=
  hidden_block D.dx2 D.wd o p h0 h1 r k

include h0 h1 h2 in
/-- The gradient of the hidden values. -/
theorem dup_block (a : Fin 1) (r : Fin 1024) (k : Fin 704) : k3_pay5 x0 x1 x2 (ix3 a r k) = D.dup (o + r) (p + k) := by
  have e := dact_block D o p h0 h1
  have e' := sig_block D o p h2
  unfold k3_pay5
  generalize k3_pay1 x0 x1 = X at e ⊢
  generalize k3_pay2 x2 = Y at e' ⊢
  generalize k3_pay3 x2 = Z at e' ⊢
  pointwise
  rw [e, (e' _ _).1, (e' _ _).2]
  rfl

include h0 h1 h2 h3 in
/-- The gradient of the gate. -/
theorem dgate_block (a : Fin 1) (r : Fin 1024) (k : Fin 704) : k3_pay4 x0 x1 x2 x3 (ix3 a r k) = D.dgate (o + r) (p + k) := by
  have e := dact_block D o p h0 h1
  have e' := sig_block D o p h2
  unfold k3_pay4
  generalize k3_pay1 x0 x1 = X at e ⊢
  generalize k3_pay2 x2 = Y at e' ⊢
  generalize k3_pay3 x2 = Z at e' ⊢
  pointwise
  rw [e, (e' _ _).1, (e' _ _).2, h3]
  rfl

end Hidden

/-! ## The weights' gradients -/

/-- A product along the rows: the gradient of a slab of the feed-forward layer's weights. -/
theorem grad_block (f g : ℕ → ℕ → EReal) (p : ℕ) {x0 : Vec Ideal S1x2048x704 .bf16} {x1 : Vec Ideal S2048x1024 .bf16}
    (h0 : ∀ a r k, x0 (ix3 a r k) = f r (p + k)) (h1 : ∀ r c, x1 (ix2 r c) = g r c) (a : Fin 1) (k : Fin 704) (c : Fin 1024) :
    k4_pay1 x0 x1 (ix3 a k c) = ∑ r : Fin 2048, f r (p + k) * g r c := by
  pointwise [k4_pay1]
  exact Finset.sum_congr rfl fun r _ => congrArg₂ (· * ·) (h0 0 r k) (h1 r c)

/-- The gradient of the attention's output. -/
theorem dmix_block (o : ℕ) {x0 : Vec Ideal S1024x1024 .bf16} {x1 : Vec Ideal S1024x1024 .f32}
    (h0 : ∀ r c, x0 (ix2 r c) = D.dx1 (o + r) c) (h1 : ∀ k c, x1 (ix2 k c) = D.wo k c) (r k : Fin 1024) :
    k8_pay1 x0 x1 (ix2 r k) = D.dmix (o + r) k := by
  pointwise [k8_pay1]
  simp only [h0, h1]
  rfl

/-- The gradient of the output projection. -/
theorem gout_block {x0 : Vec Ideal S2048x1024 .f32} {x1 : Vec Ideal S2048x1024 .bf16}
    (h0 : ∀ r k, x0 (ix2 r k) = D.mix r k) (h1 : ∀ r c, x1 (ix2 r c) = D.dx1 r c) (k c : Fin 1024) :
    k9_pay1 x0 x1 (ix2 k c) = D.gout k c := by
  pointwise [k9_pay1]
  simp only [h0, h1]
  rfl

/-! ## The second norm's gradients -/

section Norm

variable (o : ℕ) {s v z u : Vec Ideal S512x1024 .f32} {w : Vec Ideal S1x1024 .f32}

/-- The gradient of the second norm's output. -/
theorem dh2_block (hs : ∀ r c, s (ix2 r c) = ∑ q : Fin 2816, D.dup (o + r) q * D.wu q c) (hv : ∀ r c, v (ix2 r c) = D.dh2g (o + r) c)
    (r : Fin 512) (c : Fin 1024) : k6_pay5 s v (ix2 r c) = D.dh2 (o + r) c := by
  pointwise [k6_pay5]
  rw [hs, hv]
  rfl

variable (hG : ∀ r c, k6_pay5 s v (ix2 r c) = D.dh2 (o + r) c) (hz : ∀ r c, z (ix2 r c) = D.x1 (o + r) c)
  (hu : ∀ r c, u (ix2 r c) = D.dx2 (o + r) c) (hw : ∀ a c, w (ix2 a c) = D.n2 c)

include hz

theorem msq1_block (r : Fin 512) (a : Fin 1) : k6_pay8 z (ix2 r a) = msq D.x1 (o + r) := by
  pointwise [k6_pay8, k6_pay6]
  simp only [hz]
  rfl

theorem rn1_block (r : Fin 512) (a : Fin 1) : k6_pay9 z (ix2 r a) = rn D.x1 (o + r) := by
  have e := msq1_block D o hz
  unfold k6_pay9
  generalize k6_pay8 z = X at e ⊢
  pointwise
  rw [e]
  rfl

include hG

/-- The gradient of the second norm's weights, of a block of rows. -/
theorem dn2_block (a : Fin 1) (c : Fin 1024) : k6_pay10 s v z (ix2 a c) = ∑ r : Fin 512, D.x1 (o + r) c * rn D.x1 (o + r) * D.dh2 (o + r) c := by
  have e := rn1_block D o hz
  unfold k6_pay10
  generalize k6_pay9 z = X at e ⊢
  generalize k6_pay5 s v = Y at hG ⊢
  pointwise [k6_pay6]
  simp only [e, hG, hz]

include hu hw

/-- The gradient of the attention half's output. -/
theorem dx1_block (r : Fin 512) (c : Fin 1024) : k6_pay13 s v z u w (ix2 r c) = D.dx1 (o + r) c := by
  have e := rn1_block D o hz
  have e' := msq1_block D o hz
  unfold k6_pay13 k6_pay11
  generalize k6_pay9 z = X at e ⊢
  generalize k6_pay8 z = Z at e' ⊢
  generalize k6_pay5 s v = Y at hG ⊢
  pointwise [k6_pay6, k6_pay7]
  simp only [e, e', hG, hz, hu, hw, Fin.sum_univ_one]
  rfl

end Norm

end Cert.Proof.Ffn

end
-- ==== Proof.Ffn.GridA.lean ====
module

public import proofs.«01_k».proof.Proof.Ffn.Shapes
public import proofs.«01_k».proof.Proof.Gen.Kernel2Ideal.Frame.Region0
public import proofs.«01_k».proof.Proof.Gen.Kernel2Ideal.Frame.Region1

/-!
# Blocks and arrays: the first two calls

Where every window's block lies, what it reads of an array that is known, and which array the written blocks make up together.
-/

@[expose] public section

set_option maxRecDepth 16384

noncomputable section

namespace Cert.Proof.Ffn

open Cert.Kernel2Ideal Cert.Kernel2Ideal.Gen Idealize.ShloMosaic Idealize.ShloMosaic.TcCoe

variable {V : (c : Dev nD) → (b : Ref sig .tc) → Buf (Elt Ideal) ((c : Thread nD τ).loc b)} (d : Dev nD)

/-! ## Call 0 -/

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = t.val ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = t.val ∧ win0_4.index t 1 = 0 := by decide +kernel
theorem index0_5 : ∀ t : Fin grid0.N, win0_5.index t 0 = t.val ∧ win0_5.index t 1 = 0 := by decide +kernel

theorem in0_0 {f : ℕ → ℕ → EReal} (h : (V d main_arg0 : Vec Ideal S2048x1024 .f32) = mat f) (t : Fin cfg0.N) (r : Fin 1024) (c : Fin 1024) :
    iblk0 V d 0 t (ix2 r c) = f (1024 * t.val + r) c := (congrFun h _).trans (mat_at
    (by show win0_0.index t 0 * 1024 + 1 * r.val = 1024 * t.val + r.val; rw [(index0_0 t).1]; omega)
    (by show win0_0.index t 1 * 1024 + 1 * c.val = c.val; rw [(index0_0 t).2]; omega))

theorem in0_1 {f : ℕ → ℕ → EReal} (h : (V d main_arg2 : Vec Ideal S1024x1024 .f32) = mat f) (t : Fin cfg0.N) (r : Fin 1024) (c : Fin 1024) :
    iblk0 V d 1 t (ix2 r c) = f (r) c := (congrFun h _).trans (mat_at
    (by show win0_1.index t 0 * 1024 + 1 * r.val = r.val; rw [(index0_1 t).1]; omega)
    (by show win0_1.index t 1 * 1024 + 1 * c.val = c.val; rw [(index0_1 t).2]; omega))

theorem in0_2 {f : ℕ → ℕ → EReal} (h : (V d main_arg1 : Vec Ideal S2048x1024 .f32) = mat f) (t : Fin cfg0.N) (r : Fin 1024) (c : Fin 1024) :
    iblk0 V d 2 t (ix2 r c) = f (1024 * t.val + r) c := (congrFun h _).trans (mat_at
    (by show win0_2.index t 0 * 1024 + 1 * r.val = 1024 * t.val + r.val; rw [(index0_2 t).1]; omega)
    (by show win0_2.index t 1 * 1024 + 1 * c.val = c.val; rw [(index0_2 t).2]; omega))

theorem in0_3 {f : ℕ → EReal} (h : (V d main_arg3 : Vec Ideal S1x1024 .f32) = row f) (t : Fin cfg0.N) (r : Fin 1) (c : Fin 1024) :
    iblk0 V d 3 t (ix2 r c) = f c := (congrFun h _).trans (row_at
    (by show win0_3.index t 1 * 1024 + 1 * c.val = c.val; rw [(index0_3 t).2]; omega))

theorem final0_4 {g : ℕ → ℕ → EReal} (h : ∀ t : Fin cfg0.N, ∀ (r : Fin 1024) (c : Fin 1024), ((dat0 V d).after 4 t : Vec Ideal S1024x1024 .f32) (ix2 r c) = g (1024 * t.val + r) c) :
    ((dat0 V d).arrAt 4 cfg0.N : Vec Ideal S2048x1024 .f32) = (mat g : Vec Ideal S2048x1024 .f32) :=
  (dat0 V d).arrAt_eq_of_cover 4 (mat g : Vec Ideal S2048x1024 .f32) (fun t _ => by
    show (cfg0.win 4).cut (grid0.coords t) ((dat0 V d).after 4 t) = _
    funext j
    obtain ⟨r, c, rfl⟩ : ∃ (r : Fin 1024) (c : Fin 1024), j = ix2 r c := ⟨j 0, j 1, eq_ix2 j⟩
    exact (h t r c).trans (mat_at
      (by show win0_4.index t 0 * 1024 + 1 * r.val = 1024 * t.val + r.val; rw [(index0_4 t).1]; omega)
      (by show win0_4.index t 1 * 1024 + 1 * c.val = c.val; rw [(index0_4 t).2]; omega)).symm) fun i => by
    have h0 : (i 0).val < 2048 := (i 0).isLt
    have h1 : (i 1).val < 1024 := (i 1).isLt
    obtain ⟨t, ht⟩ : ∃ t : Fin cfg0.N, t.val = (i 0).val / 1024 := ⟨⟨(i 0).val / 1024, Nat.lt_of_lt_of_eq (by omega) N_0.symm⟩, rfl⟩
    have hi := index0_4 t
    refine ⟨t, flush0_4 t, ?_⟩
    show i ∈ ((View.whole main_v0_0).slice (win0_4.rect t)).set
    rw [View.set_slice_whole, Rect.mem_set_unit]
    intro a
    match a with
    | ⟨0, _⟩ =>
      show win0_4.index t 0 * 1024 ≤ (i 0).val ∧ (i 0).val < win0_4.index t 0 * 1024 + 1024
      rw [hi.1]; omega
    | ⟨1, _⟩ =>
      show win0_4.index t 1 * 1024 ≤ (i 1).val ∧ (i 1).val < win0_4.index t 1 * 1024 + 1024
      rw [hi.2]; omega

theorem final0_5 {g : ℕ → ℕ → EReal} (h : ∀ t : Fin cfg0.N, ∀ (r : Fin 1024) (c : Fin 1024), ((dat0 V d).after 5 t : Vec Ideal S1024x1024 .bf16) (ix2 r c) = g (1024 * t.val + r) c) :
    ((dat0 V d).arrAt 5 cfg0.N : Vec Ideal S2048x1024 .bf16) = (mat g : Vec Ideal S2048x1024 .bf16) :=
  (dat0 V d).arrAt_eq_of_cover 5 (mat g : Vec Ideal S2048x1024 .bf16) (fun t _ => by
    show (cfg0.win 5).cut (grid0.coords t) ((dat0 V d).after 5 t) = _
    funext j
    obtain ⟨r, c, rfl⟩ : ∃ (r : Fin 1024) (c : Fin 1024), j = ix2 r c := ⟨j 0, j 1, eq_ix2 j⟩
    exact (h t r c).trans (mat_at
      (by show win0_5.index t 0 * 1024 + 1 * r.val = 1024 * t.val + r.val; rw [(index0_5 t).1]; omega)
      (by show win0_5.index t 1 * 1024 + 1 * c.val = c.val; rw [(index0_5 t).2]; omega)).symm) fun i => by
    have h0 : (i 0).val < 2048 := (i 0).isLt
    have h1 : (i 1).val < 1024 := (i 1).isLt
    obtain ⟨t, ht⟩ : ∃ t : Fin cfg0.N, t.val = (i 0).val / 1024 := ⟨⟨(i 0).val / 1024, Nat.lt_of_lt_of_eq (by omega) N_0.symm⟩, rfl⟩
    have hi := index0_5 t
    refine ⟨t, flush0_5 t, ?_⟩
    show i ∈ ((View.whole main_v0_1).slice (win0_5.rect t)).set
    rw [View.set_slice_whole, Rect.mem_set_unit]
    intro a
    match a with
    | ⟨0, _⟩ =>
      show win0_5.index t 0 * 1024 ≤ (i 0).val ∧ (i 0).val < win0_5.index t 0 * 1024 + 1024
      rw [hi.1]; omega
    | ⟨1, _⟩ =>
      show win0_5.index t 1 * 1024 ≤ (i 1).val ∧ (i 1).val < win0_5.index t 1 * 1024 + 1024
      rw [hi.2]; omega

/-! ## Call 1 -/

theorem index1_0 : ∀ t : Fin grid1.N, win1_0.index t 0 = t.val / 4 ∧ win1_0.index t 1 = 0 := by decide +kernel
theorem index1_1 : ∀ t : Fin grid1.N, win1_1.index t 0 = t.val % 4 ∧ win1_1.index t 1 = 0 ∧ win1_1.index t 2 = 0 := by decide +kernel
theorem index1_2 : ∀ t : Fin grid1.N, win1_2.index t 0 = t.val / 4 ∧ win1_2.index t 1 = 0 := by decide +kernel
theorem index1_3 : ∀ t : Fin grid1.N, win1_3.index t 0 = t.val % 4 ∧ win1_3.index t 1 = 0 ∧ win1_3.index t 2 = 0 := by decide +kernel
theorem index1_4 : ∀ t : Fin grid1.N, win1_4.index t 0 = t.val % 4 ∧ win1_4.index t 1 = t.val / 4 ∧ win1_4.index t 2 = 0 := by decide +kernel
theorem index1_5 : ∀ t : Fin grid1.N, win1_5.index t 0 = t.val % 4 ∧ win1_5.index t 1 = t.val / 4 ∧ win1_5.index t 2 = 0 := by decide +kernel
theorem index1_6 : ∀ t : Fin grid1.N, win1_6.index t 0 = t.val % 4 ∧ win1_6.index t 1 = t.val / 4 ∧ win1_6.index t 2 = 0 := by decide +kernel

theorem in1_0 {f : ℕ → ℕ → EReal} (h : (V d main_v0_1 : Vec Ideal S2048x1024 .bf16) = mat f) (t : Fin cfg1.N) (r : Fin 1024) (c : Fin 1024) :
    iblk1 V d 0 t (ix2 r c) = f (1024 * (t.val / 4) + r) c := (congrFun h _).trans (mat_at
    (by show win1_0.index t 0 * 1024 + 1 * r.val = 1024 * (t.val / 4) + r.val; rw [(index1_0 t).1]; omega)
    (by show win1_0.index t 1 * 1024 + 1 * c.val = c.val; rw [(index1_0 t).2]; omega))

theorem in1_1 {f : ℕ → ℕ → EReal} (h : (V d main_arg5 : Vec Ideal S4x704x1024 .f32) = slab f) (t : Fin cfg1.N) (a : Fin 1) (r : Fin 704) (c : Fin 1024) :
    iblk1 V d 1 t (ix3 a r c) = f (704 * (t.val % 4) + r) c := (congrFun h _).trans (slab_at
    (by show win1_1.index t 0 * 1 + 1 * a.val = t.val % 4; rw [(index1_1 t).1]; omega)
    (by show win1_1.index t 1 * 704 + 1 * r.val = r.val; rw [(index1_1 t).2.1]; omega)
    (by show win1_1.index t 2 * 1024 + 1 * c.val = c.val; rw [(index1_1 t).2.2]; omega))

theorem in1_2 {f : ℕ → ℕ → EReal} (h : (V d main_v0_1 : Vec Ideal S2048x1024 .bf16) = mat f) (t : Fin cfg1.N) (r : Fin 1024) (c : Fin 1024) :
    iblk1 V d 2 t (ix2 r c) = f (1024 * (t.val / 4) + r) c := (congrFun h _).trans (mat_at
    (by show win1_2.index t 0 * 1024 + 1 * r.val = 1024 * (t.val / 4) + r.val; rw [(index1_2 t).1]; omega)
    (by show win1_2.index t 1 * 1024 + 1 * c.val = c.val; rw [(index1_2 t).2]; omega))

theorem in1_3 {f : ℕ → ℕ → EReal} (h : (V d main_arg4 : Vec Ideal S4x704x1024 .f32) = slab f) (t : Fin cfg1.N) (a : Fin 1) (r : Fin 704) (c : Fin 1024) :
    iblk1 V d 3 t (ix3 a r c) = f (704 * (t.val % 4) + r) c := (congrFun h _).trans (slab_at
    (by show win1_3.index t 0 * 1 + 1 * a.val = t.val % 4; rw [(index1_3 t).1]; omega)
    (by show win1_3.index t 1 * 704 + 1 * r.val = r.val; rw [(index1_3 t).2.1]; omega)
    (by show win1_3.index t 2 * 1024 + 1 * c.val = c.val; rw [(index1_3 t).2.2]; omega))

theorem final1_4 {g : ℕ → ℕ → EReal} (h : ∀ t : Fin cfg1.N, ∀ (a : Fin 1) (r : Fin 1024) (c : Fin 704), ((dat1 V d).after 4 t : Vec Ideal S1x1024x704 .bf16) (ix3 a r c) = g (1024 * (t.val / 4) + r) (704 * (t.val % 4) + c)) :
    ((dat1 V d).arrAt 4 cfg1.N : Vec Ideal S4x2048x704 .bf16) = (hid g : Vec Ideal S4x2048x704 .bf16) :=
  (dat1 V d).arrAt_eq_of_cover 4 (hid g : Vec Ideal S4x2048x704 .bf16) (fun t _ => by
    show (cfg1.win 4).cut (grid1.coords t) ((dat1 V d).after 4 t) = _
    funext j
    obtain ⟨a, r, c, rfl⟩ : ∃ (a : Fin 1) (r : Fin 1024) (c : Fin 704), j = ix3 a r c := ⟨j 0, j 1, j 2, eq_ix3 j⟩
    exact (h t a r c).trans (hid_at
      (by show win1_4.index t 0 * 1 + 1 * a.val = t.val % 4; rw [(index1_4 t).1]; omega)
      (by show win1_4.index t 1 * 1024 + 1 * r.val = 1024 * (t.val / 4) + r.val; rw [(index1_4 t).2.1]; omega)
      (by show win1_4.index t 2 * 704 + 1 * c.val = c.val; rw [(index1_4 t).2.2]; omega)).symm) fun i => by
    have h0 : (i 0).val < 4 := (i 0).isLt
    have h1 : (i 1).val < 2048 := (i 1).isLt
    have h2 : (i 2).val < 704 := (i 2).isLt
    obtain ⟨t, ht⟩ : ∃ t : Fin cfg1.N, t.val = 4 * ((i 1).val / 1024) + (i 0).val := ⟨⟨4 * ((i 1).val / 1024) + (i 0).val, Nat.lt_of_lt_of_eq (by omega) N_1.symm⟩, rfl⟩
    have hi := index1_4 t
    refine ⟨t, flush1_4 t, ?_⟩
    show i ∈ ((View.whole main_v1_0).slice (win1_4.rect t)).set
    rw [View.set_slice_whole, Rect.mem_set_unit]
    intro a
    match a with
    | ⟨0, _⟩ =>
      show win1_4.index t 0 * 1 ≤ (i 0).val ∧ (i 0).val < win1_4.index t 0 * 1 + 1
      rw [hi.1]; omega
    | ⟨1, _⟩ =>
      show win1_4.index t 1 * 1024 ≤ (i 1).val ∧ (i 1).val < win1_4.index t 1 * 1024 + 1024
      rw [hi.2.1]; omega
    | ⟨2, _⟩ =>
      show win1_4.index t 2 * 704 ≤ (i 2).val ∧ (i 2).val < win1_4.index t 2 * 704 + 704
      rw [hi.2.2]; omega

theorem final1_5 {g : ℕ → ℕ → EReal} (h : ∀ t : Fin cfg1.N, ∀ (a : Fin 1) (r : Fin 1024) (c : Fin 704), ((dat1 V d).after 5 t : Vec Ideal S1x1024x704 .bf16) (ix3 a r c) = g (1024 * (t.val / 4) + r) (704 * (t.val % 4) + c)) :
    ((dat1 V d).arrAt 5 cfg1.N : Vec Ideal S4x2048x704 .bf16) = (hid g : Vec Ideal S4x2048x704 .bf16) :=
  (dat1 V d).arrAt_eq_of_cover 5 (hid g : Vec Ideal S4x2048x704 .bf16) (fun t _ => by
    show (cfg1.win 5).cut (grid1.coords t) ((dat1 V d).after 5 t) = _
    funext j
    obtain ⟨a, r, c, rfl⟩ : ∃ (a : Fin 1) (r : Fin 1024) (c : Fin 704), j = ix3 a r c := ⟨j 0, j 1, j 2, eq_ix3 j⟩
    exact (h t a r c).trans (hid_at
      (by show win1_5.index t 0 * 1 + 1 * a.val = t.val % 4; rw [(index1_5 t).1]; omega)
      (by show win1_5.index t 1 * 1024 + 1 * r.val = 1024 * (t.val / 4) + r.val; rw [(index1_5 t).2.1]; omega)
      (by show win1_5.index t 2 * 704 + 1 * c.val = c.val; rw [(index1_5 t).2.2]; omega)).symm) fun i => by
    have h0 : (i 0).val < 4 := (i 0).isLt
    have h1 : (i 1).val < 2048 := (i 1).isLt
    have h2 : (i 2).val < 704 := (i 2).isLt
    obtain ⟨t, ht⟩ : ∃ t : Fin cfg1.N, t.val = 4 * ((i 1).val / 1024) + (i 0).val := ⟨⟨4 * ((i 1).val / 1024) + (i 0).val, Nat.lt_of_lt_of_eq (by omega) N_1.symm⟩, rfl⟩
    have hi := index1_5 t
    refine ⟨t, flush1_5 t, ?_⟩
    show i ∈ ((View.whole main_v1_1).slice (win1_5.rect t)).set
    rw [View.set_slice_whole, Rect.mem_set_unit]
    intro a
    match a with
    | ⟨0, _⟩ =>
      show win1_5.index t 0 * 1 ≤ (i 0).val ∧ (i 0).val < win1_5.index t 0 * 1 + 1
      rw [hi.1]; omega
    | ⟨1, _⟩ =>
      show win1_5.index t 1 * 1024 ≤ (i 1).val ∧ (i 1).val < win1_5.index t 1 * 1024 + 1024
      rw [hi.2.1]; omega
    | ⟨2, _⟩ =>
      show win1_5.index t 2 * 704 ≤ (i 2).val ∧ (i 2).val < win1_5.index t 2 * 704 + 704
      rw [hi.2.2]; omega

theorem final1_6 {g : ℕ → ℕ → EReal} (h : ∀ t : Fin cfg1.N, ∀ (a : Fin 1) (r : Fin 1024) (c : Fin 704), ((dat1 V d).after 6 t : Vec Ideal S1x1024x704 .bf16) (ix3 a r c) = g (1024 * (t.val / 4) + r) (704 * (t.val % 4) + c)) :
    ((dat1 V d).arrAt 6 cfg1.N : Vec Ideal S4x2048x704 .bf16) = (hid g : Vec Ideal S4x2048x704 .bf16) :=
  (dat1 V d).arrAt_eq_of_cover 6 (hid g : Vec Ideal S4x2048x704 .bf16) (fun t _ => by
    show (cfg1.win 6).cut (grid1.coords t) ((dat1 V d).after 6 t) = _
    funext j
    obtain ⟨a, r, c, rfl⟩ : ∃ (a : Fin 1) (r : Fin 1024) (c : Fin 704), j = ix3 a r c := ⟨j 0, j 1, j 2, eq_ix3 j⟩
    exact (h t a r c).trans (hid_at
      (by show win1_6.index t 0 * 1 + 1 * a.val = t.val % 4; rw [(index1_6 t).1]; omega)
      (by show win1_6.index t 1 * 1024 + 1 * r.val = 1024 * (t.val / 4) + r.val; rw [(index1_6 t).2.1]; omega)
      (by show win1_6.index t 2 * 704 + 1 * c.val = c.val; rw [(index1_6 t).2.2]; omega)).symm) fun i => by
    have h0 : (i 0).val < 4 := (i 0).isLt
    have h1 : (i 1).val < 2048 := (i 1).isLt
    have h2 : (i 2).val < 704 := (i 2).isLt
    obtain ⟨t, ht⟩ : ∃ t : Fin cfg1.N, t.val = 4 * ((i 1).val / 1024) + (i 0).val := ⟨⟨4 * ((i 1).val / 1024) + (i 0).val, Nat.lt_of_lt_of_eq (by omega) N_1.symm⟩, rfl⟩
    have hi := index1_6 t
    refine ⟨t, flush1_6 t, ?_⟩
    show i ∈ ((View.whole main_v1_2).slice (win1_6.rect t)).set
    rw [View.set_slice_whole, Rect.mem_set_unit]
    intro a
    match a with
    | ⟨0, _⟩ =>
      show win1_6.index t 0 * 1 ≤ (i 0).val ∧ (i 0).val < win1_6.index t 0 * 1 + 1
      rw [hi.1]; omega
    | ⟨1, _⟩ =>
      show win1_6.index t 1 * 1024 ≤ (i 1).val ∧ (i 1).val < win1_6.index t 1 * 1024 + 1024
      rw [hi.2.1]; omega
    | ⟨2, _⟩ =>
      show win1_6.index t 2 * 704 ≤ (i 2).val ∧ (i 2).val < win1_6.index t 2 * 704 + 704
      rw [hi.2.2]; omega

end Cert.Proof.Ffn

end
-- ==== Proof.Ffn.GridB.lean ====
module

public import proofs.«01_k».proof.Proof.Ffn.Shapes
public import proofs.«01_k».proof.Proof.Gen.Kernel2Ideal.Frame.Region2
public import proofs.«01_k».proof.Proof.Gen.Kernel2Ideal.Frame.Region3

/-!
# Blocks and arrays: the third and the fourth call

Where every window's block lies, what it reads of an array that is known, and which array the written blocks make up together.
-/

@[expose] public section

set_option maxRecDepth 16384

noncomputable section

namespace Cert.Proof.Ffn

open Cert.Kernel2Ideal Cert.Kernel2Ideal.Gen Idealize.ShloMosaic Idealize.ShloMosaic.TcCoe

variable {V : (c : Dev nD) → (b : Ref sig .tc) → Buf (Elt Ideal) ((c : Thread nD τ).loc b)} (d : Dev nD)

/-! ## Call 2 -/

theorem index2_0 : ∀ t : Fin grid2.N, win2_0.index t 0 = 0 ∧ win2_0.index t 1 = t.val ∧ win2_0.index t 2 = 0 := by decide +kernel
theorem index2_1 : ∀ t : Fin grid2.N, win2_1.index t 0 = 0 ∧ win2_1.index t 1 = 0 ∧ win2_1.index t 2 = 0 := by decide +kernel
theorem index2_2 : ∀ t : Fin grid2.N, win2_2.index t 0 = t.val ∧ win2_2.index t 1 = 0 := by decide +kernel
theorem index2_3 : ∀ t : Fin grid2.N, win2_3.index t 0 = t.val ∧ win2_3.index t 1 = 0 := by decide +kernel
theorem index2_4 : ∀ t : Fin grid2.N, win2_4.index t 0 = 0 ∧ win2_4.index t 1 = 0 := by decide +kernel
theorem index2_5 : ∀ t : Fin grid2.N, win2_5.index t 0 = t.val ∧ win2_5.index t 1 = 0 := by decide +kernel
theorem index2_6 : ∀ t : Fin grid2.N, win2_6.index t 0 = t.val ∧ win2_6.index t 1 = 0 := by decide +kernel
theorem index2_7 : ∀ t : Fin grid2.N, win2_7.index t 0 = 0 ∧ win2_7.index t 1 = 0 := by decide +kernel
theorem index2_8 : ∀ t : Fin grid2.N, win2_8.index t 0 = 0 ∧ win2_8.index t 1 = 0 := by decide +kernel

theorem in2_0 {f : ℕ → ℕ → EReal} (h : (V d main_v1_2 : Vec Ideal S4x2048x704 .bf16) = hid f) (t : Fin cfg2.N) (a : Fin 4) (r : Fin 512) (c : Fin 704) :
    iblk2 V d 0 t (ix3 a r c) = f (512 * t.val + r) (704 * a + c) := (congrFun h _).trans (hid_at
    (by show win2_0.index t 0 * 4 + 1 * a.val = a.val; rw [(index2_0 t).1]; omega)
    (by show win2_0.index t 1 * 512 + 1 * r.val = 512 * t.val + r.val; rw [(index2_0 t).2.1]; omega)
    (by show win2_0.index t 2 * 704 + 1 * c.val = c.val; rw [(index2_0 t).2.2]; omega))

theorem in2_1 {f : ℕ → ℕ → EReal} (h : (V d main_arg6 : Vec Ideal S4x704x1024 .f32) = slab f) (t : Fin cfg2.N) (a : Fin 4) (r : Fin 704) (c : Fin 1024) :
    iblk2 V d 1 t (ix3 a r c) = f (704 * a + r) c := (congrFun h _).trans (slab_at
    (by show win2_1.index t 0 * 4 + 1 * a.val = a.val; rw [(index2_1 t).1]; omega)
    (by show win2_1.index t 1 * 704 + 1 * r.val = r.val; rw [(index2_1 t).2.1]; omega)
    (by show win2_1.index t 2 * 1024 + 1 * c.val = c.val; rw [(index2_1 t).2.2]; omega))

theorem in2_2 {f : ℕ → ℕ → EReal} (h : (V d main_v0_0 : Vec Ideal S2048x1024 .f32) = mat f) (t : Fin cfg2.N) (r : Fin 512) (c : Fin 1024) :
    iblk2 V d 2 t (ix2 r c) = f (512 * t.val + r) c := (congrFun h _).trans (mat_at
    (by show win2_2.index t 0 * 512 + 1 * r.val = 512 * t.val + r.val; rw [(index2_2 t).1]; omega)
    (by show win2_2.index t 1 * 1024 + 1 * c.val = c.val; rw [(index2_2 t).2]; omega))

theorem in2_3 {f : ℕ → ℕ → EReal} (h : (V d main_arg7 : Vec Ideal S2048x1024 .f32) = mat f) (t : Fin cfg2.N) (r : Fin 512) (c : Fin 1024) :
    iblk2 V d 3 t (ix2 r c) = f (512 * t.val + r) c := (congrFun h _).trans (mat_at
    (by show win2_3.index t 0 * 512 + 1 * r.val = 512 * t.val + r.val; rw [(index2_3 t).1]; omega)
    (by show win2_3.index t 1 * 1024 + 1 * c.val = c.val; rw [(index2_3 t).2]; omega))

theorem in2_4 {f : ℕ → EReal} (h : (V d main_arg8 : Vec Ideal S1x1024 .f32) = row f) (t : Fin cfg2.N) (r : Fin 1) (c : Fin 1024) :
    iblk2 V d 4 t (ix2 r c) = f c := (congrFun h _).trans (row_at
    (by show win2_4.index t 1 * 1024 + 1 * c.val = c.val; rw [(index2_4 t).2]; omega))

theorem final2_5 {g : ℕ → ℕ → EReal} (h : ∀ t : Fin cfg2.N, ∀ (r : Fin 512) (c : Fin 1024), ((dat2 V d).after 5 t : Vec Ideal S512x1024 .f32) (ix2 r c) = g (512 * t.val + r) c) :
    ((dat2 V d).arrAt 5 cfg2.N : Vec Ideal S2048x1024 .f32) = (mat g : Vec Ideal S2048x1024 .f32) :=
  (dat2 V d).arrAt_eq_of_cover 5 (mat g : Vec Ideal S2048x1024 .f32) (fun t _ => by
    show (cfg2.win 5).cut (grid2.coords t) ((dat2 V d).after 5 t) = _
    funext j
    obtain ⟨r, c, rfl⟩ : ∃ (r : Fin 512) (c : Fin 1024), j = ix2 r c := ⟨j 0, j 1, eq_ix2 j⟩
    exact (h t r c).trans (mat_at
      (by show win2_5.index t 0 * 512 + 1 * r.val = 512 * t.val + r.val; rw [(index2_5 t).1]; omega)
      (by show win2_5.index t 1 * 1024 + 1 * c.val = c.val; rw [(index2_5 t).2]; omega)).symm) fun i => by
    have h0 : (i 0).val < 2048 := (i 0).isLt
    have h1 : (i 1).val < 1024 := (i 1).isLt
    obtain ⟨t, ht⟩ : ∃ t : Fin cfg2.N, t.val = (i 0).val / 512 := ⟨⟨(i 0).val / 512, Nat.lt_of_lt_of_eq (by omega) N_2.symm⟩, rfl⟩
    have hi := index2_5 t
    refine ⟨t, flush2_5 t, ?_⟩
    show i ∈ ((View.whole main_v2_0).slice (win2_5.rect t)).set
    rw [View.set_slice_whole, Rect.mem_set_unit]
    intro a
    match a with
    | ⟨0, _⟩ =>
      show win2_5.index t 0 * 512 ≤ (i 0).val ∧ (i 0).val < win2_5.index t 0 * 512 + 512
      rw [hi.1]; omega
    | ⟨1, _⟩ =>
      show win2_5.index t 1 * 1024 ≤ (i 1).val ∧ (i 1).val < win2_5.index t 1 * 1024 + 1024
      rw [hi.2]; omega

theorem final2_6 {g : ℕ → ℕ → EReal} (h : ∀ t : Fin cfg2.N, ∀ (r : Fin 512) (c : Fin 1024), ((dat2 V d).after 6 t : Vec Ideal S512x1024 .bf16) (ix2 r c) = g (512 * t.val + r) c) :
    ((dat2 V d).arrAt 6 cfg2.N : Vec Ideal S2048x1024 .bf16) = (mat g : Vec Ideal S2048x1024 .bf16) :=
  (dat2 V d).arrAt_eq_of_cover 6 (mat g : Vec Ideal S2048x1024 .bf16) (fun t _ => by
    show (cfg2.win 6).cut (grid2.coords t) ((dat2 V d).after 6 t) = _
    funext j
    obtain ⟨r, c, rfl⟩ : ∃ (r : Fin 512) (c : Fin 1024), j = ix2 r c := ⟨j 0, j 1, eq_ix2 j⟩
    exact (h t r c).trans (mat_at
      (by show win2_6.index t 0 * 512 + 1 * r.val = 512 * t.val + r.val; rw [(index2_6 t).1]; omega)
      (by show win2_6.index t 1 * 1024 + 1 * c.val = c.val; rw [(index2_6 t).2]; omega)).symm) fun i => by
    have h0 : (i 0).val < 2048 := (i 0).isLt
    have h1 : (i 1).val < 1024 := (i 1).isLt
    obtain ⟨t, ht⟩ : ∃ t : Fin cfg2.N, t.val = (i 0).val / 512 := ⟨⟨(i 0).val / 512, Nat.lt_of_lt_of_eq (by omega) N_2.symm⟩, rfl⟩
    have hi := index2_6 t
    refine ⟨t, flush2_6 t, ?_⟩
    show i ∈ ((View.whole main_v2_1).slice (win2_6.rect t)).set
    rw [View.set_slice_whole, Rect.mem_set_unit]
    intro a
    match a with
    | ⟨0, _⟩ =>
      show win2_6.index t 0 * 512 ≤ (i 0).val ∧ (i 0).val < win2_6.index t 0 * 512 + 512
      rw [hi.1]; omega
    | ⟨1, _⟩ =>
      show win2_6.index t 1 * 1024 ≤ (i 1).val ∧ (i 1).val < win2_6.index t 1 * 1024 + 1024
      rw [hi.2]; omega

theorem flushed2_7 {g : ℕ → EReal} (h : ∀ t : Fin cfg2.N, t.val = 3 → ∀ (r : Fin 1) (c : Fin 128), ((dat2 V d).after 7 t : Vec Ideal S1x128 .f32) (ix2 r c) = g c)
    (t : Fin cfg2.N) (hf : (cfg2.win 7).flush t = true) :
    (dat2 V d).flushed 7 t = ((cfg2.win 7).blk t).view.read (Elt Ideal) (row g : Vec Ideal S1x128 .f32) := by
  show (cfg2.win 7).cut (grid2.coords t) ((dat2 V d).after 7 t) = _
  funext j
  obtain ⟨r, c, rfl⟩ : ∃ (r : Fin 1) (c : Fin 128), j = ix2 r c := ⟨j 0, j 1, eq_ix2 j⟩
  have h3 : t.val = 3 := by
    have ht : t.val < 4 := Nat.lt_of_lt_of_eq t.isLt N_2
    have hm := (flush2_7 t).mp hf
    omega
  exact (h t h3 r c).trans (row_at (by show win2_7.index t 1 * 128 + 1 * c.val = c.val; rw [(index2_7 t).2]; omega)).symm

theorem final2_7 {g : ℕ → EReal} (h : ∀ t : Fin cfg2.N, t.val = 3 → ∀ (r : Fin 1) (c : Fin 128), ((dat2 V d).after 7 t : Vec Ideal S1x128 .f32) (ix2 r c) = g c) :
    ((dat2 V d).arrAt 7 cfg2.N : Vec Ideal S1x128 .f32) = (row g : Vec Ideal S1x128 .f32) :=
  (dat2 V d).arrAt_eq_of_cover 7 (row g : Vec Ideal S1x128 .f32) (flushed2_7 d h) fun i => by
    have h0 : (i 0).val < 1 := (i 0).isLt
    have h1 : (i 1).val < 128 := (i 1).isLt
    obtain ⟨t, ht⟩ : ∃ t : Fin cfg2.N, t.val = 3 := ⟨⟨3, Nat.lt_of_lt_of_eq (by omega) N_2.symm⟩, rfl⟩
    have hi := index2_7 t
    refine ⟨t, (flush2_7 t).mpr (by omega), ?_⟩
    show i ∈ ((View.whole main_v2_2).slice (win2_7.rect t)).set
    rw [View.set_slice_whole, Rect.mem_set_unit]
    intro a
    match a with
    | ⟨0, _⟩ =>
      show win2_7.index t 0 * 1 ≤ (i 0).val ∧ (i 0).val < win2_7.index t 0 * 1 + 1
      rw [hi.1]; omega
    | ⟨1, _⟩ =>
      show win2_7.index t 1 * 128 ≤ (i 1).val ∧ (i 1).val < win2_7.index t 1 * 128 + 128
      rw [hi.2]; omega

theorem flushed2_8 {g : ℕ → EReal} (h : ∀ t : Fin cfg2.N, t.val = 3 → ∀ (r : Fin 1) (c : Fin 1024), ((dat2 V d).after 8 t : Vec Ideal S1x1024 .f32) (ix2 r c) = g c)
    (t : Fin cfg2.N) (hf : (cfg2.win 8).flush t = true) :
    (dat2 V d).flushed 8 t = ((cfg2.win 8).blk t).view.read (Elt Ideal) (row g : Vec Ideal S1x1024 .f32) := by
  show (cfg2.win 8).cut (grid2.coords t) ((dat2 V d).after 8 t) = _
  funext j
  obtain ⟨r, c, rfl⟩ : ∃ (r : Fin 1) (c : Fin 1024), j = ix2 r c := ⟨j 0, j 1, eq_ix2 j⟩
  have h3 : t.val = 3 := by
    have ht : t.val < 4 := Nat.lt_of_lt_of_eq t.isLt N_2
    have hm := (flush2_8 t).mp hf
    omega
  exact (h t h3 r c).trans (row_at (by show win2_8.index t 1 * 1024 + 1 * c.val = c.val; rw [(index2_8 t).2]; omega)).symm

theorem final2_8 {g : ℕ → EReal} (h : ∀ t : Fin cfg2.N, t.val = 3 → ∀ (r : Fin 1) (c : Fin 1024), ((dat2 V d).after 8 t : Vec Ideal S1x1024 .f32) (ix2 r c) = g c) :
    ((dat2 V d).arrAt 8 cfg2.N : Vec Ideal S1x1024 .f32) = (row g : Vec Ideal S1x1024 .f32) :=
  (dat2 V d).arrAt_eq_of_cover 8 (row g : Vec Ideal S1x1024 .f32) (flushed2_8 d h) fun i => by
    have h0 : (i 0).val < 1 := (i 0).isLt
    have h1 : (i 1).val < 1024 := (i 1).isLt
    obtain ⟨t, ht⟩ : ∃ t : Fin cfg2.N, t.val = 3 := ⟨⟨3, Nat.lt_of_lt_of_eq (by omega) N_2.symm⟩, rfl⟩
    have hi := index2_8 t
    refine ⟨t, (flush2_8 t).mpr (by omega), ?_⟩
    show i ∈ ((View.whole main_v2_3).slice (win2_8.rect t)).set
    rw [View.set_slice_whole, Rect.mem_set_unit]
    intro a
    match a with
    | ⟨0, _⟩ =>
      show win2_8.index t 0 * 1 ≤ (i 0).val ∧ (i 0).val < win2_8.index t 0 * 1 + 1
      rw [hi.1]; omega
    | ⟨1, _⟩ =>
      show win2_8.index t 1 * 1024 ≤ (i 1).val ∧ (i 1).val < win2_8.index t 1 * 1024 + 1024
      rw [hi.2]; omega

/-! ## Call 3 -/

theorem index3_0 : ∀ t : Fin grid3.N, win3_0.index t 0 = t.val / 4 ∧ win3_0.index t 1 = 0 := by decide +kernel
theorem index3_1 : ∀ t : Fin grid3.N, win3_1.index t 0 = t.val % 4 ∧ win3_1.index t 1 = 0 ∧ win3_1.index t 2 = 0 := by decide +kernel
theorem index3_2 : ∀ t : Fin grid3.N, win3_2.index t 0 = t.val % 4 ∧ win3_2.index t 1 = t.val / 4 ∧ win3_2.index t 2 = 0 := by decide +kernel
theorem index3_3 : ∀ t : Fin grid3.N, win3_3.index t 0 = t.val % 4 ∧ win3_3.index t 1 = t.val / 4 ∧ win3_3.index t 2 = 0 := by decide +kernel
theorem index3_4 : ∀ t : Fin grid3.N, win3_4.index t 0 = t.val % 4 ∧ win3_4.index t 1 = t.val / 4 ∧ win3_4.index t 2 = 0 := by decide +kernel
theorem index3_5 : ∀ t : Fin grid3.N, win3_5.index t 0 = t.val % 4 ∧ win3_5.index t 1 = t.val / 4 ∧ win3_5.index t 2 = 0 := by decide +kernel

theorem in3_0 {f : ℕ → ℕ → EReal} (h : (V d main_v2_1 : Vec Ideal S2048x1024 .bf16) = mat f) (t : Fin cfg3.N) (r : Fin 1024) (c : Fin 1024) :
    iblk3 V d 0 t (ix2 r c) = f (1024 * (t.val / 4) + r) c := (congrFun h _).trans (mat_at
    (by show win3_0.index t 0 * 1024 + 1 * r.val = 1024 * (t.val / 4) + r.val; rw [(index3_0 t).1]; omega)
    (by show win3_0.index t 1 * 1024 + 1 * c.val = c.val; rw [(index3_0 t).2]; omega))

theorem in3_1 {f : ℕ → ℕ → EReal} (h : (V d main_arg6 : Vec Ideal S4x704x1024 .f32) = slab f) (t : Fin cfg3.N) (a : Fin 1) (r : Fin 704) (c : Fin 1024) :
    iblk3 V d 1 t (ix3 a r c) = f (704 * (t.val % 4) + r) c := (congrFun h _).trans (slab_at
    (by show win3_1.index t 0 * 1 + 1 * a.val = t.val % 4; rw [(index3_1 t).1]; omega)
    (by show win3_1.index t 1 * 704 + 1 * r.val = r.val; rw [(index3_1 t).2.1]; omega)
    (by show win3_1.index t 2 * 1024 + 1 * c.val = c.val; rw [(index3_1 t).2.2]; omega))

theorem in3_2 {f : ℕ → ℕ → EReal} (h : (V d main_v1_0 : Vec Ideal S4x2048x704 .bf16) = hid f) (t : Fin cfg3.N) (a : Fin 1) (r : Fin 1024) (c : Fin 704) :
    iblk3 V d 2 t (ix3 a r c) = f (1024 * (t.val / 4) + r) (704 * (t.val % 4) + c) := (congrFun h _).trans (hid_at
    (by show win3_2.index t 0 * 1 + 1 * a.val = t.val % 4; rw [(index3_2 t).1]; omega)
    (by show win3_2.index t 1 * 1024 + 1 * r.val = 1024 * (t.val / 4) + r.val; rw [(index3_2 t).2.1]; omega)
    (by show win3_2.index t 2 * 704 + 1 * c.val = c.val; rw [(index3_2 t).2.2]; omega))

theorem in3_3 {f : ℕ → ℕ → EReal} (h : (V d main_v1_1 : Vec Ideal S4x2048x704 .bf16) = hid f) (t : Fin cfg3.N) (a : Fin 1) (r : Fin 1024) (c : Fin 704) :
    iblk3 V d 3 t (ix3 a r c) = f (1024 * (t.val / 4) + r) (704 * (t.val % 4) + c) := (congrFun h _).trans (hid_at
    (by show win3_3.index t 0 * 1 + 1 * a.val = t.val % 4; rw [(index3_3 t).1]; omega)
    (by show win3_3.index t 1 * 1024 + 1 * r.val = 1024 * (t.val / 4) + r.val; rw [(index3_3 t).2.1]; omega)
    (by show win3_3.index t 2 * 704 + 1 * c.val = c.val; rw [(index3_3 t).2.2]; omega))

theorem final3_4 {g : ℕ → ℕ → EReal} (h : ∀ t : Fin cfg3.N, ∀ (a : Fin 1) (r : Fin 1024) (c : Fin 704), ((dat3 V d).after 4 t : Vec Ideal S1x1024x704 .bf16) (ix3 a r c) = g (1024 * (t.val / 4) + r) (704 * (t.val % 4) + c)) :
    ((dat3 V d).arrAt 4 cfg3.N : Vec Ideal S4x2048x704 .bf16) = (hid g : Vec Ideal S4x2048x704 .bf16) :=
  (dat3 V d).arrAt_eq_of_cover 4 (hid g : Vec Ideal S4x2048x704 .bf16) (fun t _ => by
    show (cfg3.win 4).cut (grid3.coords t) ((dat3 V d).after 4 t) = _
    funext j
    obtain ⟨a, r, c, rfl⟩ : ∃ (a : Fin 1) (r : Fin 1024) (c : Fin 704), j = ix3 a r c := ⟨j 0, j 1, j 2, eq_ix3 j⟩
    exact (h t a r c).trans (hid_at
      (by show win3_4.index t 0 * 1 + 1 * a.val = t.val % 4; rw [(index3_4 t).1]; omega)
      (by show win3_4.index t 1 * 1024 + 1 * r.val = 1024 * (t.val / 4) + r.val; rw [(index3_4 t).2.1]; omega)
      (by show win3_4.index t 2 * 704 + 1 * c.val = c.val; rw [(index3_4 t).2.2]; omega)).symm) fun i => by
    have h0 : (i 0).val < 4 := (i 0).isLt
    have h1 : (i 1).val < 2048 := (i 1).isLt
    have h2 : (i 2).val < 704 := (i 2).isLt
    obtain ⟨t, ht⟩ : ∃ t : Fin cfg3.N, t.val = 4 * ((i 1).val / 1024) + (i 0).val := ⟨⟨4 * ((i 1).val / 1024) + (i 0).val, Nat.lt_of_lt_of_eq (by omega) N_3.symm⟩, rfl⟩
    have hi := index3_4 t
    refine ⟨t, flush3_4 t, ?_⟩
    show i ∈ ((View.whole main_v3_0).slice (win3_4.rect t)).set
    rw [View.set_slice_whole, Rect.mem_set_unit]
    intro a
    match a with
    | ⟨0, _⟩ =>
      show win3_4.index t 0 * 1 ≤ (i 0).val ∧ (i 0).val < win3_4.index t 0 * 1 + 1
      rw [hi.1]; omega
    | ⟨1, _⟩ =>
      show win3_4.index t 1 * 1024 ≤ (i 1).val ∧ (i 1).val < win3_4.index t 1 * 1024 + 1024
      rw [hi.2.1]; omega
    | ⟨2, _⟩ =>
      show win3_4.index t 2 * 704 ≤ (i 2).val ∧ (i 2).val < win3_4.index t 2 * 704 + 704
      rw [hi.2.2]; omega

theorem final3_5 {g : ℕ → ℕ → EReal} (h : ∀ t : Fin cfg3.N, ∀ (a : Fin 1) (r : Fin 1024) (c : Fin 704), ((dat3 V d).after 5 t : Vec Ideal S1x1024x704 .bf16) (ix3 a r c) = g (1024 * (t.val / 4) + r) (704 * (t.val % 4) + c)) :
    ((dat3 V d).arrAt 5 cfg3.N : Vec Ideal S4x2048x704 .bf16) = (hid g : Vec Ideal S4x2048x704 .bf16) :=
  (dat3 V d).arrAt_eq_of_cover 5 (hid g : Vec Ideal S4x2048x704 .bf16) (fun t _ => by
    show (cfg3.win 5).cut (grid3.coords t) ((dat3 V d).after 5 t) = _
    funext j
    obtain ⟨a, r, c, rfl⟩ : ∃ (a : Fin 1) (r : Fin 1024) (c : Fin 704), j = ix3 a r c := ⟨j 0, j 1, j 2, eq_ix3 j⟩
    exact (h t a r c).trans (hid_at
      (by show win3_5.index t 0 * 1 + 1 * a.val = t.val % 4; rw [(index3_5 t).1]; omega)
      (by show win3_5.index t 1 * 1024 + 1 * r.val = 1024 * (t.val / 4) + r.val; rw [(index3_5 t).2.1]; omega)
      (by show win3_5.index t 2 * 704 + 1 * c.val = c.val; rw [(index3_5 t).2.2]; omega)).symm) fun i => by
    have h0 : (i 0).val < 4 := (i 0).isLt
    have h1 : (i 1).val < 2048 := (i 1).isLt
    have h2 : (i 2).val < 704 := (i 2).isLt
    obtain ⟨t, ht⟩ : ∃ t : Fin cfg3.N, t.val = 4 * ((i 1).val / 1024) + (i 0).val := ⟨⟨4 * ((i 1).val / 1024) + (i 0).val, Nat.lt_of_lt_of_eq (by omega) N_3.symm⟩, rfl⟩
    have hi := index3_5 t
    refine ⟨t, flush3_5 t, ?_⟩
    show i ∈ ((View.whole main_v3_1).slice (win3_5.rect t)).set
    rw [View.set_slice_whole, Rect.mem_set_unit]
    intro a
    match a with
    | ⟨0, _⟩ =>
      show win3_5.index t 0 * 1 ≤ (i 0).val ∧ (i 0).val < win3_5.index t 0 * 1 + 1
      rw [hi.1]; omega
    | ⟨1, _⟩ =>
      show win3_5.index t 1 * 1024 ≤ (i 1).val ∧ (i 1).val < win3_5.index t 1 * 1024 + 1024
      rw [hi.2.1]; omega
    | ⟨2, _⟩ =>
      show win3_5.index t 2 * 704 ≤ (i 2).val ∧ (i 2).val < win3_5.index t 2 * 704 + 704
      rw [hi.2.2]; omega

end Cert.Proof.Ffn

end
-- ==== Proof.Ffn.GridC.lean ====
module

public import proofs.«01_k».proof.Proof.Ffn.Shapes
public import proofs.«01_k».proof.Proof.Gen.Kernel2Ideal.Frame.Region4
public import proofs.«01_k».proof.Proof.Gen.Kernel2Ideal.Frame.Region5
public import proofs.«01_k».proof.Proof.Gen.Kernel2Ideal.Frame.Region6

/-!
# Blocks and arrays: the fifth to the seventh call

Where every window's block lies, what it reads of an array that is known, and which array the written blocks make up together.
-/

@[expose] public section

set_option maxRecDepth 16384

noncomputable section

namespace Cert.Proof.Ffn

open Cert.Kernel2Ideal Cert.Kernel2Ideal.Gen Idealize.ShloMosaic Idealize.ShloMosaic.TcCoe

variable {V : (c : Dev nD) → (b : Ref sig .tc) → Buf (Elt Ideal) ((c : Thread nD τ).loc b)} (d : Dev nD)

/-! ## Call 4 -/

theorem index4_0 : ∀ t : Fin grid4.N, win4_0.index t 0 = t.val ∧ win4_0.index t 1 = 0 ∧ win4_0.index t 2 = 0 := by decide +kernel
theorem index4_1 : ∀ t : Fin grid4.N, win4_1.index t 0 = 0 ∧ win4_1.index t 1 = 0 := by decide +kernel
theorem index4_2 : ∀ t : Fin grid4.N, win4_2.index t 0 = t.val ∧ win4_2.index t 1 = 0 ∧ win4_2.index t 2 = 0 := by decide +kernel

theorem in4_0 {f : ℕ → ℕ → EReal} (h : (V d main_v1_2 : Vec Ideal S4x2048x704 .bf16) = hid f) (t : Fin cfg4.N) (a : Fin 1) (r : Fin 2048) (c : Fin 704) :
    iblk4 V d 0 t (ix3 a r c) = f (r) (704 * (t.val) + c) := (congrFun h _).trans (hid_at
    (by show win4_0.index t 0 * 1 + 1 * a.val = t.val; rw [(index4_0 t).1]; omega)
    (by show win4_0.index t 1 * 2048 + 1 * r.val = r.val; rw [(index4_0 t).2.1]; omega)
    (by show win4_0.index t 2 * 704 + 1 * c.val = c.val; rw [(index4_0 t).2.2]; omega))

theorem in4_1 {f : ℕ → ℕ → EReal} (h : (V d main_v2_1 : Vec Ideal S2048x1024 .bf16) = mat f) (t : Fin cfg4.N) (r : Fin 2048) (c : Fin 1024) :
    iblk4 V d 1 t (ix2 r c) = f (r) c := (congrFun h _).trans (mat_at
    (by show win4_1.index t 0 * 2048 + 1 * r.val = r.val; rw [(index4_1 t).1]; omega)
    (by show win4_1.index t 1 * 1024 + 1 * c.val = c.val; rw [(index4_1 t).2]; omega))

theorem final4_2 {g : ℕ → ℕ → EReal} (h : ∀ t : Fin cfg4.N, ∀ (a : Fin 1) (r : Fin 704) (c : Fin 1024), ((dat4 V d).after 2 t : Vec Ideal S1x704x1024 .bf16) (ix3 a r c) = g (704 * (t.val) + r) c) :
    ((dat4 V d).arrAt 2 cfg4.N : Vec Ideal S4x704x1024 .bf16) = (slab g : Vec Ideal S4x704x1024 .bf16) :=
  (dat4 V d).arrAt_eq_of_cover 2 (slab g : Vec Ideal S4x704x1024 .bf16) (fun t _ => by
    show (cfg4.win 2).cut (grid4.coords t) ((dat4 V d).after 2 t) = _
    funext j
    obtain ⟨a, r, c, rfl⟩ : ∃ (a : Fin 1) (r : Fin 704) (c : Fin 1024), j = ix3 a r c := ⟨j 0, j 1, j 2, eq_ix3 j⟩
    exact (h t a r c).trans (slab_at
      (by show win4_2.index t 0 * 1 + 1 * a.val = t.val; rw [(index4_2 t).1]; omega)
      (by show win4_2.index t 1 * 704 + 1 * r.val = r.val; rw [(index4_2 t).2.1]; omega)
      (by show win4_2.index t 2 * 1024 + 1 * c.val = c.val; rw [(index4_2 t).2.2]; omega)).symm) fun i => by
    have h0 : (i 0).val < 4 := (i 0).isLt
    have h1 : (i 1).val < 704 := (i 1).isLt
    have h2 : (i 2).val < 1024 := (i 2).isLt
    obtain ⟨t, ht⟩ : ∃ t : Fin cfg4.N, t.val = (i 0).val := ⟨⟨(i 0).val, Nat.lt_of_lt_of_eq (by omega) N_4.symm⟩, rfl⟩
    have hi := index4_2 t
    refine ⟨t, flush4_2 t, ?_⟩
    show i ∈ ((View.whole main_v4).slice (win4_2.rect t)).set
    rw [View.set_slice_whole, Rect.mem_set_unit]
    intro a
    match a with
    | ⟨0, _⟩ =>
      show win4_2.index t 0 * 1 ≤ (i 0).val ∧ (i 0).val < win4_2.index t 0 * 1 + 1
      rw [hi.1]; omega
    | ⟨1, _⟩ =>
      show win4_2.index t 1 * 704 ≤ (i 1).val ∧ (i 1).val < win4_2.index t 1 * 704 + 704
      rw [hi.2.1]; omega
    | ⟨2, _⟩ =>
      show win4_2.index t 2 * 1024 ≤ (i 2).val ∧ (i 2).val < win4_2.index t 2 * 1024 + 1024
      rw [hi.2.2]; omega

/-! ## Call 5 -/

theorem index5_0 : ∀ t : Fin grid5.N, win5_0.index t 0 = 0 ∧ win5_0.index t 1 = t.val ∧ win5_0.index t 2 = 0 := by decide +kernel
theorem index5_1 : ∀ t : Fin grid5.N, win5_1.index t 0 = 0 ∧ win5_1.index t 1 = 0 ∧ win5_1.index t 2 = 0 := by decide +kernel
theorem index5_2 : ∀ t : Fin grid5.N, win5_2.index t 0 = t.val ∧ win5_2.index t 1 = 0 := by decide +kernel

theorem in5_0 {f : ℕ → ℕ → EReal} (h : (V d main_v3_0 : Vec Ideal S4x2048x704 .bf16) = hid f) (t : Fin cfg5.N) (a : Fin 4) (r : Fin 512) (c : Fin 704) :
    iblk5 V d 0 t (ix3 a r c) = f (512 * t.val + r) (704 * a + c) := (congrFun h _).trans (hid_at
    (by show win5_0.index t 0 * 4 + 1 * a.val = a.val; rw [(index5_0 t).1]; omega)
    (by show win5_0.index t 1 * 512 + 1 * r.val = 512 * t.val + r.val; rw [(index5_0 t).2.1]; omega)
    (by show win5_0.index t 2 * 704 + 1 * c.val = c.val; rw [(index5_0 t).2.2]; omega))

theorem in5_1 {f : ℕ → ℕ → EReal} (h : (V d main_arg4 : Vec Ideal S4x704x1024 .f32) = slab f) (t : Fin cfg5.N) (a : Fin 4) (r : Fin 704) (c : Fin 1024) :
    iblk5 V d 1 t (ix3 a r c) = f (704 * a + r) c := (congrFun h _).trans (slab_at
    (by show win5_1.index t 0 * 4 + 1 * a.val = a.val; rw [(index5_1 t).1]; omega)
    (by show win5_1.index t 1 * 704 + 1 * r.val = r.val; rw [(index5_1 t).2.1]; omega)
    (by show win5_1.index t 2 * 1024 + 1 * c.val = c.val; rw [(index5_1 t).2.2]; omega))

theorem final5_2 {g : ℕ → ℕ → EReal} (h : ∀ t : Fin cfg5.N, ∀ (r : Fin 512) (c : Fin 1024), ((dat5 V d).after 2 t : Vec Ideal S512x1024 .f32) (ix2 r c) = g (512 * t.val + r) c) :
    ((dat5 V d).arrAt 2 cfg5.N : Vec Ideal S2048x1024 .f32) = (mat g : Vec Ideal S2048x1024 .f32) :=
  (dat5 V d).arrAt_eq_of_cover 2 (mat g : Vec Ideal S2048x1024 .f32) (fun t _ => by
    show (cfg5.win 2).cut (grid5.coords t) ((dat5 V d).after 2 t) = _
    funext j
    obtain ⟨r, c, rfl⟩ : ∃ (r : Fin 512) (c : Fin 1024), j = ix2 r c := ⟨j 0, j 1, eq_ix2 j⟩
    exact (h t r c).trans (mat_at
      (by show win5_2.index t 0 * 512 + 1 * r.val = 512 * t.val + r.val; rw [(index5_2 t).1]; omega)
      (by show win5_2.index t 1 * 1024 + 1 * c.val = c.val; rw [(index5_2 t).2]; omega)).symm) fun i => by
    have h0 : (i 0).val < 2048 := (i 0).isLt
    have h1 : (i 1).val < 1024 := (i 1).isLt
    obtain ⟨t, ht⟩ : ∃ t : Fin cfg5.N, t.val = (i 0).val / 512 := ⟨⟨(i 0).val / 512, Nat.lt_of_lt_of_eq (by omega) N_5.symm⟩, rfl⟩
    have hi := index5_2 t
    refine ⟨t, flush5_2 t, ?_⟩
    show i ∈ ((View.whole main_v5).slice (win5_2.rect t)).set
    rw [View.set_slice_whole, Rect.mem_set_unit]
    intro a
    match a with
    | ⟨0, _⟩ =>
      show win5_2.index t 0 * 512 ≤ (i 0).val ∧ (i 0).val < win5_2.index t 0 * 512 + 512
      rw [hi.1]; omega
    | ⟨1, _⟩ =>
      show win5_2.index t 1 * 1024 ≤ (i 1).val ∧ (i 1).val < win5_2.index t 1 * 1024 + 1024
      rw [hi.2]; omega

/-! ## Call 6 -/

theorem index6_0 : ∀ t : Fin grid6.N, win6_0.index t 0 = 0 ∧ win6_0.index t 1 = t.val ∧ win6_0.index t 2 = 0 := by decide +kernel
theorem index6_1 : ∀ t : Fin grid6.N, win6_1.index t 0 = 0 ∧ win6_1.index t 1 = 0 ∧ win6_1.index t 2 = 0 := by decide +kernel
theorem index6_2 : ∀ t : Fin grid6.N, win6_2.index t 0 = t.val ∧ win6_2.index t 1 = 0 := by decide +kernel
theorem index6_3 : ∀ t : Fin grid6.N, win6_3.index t 0 = t.val ∧ win6_3.index t 1 = 0 := by decide +kernel
theorem index6_4 : ∀ t : Fin grid6.N, win6_4.index t 0 = t.val ∧ win6_4.index t 1 = 0 := by decide +kernel
theorem index6_5 : ∀ t : Fin grid6.N, win6_5.index t 0 = 0 ∧ win6_5.index t 1 = 0 := by decide +kernel
theorem index6_6 : ∀ t : Fin grid6.N, win6_6.index t 0 = t.val ∧ win6_6.index t 1 = 0 := by decide +kernel
theorem index6_7 : ∀ t : Fin grid6.N, win6_7.index t 0 = t.val ∧ win6_7.index t 1 = 0 := by decide +kernel
theorem index6_8 : ∀ t : Fin grid6.N, win6_8.index t 0 = 0 ∧ win6_8.index t 1 = 0 := by decide +kernel

theorem in6_0 {f : ℕ → ℕ → EReal} (h : (V d main_v3_1 : Vec Ideal S4x2048x704 .bf16) = hid f) (t : Fin cfg6.N) (a : Fin 4) (r : Fin 512) (c : Fin 704) :
    iblk6 V d 0 t (ix3 a r c) = f (512 * t.val + r) (704 * a + c) := (congrFun h _).trans (hid_at
    (by show win6_0.index t 0 * 4 + 1 * a.val = a.val; rw [(index6_0 t).1]; omega)
    (by show win6_0.index t 1 * 512 + 1 * r.val = 512 * t.val + r.val; rw [(index6_0 t).2.1]; omega)
    (by show win6_0.index t 2 * 704 + 1 * c.val = c.val; rw [(index6_0 t).2.2]; omega))

theorem in6_1 {f : ℕ → ℕ → EReal} (h : (V d main_arg5 : Vec Ideal S4x704x1024 .f32) = slab f) (t : Fin cfg6.N) (a : Fin 4) (r : Fin 704) (c : Fin 1024) :
    iblk6 V d 1 t (ix3 a r c) = f (704 * a + r) c := (congrFun h _).trans (slab_at
    (by show win6_1.index t 0 * 4 + 1 * a.val = a.val; rw [(index6_1 t).1]; omega)
    (by show win6_1.index t 1 * 704 + 1 * r.val = r.val; rw [(index6_1 t).2.1]; omega)
    (by show win6_1.index t 2 * 1024 + 1 * c.val = c.val; rw [(index6_1 t).2.2]; omega))

theorem in6_2 {f : ℕ → ℕ → EReal} (h : (V d main_v5 : Vec Ideal S2048x1024 .f32) = mat f) (t : Fin cfg6.N) (r : Fin 512) (c : Fin 1024) :
    iblk6 V d 2 t (ix2 r c) = f (512 * t.val + r) c := (congrFun h _).trans (mat_at
    (by show win6_2.index t 0 * 512 + 1 * r.val = 512 * t.val + r.val; rw [(index6_2 t).1]; omega)
    (by show win6_2.index t 1 * 1024 + 1 * c.val = c.val; rw [(index6_2 t).2]; omega))

theorem in6_3 {f : ℕ → ℕ → EReal} (h : (V d main_v0_0 : Vec Ideal S2048x1024 .f32) = mat f) (t : Fin cfg6.N) (r : Fin 512) (c : Fin 1024) :
    iblk6 V d 3 t (ix2 r c) = f (512 * t.val + r) c := (congrFun h _).trans (mat_at
    (by show win6_3.index t 0 * 512 + 1 * r.val = 512 * t.val + r.val; rw [(index6_3 t).1]; omega)
    (by show win6_3.index t 1 * 1024 + 1 * c.val = c.val; rw [(index6_3 t).2]; omega))

theorem in6_4 {f : ℕ → ℕ → EReal} (h : (V d main_v2_0 : Vec Ideal S2048x1024 .f32) = mat f) (t : Fin cfg6.N) (r : Fin 512) (c : Fin 1024) :
    iblk6 V d 4 t (ix2 r c) = f (512 * t.val + r) c := (congrFun h _).trans (mat_at
    (by show win6_4.index t 0 * 512 + 1 * r.val = 512 * t.val + r.val; rw [(index6_4 t).1]; omega)
    (by show win6_4.index t 1 * 1024 + 1 * c.val = c.val; rw [(index6_4 t).2]; omega))

theorem in6_5 {f : ℕ → EReal} (h : (V d main_arg3 : Vec Ideal S1x1024 .f32) = row f) (t : Fin cfg6.N) (r : Fin 1) (c : Fin 1024) :
    iblk6 V d 5 t (ix2 r c) = f c := (congrFun h _).trans (row_at
    (by show win6_5.index t 1 * 1024 + 1 * c.val = c.val; rw [(index6_5 t).2]; omega))

theorem final6_6 {g : ℕ → ℕ → EReal} (h : ∀ t : Fin cfg6.N, ∀ (r : Fin 512) (c : Fin 1024), ((dat6 V d).after 6 t : Vec Ideal S512x1024 .f32) (ix2 r c) = g (512 * t.val + r) c) :
    ((dat6 V d).arrAt 6 cfg6.N : Vec Ideal S2048x1024 .f32) = (mat g : Vec Ideal S2048x1024 .f32) :=
  (dat6 V d).arrAt_eq_of_cover 6 (mat g : Vec Ideal S2048x1024 .f32) (fun t _ => by
    show (cfg6.win 6).cut (grid6.coords t) ((dat6 V d).after 6 t) = _
    funext j
    obtain ⟨r, c, rfl⟩ : ∃ (r : Fin 512) (c : Fin 1024), j = ix2 r c := ⟨j 0, j 1, eq_ix2 j⟩
    exact (h t r c).trans (mat_at
      (by show win6_6.index t 0 * 512 + 1 * r.val = 512 * t.val + r.val; rw [(index6_6 t).1]; omega)
      (by show win6_6.index t 1 * 1024 + 1 * c.val = c.val; rw [(index6_6 t).2]; omega)).symm) fun i => by
    have h0 : (i 0).val < 2048 := (i 0).isLt
    have h1 : (i 1).val < 1024 := (i 1).isLt
    obtain ⟨t, ht⟩ : ∃ t : Fin cfg6.N, t.val = (i 0).val / 512 := ⟨⟨(i 0).val / 512, Nat.lt_of_lt_of_eq (by omega) N_6.symm⟩, rfl⟩
    have hi := index6_6 t
    refine ⟨t, flush6_6 t, ?_⟩
    show i ∈ ((View.whole main_v6_0).slice (win6_6.rect t)).set
    rw [View.set_slice_whole, Rect.mem_set_unit]
    intro a
    match a with
    | ⟨0, _⟩ =>
      show win6_6.index t 0 * 512 ≤ (i 0).val ∧ (i 0).val < win6_6.index t 0 * 512 + 512
      rw [hi.1]; omega
    | ⟨1, _⟩ =>
      show win6_6.index t 1 * 1024 ≤ (i 1).val ∧ (i 1).val < win6_6.index t 1 * 1024 + 1024
      rw [hi.2]; omega

theorem final6_7 {g : ℕ → ℕ → EReal} (h : ∀ t : Fin cfg6.N, ∀ (r : Fin 512) (c : Fin 1024), ((dat6 V d).after 7 t : Vec Ideal S512x1024 .bf16) (ix2 r c) = g (512 * t.val + r) c) :
    ((dat6 V d).arrAt 7 cfg6.N : Vec Ideal S2048x1024 .bf16) = (mat g : Vec Ideal S2048x1024 .bf16) :=
  (dat6 V d).arrAt_eq_of_cover 7 (mat g : Vec Ideal S2048x1024 .bf16) (fun t _ => by
    show (cfg6.win 7).cut (grid6.coords t) ((dat6 V d).after 7 t) = _
    funext j
    obtain ⟨r, c, rfl⟩ : ∃ (r : Fin 512) (c : Fin 1024), j = ix2 r c := ⟨j 0, j 1, eq_ix2 j⟩
    exact (h t r c).trans (mat_at
      (by show win6_7.index t 0 * 512 + 1 * r.val = 512 * t.val + r.val; rw [(index6_7 t).1]; omega)
      (by show win6_7.index t 1 * 1024 + 1 * c.val = c.val; rw [(index6_7 t).2]; omega)).symm) fun i => by
    have h0 : (i 0).val < 2048 := (i 0).isLt
    have h1 : (i 1).val < 1024 := (i 1).isLt
    obtain ⟨t, ht⟩ : ∃ t : Fin cfg6.N, t.val = (i 0).val / 512 := ⟨⟨(i 0).val / 512, Nat.lt_of_lt_of_eq (by omega) N_6.symm⟩, rfl⟩
    have hi := index6_7 t
    refine ⟨t, flush6_7 t, ?_⟩
    show i ∈ ((View.whole main_v6_1).slice (win6_7.rect t)).set
    rw [View.set_slice_whole, Rect.mem_set_unit]
    intro a
    match a with
    | ⟨0, _⟩ =>
      show win6_7.index t 0 * 512 ≤ (i 0).val ∧ (i 0).val < win6_7.index t 0 * 512 + 512
      rw [hi.1]; omega
    | ⟨1, _⟩ =>
      show win6_7.index t 1 * 1024 ≤ (i 1).val ∧ (i 1).val < win6_7.index t 1 * 1024 + 1024
      rw [hi.2]; omega

theorem flushed6_8 {g : ℕ → EReal} (h : ∀ t : Fin cfg6.N, t.val = 3 → ∀ (r : Fin 1) (c : Fin 1024), ((dat6 V d).after 8 t : Vec Ideal S1x1024 .f32) (ix2 r c) = g c)
    (t : Fin cfg6.N) (hf : (cfg6.win 8).flush t = true) :
    (dat6 V d).flushed 8 t = ((cfg6.win 8).blk t).view.read (Elt Ideal) (row g : Vec Ideal S1x1024 .f32) := by
  show (cfg6.win 8).cut (grid6.coords t) ((dat6 V d).after 8 t) = _
  funext j
  obtain ⟨r, c, rfl⟩ : ∃ (r : Fin 1) (c : Fin 1024), j = ix2 r c := ⟨j 0, j 1, eq_ix2 j⟩
  have h3 : t.val = 3 := by
    have ht : t.val < 4 := Nat.lt_of_lt_of_eq t.isLt N_6
    have hm := (flush6_8 t).mp hf
    omega
  exact (h t h3 r c).trans (row_at (by show win6_8.index t 1 * 1024 + 1 * c.val = c.val; rw [(index6_8 t).2]; omega)).symm

theorem final6_8 {g : ℕ → EReal} (h : ∀ t : Fin cfg6.N, t.val = 3 → ∀ (r : Fin 1) (c : Fin 1024), ((dat6 V d).after 8 t : Vec Ideal S1x1024 .f32) (ix2 r c) = g c) :
    ((dat6 V d).arrAt 8 cfg6.N : Vec Ideal S1x1024 .f32) = (row g : Vec Ideal S1x1024 .f32) :=
  (dat6 V d).arrAt_eq_of_cover 8 (row g : Vec Ideal S1x1024 .f32) (flushed6_8 d h) fun i => by
    have h0 : (i 0).val < 1 := (i 0).isLt
    have h1 : (i 1).val < 1024 := (i 1).isLt
    obtain ⟨t, ht⟩ : ∃ t : Fin cfg6.N, t.val = 3 := ⟨⟨3, Nat.lt_of_lt_of_eq (by omega) N_6.symm⟩, rfl⟩
    have hi := index6_8 t
    refine ⟨t, (flush6_8 t).mpr (by omega), ?_⟩
    show i ∈ ((View.whole main_v6_2).slice (win6_8.rect t)).set
    rw [View.set_slice_whole, Rect.mem_set_unit]
    intro a
    match a with
    | ⟨0, _⟩ =>
      show win6_8.index t 0 * 1 ≤ (i 0).val ∧ (i 0).val < win6_8.index t 0 * 1 + 1
      rw [hi.1]; omega
    | ⟨1, _⟩ =>
      show win6_8.index t 1 * 1024 ≤ (i 1).val ∧ (i 1).val < win6_8.index t 1 * 1024 + 1024
      rw [hi.2]; omega

end Cert.Proof.Ffn

end
-- ==== Proof.Ffn.GridD.lean ====
module

public import proofs.«01_k».proof.Proof.Ffn.Shapes
public import proofs.«01_k».proof.Proof.Gen.Kernel2Ideal.Frame.Region7
public import proofs.«01_k».proof.Proof.Gen.Kernel2Ideal.Frame.Region8
public import proofs.«01_k».proof.Proof.Gen.Kernel2Ideal.Frame.Region9

/-!
# Blocks and arrays: the last three calls

Where every window's block lies, what it reads of an array that is known, and which array the written blocks make up together.
-/

@[expose] public section

set_option maxRecDepth 16384

noncomputable section

namespace Cert.Proof.Ffn

open Cert.Kernel2Ideal Cert.Kernel2Ideal.Gen Idealize.ShloMosaic Idealize.ShloMosaic.TcCoe

variable {V : (c : Dev nD) → (b : Ref sig .tc) → Buf (Elt Ideal) ((c : Thread nD τ).loc b)} (d : Dev nD)

/-! ## Call 7 -/

theorem index7_0 : ∀ t : Fin grid7.N, win7_0.index t 0 = t.val ∧ win7_0.index t 1 = 0 ∧ win7_0.index t 2 = 0 := by decide +kernel
theorem index7_1 : ∀ t : Fin grid7.N, win7_1.index t 0 = 0 ∧ win7_1.index t 1 = 0 := by decide +kernel
theorem index7_2 : ∀ t : Fin grid7.N, win7_2.index t 0 = t.val ∧ win7_2.index t 1 = 0 ∧ win7_2.index t 2 = 0 := by decide +kernel
theorem index7_3 : ∀ t : Fin grid7.N, win7_3.index t 0 = 0 ∧ win7_3.index t 1 = 0 := by decide +kernel
theorem index7_4 : ∀ t : Fin grid7.N, win7_4.index t 0 = t.val ∧ win7_4.index t 1 = 0 ∧ win7_4.index t 2 = 0 := by decide +kernel
theorem index7_5 : ∀ t : Fin grid7.N, win7_5.index t 0 = t.val ∧ win7_5.index t 1 = 0 ∧ win7_5.index t 2 = 0 := by decide +kernel

theorem in7_0 {f : ℕ → ℕ → EReal} (h : (V d main_v3_0 : Vec Ideal S4x2048x704 .bf16) = hid f) (t : Fin cfg7.N) (a : Fin 1) (r : Fin 2048) (c : Fin 704) :
    iblk7 V d 0 t (ix3 a r c) = f (r) (704 * (t.val) + c) := (congrFun h _).trans (hid_at
    (by show win7_0.index t 0 * 1 + 1 * a.val = t.val; rw [(index7_0 t).1]; omega)
    (by show win7_0.index t 1 * 2048 + 1 * r.val = r.val; rw [(index7_0 t).2.1]; omega)
    (by show win7_0.index t 2 * 704 + 1 * c.val = c.val; rw [(index7_0 t).2.2]; omega))

theorem in7_1 {f : ℕ → ℕ → EReal} (h : (V d main_v0_1 : Vec Ideal S2048x1024 .bf16) = mat f) (t : Fin cfg7.N) (r : Fin 2048) (c : Fin 1024) :
    iblk7 V d 1 t (ix2 r c) = f (r) c := (congrFun h _).trans (mat_at
    (by show win7_1.index t 0 * 2048 + 1 * r.val = r.val; rw [(index7_1 t).1]; omega)
    (by show win7_1.index t 1 * 1024 + 1 * c.val = c.val; rw [(index7_1 t).2]; omega))

theorem in7_2 {f : ℕ → ℕ → EReal} (h : (V d main_v3_1 : Vec Ideal S4x2048x704 .bf16) = hid f) (t : Fin cfg7.N) (a : Fin 1) (r : Fin 2048) (c : Fin 704) :
    iblk7 V d 2 t (ix3 a r c) = f (r) (704 * (t.val) + c) := (congrFun h _).trans (hid_at
    (by show win7_2.index t 0 * 1 + 1 * a.val = t.val; rw [(index7_2 t).1]; omega)
    (by show win7_2.index t 1 * 2048 + 1 * r.val = r.val; rw [(index7_2 t).2.1]; omega)
    (by show win7_2.index t 2 * 704 + 1 * c.val = c.val; rw [(index7_2 t).2.2]; omega))

theorem in7_3 {f : ℕ → ℕ → EReal} (h : (V d main_v0_1 : Vec Ideal S2048x1024 .bf16) = mat f) (t : Fin cfg7.N) (r : Fin 2048) (c : Fin 1024) :
    iblk7 V d 3 t (ix2 r c) = f (r) c := (congrFun h _).trans (mat_at
    (by show win7_3.index t 0 * 2048 + 1 * r.val = r.val; rw [(index7_3 t).1]; omega)
    (by show win7_3.index t 1 * 1024 + 1 * c.val = c.val; rw [(index7_3 t).2]; omega))

theorem final7_4 {g : ℕ → ℕ → EReal} (h : ∀ t : Fin cfg7.N, ∀ (a : Fin 1) (r : Fin 704) (c : Fin 1024), ((dat7 V d).after 4 t : Vec Ideal S1x704x1024 .bf16) (ix3 a r c) = g (704 * (t.val) + r) c) :
    ((dat7 V d).arrAt 4 cfg7.N : Vec Ideal S4x704x1024 .bf16) = (slab g : Vec Ideal S4x704x1024 .bf16) :=
  (dat7 V d).arrAt_eq_of_cover 4 (slab g : Vec Ideal S4x704x1024 .bf16) (fun t _ => by
    show (cfg7.win 4).cut (grid7.coords t) ((dat7 V d).after 4 t) = _
    funext j
    obtain ⟨a, r, c, rfl⟩ : ∃ (a : Fin 1) (r : Fin 704) (c : Fin 1024), j = ix3 a r c := ⟨j 0, j 1, j 2, eq_ix3 j⟩
    exact (h t a r c).trans (slab_at
      (by show win7_4.index t 0 * 1 + 1 * a.val = t.val; rw [(index7_4 t).1]; omega)
      (by show win7_4.index t 1 * 704 + 1 * r.val = r.val; rw [(index7_4 t).2.1]; omega)
      (by show win7_4.index t 2 * 1024 + 1 * c.val = c.val; rw [(index7_4 t).2.2]; omega)).symm) fun i => by
    have h0 : (i 0).val < 4 := (i 0).isLt
    have h1 : (i 1).val < 704 := (i 1).isLt
    have h2 : (i 2).val < 1024 := (i 2).isLt
    obtain ⟨t, ht⟩ : ∃ t : Fin cfg7.N, t.val = (i 0).val := ⟨⟨(i 0).val, Nat.lt_of_lt_of_eq (by omega) N_7.symm⟩, rfl⟩
    have hi := index7_4 t
    refine ⟨t, flush7_4 t, ?_⟩
    show i ∈ ((View.whole main_v7_0).slice (win7_4.rect t)).set
    rw [View.set_slice_whole, Rect.mem_set_unit]
    intro a
    match a with
    | ⟨0, _⟩ =>
      show win7_4.index t 0 * 1 ≤ (i 0).val ∧ (i 0).val < win7_4.index t 0 * 1 + 1
      rw [hi.1]; omega
    | ⟨1, _⟩ =>
      show win7_4.index t 1 * 704 ≤ (i 1).val ∧ (i 1).val < win7_4.index t 1 * 704 + 704
      rw [hi.2.1]; omega
    | ⟨2, _⟩ =>
      show win7_4.index t 2 * 1024 ≤ (i 2).val ∧ (i 2).val < win7_4.index t 2 * 1024 + 1024
      rw [hi.2.2]; omega

theorem final7_5 {g : ℕ → ℕ → EReal} (h : ∀ t : Fin cfg7.N, ∀ (a : Fin 1) (r : Fin 704) (c : Fin 1024), ((dat7 V d).after 5 t : Vec Ideal S1x704x1024 .bf16) (ix3 a r c) = g (704 * (t.val) + r) c) :
    ((dat7 V d).arrAt 5 cfg7.N : Vec Ideal S4x704x1024 .bf16) = (slab g : Vec Ideal S4x704x1024 .bf16) :=
  (dat7 V d).arrAt_eq_of_cover 5 (slab g : Vec Ideal S4x704x1024 .bf16) (fun t _ => by
    show (cfg7.win 5).cut (grid7.coords t) ((dat7 V d).after 5 t) = _
    funext j
    obtain ⟨a, r, c, rfl⟩ : ∃ (a : Fin 1) (r : Fin 704) (c : Fin 1024), j = ix3 a r c := ⟨j 0, j 1, j 2, eq_ix3 j⟩
    exact (h t a r c).trans (slab_at
      (by show win7_5.index t 0 * 1 + 1 * a.val = t.val; rw [(index7_5 t).1]; omega)
      (by show win7_5.index t 1 * 704 + 1 * r.val = r.val; rw [(index7_5 t).2.1]; omega)
      (by show win7_5.index t 2 * 1024 + 1 * c.val = c.val; rw [(index7_5 t).2.2]; omega)).symm) fun i => by
    have h0 : (i 0).val < 4 := (i 0).isLt
    have h1 : (i 1).val < 704 := (i 1).isLt
    have h2 : (i 2).val < 1024 := (i 2).isLt
    obtain ⟨t, ht⟩ : ∃ t : Fin cfg7.N, t.val = (i 0).val := ⟨⟨(i 0).val, Nat.lt_of_lt_of_eq (by omega) N_7.symm⟩, rfl⟩
    have hi := index7_5 t
    refine ⟨t, flush7_5 t, ?_⟩
    show i ∈ ((View.whole main_v7_1).slice (win7_5.rect t)).set
    rw [View.set_slice_whole, Rect.mem_set_unit]
    intro a
    match a with
    | ⟨0, _⟩ =>
      show win7_5.index t 0 * 1 ≤ (i 0).val ∧ (i 0).val < win7_5.index t 0 * 1 + 1
      rw [hi.1]; omega
    | ⟨1, _⟩ =>
      show win7_5.index t 1 * 704 ≤ (i 1).val ∧ (i 1).val < win7_5.index t 1 * 704 + 704
      rw [hi.2.1]; omega
    | ⟨2, _⟩ =>
      show win7_5.index t 2 * 1024 ≤ (i 2).val ∧ (i 2).val < win7_5.index t 2 * 1024 + 1024
      rw [hi.2.2]; omega

/-! ## Call 8 -/

theorem index8_0 : ∀ t : Fin grid8.N, win8_0.index t 0 = t.val ∧ win8_0.index t 1 = 0 := by decide +kernel
theorem index8_1 : ∀ t : Fin grid8.N, win8_1.index t 0 = 0 ∧ win8_1.index t 1 = 0 := by decide +kernel
theorem index8_2 : ∀ t : Fin grid8.N, win8_2.index t 0 = t.val ∧ win8_2.index t 1 = 0 := by decide +kernel

theorem in8_0 {f : ℕ → ℕ → EReal} (h : (V d main_v6_1 : Vec Ideal S2048x1024 .bf16) = mat f) (t : Fin cfg8.N) (r : Fin 1024) (c : Fin 1024) :
    iblk8 V d 0 t (ix2 r c) = f (1024 * t.val + r) c := (congrFun h _).trans (mat_at
    (by show win8_0.index t 0 * 1024 + 1 * r.val = 1024 * t.val + r.val; rw [(index8_0 t).1]; omega)
    (by show win8_0.index t 1 * 1024 + 1 * c.val = c.val; rw [(index8_0 t).2]; omega))

theorem in8_1 {f : ℕ → ℕ → EReal} (h : (V d main_arg2 : Vec Ideal S1024x1024 .f32) = mat f) (t : Fin cfg8.N) (r : Fin 1024) (c : Fin 1024) :
    iblk8 V d 1 t (ix2 r c) = f (r) c := (congrFun h _).trans (mat_at
    (by show win8_1.index t 0 * 1024 + 1 * r.val = r.val; rw [(index8_1 t).1]; omega)
    (by show win8_1.index t 1 * 1024 + 1 * c.val = c.val; rw [(index8_1 t).2]; omega))

theorem final8_2 {g : ℕ → ℕ → EReal} (h : ∀ t : Fin cfg8.N, ∀ (r : Fin 1024) (c : Fin 1024), ((dat8 V d).after 2 t : Vec Ideal S1024x1024 .f32) (ix2 r c) = g (1024 * t.val + r) c) :
    ((dat8 V d).arrAt 2 cfg8.N : Vec Ideal S2048x1024 .f32) = (mat g : Vec Ideal S2048x1024 .f32) :=
  (dat8 V d).arrAt_eq_of_cover 2 (mat g : Vec Ideal S2048x1024 .f32) (fun t _ => by
    show (cfg8.win 2).cut (grid8.coords t) ((dat8 V d).after 2 t) = _
    funext j
    obtain ⟨r, c, rfl⟩ : ∃ (r : Fin 1024) (c : Fin 1024), j = ix2 r c := ⟨j 0, j 1, eq_ix2 j⟩
    exact (h t r c).trans (mat_at
      (by show win8_2.index t 0 * 1024 + 1 * r.val = 1024 * t.val + r.val; rw [(index8_2 t).1]; omega)
      (by show win8_2.index t 1 * 1024 + 1 * c.val = c.val; rw [(index8_2 t).2]; omega)).symm) fun i => by
    have h0 : (i 0).val < 2048 := (i 0).isLt
    have h1 : (i 1).val < 1024 := (i 1).isLt
    obtain ⟨t, ht⟩ : ∃ t : Fin cfg8.N, t.val = (i 0).val / 1024 := ⟨⟨(i 0).val / 1024, Nat.lt_of_lt_of_eq (by omega) N_8.symm⟩, rfl⟩
    have hi := index8_2 t
    refine ⟨t, flush8_2 t, ?_⟩
    show i ∈ ((View.whole main_v8).slice (win8_2.rect t)).set
    rw [View.set_slice_whole, Rect.mem_set_unit]
    intro a
    match a with
    | ⟨0, _⟩ =>
      show win8_2.index t 0 * 1024 ≤ (i 0).val ∧ (i 0).val < win8_2.index t 0 * 1024 + 1024
      rw [hi.1]; omega
    | ⟨1, _⟩ =>
      show win8_2.index t 1 * 1024 ≤ (i 1).val ∧ (i 1).val < win8_2.index t 1 * 1024 + 1024
      rw [hi.2]; omega

/-! ## Call 9 -/

theorem index9_0 : ∀ t : Fin grid9.N, win9_0.index t 0 = 0 ∧ win9_0.index t 1 = 0 := by decide +kernel
theorem index9_1 : ∀ t : Fin grid9.N, win9_1.index t 0 = 0 ∧ win9_1.index t 1 = 0 := by decide +kernel
theorem index9_2 : ∀ t : Fin grid9.N, win9_2.index t 0 = 0 ∧ win9_2.index t 1 = 0 := by decide +kernel

theorem in9_0 {f : ℕ → ℕ → EReal} (h : (V d main_arg0 : Vec Ideal S2048x1024 .f32) = mat f) (t : Fin cfg9.N) (r : Fin 2048) (c : Fin 1024) :
    iblk9 V d 0 t (ix2 r c) = f (r) c := (congrFun h _).trans (mat_at
    (by show win9_0.index t 0 * 2048 + 1 * r.val = r.val; rw [(index9_0 t).1]; omega)
    (by show win9_0.index t 1 * 1024 + 1 * c.val = c.val; rw [(index9_0 t).2]; omega))

theorem in9_1 {f : ℕ → ℕ → EReal} (h : (V d main_v6_1 : Vec Ideal S2048x1024 .bf16) = mat f) (t : Fin cfg9.N) (r : Fin 2048) (c : Fin 1024) :
    iblk9 V d 1 t (ix2 r c) = f (r) c := (congrFun h _).trans (mat_at
    (by show win9_1.index t 0 * 2048 + 1 * r.val = r.val; rw [(index9_1 t).1]; omega)
    (by show win9_1.index t 1 * 1024 + 1 * c.val = c.val; rw [(index9_1 t).2]; omega))

theorem final9_2 {g : ℕ → ℕ → EReal} (h : ∀ t : Fin cfg9.N, ∀ (r : Fin 1024) (c : Fin 1024), ((dat9 V d).after 2 t : Vec Ideal S1024x1024 .bf16) (ix2 r c) = g (r) c) :
    ((dat9 V d).arrAt 2 cfg9.N : Vec Ideal S1024x1024 .bf16) = (mat g : Vec Ideal S1024x1024 .bf16) :=
  (dat9 V d).arrAt_eq_of_cover 2 (mat g : Vec Ideal S1024x1024 .bf16) (fun t _ => by
    show (cfg9.win 2).cut (grid9.coords t) ((dat9 V d).after 2 t) = _
    funext j
    obtain ⟨r, c, rfl⟩ : ∃ (r : Fin 1024) (c : Fin 1024), j = ix2 r c := ⟨j 0, j 1, eq_ix2 j⟩
    exact (h t r c).trans (mat_at
      (by show win9_2.index t 0 * 1024 + 1 * r.val = r.val; rw [(index9_2 t).1]; omega)
      (by show win9_2.index t 1 * 1024 + 1 * c.val = c.val; rw [(index9_2 t).2]; omega)).symm) fun i => by
    have h0 : (i 0).val < 1024 := (i 0).isLt
    have h1 : (i 1).val < 1024 := (i 1).isLt
    obtain ⟨t, ht⟩ : ∃ t : Fin cfg9.N, t.val = 0 := ⟨⟨0, Nat.lt_of_lt_of_eq (by omega) N_9.symm⟩, rfl⟩
    have hi := index9_2 t
    refine ⟨t, flush9_2 t, ?_⟩
    show i ∈ ((View.whole main_v9).slice (win9_2.rect t)).set
    rw [View.set_slice_whole, Rect.mem_set_unit]
    intro a
    match a with
    | ⟨0, _⟩ =>
      show win9_2.index t 0 * 1024 ≤ (i 0).val ∧ (i 0).val < win9_2.index t 0 * 1024 + 1024
      rw [hi.1]; omega
    | ⟨1, _⟩ =>
      show win9_2.index t 1 * 1024 ≤ (i 1).val ∧ (i 1).val < win9_2.index t 1 * 1024 + 1024
      rw [hi.2]; omega

end Cert.Proof.Ffn

end
-- ==== Proof.Ffn.Calls.lean ====
module

public import proofs.«01_k».proof.Proof.Ffn.Pay
public import proofs.«01_k».proof.Proof.Ffn.GridA
public import proofs.«01_k».proof.Proof.Ffn.GridB
public import proofs.«01_k».proof.Proof.Ffn.GridC
public import proofs.«01_k».proof.Proof.Ffn.GridD

/-!
# The calls that do not accumulate

What every call leaves in its arrays, from what it finds in them.
-/

@[expose] public section

set_option maxRecDepth 16384

noncomputable section

namespace Cert.Proof.Ffn

open Cert.Kernel2Ideal Cert.Kernel2Ideal.Gen Idealize.ShloMosaic Idealize.ShloMosaic.TcCoe

/-! ## The one store of every output -/

section Stores

variable {F : FTy → Type} [FloatOps F]

/-- A load of a whole stack reads it. -/
theorem ld_whole3 {a b c : ℕ} {e : EltTy} (inb : ∀ i, (![0, 0, 0] : Fin 3 → ℕ) i + (![a, b, c] : Fin 3 → ℕ) i ≤ (⟨3, ![a, b, c]⟩ : Shape).size i)
    (X : Vec F ⟨3, ![a, b, c]⟩ e) : View.ld X (Rect.unit (s := ⟨3, ![a, b, c]⟩) ![0, 0, 0] ![a, b, c] inb) = X :=
  View.ld_unit_zero (S := ⟨3, ![a, b, c]⟩) origin3 inb X

/-- A store over a whole matrix leaves what was stored. -/
theorem canon_whole2 {a b : ℕ} {e : EltTy} (inb : ∀ i, (![0, 0] : Fin 2 → ℕ) i + (![a, b] : Fin 2 → ℕ) i ≤ (⟨2, ![a, b]⟩ : Shape).size i)
    (w : Vec F ⟨2, ![a, b]⟩ e) :
    View.canon [(⟨Rect.unit (s := ⟨2, ![a, b]⟩) ![0, 0] ![a, b] inb, w⟩ : View.Piece (Elt F) ⟨2, ![a, b]⟩ e)] = w :=
  View.canon_unit_zero (S := ⟨2, ![a, b]⟩) origin2 inb w

/-- A store over a whole stack leaves what was stored. -/
theorem canon_whole3 {a b c : ℕ} {e : EltTy} (inb : ∀ i, (![0, 0, 0] : Fin 3 → ℕ) i + (![a, b, c] : Fin 3 → ℕ) i ≤ (⟨3, ![a, b, c]⟩ : Shape).size i)
    (w : Vec F ⟨3, ![a, b, c]⟩ e) :
    View.canon [(⟨Rect.unit (s := ⟨3, ![a, b, c]⟩) ![0, 0, 0] ![a, b, c] inb, w⟩ : View.Piece (Elt F) ⟨3, ![a, b, c]⟩ e)] = w :=
  View.canon_unit_zero (S := ⟨3, ![a, b, c]⟩) origin3 inb w

theorem out0_4_eq (x0 : Vec F S1024x1024 .f32) (x1 : Vec F S1024x1024 .f32) (x2 : Vec F S1024x1024 .f32) (x3 : Vec F S1x1024 .f32) : out0_4 x0 x1 x2 x3 = k0_pay1 x0 x1 x2 := by
  unfold out0_4
  simp only [r0_0, canon_whole2, canon_whole3, ld_whole2, ld_whole3]

theorem out0_5_eq (x0 : Vec F S1024x1024 .f32) (x1 : Vec F S1024x1024 .f32) (x2 : Vec F S1024x1024 .f32) (x3 : Vec F S1x1024 .f32) : out0_5 x0 x1 x2 x3 = k0_pay2 x0 x1 x2 x3 := by
  unfold out0_5
  simp only [r0_0, r0_1, canon_whole2, canon_whole3, ld_whole2, ld_whole3]

theorem out1_4_eq (x0 : Vec F S1024x1024 .bf16) (x1 : Vec F S1x704x1024 .f32) (x2 : Vec F S1024x1024 .bf16) (x3 : Vec F S1x704x1024 .f32) : out1_4 x0 x1 x2 x3 = k1_pay3 x2 x3 := by
  unfold out1_4
  simp only [r1_0, r1_1, r1_2, canon_whole2, canon_whole3, ld_whole2, ld_whole3]

theorem out1_5_eq (x0 : Vec F S1024x1024 .bf16) (x1 : Vec F S1x704x1024 .f32) (x2 : Vec F S1024x1024 .bf16) (x3 : Vec F S1x704x1024 .f32) : out1_5 x0 x1 x2 x3 = k1_pay4 x0 x1 := by
  unfold out1_5
  simp only [r1_0, r1_1, r1_2, canon_whole2, canon_whole3, ld_whole2, ld_whole3]

theorem out1_6_eq (x0 : Vec F S1024x1024 .bf16) (x1 : Vec F S1x704x1024 .f32) (x2 : Vec F S1024x1024 .bf16) (x3 : Vec F S1x704x1024 .f32) : out1_6 x0 x1 x2 x3 = k1_pay5 x0 x1 x2 x3 := by
  unfold out1_6
  simp only [r1_0, r1_1, r1_2, canon_whole2, canon_whole3, ld_whole2, ld_whole3]

theorem out3_4_eq (x0 : Vec F S1024x1024 .bf16) (x1 : Vec F S1x704x1024 .f32) (x2 : Vec F S1x1024x704 .bf16) (x3 : Vec F S1x1024x704 .bf16) : out3_4 x0 x1 x2 x3 = k3_pay4 x0 x1 x2 x3 := by
  unfold out3_4
  simp only [r3_0, r3_1, r3_2, canon_whole2, canon_whole3, ld_whole2, ld_whole3]

theorem out3_5_eq (x0 : Vec F S1024x1024 .bf16) (x1 : Vec F S1x704x1024 .f32) (x2 : Vec F S1x1024x704 .bf16) (x3 : Vec F S1x1024x704 .bf16) : out3_5 x0 x1 x2 x3 = k3_pay5 x0 x1 x2 := by
  unfold out3_5
  simp only [r3_0, r3_1, r3_2, canon_whole2, canon_whole3, ld_whole2, ld_whole3]

theorem out4_2_eq (x0 : Vec F S1x2048x704 .bf16) (x1 : Vec F S2048x1024 .bf16) : out4_2 x0 x1 = k4_pay1 x0 x1 := by
  unfold out4_2
  simp only [r4_0, r4_1, r4_2, canon_whole2, canon_whole3, ld_whole2, ld_whole3]

theorem out5_2_eq (x0 : Vec F S4x512x704 .bf16) (x1 : Vec F S4x704x1024 .f32) : out5_2 x0 x1 = down x0 x1 := by
  unfold out5_2
  simp only [r5_8, canon_whole2]
  rfl

theorem out7_4_eq (x0 : Vec F S1x2048x704 .bf16) (x1 : Vec F S2048x1024 .bf16) (x2 : Vec F S1x2048x704 .bf16) (x3 : Vec F S2048x1024 .bf16) : out7_4 x0 x1 x2 x3 = k7_pay1 x0 x1 := by
  unfold out7_4
  simp only [r7_0, r7_1, r7_2, canon_whole2, canon_whole3, ld_whole2, ld_whole3]

theorem out7_5_eq (x0 : Vec F S1x2048x704 .bf16) (x1 : Vec F S2048x1024 .bf16) (x2 : Vec F S1x2048x704 .bf16) (x3 : Vec F S2048x1024 .bf16) : out7_5 x0 x1 x2 x3 = k7_pay2 x2 x3 := by
  unfold out7_5
  simp only [r7_0, r7_1, r7_2, canon_whole2, canon_whole3, ld_whole2, ld_whole3]

theorem out8_2_eq (x0 : Vec F S1024x1024 .bf16) (x1 : Vec F S1024x1024 .f32) : out8_2 x0 x1 = k8_pay1 x0 x1 := by
  unfold out8_2
  simp only [r8_0, canon_whole2, canon_whole3, ld_whole2, ld_whole3]

theorem out9_2_eq (x0 : Vec F S2048x1024 .f32) (x1 : Vec F S2048x1024 .bf16) : out9_2 x0 x1 = k9_pay1 x0 x1 := by
  unfold out9_2
  simp only [r9_0, r9_1, canon_whole2, canon_whole3, ld_whole2, ld_whole3]

end Stores

variable {V : (c : Dev nD) → (b : Ref sig .tc) → Buf (Elt Ideal) ((c : Thread nD τ).loc b)} (d : Dev nD) (D : Data)

/-- The residual stream after the attention. -/
theorem call0_4 (h0 : (V d main_arg0 : Vec Ideal S2048x1024 .f32) = mat D.mix) (h1 : (V d main_arg2 : Vec Ideal S1024x1024 .f32) = mat D.wo) (h2 : (V d main_arg1 : Vec Ideal S2048x1024 .f32) = mat D.x) :
    ((dat0 V d).arrAt 4 cfg0.N : Vec Ideal S2048x1024 .f32) = mat D.x1 :=
  final0_4 d fun t r c => by
    rw [after0_4, out0_4_eq]
    exact x1_block D (1024 * t.val) (in0_0 d h0 t) (in0_1 d h1 t) (in0_2 d h2 t) r c

/-- Its norm. -/
theorem call0_5 (h0 : (V d main_arg0 : Vec Ideal S2048x1024 .f32) = mat D.mix) (h1 : (V d main_arg2 : Vec Ideal S1024x1024 .f32) = mat D.wo) (h2 : (V d main_arg1 : Vec Ideal S2048x1024 .f32) = mat D.x) (h3 : (V d main_arg3 : Vec Ideal S1x1024 .f32) = row D.n2) :
    ((dat0 V d).arrAt 5 cfg0.N : Vec Ideal S2048x1024 .bf16) = mat D.h2 :=
  final0_5 d fun t r c => by
    rw [after0_5, out0_5_eq]
    exact h2_block D (1024 * t.val) (in0_0 d h0 t) (in0_1 d h1 t) (in0_2 d h2 t) (in0_3 d h3 t) r c

/-- The gate. -/
theorem call1_4 (h0 : (V d main_v0_1 : Vec Ideal S2048x1024 .bf16) = mat D.h2) (hg : (V d main_arg4 : Vec Ideal S4x704x1024 .f32) = slab D.wg) :
    ((dat1 V d).arrAt 4 cfg1.N : Vec Ideal S4x2048x704 .bf16) = hid D.gate :=
  final1_4 d fun t a r k => by
    rw [after1_4, out1_4_eq]
    exact gate_block D (1024 * (t.val / 4)) (704 * (t.val % 4)) (in1_2 d h0 t) (in1_3 d hg t) a r k

/-- The hidden values. -/
theorem call1_5 (h0 : (V d main_v0_1 : Vec Ideal S2048x1024 .bf16) = mat D.h2) (hu : (V d main_arg5 : Vec Ideal S4x704x1024 .f32) = slab D.wu) :
    ((dat1 V d).arrAt 5 cfg1.N : Vec Ideal S4x2048x704 .bf16) = hid D.up :=
  final1_5 d fun t a r k => by
    rw [after1_5, out1_5_eq]
    exact up_block D (1024 * (t.val / 4)) (704 * (t.val % 4)) (in1_0 d h0 t) (in1_1 d hu t) a r k

/-- The activation. -/
theorem call1_6 (h0 : (V d main_v0_1 : Vec Ideal S2048x1024 .bf16) = mat D.h2) (hu : (V d main_arg5 : Vec Ideal S4x704x1024 .f32) = slab D.wu) (hg : (V d main_arg4 : Vec Ideal S4x704x1024 .f32) = slab D.wg) :
    ((dat1 V d).arrAt 6 cfg1.N : Vec Ideal S4x2048x704 .bf16) = hid D.act :=
  final1_6 d fun t a r k => by
    rw [after1_6, out1_6_eq]
    exact act_block D (1024 * (t.val / 4)) (704 * (t.val % 4)) (in1_0 d h0 t) (in1_1 d hu t) (in1_2 d h0 t) (in1_3 d hg t) a r k

/-- The gate's gradient. -/
theorem call3_4 (h0 : (V d main_v2_1 : Vec Ideal S2048x1024 .bf16) = mat D.dx2) (h1 : (V d main_arg6 : Vec Ideal S4x704x1024 .f32) = slab D.wd) (h2 : (V d main_v1_0 : Vec Ideal S4x2048x704 .bf16) = hid D.gate) (h3 : (V d main_v1_1 : Vec Ideal S4x2048x704 .bf16) = hid D.up) :
    ((dat3 V d).arrAt 4 cfg3.N : Vec Ideal S4x2048x704 .bf16) = hid D.dgate :=
  final3_4 d fun t a r k => by
    rw [after3_4, out3_4_eq]
    exact dgate_block D (1024 * (t.val / 4)) (704 * (t.val % 4)) (in3_0 d h0 t) (in3_1 d h1 t) (in3_2 d h2 t) (in3_3 d h3 t) a r k

/-- The hidden values' gradient. -/
theorem call3_5 (h0 : (V d main_v2_1 : Vec Ideal S2048x1024 .bf16) = mat D.dx2) (h1 : (V d main_arg6 : Vec Ideal S4x704x1024 .f32) = slab D.wd) (h2 : (V d main_v1_0 : Vec Ideal S4x2048x704 .bf16) = hid D.gate) :
    ((dat3 V d).arrAt 5 cfg3.N : Vec Ideal S4x2048x704 .bf16) = hid D.dup :=
  final3_5 d fun t a r k => by
    rw [after3_5, out3_5_eq]
    exact dup_block D (1024 * (t.val / 4)) (704 * (t.val % 4)) (in3_0 d h0 t) (in3_1 d h1 t) (in3_2 d h2 t) a r k

/-- The gradient of the down projection. -/
theorem call4_2 (h0 : (V d main_v1_2 : Vec Ideal S4x2048x704 .bf16) = hid D.act) (h1 : (V d main_v2_1 : Vec Ideal S2048x1024 .bf16) = mat D.dx2) :
    ((dat4 V d).arrAt 2 cfg4.N : Vec Ideal S4x704x1024 .bf16) = slab D.gd :=
  final4_2 d fun t a k c => by
    rw [after4_2, out4_2_eq]
    exact grad_block D.act D.dx2 (704 * t.val) (in4_0 d h0 t) (in4_1 d h1 t) a k c

/-- The gradient of the norm's output, from the gate. -/
theorem call5_2 (h0 : (V d main_v3_0 : Vec Ideal S4x2048x704 .bf16) = hid D.dgate) (h1 : (V d main_arg4 : Vec Ideal S4x704x1024 .f32) = slab D.wg) :
    ((dat5 V d).arrAt 2 cfg5.N : Vec Ideal S2048x1024 .f32) = mat D.dh2g :=
  final5_2 d fun t r c => by
    rw [after5_2, out5_2_eq]
    exact down_block D.dgate D.wg (512 * t.val) (in5_0 d h0 t) (in5_1 d h1 t) r c

/-- The gradient of the gate's projection. -/
theorem call7_4 (h0 : (V d main_v3_0 : Vec Ideal S4x2048x704 .bf16) = hid D.dgate) (h1 : (V d main_v0_1 : Vec Ideal S2048x1024 .bf16) = mat D.h2) :
    ((dat7 V d).arrAt 4 cfg7.N : Vec Ideal S4x704x1024 .bf16) = slab D.gg :=
  final7_4 d fun t a k c => by
    rw [after7_4, out7_4_eq]
    exact grad_block D.dgate D.h2 (704 * t.val) (in7_0 d h0 t) (in7_1 d h1 t) a k c

/-- The gradient of the up projection. -/
theorem call7_5 (h1 : (V d main_v0_1 : Vec Ideal S2048x1024 .bf16) = mat D.h2) (h2 : (V d main_v3_1 : Vec Ideal S4x2048x704 .bf16) = hid D.dup) :
    ((dat7 V d).arrAt 5 cfg7.N : Vec Ideal S4x704x1024 .bf16) = slab D.gu :=
  final7_5 d fun t a k c => by
    rw [after7_5, out7_5_eq]
    exact grad_block D.dup D.h2 (704 * t.val) (in7_2 d h2 t) (in7_3 d h1 t) a k c

/-- The gradient of the attention's output. -/
theorem call8_2 (h0 : (V d main_v6_1 : Vec Ideal S2048x1024 .bf16) = mat D.dx1) (h1 : (V d main_arg2 : Vec Ideal S1024x1024 .f32) = mat D.wo) :
    ((dat8 V d).arrAt 2 cfg8.N : Vec Ideal S2048x1024 .f32) = mat D.dmix :=
  final8_2 d fun t r k => by
    rw [after8_2, out8_2_eq]
    exact dmix_block D (1024 * t.val) (in8_0 d h0 t) (in8_1 d h1 t) r k

/-- The gradient of the output projection. -/
theorem call9_2 (h0 : (V d main_arg0 : Vec Ideal S2048x1024 .f32) = mat D.mix) (h1 : (V d main_v6_1 : Vec Ideal S2048x1024 .bf16) = mat D.dx1) :
    ((dat9 V d).arrAt 2 cfg9.N : Vec Ideal S1024x1024 .bf16) = mat D.gout :=
  final9_2 d fun t k c => by
    rw [after9_2, out9_2_eq]
    exact gout_block D (in9_0 d h0 t) (in9_1 d h1 t) k c

end Cert.Proof.Ffn

end
-- ==== Proof.Ffn.Acc.lean ====
module

public import proofs.«01_k».proof.Proof.Ffn.Pay
public import proofs.«01_k».proof.Proof.Ffn.GridB
public import proofs.«01_k».proof.Proof.Ffn.GridC

/-!
# The two accumulating calls

The loss and the gradients of the two norms' weights are sums over the rows, taken block by block. Everything else that these calls write
is one block of rows at a time.
-/

@[expose] public section

set_option maxRecDepth 16384

noncomputable section

namespace Cert.Proof.Ffn

open Cert.Kernel2Ideal Cert.Kernel2Ideal.Gen Idealize.ShloMosaic Idealize.ShloMosaic.TcCoe

/-! ## The loss by blocks -/

/-- A nonnegative real distributes over a sum. -/
theorem mul_sum_coe {n : ℕ} (k : ℝ) (hk : 0 ≤ k) (f : Fin n → EReal) : (k : EReal) * ∑ i, f i = ∑ i, (k : EReal) * f i := by
  induction n with
  | zero => simp
  | succ n ih =>
    rw [Fin.sum_univ_succ, Fin.sum_univ_succ, EReal.left_distrib_of_nonneg_of_ne_top (EReal.coe_nonneg.2 hk) (EReal.coe_ne_top k), ih]

theorem width_eq : width = ((1024 : ℝ) : EReal) := by
  simp [width, Ideal.ofBits, Ideal.ieee]
  rw [← EReal.coe_mul]
  norm_num

theorem half_eq : half = ((1 / 2 : ℝ) : EReal) := by
  simp [half, Ideal.ofBits, Ideal.ieee]
  rw [← EReal.coe_mul]
  norm_num

theorem div_width (x : EReal) : Ideal.div x width = ((1 / 1024 : ℝ) : EReal) * x := by
  rw [width_eq, Ideal.div_coe (by norm_num), mul_comm]

variable (D : Data)

/-- The loss of a block of 512 rows. -/
def lossPart (k : ℕ) : EReal := Ideal.div (half * ∑ r : Fin 512, ∑ c : Fin 1024, D.err (512 * k + r) c * D.err (512 * k + r) c) width

/-- The blocks' losses are the loss. -/
theorem loss_parts : ∑ k ∈ Finset.range 4, lossPart D k = D.loss := by
  have part : ∀ k, lossPart D k = half * ∑ r : Fin 512, Ideal.div (∑ c : Fin 1024, D.err (512 * k + r) c * D.err (512 * k + r) c) width := by
    intro k
    rw [lossPart, div_width]
    simp only [div_width]
    rw [← mul_sum_coe _ (by norm_num), mul_left_comm]
  simp only [part]
  rw [Data.loss, sum_rows fun r => Ideal.div (∑ c : Fin 1024, D.err r c * D.err r c) width, half_eq]
  have hd := fun a b => EReal.left_distrib_of_nonneg_of_ne_top (x := ((1 / 2 : ℝ) : EReal)) (EReal.coe_nonneg.2 (by norm_num)) (EReal.coe_ne_top _) a b
  rw [hd, hd, hd]
  simp [Finset.sum_range_succ]

/-- A sum over the rows, block by block. -/
theorem row_parts (f : ℕ → EReal) : ∑ k ∈ Finset.range 4, ∑ r : Fin 512, f (512 * k + r) = ∑ r : Fin 2048, f r := by
  rw [sum_rows f]
  simp [Finset.sum_range_succ]

/-! ## Adding to a buffer -/

theorem addLoss (l : Ideal .f32) (x : Vec Ideal S1x128 .f32) (a : Fin 1) (c : Fin 128) : k2_pay5 l x (ix2 a c) = x (ix2 a c) + l := by
  pointwise [k2_pay5]

theorem addFinal (y : FVec Ideal S1x1024 .f32) (x : Vec Ideal S1x1024 .f32) (a : Fin 1) (c : Fin 1024) : k2_pay6 y x (ix2 a c) = x (ix2 a c) + y (ix2 a c) := by
  pointwise [k2_pay6]

theorem addNorm (y : FVec Ideal S1x1024 .f32) (x : Vec Ideal S1x1024 .f32) (a : Fin 1) (c : Fin 1024) : k6_pay3 y x (ix2 a c) = x (ix2 a c) + y (ix2 a c) := by
  pointwise [k6_pay3]

theorem zeroLoss (a : Fin 1) (c : Fin 128) : (k2_pay3 : FVec Ideal S1x128 .f32) (ix2 a c) = 0 := by
  pointwise [k2_pay3]

theorem zeroFinal (a : Fin 1) (c : Fin 1024) : (k2_pay4 : FVec Ideal S1x1024 .f32) (ix2 a c) = 0 := by
  pointwise [k2_pay4]

theorem zeroNorm (a : Fin 1) (c : Fin 1024) : (k6_pay2 : FVec Ideal S1x1024 .f32) (ix2 a c) = 0 := by
  pointwise [k6_pay2]

theorem cast_id {S : Shape} (x : FVec Ideal S .f32) (i : S.Idx) : (truncf .bf16 x bitsLt_bf16_f32 : FVec Ideal S .bf16) i = x i := rfl

variable {V : (c : Dev nD) → (b : Ref sig .tc) → Buf (Elt Ideal) ((c : Thread nD τ).loc b)} (d : Dev nD)

/-! ## The loss and the final norm -/

section Loss

variable (h0 : (V d main_v1_2 : Vec Ideal S4x2048x704 .bf16) = hid D.act) (h1 : (V d main_arg6 : Vec Ideal S4x704x1024 .f32) = slab D.wd)
  (h2 : (V d main_v0_0 : Vec Ideal S2048x1024 .f32) = mat D.x1) (h3 : (V d main_arg7 : Vec Ideal S2048x1024 .f32) = mat D.tgt)
  (h4 : (V d main_arg8 : Vec Ideal S1x1024 .f32) = row D.fw)

include h0 h1 h2 in
theorem x2_at (t : Fin cfg2.N) (r : Fin 512) (c : Fin 1024) :
    k2_pay8 (down (iblk2 V d 0 t) (iblk2 V d 1 t)) (iblk2 V d 2 t) (ix2 r c) = D.x2 (512 * t.val + r) c :=
  x2_block D (512 * t.val) (down_block D.act D.wd (512 * t.val) (in2_0 d h0 t) (in2_1 d h1 t)) (in2_2 d h2 t) r c

include h0 h1 h2 h3 h4

theorem top_at (t : Fin cfg2.N) (r : Fin 512) (c : Fin 1024) :
    top (iblk2 V d 0 t) (iblk2 V d 1 t) (iblk2 V d 2 t) (iblk2 V d 3 t) (iblk2 V d 4 t) (ix2 r c) = D.dx2 (512 * t.val + r) c :=
  dx2_block D (512 * t.val) (x2_at D d h0 h1 h2 t) (in2_3 d h3 t) (in2_4 d h4 t) r c

theorem loss_at (t : Fin cfg2.N) :
    k2_pay13 (down (iblk2 V d 0 t) (iblk2 V d 1 t)) (iblk2 V d 2 t) (iblk2 V d 3 t) (iblk2 V d 4 t) = lossPart D t.val :=
  loss_block D (512 * t.val) (x2_at D d h0 h1 h2 t) (in2_3 d h3 t) (in2_4 d h4 t)

theorem dfw_at (t : Fin cfg2.N) (a : Fin 1) (c : Fin 1024) :
    k2_pay15 (down (iblk2 V d 0 t) (iblk2 V d 1 t)) (iblk2 V d 2 t) (iblk2 V d 3 t) (iblk2 V d 4 t) (ix2 a c)
      = ∑ r : Fin 512, D.x2 (512 * t.val + r) c * rn D.x2 (512 * t.val + r) * D.dy (512 * t.val + r) c :=
  dfw_block D (512 * t.val) (x2_at D d h0 h1 h2 t) (in2_3 d h3 t) (in2_4 d h4 t) a c

/-- The gradient of the residual stream, and its rounded copy. -/
theorem rows2 (t : Fin cfg2.N) (r : Fin 512) (c : Fin 1024) :
    (outsAt2 V d t.val t.isLt).1 (ix2 r c) = D.dx2 (512 * t.val + r) c ∧ (outsAt2 V d t.val t.isLt).2.1 (ix2 r c) = D.dx2 (512 * t.val + r) c := by
  by_cases ht : t.val % 4 = 0
  · rw [outs2_first V d t ht]
    exact ⟨top_at D d h0 h1 h2 h3 h4 t r c, top_at D d h0 h1 h2 h3 h4 t r c⟩
  · rw [outs2_next V d t ht]
    exact ⟨top_at D d h0 h1 h2 h3 h4 t r c, top_at D d h0 h1 h2 h3 h4 t r c⟩

/-- The loss so far. -/
theorem sums2_loss (a : Fin 1) (c : Fin 128) : ∀ n, (h : n < cfg2.N) → (outsAt2 V d n h).2.2.1 (ix2 a c) = ∑ k ∈ Finset.range (n + 1), lossPart D k
  | 0, h => by
    rw [show outsAt2 V d 0 h = _ from outs2_first V d ⟨0, h⟩ rfl]
    refine (addLoss _ _ a c).trans ?_
    rw [zeroLoss, loss_at D d h0 h1 h2 h3 h4]
    simp
  | n + 1, h => by
    have h4' : n + 1 < 4 := Nat.lt_of_lt_of_eq h N_2
    rw [show outsAt2 V d (n + 1) h = _ from outs2_next V d ⟨n + 1, h⟩ (by dsimp only; omega)]
    refine (addLoss _ _ a c).trans ?_
    rw [loss_at D d h0 h1 h2 h3 h4, Finset.sum_range_succ _ (n + 1)]
    exact congrArg (· + _) (sums2_loss a c n (Nat.lt_of_succ_lt h))

/-- The final norm's weights' gradient so far. -/
theorem sums2_dfw (a : Fin 1) (c : Fin 1024) : ∀ n, (h : n < cfg2.N) → (outsAt2 V d n h).2.2.2 (ix2 a c)
    = ∑ k ∈ Finset.range (n + 1), ∑ r : Fin 512, D.x2 (512 * k + r) c * rn D.x2 (512 * k + r) * D.dy (512 * k + r) c
  | 0, h => by
    rw [show outsAt2 V d 0 h = _ from outs2_first V d ⟨0, h⟩ rfl]
    refine (addFinal _ _ a c).trans ?_
    rw [zeroFinal, dfw_at D d h0 h1 h2 h3 h4]
    simp
  | n + 1, h => by
    have h4' : n + 1 < 4 := Nat.lt_of_lt_of_eq h N_2
    rw [show outsAt2 V d (n + 1) h = _ from outs2_next V d ⟨n + 1, h⟩ (by dsimp only; omega)]
    refine (addFinal _ _ a c).trans ?_
    rw [dfw_at D d h0 h1 h2 h3 h4, Finset.sum_range_succ _ (n + 1)]
    exact congrArg (· + _) (sums2_dfw a c n (Nat.lt_of_succ_lt h))

/-- The gradient of the residual stream after the feed-forward layer. -/
theorem call2_5 : ((dat2 V d).arrAt 5 cfg2.N : Vec Ideal S2048x1024 .f32) = mat D.dx2 :=
  final2_5 d fun t r c => by
    rw [after2_5]
    exact (rows2 D d h0 h1 h2 h3 h4 t r c).1

/-- Its rounded copy. -/
theorem call2_6 : ((dat2 V d).arrAt 6 cfg2.N : Vec Ideal S2048x1024 .bf16) = mat D.dx2 :=
  final2_6 d fun t r c => by
    rw [after2_6]
    exact (rows2 D d h0 h1 h2 h3 h4 t r c).2

/-- The loss. -/
theorem call2_7 : ((dat2 V d).arrAt 7 cfg2.N : Vec Ideal S1x128 .f32) = row fun _ => D.loss :=
  final2_7 d fun t ht a c => by
    rw [after2_7]
    refine (sums2_loss D d h0 h1 h2 h3 h4 a c t.val t.isLt).trans ?_
    rw [ht, loss_parts]

/-- The gradient of the final norm's weights. -/
theorem call2_8 : ((dat2 V d).arrAt 8 cfg2.N : Vec Ideal S1x1024 .f32) = row D.dfw :=
  final2_8 d fun t ht a c => by
    rw [after2_8]
    refine (sums2_dfw D d h0 h1 h2 h3 h4 a c t.val t.isLt).trans ?_
    rw [ht]
    exact row_parts fun r => D.x2 r c * rn D.x2 r * D.dy r c

end Loss

/-! ## The second norm -/

section Norm

variable (h0 : (V d main_v3_1 : Vec Ideal S4x2048x704 .bf16) = hid D.dup) (h1 : (V d main_arg5 : Vec Ideal S4x704x1024 .f32) = slab D.wu)
  (h2 : (V d main_v5 : Vec Ideal S2048x1024 .f32) = mat D.dh2g) (h3 : (V d main_v0_0 : Vec Ideal S2048x1024 .f32) = mat D.x1)
  (h4 : (V d main_v2_0 : Vec Ideal S2048x1024 .f32) = mat D.dx2) (h5 : (V d main_arg3 : Vec Ideal S1x1024 .f32) = row D.n2)

include h0 h1 h2 in
theorem dh2_at (t : Fin cfg6.N) (r : Fin 512) (c : Fin 1024) :
    k6_pay5 (down (iblk6 V d 0 t) (iblk6 V d 1 t)) (iblk6 V d 2 t) (ix2 r c) = D.dh2 (512 * t.val + r) c :=
  dh2_block D (512 * t.val) (down_block D.dup D.wu (512 * t.val) (in6_0 d h0 t) (in6_1 d h1 t)) (in6_2 d h2 t) r c

include h0 h1 h2 h3 in
theorem dn2_at (t : Fin cfg6.N) (a : Fin 1) (c : Fin 1024) :
    k6_pay10 (down (iblk6 V d 0 t) (iblk6 V d 1 t)) (iblk6 V d 2 t) (iblk6 V d 3 t) (ix2 a c)
      = ∑ r : Fin 512, D.x1 (512 * t.val + r) c * rn D.x1 (512 * t.val + r) * D.dh2 (512 * t.val + r) c :=
  dn2_block D (512 * t.val) (dh2_at D d h0 h1 h2 t) (in6_3 d h3 t) a c

include h0 h1 h2 h3 h4 h5

theorem bottom_at (t : Fin cfg6.N) (r : Fin 512) (c : Fin 1024) :
    bottom (iblk6 V d 0 t) (iblk6 V d 1 t) (iblk6 V d 2 t) (iblk6 V d 3 t) (iblk6 V d 4 t) (iblk6 V d 5 t) (ix2 r c) = D.dx1 (512 * t.val + r) c :=
  dx1_block D (512 * t.val) (dh2_at D d h0 h1 h2 t) (in6_3 d h3 t) (in6_4 d h4 t) (in6_5 d h5 t) r c

/-- The gradient of the residual stream, and its rounded copy. -/
theorem rows6 (t : Fin cfg6.N) (r : Fin 512) (c : Fin 1024) :
    (outsAt6 V d t.val t.isLt).1 (ix2 r c) = D.dx1 (512 * t.val + r) c ∧ (outsAt6 V d t.val t.isLt).2.1 (ix2 r c) = D.dx1 (512 * t.val + r) c := by
  by_cases ht : t.val % 4 = 0
  · rw [outs6_first V d t ht]
    exact ⟨bottom_at D d h0 h1 h2 h3 h4 h5 t r c, bottom_at D d h0 h1 h2 h3 h4 h5 t r c⟩
  · rw [outs6_next V d t ht]
    exact ⟨bottom_at D d h0 h1 h2 h3 h4 h5 t r c, bottom_at D d h0 h1 h2 h3 h4 h5 t r c⟩

omit h4 h5 in
/-- The second norm's weights' gradient so far. -/
theorem sums6 (a : Fin 1) (c : Fin 1024) : ∀ n, (h : n < cfg6.N) → (outsAt6 V d n h).2.2 (ix2 a c)
    = ∑ k ∈ Finset.range (n + 1), ∑ r : Fin 512, D.x1 (512 * k + r) c * rn D.x1 (512 * k + r) * D.dh2 (512 * k + r) c
  | 0, h => by
    rw [show outsAt6 V d 0 h = _ from outs6_first V d ⟨0, h⟩ rfl]
    refine (addNorm _ _ a c).trans ?_
    rw [zeroNorm, dn2_at D d h0 h1 h2 h3]
    simp
  | n + 1, h => by
    have h4' : n + 1 < 4 := Nat.lt_of_lt_of_eq h N_6
    rw [show outsAt6 V d (n + 1) h = _ from outs6_next V d ⟨n + 1, h⟩ (by dsimp only; omega)]
    refine (addNorm _ _ a c).trans ?_
    rw [dn2_at D d h0 h1 h2 h3, Finset.sum_range_succ _ (n + 1)]
    exact congrArg (· + _) (sums6 a c n (Nat.lt_of_succ_lt h))

/-- The gradient of the residual stream after the attention. -/
theorem call6_6 : ((dat6 V d).arrAt 6 cfg6.N : Vec Ideal S2048x1024 .f32) = mat D.dx1 :=
  final6_6 d fun t r c => by
    rw [after6_6]
    exact (rows6 D d h0 h1 h2 h3 h4 h5 t r c).1

/-- Its rounded copy. -/
theorem call6_7 : ((dat6 V d).arrAt 7 cfg6.N : Vec Ideal S2048x1024 .bf16) = mat D.dx1 :=
  final6_7 d fun t r c => by
    rw [after6_7]
    exact (rows6 D d h0 h1 h2 h3 h4 h5 t r c).2

omit h4 h5 in
/-- The gradient of the second norm's weights. -/
theorem call6_8 : ((dat6 V d).arrAt 8 cfg6.N : Vec Ideal S1x1024 .f32) = row D.dn2 :=
  final6_8 d fun t ht a c => by
    rw [after6_8]
    refine (sums6 D d h0 h1 h2 h3 a c t.val t.isLt).trans ?_
    rw [ht]
    exact row_parts fun r => D.x1 r c * rn D.x1 r * D.dh2 r c

end Norm

end Cert.Proof.Ffn

end
-- ==== Proof.Ffn.Run.lean ====
module

public import proofs.«01_k».proof.Proof.Gen.Kernel2Ideal.Frame

/-!
# The run of the ten calls

Every execution ends with the results holding what the fold of the ten calls over the launch memory says, and the arguments unchanged.
-/

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The results, as the fold over the calls says them, and the arguments. -/
theorem value_run : θ_run defs (onTc (τ := τ) (main (F := F))) ⟨m, fun _ => 0, ρ⟩ (fun r => ∀ c : Dev nD,
      r.2.mem ((c.tc : Thread nD τ).loc main_v2_2) = W10 m ρ c (Proc.devRef .tc main_v2_2)
      ∧ r.2.mem ((c.tc : Thread nD τ).loc main_v2_3) = W10 m ρ c (Proc.devRef .tc main_v2_3)
      ∧ r.2.mem ((c.tc : Thread nD τ).loc main_v6_2) = W10 m ρ c (Proc.devRef .tc main_v6_2)
      ∧ r.2.mem ((c.tc : Thread nD τ).loc main_v4) = W10 m ρ c (Proc.devRef .tc main_v4)
      ∧ r.2.mem ((c.tc : Thread nD τ).loc main_v7_0) = W10 m ρ c (Proc.devRef .tc main_v7_0)
      ∧ r.2.mem ((c.tc : Thread nD τ).loc main_v7_1) = W10 m ρ c (Proc.devRef .tc main_v7_1)
      ∧ r.2.mem ((c.tc : Thread nD τ).loc main_v9) = W10 m ρ c (Proc.devRef .tc main_v9)
      ∧ r.2.mem ((c.tc : Thread nD τ).loc main_v8) = W10 m ρ c (Proc.devRef .tc main_v8)
      ∧ r.2.mem ((c.tc : Thread nD τ).loc main_v6_0) = W10 m ρ c (Proc.devRef .tc main_v6_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v2_2 (by decide)),
       h c _ (mem_uc main_v2_3 (by decide)),
       h c _ (mem_uc main_v6_2 (by decide)),
       h c _ (mem_uc main_v4 (by decide)),
       h c _ (mem_uc main_v7_0 (by decide)),
       h c _ (mem_uc main_v7_1 (by decide)),
       h c _ (mem_uc main_v9 (by decide)),
       h c _ (mem_uc main_v8 (by decide)),
       h c _ (mem_uc main_v6_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.Proof.Ffn

end
-- ==== Proof.Ffn.Chain.lean ====
module

public import proofs.«01_k».proof.Proof.Ffn.Holds
public import proofs.«01_k».proof.Proof.Ffn.Calls
public import proofs.«01_k».proof.Proof.Ffn.Acc
public import proofs.«01_k».proof.Proof.Ffn.Run

/-!
# From call to call

Every call finds what the calls before it left, so the ten calls leave the quantities of `Spec`, computed from the arguments.
-/

@[expose] public section

set_option maxRecDepth 16384

noncomputable section

namespace Cert.Proof.Ffn

open Cert.Kernel2Ideal Cert.Kernel2Ideal.Gen Idealize.ShloMosaic Idealize.ShloMosaic.TcCoe

variable {m : (ℓ : Loc nD τ sig) → Buf (Elt Ideal) ℓ} (ρ : Dev nD → PrngReg) {c : Dev nD} {D : Data}
  (H : Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include H

/-! ## After call 0 -/

theorem at1_v0_0 : (W1 m ρ c (Proc.devRef .tc main_v0_0) : Vec Ideal S2048x1024 .f32) = mat D.x1 :=
  (W1_arr m ρ c 4).trans (call0_4 (V := V0 m ρ) c D ((W0_args m ρ c main_arg0 (by decide)).trans H.h0) ((W0_args m ρ c main_arg2 (by decide)).trans H.h2) ((W0_args m ρ c main_arg1 (by decide)).trans H.h1))

theorem at1_v0_1 : (W1 m ρ c (Proc.devRef .tc main_v0_1) : Vec Ideal S2048x1024 .bf16) = mat D.h2 :=
  (W1_arr m ρ c 5).trans (call0_5 (V := V0 m ρ) c D ((W0_args m ρ c main_arg0 (by decide)).trans H.h0) ((W0_args m ρ c main_arg2 (by decide)).trans H.h2) ((W0_args m ρ c main_arg1 (by decide)).trans H.h1) ((W0_args m ρ c main_arg3 (by decide)).trans H.h3))

/-! ## After call 1 -/

theorem at2_v0_0 : (W2 m ρ c (Proc.devRef .tc main_v0_0) : Vec Ideal S2048x1024 .f32) = mat D.x1 :=
  (W2_of m ρ c main_v0_0 (by decide)).trans (at1_v0_0 ρ H)

theorem at2_v0_1 : (W2 m ρ c (Proc.devRef .tc main_v0_1) : Vec Ideal S2048x1024 .bf16) = mat D.h2 :=
  (W2_of m ρ c main_v0_1 (by decide)).trans (at1_v0_1 ρ H)

theorem at2_v1_0 : (W2 m ρ c (Proc.devRef .tc main_v1_0) : Vec Ideal S4x2048x704 .bf16) = hid D.gate :=
  (W2_arr m ρ c 4).trans (call1_4 (V := V1 m ρ) c D (at1_v0_1 ρ H) ((W1_args m ρ c main_arg4 (by decide)).trans H.h4))

theorem at2_v1_1 : (W2 m ρ c (Proc.devRef .tc main_v1_1) : Vec Ideal S4x2048x704 .bf16) = hid D.up :=
  (W2_arr m ρ c 5).trans (call1_5 (V := V1 m ρ) c D (at1_v0_1 ρ H) ((W1_args m ρ c main_arg5 (by decide)).trans H.h5))

theorem at2_v1_2 : (W2 m ρ c (Proc.devRef .tc main_v1_2) : Vec Ideal S4x2048x704 .bf16) = hid D.act :=
  (W2_arr m ρ c 6).trans (call1_6 (V := V1 m ρ) c D (at1_v0_1 ρ H) ((W1_args m ρ c main_arg5 (by decide)).trans H.h5) ((W1_args m ρ c main_arg4 (by decide)).trans H.h4))

/-! ## After call 2 -/

theorem at3_v0_0 : (W3 m ρ c (Proc.devRef .tc main_v0_0) : Vec Ideal S2048x1024 .f32) = mat D.x1 :=
  (W3_of m ρ c main_v0_0 (by decide)).trans (at2_v0_0 ρ H)

theorem at3_v0_1 : (W3 m ρ c (Proc.devRef .tc main_v0_1) : Vec Ideal S2048x1024 .bf16) = mat D.h2 :=
  (W3_of m ρ c main_v0_1 (by decide)).trans (at2_v0_1 ρ H)

theorem at3_v1_0 : (W3 m ρ c (Proc.devRef .tc main_v1_0) : Vec Ideal S4x2048x704 .bf16) = hid D.gate :=
  (W3_of m ρ c main_v1_0 (by decide)).trans (at2_v1_0 ρ H)

theorem at3_v1_1 : (W3 m ρ c (Proc.devRef .tc main_v1_1) : Vec Ideal S4x2048x704 .bf16) = hid D.up :=
  (W3_of m ρ c main_v1_1 (by decide)).trans (at2_v1_1 ρ H)

theorem at3_v1_2 : (W3 m ρ c (Proc.devRef .tc main_v1_2) : Vec Ideal S4x2048x704 .bf16) = hid D.act :=
  (W3_of m ρ c main_v1_2 (by decide)).trans (at2_v1_2 ρ H)

theorem at3_v2_0 : (W3 m ρ c (Proc.devRef .tc main_v2_0) : Vec Ideal S2048x1024 .f32) = mat D.dx2 :=
  (W3_arr m ρ c 5).trans (call2_5 (V := V2 m ρ) D c (at2_v1_2 ρ H) ((W2_args m ρ c main_arg6 (by decide)).trans H.h6) (at2_v0_0 ρ H) ((W2_args m ρ c main_arg7 (by decide)).trans H.h7) ((W2_args m ρ c main_arg8 (by decide)).trans H.h8))

theorem at3_v2_1 : (W3 m ρ c (Proc.devRef .tc main_v2_1) : Vec Ideal S2048x1024 .bf16) = mat D.dx2 :=
  (W3_arr m ρ c 6).trans (call2_6 (V := V2 m ρ) D c (at2_v1_2 ρ H) ((W2_args m ρ c main_arg6 (by decide)).trans H.h6) (at2_v0_0 ρ H) ((W2_args m ρ c main_arg7 (by decide)).trans H.h7) ((W2_args m ρ c main_arg8 (by decide)).trans H.h8))

theorem at3_v2_2 : (W3 m ρ c (Proc.devRef .tc main_v2_2) : Vec Ideal S1x128 .f32) = row fun _ => D.loss :=
  (W3_arr m ρ c 7).trans (call2_7 (V := V2 m ρ) D c (at2_v1_2 ρ H) ((W2_args m ρ c main_arg6 (by decide)).trans H.h6) (at2_v0_0 ρ H) ((W2_args m ρ c main_arg7 (by decide)).trans H.h7) ((W2_args m ρ c main_arg8 (by decide)).trans H.h8))

theorem at3_v2_3 : (W3 m ρ c (Proc.devRef .tc main_v2_3) : Vec Ideal S1x1024 .f32) = row D.dfw :=
  (W3_arr m ρ c 8).trans (call2_8 (V := V2 m ρ) D c (at2_v1_2 ρ H) ((W2_args m ρ c main_arg6 (by decide)).trans H.h6) (at2_v0_0 ρ H) ((W2_args m ρ c main_arg7 (by decide)).trans H.h7) ((W2_args m ρ c main_arg8 (by decide)).trans H.h8))

/-! ## After call 3 -/

theorem at4_v0_0 : (W4 m ρ c (Proc.devRef .tc main_v0_0) : Vec Ideal S2048x1024 .f32) = mat D.x1 :=
  (W4_of m ρ c main_v0_0 (by decide)).trans (at3_v0_0 ρ H)

theorem at4_v0_1 : (W4 m ρ c (Proc.devRef .tc main_v0_1) : Vec Ideal S2048x1024 .bf16) = mat D.h2 :=
  (W4_of m ρ c main_v0_1 (by decide)).trans (at3_v0_1 ρ H)

theorem at4_v1_2 : (W4 m ρ c (Proc.devRef .tc main_v1_2) : Vec Ideal S4x2048x704 .bf16) = hid D.act :=
  (W4_of m ρ c main_v1_2 (by decide)).trans (at3_v1_2 ρ H)

theorem at4_v2_0 : (W4 m ρ c (Proc.devRef .tc main_v2_0) : Vec Ideal S2048x1024 .f32) = mat D.dx2 :=
  (W4_of m ρ c main_v2_0 (by decide)).trans (at3_v2_0 ρ H)

theorem at4_v2_1 : (W4 m ρ c (Proc.devRef .tc main_v2_1) : Vec Ideal S2048x1024 .bf16) = mat D.dx2 :=
  (W4_of m ρ c main_v2_1 (by decide)).trans (at3_v2_1 ρ H)

theorem at4_v2_2 : (W4 m ρ c (Proc.devRef .tc main_v2_2) : Vec Ideal S1x128 .f32) = row fun _ => D.loss :=
  (W4_of m ρ c main_v2_2 (by decide)).trans (at3_v2_2 ρ H)

theorem at4_v2_3 : (W4 m ρ c (Proc.devRef .tc main_v2_3) : Vec Ideal S1x1024 .f32) = row D.dfw :=
  (W4_of m ρ c main_v2_3 (by decide)).trans (at3_v2_3 ρ H)

theorem at4_v3_0 : (W4 m ρ c (Proc.devRef .tc main_v3_0) : Vec Ideal S4x2048x704 .bf16) = hid D.dgate :=
  (W4_arr m ρ c 4).trans (call3_4 (V := V3 m ρ) c D (at3_v2_1 ρ H) ((W3_args m ρ c main_arg6 (by decide)).trans H.h6) (at3_v1_0 ρ H) (at3_v1_1 ρ H))

theorem at4_v3_1 : (W4 m ρ c (Proc.devRef .tc main_v3_1) : Vec Ideal S4x2048x704 .bf16) = hid D.dup :=
  (W4_arr m ρ c 5).trans (call3_5 (V := V3 m ρ) c D (at3_v2_1 ρ H) ((W3_args m ρ c main_arg6 (by decide)).trans H.h6) (at3_v1_0 ρ H))

/-! ## After call 4 -/

theorem at5_v0_0 : (W5 m ρ c (Proc.devRef .tc main_v0_0) : Vec Ideal S2048x1024 .f32) = mat D.x1 :=
  (W5_of m ρ c main_v0_0 (by decide)).trans (at4_v0_0 ρ H)

theorem at5_v0_1 : (W5 m ρ c (Proc.devRef .tc main_v0_1) : Vec Ideal S2048x1024 .bf16) = mat D.h2 :=
  (W5_of m ρ c main_v0_1 (by decide)).trans (at4_v0_1 ρ H)

theorem at5_v2_0 : (W5 m ρ c (Proc.devRef .tc main_v2_0) : Vec Ideal S2048x1024 .f32) = mat D.dx2 :=
  (W5_of m ρ c main_v2_0 (by decide)).trans (at4_v2_0 ρ H)

theorem at5_v2_2 : (W5 m ρ c (Proc.devRef .tc main_v2_2) : Vec Ideal S1x128 .f32) = row fun _ => D.loss :=
  (W5_of m ρ c main_v2_2 (by decide)).trans (at4_v2_2 ρ H)

theorem at5_v2_3 : (W5 m ρ c (Proc.devRef .tc main_v2_3) : Vec Ideal S1x1024 .f32) = row D.dfw :=
  (W5_of m ρ c main_v2_3 (by decide)).trans (at4_v2_3 ρ H)

theorem at5_v3_0 : (W5 m ρ c (Proc.devRef .tc main_v3_0) : Vec Ideal S4x2048x704 .bf16) = hid D.dgate :=
  (W5_of m ρ c main_v3_0 (by decide)).trans (at4_v3_0 ρ H)

theorem at5_v3_1 : (W5 m ρ c (Proc.devRef .tc main_v3_1) : Vec Ideal S4x2048x704 .bf16) = hid D.dup :=
  (W5_of m ρ c main_v3_1 (by decide)).trans (at4_v3_1 ρ H)

theorem at5_v4 : (W5 m ρ c (Proc.devRef .tc main_v4) : Vec Ideal S4x704x1024 .bf16) = slab D.gd :=
  (W5_arr m ρ c 2).trans (call4_2 (V := V4 m ρ) c D (at4_v1_2 ρ H) (at4_v2_1 ρ H))

/-! ## After call 5 -/

theorem at6_v0_0 : (W6 m ρ c (Proc.devRef .tc main_v0_0) : Vec Ideal S2048x1024 .f32) = mat D.x1 :=
  (W6_of m ρ c main_v0_0 (by decide)).trans (at5_v0_0 ρ H)

theorem at6_v0_1 : (W6 m ρ c (Proc.devRef .tc main_v0_1) : Vec Ideal S2048x1024 .bf16) = mat D.h2 :=
  (W6_of m ρ c main_v0_1 (by decide)).trans (at5_v0_1 ρ H)

theorem at6_v2_0 : (W6 m ρ c (Proc.devRef .tc main_v2_0) : Vec Ideal S2048x1024 .f32) = mat D.dx2 :=
  (W6_of m ρ c main_v2_0 (by decide)).trans (at5_v2_0 ρ H)

theorem at6_v2_2 : (W6 m ρ c (Proc.devRef .tc main_v2_2) : Vec Ideal S1x128 .f32) = row fun _ => D.loss :=
  (W6_of m ρ c main_v2_2 (by decide)).trans (at5_v2_2 ρ H)

theorem at6_v2_3 : (W6 m ρ c (Proc.devRef .tc main_v2_3) : Vec Ideal S1x1024 .f32) = row D.dfw :=
  (W6_of m ρ c main_v2_3 (by decide)).trans (at5_v2_3 ρ H)

theorem at6_v3_0 : (W6 m ρ c (Proc.devRef .tc main_v3_0) : Vec Ideal S4x2048x704 .bf16) = hid D.dgate :=
  (W6_of m ρ c main_v3_0 (by decide)).trans (at5_v3_0 ρ H)

theorem at6_v3_1 : (W6 m ρ c (Proc.devRef .tc main_v3_1) : Vec Ideal S4x2048x704 .bf16) = hid D.dup :=
  (W6_of m ρ c main_v3_1 (by decide)).trans (at5_v3_1 ρ H)

theorem at6_v4 : (W6 m ρ c (Proc.devRef .tc main_v4) : Vec Ideal S4x704x1024 .bf16) = slab D.gd :=
  (W6_of m ρ c main_v4 (by decide)).trans (at5_v4 ρ H)

theorem at6_v5 : (W6 m ρ c (Proc.devRef .tc main_v5) : Vec Ideal S2048x1024 .f32) = mat D.dh2g :=
  (W6_arr m ρ c 2).trans (call5_2 (V := V5 m ρ) c D (at5_v3_0 ρ H) ((W5_args m ρ c main_arg4 (by decide)).trans H.h4))

/-! ## After call 6 -/

theorem at7_v0_1 : (W7 m ρ c (Proc.devRef .tc main_v0_1) : Vec Ideal S2048x1024 .bf16) = mat D.h2 :=
  (W7_of m ρ c main_v0_1 (by decide)).trans (at6_v0_1 ρ H)

theorem at7_v2_2 : (W7 m ρ c (Proc.devRef .tc main_v2_2) : Vec Ideal S1x128 .f32) = row fun _ => D.loss :=
  (W7_of m ρ c main_v2_2 (by decide)).trans (at6_v2_2 ρ H)

theorem at7_v2_3 : (W7 m ρ c (Proc.devRef .tc main_v2_3) : Vec Ideal S1x1024 .f32) = row D.dfw :=
  (W7_of m ρ c main_v2_3 (by decide)).trans (at6_v2_3 ρ H)

theorem at7_v3_0 : (W7 m ρ c (Proc.devRef .tc main_v3_0) : Vec Ideal S4x2048x704 .bf16) = hid D.dgate :=
  (W7_of m ρ c main_v3_0 (by decide)).trans (at6_v3_0 ρ H)

theorem at7_v3_1 : (W7 m ρ c (Proc.devRef .tc main_v3_1) : Vec Ideal S4x2048x704 .bf16) = hid D.dup :=
  (W7_of m ρ c main_v3_1 (by decide)).trans (at6_v3_1 ρ H)

theorem at7_v4 : (W7 m ρ c (Proc.devRef .tc main_v4) : Vec Ideal S4x704x1024 .bf16) = slab D.gd :=
  (W7_of m ρ c main_v4 (by decide)).trans (at6_v4 ρ H)

theorem at7_v6_0 : (W7 m ρ c (Proc.devRef .tc main_v6_0) : Vec Ideal S2048x1024 .f32) = mat D.dx1 :=
  (W7_arr m ρ c 6).trans (call6_6 (V := V6 m ρ) D c (at6_v3_1 ρ H) ((W6_args m ρ c main_arg5 (by decide)).trans H.h5) (at6_v5 ρ H) (at6_v0_0 ρ H) (at6_v2_0 ρ H) ((W6_args m ρ c main_arg3 (by decide)).trans H.h3))

theorem at7_v6_1 : (W7 m ρ c (Proc.devRef .tc main_v6_1) : Vec Ideal S2048x1024 .bf16) = mat D.dx1 :=
  (W7_arr m ρ c 7).trans (call6_7 (V := V6 m ρ) D c (at6_v3_1 ρ H) ((W6_args m ρ c main_arg5 (by decide)).trans H.h5) (at6_v5 ρ H) (at6_v0_0 ρ H) (at6_v2_0 ρ H) ((W6_args m ρ c main_arg3 (by decide)).trans H.h3))

theorem at7_v6_2 : (W7 m ρ c (Proc.devRef .tc main_v6_2) : Vec Ideal S1x1024 .f32) = row D.dn2 :=
  (W7_arr m ρ c 8).trans (call6_8 (V := V6 m ρ) D c (at6_v3_1 ρ H) ((W6_args m ρ c main_arg5 (by decide)).trans H.h5) (at6_v5 ρ H) (at6_v0_0 ρ H))

/-! ## After call 7 -/

theorem at8_v2_2 : (W8 m ρ c (Proc.devRef .tc main_v2_2) : Vec Ideal S1x128 .f32) = row fun _ => D.loss :=
  (W8_of m ρ c main_v2_2 (by decide)).trans (at7_v2_2 ρ H)

theorem at8_v2_3 : (W8 m ρ c (Proc.devRef .tc main_v2_3) : Vec Ideal S1x1024 .f32) = row D.dfw :=
  (W8_of m ρ c main_v2_3 (by decide)).trans (at7_v2_3 ρ H)

theorem at8_v4 : (W8 m ρ c (Proc.devRef .tc main_v4) : Vec Ideal S4x704x1024 .bf16) = slab D.gd :=
  (W8_of m ρ c main_v4 (by decide)).trans (at7_v4 ρ H)

theorem at8_v6_0 : (W8 m ρ c (Proc.devRef .tc main_v6_0) : Vec Ideal S2048x1024 .f32) = mat D.dx1 :=
  (W8_of m ρ c main_v6_0 (by decide)).trans (at7_v6_0 ρ H)

theorem at8_v6_1 : (W8 m ρ c (Proc.devRef .tc main_v6_1) : Vec Ideal S2048x1024 .bf16) = mat D.dx1 :=
  (W8_of m ρ c main_v6_1 (by decide)).trans (at7_v6_1 ρ H)

theorem at8_v6_2 : (W8 m ρ c (Proc.devRef .tc main_v6_2) : Vec Ideal S1x1024 .f32) = row D.dn2 :=
  (W8_of m ρ c main_v6_2 (by decide)).trans (at7_v6_2 ρ H)

theorem at8_v7_0 : (W8 m ρ c (Proc.devRef .tc main_v7_0) : Vec Ideal S4x704x1024 .bf16) = slab D.gg :=
  (W8_arr m ρ c 4).trans (call7_4 (V := V7 m ρ) c D (at7_v3_0 ρ H) (at7_v0_1 ρ H))

theorem at8_v7_1 : (W8 m ρ c (Proc.devRef .tc main_v7_1) : Vec Ideal S4x704x1024 .bf16) = slab D.gu :=
  (W8_arr m ρ c 5).trans (call7_5 (V := V7 m ρ) c D (at7_v0_1 ρ H) (at7_v3_1 ρ H))

/-! ## After call 8 -/

theorem at9_v2_2 : (W9 m ρ c (Proc.devRef .tc main_v2_2) : Vec Ideal S1x128 .f32) = row fun _ => D.loss :=
  (W9_of m ρ c main_v2_2 (by decide)).trans (at8_v2_2 ρ H)

theorem at9_v2_3 : (W9 m ρ c (Proc.devRef .tc main_v2_3) : Vec Ideal S1x1024 .f32) = row D.dfw :=
  (W9_of m ρ c main_v2_3 (by decide)).trans (at8_v2_3 ρ H)

theorem at9_v4 : (W9 m ρ c (Proc.devRef .tc main_v4) : Vec Ideal S4x704x1024 .bf16) = slab D.gd :=
  (W9_of m ρ c main_v4 (by decide)).trans (at8_v4 ρ H)

theorem at9_v6_0 : (W9 m ρ c (Proc.devRef .tc main_v6_0) : Vec Ideal S2048x1024 .f32) = mat D.dx1 :=
  (W9_of m ρ c main_v6_0 (by decide)).trans (at8_v6_0 ρ H)

theorem at9_v6_1 : (W9 m ρ c (Proc.devRef .tc main_v6_1) : Vec Ideal S2048x1024 .bf16) = mat D.dx1 :=
  (W9_of m ρ c main_v6_1 (by decide)).trans (at8_v6_1 ρ H)

theorem at9_v6_2 : (W9 m ρ c (Proc.devRef .tc main_v6_2) : Vec Ideal S1x1024 .f32) = row D.dn2 :=
  (W9_of m ρ c main_v6_2 (by decide)).trans (at8_v6_2 ρ H)

theorem at9_v7_0 : (W9 m ρ c (Proc.devRef .tc main_v7_0) : Vec Ideal S4x704x1024 .bf16) = slab D.gg :=
  (W9_of m ρ c main_v7_0 (by decide)).trans (at8_v7_0 ρ H)

theorem at9_v7_1 : (W9 m ρ c (Proc.devRef .tc main_v7_1) : Vec Ideal S4x704x1024 .bf16) = slab D.gu :=
  (W9_of m ρ c main_v7_1 (by decide)).trans (at8_v7_1 ρ H)

theorem at9_v8 : (W9 m ρ c (Proc.devRef .tc main_v8) : Vec Ideal S2048x1024 .f32) = mat D.dmix :=
  (W9_arr m ρ c 2).trans (call8_2 (V := V8 m ρ) c D (at8_v6_1 ρ H) ((W8_args m ρ c main_arg2 (by decide)).trans H.h2))

/-! ## After call 9 -/

theorem at10_v2_2 : (W10 m ρ c (Proc.devRef .tc main_v2_2) : Vec Ideal S1x128 .f32) = row fun _ => D.loss :=
  (W10_of m ρ c main_v2_2 (by decide)).trans (at9_v2_2 ρ H)

theorem at10_v2_3 : (W10 m ρ c (Proc.devRef .tc main_v2_3) : Vec Ideal S1x1024 .f32) = row D.dfw :=
  (W10_of m ρ c main_v2_3 (by decide)).trans (at9_v2_3 ρ H)

theorem at10_v4 : (W10 m ρ c (Proc.devRef .tc main_v4) : Vec Ideal S4x704x1024 .bf16) = slab D.gd :=
  (W10_of m ρ c main_v4 (by decide)).trans (at9_v4 ρ H)

theorem at10_v6_0 : (W10 m ρ c (Proc.devRef .tc main_v6_0) : Vec Ideal S2048x1024 .f32) = mat D.dx1 :=
  (W10_of m ρ c main_v6_0 (by decide)).trans (at9_v6_0 ρ H)

theorem at10_v6_2 : (W10 m ρ c (Proc.devRef .tc main_v6_2) : Vec Ideal S1x1024 .f32) = row D.dn2 :=
  (W10_of m ρ c main_v6_2 (by decide)).trans (at9_v6_2 ρ H)

theorem at10_v7_0 : (W10 m ρ c (Proc.devRef .tc main_v7_0) : Vec Ideal S4x704x1024 .bf16) = slab D.gg :=
  (W10_of m ρ c main_v7_0 (by decide)).trans (at9_v7_0 ρ H)

theorem at10_v7_1 : (W10 m ρ c (Proc.devRef .tc main_v7_1) : Vec Ideal S4x704x1024 .bf16) = slab D.gu :=
  (W10_of m ρ c main_v7_1 (by decide)).trans (at9_v7_1 ρ H)

theorem at10_v8 : (W10 m ρ c (Proc.devRef .tc main_v8) : Vec Ideal S2048x1024 .f32) = mat D.dmix :=
  (W10_of m ρ c main_v8 (by decide)).trans (at9_v8 ρ H)

theorem at10_v9 : (W10 m ρ c (Proc.devRef .tc main_v9) : Vec Ideal S1024x1024 .bf16) = mat D.gout :=
  (W10_arr m ρ c 2).trans (call9_2 (V := V9 m ρ) c D ((W9_args m ρ c main_arg0 (by decide)).trans H.h0) (at9_v6_1 ρ H))

end Cert.Proof.Ffn

end
-- ==== Proof.Ffn.RefValue.lean ====
module

public import proofs.«01_k».proof.Proof.Ffn.Holds
public import proofs.«01_k».proof.Proof.Gen.Reference2Ideal.Run

/-!
# The reference's results

Every stage of the reference, read at an index, is a quantity of `Spec`.
-/

@[expose] public section

set_option maxRecDepth 16384

noncomputable section

namespace Cert.Proof.Ffn.Ref

open Cert.Reference2Ideal Cert.Reference2Ideal.Gen Cert.Reference2Ideal.Value Idealize.ShloMosaic Idealize.ShloMosaic.TcCoe

/-! ## Constants -/

theorem width_eq : width = ((1024 : ℝ) : EReal) := by
  simp [width, Ideal.ofBits, Ideal.ieee]
  rw [← EReal.coe_mul]
  norm_num

theorem half_eq : Ideal.ofBits .f32 0x3F000000#32 = ((1 / 2 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

/-- Half of twice a number, over the width, is the number over the width. -/
theorem half_twice (x : EReal) :
    Ideal.div (Ideal.ofBits .f32 0x3F000000#32) (Ideal.ofBits .f32 0x44800000#32) * (Ideal.ofBits .f32 0x40000000#32 * x) = Ideal.div x width := by
  rw [show Ideal.ofBits .f32 0x44800000#32 = width from rfl, width_eq, Ideal.div_coe (by norm_num), Ideal.div_coe (by norm_num), half_eq, two_eq,
    ← mul_assoc, ← EReal.coe_mul, ← EReal.coe_mul, mul_comm]
  norm_num

variable {V : Valuation τ sig (Elt Ideal)} {D : Data}
  (H : Holds D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)))
include H

/-! ## The first half, forward -/

theorem x1_at (r : Fin 2048) (c : Fin 1024) : (res_main_v4 V : Vec Ideal S2048x1024 .f32) (ix2 r c) = D.x1 r c := by
  have h0 := H.h0
  have h1 := H.h1
  have h2 := H.h2
  unfold res_main_v4
  generalize V (Proc.devRef .tc main_arg0) = X0 at h0 ⊢
  generalize V (Proc.devRef .tc main_arg1) = X1 at h1 ⊢
  generalize V (Proc.devRef .tc main_arg2) = X2 at h2 ⊢
  subst h0 h1 h2
  pointwise
  exact add_comm (G := EReal) _ _

theorem wd_at (q : Fin 2816) (c : Fin 1024) : (res_main_v2 V : Vec Ideal S2816x1024 .f32) (ix2 q c) = D.wd q c := by
  have h6 := H.h6
  unfold res_main_v2
  generalize V (Proc.devRef .tc main_arg6) = X6 at h6 ⊢
  subst h6
  pointwise
  have hq : 704 * (q.val / 704) + q.val % 704 = q.val := Nat.div_add_mod _ _
  show D.wd (704 * (q.val / 704) + q.val % 704) c = _
  rw [hq]

theorem wg_at (c : Fin 1024) (q : Fin 2816) : (res_main_v20 V : Vec Ideal S1024x2816 .f32) (ix2 c q) = D.wg q c := by
  have h4 := H.h4
  unfold res_main_v20
  generalize V (Proc.devRef .tc main_arg4) = X4 at h4 ⊢
  subst h4
  pointwise
  have hq : 704 * (q.val / 704) + q.val % 704 = q.val := Nat.div_add_mod _ _
  show D.wg (704 * (q.val / 704) + q.val % 704) c = _
  rw [hq]

theorem wu_at (c : Fin 1024) (q : Fin 2816) : (res_main_v23 V : Vec Ideal S1024x2816 .f32) (ix2 c q) = D.wu q c := by
  have h5 := H.h5
  unfold res_main_v23
  generalize V (Proc.devRef .tc main_arg5) = X5 at h5 ⊢
  subst h5
  pointwise
  have hq : 704 * (q.val / 704) + q.val % 704 = q.val := Nat.div_add_mod _ _
  show D.wu (704 * (q.val / 704) + q.val % 704) c = _
  rw [hq]

theorem msq1_at (r : Fin 2048) (a : Fin 1) : (res_main_v11 V : Vec Ideal S2048x1 .f32) (ix2 r a) = msq D.x1 r := by
  have e_x1 := x1_at H
  unfold res_main_v11
  generalize res_main_v4 V = Y0 at e_x1 ⊢
  pointwise
  simp only [e_x1]
  rfl

theorem rn1_at (r : Fin 2048) (a : Fin 1) : (res_main_v12 V : Vec Ideal S2048x1 .f32) (ix2 r a) = rn D.x1 r := by
  have e_msq1 := msq1_at H
  unfold res_main_v12
  generalize res_main_v11 V = Y0 at e_msq1 ⊢
  pointwise
  simp only [e_msq1]
  rfl

theorem s1_at (r : Fin 2048) (c : Fin 1024) : (res_main_v17 V : Vec Ideal S2048x1024 .f32) (ix2 r c) = D.x1 r c * rn D.x1 r := by
  have e_x1 := x1_at H
  have e_rn1 := rn1_at H
  unfold res_main_v17
  generalize res_main_v4 V = Y0 at e_x1 ⊢
  generalize res_main_v12 V = Y1 at e_rn1 ⊢
  pointwise
  simp only [e_x1, e_rn1]
  done

theorem h2_at (r : Fin 2048) (c : Fin 1024) : (res_main_v19 V : Vec Ideal S2048x1024 .f32) (ix2 r c) = D.h2 r c := by
  have e_s1 := s1_at H
  have h3 := H.h3
  unfold res_main_v19
  generalize res_main_v17 V = Y0 at e_s1 ⊢
  generalize V (Proc.devRef .tc main_arg3) = X3 at h3 ⊢
  subst h3
  pointwise
  simp only [e_s1]
  rfl

theorem gate_at (r : Fin 2048) (q : Fin 2816) : (res_main_v21 V : Vec Ideal S2048x2816 .f32) (ix2 r q) = D.gate r q := by
  have e_h2 := h2_at H
  have e_wg := wg_at H
  unfold res_main_v21
  generalize res_main_v19 V = Y0 at e_h2 ⊢
  generalize res_main_v20 V = Y1 at e_wg ⊢
  pointwise
  simp only [e_h2, e_wg]
  rfl

theorem sig_at (r : Fin 2048) (q : Fin 2816) : (res_main_v22_2 V : Vec Ideal S2048x2816 .f32) (ix2 r q) = D.sig r q := by
  have e_gate := gate_at H
  unfold res_main_v22_2
  generalize res_main_v21 V = Y0 at e_gate ⊢
  pointwise
  simp only [e_gate]
  rfl

theorem silu_at (r : Fin 2048) (q : Fin 2816) : (res_main_v22_0 V : Vec Ideal S2048x2816 .f32) (ix2 r q) = D.gate r q * D.sig r q := by
  have e_gate := gate_at H
  have e_sig := sig_at H
  unfold res_main_v22_0
  generalize res_main_v21 V = Y0 at e_gate ⊢
  generalize res_main_v22_2 V = Y1 at e_sig ⊢
  pointwise
  simp only [e_gate, e_sig]
  done

theorem up_at (r : Fin 2048) (q : Fin 2816) : (res_main_v24 V : Vec Ideal S2048x2816 .f32) (ix2 r q) = D.up r q := by
  have e_h2 := h2_at H
  have e_wu := wu_at H
  unfold res_main_v24
  generalize res_main_v19 V = Y0 at e_h2 ⊢
  generalize res_main_v23 V = Y1 at e_wu ⊢
  pointwise
  simp only [e_h2, e_wu]
  rfl

theorem act_at (r : Fin 2048) (q : Fin 2816) : (res_main_v25 V : Vec Ideal S2048x2816 .f32) (ix2 r q) = D.act r q := by
  have e_silu := silu_at H
  have e_up := up_at H
  unfold res_main_v25
  generalize res_main_v22_0 V = Y0 at e_silu ⊢
  generalize res_main_v24 V = Y1 at e_up ⊢
  pointwise
  simp only [e_silu, e_up]
  rfl

theorem x2_at (r : Fin 2048) (c : Fin 1024) : (res_main_v27 V : Vec Ideal S2048x1024 .f32) (ix2 r c) = D.x2 r c := by
  have e_x1 := x1_at H
  have e_act := act_at H
  have e_wd := wd_at H
  unfold res_main_v27
  generalize res_main_v4 V = Y0 at e_x1 ⊢
  generalize res_main_v25 V = Y1 at e_act ⊢
  generalize res_main_v2 V = Y2 at e_wd ⊢
  pointwise
  simp only [e_x1, e_act, e_wd]
  exact add_comm (G := EReal) _ _

theorem msq2_at (r : Fin 2048) (a : Fin 1) : (res_main_v34 V : Vec Ideal S2048x1 .f32) (ix2 r a) = msq D.x2 r := by
  have e_x2 := x2_at H
  unfold res_main_v34
  generalize res_main_v27 V = Y0 at e_x2 ⊢
  pointwise
  simp only [e_x2]
  rfl

theorem rn2_at (r : Fin 2048) (a : Fin 1) : (res_main_v35 V : Vec Ideal S2048x1 .f32) (ix2 r a) = rn D.x2 r := by
  have e_msq2 := msq2_at H
  unfold res_main_v35
  generalize res_main_v34 V = Y0 at e_msq2 ⊢
  pointwise
  simp only [e_msq2]
  rfl

theorem s2_at (r : Fin 2048) (c : Fin 1024) : (res_main_v40 V : Vec Ideal S2048x1024 .f32) (ix2 r c) = D.x2 r c * rn D.x2 r := by
  have e_x2 := x2_at H
  have e_rn2 := rn2_at H
  unfold res_main_v40
  generalize res_main_v27 V = Y0 at e_x2 ⊢
  generalize res_main_v35 V = Y1 at e_rn2 ⊢
  pointwise
  simp only [e_x2, e_rn2]
  done

theorem err_at (r : Fin 2048) (c : Fin 1024) : (res_main_v43 V : Vec Ideal S2048x1024 .f32) (ix2 r c) = D.err r c := by
  have e_s2 := s2_at H
  have h7 := H.h7
  have h8 := H.h8
  unfold res_main_v43
  generalize res_main_v40 V = Y0 at e_s2 ⊢
  generalize V (Proc.devRef .tc main_arg7) = X7 at h7 ⊢
  generalize V (Proc.devRef .tc main_arg8) = X8 at h8 ⊢
  subst h7 h8
  pointwise
  simp only [e_s2]
  rfl

/-! ## Backward -/

theorem dy_at (r : Fin 2048) (c : Fin 1024) : (res_main_v57 V : Vec Ideal S2048x1024 .f32) (ix2 r c) = D.dy r c := by
  have e_err := err_at H
  unfold res_main_v57
  generalize res_main_v43 V = Y0 at e_err ⊢
  pointwise
  simp only [e_err]
  exact half_twice _

theorem dn_at (r : Fin 2048) (c : Fin 1024) : (res_main_v62 V : Vec Ideal S2048x1024 .f32) (ix2 r c) = D.dn r c := by
  have e_dy := dy_at H
  have h8 := H.h8
  unfold res_main_v62
  generalize res_main_v57 V = Y0 at e_dy ⊢
  generalize V (Proc.devRef .tc main_arg8) = X8 at h8 ⊢
  subst h8
  pointwise
  simp only [e_dy]
  rfl

theorem along2_at (r : Fin 2048) (c : Fin 1024) : (res_main_v72 V : Vec Ideal S2048x1024 .f32) (ix2 r c) = along D.x2 D.dn r := by
  have e_x2 := x2_at H
  have e_dn := dn_at H
  have e_rn2 := rn2_at H
  have e_msq2 := msq2_at H
  unfold res_main_v72
  generalize res_main_v27 V = Y0 at e_x2 ⊢
  generalize res_main_v62 V = Y1 at e_dn ⊢
  generalize res_main_v35 V = Y2 at e_rn2 ⊢
  generalize res_main_v34 V = Y3 at e_msq2 ⊢
  pointwise
  simp only [e_x2, e_dn, e_rn2, e_msq2, Fin.sum_univ_one]
  rfl

theorem dx2_at (r : Fin 2048) (c : Fin 1024) : (res_main_v76 V : Vec Ideal S2048x1024 .f32) (ix2 r c) = D.dx2 r c := by
  have e_dn := dn_at H
  have e_rn2 := rn2_at H
  have e_x2 := x2_at H
  have e_along2 := along2_at H
  unfold res_main_v76
  generalize res_main_v62 V = Y0 at e_dn ⊢
  generalize res_main_v35 V = Y1 at e_rn2 ⊢
  generalize res_main_v27 V = Y2 at e_x2 ⊢
  generalize res_main_v72 V = Y3 at e_along2 ⊢
  pointwise
  simp only [e_dn, e_rn2, e_x2, e_along2]
  rfl

theorem dact_at (r : Fin 2048) (q : Fin 2816) : (res_main_v79 V : Vec Ideal S2048x2816 .f32) (ix2 r q) = D.dact r q := by
  have e_dx2 := dx2_at H
  have e_wd := wd_at H
  unfold res_main_v79
  generalize res_main_v76 V = Y0 at e_dx2 ⊢
  generalize res_main_v2 V = Y1 at e_wd ⊢
  pointwise
  simp only [e_dx2, e_wd]
  rfl

theorem dup_at (r : Fin 2048) (q : Fin 2816) : (res_main_v80 V : Vec Ideal S2048x2816 .f32) (ix2 r q) = D.dup r q := by
  have e_silu := silu_at H
  have e_dact := dact_at H
  unfold res_main_v80
  generalize res_main_v22_0 V = Y0 at e_silu ⊢
  generalize res_main_v79 V = Y1 at e_dact ⊢
  pointwise
  simp only [e_silu, e_dact]
  rfl

theorem dsilu_at (r : Fin 2048) (q : Fin 2816) : (res_main_v81 V : Vec Ideal S2048x2816 .f32) (ix2 r q) = D.dact r q * D.up r q := by
  have e_dact := dact_at H
  have e_up := up_at H
  unfold res_main_v81
  generalize res_main_v79 V = Y0 at e_dact ⊢
  generalize res_main_v24 V = Y1 at e_up ⊢
  pointwise
  simp only [e_dact, e_up]
  done

theorem dgate_at (r : Fin 2048) (q : Fin 2816) : (res_main_v86 V : Vec Ideal S2048x2816 .f32) (ix2 r q) = D.dgate r q := by
  have e_dsilu := dsilu_at H
  have e_sig := sig_at H
  have e_gate := gate_at H
  unfold res_main_v86
  generalize res_main_v81 V = Y0 at e_dsilu ⊢
  generalize res_main_v22_2 V = Y1 at e_sig ⊢
  generalize res_main_v21 V = Y2 at e_gate ⊢
  pointwise
  simp only [e_dsilu, e_sig, e_gate]
  rfl

theorem dh2_at (r : Fin 2048) (c : Fin 1024) : (res_main_v90 V : Vec Ideal S2048x1024 .f32) (ix2 r c) = D.dh2 r c := by
  have e_dup := dup_at H
  have e_wu := wu_at H
  have e_dgate := dgate_at H
  have e_wg := wg_at H
  unfold res_main_v90
  generalize res_main_v80 V = Y0 at e_dup ⊢
  generalize res_main_v23 V = Y1 at e_wu ⊢
  generalize res_main_v86 V = Y2 at e_dgate ⊢
  generalize res_main_v20 V = Y3 at e_wg ⊢
  pointwise
  simp only [e_dup, e_wu, e_dgate, e_wg]
  rfl

theorem dm_at (r : Fin 2048) (c : Fin 1024) : (res_main_v96 V : Vec Ideal S2048x1024 .f32) (ix2 r c) = D.dm r c := by
  have e_dh2 := dh2_at H
  have h3 := H.h3
  unfold res_main_v96
  generalize res_main_v90 V = Y0 at e_dh2 ⊢
  generalize V (Proc.devRef .tc main_arg3) = X3 at h3 ⊢
  subst h3
  pointwise
  simp only [e_dh2]
  rfl

theorem along1_at (r : Fin 2048) (c : Fin 1024) : (res_main_v107 V : Vec Ideal S2048x1024 .f32) (ix2 r c) = along D.x1 D.dm r := by
  have e_x1 := x1_at H
  have e_dm := dm_at H
  have e_rn1 := rn1_at H
  have e_msq1 := msq1_at H
  unfold res_main_v107
  generalize res_main_v4 V = Y0 at e_x1 ⊢
  generalize res_main_v96 V = Y1 at e_dm ⊢
  generalize res_main_v12 V = Y2 at e_rn1 ⊢
  generalize res_main_v11 V = Y3 at e_msq1 ⊢
  pointwise
  simp only [e_x1, e_dm, e_rn1, e_msq1, Fin.sum_univ_one]
  rfl

theorem dx1_at (r : Fin 2048) (c : Fin 1024) : (res_main_v111 V : Vec Ideal S2048x1024 .f32) (ix2 r c) = D.dx1 r c := by
  have e_dx2 := dx2_at H
  have e_dm := dm_at H
  have e_rn1 := rn1_at H
  have e_x1 := x1_at H
  have e_along1 := along1_at H
  unfold res_main_v111
  generalize res_main_v76 V = Y0 at e_dx2 ⊢
  generalize res_main_v96 V = Y1 at e_dm ⊢
  generalize res_main_v12 V = Y2 at e_rn1 ⊢
  generalize res_main_v4 V = Y3 at e_x1 ⊢
  generalize res_main_v107 V = Y4 at e_along1 ⊢
  pointwise
  simp only [e_dx2, e_dm, e_rn1, e_x1, e_along1]
  show _ = normGrad D.x1 D.dm r c + D.dx2 r c
  rw [normGrad, add_comm (_ + _) (D.dx2 r c), ← add_assoc, ← add_assoc]

/-! ## The results -/

/-- The loss. -/
theorem loss_eq :
    (broadcastInDim S1x128 ![] bcast_S_S1x128 (mulf (constant S_ .f32 0x3F000000#32) (Host.reduceAdd (Host.divf (Host.reduceAdd (mulf (res_main_v43 V) (res_main_v43 V)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) : Vec Ideal S1x128 .f32) = row fun _ => D.loss := by
  have e_err := err_at H
  generalize res_main_v43 V = Y0 at e_err ⊢
  funext i
  obtain ⟨a, c, rfl⟩ : ∃ (a : Fin 1) (c : Fin 128), i = ix2 a c := ⟨i 0, i 1, eq_ix2 i⟩
  pointwise
  simp only [e_err]
  rfl

/-- The final norm's weights. -/
theorem dfw_eq :
    (shapeCast _ (Host.reduceAdd (mulf (res_main_v40 V) (res_main_v57 V)) (constant S_ .f32 0x00000000#32) reducesTo_S2048x1024_S1024_d0 h_S_) shapeCasts_S1024_S1x1024 : Vec Ideal S1x1024 .f32) = row D.dfw := by
  have e_s2 := s2_at H
  have e_dy := dy_at H
  generalize res_main_v40 V = Y0 at e_s2 ⊢
  generalize res_main_v57 V = Y1 at e_dy ⊢
  funext i
  obtain ⟨a, c, rfl⟩ : ∃ (a : Fin 1) (c : Fin 1024), i = ix2 a c := ⟨i 0, i 1, eq_ix2 i⟩
  pointwise
  simp only [e_s2, e_dy]
  rfl

/-- The second norm's weights. -/
theorem dn2_eq :
    (shapeCast _ (Host.reduceAdd (mulf (res_main_v17 V) (res_main_v90 V)) (constant S_ .f32 0x00000000#32) reducesTo_S2048x1024_S1024_d0 h_S_) shapeCasts_S1024_S1x1024 : Vec Ideal S1x1024 .f32) = row D.dn2 := by
  have e_s1 := s1_at H
  have e_dh2 := dh2_at H
  generalize res_main_v17 V = Y0 at e_s1 ⊢
  generalize res_main_v90 V = Y1 at e_dh2 ⊢
  funext i
  obtain ⟨a, c, rfl⟩ : ∃ (a : Fin 1) (c : Fin 1024), i = ix2 a c := ⟨i 0, i 1, eq_ix2 i⟩
  pointwise
  simp only [e_s1, e_dh2]
  rfl

/-- The down projection. -/
theorem gd_eq :
    (truncf .bf16 (shapeCast _ (transpose S2816x1024 [1, 0] (Host.dotGeneral (φ₁ := .f32) (φ₂ := .f32) dot_S2048x1024_S2048x2816_S1024x2816_0_0_1_1_n_n none (res_main_v76 V) (res_main_v25 V)) transposes_S1024x2816_S2816x1024_1_0) shapeCasts_S2816x1024_S4x704x1024) bitsLt_bf16_f32 : Vec Ideal S4x704x1024 .bf16) = slab D.gd := by
  have e_dx2 := dx2_at H
  have e_act := act_at H
  generalize res_main_v76 V = Y0 at e_dx2 ⊢
  generalize res_main_v25 V = Y1 at e_act ⊢
  funext i
  obtain ⟨a, k, c, rfl⟩ : ∃ (a : Fin 4) (k : Fin 704) (c : Fin 1024), i = ix3 a k c := ⟨i 0, i 1, i 2, eq_ix3 i⟩
  pointwise
  simp only [e_dx2, e_act]
  have hk : a.val * 704 + k.val = 704 * a.val + k.val := by rw [mul_comm]
  simp only [hk]
  exact Finset.sum_congr rfl fun r _ => mul_comm _ _

/-- The gate's projection. -/
theorem gg_eq :
    (truncf .bf16 (shapeCast _ (transpose S2816x1024 [1, 0] (transpose S1024x2816 [1, 0] (Host.dotGeneral (φ₁ := .f32) (φ₂ := .f32) dot_S2048x2816_S2048x1024_S2816x1024_0_0_1_1_n_n none (res_main_v86 V) (res_main_v19 V)) transposes_S2816x1024_S1024x2816_1_0) transposes_S1024x2816_S2816x1024_1_0) shapeCasts_S2816x1024_S4x704x1024) bitsLt_bf16_f32 : Vec Ideal S4x704x1024 .bf16) = slab D.gg := by
  have e_dgate := dgate_at H
  have e_h2 := h2_at H
  generalize res_main_v86 V = Y0 at e_dgate ⊢
  generalize res_main_v19 V = Y1 at e_h2 ⊢
  funext i
  obtain ⟨a, k, c, rfl⟩ : ∃ (a : Fin 4) (k : Fin 704) (c : Fin 1024), i = ix3 a k c := ⟨i 0, i 1, i 2, eq_ix3 i⟩
  pointwise
  simp only [e_dgate, e_h2]
  have hk : a.val * 704 + k.val = 704 * a.val + k.val := by rw [mul_comm]
  simp only [hk]
  rfl

/-- The up projection. -/
theorem gu_eq :
    (truncf .bf16 (shapeCast _ (transpose S2816x1024 [1, 0] (transpose S1024x2816 [1, 0] (Host.dotGeneral (φ₁ := .f32) (φ₂ := .f32) dot_S2048x2816_S2048x1024_S2816x1024_0_0_1_1_n_n none (res_main_v80 V) (res_main_v19 V)) transposes_S2816x1024_S1024x2816_1_0) transposes_S1024x2816_S2816x1024_1_0) shapeCasts_S2816x1024_S4x704x1024) bitsLt_bf16_f32 : Vec Ideal S4x704x1024 .bf16) = slab D.gu := by
  have e_dup := dup_at H
  have e_h2 := h2_at H
  generalize res_main_v80 V = Y0 at e_dup ⊢
  generalize res_main_v19 V = Y1 at e_h2 ⊢
  funext i
  obtain ⟨a, k, c, rfl⟩ : ∃ (a : Fin 4) (k : Fin 704) (c : Fin 1024), i = ix3 a k c := ⟨i 0, i 1, i 2, eq_ix3 i⟩
  pointwise
  simp only [e_dup, e_h2]
  have hk : a.val * 704 + k.val = 704 * a.val + k.val := by rw [mul_comm]
  simp only [hk]
  rfl

/-- The output projection. -/
theorem gout_eq :
    (truncf .bf16 (transpose S1024x1024 [1, 0] (Host.dotGeneral (φ₁ := .f32) (φ₂ := .f32) dot_S2048x1024_S2048x1024_S1024x1024_0_0_1_1_n_n none (res_main_v111 V) (V (Proc.devRef .tc main_arg0))) transposes_S1024x1024_S1024x1024_1_0) bitsLt_bf16_f32 : Vec Ideal S1024x1024 .bf16) = mat D.gout := by
  have e_dx1 := dx1_at H
  have h0 := H.h0
  generalize res_main_v111 V = Y0 at e_dx1 ⊢
  generalize V (Proc.devRef .tc main_arg0) = X0 at h0 ⊢
  subst h0
  funext i
  obtain ⟨k, c, rfl⟩ : ∃ (k c : Fin 1024), i = ix2 k c := ⟨i 0, i 1, eq_ix2 i⟩
  pointwise
  simp only [e_dx1]
  exact Finset.sum_congr rfl fun r _ => mul_comm _ _

/-- The attention's output. -/
theorem dmix_eq :
    (Host.dotGeneral (φ₁ := .f32) (φ₂ := .f32) dot_S2048x1024_S1024x1024_S2048x1024_1_1_0_0_n_n none (res_main_v111 V) (V (Proc.devRef .tc main_arg2)) : Vec Ideal S2048x1024 .f32) = mat D.dmix := by
  have e_dx1 := dx1_at H
  have h2 := H.h2
  generalize res_main_v111 V = Y0 at e_dx1 ⊢
  generalize V (Proc.devRef .tc main_arg2) = X2 at h2 ⊢
  subst h2
  funext i
  obtain ⟨r, k, rfl⟩ : ∃ (r : Fin 2048) (k : Fin 1024), i = ix2 r k := ⟨i 0, i 1, eq_ix2 i⟩
  pointwise
  simp only [e_dx1]
  rfl

/-- The residual stream. -/
theorem dx1_eq : (res_main_v111 V : Vec Ideal S2048x1024 .f32) = mat D.dx1 := by
  funext i
  obtain ⟨r, c, rfl⟩ : ∃ (r : Fin 2048) (c : Fin 1024), i = ix2 r c := ⟨i 0, i 1, eq_ix2 i⟩
  exact dx1_at H r c

end Cert.Proof.Ffn.Ref

end
-- ==== Proof.Ffn.Equal.lean ====
module

public import proofs.«01_k».proof.Defs
public import proofs.«01_k».proof.Proof.Ffn.Chain
public import proofs.«01_k».proof.Proof.Ffn.RefValue

/-!
# The second half's two programs agree

Whatever the arguments hold, the ten calls leave the quantities of `Spec`, and so does the reference.
-/

@[expose] public section

set_option maxRecDepth 16384

noncomputable section

namespace Cert.Proof.Ffn

open Idealize.ShloMosaic Idealize.ShloMosaic.TcCoe

/-! ## The kernel's side -/

section Kernel

open Cert.Kernel2Ideal Cert.Kernel2Ideal.Gen

variable {m : (ℓ : Loc nD τ sig) → Buf (Elt Ideal) ℓ}

/-- The ten calls leave the loss and the eight gradients. -/
theorem kernel_value {D : Dev nD → Data} (g : Dev nD → PrngReg)
    (H : ∀ c : Dev nD, Holds (D c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) :
    θ_run (defs (F := Ideal)) (onTc (τ := τ) (main (F := Ideal))) ⟨m, fun _ => 0, g⟩ (fun r => ∀ c : Dev nD,
      r.2.mem ((c.tc : Thread nD τ).loc main_v2_2) = row (fun _ => (D c).loss)
      ∧ r.2.mem ((c.tc : Thread nD τ).loc main_v2_3) = row (D c).dfw
      ∧ r.2.mem ((c.tc : Thread nD τ).loc main_v6_2) = row (D c).dn2
      ∧ r.2.mem ((c.tc : Thread nD τ).loc main_v4) = slab (D c).gd
      ∧ r.2.mem ((c.tc : Thread nD τ).loc main_v7_0) = slab (D c).gg
      ∧ r.2.mem ((c.tc : Thread nD τ).loc main_v7_1) = slab (D c).gu
      ∧ r.2.mem ((c.tc : Thread nD τ).loc main_v9) = mat (D c).gout
      ∧ r.2.mem ((c.tc : Thread nD τ).loc main_v8) = mat (D c).dmix
      ∧ r.2.mem ((c.tc : Thread nD τ).loc main_v6_0) = mat (D c).dx1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (value_run m g)
  obtain ⟨h0, h1, h2, h3, h4, h5, h6, h7, h8, hargs⟩ := h c
  exact ⟨h0.trans (at10_v2_2 g (H c)), h1.trans (at10_v2_3 g (H c)), h2.trans (at10_v6_2 g (H c)), h3.trans (at10_v4 g (H c)),
    h4.trans (at10_v7_0 g (H c)), h5.trans (at10_v7_1 g (H c)), h6.trans (at10_v9 g (H c)), h7.trans (at10_v8 g (H c)),
    h8.trans (at10_v6_0 g (H c)), hargs⟩

end Kernel

/-! ## The reference's side -/

section Reference

open Cert.Reference2Ideal Cert.Reference2Ideal.Gen Idealize.ShloMosaic.StableHlo

variable {m : (ℓ : Loc nD τ sig) → Buf (Elt Ideal) ℓ}

/-- The reference leaves the same loss and gradients. -/
theorem reference_value {D : Dev nD → Data} (g : Dev nD → PrngReg)
    (H : ∀ c : Dev nD, Holds (D c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) :
    θ_run (defs (F := Ideal)) (onTc (τ := τ) (main (F := Ideal))) ⟨m, fun _ => 0, g⟩ (fun r => ∀ c : Dev nD,
      r.2.mem ((c.tc : Thread nD τ).loc main_v115) = row (fun _ => (D c).loss)
      ∧ r.2.mem ((c.tc : Thread nD τ).loc main_v60) = row (D c).dfw
      ∧ r.2.mem ((c.tc : Thread nD τ).loc main_v94) = row (D c).dn2
      ∧ r.2.mem ((c.tc : Thread nD τ).loc main_v117) = slab (D c).gd
      ∧ r.2.mem ((c.tc : Thread nD τ).loc main_v119) = slab (D c).gg
      ∧ r.2.mem ((c.tc : Thread nD τ).loc main_v121) = slab (D c).gu
      ∧ r.2.mem ((c.tc : Thread nD τ).loc main_v122) = mat (D c).gout
      ∧ r.2.mem ((c.tc : Thread nD τ).loc main_v114) = mat (D c).dmix
      ∧ r.2.mem ((c.tc : Thread nD τ).loc main_v111) = mat (D c).dx1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Cert.Reference2Ideal.Value.run m g)
  obtain ⟨h0, h1, h2, h3, h4, h5, h6, h7, h8, hargs⟩ := h c
  have K : Holds (D c) (launchContents m c (Proc.devRef .tc main_arg0)) (launchContents m c (Proc.devRef .tc main_arg1))
      (launchContents m c (Proc.devRef .tc main_arg2)) (launchContents m c (Proc.devRef .tc main_arg3))
      (launchContents m c (Proc.devRef .tc main_arg4)) (launchContents m c (Proc.devRef .tc main_arg5))
      (launchContents m c (Proc.devRef .tc main_arg6)) (launchContents m c (Proc.devRef .tc main_arg7))
      (launchContents m c (Proc.devRef .tc main_arg8)) := H c
  exact ⟨h0.trans (Ref.loss_eq K), h1.trans (Ref.dfw_eq K), h2.trans (Ref.dn2_eq K), h3.trans (Ref.gd_eq K), h4.trans (Ref.gg_eq K),
    h5.trans (Ref.gu_eq K), h6.trans (Ref.gout_eq K), h7.trans (Ref.dmix_eq K), h8.trans (Ref.dx1_eq K), hargs⟩

/-- The reference terminates with its arguments unchanged and its counters at zero. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  refine (θ_run defs _ _).mono (fun r h => ⟨fun c => ?_, sem_eq_zero_of_no_sems (by decide) r.2⟩) (Cert.Reference2Ideal.Value.run m g)
  obtain ⟨-, -, -, -, -, -, -, -, -, hargs⟩ := h c
  exact hargs

end Reference

/-- Idealized kernel and reference end with equal results. -/
theorem agree : algebraic_Kernel2Ideal_Reference2Ideal (hKernel2Ideal := Cert.Kernel2Ideal.Gen.facts)
    (hReference2Ideal := Cert.Reference2Ideal.Gen.facts) := by
  intro m g m' g' _ hag
  choose D H using fun c : Dev Cert.Kernel2Ideal.nD => exists_holds
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
  refine ⟨fun c => row fun _ => (D c).loss, fun c => row (D c).dfw, fun c => row (D c).dn2, fun c => slab (D c).gd,
    fun c => slab (D c).gg, fun c => slab (D c).gu, fun c => mat (D c).gout, fun c => mat (D c).dmix, fun c => mat (D c).dx1,
    kernel_value g H, reference_value g' fun c => ?_⟩
  obtain ⟨e0, e1, e2, e3, e4, e5, e6, e7, e8⟩ := hag c
  rw [e0, e1, e2, e3, e4, e5, e6, e7, e8]
  exact H c

end Cert.Proof.Ffn

end
-- ==== Proof.Proj.Spec.lean ====
module

public import proofs.«01_k».proof.Proof.Ffn.Acc
public import proofs.«01_k».proof.Proof.Ffn.Calls
public import proofs.«01_k».proof.Proof.Ffn.Holds

/-!
# The input projection and the first norm, in plain words

RMS norm and projection, forward, and their gradients from the gradient of the projected rows and the gradient of the residual stream.
Every quantity is a function of natural numbers into the extended reals: a row and a column of the model (1024 wide), or a row and a column
of the projection (4224 wide).
-/

@[expose] public section

set_option maxRecDepth 16384

noncomputable section

namespace Cert.Proof.Proj

open Idealize.ShloMosaic
open Cert.Proof.Ffn (width eps negHalf msq rn along normGrad mat row origin2 ld_whole2 canon_whole2 row_parts exists_mat exists_row)

/-- The arguments: the residual stream, the norm's weights, the projection, the gradients of the projected rows and of the residual stream. -/
structure Data where
  x : ℕ → ℕ → EReal
  n1 : ℕ → EReal
  w : ℕ → ℕ → EReal
  dp : ℕ → ℕ → EReal
  d1 : ℕ → ℕ → EReal

namespace Data

variable (D : Data)

/-- The norm. -/
def h1 (r c : ℕ) : EReal := D.x r c * rn D.x r * D.n1 c
/-- The projected rows. -/
def proj (r q : ℕ) : EReal := ∑ c : Fin 1024, D.h1 r c * D.w q c
/-- The gradient of the norm. -/
def dh (r c : ℕ) : EReal := ∑ q : Fin 4224, D.dp r q * D.w q c
/-- The gradient of the scaled rows. -/
def dm (r c : ℕ) : EReal := D.dh r c * D.n1 c
/-- The gradient of the residual stream before the attention. -/
def dx (r c : ℕ) : EReal := normGrad D.x D.dm r c + D.d1 r c
/-- The gradient of the norm's weights. -/
def dn (c : ℕ) : EReal := ∑ r : Fin 2048, D.x r c * rn D.x r * D.dh r c
/-- The gradient of the projection. -/
def gw (q c : ℕ) : EReal := ∑ r : Fin 2048, D.dp r q * D.h1 r c

end Data

/-- What the arguments hold. -/
structure Holds (D : Data) (a0 : Vec Ideal ⟨2, ![2048, 1024]⟩ .f32) (a1 : Vec Ideal ⟨2, ![1, 1024]⟩ .f32) (a2 : Vec Ideal ⟨2, ![4224, 1024]⟩ .f32)
    (a3 : Vec Ideal ⟨2, ![2048, 4224]⟩ .f32) (a4 : Vec Ideal ⟨2, ![2048, 1024]⟩ .f32) : Prop where
  h0 : a0 = mat D.x
  h1 : a1 = row D.n1
  h2 : a2 = mat D.w
  h3 : a3 = mat D.dp
  h4 : a4 = mat D.d1

/-- Any arguments hold something. -/
theorem exists_holds (a0 : Vec Ideal ⟨2, ![2048, 1024]⟩ .f32) (a1 : Vec Ideal ⟨2, ![1, 1024]⟩ .f32) (a2 : Vec Ideal ⟨2, ![4224, 1024]⟩ .f32)
    (a3 : Vec Ideal ⟨2, ![2048, 4224]⟩ .f32) (a4 : Vec Ideal ⟨2, ![2048, 1024]⟩ .f32) : ∃ D, Holds D a0 a1 a2 a3 a4 := by
  obtain ⟨x, e0⟩ := exists_mat a0
  obtain ⟨n1, e1⟩ := exists_row a1
  obtain ⟨w, e2⟩ := exists_mat a2
  obtain ⟨dp, e3⟩ := exists_mat a3
  obtain ⟨d1, e4⟩ := exists_mat a4
  exact ⟨⟨x, n1, w, dp, d1⟩, e0, e1, e2, e3, e4⟩

end Cert.Proof.Proj

end
-- ==== Proof.Proj.Blocks.lean ====
module

public import proofs.«01_k».proof.Proof.Proj.Spec
public import proofs.«01_k».proof.Proof.Gen.Kernel3Ideal.Frame
public import Idealize.ShloMosaic.Lib.Pointwise

/-!
# What a block's computation is

What every call stores of its blocks, and that array at an index, of blocks that hold these rows of these quantities.
-/

@[expose] public section

set_option maxRecDepth 16384

noncomputable section

namespace Cert.Proof.Proj

open Cert.Kernel3Ideal Cert.Kernel3Ideal.Gen Idealize.ShloMosaic Idealize.ShloMosaic.TcCoe
open Cert.Proof.Ffn (width eps negHalf msq rn along normGrad mat row origin2 ld_whole2 canon_whole2 row_parts exists_mat exists_row)

/-! ## The stores -/

section Stores

variable {F : FTy → Type} [FloatOps F]

theorem out0_2_eq (x0 : Vec F S1x1024 .f32) (x1 : Vec F S512x1024 .f32) : out0_2 x0 x1 = k0_pay1 x0 x1 := by
  unfold out0_2
  simp only [r0_0, r0_1, canon_whole2, ld_whole2]

theorem out1_2_eq (x0 : Vec F S1024x1024 .bf16) (x1 : Vec F S1408x1024 .f32) : out1_2 x0 x1 = k1_pay1 x0 x1 := by
  unfold out1_2
  simp only [r1_0, r1_1, r1_2, canon_whole2, ld_whole2]

theorem out3_2_eq (x0 : Vec F S2048x1408 .f32) (x1 : Vec F S2048x1024 .bf16) : out3_2 x0 x1 = k3_pay1 x0 x1 := by
  unfold out3_2
  simp only [r3_0, r3_1, r3_2, canon_whole2, ld_whole2]

/-- The last of some stores, if it is over a whole buffer, is what the buffer then reads as. -/
theorem read_last {S : Shape} {e : EltTy} (v : View sig .tc .vmem S e) (f : v.ty.Contents (Elt F)) {off : Fin S.rank → ℕ}
    (h : off = fun _ => 0) (inb : ∀ a, off a + S.size a ≤ S.size a) (w : Vec F S e) (L : List (View.Piece (Elt F) S e)) :
    v.read (Elt F) (v.writes (Elt F) f (⟨Rect.unit off S.size inb, w⟩ :: L)) = w := by
  rw [View.read_writes_eq_canon v f _ fun y => ⟨_, List.mem_cons_self, View.mem_set_unit_zero h inb y⟩]
  exact View.canon_cons_unit_zero h inb w L

/-- A load of a whole buffer, after a store over all of it, reads what was stored. -/
theorem readCov_whole2 {a b : ℕ} {e : EltTy} (v : View sig .tc .vmem ⟨2, ![a, b]⟩ e)
    (inb : ∀ i, (![0, 0] : Fin 2 → ℕ) i + (![a, b] : Fin 2 → ℕ) i ≤ (⟨2, ![a, b]⟩ : Shape).size i) (w : Vec F ⟨2, ![a, b]⟩ e) :
    v.readCov [(⟨Rect.unit (s := ⟨2, ![a, b]⟩) ![0, 0] ![a, b] inb, w⟩ : View.Piece (Elt F) ⟨2, ![a, b]⟩ e)]
      (Rect.unit (s := ⟨2, ![a, b]⟩) ![0, 0] ![a, b] inb).toLoadRect = w :=
  View.readCov_unit_zero (S := ⟨2, ![a, b]⟩) v origin2 inb w

variable (V : (c : Dev nD) → (b : Ref sig .tc) → Buf (Elt F) ((c : Thread nD τ).loc b))

/-- The gradient of a block of the residual stream. -/
def bottom (x0 : Vec F S512x4224 .f32) (x1 : Vec F S4224x1024 .f32) (x2 x3 : Vec F S512x1024 .f32) (x4 : Vec F S1x1024 .f32) : FVec F S512x1024 .f32 :=
  k2_pay1 x2 x3 (k2_pay9 x0 x1 x2 x4) (k2_pay10 x0 x1 x2 x4)

/-- The first point of the call on the norm's gradients. -/
theorem outs2_first (c : Dev nD) (t : Fin cfg2.N) (h0 : t.val % 4 = 0) :
    outsAt2 V c t.val t.isLt = (bottom (iblk2 V c 0 t) (iblk2 V c 1 t) (iblk2 V c 2 t) (iblk2 V c 3 t) (iblk2 V c 4 t),
      k2_pay3 (k2_pay7 (iblk2 V c 0 t) (iblk2 V c 1 t) (iblk2 V c 2 t)) k2_pay2) := by
  rw [outsAt2_A V c t h0]
  unfold out2_A_5 out2_A_6
  dsimp only [kernelRun2_A]
  rw [read_last _ _ origin2, read_last _ _ origin2]
  simp only [kernelRun2_A.sl.r, kernelRun2_A.sl.r_1, kernelRun2_A.sl.r_2, kernelRun2_A.sl.r_3, kernelRun2_A.sl.r_4, kernelRun2_A.sl.v46, kernelRun2_A.sl.H6_1, readCov_whole2, View.readAt_eq_ld, Memref.IsWhole.read_unread, ld_whole2]
  rfl

/-- The other points add to what the point before left. -/
theorem outs2_next (c : Dev nD) (t : Fin cfg2.N) (h0 : ¬t.val % 4 = 0) :
    outsAt2 V c t.val t.isLt = (bottom (iblk2 V c 0 t) (iblk2 V c 1 t) (iblk2 V c 2 t) (iblk2 V c 3 t) (iblk2 V c 4 t),
      k2_pay3 (k2_pay7 (iblk2 V c 0 t) (iblk2 V c 1 t) (iblk2 V c 2 t)) (outsAt2 V c (t.val - 1) (Nat.lt_of_le_of_lt (Nat.sub_le _ _) t.isLt)).2) := by
  rw [outsAt2_B V c t h0]
  unfold out2_B_5 out2_B_6
  dsimp only [kernelRun2_B]
  rw [read_last _ _ origin2, read_last _ _ origin2]
  simp only [kernelRun2_B.sl.r, kernelRun2_B.sl.r_1, kernelRun2_B.sl.r_2, kernelRun2_B.sl.r_3, kernelRun2_B.sl.r_4, View.readAt_eq_ld, Memref.IsWhole.read_unread, ld_whole2]
  rfl

end Stores

/-! ## At an index -/

variable (D : Data)

/-- The norm. -/
theorem h1_block (o : ℕ) {x0 : Vec Ideal S1x1024 .f32} {x1 : Vec Ideal S512x1024 .f32} (h0 : ∀ r c, x0 (ix2 r c) = D.n1 c)
    (h1 : ∀ r c, x1 (ix2 r c) = D.x (o + r) c) (r : Fin 512) (c : Fin 1024) : k0_pay1 x0 x1 (ix2 r c) = D.h1 (o + r) c := by
  pointwise [k0_pay1]
  simp only [h0, h1]
  rfl

/-- The projection. -/
theorem proj_block (o p : ℕ) {x0 : Vec Ideal S1024x1024 .bf16} {x1 : Vec Ideal S1408x1024 .f32} (h0 : ∀ r c, x0 (ix2 r c) = D.h1 (o + r) c)
    (h1 : ∀ q c, x1 (ix2 q c) = D.w (p + q) c) (r : Fin 1024) (q : Fin 1408) : k1_pay1 x0 x1 (ix2 r q) = D.proj (o + r) (p + q) := by
  pointwise [k1_pay1]
  simp only [h0, h1]
  rfl

/-- The projection's gradient. -/
theorem gw_block (p : ℕ) {x0 : Vec Ideal S2048x1408 .f32} {x1 : Vec Ideal S2048x1024 .bf16} (h0 : ∀ r q, x0 (ix2 r q) = D.dp r (p + q))
    (h1 : ∀ r c, x1 (ix2 r c) = D.h1 r c) (q : Fin 1408) (c : Fin 1024) : k3_pay1 x0 x1 (ix2 q c) = D.gw (p + q) c := by
  pointwise [k3_pay1]
  simp only [h0, h1]
  rfl

section Norm

variable (o : ℕ) {p : Vec Ideal S512x4224 .f32} {w : Vec Ideal S4224x1024 .f32} {z u : Vec Ideal S512x1024 .f32} {n : Vec Ideal S1x1024 .f32}

theorem dh_block (hp : ∀ r q, p (ix2 r q) = D.dp (o + r) q) (hw : ∀ q c, w (ix2 q c) = D.w q c) (r : Fin 512) (c : Fin 1024) :
    k2_pay4 p w (ix2 r c) = D.dh (o + r) c := by
  pointwise [k2_pay4]
  simp only [hp, hw]
  rfl

variable (hG : ∀ r c, k2_pay4 p w (ix2 r c) = D.dh (o + r) c) (hz : ∀ r c, z (ix2 r c) = D.x (o + r) c)
  (hu : ∀ r c, u (ix2 r c) = D.d1 (o + r) c) (hn : ∀ a c, n (ix2 a c) = D.n1 c)

include hz

theorem msq_block (r : Fin 512) (a : Fin 1) : k2_pay5 z (ix2 r a) = msq D.x (o + r) := by
  pointwise [k2_pay5]
  simp only [hz]
  rfl

theorem rn_block (r : Fin 512) (a : Fin 1) : k2_pay6 z (ix2 r a) = rn D.x (o + r) := by
  have e := msq_block D o hz
  unfold k2_pay6
  generalize k2_pay5 z = X at e ⊢
  pointwise
  rw [e]
  rfl

include hG

/-- The gradient of the norm's weights, of a block of rows. -/
theorem dn_block (a : Fin 1) (c : Fin 1024) : k2_pay7 p w z (ix2 a c) = ∑ r : Fin 512, D.x (o + r) c * rn D.x (o + r) * D.dh (o + r) c := by
  have e := rn_block D o hz
  unfold k2_pay7
  generalize k2_pay6 z = X at e ⊢
  generalize k2_pay4 p w = Y at hG ⊢
  pointwise
  simp only [e, hG, hz]

include hn

omit hz in
theorem dm_block (r : Fin 512) (c : Fin 1024) : k2_pay8 p w n (ix2 r c) = D.dm (o + r) c := by
  unfold k2_pay8
  generalize k2_pay4 p w = Y at hG ⊢
  pointwise
  rw [hG, hn]
  rfl

theorem along_block (r : Fin 512) (c : Fin 1024) : k2_pay9 p w z n (ix2 r c) = along D.x D.dm (o + r) := by
  have e := rn_block D o hz
  have e' := msq_block D o hz
  have e'' := dm_block D o hG hn
  unfold k2_pay9
  generalize k2_pay6 z = X at e ⊢
  generalize k2_pay5 z = Z at e' ⊢
  generalize k2_pay8 p w n = Y at e'' ⊢
  pointwise
  simp only [e, e', e'', hz, Fin.sum_univ_one]
  rfl

include hu

/-- The gradient of the residual stream before the attention. -/
theorem dx_block (r : Fin 512) (c : Fin 1024) : bottom p w z u n (ix2 r c) = D.dx (o + r) c := by
  have e := rn_block D o hz
  have e' := along_block D o hG hz hn
  have e'' := dm_block D o hG hn
  unfold bottom k2_pay10
  generalize k2_pay6 z = X at e ⊢
  generalize k2_pay9 p w z n = Z at e' ⊢
  generalize k2_pay8 p w n = Y at e'' ⊢
  pointwise [k2_pay1]
  rw [e, e', e'', hz, hu]
  rfl

end Norm

theorem addNorm (y : FVec Ideal S1x1024 .f32) (x : Vec Ideal S1x1024 .f32) (a : Fin 1) (c : Fin 1024) : k2_pay3 y x (ix2 a c) = x (ix2 a c) + y (ix2 a c) := by
  pointwise [k2_pay3]

theorem zeroNorm (a : Fin 1) (c : Fin 1024) : (k2_pay2 : FVec Ideal S1x1024 .f32) (ix2 a c) = 0 := by
  pointwise [k2_pay2]

end Cert.Proof.Proj

end
-- ==== Proof.Proj.Grid.lean ====
module

public import proofs.«01_k».proof.Proof.Proj.Spec
public import proofs.«01_k».proof.Proof.Gen.Kernel3Ideal.Frame

/-!
# Blocks and arrays

Where every window's block lies, what it reads of an array that is known, and which array the written blocks make up together.
-/

@[expose] public section

set_option maxRecDepth 16384

noncomputable section

namespace Cert.Proof.Proj

open Cert.Kernel3Ideal Cert.Kernel3Ideal.Gen Idealize.ShloMosaic Idealize.ShloMosaic.TcCoe
open Cert.Proof.Ffn (width eps negHalf msq rn along normGrad mat row origin2 ld_whole2 canon_whole2 row_parts exists_mat exists_row mat_at row_at)

variable {V : (c : Dev nD) → (b : Ref sig .tc) → Buf (Elt Ideal) ((c : Thread nD τ).loc b)} (d : Dev nD)

/-! ## Call 0 -/

theorem index0_0 : ∀ t : Fin grid0.N, win0_0.index t 0 = 0 ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = t.val ∧ win0_2.index t 1 = 0 := by decide +kernel

theorem in0_0 {f : ℕ → EReal} (h : (V d main_arg1 : Vec Ideal S1x1024 .f32) = row f) (t : Fin cfg0.N) (r : Fin 1) (c : Fin 1024) :
    iblk0 V d 0 t (ix2 r c) = f c := (congrFun h _).trans (row_at
    (by show win0_0.index t 1 * 1024 + 1 * c.val = c.val; rw [(index0_0 t).2]; omega))

theorem in0_1 {f : ℕ → ℕ → EReal} (h : (V d main_arg0 : Vec Ideal S2048x1024 .f32) = mat f) (t : Fin cfg0.N) (r : Fin 512) (c : Fin 1024) :
    iblk0 V d 1 t (ix2 r c) = f (512 * t.val + r) c := (congrFun h _).trans (mat_at
    (by show win0_1.index t 0 * 512 + 1 * r.val = 512 * t.val + r.val; rw [(index0_1 t).1]; omega)
    (by show win0_1.index t 1 * 1024 + 1 * c.val = c.val; rw [(index0_1 t).2]; omega))

theorem final0_2 {g : ℕ → ℕ → EReal} (h : ∀ t : Fin cfg0.N, ∀ (r : Fin 512) (c : Fin 1024), ((dat0 V d).after 2 t : Vec Ideal S512x1024 .bf16) (ix2 r c) = g (512 * t.val + r) c) :
    ((dat0 V d).arrAt 2 cfg0.N : Vec Ideal S2048x1024 .bf16) = (mat g : Vec Ideal S2048x1024 .bf16) :=
  (dat0 V d).arrAt_eq_of_cover 2 (mat g : Vec Ideal S2048x1024 .bf16) (fun t _ => by
    show (cfg0.win 2).cut (grid0.coords t) ((dat0 V d).after 2 t) = _
    funext j
    obtain ⟨r, c, rfl⟩ : ∃ (r : Fin 512) (c : Fin 1024), j = ix2 r c := ⟨j 0, j 1, eq_ix2 j⟩
    exact (h t r c).trans (mat_at
      (by show win0_2.index t 0 * 512 + 1 * r.val = 512 * t.val + r.val; rw [(index0_2 t).1]; omega)
      (by show win0_2.index t 1 * 1024 + 1 * c.val = c.val; rw [(index0_2 t).2]; omega)).symm) fun i => by
    have h0 : (i 0).val < 2048 := (i 0).isLt
    have h1 : (i 1).val < 1024 := (i 1).isLt
    obtain ⟨t, ht⟩ : ∃ t : Fin cfg0.N, t.val = (i 0).val / 512 := ⟨⟨(i 0).val / 512, Nat.lt_of_lt_of_eq (by omega) N_0.symm⟩, rfl⟩
    have hi := index0_2 t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 512 ≤ (i 0).val ∧ (i 0).val < win0_2.index t 0 * 512 + 512
      rw [hi.1]; omega
    | ⟨1, _⟩ =>
      show win0_2.index t 1 * 1024 ≤ (i 1).val ∧ (i 1).val < win0_2.index t 1 * 1024 + 1024
      rw [hi.2]; omega

/-! ## Call 1 -/

theorem index1_0 : ∀ t : Fin grid1.N, win1_0.index t 0 = t.val / 3 ∧ win1_0.index t 1 = 0 := by decide +kernel
theorem index1_1 : ∀ t : Fin grid1.N, win1_1.index t 0 = t.val % 3 ∧ win1_1.index t 1 = 0 := by decide +kernel
theorem index1_2 : ∀ t : Fin grid1.N, win1_2.index t 0 = t.val / 3 ∧ win1_2.index t 1 = t.val % 3 := by decide +kernel

theorem in1_0 {f : ℕ → ℕ → EReal} (h : (V d main_v0 : Vec Ideal S2048x1024 .bf16) = mat f) (t : Fin cfg1.N) (r : Fin 1024) (c : Fin 1024) :
    iblk1 V d 0 t (ix2 r c) = f (1024 * (t.val / 3) + r) c := (congrFun h _).trans (mat_at
    (by show win1_0.index t 0 * 1024 + 1 * r.val = 1024 * (t.val / 3) + r.val; rw [(index1_0 t).1]; omega)
    (by show win1_0.index t 1 * 1024 + 1 * c.val = c.val; rw [(index1_0 t).2]; omega))

theorem in1_1 {f : ℕ → ℕ → EReal} (h : (V d main_arg2 : Vec Ideal S4224x1024 .f32) = mat f) (t : Fin cfg1.N) (r : Fin 1408) (c : Fin 1024) :
    iblk1 V d 1 t (ix2 r c) = f (1408 * (t.val % 3) + r) c := (congrFun h _).trans (mat_at
    (by show win1_1.index t 0 * 1408 + 1 * r.val = 1408 * (t.val % 3) + r.val; rw [(index1_1 t).1]; omega)
    (by show win1_1.index t 1 * 1024 + 1 * c.val = c.val; rw [(index1_1 t).2]; omega))

theorem final1_2 {g : ℕ → ℕ → EReal} (h : ∀ t : Fin cfg1.N, ∀ (r : Fin 1024) (c : Fin 1408), ((dat1 V d).after 2 t : Vec Ideal S1024x1408 .f32) (ix2 r c) = g (1024 * (t.val / 3) + r) (1408 * (t.val % 3) + c)) :
    ((dat1 V d).arrAt 2 cfg1.N : Vec Ideal S2048x4224 .f32) = (mat g : Vec Ideal S2048x4224 .f32) :=
  (dat1 V d).arrAt_eq_of_cover 2 (mat g : Vec Ideal S2048x4224 .f32) (fun t _ => by
    show (cfg1.win 2).cut (grid1.coords t) ((dat1 V d).after 2 t) = _
    funext j
    obtain ⟨r, c, rfl⟩ : ∃ (r : Fin 1024) (c : Fin 1408), j = ix2 r c := ⟨j 0, j 1, eq_ix2 j⟩
    exact (h t r c).trans (mat_at
      (by show win1_2.index t 0 * 1024 + 1 * r.val = 1024 * (t.val / 3) + r.val; rw [(index1_2 t).1]; omega)
      (by show win1_2.index t 1 * 1408 + 1 * c.val = 1408 * (t.val % 3) + c.val; rw [(index1_2 t).2]; omega)).symm) fun i => by
    have h0 : (i 0).val < 2048 := (i 0).isLt
    have h1 : (i 1).val < 4224 := (i 1).isLt
    obtain ⟨t, ht⟩ : ∃ t : Fin cfg1.N, t.val = 3 * ((i 0).val / 1024) + (i 1).val / 1408 := ⟨⟨3 * ((i 0).val / 1024) + (i 1).val / 1408, Nat.lt_of_lt_of_eq (by omega) N_1.symm⟩, rfl⟩
    have hi := index1_2 t
    refine ⟨t, flush1_2 t, ?_⟩
    show i ∈ ((View.whole main_v1).slice (win1_2.rect t)).set
    rw [View.set_slice_whole, Rect.mem_set_unit]
    intro a
    match a with
    | ⟨0, _⟩ =>
      show win1_2.index t 0 * 1024 ≤ (i 0).val ∧ (i 0).val < win1_2.index t 0 * 1024 + 1024
      rw [hi.1]; omega
    | ⟨1, _⟩ =>
      show win1_2.index t 1 * 1408 ≤ (i 1).val ∧ (i 1).val < win1_2.index t 1 * 1408 + 1408
      rw [hi.2]; omega

/-! ## Call 2 -/

theorem index2_0 : ∀ t : Fin grid2.N, win2_0.index t 0 = t.val ∧ win2_0.index t 1 = 0 := by decide +kernel
theorem index2_1 : ∀ t : Fin grid2.N, win2_1.index t 0 = 0 ∧ win2_1.index t 1 = 0 := by decide +kernel
theorem index2_2 : ∀ t : Fin grid2.N, win2_2.index t 0 = t.val ∧ win2_2.index t 1 = 0 := by decide +kernel
theorem index2_3 : ∀ t : Fin grid2.N, win2_3.index t 0 = t.val ∧ win2_3.index t 1 = 0 := by decide +kernel
theorem index2_4 : ∀ t : Fin grid2.N, win2_4.index t 0 = 0 ∧ win2_4.index t 1 = 0 := by decide +kernel
theorem index2_5 : ∀ t : Fin grid2.N, win2_5.index t 0 = t.val ∧ win2_5.index t 1 = 0 := by decide +kernel
theorem index2_6 : ∀ t : Fin grid2.N, win2_6.index t 0 = 0 ∧ win2_6.index t 1 = 0 := by decide +kernel

theorem in2_0 {f : ℕ → ℕ → EReal} (h : (V d main_arg3 : Vec Ideal S2048x4224 .f32) = mat f) (t : Fin cfg2.N) (r : Fin 512) (c : Fin 4224) :
    iblk2 V d 0 t (ix2 r c) = f (512 * t.val + r) c := (congrFun h _).trans (mat_at
    (by show win2_0.index t 0 * 512 + 1 * r.val = 512 * t.val + r.val; rw [(index2_0 t).1]; omega)
    (by show win2_0.index t 1 * 4224 + 1 * c.val = c.val; rw [(index2_0 t).2]; omega))

theorem in2_1 {f : ℕ → ℕ → EReal} (h : (V d main_arg2 : Vec Ideal S4224x1024 .f32) = mat f) (t : Fin cfg2.N) (r : Fin 4224) (c : Fin 1024) :
    iblk2 V d 1 t (ix2 r c) = f r c := (congrFun h _).trans (mat_at
    (by show win2_1.index t 0 * 4224 + 1 * r.val = r.val; rw [(index2_1 t).1]; omega)
    (by show win2_1.index t 1 * 1024 + 1 * c.val = c.val; rw [(index2_1 t).2]; omega))

theorem in2_2 {f : ℕ → ℕ → EReal} (h : (V d main_arg0 : Vec Ideal S2048x1024 .f32) = mat f) (t : Fin cfg2.N) (r : Fin 512) (c : Fin 1024) :
    iblk2 V d 2 t (ix2 r c) = f (512 * t.val + r) c := (congrFun h _).trans (mat_at
    (by show win2_2.index t 0 * 512 + 1 * r.val = 512 * t.val + r.val; rw [(index2_2 t).1]; omega)
    (by show win2_2.index t 1 * 1024 + 1 * c.val = c.val; rw [(index2_2 t).2]; omega))

theorem in2_3 {f : ℕ → ℕ → EReal} (h : (V d main_arg4 : Vec Ideal S2048x1024 .f32) = mat f) (t : Fin cfg2.N) (r : Fin 512) (c : Fin 1024) :
    iblk2 V d 3 t (ix2 r c) = f (512 * t.val + r) c := (congrFun h _).trans (mat_at
    (by show win2_3.index t 0 * 512 + 1 * r.val = 512 * t.val + r.val; rw [(index2_3 t).1]; omega)
    (by show win2_3.index t 1 * 1024 + 1 * c.val = c.val; rw [(index2_3 t).2]; omega))

theorem in2_4 {f : ℕ → EReal} (h : (V d main_arg1 : Vec Ideal S1x1024 .f32) = row f) (t : Fin cfg2.N) (r : Fin 1) (c : Fin 1024) :
    iblk2 V d 4 t (ix2 r c) = f c := (congrFun h _).trans (row_at
    (by show win2_4.index t 1 * 1024 + 1 * c.val = c.val; rw [(index2_4 t).2]; omega))

theorem final2_5 {g : ℕ → ℕ → EReal} (h : ∀ t : Fin cfg2.N, ∀ (r : Fin 512) (c : Fin 1024), ((dat2 V d).after 5 t : Vec Ideal S512x1024 .f32) (ix2 r c) = g (512 * t.val + r) c) :
    ((dat2 V d).arrAt 5 cfg2.N : Vec Ideal S2048x1024 .f32) = (mat g : Vec Ideal S2048x1024 .f32) :=
  (dat2 V d).arrAt_eq_of_cover 5 (mat g : Vec Ideal S2048x1024 .f32) (fun t _ => by
    show (cfg2.win 5).cut (grid2.coords t) ((dat2 V d).after 5 t) = _
    funext j
    obtain ⟨r, c, rfl⟩ : ∃ (r : Fin 512) (c : Fin 1024), j = ix2 r c := ⟨j 0, j 1, eq_ix2 j⟩
    exact (h t r c).trans (mat_at
      (by show win2_5.index t 0 * 512 + 1 * r.val = 512 * t.val + r.val; rw [(index2_5 t).1]; omega)
      (by show win2_5.index t 1 * 1024 + 1 * c.val = c.val; rw [(index2_5 t).2]; omega)).symm) fun i => by
    have h0 : (i 0).val < 2048 := (i 0).isLt
    have h1 : (i 1).val < 1024 := (i 1).isLt
    obtain ⟨t, ht⟩ : ∃ t : Fin cfg2.N, t.val = (i 0).val / 512 := ⟨⟨(i 0).val / 512, Nat.lt_of_lt_of_eq (by omega) N_2.symm⟩, rfl⟩
    have hi := index2_5 t
    refine ⟨t, flush2_5 t, ?_⟩
    show i ∈ ((View.whole main_v2_0).slice (win2_5.rect t)).set
    rw [View.set_slice_whole, Rect.mem_set_unit]
    intro a
    match a with
    | ⟨0, _⟩ =>
      show win2_5.index t 0 * 512 ≤ (i 0).val ∧ (i 0).val < win2_5.index t 0 * 512 + 512
      rw [hi.1]; omega
    | ⟨1, _⟩ =>
      show win2_5.index t 1 * 1024 ≤ (i 1).val ∧ (i 1).val < win2_5.index t 1 * 1024 + 1024
      rw [hi.2]; omega

theorem flushed2_6 {g : ℕ → EReal} (h : ∀ t : Fin cfg2.N, t.val = 3 → ∀ (r : Fin 1) (c : Fin 1024), ((dat2 V d).after 6 t : Vec Ideal S1x1024 .f32) (ix2 r c) = g c)
    (t : Fin cfg2.N) (hf : (cfg2.win 6).flush t = true) :
    (dat2 V d).flushed 6 t = ((cfg2.win 6).blk t).view.read (Elt Ideal) (row g : Vec Ideal S1x1024 .f32) := by
  show (cfg2.win 6).cut (grid2.coords t) ((dat2 V d).after 6 t) = _
  funext j
  obtain ⟨r, c, rfl⟩ : ∃ (r : Fin 1) (c : Fin 1024), j = ix2 r c := ⟨j 0, j 1, eq_ix2 j⟩
  have h3 : t.val = 3 := by
    have ht : t.val < 4 := Nat.lt_of_lt_of_eq t.isLt N_2
    have hm := (flush2_6 t).mp hf
    omega
  exact (h t h3 r c).trans (row_at (by show win2_6.index t 1 * 1024 + 1 * c.val = c.val; rw [(index2_6 t).2]; omega)).symm

theorem final2_6 {g : ℕ → EReal} (h : ∀ t : Fin cfg2.N, t.val = 3 → ∀ (r : Fin 1) (c : Fin 1024), ((dat2 V d).after 6 t : Vec Ideal S1x1024 .f32) (ix2 r c) = g c) :
    ((dat2 V d).arrAt 6 cfg2.N : Vec Ideal S1x1024 .f32) = (row g : Vec Ideal S1x1024 .f32) :=
  (dat2 V d).arrAt_eq_of_cover 6 (row g : Vec Ideal S1x1024 .f32) (flushed2_6 d h) fun i => by
    have h0 : (i 0).val < 1 := (i 0).isLt
    have h1 : (i 1).val < 1024 := (i 1).isLt
    obtain ⟨t, ht⟩ : ∃ t : Fin cfg2.N, t.val = 3 := ⟨⟨3, Nat.lt_of_lt_of_eq (by omega) N_2.symm⟩, rfl⟩
    have hi := index2_6 t
    refine ⟨t, (flush2_6 t).mpr (by omega), ?_⟩
    show i ∈ ((View.whole main_v2_1).slice (win2_6.rect t)).set
    rw [View.set_slice_whole, Rect.mem_set_unit]
    intro a
    match a with
    | ⟨0, _⟩ =>
      show win2_6.index t 0 * 1 ≤ (i 0).val ∧ (i 0).val < win2_6.index t 0 * 1 + 1
      rw [hi.1]; omega
    | ⟨1, _⟩ =>
      show win2_6.index t 1 * 1024 ≤ (i 1).val ∧ (i 1).val < win2_6.index t 1 * 1024 + 1024
      rw [hi.2]; omega

/-! ## Call 3 -/

theorem index3_0 : ∀ t : Fin grid3.N, win3_0.index t 0 = 0 ∧ win3_0.index t 1 = t.val := by decide +kernel
theorem index3_1 : ∀ t : Fin grid3.N, win3_1.index t 0 = 0 ∧ win3_1.index t 1 = 0 := by decide +kernel
theorem index3_2 : ∀ t : Fin grid3.N, win3_2.index t 0 = t.val ∧ win3_2.index t 1 = 0 := by decide +kernel

theorem in3_0 {f : ℕ → ℕ → EReal} (h : (V d main_arg3 : Vec Ideal S2048x4224 .f32) = mat f) (t : Fin cfg3.N) (r : Fin 2048) (c : Fin 1408) :
    iblk3 V d 0 t (ix2 r c) = f r (1408 * t.val + c) := (congrFun h _).trans (mat_at
    (by show win3_0.index t 0 * 2048 + 1 * r.val = r.val; rw [(index3_0 t).1]; omega)
    (by show win3_0.index t 1 * 1408 + 1 * c.val = 1408 * t.val + c.val; rw [(index3_0 t).2]; omega))

theorem in3_1 {f : ℕ → ℕ → EReal} (h : (V d main_v0 : Vec Ideal S2048x1024 .bf16) = mat f) (t : Fin cfg3.N) (r : Fin 2048) (c : Fin 1024) :
    iblk3 V d 1 t (ix2 r c) = f r c := (congrFun h _).trans (mat_at
    (by show win3_1.index t 0 * 2048 + 1 * r.val = r.val; rw [(index3_1 t).1]; omega)
    (by show win3_1.index t 1 * 1024 + 1 * c.val = c.val; rw [(index3_1 t).2]; omega))

theorem final3_2 {g : ℕ → ℕ → EReal} (h : ∀ t : Fin cfg3.N, ∀ (r : Fin 1408) (c : Fin 1024), ((dat3 V d).after 2 t : Vec Ideal S1408x1024 .f32) (ix2 r c) = g (1408 * t.val + r) c) :
    ((dat3 V d).arrAt 2 cfg3.N : Vec Ideal S4224x1024 .f32) = (mat g : Vec Ideal S4224x1024 .f32) :=
  (dat3 V d).arrAt_eq_of_cover 2 (mat g : Vec Ideal S4224x1024 .f32) (fun t _ => by
    show (cfg3.win 2).cut (grid3.coords t) ((dat3 V d).after 2 t) = _
    funext j
    obtain ⟨r, c, rfl⟩ : ∃ (r : Fin 1408) (c : Fin 1024), j = ix2 r c := ⟨j 0, j 1, eq_ix2 j⟩
    exact (h t r c).trans (mat_at
      (by show win3_2.index t 0 * 1408 + 1 * r.val = 1408 * t.val + r.val; rw [(index3_2 t).1]; omega)
      (by show win3_2.index t 1 * 1024 + 1 * c.val = c.val; rw [(index3_2 t).2]; omega)).symm) fun i => by
    have h0 : (i 0).val < 4224 := (i 0).isLt
    have h1 : (i 1).val < 1024 := (i 1).isLt
    obtain ⟨t, ht⟩ : ∃ t : Fin cfg3.N, t.val = (i 0).val / 1408 := ⟨⟨(i 0).val / 1408, Nat.lt_of_lt_of_eq (by omega) N_3.symm⟩, rfl⟩
    have hi := index3_2 t
    refine ⟨t, flush3_2 t, ?_⟩
    show i ∈ ((View.whole main_v3).slice (win3_2.rect t)).set
    rw [View.set_slice_whole, Rect.mem_set_unit]
    intro a
    match a with
    | ⟨0, _⟩ =>
      show win3_2.index t 0 * 1408 ≤ (i 0).val ∧ (i 0).val < win3_2.index t 0 * 1408 + 1408
      rw [hi.1]; omega
    | ⟨1, _⟩ =>
      show win3_2.index t 1 * 1024 ≤ (i 1).val ∧ (i 1).val < win3_2.index t 1 * 1024 + 1024
      rw [hi.2]; omega

end Cert.Proof.Proj

end
-- ==== Proof.Proj.Calls.lean ====
module

public import proofs.«01_k».proof.Proof.Proj.Blocks
public import proofs.«01_k».proof.Proof.Proj.Grid

/-!
# The four calls

What every call leaves in its arrays, from what it finds in them.
-/

@[expose] public section

set_option maxRecDepth 16384

noncomputable section

namespace Cert.Proof.Proj

open Cert.Kernel3Ideal Cert.Kernel3Ideal.Gen Idealize.ShloMosaic Idealize.ShloMosaic.TcCoe
open Cert.Proof.Ffn (width eps negHalf msq rn along normGrad mat row origin2 ld_whole2 canon_whole2 row_parts exists_mat exists_row)

variable {V : (c : Dev nD) → (b : Ref sig .tc) → Buf (Elt Ideal) ((c : Thread nD τ).loc b)} (d : Dev nD) (D : Data)

/-- The norm. -/
theorem call0_2 (h0 : (V d main_arg1 : Vec Ideal S1x1024 .f32) = row D.n1) (h1 : (V d main_arg0 : Vec Ideal S2048x1024 .f32) = mat D.x) :
    ((dat0 V d).arrAt 2 cfg0.N : Vec Ideal S2048x1024 .bf16) = mat D.h1 :=
  final0_2 d fun t r c => by
    rw [after0_2, out0_2_eq]
    exact h1_block D (512 * t.val) (in0_0 d h0 t) (in0_1 d h1 t) r c

/-- The projection. -/
theorem call1_2 (h0 : (V d main_v0 : Vec Ideal S2048x1024 .bf16) = mat D.h1) (h1 : (V d main_arg2 : Vec Ideal S4224x1024 .f32) = mat D.w) :
    ((dat1 V d).arrAt 2 cfg1.N : Vec Ideal S2048x4224 .f32) = mat D.proj :=
  final1_2 d fun t r c => by
    rw [after1_2, out1_2_eq]
    exact proj_block D (1024 * (t.val / 3)) (1408 * (t.val % 3)) (in1_0 d h0 t) (in1_1 d h1 t) r c

/-- The projection's gradient. -/
theorem call3_2 (h0 : (V d main_arg3 : Vec Ideal S2048x4224 .f32) = mat D.dp) (h1 : (V d main_v0 : Vec Ideal S2048x1024 .bf16) = mat D.h1) :
    ((dat3 V d).arrAt 2 cfg3.N : Vec Ideal S4224x1024 .f32) = mat D.gw :=
  final3_2 d fun t q c => by
    rw [after3_2, out3_2_eq]
    exact gw_block D (1408 * t.val) (in3_0 d h0 t) (in3_1 d h1 t) q c

/-! ## The norm's gradients -/

section Norm

variable (h0 : (V d main_arg3 : Vec Ideal S2048x4224 .f32) = mat D.dp) (h1 : (V d main_arg2 : Vec Ideal S4224x1024 .f32) = mat D.w)
  (h2 : (V d main_arg0 : Vec Ideal S2048x1024 .f32) = mat D.x) (h3 : (V d main_arg4 : Vec Ideal S2048x1024 .f32) = mat D.d1)
  (h4 : (V d main_arg1 : Vec Ideal S1x1024 .f32) = row D.n1)

include h0 h1 in
theorem dh_at (t : Fin cfg2.N) (r : Fin 512) (c : Fin 1024) : k2_pay4 (iblk2 V d 0 t) (iblk2 V d 1 t) (ix2 r c) = D.dh (512 * t.val + r) c :=
  dh_block D (512 * t.val) (in2_0 d h0 t) (in2_1 d h1 t) r c

include h0 h1 h2

theorem dn_at (t : Fin cfg2.N) (a : Fin 1) (c : Fin 1024) : k2_pay7 (iblk2 V d 0 t) (iblk2 V d 1 t) (iblk2 V d 2 t) (ix2 a c)
    = ∑ r : Fin 512, D.x (512 * t.val + r) c * rn D.x (512 * t.val + r) * D.dh (512 * t.val + r) c :=
  dn_block D (512 * t.val) (dh_at d D h0 h1 t) (in2_2 d h2 t) a c

/-- The norm's weights' gradient so far. -/
theorem sums2 (a : Fin 1) (c : Fin 1024) : ∀ n, (h : n < cfg2.N) → (outsAt2 V d n h).2 (ix2 a c)
    = ∑ k ∈ Finset.range (n + 1), ∑ r : Fin 512, D.x (512 * k + r) c * rn D.x (512 * k + r) * D.dh (512 * k + r) c
  | 0, h => by
    rw [show outsAt2 V d 0 h = _ from outs2_first V d ⟨0, h⟩ rfl]
    refine (addNorm _ _ a c).trans ?_
    rw [zeroNorm, dn_at d D h0 h1 h2]
    simp
  | n + 1, h => by
    have h4' : n + 1 < 4 := Nat.lt_of_lt_of_eq h N_2
    rw [show outsAt2 V d (n + 1) h = _ from outs2_next V d ⟨n + 1, h⟩ (by dsimp only; omega)]
    refine (addNorm _ _ a c).trans ?_
    rw [dn_at d D h0 h1 h2, Finset.sum_range_succ _ (n + 1)]
    exact congrArg (· + _) (sums2 a c n (Nat.lt_of_succ_lt h))

/-- The gradient of the norm's weights. -/
theorem call2_6 : ((dat2 V d).arrAt 6 cfg2.N : Vec Ideal S1x1024 .f32) = row D.dn :=
  final2_6 d fun t ht a c => by
    rw [after2_6]
    refine (sums2 d D h0 h1 h2 a c t.val t.isLt).trans ?_
    rw [ht]
    exact row_parts fun r => D.x r c * rn D.x r * D.dh r c

include h3 h4

theorem bottom_at (t : Fin cfg2.N) (r : Fin 512) (c : Fin 1024) :
    bottom (iblk2 V d 0 t) (iblk2 V d 1 t) (iblk2 V d 2 t) (iblk2 V d 3 t) (iblk2 V d 4 t) (ix2 r c) = D.dx (512 * t.val + r) c :=
  dx_block D (512 * t.val) (dh_at d D h0 h1 t) (in2_2 d h2 t) (in2_3 d h3 t) (in2_4 d h4 t) r c

/-- The gradient of the residual stream before the attention. -/
theorem call2_5 : ((dat2 V d).arrAt 5 cfg2.N : Vec Ideal S2048x1024 .f32) = mat D.dx :=
  final2_5 d fun t r c => by
    rw [after2_5]
    by_cases ht : t.val % 4 = 0
    · rw [outs2_first V d t ht]
      exact bottom_at d D h0 h1 h2 h3 h4 t r c
    · rw [outs2_next V d t ht]
      exact bottom_at d D h0 h1 h2 h3 h4 t r c

end Norm

end Cert.Proof.Proj

end
-- ==== Proof.Proj.Run.lean ====
module

public import proofs.«01_k».proof.Proof.Gen.Kernel3Ideal.Frame

/-!
# The run of the four calls

Every execution ends with the results holding what the fold of the four calls over the launch memory says, and the arguments unchanged.
-/

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The results, as the fold over the calls says them, and the arguments. -/
theorem value_run : θ_run defs (onTc (τ := τ) (main (F := F))) ⟨m, fun _ => 0, ρ⟩ (fun r => ∀ c : Dev nD,
      r.2.mem ((c.tc : Thread nD τ).loc main_v1) = W4 m ρ c (Proc.devRef .tc main_v1)
      ∧ r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v1 (by decide)),
       h c _ (mem_uc main_v2_0 (by decide)),
       h c _ (mem_uc main_v2_1 (by decide)),
       h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Proof.Proj

end
-- ==== Proof.Proj.RefValue.lean ====
module

public import proofs.«01_k».proof.Proof.Proj.Spec
public import proofs.«01_k».proof.Proof.Gen.Reference3Ideal.Run
public import Idealize.ShloMosaic.Lib.Pointwise

/-!
# The reference's results

Every stage of the reference, read at an index, is a quantity of `Spec`.
-/

@[expose] public section

set_option maxRecDepth 16384

noncomputable section

namespace Cert.Proof.Proj.Ref

open Cert.Reference3Ideal Cert.Reference3Ideal.Gen Cert.Reference3Ideal.Value Idealize.ShloMosaic Idealize.ShloMosaic.TcCoe
open Cert.Proof.Ffn (width eps negHalf msq rn along normGrad mat row origin2 ld_whole2 canon_whole2 row_parts exists_mat exists_row)

/-! ## The stages -/

abbrev Rows := FVec Ideal S2048x1024 .f32
abbrev Col := FVec Ideal S2048x1 .f32

/-- Mean square of the rows. -/
def rMsq (x : Rows) : Col :=
  addf (Host.divf (broadcastInDim S2048x1 ![0] bcast_S2048_S2048x1_0 (Host.reduceAdd (mulf x x) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))
/-- What scales the rows. -/
def rRn (x : Rows) : Col := Host.rsqrt (rMsq x)
/-- The scaled rows. -/
def rS (x : Rows) : Rows := mulf x (broadcastInDim S2048x1024 ![0, 1] bcast_S2048x1_S2048x1024_0_1 (rRn x))
/-- The norm. -/
def rH (x : Rows) (n : FVec Ideal S1x1024 .f32) : Rows := mulf (rS x) (broadcastInDim S2048x1024 ![0, 1] bcast_S1x1024_S2048x1024_0_1 n)
/-- Its gradient. -/
def rDh (p : FVec Ideal S2048x4224 .f32) (w : FVec Ideal S4224x1024 .f32) : Rows :=
  Host.dotGeneral (φ₁ := .f32) (φ₂ := .f32) dot_S2048x4224_S1024x4224_S2048x1024_1_1_0_0_n_n none p (transpose S1024x4224 [1, 0] w transposes_S4224x1024_S1024x4224_1_0)
/-- The gradient of the scaled rows. -/
def rDm (g : Rows) (n : FVec Ideal S1x1024 .f32) : Rows := mulf g (broadcastInDim S2048x1024 ![0, 1] bcast_S1x1024_S2048x1024_0_1 n)
/-- The part of the gradient along the rows. -/
def rAlong (x g : Rows) (s q : Col) : Rows :=
  broadcastInDim S2048x1024 ![0] bcast_S2048_S2048x1024_0 (Host.reduceAdd (Host.divf (mulf
    (shapeCast _ (Host.reduceAdd (mulf x g) (constant S_ .f32 0x00000000#32) reducesTo_S2048x1024_S2048_d1 h_S_) shapeCasts_S2048_S2048x1)
    (mulf (broadcastInDim S2048x1 ![] bcast_S_S2048x1 (constant S_ .f32 0xBF000000#32)) (Host.divf s q)))
    (broadcastInDim S2048x1 ![] bcast_S_S2048x1 (constant S_ .f32 0x44800000#32))) (constant S_ .f32 0x00000000#32) reducesTo_S2048x1_S2048_d1 h_S_)
/-- The gradient of the residual stream. -/
def rDx (d x g l : Rows) (s : Col) : Rows :=
  addf (addf (addf d (mulf g (broadcastInDim S2048x1024 ![0, 1] bcast_S2048x1_S2048x1024_0_1 s))) (mulf x l)) (mulf l x)

/-! ## At an index -/

variable {D : Data} {x d : Rows} {n : FVec Ideal S1x1024 .f32} {w : FVec Ideal S4224x1024 .f32} {p : FVec Ideal S2048x4224 .f32}
  (H : Holds D x n w p d)
include H

theorem msq_at (r : Fin 2048) (a : Fin 1) : rMsq x (ix2 r a) = msq D.x r := by
  obtain ⟨rfl, -, -, -, -⟩ := H
  pointwise [rMsq]
  rfl

theorem rn_at (r : Fin 2048) (a : Fin 1) : rRn x (ix2 r a) = rn D.x r := by
  have e := msq_at H
  unfold rRn
  generalize rMsq x = X at e ⊢
  pointwise
  rw [e]
  rfl

theorem s_at (r : Fin 2048) (c : Fin 1024) : rS x (ix2 r c) = D.x r c * rn D.x r := by
  have e := rn_at H
  unfold rS
  generalize rRn x = X at e ⊢
  obtain ⟨rfl, -, -, -, -⟩ := H
  pointwise
  rw [e]
  rfl

theorem h_at (r : Fin 2048) (c : Fin 1024) : rH x n (ix2 r c) = D.h1 r c := by
  have e := s_at H
  unfold rH
  generalize rS x = X at e ⊢
  obtain ⟨-, rfl, -, -, -⟩ := H
  pointwise
  rw [e]
  rfl

theorem dh_at (r : Fin 2048) (c : Fin 1024) : rDh p w (ix2 r c) = D.dh r c := by
  obtain ⟨-, -, rfl, rfl, -⟩ := H
  pointwise [rDh]
  rfl

theorem dm_at (r : Fin 2048) (c : Fin 1024) : rDm (rDh p w) n (ix2 r c) = D.dm r c := by
  have e := dh_at H
  unfold rDm
  generalize rDh p w = X at e ⊢
  obtain ⟨-, rfl, -, -, -⟩ := H
  pointwise
  rw [e]
  rfl

theorem along_at (r : Fin 2048) (c : Fin 1024) : rAlong x (rDm (rDh p w) n) (rRn x) (rMsq x) (ix2 r c) = along D.x D.dm r := by
  have e := rn_at H
  have e' := msq_at H
  have e'' := dm_at H
  generalize rRn x = X at e ⊢
  generalize rMsq x = Y at e' ⊢
  generalize rDm (rDh p w) n = Z at e'' ⊢
  obtain ⟨rfl, -, -, -, -⟩ := H
  pointwise [rAlong]
  simp only [e, e', e'', Fin.sum_univ_one]
  rfl

theorem dx_at (r : Fin 2048) (c : Fin 1024) :
    rDx d x (rDm (rDh p w) n) (rAlong x (rDm (rDh p w) n) (rRn x) (rMsq x)) (rRn x) (ix2 r c) = D.dx r c := by
  have e := rn_at H
  have e' := along_at H
  have e'' := dm_at H
  generalize rAlong x (rDm (rDh p w) n) (rRn x) (rMsq x) = Y at e' ⊢
  generalize rRn x = X at e ⊢
  generalize rDm (rDh p w) n = Z at e'' ⊢
  obtain ⟨rfl, -, -, -, rfl⟩ := H
  pointwise [rDx]
  simp only [e, e', e'']
  show _ = normGrad D.x D.dm r c + D.d1 r c
  rw [normGrad, add_comm (_ + _) (D.d1 r c), ← add_assoc, ← add_assoc]
  rfl

/-! ## The results -/

/-- The projection. -/
theorem proj_eq : (Host.dotGeneral (φ₁ := .f32) (φ₂ := .f32) dot_S2048x1024_S1024x4224_S2048x4224_1_0_0_1_n_n none (rH x n)
    (transpose S1024x4224 [1, 0] w transposes_S4224x1024_S1024x4224_1_0) : FVec Ideal S2048x4224 .f32) = mat D.proj := by
  have e := h_at H
  generalize rH x n = X at e ⊢
  obtain ⟨-, -, rfl, -, -⟩ := H
  funext i
  obtain ⟨r, q, rfl⟩ : ∃ (r : Fin 2048) (q : Fin 4224), i = ix2 r q := ⟨i 0, i 1, eq_ix2 i⟩
  pointwise
  simp only [e]
  rfl

/-- The residual stream's gradient. -/
theorem dx_eq : rDx d x (rDm (rDh p w) n) (rAlong x (rDm (rDh p w) n) (rRn x) (rMsq x)) (rRn x) = mat D.dx := by
  funext i
  obtain ⟨r, c, rfl⟩ : ∃ (r : Fin 2048) (c : Fin 1024), i = ix2 r c := ⟨i 0, i 1, eq_ix2 i⟩
  exact dx_at H r c

/-- The norm's weights' gradient. -/
theorem dn_eq : (shapeCast _ (Host.reduceAdd (mulf (rS x) (rDh p w)) (constant S_ .f32 0x00000000#32) reducesTo_S2048x1024_S1024_d0 h_S_)
    shapeCasts_S1024_S1x1024 : FVec Ideal S1x1024 .f32) = row D.dn := by
  have e := s_at H
  have e' := dh_at H
  generalize rS x = X at e ⊢
  generalize rDh p w = Y at e' ⊢
  funext i
  obtain ⟨a, c, rfl⟩ : ∃ (a : Fin 1) (c : Fin 1024), i = ix2 a c := ⟨i 0, i 1, eq_ix2 i⟩
  pointwise
  simp only [e, e']
  rfl

/-- The projection's gradient. -/
theorem gw_eq : (transpose S4224x1024 [1, 0] (transpose S1024x4224 [1, 0] (Host.dotGeneral (φ₁ := .f32) (φ₂ := .f32)
    dot_S2048x4224_S2048x1024_S4224x1024_0_0_1_1_n_n none p (rH x n)) transposes_S4224x1024_S1024x4224_1_0) transposes_S1024x4224_S4224x1024_1_0 :
    FVec Ideal S4224x1024 .f32) = mat D.gw := by
  have e := h_at H
  generalize rH x n = X at e ⊢
  obtain ⟨-, -, -, rfl, -⟩ := H
  funext i
  obtain ⟨q, c, rfl⟩ : ∃ (q : Fin 4224) (c : Fin 1024), i = ix2 q c := ⟨i 0, i 1, eq_ix2 i⟩
  pointwise
  simp only [e]
  rfl

end Cert.Proof.Proj.Ref

end
-- ==== Proof.Proj.Equal.lean ====
module

public import proofs.«01_k».proof.Proof.Proj.Calls
public import proofs.«01_k».proof.Proof.Proj.Run
public import proofs.«01_k».proof.Proof.Proj.RefValue
public import proofs.«01_k».proof.Defs

/-!
# The input projection's two programs agree

Whatever the arguments hold, the four calls leave the quantities of `Spec`, and so does the reference.
-/

@[expose] public section

set_option maxRecDepth 16384

noncomputable section

namespace Cert.Proof.Proj

open Idealize.ShloMosaic Idealize.ShloMosaic.TcCoe
open Cert.Proof.Ffn (width eps negHalf msq rn along normGrad mat row origin2 ld_whole2 canon_whole2 row_parts exists_mat exists_row)

/-! ## The kernel's side -/

section Kernel

open Cert.Kernel3Ideal Cert.Kernel3Ideal.Gen

variable {m : (ℓ : Loc nD τ sig) → Buf (Elt Ideal) ℓ}

section At

variable (ρ : Dev nD → PrngReg) {c : Dev nD} {D : Data} (H : Holds D (m ((c : Thread nD τ).loc main_arg0)) (m ((c : Thread nD τ).loc main_arg1)) (m ((c : Thread nD τ).loc main_arg2)) (m ((c : Thread nD τ).loc main_arg3)) (m ((c : Thread nD τ).loc main_arg4)))
include H

theorem at1_v0 : (W1 m ρ c (Proc.devRef .tc main_v0) : Vec Ideal S2048x1024 .bf16) = mat D.h1 :=
  (W1_arr m ρ c 2).trans (call0_2 (V := V0 m ρ) c D ((W0_args m ρ c main_arg1 (by decide)).trans H.h1) ((W0_args m ρ c main_arg0 (by decide)).trans H.h0))

theorem at2_v0 : (W2 m ρ c (Proc.devRef .tc main_v0) : Vec Ideal S2048x1024 .bf16) = mat D.h1 :=
  (W2_of m ρ c main_v0 (by decide)).trans (at1_v0 ρ H)

theorem at2_v1 : (W2 m ρ c (Proc.devRef .tc main_v1) : Vec Ideal S2048x4224 .f32) = mat D.proj :=
  (W2_arr m ρ c 2).trans (call1_2 (V := V1 m ρ) c D (at1_v0 ρ H) ((W1_args m ρ c main_arg2 (by decide)).trans H.h2))

theorem at3_v0 : (W3 m ρ c (Proc.devRef .tc main_v0) : Vec Ideal S2048x1024 .bf16) = mat D.h1 :=
  (W3_of m ρ c main_v0 (by decide)).trans (at2_v0 ρ H)

theorem at3_v1 : (W3 m ρ c (Proc.devRef .tc main_v1) : Vec Ideal S2048x4224 .f32) = mat D.proj :=
  (W3_of m ρ c main_v1 (by decide)).trans (at2_v1 ρ H)

theorem at3_v2_0 : (W3 m ρ c (Proc.devRef .tc main_v2_0) : Vec Ideal S2048x1024 .f32) = mat D.dx :=
  (W3_arr m ρ c 5).trans (call2_5 (V := V2 m ρ) c D ((W2_args m ρ c main_arg3 (by decide)).trans H.h3) ((W2_args m ρ c main_arg2 (by decide)).trans H.h2) ((W2_args m ρ c main_arg0 (by decide)).trans H.h0) ((W2_args m ρ c main_arg4 (by decide)).trans H.h4) ((W2_args m ρ c main_arg1 (by decide)).trans H.h1))

theorem at3_v2_1 : (W3 m ρ c (Proc.devRef .tc main_v2_1) : Vec Ideal S1x1024 .f32) = row D.dn :=
  (W3_arr m ρ c 6).trans (call2_6 (V := V2 m ρ) c D ((W2_args m ρ c main_arg3 (by decide)).trans H.h3) ((W2_args m ρ c main_arg2 (by decide)).trans H.h2) ((W2_args m ρ c main_arg0 (by decide)).trans H.h0))

theorem at4_v1 : (W4 m ρ c (Proc.devRef .tc main_v1) : Vec Ideal S2048x4224 .f32) = mat D.proj :=
  (W4_of m ρ c main_v1 (by decide)).trans (at3_v1 ρ H)

theorem at4_v2_0 : (W4 m ρ c (Proc.devRef .tc main_v2_0) : Vec Ideal S2048x1024 .f32) = mat D.dx :=
  (W4_of m ρ c main_v2_0 (by decide)).trans (at3_v2_0 ρ H)

theorem at4_v2_1 : (W4 m ρ c (Proc.devRef .tc main_v2_1) : Vec Ideal S1x1024 .f32) = row D.dn :=
  (W4_of m ρ c main_v2_1 (by decide)).trans (at3_v2_1 ρ H)

theorem at4_v3 : (W4 m ρ c (Proc.devRef .tc main_v3) : Vec Ideal S4224x1024 .f32) = mat D.gw :=
  (W4_arr m ρ c 2).trans (call3_2 (V := V3 m ρ) c D ((W3_args m ρ c main_arg3 (by decide)).trans H.h3) (at3_v0 ρ H))

end At

/-- The four calls leave the projected rows and the gradients. -/
theorem kernel_value {D : Dev nD → Data} (g : Dev nD → PrngReg)
    (H : ∀ c : Dev nD, Holds (D c) (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))) :
    θ_run (defs (F := Ideal)) (onTc (τ := τ) (main (F := Ideal))) ⟨m, fun _ => 0, g⟩ (fun r => ∀ c : Dev nD,
      r.2.mem ((c.tc : Thread nD τ).loc main_v1) = mat (D c).proj
      ∧ r.2.mem ((c.tc : Thread nD τ).loc main_v2_0) = mat (D c).dx
      ∧ r.2.mem ((c.tc : Thread nD τ).loc main_v2_1) = row (D c).dn
      ∧ r.2.mem ((c.tc : Thread nD τ).loc main_v3) = mat (D c).gw
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (value_run m g)
  obtain ⟨h0, h1, h2, h3, hargs⟩ := h c
  exact ⟨h0.trans (at4_v1 g (H c)), h1.trans (at4_v2_0 g (H c)), h2.trans (at4_v2_1 g (H c)), h3.trans (at4_v3 g (H c)), hargs⟩

end Kernel

/-! ## The reference's side -/

section Reference

open Cert.Reference3Ideal Cert.Reference3Ideal.Gen Idealize.ShloMosaic.StableHlo

variable {m : (ℓ : Loc nD τ sig) → Buf (Elt Ideal) ℓ}

/-- The reference leaves the same. -/
theorem reference_value {D : Dev nD → Data} (g : Dev nD → PrngReg)
    (H : ∀ c : Dev nD, Holds (D c) (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))) :
    θ_run (defs (F := Ideal)) (onTc (τ := τ) (main (F := Ideal))) ⟨m, fun _ => 0, g⟩ (fun r => ∀ c : Dev nD,
      r.2.mem ((c.tc : Thread nD τ).loc main_v16) = mat (D c).proj
      ∧ r.2.mem ((c.tc : Thread nD τ).loc main_v40) = mat (D c).dx
      ∧ r.2.mem ((c.tc : Thread nD τ).loc main_v23) = row (D c).dn
      ∧ r.2.mem ((c.tc : Thread nD τ).loc main_v20) = mat (D c).gw
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Reference3Ideal.Value.run m g)
  obtain ⟨h0, h1, h2, h3, hargs⟩ := h c
  exact ⟨h0.trans (Ref.proj_eq (H c)), h1.trans (Ref.dx_eq (H c)), h2.trans (Ref.dn_eq (H c)), h3.trans (Ref.gw_eq (H c)), hargs⟩

/-- The reference terminates with its arguments unchanged and its counters at zero. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, sem_eq_zero_of_no_sems (by decide) r.2⟩) (Cert.Reference3Ideal.Value.run m g)
  obtain ⟨-, -, -, -, hargs⟩ := h c
  exact hargs

end Reference

/-- Idealized kernel and reference end with equal results. -/
theorem agree : algebraic_Kernel3Ideal_Reference3Ideal (hKernel3Ideal := Cert.Kernel3Ideal.Gen.facts)
    (hReference3Ideal := Cert.Reference3Ideal.Gen.facts) := by
  intro m g m' g' _ hag
  choose D H using fun c : Dev Cert.Kernel3Ideal.nD => exists_holds
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
  refine ⟨fun c => mat (D c).proj, fun c => mat (D c).dx, fun c => row (D c).dn, fun c => mat (D c).gw,
    kernel_value g H, reference_value g' fun c => ?_⟩
  obtain ⟨e0, e1, e2, e3, e4⟩ := hag c
  rw [e0, e1, e2, e3, e4]
  exact H c

end Cert.Proof.Proj

end
-- ==== Proof.Adam.Step.lean ====
module

public import proofs.«01_k».proof.Proof.Gen.Kernel4Ideal.Frame
public import Idealize.ShloMosaic.Lib.Pointwise
public import Idealize.ShloMosaic.PureOps.Ideal

/-!
# One entry's step

The new moments and the change of one entry of a weight, from the entry, its gradient and its moments: AdamW's, as the kernel's call
and the reference each compute it entry by entry. The constants are the words both programs hold: the decay rates 0.9 and 0.999 with
their complements, the corrections of the moments at the tenth step, and the rate, the guard and the weights' decay.
-/

@[expose] public section

set_option maxRecDepth 16384

noncomputable section

namespace Cert.Proof.Adam

open Idealize.ShloMosaic Idealize.ShloMosaic.TcCoe

/-- The new first moment. -/
def stepM (g m : EReal) : EReal := Ideal.ofBits .f32 0x3F666666#32 * m + Ideal.ofBits .f32 0x3DCCCCCD#32 * g

/-- The new second moment. -/
def stepV (g v : EReal) : EReal := Ideal.ofBits .f32 0x3F7FBE77#32 * v + Ideal.ofBits .f32 0x3A83126F#32 * (g * g)

/-- The change of the weight. -/
def stepD (w g m v : EReal) : EReal :=
  Ideal.ofBits .f32 0xBA83126F#32
    * (Ideal.div (Ideal.div (stepM g m) (Ideal.ofBits .f32 0x3F26BD02#32))
        (Ideal.sqrt (Ideal.div (stepV g v) (Ideal.ofBits .f32 0x3C231ACC#32)) + Ideal.ofBits .f32 0x322BCC77#32)
      + Ideal.ofBits .f32 0x3C23D70A#32 * w)

/-- The changes of an array of weights. -/
def newD {S : Shape} (w g m v : FVec Ideal S .f32) : FVec Ideal S .f32 := fun i => stepD (w i) (g i) (m i) (v i)

/-- Its new first moments. -/
def newM {S : Shape} (g m : FVec Ideal S .f32) : FVec Ideal S .f32 := fun i => stepM (g i) (m i)

/-- Its new second moments. -/
def newV {S : Shape} (g v : FVec Ideal S .f32) : FVec Ideal S .f32 := fun i => stepV (g i) (v i)

section Kernel

open Cert.Kernel4Ideal Cert.Kernel4Ideal.Gen

variable (w g m v : Vec Ideal S48x128 .f32)

/-- What the call stores: every entry's new first moment, -/
theorem pay_m : k0_pay2 g m = fun i => stepM (g i) (m i) := by
  funext i
  pointwise [k0_pay2, k0_pay1, stepM]

/-- its new second moment, -/
theorem pay_v : k0_pay3 g v = fun i => stepV (g i) (v i) := by
  funext i
  pointwise [k0_pay3, k0_pay1, stepV]

/-- its change. -/
theorem pay_d : k0_pay4 w g m v = fun i => stepD (w i) (g i) (m i) (v i) := by
  funext i
  pointwise [k0_pay4, k0_pay3, k0_pay2, k0_pay1, stepD, stepM, stepV]

end Kernel

end Cert.Proof.Adam

end
-- ==== Proof.Adam.Pack.lean ====
module

public import proofs.«01_k».proof.Proof.Gen.Kernel4Ideal.Frame
public import Idealize.ShloMosaic.Lib.KernelVsHost
public import Idealize.ShloMosaic.Lib.Pointwise

/-!
# Packing

Ten arrays laid one behind the other, each begun at a multiple of 128 and the rest filled up, as 48 rows of 128; and each of the ten
read back from such rows. Reading back undoes packing, and commutes with whatever is done entry by entry.
-/

@[expose] public section

set_option maxRecDepth 16384

noncomputable section

namespace Cert.Proof.Adam

open Cert.Kernel4Ideal Cert.Kernel4Ideal.Gen Idealize.ShloMosaic Idealize.ShloMosaic.TcCoe

variable {F : FTy → Type} [FloatOps F]

/-- What fills the gaps. -/
def gap : Vec F S_ .f32 := sitofp .f32 (constantI S_ 32 0#32)

/-- The ten as one line. -/
def line (z : Vec F S_ .f32) (a0 : Vec F S1x1024 .f32) (a1 : Vec F S1x4x384 .f32) (a2 : Vec F S1x8 .f32) (a3 : Vec F S1x8 .f32) (a4 : Vec F S1x64 .f32) (a5 : Vec F S1x8 .f32) (a6 : Vec F S1x64 .f32) (a7 : Vec F S1x64 .f32) (a8 : Vec F S1x1024 .f32) (a9 : Vec F S1024 .f32) :
    Vec F S5376 .f32 :=
  concatenate S5376 0 [⟨S1024, pad S1024 ![0] ![0] ![0] (shapeCast S1024 a0 shapeCasts_S1x1024_S1024) z pads_S1024_S1024_000 h_S_⟩, ⟨S1536, pad S1536 ![0] ![0] ![0] (shapeCast S1536 a1 shapeCasts_S1x4x384_S1536) z pads_S1536_S1536_000 h_S_⟩, ⟨S128, pad S128 ![0] ![120] ![0] (shapeCast S8 a2 shapeCasts_S1x8_S8) z pads_S8_S128_01200 h_S_⟩, ⟨S128, pad S128 ![0] ![120] ![0] (shapeCast S8 a3 shapeCasts_S1x8_S8) z pads_S8_S128_01200 h_S_⟩, ⟨S128, pad S128 ![0] ![64] ![0] (shapeCast S64 a4 shapeCasts_S1x64_S64) z pads_S64_S128_0640 h_S_⟩, ⟨S128, pad S128 ![0] ![120] ![0] (shapeCast S8 a5 shapeCasts_S1x8_S8) z pads_S8_S128_01200 h_S_⟩, ⟨S128, pad S128 ![0] ![64] ![0] (shapeCast S64 a6 shapeCasts_S1x64_S64) z pads_S64_S128_0640 h_S_⟩, ⟨S128, pad S128 ![0] ![64] ![0] (shapeCast S64 a7 shapeCasts_S1x64_S64) z pads_S64_S128_0640 h_S_⟩, ⟨S1024, pad S1024 ![0] ![0] ![0] (shapeCast S1024 a8 shapeCasts_S1x1024_S1024) z pads_S1024_S1024_000 h_S_⟩, ⟨S1024, pad S1024 ![0] ![0] ![0] a9 z pads_S1024_S1024_000 h_S_⟩]
    concatenates_S1024_S1536_S128_S128_S128_S128_S128_S128_S1024_S1024_S5376_d0

/-- The ten packed. -/
def pack (a0 : Vec F S1x1024 .f32) (a1 : Vec F S1x4x384 .f32) (a2 : Vec F S1x8 .f32) (a3 : Vec F S1x8 .f32) (a4 : Vec F S1x64 .f32) (a5 : Vec F S1x8 .f32) (a6 : Vec F S1x64 .f32) (a7 : Vec F S1x64 .f32) (a8 : Vec F S1x1024 .f32) (a9 : Vec F S1024 .f32) :
    Vec F S48x128 .f32 :=
  shapeCast S48x128 (pad S6144 ![0] ![768] ![0] (line gap a0 a1 a2 a3 a4 a5 a6 a7 a8 a9) gap pads_S5376_S6144_07680 h_S_) shapeCasts_S6144_S48x128

/-! ## Reading back -/

/-- Array 0 of the ten: the first norm's weights. -/
def get0 {α : Type} (x : S48x128.Idx → α) : S1x1024.Idx → α :=
  shapeCast S1x1024 (extractStridedSlice S1024 ![0] (shapeCast S6144 x shapeCasts_S48x128_S6144) slices_S6144_S1024_0) shapeCasts_S1024_S1x1024

/-- Array 1 of the ten: the convolution's. -/
def get1 {α : Type} (x : S48x128.Idx → α) : S1x4x384.Idx → α :=
  shapeCast S1x4x384 (extractStridedSlice S1536 ![1024] (shapeCast S6144 x shapeCasts_S48x128_S6144) slices_S6144_S1536_1024) shapeCasts_S1536_S1x4x384

/-- Array 2 of the ten: the decay's logarithms. -/
def get2 {α : Type} (x : S48x128.Idx → α) : S1x8.Idx → α :=
  shapeCast S1x8 (extractStridedSlice S8 ![2560] (shapeCast S6144 x shapeCasts_S48x128_S6144) slices_S6144_S8_2560) shapeCasts_S8_S1x8

/-- Array 3 of the ten: the step's biases. -/
def get3 {α : Type} (x : S48x128.Idx → α) : S1x8.Idx → α :=
  shapeCast S1x8 (extractStridedSlice S8 ![2688] (shapeCast S6144 x shapeCasts_S48x128_S6144) slices_S6144_S8_2688) shapeCasts_S8_S1x8

/-- Array 4 of the ten: the output norm's. -/
def get4 {α : Type} (x : S48x128.Idx → α) : S1x64.Idx → α :=
  shapeCast S1x64 (extractStridedSlice S64 ![2816] (shapeCast S6144 x shapeCasts_S48x128_S6144) slices_S6144_S64_2816) shapeCasts_S64_S1x64

/-- Array 5 of the ten: the gates' biases. -/
def get5 {α : Type} (x : S48x128.Idx → α) : S1x8.Idx → α :=
  shapeCast S1x8 (extractStridedSlice S8 ![2944] (shapeCast S6144 x shapeCasts_S48x128_S6144) slices_S6144_S8_2944) shapeCasts_S8_S1x8

/-- Array 6 of the ten: the queries' norm's. -/
def get6 {α : Type} (x : S48x128.Idx → α) : S1x64.Idx → α :=
  shapeCast S1x64 (extractStridedSlice S64 ![3072] (shapeCast S6144 x shapeCasts_S48x128_S6144) slices_S6144_S64_3072) shapeCasts_S64_S1x64

/-- Array 7 of the ten: the keys' norm's. -/
def get7 {α : Type} (x : S48x128.Idx → α) : S1x64.Idx → α :=
  shapeCast S1x64 (extractStridedSlice S64 ![3200] (shapeCast S6144 x shapeCasts_S48x128_S6144) slices_S6144_S64_3200) shapeCasts_S64_S1x64

/-- Array 8 of the ten: the second norm's. -/
def get8 {α : Type} (x : S48x128.Idx → α) : S1x1024.Idx → α :=
  shapeCast S1x1024 (extractStridedSlice S1024 ![3328] (shapeCast S6144 x shapeCasts_S48x128_S6144) slices_S6144_S1024_3328) shapeCasts_S1024_S1x1024

/-- Array 9 of the ten: the last norm's. -/
def get9 {α : Type} (x : S48x128.Idx → α) : S1024.Idx → α :=
  extractStridedSlice S1024 ![4352] (shapeCast S6144 x shapeCasts_S48x128_S6144) slices_S6144_S1024_4352

/-! ## Reading back commutes with what is done entry by entry -/

section Map

variable {α β : Type} (f : α → α → β) (g : α → α → α → α → β) (x y z w : S48x128.Idx → α)

theorem get0_two : get0 (fun i => f (x i) (y i)) = fun i => f (get0 x i) (get0 y i) := rfl

theorem get0_four :
    get0 (fun i => g (x i) (y i) (z i) (w i)) = fun i => g (get0 x i) (get0 y i) (get0 z i) (get0 w i) := rfl

theorem get1_two : get1 (fun i => f (x i) (y i)) = fun i => f (get1 x i) (get1 y i) := rfl

theorem get1_four :
    get1 (fun i => g (x i) (y i) (z i) (w i)) = fun i => g (get1 x i) (get1 y i) (get1 z i) (get1 w i) := rfl

theorem get2_two : get2 (fun i => f (x i) (y i)) = fun i => f (get2 x i) (get2 y i) := rfl

theorem get2_four :
    get2 (fun i => g (x i) (y i) (z i) (w i)) = fun i => g (get2 x i) (get2 y i) (get2 z i) (get2 w i) := rfl

theorem get3_two : get3 (fun i => f (x i) (y i)) = fun i => f (get3 x i) (get3 y i) := rfl

theorem get3_four :
    get3 (fun i => g (x i) (y i) (z i) (w i)) = fun i => g (get3 x i) (get3 y i) (get3 z i) (get3 w i) := rfl

theorem get4_two : get4 (fun i => f (x i) (y i)) = fun i => f (get4 x i) (get4 y i) := rfl

theorem get4_four :
    get4 (fun i => g (x i) (y i) (z i) (w i)) = fun i => g (get4 x i) (get4 y i) (get4 z i) (get4 w i) := rfl

theorem get5_two : get5 (fun i => f (x i) (y i)) = fun i => f (get5 x i) (get5 y i) := rfl

theorem get5_four :
    get5 (fun i => g (x i) (y i) (z i) (w i)) = fun i => g (get5 x i) (get5 y i) (get5 z i) (get5 w i) := rfl

theorem get6_two : get6 (fun i => f (x i) (y i)) = fun i => f (get6 x i) (get6 y i) := rfl

theorem get6_four :
    get6 (fun i => g (x i) (y i) (z i) (w i)) = fun i => g (get6 x i) (get6 y i) (get6 z i) (get6 w i) := rfl

theorem get7_two : get7 (fun i => f (x i) (y i)) = fun i => f (get7 x i) (get7 y i) := rfl

theorem get7_four :
    get7 (fun i => g (x i) (y i) (z i) (w i)) = fun i => g (get7 x i) (get7 y i) (get7 z i) (get7 w i) := rfl

theorem get8_two : get8 (fun i => f (x i) (y i)) = fun i => f (get8 x i) (get8 y i) := rfl

theorem get8_four :
    get8 (fun i => g (x i) (y i) (z i) (w i)) = fun i => g (get8 x i) (get8 y i) (get8 z i) (get8 w i) := rfl

theorem get9_two : get9 (fun i => f (x i) (y i)) = fun i => f (get9 x i) (get9 y i) := rfl

theorem get9_four :
    get9 (fun i => g (x i) (y i) (z i) (w i)) = fun i => g (get9 x i) (get9 y i) (get9 z i) (get9 w i) := rfl

end Map

/-! ## Reading back undoes packing -/

/-- What a stretch of the packed rows holds is what the line holds there. -/
theorem slice_pack {n : ℕ} (off : ℕ) (h : S6144.Slices ![off] ⟨1, ![n]⟩) (hn : off + n ≤ 5376) (z : Vec F S_ .f32) (y : Vec F S5376 .f32) (i : Fin n) :
    extractStridedSlice ⟨1, ![n]⟩ ![off] (shapeCast S6144 (shapeCast S48x128 (pad S6144 ![0] ![768] ![0] y z pads_S5376_S6144_07680 h_S_)
      shapeCasts_S6144_S48x128) shapeCasts_S48x128_S6144) h (ix1 i) = y (ix1 ⟨off + i.val, by omega⟩) := by
  rw [shapeCast_shapeCast]
  exact pad_apply_of_inside _ _ _ _ _ _ _ _ _ fun a => by
    obtain rfl : a = 0 := Subsingleton.elim (α := Fin 1) _ _
    show off + i.val = 0 + (off + i.val) * (0 + 1)
    omega

/-- Within the line, padding changes nothing. -/
theorem pad_line {n N hi : ℕ} (x : Vec F ⟨1, ![n]⟩ .f32) (z : Vec F S_ .f32) (h : Shape.Pads ⟨1, ![n]⟩ (![0] : Fin 1 → ℕ) ![hi] ![0] ⟨1, ![N]⟩) {k : ℕ} (hk : k < N) (i : Fin n) (e : k = i.val := by rfl) :
    pad ⟨1, ![N]⟩ ![0] ![hi] ![0] x z h h_S_ (ix1 ⟨k, hk⟩) = x (ix1 i) :=
  pad_apply_of_inside _ _ _ _ _ _ _ _ _ fun b => by
    obtain rfl : b = 0 := Subsingleton.elim (α := Fin 1) _ _
    show k = 0 + i.val * (0 + 1)
    omega

section Undo

variable (z : Vec F S_ .f32) (a0 : Vec F S1x1024 .f32) (a1 : Vec F S1x4x384 .f32) (a2 : Vec F S1x8 .f32) (a3 : Vec F S1x8 .f32) (a4 : Vec F S1x64 .f32) (a5 : Vec F S1x8 .f32) (a6 : Vec F S1x64 .f32) (a7 : Vec F S1x64 .f32) (a8 : Vec F S1x1024 .f32) (a9 : Vec F S1024 .f32)

/-- The line holds array 0 from place 0 on. -/
theorem line_0 (i : Fin 1024) : line z a0 a1 a2 a3 a4 a5 a6 a7 a8 a9 (ix1 ⟨0 + i.val, by omega⟩) = (shapeCast S1024 a0 shapeCasts_S1x1024_S1024) (ix1 i) := by
  unfold line
  refine (concatenate_apply_piece (t := S5376) 0 _ _ _ 0 (by simp) S1024 _ rfl rfl 0 rfl (ix1 ⟨i.val, by omega⟩)
    (fun b hb => absurd (Subsingleton.elim (α := Fin 1) _ _) hb) rfl).trans ?_
  exact pad_line _ _ _ _ i

/-- The line holds array 1 from place 1024 on. -/
theorem line_1 (i : Fin 1536) : line z a0 a1 a2 a3 a4 a5 a6 a7 a8 a9 (ix1 ⟨1024 + i.val, by omega⟩) = (shapeCast S1536 a1 shapeCasts_S1x4x384_S1536) (ix1 i) := by
  unfold line
  refine (concatenate_apply_piece (t := S5376) 0 _ _ _ 1 (by simp) S1536 _ rfl rfl 1024 rfl (ix1 ⟨i.val, by omega⟩)
    (fun b hb => absurd (Subsingleton.elim (α := Fin 1) _ _) hb) rfl).trans ?_
  exact pad_line _ _ _ _ i

/-- The line holds array 2 from place 2560 on. -/
theorem line_2 (i : Fin 8) : line z a0 a1 a2 a3 a4 a5 a6 a7 a8 a9 (ix1 ⟨2560 + i.val, by omega⟩) = (shapeCast S8 a2 shapeCasts_S1x8_S8) (ix1 i) := by
  unfold line
  refine (concatenate_apply_piece (t := S5376) 0 _ _ _ 2 (by simp) S128 _ rfl rfl 2560 rfl (ix1 ⟨i.val, by omega⟩)
    (fun b hb => absurd (Subsingleton.elim (α := Fin 1) _ _) hb) rfl).trans ?_
  exact pad_line _ _ _ _ i

/-- The line holds array 3 from place 2688 on. -/
theorem line_3 (i : Fin 8) : line z a0 a1 a2 a3 a4 a5 a6 a7 a8 a9 (ix1 ⟨2688 + i.val, by omega⟩) = (shapeCast S8 a3 shapeCasts_S1x8_S8) (ix1 i) := by
  unfold line
  refine (concatenate_apply_piece (t := S5376) 0 _ _ _ 3 (by simp) S128 _ rfl rfl 2688 rfl (ix1 ⟨i.val, by omega⟩)
    (fun b hb => absurd (Subsingleton.elim (α := Fin 1) _ _) hb) rfl).trans ?_
  exact pad_line _ _ _ _ i

/-- The line holds array 4 from place 2816 on. -/
theorem line_4 (i : Fin 64) : line z a0 a1 a2 a3 a4 a5 a6 a7 a8 a9 (ix1 ⟨2816 + i.val, by omega⟩) = (shapeCast S64 a4 shapeCasts_S1x64_S64) (ix1 i) := by
  unfold line
  refine (concatenate_apply_piece (t := S5376) 0 _ _ _ 4 (by simp) S128 _ rfl rfl 2816 rfl (ix1 ⟨i.val, by omega⟩)
    (fun b hb => absurd (Subsingleton.elim (α := Fin 1) _ _) hb) rfl).trans ?_
  exact pad_line _ _ _ _ i

/-- The line holds array 5 from place 2944 on. -/
theorem line_5 (i : Fin 8) : line z a0 a1 a2 a3 a4 a5 a6 a7 a8 a9 (ix1 ⟨2944 + i.val, by omega⟩) = (shapeCast S8 a5 shapeCasts_S1x8_S8) (ix1 i) := by
  unfold line
  refine (concatenate_apply_piece (t := S5376) 0 _ _ _ 5 (by simp) S128 _ rfl rfl 2944 rfl (ix1 ⟨i.val, by omega⟩)
    (fun b hb => absurd (Subsingleton.elim (α := Fin 1) _ _) hb) rfl).trans ?_
  exact pad_line _ _ _ _ i

/-- The line holds array 6 from place 3072 on. -/
theorem line_6 (i : Fin 64) : line z a0 a1 a2 a3 a4 a5 a6 a7 a8 a9 (ix1 ⟨3072 + i.val, by omega⟩) = (shapeCast S64 a6 shapeCasts_S1x64_S64) (ix1 i) := by
  unfold line
  refine (concatenate_apply_piece (t := S5376) 0 _ _ _ 6 (by simp) S128 _ rfl rfl 3072 rfl (ix1 ⟨i.val, by omega⟩)
    (fun b hb => absurd (Subsingleton.elim (α := Fin 1) _ _) hb) rfl).trans ?_
  exact pad_line _ _ _ _ i

/-- The line holds array 7 from place 3200 on. -/
theorem line_7 (i : Fin 64) : line z a0 a1 a2 a3 a4 a5 a6 a7 a8 a9 (ix1 ⟨3200 + i.val, by omega⟩) = (shapeCast S64 a7 shapeCasts_S1x64_S64) (ix1 i) := by
  unfold line
  refine (concatenate_apply_piece (t := S5376) 0 _ _ _ 7 (by simp) S128 _ rfl rfl 3200 rfl (ix1 ⟨i.val, by omega⟩)
    (fun b hb => absurd (Subsingleton.elim (α := Fin 1) _ _) hb) rfl).trans ?_
  exact pad_line _ _ _ _ i

/-- The line holds array 8 from place 3328 on. -/
theorem line_8 (i : Fin 1024) : line z a0 a1 a2 a3 a4 a5 a6 a7 a8 a9 (ix1 ⟨3328 + i.val, by omega⟩) = (shapeCast S1024 a8 shapeCasts_S1x1024_S1024) (ix1 i) := by
  unfold line
  refine (concatenate_apply_piece (t := S5376) 0 _ _ _ 8 (by simp) S1024 _ rfl rfl 3328 rfl (ix1 ⟨i.val, by omega⟩)
    (fun b hb => absurd (Subsingleton.elim (α := Fin 1) _ _) hb) rfl).trans ?_
  exact pad_line _ _ _ _ i

/-- The line holds array 9 from place 4352 on. -/
theorem line_9 (i : Fin 1024) : line z a0 a1 a2 a3 a4 a5 a6 a7 a8 a9 (ix1 ⟨4352 + i.val, by omega⟩) = (a9) (ix1 i) := by
  unfold line
  refine (concatenate_apply_piece (t := S5376) 0 _ _ _ 9 (by simp) S1024 _ rfl rfl 4352 rfl (ix1 ⟨i.val, by omega⟩)
    (fun b hb => absurd (Subsingleton.elim (α := Fin 1) _ _) hb) rfl).trans ?_
  exact pad_line _ _ _ _ i

variable {a0 a1 a2 a3 a4 a5 a6 a7 a8 a9}

theorem get0_pack : get0 (pack a0 a1 a2 a3 a4 a5 a6 a7 a8 a9) = a0 := by
  have e : extractStridedSlice S1024 ![0] (shapeCast S6144 (pack a0 a1 a2 a3 a4 a5 a6 a7 a8 a9) shapeCasts_S48x128_S6144) slices_S6144_S1024_0 = shapeCast S1024 a0 shapeCasts_S1x1024_S1024 := by
    funext i
    obtain ⟨k, rfl⟩ : ∃ k : Fin 1024, i = ix1 k := ⟨i 0, eq_ix1 i⟩
    exact (slice_pack 0 _ (by omega) _ _ k).trans (line_0 _ a0 a1 a2 a3 a4 a5 a6 a7 a8 a9 k)
  rw [get0, e, shapeCast_shapeCast]

theorem get1_pack : get1 (pack a0 a1 a2 a3 a4 a5 a6 a7 a8 a9) = a1 := by
  have e : extractStridedSlice S1536 ![1024] (shapeCast S6144 (pack a0 a1 a2 a3 a4 a5 a6 a7 a8 a9) shapeCasts_S48x128_S6144) slices_S6144_S1536_1024 = shapeCast S1536 a1 shapeCasts_S1x4x384_S1536 := by
    funext i
    obtain ⟨k, rfl⟩ : ∃ k : Fin 1536, i = ix1 k := ⟨i 0, eq_ix1 i⟩
    exact (slice_pack 1024 _ (by omega) _ _ k).trans (line_1 _ a0 a1 a2 a3 a4 a5 a6 a7 a8 a9 k)
  rw [get1, e, shapeCast_shapeCast]

theorem get2_pack : get2 (pack a0 a1 a2 a3 a4 a5 a6 a7 a8 a9) = a2 := by
  have e : extractStridedSlice S8 ![2560] (shapeCast S6144 (pack a0 a1 a2 a3 a4 a5 a6 a7 a8 a9) shapeCasts_S48x128_S6144) slices_S6144_S8_2560 = shapeCast S8 a2 shapeCasts_S1x8_S8 := by
    funext i
    obtain ⟨k, rfl⟩ : ∃ k : Fin 8, i = ix1 k := ⟨i 0, eq_ix1 i⟩
    exact (slice_pack 2560 _ (by omega) _ _ k).trans (line_2 _ a0 a1 a2 a3 a4 a5 a6 a7 a8 a9 k)
  rw [get2, e, shapeCast_shapeCast]

theorem get3_pack : get3 (pack a0 a1 a2 a3 a4 a5 a6 a7 a8 a9) = a3 := by
  have e : extractStridedSlice S8 ![2688] (shapeCast S6144 (pack a0 a1 a2 a3 a4 a5 a6 a7 a8 a9) shapeCasts_S48x128_S6144) slices_S6144_S8_2688 = shapeCast S8 a3 shapeCasts_S1x8_S8 := by
    funext i
    obtain ⟨k, rfl⟩ : ∃ k : Fin 8, i = ix1 k := ⟨i 0, eq_ix1 i⟩
    exact (slice_pack 2688 _ (by omega) _ _ k).trans (line_3 _ a0 a1 a2 a3 a4 a5 a6 a7 a8 a9 k)
  rw [get3, e, shapeCast_shapeCast]

theorem get4_pack : get4 (pack a0 a1 a2 a3 a4 a5 a6 a7 a8 a9) = a4 := by
  have e : extractStridedSlice S64 ![2816] (shapeCast S6144 (pack a0 a1 a2 a3 a4 a5 a6 a7 a8 a9) shapeCasts_S48x128_S6144) slices_S6144_S64_2816 = shapeCast S64 a4 shapeCasts_S1x64_S64 := by
    funext i
    obtain ⟨k, rfl⟩ : ∃ k : Fin 64, i = ix1 k := ⟨i 0, eq_ix1 i⟩
    exact (slice_pack 2816 _ (by omega) _ _ k).trans (line_4 _ a0 a1 a2 a3 a4 a5 a6 a7 a8 a9 k)
  rw [get4, e, shapeCast_shapeCast]

theorem get5_pack : get5 (pack a0 a1 a2 a3 a4 a5 a6 a7 a8 a9) = a5 := by
  have e : extractStridedSlice S8 ![2944] (shapeCast S6144 (pack a0 a1 a2 a3 a4 a5 a6 a7 a8 a9) shapeCasts_S48x128_S6144) slices_S6144_S8_2944 = shapeCast S8 a5 shapeCasts_S1x8_S8 := by
    funext i
    obtain ⟨k, rfl⟩ : ∃ k : Fin 8, i = ix1 k := ⟨i 0, eq_ix1 i⟩
    exact (slice_pack 2944 _ (by omega) _ _ k).trans (line_5 _ a0 a1 a2 a3 a4 a5 a6 a7 a8 a9 k)
  rw [get5, e, shapeCast_shapeCast]

theorem get6_pack : get6 (pack a0 a1 a2 a3 a4 a5 a6 a7 a8 a9) = a6 := by
  have e : extractStridedSlice S64 ![3072] (shapeCast S6144 (pack a0 a1 a2 a3 a4 a5 a6 a7 a8 a9) shapeCasts_S48x128_S6144) slices_S6144_S64_3072 = shapeCast S64 a6 shapeCasts_S1x64_S64 := by
    funext i
    obtain ⟨k, rfl⟩ : ∃ k : Fin 64, i = ix1 k := ⟨i 0, eq_ix1 i⟩
    exact (slice_pack 3072 _ (by omega) _ _ k).trans (line_6 _ a0 a1 a2 a3 a4 a5 a6 a7 a8 a9 k)
  rw [get6, e, shapeCast_shapeCast]

theorem get7_pack : get7 (pack a0 a1 a2 a3 a4 a5 a6 a7 a8 a9) = a7 := by
  have e : extractStridedSlice S64 ![3200] (shapeCast S6144 (pack a0 a1 a2 a3 a4 a5 a6 a7 a8 a9) shapeCasts_S48x128_S6144) slices_S6144_S64_3200 = shapeCast S64 a7 shapeCasts_S1x64_S64 := by
    funext i
    obtain ⟨k, rfl⟩ : ∃ k : Fin 64, i = ix1 k := ⟨i 0, eq_ix1 i⟩
    exact (slice_pack 3200 _ (by omega) _ _ k).trans (line_7 _ a0 a1 a2 a3 a4 a5 a6 a7 a8 a9 k)
  rw [get7, e, shapeCast_shapeCast]

theorem get8_pack : get8 (pack a0 a1 a2 a3 a4 a5 a6 a7 a8 a9) = a8 := by
  have e : extractStridedSlice S1024 ![3328] (shapeCast S6144 (pack a0 a1 a2 a3 a4 a5 a6 a7 a8 a9) shapeCasts_S48x128_S6144) slices_S6144_S1024_3328 = shapeCast S1024 a8 shapeCasts_S1x1024_S1024 := by
    funext i
    obtain ⟨k, rfl⟩ : ∃ k : Fin 1024, i = ix1 k := ⟨i 0, eq_ix1 i⟩
    exact (slice_pack 3328 _ (by omega) _ _ k).trans (line_8 _ a0 a1 a2 a3 a4 a5 a6 a7 a8 a9 k)
  rw [get8, e, shapeCast_shapeCast]

theorem get9_pack : get9 (pack a0 a1 a2 a3 a4 a5 a6 a7 a8 a9) = a9 := by
  funext i
  obtain ⟨k, rfl⟩ : ∃ k : Fin 1024, i = ix1 k := ⟨i 0, eq_ix1 i⟩
  exact (slice_pack 4352 _ (by omega) _ _ k).trans (line_9 _ a0 a1 a2 a3 a4 a5 a6 a7 a8 a9 k)

end Undo

end Cert.Proof.Adam

end
-- ==== Proof.Adam.Before.lean ====
module

public import proofs.«01_k».proof.Proof.Adam.Pack
public import Idealize.ShloMosaic.Lib.StableHlo.Run
public import Idealize.ShloMosaic.Lib.StableHlo.RunHlo

/-!
# Before the call

What the call finds: the ten weights packed, and so their gradients and their two moments. The host operations come in four stretches,
one for each packed array.
-/

@[expose] public section

set_option maxRecDepth 16384

noncomputable section

namespace Cert.Proof.Adam

open Cert.Kernel4Ideal Cert.Kernel4Ideal.Gen Idealize.ShloMosaic Idealize.ShloMosaic.TcCoe Idealize.ShloMosaic.StableHlo

variable {F : FTy → Type} [FloatOps F]

/-- Host operations one after the other. -/
theorem after_two (a b : List (HloOp τ sig (Elt F))) (W : Valuation τ sig (Elt F)) : after (a ++ b) W = after b (after a W) := by
  induction a generalizing W with
  | nil => rfl
  | cons op l ih => exact ih _

/-- The operations that pack the weights, but for the last. -/
def stretch0 : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

/-- The operations that pack the gradients, but for the last. -/
def stretch1 : List (HloOp τ sig (Elt F)) := List.flatten [hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43]

/-- The operations that pack the first moments, but for the last. -/
def stretch2 : List (HloOp τ sig (Elt F)) := List.flatten [hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65]

/-- The operations that pack the second moments, but for the last. -/
def stretch3 : List (HloOp τ sig (Elt F)) := List.flatten [hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87]

theorem stretches : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88] : List (HloOp τ sig (Elt F)))
    = stretch0 ++ (stretch1 ++ (stretch2 ++ (stretch3 ++ hostOps0_88))) := by
  simp only [stretch0, stretch1, stretch2, stretch3, List.flatten_cons, List.flatten_nil, List.append_nil, List.append_assoc]

section Stretches

variable (W : Valuation τ sig (Elt F))

/-- What the stretch of the weights writes; -/
def written0 : List (Ref sig .tc) := [main_v0, main_c, main_call0_v0, main_v1, main_v2, main_c_0, main_call1_v0, main_v3, main_v4, main_c_1, main_call2_v0, main_v5, main_v6, main_c_2, main_call3_v0, main_v7, main_v8, main_c_3, main_call4_v0, main_v9, main_v10, main_c_4, main_call5_v0, main_v11, main_v12, main_c_5, main_call6_v0, main_v13, main_v14, main_c_6, main_call7_v0, main_v15, main_v16, main_c_7, main_call8_v0, main_v17, main_c_8, main_call9_v0, main_v18, main_v19, main_c_9, main_call10_v0, main_v20]

/-- it leaves everything else. -/
theorem keep0 (b : Ref sig .tc) (h : b ∉ written0) : after stretch0 W (Proc.devRef .tc b) = W (Proc.devRef .tc b) :=
  after_of_forall_not_mem (b := Proc.devRef .tc b) _ _ (List.forall_iff_forall_mem.mp (by
    simp only [stretch0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, List.Forall, nullary_writes, unary_writes, binary_writes, reshape_writes, nary_writes, TRef.unary, TRef.binary, Finset.mem_singleton]
    repeat' apply And.intro
    all_goals exact devRef_ne_of_ne fun e => h (by subst e; decide)))

/-- What the stretch of the gradients writes; -/
def written1 : List (Ref sig .tc) := [main_v21, main_v22, main_c_10, main_call11_v0, main_v23, main_v24, main_c_11, main_call12_v0, main_v25, main_v26, main_c_12, main_call13_v0, main_v27, main_v28, main_c_13, main_call14_v0, main_v29, main_v30, main_c_14, main_call15_v0, main_v31, main_v32, main_c_15, main_call16_v0, main_v33, main_v34, main_c_16, main_call17_v0, main_v35, main_v36, main_c_17, main_call18_v0, main_v37, main_v38, main_c_18, main_call19_v0, main_v39, main_c_19, main_call20_v0, main_v40, main_v41, main_c_20, main_call21_v0, main_v42]

/-- it leaves everything else. -/
theorem keep1 (b : Ref sig .tc) (h : b ∉ written1) : after stretch1 W (Proc.devRef .tc b) = W (Proc.devRef .tc b) :=
  after_of_forall_not_mem (b := Proc.devRef .tc b) _ _ (List.forall_iff_forall_mem.mp (by
    simp only [stretch1, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, List.flatten_cons, List.flatten_nil, List.append_nil, List.cons_append, List.nil_append, List.Forall, nullary_writes, unary_writes, binary_writes, reshape_writes, nary_writes, TRef.unary, TRef.binary, Finset.mem_singleton]
    repeat' apply And.intro
    all_goals exact devRef_ne_of_ne fun e => h (by subst e; decide)))

/-- What the stretch of the first moments writes; -/
def written2 : List (Ref sig .tc) := [main_v43, main_v44, main_c_21, main_call22_v0, main_v45, main_v46, main_c_22, main_call23_v0, main_v47, main_v48, main_c_23, main_call24_v0, main_v49, main_v50, main_c_24, main_call25_v0, main_v51, main_v52, main_c_25, main_call26_v0, main_v53, main_v54, main_c_26, main_call27_v0, main_v55, main_v56, main_c_27, main_call28_v0, main_v57, main_v58, main_c_28, main_call29_v0, main_v59, main_v60, main_c_29, main_call30_v0, main_v61, main_c_30, main_call31_v0, main_v62, main_v63, main_c_31, main_call32_v0, main_v64]

/-- it leaves everything else. -/
theorem keep2 (b : Ref sig .tc) (h : b ∉ written2) : after stretch2 W (Proc.devRef .tc b) = W (Proc.devRef .tc b) :=
  after_of_forall_not_mem (b := Proc.devRef .tc b) _ _ (List.forall_iff_forall_mem.mp (by
    simp only [stretch2, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, List.flatten_cons, List.flatten_nil, List.append_nil, List.cons_append, List.nil_append, List.Forall, nullary_writes, unary_writes, binary_writes, reshape_writes, nary_writes, TRef.unary, TRef.binary, Finset.mem_singleton]
    repeat' apply And.intro
    all_goals exact devRef_ne_of_ne fun e => h (by subst e; decide)))

/-- What the stretch of the second moments writes; -/
def written3 : List (Ref sig .tc) := [main_v65, main_v66, main_c_32, main_call33_v0, main_v67, main_v68, main_c_33, main_call34_v0, main_v69, main_v70, main_c_34, main_call35_v0, main_v71, main_v72, main_c_35, main_call36_v0, main_v73, main_v74, main_c_36, main_call37_v0, main_v75, main_v76, main_c_37, main_call38_v0, main_v77, main_v78, main_c_38, main_call39_v0, main_v79, main_v80, main_c_39, main_call40_v0, main_v81, main_v82, main_c_40, main_call41_v0, main_v83, main_c_41, main_call42_v0, main_v84, main_v85, main_c_42, main_call43_v0, main_v86]

/-- it leaves everything else. -/
theorem keep3 (b : Ref sig .tc) (h : b ∉ written3) : after stretch3 W (Proc.devRef .tc b) = W (Proc.devRef .tc b) :=
  after_of_forall_not_mem (b := Proc.devRef .tc b) _ _ (List.forall_iff_forall_mem.mp (by
    simp only [stretch3, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, List.flatten_cons, List.flatten_nil, List.append_nil, List.cons_append, List.nil_append, List.Forall, nullary_writes, unary_writes, binary_writes, reshape_writes, nary_writes, TRef.unary, TRef.binary, Finset.mem_singleton]
    repeat' apply And.intro
    all_goals exact devRef_ne_of_ne fun e => h (by subst e; decide)))

/-- The stretch of the weights lays them behind one another. -/
theorem packed0 : after stretch0 W (Proc.devRef .tc main_v20)
    = pad S6144 ![0] ![768] ![0] (line gap (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9))) gap pads_S5376_S6144_07680 h_S_ := by
  simp only [stretch0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, TRef.unary, TRef.binary, TRef.toBuf, TRef.ofBuf, cast_eq]
  after_results_simp <;> rfl

/-- The stretch of the gradients lays them behind one another. -/
theorem packed1 : after stretch1 W (Proc.devRef .tc main_v42)
    = pad S6144 ![0] ![768] ![0] (line gap (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))) gap pads_S5376_S6144_07680 h_S_ := by
  simp only [stretch1, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, List.flatten_cons, List.flatten_nil, List.append_nil, List.cons_append, List.nil_append, TRef.unary, TRef.binary, TRef.toBuf, TRef.ofBuf, cast_eq]
  after_results_simp <;> rfl

/-- The stretch of the first moments lays them behind one another. -/
theorem packed2 : after stretch2 W (Proc.devRef .tc main_v64)
    = pad S6144 ![0] ![768] ![0] (line gap (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) (W (Proc.devRef .tc main_arg29))) gap pads_S5376_S6144_07680 h_S_ := by
  simp only [stretch2, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, List.flatten_cons, List.flatten_nil, List.append_nil, List.cons_append, List.nil_append, TRef.unary, TRef.binary, TRef.toBuf, TRef.ofBuf, cast_eq]
  after_results_simp <;> rfl

/-- The stretch of the second moments lays them behind one another. -/
theorem packed3 : after stretch3 W (Proc.devRef .tc main_v86)
    = pad S6144 ![0] ![768] ![0] (line gap (W (Proc.devRef .tc main_arg30)) (W (Proc.devRef .tc main_arg31)) (W (Proc.devRef .tc main_arg32)) (W (Proc.devRef .tc main_arg33)) (W (Proc.devRef .tc main_arg34)) (W (Proc.devRef .tc main_arg35)) (W (Proc.devRef .tc main_arg36)) (W (Proc.devRef .tc main_arg37)) (W (Proc.devRef .tc main_arg38)) (W (Proc.devRef .tc main_arg39))) gap pads_S5376_S6144_07680 h_S_ := by
  simp only [stretch3, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, List.flatten_cons, List.flatten_nil, List.append_nil, List.cons_append, List.nil_append, TRef.unary, TRef.binary, TRef.toBuf, TRef.ofBuf, cast_eq]
  after_results_simp <;> rfl

end Stretches

end Cert.Proof.Adam

end
-- ==== Proof.Adam.Found.lean ====
module

public import proofs.«01_k».proof.Proof.Adam.Before

/-!
# What the call finds

The four packed arrays, of the arguments.
-/

@[expose] public section

set_option maxRecDepth 16384

noncomputable section

namespace Cert.Proof.Adam

open Cert.Kernel4Ideal Cert.Kernel4Ideal.Gen Idealize.ShloMosaic Idealize.ShloMosaic.TcCoe Idealize.ShloMosaic.StableHlo

variable {F : FTy → Type} [FloatOps F]

section Last

variable (W : Valuation τ sig (Elt F))

/-- The line of the weights is cut into rows at the head of what follows. -/
theorem rows0 : after stretch1 W (Proc.devRef .tc main_v21) = shapeCast S48x128 (W (Proc.devRef .tc main_v20)) shapeCasts_S6144_S48x128 := by
  simp only [stretch1, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, List.flatten_cons, List.flatten_nil, List.append_nil, List.cons_append, List.nil_append, TRef.unary, TRef.binary, TRef.toBuf, TRef.ofBuf, cast_eq]
  after_results_simp <;> rfl

/-- The line of the gradients is cut into rows at the head of what follows. -/
theorem rows1 : after stretch2 W (Proc.devRef .tc main_v43) = shapeCast S48x128 (W (Proc.devRef .tc main_v42)) shapeCasts_S6144_S48x128 := by
  simp only [stretch2, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, List.flatten_cons, List.flatten_nil, List.append_nil, List.cons_append, List.nil_append, TRef.unary, TRef.binary, TRef.toBuf, TRef.ofBuf, cast_eq]
  after_results_simp <;> rfl

/-- The line of the first moments is cut into rows at the head of what follows. -/
theorem rows2 : after stretch3 W (Proc.devRef .tc main_v65) = shapeCast S48x128 (W (Proc.devRef .tc main_v64)) shapeCasts_S6144_S48x128 := by
  simp only [stretch3, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, List.flatten_cons, List.flatten_nil, List.append_nil, List.cons_append, List.nil_append, TRef.unary, TRef.binary, TRef.toBuf, TRef.ofBuf, cast_eq]
  after_results_simp <;> rfl

/-- The line of the second moments is cut into rows at the head of what follows. -/
theorem rows3 : after hostOps0_88 W (Proc.devRef .tc main_v87) = shapeCast S48x128 (W (Proc.devRef .tc main_v86)) shapeCasts_S6144_S48x128 := by
  simp only [hostOps0_88, List.flatten_cons, List.flatten_nil, List.append_nil, List.cons_append, List.nil_append, TRef.unary, TRef.binary, TRef.toBuf, TRef.ofBuf, cast_eq]
  after_results_simp <;> rfl

theorem keepLast (b : Ref sig .tc) (h : b ≠ main_v87) : after hostOps0_88 W (Proc.devRef .tc b) = W (Proc.devRef .tc b) :=
  after_of_forall_not_mem (b := Proc.devRef .tc b) _ _ (List.forall_iff_forall_mem.mp (by
    simp only [hostOps0_88, List.Forall, reshape_writes, Finset.mem_singleton]
    exact devRef_ne_of_ne h))

end Last

variable (m : (ℓ : Loc nD τ sig) → Buf (Elt F) ℓ) (c : Dev nD)

/-- The ten weights, gradients, first moments or second moments, packed. -/
def packOf (k : Fin 4) : Vec F S48x128 .f32 := match k with
  | ⟨0, _⟩ => pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
  | ⟨1, _⟩ => pack (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
  | ⟨2, _⟩ => pack (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))
  | ⟨3, _⟩ => pack (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))

theorem found0 : V m c main_v21 = packOf m c 0 := by
  show after _ _ _ = _
  rw [stretches]
  rw [after_two, after_two, after_two, after_two]
  rw [keepLast _ main_v21 (by decide), keep3 _ main_v21 (by decide), keep2 _ main_v21 (by decide), rows0, packed0]
  rfl

theorem found1 : V m c main_v43 = packOf m c 1 := by
  show after _ _ _ = _
  rw [stretches]
  rw [after_two, after_two, after_two, after_two]
  rw [keepLast _ main_v43 (by decide), keep3 _ main_v43 (by decide), rows1, packed1, keep0 _ main_arg10 (by decide), keep0 _ main_arg11 (by decide), keep0 _ main_arg12 (by decide), keep0 _ main_arg13 (by decide), keep0 _ main_arg14 (by decide), keep0 _ main_arg15 (by decide), keep0 _ main_arg16 (by decide), keep0 _ main_arg17 (by decide), keep0 _ main_arg18 (by decide), keep0 _ main_arg19 (by decide)]
  rfl

theorem found2 : V m c main_v65 = packOf m c 2 := by
  show after _ _ _ = _
  rw [stretches]
  rw [after_two, after_two, after_two, after_two]
  rw [keepLast _ main_v65 (by decide), rows2, packed2, keep1 _ main_arg20 (by decide), keep1 _ main_arg21 (by decide), keep1 _ main_arg22 (by decide), keep1 _ main_arg23 (by decide), keep1 _ main_arg24 (by decide), keep1 _ main_arg25 (by decide), keep1 _ main_arg26 (by decide), keep1 _ main_arg27 (by decide), keep1 _ main_arg28 (by decide), keep1 _ main_arg29 (by decide), keep0 _ main_arg20 (by decide), keep0 _ main_arg21 (by decide), keep0 _ main_arg22 (by decide), keep0 _ main_arg23 (by decide), keep0 _ main_arg24 (by decide), keep0 _ main_arg25 (by decide), keep0 _ main_arg26 (by decide), keep0 _ main_arg27 (by decide), keep0 _ main_arg28 (by decide), keep0 _ main_arg29 (by decide)]
  rfl

theorem found3 : V m c main_v87 = packOf m c 3 := by
  show after _ _ _ = _
  rw [stretches]
  rw [after_two, after_two, after_two, after_two]
  rw [rows3, packed3, keep2 _ main_arg30 (by decide), keep2 _ main_arg31 (by decide), keep2 _ main_arg32 (by decide), keep2 _ main_arg33 (by decide), keep2 _ main_arg34 (by decide), keep2 _ main_arg35 (by decide), keep2 _ main_arg36 (by decide), keep2 _ main_arg37 (by decide), keep2 _ main_arg38 (by decide), keep2 _ main_arg39 (by decide), keep1 _ main_arg30 (by decide), keep1 _ main_arg31 (by decide), keep1 _ main_arg32 (by decide), keep1 _ main_arg33 (by decide), keep1 _ main_arg34 (by decide), keep1 _ main_arg35 (by decide), keep1 _ main_arg36 (by decide), keep1 _ main_arg37 (by decide), keep1 _ main_arg38 (by decide), keep1 _ main_arg39 (by decide), keep0 _ main_arg30 (by decide), keep0 _ main_arg31 (by decide), keep0 _ main_arg32 (by decide), keep0 _ main_arg33 (by decide), keep0 _ main_arg34 (by decide), keep0 _ main_arg35 (by decide), keep0 _ main_arg36 (by decide), keep0 _ main_arg37 (by decide), keep0 _ main_arg38 (by decide), keep0 _ main_arg39 (by decide)]
  rfl

end Cert.Proof.Adam

end
-- ==== Proof.Adam.After.lean ====
module

public import proofs.«01_k».proof.Proof.Adam.Pack
public import Idealize.ShloMosaic.Lib.StableHlo.Run
public import Idealize.ShloMosaic.Lib.StableHlo.RunHlo

/-!
# After the call

The host operations after the call read the ten changes and the ten new moments of either kind back from the packed results.
-/

@[expose] public section

set_option maxRecDepth 16384

noncomputable section

namespace Cert.Proof.Adam

open Cert.Kernel4Ideal Cert.Kernel4Ideal.Gen Idealize.ShloMosaic Idealize.ShloMosaic.TcCoe Idealize.ShloMosaic.StableHlo

variable {F : FTy → Type} [FloatOps F] (W : Valuation τ sig (Elt F))

/-! ## The changes -/

theorem read0_0 : after hostOps1 W (Proc.devRef .tc main_v91) = get0 (W (Proc.devRef .tc main_v88_0)) := by
  simp only [hostOps1]
  after_results_simp <;> rfl

theorem read0_1 : after hostOps1 W (Proc.devRef .tc main_v93) = get1 (W (Proc.devRef .tc main_v88_0)) := by
  simp only [hostOps1]
  after_results_simp <;> rfl

theorem read0_2 : after hostOps1 W (Proc.devRef .tc main_v95) = get2 (W (Proc.devRef .tc main_v88_0)) := by
  simp only [hostOps1]
  after_results_simp <;> rfl

theorem read0_3 : after hostOps1 W (Proc.devRef .tc main_v97) = get3 (W (Proc.devRef .tc main_v88_0)) := by
  simp only [hostOps1]
  after_results_simp <;> rfl

theorem read0_4 : after hostOps1 W (Proc.devRef .tc main_v99) = get4 (W (Proc.devRef .tc main_v88_0)) := by
  simp only [hostOps1]
  after_results_simp <;> rfl

theorem read0_5 : after hostOps1 W (Proc.devRef .tc main_v101) = get5 (W (Proc.devRef .tc main_v88_0)) := by
  simp only [hostOps1]
  after_results_simp <;> rfl

theorem read0_6 : after hostOps1 W (Proc.devRef .tc main_v103) = get6 (W (Proc.devRef .tc main_v88_0)) := by
  simp only [hostOps1]
  after_results_simp <;> rfl

theorem read0_7 : after hostOps1 W (Proc.devRef .tc main_v105) = get7 (W (Proc.devRef .tc main_v88_0)) := by
  simp only [hostOps1]
  after_results_simp <;> rfl

theorem read0_8 : after hostOps1 W (Proc.devRef .tc main_v107) = get8 (W (Proc.devRef .tc main_v88_0)) := by
  simp only [hostOps1]
  after_results_simp <;> rfl

theorem read0_9 : after hostOps1 W (Proc.devRef .tc main_v108) = get9 (W (Proc.devRef .tc main_v88_0)) := by
  simp only [hostOps1]
  after_results_simp <;> rfl

/-! ## The new first moments -/

theorem read1_0 : after hostOps1 W (Proc.devRef .tc main_v111) = get0 (W (Proc.devRef .tc main_v88_1)) := by
  simp only [hostOps1]
  after_results_simp <;> rfl

theorem read1_1 : after hostOps1 W (Proc.devRef .tc main_v113) = get1 (W (Proc.devRef .tc main_v88_1)) := by
  simp only [hostOps1]
  after_results_simp <;> rfl

theorem read1_2 : after hostOps1 W (Proc.devRef .tc main_v115) = get2 (W (Proc.devRef .tc main_v88_1)) := by
  simp only [hostOps1]
  after_results_simp <;> rfl

theorem read1_3 : after hostOps1 W (Proc.devRef .tc main_v117) = get3 (W (Proc.devRef .tc main_v88_1)) := by
  simp only [hostOps1]
  after_results_simp <;> rfl

theorem read1_4 : after hostOps1 W (Proc.devRef .tc main_v119) = get4 (W (Proc.devRef .tc main_v88_1)) := by
  simp only [hostOps1]
  after_results_simp <;> rfl

theorem read1_5 : after hostOps1 W (Proc.devRef .tc main_v121) = get5 (W (Proc.devRef .tc main_v88_1)) := by
  simp only [hostOps1]
  after_results_simp <;> rfl

theorem read1_6 : after hostOps1 W (Proc.devRef .tc main_v123) = get6 (W (Proc.devRef .tc main_v88_1)) := by
  simp only [hostOps1]
  after_results_simp <;> rfl

theorem read1_7 : after hostOps1 W (Proc.devRef .tc main_v125) = get7 (W (Proc.devRef .tc main_v88_1)) := by
  simp only [hostOps1]
  after_results_simp <;> rfl

theorem read1_8 : after hostOps1 W (Proc.devRef .tc main_v127) = get8 (W (Proc.devRef .tc main_v88_1)) := by
  simp only [hostOps1]
  after_results_simp <;> rfl

theorem read1_9 : after hostOps1 W (Proc.devRef .tc main_v128) = get9 (W (Proc.devRef .tc main_v88_1)) := by
  simp only [hostOps1]
  after_results_simp <;> rfl

/-! ## The new second moments -/

theorem read2_0 : after hostOps1 W (Proc.devRef .tc main_v131) = get0 (W (Proc.devRef .tc main_v88_2)) := by
  simp only [hostOps1]
  after_results_simp <;> rfl

theorem read2_1 : after hostOps1 W (Proc.devRef .tc main_v133) = get1 (W (Proc.devRef .tc main_v88_2)) := by
  simp only [hostOps1]
  after_results_simp <;> rfl

theorem read2_2 : after hostOps1 W (Proc.devRef .tc main_v135) = get2 (W (Proc.devRef .tc main_v88_2)) := by
  simp only [hostOps1]
  after_results_simp <;> rfl

theorem read2_3 : after hostOps1 W (Proc.devRef .tc main_v137) = get3 (W (Proc.devRef .tc main_v88_2)) := by
  simp only [hostOps1]
  after_results_simp <;> rfl

theorem read2_4 : after hostOps1 W (Proc.devRef .tc main_v139) = get4 (W (Proc.devRef .tc main_v88_2)) := by
  simp only [hostOps1]
  after_results_simp <;> rfl

theorem read2_5 : after hostOps1 W (Proc.devRef .tc main_v141) = get5 (W (Proc.devRef .tc main_v88_2)) := by
  simp only [hostOps1]
  after_results_simp <;> rfl

theorem read2_6 : after hostOps1 W (Proc.devRef .tc main_v143) = get6 (W (Proc.devRef .tc main_v88_2)) := by
  simp only [hostOps1]
  after_results_simp <;> rfl

theorem read2_7 : after hostOps1 W (Proc.devRef .tc main_v145) = get7 (W (Proc.devRef .tc main_v88_2)) := by
  simp only [hostOps1]
  after_results_simp <;> rfl

theorem read2_8 : after hostOps1 W (Proc.devRef .tc main_v147) = get8 (W (Proc.devRef .tc main_v88_2)) := by
  simp only [hostOps1]
  after_results_simp <;> rfl

theorem read2_9 : after hostOps1 W (Proc.devRef .tc main_v148) = get9 (W (Proc.devRef .tc main_v88_2)) := by
  simp only [hostOps1]
  after_results_simp <;> rfl

end Cert.Proof.Adam

end
-- ==== Proof.Adam.Call.lean ====
module

public import proofs.«01_k».proof.Proof.Adam.Step
public import proofs.«01_k».proof.Proof.Adam.Found
public import proofs.«01_k».proof.Proof.Adam.After
public import proofs.«01_k».proof.Proof.Ffn.Calls
public import proofs.«01_k».proof.Proof.Gen.Kernel4Ideal.Frame

/-!
# The call

One block is the whole of every array, so the call leaves the step of the packed arrays, entry by entry.
-/

@[expose] public section

set_option maxRecDepth 16384

noncomputable section

namespace Cert.Proof.Adam

open Cert.Kernel4Ideal Cert.Kernel4Ideal.Gen Idealize.ShloMosaic Idealize.ShloMosaic.TcCoe Idealize.ShloMosaic.StableHlo
open Cert.Proof.Ffn (ld_whole2 canon_whole2)

variable (m : (ℓ : Loc nD τ sig) → Buf (Elt Ideal) ℓ) (c : Dev nD)

theorem index0 : ∀ t : Fin grid0.N, win0_0.index t 0 = 0 ∧ win0_0.index t 1 = 0 := by decide +kernel

theorem emb0 (t : Fin cfg0.N) (i : S48x128.Idx) : ((cfg0.win 0).blk t).view.emb i = i := by
  funext a
  match a with
  | ⟨0, _⟩ => exact Fin.ext (show win0_0.index t 0 * 48 + 1 * (i 0).val = (i 0).val by rw [(index0 t).1]; omega)
  | ⟨1, _⟩ => exact Fin.ext (show win0_0.index t 1 * 128 + 1 * (i 1).val = (i 1).val by rw [(index0 t).2]; omega)

theorem index4 : ∀ t : Fin grid0.N, win0_4.index t 0 = 0 ∧ win0_4.index t 1 = 0 := by decide +kernel

theorem emb4 (t : Fin cfg0.N) (i : S48x128.Idx) : ((cfg0.win 4).blk t).view.emb i = i := by
  funext a
  match a with
  | ⟨0, _⟩ => exact Fin.ext (show win0_4.index t 0 * 48 + 1 * (i 0).val = (i 0).val by rw [(index4 t).1]; omega)
  | ⟨1, _⟩ => exact Fin.ext (show win0_4.index t 1 * 128 + 1 * (i 1).val = (i 1).val by rw [(index4 t).2]; omega)

theorem index5 : ∀ t : Fin grid0.N, win0_5.index t 0 = 0 ∧ win0_5.index t 1 = 0 := by decide +kernel

theorem emb5 (t : Fin cfg0.N) (i : S48x128.Idx) : ((cfg0.win 5).blk t).view.emb i = i := by
  funext a
  match a with
  | ⟨0, _⟩ => exact Fin.ext (show win0_5.index t 0 * 48 + 1 * (i 0).val = (i 0).val by rw [(index5 t).1]; omega)
  | ⟨1, _⟩ => exact Fin.ext (show win0_5.index t 1 * 128 + 1 * (i 1).val = (i 1).val by rw [(index5 t).2]; omega)

theorem index6 : ∀ t : Fin grid0.N, win0_6.index t 0 = 0 ∧ win0_6.index t 1 = 0 := by decide +kernel

theorem emb6 (t : Fin cfg0.N) (i : S48x128.Idx) : ((cfg0.win 6).blk t).view.emb i = i := by
  funext a
  match a with
  | ⟨0, _⟩ => exact Fin.ext (show win0_6.index t 0 * 48 + 1 * (i 0).val = (i 0).val by rw [(index6 t).1]; omega)
  | ⟨1, _⟩ => exact Fin.ext (show win0_6.index t 1 * 128 + 1 * (i 1).val = (i 1).val by rw [(index6 t).2]; omega)

theorem block0 (t : Fin cfg0.N) : (iblk m c 0 t : Vec Ideal S48x128 .f32) = packOf m c 0 :=
  Eq.trans (funext fun i => congrArg (V m c main_v21 : Vec Ideal S48x128 .f32) (emb0 t i)) (found0 m c)

theorem block1 (t : Fin cfg0.N) : (iblk m c 1 t : Vec Ideal S48x128 .f32) = packOf m c 1 :=
  Eq.trans (funext fun i => congrArg (V m c main_v43 : Vec Ideal S48x128 .f32) (emb0 t i)) (found1 m c)

theorem block2 (t : Fin cfg0.N) : (iblk m c 2 t : Vec Ideal S48x128 .f32) = packOf m c 2 :=
  Eq.trans (funext fun i => congrArg (V m c main_v65 : Vec Ideal S48x128 .f32) (emb0 t i)) (found2 m c)

theorem block3 (t : Fin cfg0.N) : (iblk m c 3 t : Vec Ideal S48x128 .f32) = packOf m c 3 :=
  Eq.trans (funext fun i => congrArg (V m c main_v87 : Vec Ideal S48x128 .f32) (emb0 t i)) (found3 m c)

theorem stored (p : Vec Ideal S48x128 .f32) : View.canon [(⟨r0_0, p⟩ : View.Piece (Elt Ideal) S48x128 .f32)] = p :=
  canon_whole2 _ p

theorem loaded (x : Vec Ideal S48x128 .f32) : View.ld x r0_0 = x := ld_whole2 _ x

/-- The packed changes. -/
def end0 : Vec Ideal S48x128 .f32 := fun i => stepD (packOf m c 0 i) (packOf m c 1 i) (packOf m c 2 i) (packOf m c 3 i)

theorem out4 (x0 x1 x2 x3 : Vec Ideal S48x128 .f32) : out0_4 x0 x1 x2 x3 = fun i => stepD (x0 i) (x1 i) (x2 i) (x3 i) := by
  unfold out0_4
  rw [stored, loaded x0, loaded x1, loaded x2, loaded x3]
  exact pay_d x0 x1 x2 x3

theorem flushed4 (t : Fin cfg0.N) (_ : (cfg0.win 4).flush t = true) :
    (dats m 0 c).flushed 4 t = ((cfg0.win 4).blk t).view.read (Elt Ideal) (end0 m c) := by
  show (cfg0.win 4).cut (grid0.coords t) ((dats m 0 c).after 4 t) = _
  have e : ((dats m 0 c).after 4 t : Vec Ideal S48x128 .f32) = end0 m c := by
    rw [after0_4, block0, block1, block2, block3, out4]
    rfl
  funext i
  exact (congrFun e i).trans (congrArg (end0 m c) (emb4 t i).symm)

theorem final4 : ((dats m 0 c).arrAt 4 cfg0.N : Vec Ideal S48x128 .f32) = end0 m c :=
  (dats m 0 c).arrAt_eq_of_cover 4 (end0 m c) (flushed4 m c) fun i =>
    ⟨t0_0, flush0_4 t0_0, emb4 t0_0 i ▸ View.emb_mem_set _ i⟩

/-- The packed new first moments. -/
def end1 : Vec Ideal S48x128 .f32 := fun i => stepM (packOf m c 1 i) (packOf m c 2 i)

theorem out5 (x0 x1 x2 x3 : Vec Ideal S48x128 .f32) : out0_5 x0 x1 x2 x3 = fun i => stepM (x1 i) (x2 i) := by
  unfold out0_5
  rw [stored, loaded x1, loaded x2]
  exact pay_m x1 x2

theorem flushed5 (t : Fin cfg0.N) (_ : (cfg0.win 5).flush t = true) :
    (dats m 0 c).flushed 5 t = ((cfg0.win 5).blk t).view.read (Elt Ideal) (end1 m c) := by
  show (cfg0.win 5).cut (grid0.coords t) ((dats m 0 c).after 5 t) = _
  have e : ((dats m 0 c).after 5 t : Vec Ideal S48x128 .f32) = end1 m c := by
    rw [after0_5, block0, block1, block2, block3, out5]
    rfl
  funext i
  exact (congrFun e i).trans (congrArg (end1 m c) (emb5 t i).symm)

theorem final5 : ((dats m 0 c).arrAt 5 cfg0.N : Vec Ideal S48x128 .f32) = end1 m c :=
  (dats m 0 c).arrAt_eq_of_cover 5 (end1 m c) (flushed5 m c) fun i =>
    ⟨t0_0, flush0_5 t0_0, emb5 t0_0 i ▸ View.emb_mem_set _ i⟩

/-- The packed new second moments. -/
def end2 : Vec Ideal S48x128 .f32 := fun i => stepV (packOf m c 1 i) (packOf m c 3 i)

theorem out6 (x0 x1 x2 x3 : Vec Ideal S48x128 .f32) : out0_6 x0 x1 x2 x3 = fun i => stepV (x1 i) (x3 i) := by
  unfold out0_6
  rw [stored, loaded x1, loaded x3]
  exact pay_v x1 x3

theorem flushed6 (t : Fin cfg0.N) (_ : (cfg0.win 6).flush t = true) :
    (dats m 0 c).flushed 6 t = ((cfg0.win 6).blk t).view.read (Elt Ideal) (end2 m c) := by
  show (cfg0.win 6).cut (grid0.coords t) ((dats m 0 c).after 6 t) = _
  have e : ((dats m 0 c).after 6 t : Vec Ideal S48x128 .f32) = end2 m c := by
    rw [after0_6, block0, block1, block2, block3, out6]
    rfl
  funext i
  exact (congrFun e i).trans (congrArg (end2 m c) (emb6 t i).symm)

theorem final6 : ((dats m 0 c).arrAt 6 cfg0.N : Vec Ideal S48x128 .f32) = end2 m c :=
  (dats m 0 c).arrAt_eq_of_cover 6 (end2 m c) (flushed6 m c) fun i =>
    ⟨t0_0, flush0_6 t0_0, emb6 t0_0 i ▸ View.emb_mem_set _ i⟩

/-! ## Read back -/

theorem four_eq {α β : Type} (f : α → α → α → α → β) {x x' y y' z z' w w' : α} (hx : x = x') (hy : y = y') (hz : z = z') (hw : w = w') :
    f x y z w = f x' y' z' w' := by
  subst hx hy hz hw
  rfl

/-- What is in a buffer when the call is done, -/
abbrev left (b : Ref sig .tc) : Buf (Elt Ideal) ((c : Thread nD τ).loc b) :=
  Pipeline.withArrays (cfgs 0).spec c (V0 m c) (fun w => (dats m 0 c).arrAt w (cfgs 0).N) (Proc.devRef .tc b)

/-- at the end, -/
abbrev tail (b : Ref sig .tc) : Buf (Elt Ideal) ((c : Thread nD τ).loc b) := Pipeline.afterTail₀ cfgs (dats m) 0 (V0 m) [hostOps1] c b

/-- and at the start. -/
abbrev own (b : Ref sig .tc) : Buf (Elt Ideal) ((c : Thread nD τ).loc b) := m ((c : Thread nD τ).loc b)

theorem left0 : (left m c main_v88_0 : Vec Ideal S48x128 .f32) = end0 m c :=
  (Pipeline.withArrays_arr (cfgs 0).spec winFacts0.arr_inj c (V0 m c) (fun w => (dats m 0 c).arrAt w (cfgs 0).N) 4).trans (final4 m c)

theorem left1 : (left m c main_v88_1 : Vec Ideal S48x128 .f32) = end1 m c :=
  (Pipeline.withArrays_arr (cfgs 0).spec winFacts0.arr_inj c (V0 m c) (fun w => (dats m 0 c).arrAt w (cfgs 0).N) 5).trans (final5 m c)

theorem left2 : (left m c main_v88_2 : Vec Ideal S48x128 .f32) = end2 m c :=
  (Pipeline.withArrays_arr (cfgs 0).spec winFacts0.arr_inj c (V0 m c) (fun w => (dats m 0 c).arrAt w (cfgs 0).N) 6).trans (final6 m c)

theorem at0_0 : tail m c main_v91 = newD (S := S1x1024) (own m c main_arg0) (own m c main_arg10) (own m c main_arg20) (own m c main_arg30) :=
  (read0_0 _).trans ((congrArg get0 (left0 m c)).trans ((get0_four stepD _ _ _ _).trans (four_eq newD get0_pack get0_pack get0_pack get0_pack)))

theorem at0_1 : tail m c main_v93 = newD (S := S1x4x384) (own m c main_arg1) (own m c main_arg11) (own m c main_arg21) (own m c main_arg31) :=
  (read0_1 _).trans ((congrArg get1 (left0 m c)).trans ((get1_four stepD _ _ _ _).trans (four_eq newD get1_pack get1_pack get1_pack get1_pack)))

theorem at0_2 : tail m c main_v95 = newD (S := S1x8) (own m c main_arg2) (own m c main_arg12) (own m c main_arg22) (own m c main_arg32) :=
  (read0_2 _).trans ((congrArg get2 (left0 m c)).trans ((get2_four stepD _ _ _ _).trans (four_eq newD get2_pack get2_pack get2_pack get2_pack)))

theorem at0_3 : tail m c main_v97 = newD (S := S1x8) (own m c main_arg3) (own m c main_arg13) (own m c main_arg23) (own m c main_arg33) :=
  (read0_3 _).trans ((congrArg get3 (left0 m c)).trans ((get3_four stepD _ _ _ _).trans (four_eq newD get3_pack get3_pack get3_pack get3_pack)))

theorem at0_4 : tail m c main_v99 = newD (S := S1x64) (own m c main_arg4) (own m c main_arg14) (own m c main_arg24) (own m c main_arg34) :=
  (read0_4 _).trans ((congrArg get4 (left0 m c)).trans ((get4_four stepD _ _ _ _).trans (four_eq newD get4_pack get4_pack get4_pack get4_pack)))

theorem at0_5 : tail m c main_v101 = newD (S := S1x8) (own m c main_arg5) (own m c main_arg15) (own m c main_arg25) (own m c main_arg35) :=
  (read0_5 _).trans ((congrArg get5 (left0 m c)).trans ((get5_four stepD _ _ _ _).trans (four_eq newD get5_pack get5_pack get5_pack get5_pack)))

theorem at0_6 : tail m c main_v103 = newD (S := S1x64) (own m c main_arg6) (own m c main_arg16) (own m c main_arg26) (own m c main_arg36) :=
  (read0_6 _).trans ((congrArg get6 (left0 m c)).trans ((get6_four stepD _ _ _ _).trans (four_eq newD get6_pack get6_pack get6_pack get6_pack)))

theorem at0_7 : tail m c main_v105 = newD (S := S1x64) (own m c main_arg7) (own m c main_arg17) (own m c main_arg27) (own m c main_arg37) :=
  (read0_7 _).trans ((congrArg get7 (left0 m c)).trans ((get7_four stepD _ _ _ _).trans (four_eq newD get7_pack get7_pack get7_pack get7_pack)))

theorem at0_8 : tail m c main_v107 = newD (S := S1x1024) (own m c main_arg8) (own m c main_arg18) (own m c main_arg28) (own m c main_arg38) :=
  (read0_8 _).trans ((congrArg get8 (left0 m c)).trans ((get8_four stepD _ _ _ _).trans (four_eq newD get8_pack get8_pack get8_pack get8_pack)))

theorem at0_9 : tail m c main_v108 = newD (S := S1024) (own m c main_arg9) (own m c main_arg19) (own m c main_arg29) (own m c main_arg39) :=
  (read0_9 _).trans ((congrArg get9 (left0 m c)).trans ((get9_four stepD _ _ _ _).trans (four_eq newD get9_pack get9_pack get9_pack get9_pack)))

theorem at1_0 : tail m c main_v111 = newM (S := S1x1024) (own m c main_arg10) (own m c main_arg20) :=
  (read1_0 _).trans ((congrArg get0 (left1 m c)).trans ((get0_two stepM _ _).trans (congrArg₂ newM get0_pack get0_pack)))

theorem at1_1 : tail m c main_v113 = newM (S := S1x4x384) (own m c main_arg11) (own m c main_arg21) :=
  (read1_1 _).trans ((congrArg get1 (left1 m c)).trans ((get1_two stepM _ _).trans (congrArg₂ newM get1_pack get1_pack)))

theorem at1_2 : tail m c main_v115 = newM (S := S1x8) (own m c main_arg12) (own m c main_arg22) :=
  (read1_2 _).trans ((congrArg get2 (left1 m c)).trans ((get2_two stepM _ _).trans (congrArg₂ newM get2_pack get2_pack)))

theorem at1_3 : tail m c main_v117 = newM (S := S1x8) (own m c main_arg13) (own m c main_arg23) :=
  (read1_3 _).trans ((congrArg get3 (left1 m c)).trans ((get3_two stepM _ _).trans (congrArg₂ newM get3_pack get3_pack)))

theorem at1_4 : tail m c main_v119 = newM (S := S1x64) (own m c main_arg14) (own m c main_arg24) :=
  (read1_4 _).trans ((congrArg get4 (left1 m c)).trans ((get4_two stepM _ _).trans (congrArg₂ newM get4_pack get4_pack)))

theorem at1_5 : tail m c main_v121 = newM (S := S1x8) (own m c main_arg15) (own m c main_arg25) :=
  (read1_5 _).trans ((congrArg get5 (left1 m c)).trans ((get5_two stepM _ _).trans (congrArg₂ newM get5_pack get5_pack)))

theorem at1_6 : tail m c main_v123 = newM (S := S1x64) (own m c main_arg16) (own m c main_arg26) :=
  (read1_6 _).trans ((congrArg get6 (left1 m c)).trans ((get6_two stepM _ _).trans (congrArg₂ newM get6_pack get6_pack)))

theorem at1_7 : tail m c main_v125 = newM (S := S1x64) (own m c main_arg17) (own m c main_arg27) :=
  (read1_7 _).trans ((congrArg get7 (left1 m c)).trans ((get7_two stepM _ _).trans (congrArg₂ newM get7_pack get7_pack)))

theorem at1_8 : tail m c main_v127 = newM (S := S1x1024) (own m c main_arg18) (own m c main_arg28) :=
  (read1_8 _).trans ((congrArg get8 (left1 m c)).trans ((get8_two stepM _ _).trans (congrArg₂ newM get8_pack get8_pack)))

theorem at1_9 : tail m c main_v128 = newM (S := S1024) (own m c main_arg19) (own m c main_arg29) :=
  (read1_9 _).trans ((congrArg get9 (left1 m c)).trans ((get9_two stepM _ _).trans (congrArg₂ newM get9_pack get9_pack)))

theorem at2_0 : tail m c main_v131 = newV (S := S1x1024) (own m c main_arg10) (own m c main_arg30) :=
  (read2_0 _).trans ((congrArg get0 (left2 m c)).trans ((get0_two stepV _ _).trans (congrArg₂ newV get0_pack get0_pack)))

theorem at2_1 : tail m c main_v133 = newV (S := S1x4x384) (own m c main_arg11) (own m c main_arg31) :=
  (read2_1 _).trans ((congrArg get1 (left2 m c)).trans ((get1_two stepV _ _).trans (congrArg₂ newV get1_pack get1_pack)))

theorem at2_2 : tail m c main_v135 = newV (S := S1x8) (own m c main_arg12) (own m c main_arg32) :=
  (read2_2 _).trans ((congrArg get2 (left2 m c)).trans ((get2_two stepV _ _).trans (congrArg₂ newV get2_pack get2_pack)))

theorem at2_3 : tail m c main_v137 = newV (S := S1x8) (own m c main_arg13) (own m c main_arg33) :=
  (read2_3 _).trans ((congrArg get3 (left2 m c)).trans ((get3_two stepV _ _).trans (congrArg₂ newV get3_pack get3_pack)))

theorem at2_4 : tail m c main_v139 = newV (S := S1x64) (own m c main_arg14) (own m c main_arg34) :=
  (read2_4 _).trans ((congrArg get4 (left2 m c)).trans ((get4_two stepV _ _).trans (congrArg₂ newV get4_pack get4_pack)))

theorem at2_5 : tail m c main_v141 = newV (S := S1x8) (own m c main_arg15) (own m c main_arg35) :=
  (read2_5 _).trans ((congrArg get5 (left2 m c)).trans ((get5_two stepV _ _).trans (congrArg₂ newV get5_pack get5_pack)))

theorem at2_6 : tail m c main_v143 = newV (S := S1x64) (own m c main_arg16) (own m c main_arg36) :=
  (read2_6 _).trans ((congrArg get6 (left2 m c)).trans ((get6_two stepV _ _).trans (congrArg₂ newV get6_pack get6_pack)))

theorem at2_7 : tail m c main_v145 = newV (S := S1x64) (own m c main_arg17) (own m c main_arg37) :=
  (read2_7 _).trans ((congrArg get7 (left2 m c)).trans ((get7_two stepV _ _).trans (congrArg₂ newV get7_pack get7_pack)))

theorem at2_8 : tail m c main_v147 = newV (S := S1x1024) (own m c main_arg18) (own m c main_arg38) :=
  (read2_8 _).trans ((congrArg get8 (left2 m c)).trans ((get8_two stepV _ _).trans (congrArg₂ newV get8_pack get8_pack)))

theorem at2_9 : tail m c main_v148 = newV (S := S1024) (own m c main_arg19) (own m c main_arg39) :=
  (read2_9 _).trans ((congrArg get9 (left2 m c)).trans ((get9_two stepV _ _).trans (congrArg₂ newV get9_pack get9_pack)))

end Cert.Proof.Adam

end
-- ==== Proof.Adam.Equal.lean ====
module

public import proofs.«01_k».proof.Proof.Adam.Call
public import proofs.«01_k».proof.Proof.Gen.Reference4Ideal.Run
public import proofs.«01_k».proof.Defs

/-!
# The small weights' step: the two programs agree

Packed, stepped and read back, the ten small weights take the same step as one by one.
-/

@[expose] public section

set_option maxRecDepth 16384

noncomputable section

namespace Cert.Proof.Adam

open Idealize.ShloMosaic Idealize.ShloMosaic.TcCoe Idealize.ShloMosaic.StableHlo

/-! ## The kernel's side -/

section Kernel

open Cert.Kernel4Ideal Cert.Kernel4Ideal.Gen

variable (m : (ℓ : Loc nD τ sig) → Buf (Elt Ideal) ℓ)

/-- What the operations after the call leave in a buffer of the program's own is there at the end. -/
theorem held {r : PUnit × MemSt nD τ sig (Elt Ideal)} (h : Pipeline.FramePost cfgs (dats m) 0 (Pipeline.afterTail₀ cfgs (dats m) 0 (V0 m) [hostOps1]) r)
    (c : Dev nD) (b : Ref sig .tc) (hb : b.isScoped = false ∧ ∀ w, Pipeline.arrRef (cfgs 0).spec w ≠ b) :
    r.2.mem ((c.tc : Thread nD τ).loc b) = Pipeline.afterTail₀ cfgs (dats m) 0 (V0 m) [hostOps1] c b :=
  (h c).2 b (Pipeline.mem_restRefs_of b hb.1 hb.2)

end Kernel

/-! ## The reference's side -/

section Reference

open Cert.Reference4Ideal Cert.Reference4Ideal.Gen

section Host

variable {S : Shape} (h : S_.BroadcastsInDim S ![]) {w g m v w' g' m' v' : FVec Ideal S .f32}

/-- The reference's own step, of arrays equal to the kernel's. -/
theorem host_m (eg : g' = g) (em : m' = m) :
    addf (mulf (broadcastInDim S ![] h (constant (F := Ideal) S_ .f32 0x3F666666#32)) m') (mulf (broadcastInDim S ![] h (constant (F := Ideal) S_ .f32 0x3DCCCCCD#32)) g') = newM g m := by
  subst eg em
  funext i
  pointwise [newM, stepM]

theorem host_v (eg : g' = g) (ev : v' = v) :
    addf (mulf (broadcastInDim S ![] h (constant (F := Ideal) S_ .f32 0x3F7FBE77#32)) v') (mulf (broadcastInDim S ![] h (constant (F := Ideal) S_ .f32 0x3A83126F#32)) (mulf g' g')) = newV g v := by
  subst eg ev
  funext i
  pointwise [newV, stepV]

theorem host_d (ew : w' = w) (eg : g' = g) (em : m' = m) (ev : v' = v) :
    mulf (broadcastInDim S ![] h (constant (F := Ideal) S_ .f32 0xBA83126F#32))
      (addf
        (Host.divf
          (Host.divf (addf (mulf (broadcastInDim S ![] h (constant (F := Ideal) S_ .f32 0x3F666666#32)) m') (mulf (broadcastInDim S ![] h (constant (F := Ideal) S_ .f32 0x3DCCCCCD#32)) g'))
            (broadcastInDim S ![] h (constant (F := Ideal) S_ .f32 0x3F26BD02#32)))
          (addf
            (Host.sqrt
              (Host.divf (addf (mulf (broadcastInDim S ![] h (constant (F := Ideal) S_ .f32 0x3F7FBE77#32)) v') (mulf (broadcastInDim S ![] h (constant (F := Ideal) S_ .f32 0x3A83126F#32)) (mulf g' g')))
                (broadcastInDim S ![] h (constant (F := Ideal) S_ .f32 0x3C231ACC#32))))
            (broadcastInDim S ![] h (constant (F := Ideal) S_ .f32 0x322BCC77#32))))
        (mulf (broadcastInDim S ![] h (constant (F := Ideal) S_ .f32 0x3C23D70A#32)) w')) = newD w g m v := by
  subst ew eg em ev
  funext i
  pointwise [newD, stepD, stepM, stepV]

end Host

variable (m : (ℓ : Loc nD τ sig) → Buf (Elt Ideal) ℓ)

end Reference

/-- The reference terminates with its arguments unchanged and its counters at zero. -/
theorem frame_reference : quiescent_Reference4Ideal (hReference4Ideal := Cert.Reference4Ideal.Gen.facts) := fun m g _ =>
  (θ_run _ _ _).mono (fun r h => ⟨fun c => (h c).2.2.2.2.2.2.2.2.2.2.2.2.2.2.2.2.2.2.2.2.2.2.2.2.2.2.2.2.2.2, sem_eq_zero_of_no_sems (by decide) r.2⟩) (Cert.Reference4Ideal.Value.run m g)

open Cert.Kernel4Ideal Cert.Kernel4Ideal.Gen in
/-- Idealized kernel and reference end with equal results. -/
theorem agree : algebraic_Kernel4Ideal_Reference4Ideal (hKernel4Ideal := Cert.Kernel4Ideal.Gen.facts)
    (hReference4Ideal := Cert.Reference4Ideal.Gen.facts) := by
  intro m g m' g' _ hag
  iterate 30 apply Exists.intro
  refine ⟨(θ_run _ _ _).mono (fun r h c => ?_) (θ_run_and (unchanged m g) (run_main m g)), (θ_run _ _ _).mono (fun r h c => ?_) (Cert.Reference4Ideal.Value.run m' g')⟩
  · have hc := held m h.2 c
    exact ⟨(hc main_v91 (by decide)).trans (at0_0 m c),
      (hc main_v93 (by decide)).trans (at0_1 m c),
      (hc main_v95 (by decide)).trans (at0_2 m c),
      (hc main_v97 (by decide)).trans (at0_3 m c),
      (hc main_v99 (by decide)).trans (at0_4 m c),
      (hc main_v101 (by decide)).trans (at0_5 m c),
      (hc main_v103 (by decide)).trans (at0_6 m c),
      (hc main_v105 (by decide)).trans (at0_7 m c),
      (hc main_v107 (by decide)).trans (at0_8 m c),
      (hc main_v108 (by decide)).trans (at0_9 m c),
      (hc main_v111 (by decide)).trans (at1_0 m c),
      (hc main_v113 (by decide)).trans (at1_1 m c),
      (hc main_v115 (by decide)).trans (at1_2 m c),
      (hc main_v117 (by decide)).trans (at1_3 m c),
      (hc main_v119 (by decide)).trans (at1_4 m c),
      (hc main_v121 (by decide)).trans (at1_5 m c),
      (hc main_v123 (by decide)).trans (at1_6 m c),
      (hc main_v125 (by decide)).trans (at1_7 m c),
      (hc main_v127 (by decide)).trans (at1_8 m c),
      (hc main_v128 (by decide)).trans (at1_9 m c),
      (hc main_v131 (by decide)).trans (at2_0 m c),
      (hc main_v133 (by decide)).trans (at2_1 m c),
      (hc main_v135 (by decide)).trans (at2_2 m c),
      (hc main_v137 (by decide)).trans (at2_3 m c),
      (hc main_v139 (by decide)).trans (at2_4 m c),
      (hc main_v141 (by decide)).trans (at2_5 m c),
      (hc main_v143 (by decide)).trans (at2_6 m c),
      (hc main_v145 (by decide)).trans (at2_7 m c),
      (hc main_v147 (by decide)).trans (at2_8 m c),
      (hc main_v148 (by decide)).trans (at2_9 m c), h.1 c⟩
  · obtain ⟨h0, h1, h2, h3, h4, h5, h6, h7, h8, h9, h10, h11, h12, h13, h14, h15, h16, h17, h18, h19, h20, h21, h22, h23, h24, h25, h26, h27, h28, h29, hargs⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39⟩ := hag c
    exact ⟨h0.trans (host_d _ e0 e10 e20 e30),
      h1.trans (host_d _ e1 e11 e21 e31),
      h2.trans (host_d _ e2 e12 e22 e32),
      h3.trans (host_d _ e3 e13 e23 e33),
      h4.trans (host_d _ e4 e14 e24 e34),
      h5.trans (host_d _ e5 e15 e25 e35),
      h6.trans (host_d _ e6 e16 e26 e36),
      h7.trans (host_d _ e7 e17 e27 e37),
      h8.trans (host_d _ e8 e18 e28 e38),
      h9.trans (host_d _ e9 e19 e29 e39),
      h10.trans (host_m _ e10 e20),
      h11.trans (host_m _ e11 e21),
      h12.trans (host_m _ e12 e22),
      h13.trans (host_m _ e13 e23),
      h14.trans (host_m _ e14 e24),
      h15.trans (host_m _ e15 e25),
      h16.trans (host_m _ e16 e26),
      h17.trans (host_m _ e17 e27),
      h18.trans (host_m _ e18 e28),
      h19.trans (host_m _ e19 e29),
      h20.trans (host_v _ e10 e30),
      h21.trans (host_v _ e11 e31),
      h22.trans (host_v _ e12 e32),
      h23.trans (host_v _ e13 e33),
      h24.trans (host_v _ e14 e34),
      h25.trans (host_v _ e15 e35),
      h26.trans (host_v _ e16 e36),
      h27.trans (host_v _ e17 e37),
      h28.trans (host_v _ e18 e38),
      h29.trans (host_v _ e19 e39), hargs⟩

end Cert.Proof.Adam

end
-- ==== Proof.Adam.Halves.lean ====
module

public import proofs.«01_k».proof.Proof.Adam.Equal
public import proofs.«01_k».proof.Proof.Ffn.Stores
public import Idealize.ShloMosaic.Lib.Pipeline.Value

/-!
# A gradient made of two halves

A large weight's gradient comes as two halves of its 1024 columns, one from either core; the word `p` is the half this core
holds. The two are put side by side, entry by entry.
-/

@[expose] public section

noncomputable section

namespace Cert.Proof.Adam

open Idealize.ShloMosaic Idealize.ShloMosaic.TcCoe

/-- Half `k`'s entry: mine when the word says so, and the sibling's otherwise. -/
def side (k : ℕ) (p : BitVec 32) (mine other : EReal) : EReal := if BitVec.ofNat 32 k = p then mine else other

/-- The matrix of the two halves. -/
def halves {R : ℕ} (p : BitVec 32) (mine other : FVec Ideal ⟨2, ![R, 512]⟩ .f32) : FVec Ideal ⟨2, ![R, 1024]⟩ .f32 := fun i =>
  side ((i 1).val / 512) p (mine (ix2 (i 0) ⟨(i 1).val % 512, Nat.mod_lt _ (by decide)⟩)) (other (ix2 (i 0) ⟨(i 1).val % 512, Nat.mod_lt _ (by decide)⟩))

/-- Entry `j` of the block of 512 columns number `t`, as an entry of the matrix. -/
def spotOf {R : ℕ} (t : ℕ) (ht : t < 2) (j : (⟨2, ![R, 512]⟩ : Shape).Idx) : (⟨2, ![R, 1024]⟩ : Shape).Idx :=
  ix2 (j 0) ⟨512 * t + (j 1).val, by have h1 : (j 1).val < 512 := (j 1).isLt; omega⟩

theorem spotOf_surj {R : ℕ} (i : (⟨2, ![R, 1024]⟩ : Shape).Idx) : ∃ (t : ℕ) (ht : t < 2) (j : (⟨2, ![R, 512]⟩ : Shape).Idx), spotOf t ht j = i := by
  have h1 : (i 1).val < 1024 := (i 1).isLt
  refine ⟨(i 1).val / 512, by omega, ix2 (i 0) ⟨(i 1).val % 512, by omega⟩, ?_⟩
  funext a
  match a with
  | ⟨0, _⟩ => rfl
  | ⟨1, _⟩ => exact Fin.ext (show 512 * ((i 1).val / 512) + (i 1).val % 512 = (i 1).val by omega)

theorem halves_spot {R : ℕ} (p : BitVec 32) (mine other : FVec Ideal ⟨2, ![R, 512]⟩ .f32) (t : ℕ) (ht : t < 2) (j : (⟨2, ![R, 512]⟩ : Shape).Idx) :
    halves p mine other (spotOf t ht j) = side t p (mine j) (other j) := by
  have h1 : (j 1).val < 512 := (j 1).isLt
  have e : ix2 (n0 := R) (n1 := 512) (j 0) ⟨(512 * t + (j 1).val) % 512, Nat.mod_lt _ (by decide)⟩ = j := by
    funext a
    match a with
    | ⟨0, _⟩ => rfl
    | ⟨1, _⟩ => exact Fin.ext (show (512 * t + (j 1).val) % 512 = (j 1).val by omega)
  show side ((512 * t + (j 1).val) / 512) p (mine (ix2 (j 0) ⟨(512 * t + (j 1).val) % 512, _⟩)) (other (ix2 (j 0) ⟨(512 * t + (j 1).val) % 512, _⟩)) = _
  rw [e, show (512 * t + (j 1).val) / 512 = t by omega]

/-- The kernel's choice between the halves, -/
theorem select_side {S : Shape} (k : ℕ) (p : BitVec 32) (mine other : FVec Ideal S .f32) :
    Scalar.select (Scalar.cmpi .eq (BitVec.ofNat 32 k) p) mine other = fun j => side k p (mine j) (other j) := by
  funext j
  unfold side Scalar.select Scalar.cmpi IntOp.cmpi
  by_cases h : BitVec.ofNat 32 k = p
  · simp [h]
  · rw [if_neg h, beq_eq_false_iff_ne.mpr h]; rfl

/-- and the reference's. -/
theorem where_side (k : ℕ) (p : BitVec 32) (mine other : EReal) :
    Scalar.select (IntOp.cmpi .eq p (BitVec.ofNat 32 k)) mine other = side k p mine other := by
  unfold side Scalar.select IntOp.cmpi
  by_cases h : BitVec.ofNat 32 k = p
  · simp [h]
  · rw [if_neg h, beq_eq_false_iff_ne.mpr (Ne.symm h)]; rfl

/-- The one store, over a whole buffer, is what the buffer then reads as. -/
theorem read_whole {sig : RefSig} {S : Shape} {e : EltTy} (v : View sig .tc .vmem S e) (f : v.ty.Contents (Elt Ideal)) {off : Fin S.rank → ℕ}
    (h : off = fun _ => 0) (inb : ∀ a, off a + S.size a ≤ S.size a) (w : Vec Ideal S e) :
    v.read (Elt Ideal) (v.writes (Elt Ideal) f [(⟨Rect.unit off S.size inb, w⟩ : View.Piece (Elt Ideal) S e)]) = w := by
  rw [View.read_writes_eq_canon v f _ fun y => ⟨_, List.mem_cons_self, View.mem_set_unit_zero h inb y⟩]
  exact View.canon_cons_unit_zero h inb w []

/-- A load of a whole buffer reads what it holds. -/
theorem load_whole {sig : RefSig} {S : Shape} {e : EltTy} {M : Memref sig .tc .vmem S e} (hM : M.IsWhole) {off : Fin S.rank → ℕ} (h : off = fun _ => 0)
    (inb : ∀ a, off a + S.size a ≤ S.size a) (x : Vec Ideal S e) :
    M.view.readAt (Elt Ideal) (Rect.unit off S.size inb).toLoadRect (hM.unread x) = x := by
  rw [View.readAt_eq_ld, hM.read_unread]
  exact View.ld_unit_zero h inb x

section Host

open Cert.Reference4Ideal

variable {R : ℕ} {S1 S2 : Shape}

/-- The reference's two halves side by side. -/
theorem host_halves (hb : S_.BroadcastsInDim ⟨2, ![R, 512]⟩ ![]) (hc : Shape.Concatenates [⟨2, ![R, 512]⟩, ⟨2, ![R, 512]⟩] ⟨2, ![R, 1024]⟩ 1)
    {q0 q1 : IVec S_ 32} {p : BitVec 32} (h0 : ∀ i, q0 i = p) (h1 : ∀ i, q1 i = p) (mine other : FVec Ideal ⟨2, ![R, 512]⟩ .f32) :
    concatenate ⟨2, ![R, 1024]⟩ 1
      [⟨⟨2, ![R, 512]⟩, select (broadcastInDim ⟨2, ![R, 512]⟩ ![] hb (cmpi .eq q0 (constantI S_ 32 0#32))) mine other⟩,
        ⟨⟨2, ![R, 512]⟩, select (broadcastInDim ⟨2, ![R, 512]⟩ ![] hb (cmpi .eq q1 (constantI S_ 32 1#32))) mine other⟩] hc = halves p mine other := by
  funext i
  obtain ⟨t, ht, j, rfl⟩ := spotOf_surj i
  have hj : (j 1).val < 512 := (j 1).isLt
  rw [halves_spot]
  obtain rfl | rfl : t = 0 ∨ t = 1 := by omega
  · refine (concatenate_pair_apply_left 1 _ _ hc _ rfl j fun b => ?_).trans ?_
    · match b with
      | ⟨0, _⟩ => rfl
      | ⟨1, _⟩ => exact (show (j 1).val = 512 * 0 + (j 1).val by omega)
    · exact (congrArg (fun x => Scalar.select (IntOp.cmpi .eq x 0#32) (mine j) (other j)) (h0 _)).trans (where_side 0 p _ _)
  · refine (concatenate_pair_apply_right 1 _ _ hc _ rfl rfl j (fun b hb => ?_) ?_).trans ?_
    · match b with
      | ⟨0, _⟩ => rfl
      | ⟨1, _⟩ => exact absurd rfl hb
    · exact (show (j 1).val + 512 = 512 * 1 + (j 1).val by omega)
    · exact (congrArg (fun x => Scalar.select (IntOp.cmpi .eq x 1#32) (mine j) (other j)) (h1 _)).trans (where_side 1 p _ _)

/-- The word as the reference reads it. -/
theorem host_word (x : IVec ⟨1, ![2]⟩ 32) (h1 : (⟨1, ![2]⟩ : Shape).Slices ![0] ⟨1, ![1]⟩) (h2 : (⟨1, ![1]⟩ : Shape).ShapeCasts S_) (i : S_.Idx) :
    shapeCast S_ (extractStridedSlice ⟨1, ![1]⟩ ![0] x h1) h2 i = x (ix1 0) := by
  pointwise []

end Host

end Cert.Proof.Adam

end
-- ==== Proof.Adam.WOut.lean ====
module

public import proofs.«01_k».proof.Proof.Adam.Halves
public import proofs.«01_k».proof.Proof.Gen.Kernel5Ideal.Frame
public import proofs.«01_k».proof.Proof.Gen.Reference5Ideal.Run
public import proofs.«01_k».proof.Defs

/-!
# The step of `w_out`

Every block of 512 columns the call leaves is the step of that block's entries, so its four arrays are the step of the whole weight;
the reference's lines are the same step.
-/

@[expose] public section

set_option maxRecDepth 16384

noncomputable section

namespace Cert.Proof.Adam.WOut

open Idealize.ShloMosaic Idealize.ShloMosaic.TcCoe Idealize.ShloMosaic.StableHlo
open Cert.Proof.Ffn (origin2)

section Kernel

open Cert.Kernel5Ideal Cert.Kernel5Ideal.Gen

variable (m : (ℓ : Loc nD τ sig) → Buf (Elt Ideal) ℓ) (c : Dev nD) (hO : Ok m)

/-! ## Blocks -/

theorem index : ∀ t : Fin grid0.N, cc0_transform_0 (grid0.coords t) 0 = 0 ∧ cc0_transform_0 (grid0.coords t) 1 = t.val := by decide +kernel
theorem half : ∀ t : Fin grid0.N, cc0_transform_1 (grid0.coords t) 0 = 0 ∧ cc0_transform_1 (grid0.coords t) 1 = 0 := by decide +kernel
theorem coord : ∀ t : Fin grid0.N, (grid0.coords t 0).val = t.val := by decide +kernel

/-- Entry `j` of point `t`'s block, in its array. -/
abbrev spot (t : Fin grid0.N) (j : S256x512.Idx) : S256x1024.Idx := spotOf (R := 256) t.val t.isLt j

theorem emb (t : Fin (cfgM m hO).N) (j : S256x512.Idx) : (((cfgM m hO).win 5).blk t).view.emb j = spot t j := by
  funext a
  match a with
  | ⟨0, _⟩ => exact Fin.ext (show cc0_transform_0 (grid0.coords t) 0 * 256 + 1 * (j 0).val = (j 0).val by rw [(index t).1]; omega)
  | ⟨1, _⟩ => exact Fin.ext (show cc0_transform_0 (grid0.coords t) 1 * 512 + 1 * (j 1).val = 512 * t.val + (j 1).val by rw [(index t).2]; omega)

theorem emb_half (t : Fin (cfgM m hO).N) (j : S256x512.Idx) : (((cfgM m hO).win 1).blk t).view.emb j = j := by
  funext a
  match a with
  | ⟨0, _⟩ => exact Fin.ext (show cc0_transform_1 (grid0.coords t) 0 * 256 + 1 * (j 0).val = (j 0).val by rw [(half t).1]; omega)
  | ⟨1, _⟩ => exact Fin.ext (show cc0_transform_1 (grid0.coords t) 1 * 512 + 1 * (j 1).val = (j 1).val by rw [(half t).2]; omega)

theorem reached (i : S256x1024.Idx) : ∃ t : Fin (cfgM m hO).N, i ∈ (((cfgM m hO).win 5).blk t).view.set :=
  let ⟨t, ht, j, h⟩ := spotOf_surj i
  ⟨⟨t, ht⟩, (emb m hO ⟨t, ht⟩ j).trans h ▸ View.emb_mem_set _ j⟩

/-- A weight as the call takes it, -/
def take (w : Vec Ideal S1x256x1024 .f32) : Vec Ideal S256x1024 .f32 := shapeCast S256x1024 w shapeCasts_S1x256x1024_S256x1024

/-- and an array of the call's as the weight's. -/
def put (a : Vec Ideal S256x1024 .f32) : Vec Ideal S1x256x1024 .f32 := broadcastInDim S1x256x1024 ![1, 2] bcast_S256x1024_S1x256x1024_1_2 a

theorem put_take (w : Vec Ideal S1x256x1024 .f32) : put (take w) = w := by
  funext i
  pointwise [put, take]

/-- The word, the arguments, and the gradient they make. -/
abbrev word : BitVec 32 := (m ((c : Thread nD τ).loc main_arg0) : Vec Ideal S2 .i32) (ix1 0)
abbrev wt : Vec Ideal S1x256x1024 .f32 := m ((c : Thread nD τ).loc main_arg1)
abbrev mine : Vec Ideal S256x512 .f32 := m ((c : Thread nD τ).loc main_arg2)
abbrev other : Vec Ideal S256x512 .f32 := m ((c : Thread nD τ).loc main_arg3)
abbrev mom : Vec Ideal S1x256x1024 .f32 := m ((c : Thread nD τ).loc main_arg4)
abbrev mom2 : Vec Ideal S1x256x1024 .f32 := m ((c : Thread nD τ).loc main_arg5)
def grad : Vec Ideal S256x1024 .f32 := halves (word m c) (mine m c) (other m c)

theorem found : (V m c main_v0 : Vec Ideal S256x1024 .f32) = take (wt m c) ∧
    (V m c main_v1 : Vec Ideal S256x1024 .f32) = take (mom m c) ∧ (V m c main_v2 : Vec Ideal S256x1024 .f32) = take (mom2 m c) := by
  unfold V V0
  simp only [hostOps0, List.flatten_cons, List.flatten_nil, List.append_nil]
  refine ⟨?_, ?_, ?_⟩ <;> after_results_simp <;> rfl

theorem block0 (t : Fin (cfgM m hO).N) : (iblk m hO c 0 t : Vec Ideal S256x512 .f32) = fun j => take (wt m c) (spot t j) :=
  funext fun j => (congrArg (V m c main_v0 : Vec Ideal S256x1024 .f32) (emb m hO t j)).trans (congrFun (found m c).1 _)
theorem block1 (t : Fin (cfgM m hO).N) : (iblk m hO c 1 t : Vec Ideal S256x512 .f32) = mine m c :=
  funext fun j => (congrArg (V m c main_arg2 : Vec Ideal S256x512 .f32) (emb_half m hO t j)).trans (congrFun (V_main_arg2 m c) _)
theorem block2 (t : Fin (cfgM m hO).N) : (iblk m hO c 2 t : Vec Ideal S256x512 .f32) = other m c :=
  funext fun j => (congrArg (V m c main_arg3 : Vec Ideal S256x512 .f32) (emb_half m hO t j)).trans (congrFun (V_main_arg3 m c) _)
theorem block3 (t : Fin (cfgM m hO).N) : (iblk m hO c 3 t : Vec Ideal S256x512 .f32) = fun j => take (mom m c) (spot t j) :=
  funext fun j => (congrArg (V m c main_v1 : Vec Ideal S256x1024 .f32) (emb m hO t j)).trans (congrFun (found m c).2.1 _)
theorem block4 (t : Fin (cfgM m hO).N) : (iblk m hO c 4 t : Vec Ideal S256x512 .f32) = fun j => take (mom2 m c) (spot t j) :=
  funext fun j => (congrArg (V m c main_v2 : Vec Ideal S256x1024 .f32) (emb m hO t j)).trans (congrFun (found m c).2.2 _)

theorem word_eq : kernelRun0_A.sl.r (F := Ideal) c (tbl m 0) = word m c := by
  obtain rfl : c = 0 := Subsingleton.elim _ _
  unfold kernelRun0_A.sl.r tbl
  rw [show V m 0 (pre0.ref 0) = m (((0 : Dev nD) : Thread nD τ).loc main_arg0) from V_main_arg0 m 0]
  exact congrArg (m (((0 : Dev nD) : Thread nD τ).loc main_arg0)) (funext fun a => by
    match a with
    | ⟨0, _⟩ => rfl)

/-! ## What a point leaves -/

/-- A load of a whole window reads its block. -/
theorem load {M : Memref sig .tc .vmem S256x512 .f32} (hM : M.IsWhole) (x : Vec Ideal S256x512 .f32) :
    M.view.readAt (Elt Ideal) (Rect.unit ![0, 0] S256x512.size inb_S256x512_S256x512_0_0).toLoadRect (hM.unread x) = x :=
  load_whole hM origin2 _ x

theorem out5 (t : Fin (cfgM m hO).N) : (outsAt0 m hO c t).1 = k0_pay1 (grid0.coords t) (word m c) (iblk m hO c 1 t) (iblk m hO c 2 t) := by
  rw [← word_eq m c]
  unfold outsAt0 out0_A_5 kernelRun0_A
  dsimp only
  rw [read_whole VO0_5 _ (off := ![0, 0]) origin2]
  exact congr (congrArg (k0_pay1 _ _) (load (hs0_1 m hO t) _)) (load (hs0_2 m hO t) _)

theorem out6 (t : Fin (cfgM m hO).N) : (outsAt0 m hO c t).2.1 = k0_pay4 (grid0.coords t) (word m c) (iblk m hO c 1 t) (iblk m hO c 2 t) (iblk m hO c 0 t) (iblk m hO c 3 t) (iblk m hO c 4 t) := by
  rw [← word_eq m c]
  unfold outsAt0 out0_A_6 kernelRun0_A
  dsimp only
  rw [read_whole VO0_6 _ (off := ![0, 0]) origin2]
  exact congr (congr (congr (congr (congrArg (k0_pay4 _ _) (load (hs0_1 m hO t) _)) (load (hs0_2 m hO t) _)) (load (hs0_0 m hO t) _)) (load (hs0_3 m hO t) _)) (load (hs0_4 m hO t) _)

theorem out7 (t : Fin (cfgM m hO).N) : (outsAt0 m hO c t).2.2.1 = k0_pay2 (grid0.coords t) (word m c) (iblk m hO c 1 t) (iblk m hO c 2 t) (iblk m hO c 3 t) := by
  rw [← word_eq m c]
  unfold outsAt0 out0_A_7 kernelRun0_A
  dsimp only
  rw [read_whole VO0_7 _ (off := ![0, 0]) origin2]
  exact congr (congr (congrArg (k0_pay2 _ _) (load (hs0_1 m hO t) _)) (load (hs0_2 m hO t) _)) (load (hs0_3 m hO t) _)

theorem out8 (t : Fin (cfgM m hO).N) : (outsAt0 m hO c t).2.2.2 = k0_pay3 (grid0.coords t) (word m c) (iblk m hO c 1 t) (iblk m hO c 2 t) (iblk m hO c 4 t) := by
  rw [← word_eq m c]
  unfold outsAt0 out0_A_8 kernelRun0_A
  dsimp only
  rw [read_whole VO0_8 _ (off := ![0, 0]) origin2]
  exact congr (congr (congrArg (k0_pay3 _ _) (load (hs0_1 m hO t) _)) (load (hs0_2 m hO t) _)) (load (hs0_4 m hO t) _)

variable (i : grid0.Coords) (p : BitVec 32) (g1 g2 w v1 v2 : Vec Ideal S256x512 .f32)

theorem pay_g : k0_pay1 i p g1 g2 = fun j => side (i 0).val p (g1 j) (g2 j) := select_side _ p g1 g2
theorem pay_m : k0_pay2 i p g1 g2 v1 = fun j => stepM (side (i 0).val p (g1 j) (g2 j)) (v1 j) := by
  unfold k0_pay2
  rw [pay_g]
  funext j
  pointwise [stepM]
theorem pay_v : k0_pay3 i p g1 g2 v2 = fun j => stepV (side (i 0).val p (g1 j) (g2 j)) (v2 j) := by
  unfold k0_pay3
  rw [pay_g]
  funext j
  pointwise [stepV]
theorem pay_d : k0_pay4 i p g1 g2 w v1 v2 = fun j => stepD (w j) (side (i 0).val p (g1 j) (g2 j)) (v1 j) (v2 j) := by
  unfold k0_pay4
  rw [pay_m, pay_v]
  funext j
  pointwise [stepD, stepM, stepV]

theorem side_grad (t : Fin grid0.N) (j : S256x512.Idx) : side (grid0.coords t 0).val (word m c) (mine m c j) (other m c j) = grad m c (spot t j) :=
  (congrArg (fun k => side k _ _ _) (coord t)).trans (halves_spot _ _ _ _ _ _).symm

/-! ## The arrays -/

theorem final5 : ((dats m hO 0 c).arrAt 5 (cfgM m hO).N : Vec Ideal S256x1024 .f32) = grad m c :=
  (dats m hO 0 c).arrAt_eq_of_cover 5 (grad m c) (fun t _ => funext fun j => by
    refine Eq.trans ?_ (congrArg (grad m c) (emb m hO t j).symm)
    show ((dats m hO 0 c).after 5 t : Vec Ideal S256x512 .f32) j = _
    rw [after0_5, out5, block1, block2, pay_g]
    exact side_grad m c t j) fun i => let ⟨t, h⟩ := reached m hO i; ⟨t, flush0_5 _ t, h⟩
theorem final6 : ((dats m hO 0 c).arrAt 6 (cfgM m hO).N : Vec Ideal S256x1024 .f32) = newD (take (wt m c)) (grad m c) (take (mom m c)) (take (mom2 m c)) :=
  (dats m hO 0 c).arrAt_eq_of_cover 6 (newD (take (wt m c)) (grad m c) (take (mom m c)) (take (mom2 m c))) (fun t _ => funext fun j => by
    refine Eq.trans ?_ (congrArg (newD (take (wt m c)) (grad m c) (take (mom m c)) (take (mom2 m c))) (emb m hO t j).symm)
    show ((dats m hO 0 c).after 6 t : Vec Ideal S256x512 .f32) j = _
    rw [after0_6, out6, block0, block1, block2, block3, block4, pay_d]
    exact congrArg (fun x => stepD _ x _ _) (side_grad m c t j)) fun i => let ⟨t, h⟩ := reached m hO i; ⟨t, flush0_6 _ t, h⟩
theorem final7 : ((dats m hO 0 c).arrAt 7 (cfgM m hO).N : Vec Ideal S256x1024 .f32) = newM (grad m c) (take (mom m c)) :=
  (dats m hO 0 c).arrAt_eq_of_cover 7 (newM (grad m c) (take (mom m c))) (fun t _ => funext fun j => by
    refine Eq.trans ?_ (congrArg (newM (grad m c) (take (mom m c))) (emb m hO t j).symm)
    show ((dats m hO 0 c).after 7 t : Vec Ideal S256x512 .f32) j = _
    rw [after0_7, out7, block1, block2, block3, pay_m]
    exact congrArg (fun x => stepM x _) (side_grad m c t j)) fun i => let ⟨t, h⟩ := reached m hO i; ⟨t, flush0_7 _ t, h⟩
theorem final8 : ((dats m hO 0 c).arrAt 8 (cfgM m hO).N : Vec Ideal S256x1024 .f32) = newV (grad m c) (take (mom2 m c)) :=
  (dats m hO 0 c).arrAt_eq_of_cover 8 (newV (grad m c) (take (mom2 m c))) (fun t _ => funext fun j => by
    refine Eq.trans ?_ (congrArg (newV (grad m c) (take (mom2 m c))) (emb m hO t j).symm)
    show ((dats m hO 0 c).after 8 t : Vec Ideal S256x512 .f32) j = _
    rw [after0_8, out8, block1, block2, block4, pay_v]
    exact congrArg (fun x => stepV x _) (side_grad m c t j)) fun i => let ⟨t, h⟩ := reached m hO i; ⟨t, flush0_8 _ t, h⟩

/-! ## The results -/

theorem read0 (W : Valuation τ sig (Elt Ideal)) : after hostOps1 W (Proc.devRef .tc main_v4) = put (W (Proc.devRef .tc main_v3_0)) := by
  simp only [hostOps1]
  after_results_simp <;> rfl
theorem read1 (W : Valuation τ sig (Elt Ideal)) : after hostOps1 W (Proc.devRef .tc main_v5) = put (W (Proc.devRef .tc main_v3_1)) := by
  simp only [hostOps1]
  after_results_simp <;> rfl
theorem read2 (W : Valuation τ sig (Elt Ideal)) : after hostOps1 W (Proc.devRef .tc main_v6) = put (W (Proc.devRef .tc main_v3_2)) := by
  simp only [hostOps1]
  after_results_simp <;> rfl
theorem read3 (W : Valuation τ sig (Elt Ideal)) : after hostOps1 W (Proc.devRef .tc main_v7) = put (W (Proc.devRef .tc main_v3_3)) := by
  simp only [hostOps1]
  after_results_simp <;> rfl

/-- What the operations after the call leave. -/
abbrev tail (b : Ref sig .tc) := Pipeline.afterTail pcfgs (fun _ => adm m hO) (dats m hO) 0 (V0 m) [hostOps1] c b

theorem left {w : Fin 9} {x : Buf (Elt Ideal) (((cfgM m hO).spec w).arr.view.loc (c.tc : Thread nD τ))} (h : (dats m hO 0 c).arrAt w (cfgM m hO).N = x) :
    Pipeline.withArrays (cfgM m hO).spec c (V0 m c) (fun w => (dats m hO 0 c).arrAt w (cfgM m hO).N) (Proc.devRef .tc (Pipeline.arrRef (cfgM m hO).spec w)) = x :=
  (Pipeline.withArrays_arr (cfgM m hO).spec winFacts0.arr_inj c (V0 m c) _ w).trans h

theorem at0 : tail m c hO main_v4 = put (grad m c) :=
  ((read0 _).trans (congrArg put (left m c hO (final5 m c hO))))
theorem at1 : tail m c hO main_v5 = newD (wt m c) (put (grad m c)) (mom m c) (mom2 m c) :=
  ((read1 _).trans (congrArg put (left m c hO (final6 m c hO)))).trans (congr (congr (congrArg (fun x => newD x (put (grad m c))) (put_take _)) (put_take _)) (put_take _))
theorem at2 : tail m c hO main_v6 = newM (put (grad m c)) (mom m c) :=
  ((read2 _).trans (congrArg put (left m c hO (final7 m c hO)))).trans (congrArg (newM (put (grad m c))) (put_take _))
theorem at3 : tail m c hO main_v7 = newV (put (grad m c)) (mom2 m c) :=
  ((read3 _).trans (congrArg put (left m c hO (final8 m c hO)))).trans (congrArg (newV (put (grad m c))) (put_take _))

end Kernel

/-- The reference terminates with its arguments unchanged and its counters at zero. -/
theorem frame_reference : quiescent_Reference5Ideal (hReference5Ideal := Cert.Reference5Ideal.Gen.facts) := fun m g _ =>
  (θ_run _ _ _).mono (fun r h => ⟨fun c => (h c).2.2.2.2, sem_eq_zero_of_no_sems (by decide) r.2⟩) (Cert.Reference5Ideal.Value.run m g)

open Cert.Kernel5Ideal Cert.Kernel5Ideal.Gen in
/-- Idealized kernel and reference end with equal results: the gradient and its step. -/
theorem agree : algebraic_Kernel5Ideal_Reference5Ideal (hKernel5Ideal := Cert.Kernel5Ideal.Gen.facts)
    (hReference5Ideal := Cert.Reference5Ideal.Gen.facts) := by
  intro m g m' g' _ hag
  refine ⟨fun c => put (grad m c), fun c => newD (wt m c) (put (grad m c)) (mom m c) (mom2 m c), fun c => newM (put (grad m c)) (mom m c), fun c => newV (put (grad m c)) (mom2 m c),
    (θ_run _ _ _).mono (fun r h c => ?_) (θ_run_and (unchanged m g trivial) (run_main m g trivial)), (θ_run _ _ _).mono (fun r h c => ?_) (Cert.Reference5Ideal.Value.run m' g')⟩
  · have hc : ∀ b : Ref sig .tc, b.isScoped = false → (∀ w, Pipeline.arrRef spec0 w ≠ b) → r.2.mem ((c.tc : Thread nD τ).loc b) = tail m c trivial b :=
      fun b hs ha => (h.2 c).2 b (Pipeline.mem_restRefs_of b hs ha)
    exact ⟨(hc main_v4 (by decide) (by decide)).trans (at0 m c trivial), (hc main_v5 (by decide) (by decide)).trans (at1 m c trivial), (hc main_v6 (by decide) (by decide)).trans (at2 m c trivial), (hc main_v7 (by decide) (by decide)).trans (at3 m c trivial), h.1 c⟩
  · obtain ⟨h0, h1, h2, h3, hargs⟩ := h c
    obtain ⟨e0, e1, e2, e3, e4, e5⟩ := hag c
    have hp : ∀ i, _ = word m c := fun i => (host_word _ Cert.Reference5Ideal.Gen.slices_S2_S1_0 Cert.Reference5Ideal.Gen.shapeCasts_S1_S_ i).trans (congrFun e0 (ix1 0))
    have eg := congrArg put ((host_halves Cert.Reference5Ideal.Gen.bcast_S_S256x512 Cert.Reference5Ideal.Gen.concatenates_S256x512_S256x512_S256x1024_d1 hp hp _ _).trans
      (congr (congrArg (halves (word m c)) e2) e3))
    exact ⟨h0.trans eg, h1.trans (host_d _ e1 eg e4 e5), h2.trans (host_m _ eg e4), h3.trans (host_v _ eg e5), hargs⟩

end Cert.Proof.Adam.WOut

end
-- ==== Proof.Adam.WGate.lean ====
module

public import proofs.«01_k».proof.Proof.Adam.Halves
public import proofs.«01_k».proof.Proof.Gen.Kernel6Ideal.Frame
public import proofs.«01_k».proof.Proof.Gen.Reference6Ideal.Run
public import proofs.«01_k».proof.Defs

/-!
# The step of `w_gate`

Every block of 512 columns the call leaves is the step of that block's entries, so its four arrays are the step of the whole weight;
the reference's lines are the same step.
-/

@[expose] public section

set_option maxRecDepth 16384

noncomputable section

namespace Cert.Proof.Adam.WGate

open Idealize.ShloMosaic Idealize.ShloMosaic.TcCoe Idealize.ShloMosaic.StableHlo
open Cert.Proof.Ffn (origin2)

section Kernel

open Cert.Kernel6Ideal Cert.Kernel6Ideal.Gen

variable (m : (ℓ : Loc nD τ sig) → Buf (Elt Ideal) ℓ) (c : Dev nD) (hO : Ok m)

/-! ## Blocks -/

theorem index : ∀ t : Fin grid0.N, cc0_transform_0 (grid0.coords t) 0 = 0 ∧ cc0_transform_0 (grid0.coords t) 1 = t.val := by decide +kernel
theorem half : ∀ t : Fin grid0.N, cc0_transform_1 (grid0.coords t) 0 = 0 ∧ cc0_transform_1 (grid0.coords t) 1 = 0 := by decide +kernel
theorem coord : ∀ t : Fin grid0.N, (grid0.coords t 0).val = t.val := by decide +kernel

/-- Entry `j` of point `t`'s block, in its array. -/
abbrev spot (t : Fin grid0.N) (j : S704x512.Idx) : S704x1024.Idx := spotOf (R := 704) t.val t.isLt j

theorem emb (t : Fin (cfgM m hO).N) (j : S704x512.Idx) : (((cfgM m hO).win 5).blk t).view.emb j = spot t j := by
  funext a
  match a with
  | ⟨0, _⟩ => exact Fin.ext (show cc0_transform_0 (grid0.coords t) 0 * 704 + 1 * (j 0).val = (j 0).val by rw [(index t).1]; omega)
  | ⟨1, _⟩ => exact Fin.ext (show cc0_transform_0 (grid0.coords t) 1 * 512 + 1 * (j 1).val = 512 * t.val + (j 1).val by rw [(index t).2]; omega)

theorem emb_half (t : Fin (cfgM m hO).N) (j : S704x512.Idx) : (((cfgM m hO).win 1).blk t).view.emb j = j := by
  funext a
  match a with
  | ⟨0, _⟩ => exact Fin.ext (show cc0_transform_1 (grid0.coords t) 0 * 704 + 1 * (j 0).val = (j 0).val by rw [(half t).1]; omega)
  | ⟨1, _⟩ => exact Fin.ext (show cc0_transform_1 (grid0.coords t) 1 * 512 + 1 * (j 1).val = (j 1).val by rw [(half t).2]; omega)

theorem reached (i : S704x1024.Idx) : ∃ t : Fin (cfgM m hO).N, i ∈ (((cfgM m hO).win 5).blk t).view.set :=
  let ⟨t, ht, j, h⟩ := spotOf_surj i
  ⟨⟨t, ht⟩, (emb m hO ⟨t, ht⟩ j).trans h ▸ View.emb_mem_set _ j⟩

/-- A weight as the call takes it, its axes exchanged, -/
def take (w : Vec Ideal S1x1024x704 .f32) : Vec Ideal S704x1024 .f32 := transpose S704x1024 [1, 0] (shapeCast S1024x704 w shapeCasts_S1x1024x704_S1024x704) transposes_S1024x704_S704x1024_1_0

/-- and an array of the call's as the weight's. -/
def put (a : Vec Ideal S704x1024 .f32) : Vec Ideal S1x1024x704 .f32 := broadcastInDim S1x1024x704 ![1, 2] bcast_S1024x704_S1x1024x704_1_2 (transpose S1024x704 [1, 0] a transposes_S704x1024_S1024x704_1_0)

theorem put_take (w : Vec Ideal S1x1024x704 .f32) : put (take w) = w := by
  funext i
  pointwise [put, take]

/-- The word, the arguments, and the gradient they make. -/
abbrev word : BitVec 32 := (m ((c : Thread nD τ).loc main_arg0) : Vec Ideal S2 .i32) (ix1 0)
abbrev wt : Vec Ideal S1x1024x704 .f32 := m ((c : Thread nD τ).loc main_arg1)
abbrev mine : Vec Ideal S704x512 .f32 := m ((c : Thread nD τ).loc main_arg2)
abbrev other : Vec Ideal S704x512 .f32 := m ((c : Thread nD τ).loc main_arg3)
abbrev mom : Vec Ideal S1x1024x704 .f32 := m ((c : Thread nD τ).loc main_arg4)
abbrev mom2 : Vec Ideal S1x1024x704 .f32 := m ((c : Thread nD τ).loc main_arg5)
def grad : Vec Ideal S704x1024 .f32 := halves (word m c) (mine m c) (other m c)

theorem found : (V m c main_v1 : Vec Ideal S704x1024 .f32) = take (wt m c) ∧
    (V m c main_v3 : Vec Ideal S704x1024 .f32) = take (mom m c) ∧ (V m c main_v5 : Vec Ideal S704x1024 .f32) = take (mom2 m c) := by
  unfold V V0
  simp only [hostOps0, List.flatten_cons, List.flatten_nil, List.append_nil]
  refine ⟨?_, ?_, ?_⟩ <;> after_results_simp <;> rfl

theorem block0 (t : Fin (cfgM m hO).N) : (iblk m hO c 0 t : Vec Ideal S704x512 .f32) = fun j => take (wt m c) (spot t j) :=
  funext fun j => (congrArg (V m c main_v1 : Vec Ideal S704x1024 .f32) (emb m hO t j)).trans (congrFun (found m c).1 _)
theorem block1 (t : Fin (cfgM m hO).N) : (iblk m hO c 1 t : Vec Ideal S704x512 .f32) = mine m c :=
  funext fun j => (congrArg (V m c main_arg2 : Vec Ideal S704x512 .f32) (emb_half m hO t j)).trans (congrFun (V_main_arg2 m c) _)
theorem block2 (t : Fin (cfgM m hO).N) : (iblk m hO c 2 t : Vec Ideal S704x512 .f32) = other m c :=
  funext fun j => (congrArg (V m c main_arg3 : Vec Ideal S704x512 .f32) (emb_half m hO t j)).trans (congrFun (V_main_arg3 m c) _)
theorem block3 (t : Fin (cfgM m hO).N) : (iblk m hO c 3 t : Vec Ideal S704x512 .f32) = fun j => take (mom m c) (spot t j) :=
  funext fun j => (congrArg (V m c main_v3 : Vec Ideal S704x1024 .f32) (emb m hO t j)).trans (congrFun (found m c).2.1 _)
theorem block4 (t : Fin (cfgM m hO).N) : (iblk m hO c 4 t : Vec Ideal S704x512 .f32) = fun j => take (mom2 m c) (spot t j) :=
  funext fun j => (congrArg (V m c main_v5 : Vec Ideal S704x1024 .f32) (emb m hO t j)).trans (congrFun (found m c).2.2 _)

theorem word_eq : kernelRun0_A.sl.r (F := Ideal) c (tbl m 0) = word m c := by
  obtain rfl : c = 0 := Subsingleton.elim _ _
  unfold kernelRun0_A.sl.r tbl
  rw [show V m 0 (pre0.ref 0) = m (((0 : Dev nD) : Thread nD τ).loc main_arg0) from V_main_arg0 m 0]
  exact congrArg (m (((0 : Dev nD) : Thread nD τ).loc main_arg0)) (funext fun a => by
    match a with
    | ⟨0, _⟩ => rfl)

/-! ## What a point leaves -/

/-- A load of a whole window reads its block. -/
theorem load {M : Memref sig .tc .vmem S704x512 .f32} (hM : M.IsWhole) (x : Vec Ideal S704x512 .f32) :
    M.view.readAt (Elt Ideal) (Rect.unit ![0, 0] S704x512.size inb_S704x512_S704x512_0_0).toLoadRect (hM.unread x) = x :=
  load_whole hM origin2 _ x

theorem out5 (t : Fin (cfgM m hO).N) : (outsAt0 m hO c t).1 = k0_pay1 (grid0.coords t) (word m c) (iblk m hO c 1 t) (iblk m hO c 2 t) := by
  rw [← word_eq m c]
  unfold outsAt0 out0_A_5 kernelRun0_A
  dsimp only
  rw [read_whole VO0_5 _ (off := ![0, 0]) origin2]
  exact congr (congrArg (k0_pay1 _ _) (load (hs0_1 m hO t) _)) (load (hs0_2 m hO t) _)

theorem out6 (t : Fin (cfgM m hO).N) : (outsAt0 m hO c t).2.1 = k0_pay4 (grid0.coords t) (word m c) (iblk m hO c 1 t) (iblk m hO c 2 t) (iblk m hO c 0 t) (iblk m hO c 3 t) (iblk m hO c 4 t) := by
  rw [← word_eq m c]
  unfold outsAt0 out0_A_6 kernelRun0_A
  dsimp only
  rw [read_whole VO0_6 _ (off := ![0, 0]) origin2]
  exact congr (congr (congr (congr (congrArg (k0_pay4 _ _) (load (hs0_1 m hO t) _)) (load (hs0_2 m hO t) _)) (load (hs0_0 m hO t) _)) (load (hs0_3 m hO t) _)) (load (hs0_4 m hO t) _)

theorem out7 (t : Fin (cfgM m hO).N) : (outsAt0 m hO c t).2.2.1 = k0_pay2 (grid0.coords t) (word m c) (iblk m hO c 1 t) (iblk m hO c 2 t) (iblk m hO c 3 t) := by
  rw [← word_eq m c]
  unfold outsAt0 out0_A_7 kernelRun0_A
  dsimp only
  rw [read_whole VO0_7 _ (off := ![0, 0]) origin2]
  exact congr (congr (congrArg (k0_pay2 _ _) (load (hs0_1 m hO t) _)) (load (hs0_2 m hO t) _)) (load (hs0_3 m hO t) _)

theorem out8 (t : Fin (cfgM m hO).N) : (outsAt0 m hO c t).2.2.2 = k0_pay3 (grid0.coords t) (word m c) (iblk m hO c 1 t) (iblk m hO c 2 t) (iblk m hO c 4 t) := by
  rw [← word_eq m c]
  unfold outsAt0 out0_A_8 kernelRun0_A
  dsimp only
  rw [read_whole VO0_8 _ (off := ![0, 0]) origin2]
  exact congr (congr (congrArg (k0_pay3 _ _) (load (hs0_1 m hO t) _)) (load (hs0_2 m hO t) _)) (load (hs0_4 m hO t) _)

variable (i : grid0.Coords) (p : BitVec 32) (g1 g2 w v1 v2 : Vec Ideal S704x512 .f32)

theorem pay_g : k0_pay1 i p g1 g2 = fun j => side (i 0).val p (g1 j) (g2 j) := select_side _ p g1 g2
theorem pay_m : k0_pay2 i p g1 g2 v1 = fun j => stepM (side (i 0).val p (g1 j) (g2 j)) (v1 j) := by
  unfold k0_pay2
  rw [pay_g]
  funext j
  pointwise [stepM]
theorem pay_v : k0_pay3 i p g1 g2 v2 = fun j => stepV (side (i 0).val p (g1 j) (g2 j)) (v2 j) := by
  unfold k0_pay3
  rw [pay_g]
  funext j
  pointwise [stepV]
theorem pay_d : k0_pay4 i p g1 g2 w v1 v2 = fun j => stepD (w j) (side (i 0).val p (g1 j) (g2 j)) (v1 j) (v2 j) := by
  unfold k0_pay4
  rw [pay_m, pay_v]
  funext j
  pointwise [stepD, stepM, stepV]

theorem side_grad (t : Fin grid0.N) (j : S704x512.Idx) : side (grid0.coords t 0).val (word m c) (mine m c j) (other m c j) = grad m c (spot t j) :=
  (congrArg (fun k => side k _ _ _) (coord t)).trans (halves_spot _ _ _ _ _ _).symm

/-! ## The arrays -/

theorem final5 : ((dats m hO 0 c).arrAt 5 (cfgM m hO).N : Vec Ideal S704x1024 .f32) = grad m c :=
  (dats m hO 0 c).arrAt_eq_of_cover 5 (grad m c) (fun t _ => funext fun j => by
    refine Eq.trans ?_ (congrArg (grad m c) (emb m hO t j).symm)
    show ((dats m hO 0 c).after 5 t : Vec Ideal S704x512 .f32) j = _
    rw [after0_5, out5, block1, block2, pay_g]
    exact side_grad m c t j) fun i => let ⟨t, h⟩ := reached m hO i; ⟨t, flush0_5 _ t, h⟩
theorem final6 : ((dats m hO 0 c).arrAt 6 (cfgM m hO).N : Vec Ideal S704x1024 .f32) = newD (take (wt m c)) (grad m c) (take (mom m c)) (take (mom2 m c)) :=
  (dats m hO 0 c).arrAt_eq_of_cover 6 (newD (take (wt m c)) (grad m c) (take (mom m c)) (take (mom2 m c))) (fun t _ => funext fun j => by
    refine Eq.trans ?_ (congrArg (newD (take (wt m c)) (grad m c) (take (mom m c)) (take (mom2 m c))) (emb m hO t j).symm)
    show ((dats m hO 0 c).after 6 t : Vec Ideal S704x512 .f32) j = _
    rw [after0_6, out6, block0, block1, block2, block3, block4, pay_d]
    exact congrArg (fun x => stepD _ x _ _) (side_grad m c t j)) fun i => let ⟨t, h⟩ := reached m hO i; ⟨t, flush0_6 _ t, h⟩
theorem final7 : ((dats m hO 0 c).arrAt 7 (cfgM m hO).N : Vec Ideal S704x1024 .f32) = newM (grad m c) (take (mom m c)) :=
  (dats m hO 0 c).arrAt_eq_of_cover 7 (newM (grad m c) (take (mom m c))) (fun t _ => funext fun j => by
    refine Eq.trans ?_ (congrArg (newM (grad m c) (take (mom m c))) (emb m hO t j).symm)
    show ((dats m hO 0 c).after 7 t : Vec Ideal S704x512 .f32) j = _
    rw [after0_7, out7, block1, block2, block3, pay_m]
    exact congrArg (fun x => stepM x _) (side_grad m c t j)) fun i => let ⟨t, h⟩ := reached m hO i; ⟨t, flush0_7 _ t, h⟩
theorem final8 : ((dats m hO 0 c).arrAt 8 (cfgM m hO).N : Vec Ideal S704x1024 .f32) = newV (grad m c) (take (mom2 m c)) :=
  (dats m hO 0 c).arrAt_eq_of_cover 8 (newV (grad m c) (take (mom2 m c))) (fun t _ => funext fun j => by
    refine Eq.trans ?_ (congrArg (newV (grad m c) (take (mom2 m c))) (emb m hO t j).symm)
    show ((dats m hO 0 c).after 8 t : Vec Ideal S704x512 .f32) j = _
    rw [after0_8, out8, block1, block2, block4, pay_v]
    exact congrArg (fun x => stepV x _) (side_grad m c t j)) fun i => let ⟨t, h⟩ := reached m hO i; ⟨t, flush0_8 _ t, h⟩

/-! ## The results -/

theorem read0 (W : Valuation τ sig (Elt Ideal)) : after hostOps1 W (Proc.devRef .tc main_v8) = put (W (Proc.devRef .tc main_v6_0)) := by
  simp only [hostOps1]
  after_results_simp <;> rfl
theorem read1 (W : Valuation τ sig (Elt Ideal)) : after hostOps1 W (Proc.devRef .tc main_v10) = put (W (Proc.devRef .tc main_v6_1)) := by
  simp only [hostOps1]
  after_results_simp <;> rfl
theorem read2 (W : Valuation τ sig (Elt Ideal)) : after hostOps1 W (Proc.devRef .tc main_v12) = put (W (Proc.devRef .tc main_v6_2)) := by
  simp only [hostOps1]
  after_results_simp <;> rfl
theorem read3 (W : Valuation τ sig (Elt Ideal)) : after hostOps1 W (Proc.devRef .tc main_v14) = put (W (Proc.devRef .tc main_v6_3)) := by
  simp only [hostOps1]
  after_results_simp <;> rfl

/-- What the operations after the call leave. -/
abbrev tail (b : Ref sig .tc) := Pipeline.afterTail pcfgs (fun _ => adm m hO) (dats m hO) 0 (V0 m) [hostOps1] c b

theorem left {w : Fin 9} {x : Buf (Elt Ideal) (((cfgM m hO).spec w).arr.view.loc (c.tc : Thread nD τ))} (h : (dats m hO 0 c).arrAt w (cfgM m hO).N = x) :
    Pipeline.withArrays (cfgM m hO).spec c (V0 m c) (fun w => (dats m hO 0 c).arrAt w (cfgM m hO).N) (Proc.devRef .tc (Pipeline.arrRef (cfgM m hO).spec w)) = x :=
  (Pipeline.withArrays_arr (cfgM m hO).spec winFacts0.arr_inj c (V0 m c) _ w).trans h

theorem at0 : tail m c hO main_v8 = put (grad m c) :=
  ((read0 _).trans (congrArg put (left m c hO (final5 m c hO))))
theorem at1 : tail m c hO main_v10 = newD (wt m c) (put (grad m c)) (mom m c) (mom2 m c) :=
  ((read1 _).trans (congrArg put (left m c hO (final6 m c hO)))).trans (congr (congr (congrArg (fun x => newD x (put (grad m c))) (put_take _)) (put_take _)) (put_take _))
theorem at2 : tail m c hO main_v12 = newM (put (grad m c)) (mom m c) :=
  ((read2 _).trans (congrArg put (left m c hO (final7 m c hO)))).trans (congrArg (newM (put (grad m c))) (put_take _))
theorem at3 : tail m c hO main_v14 = newV (put (grad m c)) (mom2 m c) :=
  ((read3 _).trans (congrArg put (left m c hO (final8 m c hO)))).trans (congrArg (newV (put (grad m c))) (put_take _))

end Kernel

/-- The reference terminates with its arguments unchanged and its counters at zero. -/
theorem frame_reference : quiescent_Reference6Ideal (hReference6Ideal := Cert.Reference6Ideal.Gen.facts) := fun m g _ =>
  (θ_run _ _ _).mono (fun r h => ⟨fun c => (h c).2.2.2.2, sem_eq_zero_of_no_sems (by decide) r.2⟩) (Cert.Reference6Ideal.Value.run m g)

open Cert.Kernel6Ideal Cert.Kernel6Ideal.Gen in
/-- Idealized kernel and reference end with equal results: the gradient and its step. -/
theorem agree : algebraic_Kernel6Ideal_Reference6Ideal (hKernel6Ideal := Cert.Kernel6Ideal.Gen.facts)
    (hReference6Ideal := Cert.Reference6Ideal.Gen.facts) := by
  intro m g m' g' _ hag
  refine ⟨fun c => put (grad m c), fun c => newD (wt m c) (put (grad m c)) (mom m c) (mom2 m c), fun c => newM (put (grad m c)) (mom m c), fun c => newV (put (grad m c)) (mom2 m c),
    (θ_run _ _ _).mono (fun r h c => ?_) (θ_run_and (unchanged m g trivial) (run_main m g trivial)), (θ_run _ _ _).mono (fun r h c => ?_) (Cert.Reference6Ideal.Value.run m' g')⟩
  · have hc : ∀ b : Ref sig .tc, b.isScoped = false → (∀ w, Pipeline.arrRef spec0 w ≠ b) → r.2.mem ((c.tc : Thread nD τ).loc b) = tail m c trivial b :=
      fun b hs ha => (h.2 c).2 b (Pipeline.mem_restRefs_of b hs ha)
    exact ⟨(hc main_v8 (by decide) (by decide)).trans (at0 m c trivial), (hc main_v10 (by decide) (by decide)).trans (at1 m c trivial), (hc main_v12 (by decide) (by decide)).trans (at2 m c trivial), (hc main_v14 (by decide) (by decide)).trans (at3 m c trivial), h.1 c⟩
  · obtain ⟨h0, h1, h2, h3, hargs⟩ := h c
    obtain ⟨e0, e1, e2, e3, e4, e5⟩ := hag c
    have hp : ∀ i, _ = word m c := fun i => (host_word _ Cert.Reference6Ideal.Gen.slices_S2_S1_0 Cert.Reference6Ideal.Gen.shapeCasts_S1_S_ i).trans (congrFun e0 (ix1 0))
    have eg := congrArg put ((host_halves Cert.Reference6Ideal.Gen.bcast_S_S704x512 Cert.Reference6Ideal.Gen.concatenates_S704x512_S704x512_S704x1024_d1 hp hp _ _).trans
      (congr (congrArg (halves (word m c)) e2) e3))
    exact ⟨h0.trans eg, h1.trans (host_d _ e1 eg e4 e5), h2.trans (host_m _ eg e4), h3.trans (host_v _ eg e5), hargs⟩

end Cert.Proof.Adam.WGate

end
-- ==== Proof.Adam.WUp.lean ====
module

public import proofs.«01_k».proof.Proof.Adam.WGate
public import proofs.«01_k».proof.Proof.Gen.Kernel7Ideal
public import proofs.«01_k».proof.Proof.Gen.Reference7Ideal

/-!
# The step of `w_up`

`w_up` has the shape of `w_gate`, and its programs are those of `w_gate` but for their names.
-/

@[expose] public section

set_option maxHeartbeats 4000000

noncomputable section

namespace Cert.Proof.Adam.WUp

open Idealize.ShloMosaic

universe u

/-- Two sequences are equal if their first steps are and, after any value of it, their rests are. -/
theorem seq_congr {E : Type → Type u} {α β : Type} {x y : Idealize.SL.Sem.Prog E α} {f g : α → Idealize.SL.Sem.Prog E β}
    (h : x = y) (h' : ∀ a, f a = g a) : (x >>= f) = (y >>= g) := by
  rw [h, funext h']

variable {F : FTy → Type} [FloatOps F]

theorem bodies_same : Cert.Kernel7Ideal.defs₀ (F := F) = Cert.Kernel6Ideal.defs₀ (F := F) := by
  unfold Cert.Kernel7Ideal.defs₀ Cert.Kernel6Ideal.defs₀
  refine congrArg Defs.onTc ?_
  funext f a
  match f, a with
  | 0, (t, s) => exact rfl

theorem defs_same : Cert.Kernel7Ideal.defs (F := F) = Cert.Kernel6Ideal.defs (F := F) := congrArg (Pipeline.defs Cert.Kernel6Ideal.pcfgs) bodies_same

theorem main_same : Cert.Kernel7Ideal.main (F := F) = Cert.Kernel6Ideal.main (F := F) := by
  unfold Cert.Kernel7Ideal.main Cert.Kernel6Ideal.main
  funext c
  iterate 14 (refine seq_congr ?_ fun _ => ?_; · exact rfl)
  exact rfl

/-- The reference terminates with its arguments unchanged and its counters at zero. -/
theorem frame_reference : quiescent_Reference7Ideal (hReference7Ideal := Cert.Reference7Ideal.Gen.facts) := WGate.frame_reference

/-- Idealized kernel and reference end with equal results. -/
theorem agree : algebraic_Kernel7Ideal_Reference7Ideal (hKernel7Ideal := Cert.Kernel7Ideal.Gen.facts)
    (hReference7Ideal := Cert.Reference7Ideal.Gen.facts) := by
  intro m g m' g' h hag
  obtain ⟨v0, v1, v2, v3, hk, hr⟩ := WGate.agree m g m' g' h hag
  refine ⟨v0, v1, v2, v3, ?_, hr⟩
  rw [defs_same, main_same]
  exact hk

end Cert.Proof.Adam.WUp

end
-- ==== Proof.Adam.WDown.lean ====
module

public import proofs.«01_k».proof.Proof.Adam.Halves
public import proofs.«01_k».proof.Proof.Gen.Kernel8Ideal.Frame
public import proofs.«01_k».proof.Proof.Gen.Reference8Ideal.Run
public import proofs.«01_k».proof.Defs

/-!
# The step of `w_down`

Every block of 512 columns the call leaves is the step of that block's entries, so its four arrays are the step of the whole weight;
the reference's lines are the same step.
-/

@[expose] public section

set_option maxRecDepth 16384

noncomputable section

namespace Cert.Proof.Adam.WDown

open Idealize.ShloMosaic Idealize.ShloMosaic.TcCoe Idealize.ShloMosaic.StableHlo
open Cert.Proof.Ffn (origin2)

section Kernel

open Cert.Kernel8Ideal Cert.Kernel8Ideal.Gen

variable (m : (ℓ : Loc nD τ sig) → Buf (Elt Ideal) ℓ) (c : Dev nD) (hO : Ok m)

/-! ## Blocks -/

theorem index : ∀ t : Fin grid0.N, cc0_transform_0 (grid0.coords t) 0 = 0 ∧ cc0_transform_0 (grid0.coords t) 1 = t.val := by decide +kernel
theorem half : ∀ t : Fin grid0.N, cc0_transform_1 (grid0.coords t) 0 = 0 ∧ cc0_transform_1 (grid0.coords t) 1 = 0 := by decide +kernel
theorem coord : ∀ t : Fin grid0.N, (grid0.coords t 0).val = t.val := by decide +kernel

/-- Entry `j` of point `t`'s block, in its array. -/
abbrev spot (t : Fin grid0.N) (j : S704x512.Idx) : S704x1024.Idx := spotOf (R := 704) t.val t.isLt j

theorem emb (t : Fin (cfgM m hO).N) (j : S704x512.Idx) : (((cfgM m hO).win 5).blk t).view.emb j = spot t j := by
  funext a
  match a with
  | ⟨0, _⟩ => exact Fin.ext (show cc0_transform_0 (grid0.coords t) 0 * 704 + 1 * (j 0).val = (j 0).val by rw [(index t).1]; omega)
  | ⟨1, _⟩ => exact Fin.ext (show cc0_transform_0 (grid0.coords t) 1 * 512 + 1 * (j 1).val = 512 * t.val + (j 1).val by rw [(index t).2]; omega)

theorem emb_half (t : Fin (cfgM m hO).N) (j : S704x512.Idx) : (((cfgM m hO).win 1).blk t).view.emb j = j := by
  funext a
  match a with
  | ⟨0, _⟩ => exact Fin.ext (show cc0_transform_1 (grid0.coords t) 0 * 704 + 1 * (j 0).val = (j 0).val by rw [(half t).1]; omega)
  | ⟨1, _⟩ => exact Fin.ext (show cc0_transform_1 (grid0.coords t) 1 * 512 + 1 * (j 1).val = (j 1).val by rw [(half t).2]; omega)

theorem reached (i : S704x1024.Idx) : ∃ t : Fin (cfgM m hO).N, i ∈ (((cfgM m hO).win 5).blk t).view.set :=
  let ⟨t, ht, j, h⟩ := spotOf_surj i
  ⟨⟨t, ht⟩, (emb m hO ⟨t, ht⟩ j).trans h ▸ View.emb_mem_set _ j⟩

/-- A weight as the call takes it, -/
def take (w : Vec Ideal S1x704x1024 .f32) : Vec Ideal S704x1024 .f32 := shapeCast S704x1024 w shapeCasts_S1x704x1024_S704x1024

/-- and an array of the call's as the weight's. -/
def put (a : Vec Ideal S704x1024 .f32) : Vec Ideal S1x704x1024 .f32 := broadcastInDim S1x704x1024 ![1, 2] bcast_S704x1024_S1x704x1024_1_2 a

theorem put_take (w : Vec Ideal S1x704x1024 .f32) : put (take w) = w := by
  funext i
  pointwise [put, take]

/-- The word, the arguments, and the gradient they make. -/
abbrev word : BitVec 32 := (m ((c : Thread nD τ).loc main_arg0) : Vec Ideal S2 .i32) (ix1 0)
abbrev wt : Vec Ideal S1x704x1024 .f32 := m ((c : Thread nD τ).loc main_arg1)
abbrev mine : Vec Ideal S704x512 .f32 := m ((c : Thread nD τ).loc main_arg2)
abbrev other : Vec Ideal S704x512 .f32 := m ((c : Thread nD τ).loc main_arg3)
abbrev mom : Vec Ideal S1x704x1024 .f32 := m ((c : Thread nD τ).loc main_arg4)
abbrev mom2 : Vec Ideal S1x704x1024 .f32 := m ((c : Thread nD τ).loc main_arg5)
def grad : Vec Ideal S704x1024 .f32 := halves (word m c) (mine m c) (other m c)

theorem found : (V m c main_v0 : Vec Ideal S704x1024 .f32) = take (wt m c) ∧
    (V m c main_v1 : Vec Ideal S704x1024 .f32) = take (mom m c) ∧ (V m c main_v2 : Vec Ideal S704x1024 .f32) = take (mom2 m c) := by
  unfold V V0
  simp only [hostOps0, List.flatten_cons, List.flatten_nil, List.append_nil]
  refine ⟨?_, ?_, ?_⟩ <;> after_results_simp <;> rfl

theorem block0 (t : Fin (cfgM m hO).N) : (iblk m hO c 0 t : Vec Ideal S704x512 .f32) = fun j => take (wt m c) (spot t j) :=
  funext fun j => (congrArg (V m c main_v0 : Vec Ideal S704x1024 .f32) (emb m hO t j)).trans (congrFun (found m c).1 _)
theorem block1 (t : Fin (cfgM m hO).N) : (iblk m hO c 1 t : Vec Ideal S704x512 .f32) = mine m c :=
  funext fun j => (congrArg (V m c main_arg2 : Vec Ideal S704x512 .f32) (emb_half m hO t j)).trans (congrFun (V_main_arg2 m c) _)
theorem block2 (t : Fin (cfgM m hO).N) : (iblk m hO c 2 t : Vec Ideal S704x512 .f32) = other m c :=
  funext fun j => (congrArg (V m c main_arg3 : Vec Ideal S704x512 .f32) (emb_half m hO t j)).trans (congrFun (V_main_arg3 m c) _)
theorem block3 (t : Fin (cfgM m hO).N) : (iblk m hO c 3 t : Vec Ideal S704x512 .f32) = fun j => take (mom m c) (spot t j) :=
  funext fun j => (congrArg (V m c main_v1 : Vec Ideal S704x1024 .f32) (emb m hO t j)).trans (congrFun (found m c).2.1 _)
theorem block4 (t : Fin (cfgM m hO).N) : (iblk m hO c 4 t : Vec Ideal S704x512 .f32) = fun j => take (mom2 m c) (spot t j) :=
  funext fun j => (congrArg (V m c main_v2 : Vec Ideal S704x1024 .f32) (emb m hO t j)).trans (congrFun (found m c).2.2 _)

theorem word_eq : kernelRun0_A.sl.r (F := Ideal) c (tbl m 0) = word m c := by
  obtain rfl : c = 0 := Subsingleton.elim _ _
  unfold kernelRun0_A.sl.r tbl
  rw [show V m 0 (pre0.ref 0) = m (((0 : Dev nD) : Thread nD τ).loc main_arg0) from V_main_arg0 m 0]
  exact congrArg (m (((0 : Dev nD) : Thread nD τ).loc main_arg0)) (funext fun a => by
    match a with
    | ⟨0, _⟩ => rfl)

/-! ## What a point leaves -/

/-- A load of a whole window reads its block. -/
theorem load {M : Memref sig .tc .vmem S704x512 .f32} (hM : M.IsWhole) (x : Vec Ideal S704x512 .f32) :
    M.view.readAt (Elt Ideal) (Rect.unit ![0, 0] S704x512.size inb_S704x512_S704x512_0_0).toLoadRect (hM.unread x) = x :=
  load_whole hM origin2 _ x

theorem out5 (t : Fin (cfgM m hO).N) : (outsAt0 m hO c t).1 = k0_pay1 (grid0.coords t) (word m c) (iblk m hO c 1 t) (iblk m hO c 2 t) := by
  rw [← word_eq m c]
  unfold outsAt0 out0_A_5 kernelRun0_A
  dsimp only
  rw [read_whole VO0_5 _ (off := ![0, 0]) origin2]
  exact congr (congrArg (k0_pay1 _ _) (load (hs0_1 m hO t) _)) (load (hs0_2 m hO t) _)

theorem out6 (t : Fin (cfgM m hO).N) : (outsAt0 m hO c t).2.1 = k0_pay4 (grid0.coords t) (word m c) (iblk m hO c 1 t) (iblk m hO c 2 t) (iblk m hO c 0 t) (iblk m hO c 3 t) (iblk m hO c 4 t) := by
  rw [← word_eq m c]
  unfold outsAt0 out0_A_6 kernelRun0_A
  dsimp only
  rw [read_whole VO0_6 _ (off := ![0, 0]) origin2]
  exact congr (congr (congr (congr (congrArg (k0_pay4 _ _) (load (hs0_1 m hO t) _)) (load (hs0_2 m hO t) _)) (load (hs0_0 m hO t) _)) (load (hs0_3 m hO t) _)) (load (hs0_4 m hO t) _)

theorem out7 (t : Fin (cfgM m hO).N) : (outsAt0 m hO c t).2.2.1 = k0_pay2 (grid0.coords t) (word m c) (iblk m hO c 1 t) (iblk m hO c 2 t) (iblk m hO c 3 t) := by
  rw [← word_eq m c]
  unfold outsAt0 out0_A_7 kernelRun0_A
  dsimp only
  rw [read_whole VO0_7 _ (off := ![0, 0]) origin2]
  exact congr (congr (congrArg (k0_pay2 _ _) (load (hs0_1 m hO t) _)) (load (hs0_2 m hO t) _)) (load (hs0_3 m hO t) _)

theorem out8 (t : Fin (cfgM m hO).N) : (outsAt0 m hO c t).2.2.2 = k0_pay3 (grid0.coords t) (word m c) (iblk m hO c 1 t) (iblk m hO c 2 t) (iblk m hO c 4 t) := by
  rw [← word_eq m c]
  unfold outsAt0 out0_A_8 kernelRun0_A
  dsimp only
  rw [read_whole VO0_8 _ (off := ![0, 0]) origin2]
  exact congr (congr (congrArg (k0_pay3 _ _) (load (hs0_1 m hO t) _)) (load (hs0_2 m hO t) _)) (load (hs0_4 m hO t) _)

variable (i : grid0.Coords) (p : BitVec 32) (g1 g2 w v1 v2 : Vec Ideal S704x512 .f32)

theorem pay_g : k0_pay1 i p g1 g2 = fun j => side (i 0).val p (g1 j) (g2 j) := select_side _ p g1 g2
theorem pay_m : k0_pay2 i p g1 g2 v1 = fun j => stepM (side (i 0).val p (g1 j) (g2 j)) (v1 j) := by
  unfold k0_pay2
  rw [pay_g]
  funext j
  pointwise [stepM]
theorem pay_v : k0_pay3 i p g1 g2 v2 = fun j => stepV (side (i 0).val p (g1 j) (g2 j)) (v2 j) := by
  unfold k0_pay3
  rw [pay_g]
  funext j
  pointwise [stepV]
theorem pay_d : k0_pay4 i p g1 g2 w v1 v2 = fun j => stepD (w j) (side (i 0).val p (g1 j) (g2 j)) (v1 j) (v2 j) := by
  unfold k0_pay4
  rw [pay_m, pay_v]
  funext j
  pointwise [stepD, stepM, stepV]

theorem side_grad (t : Fin grid0.N) (j : S704x512.Idx) : side (grid0.coords t 0).val (word m c) (mine m c j) (other m c j) = grad m c (spot t j) :=
  (congrArg (fun k => side k _ _ _) (coord t)).trans (halves_spot _ _ _ _ _ _).symm

/-! ## The arrays -/

theorem final5 : ((dats m hO 0 c).arrAt 5 (cfgM m hO).N : Vec Ideal S704x1024 .f32) = grad m c :=
  (dats m hO 0 c).arrAt_eq_of_cover 5 (grad m c) (fun t _ => funext fun j => by
    refine Eq.trans ?_ (congrArg (grad m c) (emb m hO t j).symm)
    show ((dats m hO 0 c).after 5 t : Vec Ideal S704x512 .f32) j = _
    rw [after0_5, out5, block1, block2, pay_g]
    exact side_grad m c t j) fun i => let ⟨t, h⟩ := reached m hO i; ⟨t, flush0_5 _ t, h⟩
theorem final6 : ((dats m hO 0 c).arrAt 6 (cfgM m hO).N : Vec Ideal S704x1024 .f32) = newD (take (wt m c)) (grad m c) (take (mom m c)) (take (mom2 m c)) :=
  (dats m hO 0 c).arrAt_eq_of_cover 6 (newD (take (wt m c)) (grad m c) (take (mom m c)) (take (mom2 m c))) (fun t _ => funext fun j => by
    refine Eq.trans ?_ (congrArg (newD (take (wt m c)) (grad m c) (take (mom m c)) (take (mom2 m c))) (emb m hO t j).symm)
    show ((dats m hO 0 c).after 6 t : Vec Ideal S704x512 .f32) j = _
    rw [after0_6, out6, block0, block1, block2, block3, block4, pay_d]
    exact congrArg (fun x => stepD _ x _ _) (side_grad m c t j)) fun i => let ⟨t, h⟩ := reached m hO i; ⟨t, flush0_6 _ t, h⟩
theorem final7 : ((dats m hO 0 c).arrAt 7 (cfgM m hO).N : Vec Ideal S704x1024 .f32) = newM (grad m c) (take (mom m c)) :=
  (dats m hO 0 c).arrAt_eq_of_cover 7 (newM (grad m c) (take (mom m c))) (fun t _ => funext fun j => by
    refine Eq.trans ?_ (congrArg (newM (grad m c) (take (mom m c))) (emb m hO t j).symm)
    show ((dats m hO 0 c).after 7 t : Vec Ideal S704x512 .f32) j = _
    rw [after0_7, out7, block1, block2, block3, pay_m]
    exact congrArg (fun x => stepM x _) (side_grad m c t j)) fun i => let ⟨t, h⟩ := reached m hO i; ⟨t, flush0_7 _ t, h⟩
theorem final8 : ((dats m hO 0 c).arrAt 8 (cfgM m hO).N : Vec Ideal S704x1024 .f32) = newV (grad m c) (take (mom2 m c)) :=
  (dats m hO 0 c).arrAt_eq_of_cover 8 (newV (grad m c) (take (mom2 m c))) (fun t _ => funext fun j => by
    refine Eq.trans ?_ (congrArg (newV (grad m c) (take (mom2 m c))) (emb m hO t j).symm)
    show ((dats m hO 0 c).after 8 t : Vec Ideal S704x512 .f32) j = _
    rw [after0_8, out8, block1, block2, block4, pay_v]
    exact congrArg (fun x => stepV x _) (side_grad m c t j)) fun i => let ⟨t, h⟩ := reached m hO i; ⟨t, flush0_8 _ t, h⟩

/-! ## The results -/

theorem read0 (W : Valuation τ sig (Elt Ideal)) : after hostOps1 W (Proc.devRef .tc main_v4) = put (W (Proc.devRef .tc main_v3_0)) := by
  simp only [hostOps1]
  after_results_simp <;> rfl
theorem read1 (W : Valuation τ sig (Elt Ideal)) : after hostOps1 W (Proc.devRef .tc main_v5) = put (W (Proc.devRef .tc main_v3_1)) := by
  simp only [hostOps1]
  after_results_simp <;> rfl
theorem read2 (W : Valuation τ sig (Elt Ideal)) : after hostOps1 W (Proc.devRef .tc main_v6) = put (W (Proc.devRef .tc main_v3_2)) := by
  simp only [hostOps1]
  after_results_simp <;> rfl
theorem read3 (W : Valuation τ sig (Elt Ideal)) : after hostOps1 W (Proc.devRef .tc main_v7) = put (W (Proc.devRef .tc main_v3_3)) := by
  simp only [hostOps1]
  after_results_simp <;> rfl

/-- What the operations after the call leave. -/
abbrev tail (b : Ref sig .tc) := Pipeline.afterTail pcfgs (fun _ => adm m hO) (dats m hO) 0 (V0 m) [hostOps1] c b

theorem left {w : Fin 9} {x : Buf (Elt Ideal) (((cfgM m hO).spec w).arr.view.loc (c.tc : Thread nD τ))} (h : (dats m hO 0 c).arrAt w (cfgM m hO).N = x) :
    Pipeline.withArrays (cfgM m hO).spec c (V0 m c) (fun w => (dats m hO 0 c).arrAt w (cfgM m hO).N) (Proc.devRef .tc (Pipeline.arrRef (cfgM m hO).spec w)) = x :=
  (Pipeline.withArrays_arr (cfgM m hO).spec winFacts0.arr_inj c (V0 m c) _ w).trans h

theorem at0 : tail m c hO main_v4 = put (grad m c) :=
  ((read0 _).trans (congrArg put (left m c hO (final5 m c hO))))
theorem at1 : tail m c hO main_v5 = newD (wt m c) (put (grad m c)) (mom m c) (mom2 m c) :=
  ((read1 _).trans (congrArg put (left m c hO (final6 m c hO)))).trans (congr (congr (congrArg (fun x => newD x (put (grad m c))) (put_take _)) (put_take _)) (put_take _))
theorem at2 : tail m c hO main_v6 = newM (put (grad m c)) (mom m c) :=
  ((read2 _).trans (congrArg put (left m c hO (final7 m c hO)))).trans (congrArg (newM (put (grad m c))) (put_take _))
theorem at3 : tail m c hO main_v7 = newV (put (grad m c)) (mom2 m c) :=
  ((read3 _).trans (congrArg put (left m c hO (final8 m c hO)))).trans (congrArg (newV (put (grad m c))) (put_take _))

end Kernel

/-- The reference terminates with its arguments unchanged and its counters at zero. -/
theorem frame_reference : quiescent_Reference8Ideal (hReference8Ideal := Cert.Reference8Ideal.Gen.facts) := fun m g _ =>
  (θ_run _ _ _).mono (fun r h => ⟨fun c => (h c).2.2.2.2, sem_eq_zero_of_no_sems (by decide) r.2⟩) (Cert.Reference8Ideal.Value.run m g)

open Cert.Kernel8Ideal Cert.Kernel8Ideal.Gen in
/-- Idealized kernel and reference end with equal results: the gradient and its step. -/
theorem agree : algebraic_Kernel8Ideal_Reference8Ideal (hKernel8Ideal := Cert.Kernel8Ideal.Gen.facts)
    (hReference8Ideal := Cert.Reference8Ideal.Gen.facts) := by
  intro m g m' g' _ hag
  refine ⟨fun c => put (grad m c), fun c => newD (wt m c) (put (grad m c)) (mom m c) (mom2 m c), fun c => newM (put (grad m c)) (mom m c), fun c => newV (put (grad m c)) (mom2 m c),
    (θ_run _ _ _).mono (fun r h c => ?_) (θ_run_and (unchanged m g trivial) (run_main m g trivial)), (θ_run _ _ _).mono (fun r h c => ?_) (Cert.Reference8Ideal.Value.run m' g')⟩
  · have hc : ∀ b : Ref sig .tc, b.isScoped = false → (∀ w, Pipeline.arrRef spec0 w ≠ b) → r.2.mem ((c.tc : Thread nD τ).loc b) = tail m c trivial b :=
      fun b hs ha => (h.2 c).2 b (Pipeline.mem_restRefs_of b hs ha)
    exact ⟨(hc main_v4 (by decide) (by decide)).trans (at0 m c trivial), (hc main_v5 (by decide) (by decide)).trans (at1 m c trivial), (hc main_v6 (by decide) (by decide)).trans (at2 m c trivial), (hc main_v7 (by decide) (by decide)).trans (at3 m c trivial), h.1 c⟩
  · obtain ⟨h0, h1, h2, h3, hargs⟩ := h c
    obtain ⟨e0, e1, e2, e3, e4, e5⟩ := hag c
    have hp : ∀ i, _ = word m c := fun i => (host_word _ Cert.Reference8Ideal.Gen.slices_S2_S1_0 Cert.Reference8Ideal.Gen.shapeCasts_S1_S_ i).trans (congrFun e0 (ix1 0))
    have eg := congrArg put ((host_halves Cert.Reference8Ideal.Gen.bcast_S_S704x512 Cert.Reference8Ideal.Gen.concatenates_S704x512_S704x512_S704x1024_d1 hp hp _ _).trans
      (congr (congrArg (halves (word m c)) e2) e3))
    exact ⟨h0.trans eg, h1.trans (host_d _ e1 eg e4 e5), h2.trans (host_m _ eg e4), h3.trans (host_v _ eg e5), hargs⟩

end Cert.Proof.Adam.WDown

end
-- ==== Proof.Adam.WIn.lean ====
module

public import proofs.«01_k».proof.Proof.Adam.Halves
public import proofs.«01_k».proof.Proof.Gen.Kernel9Ideal.Frame
public import proofs.«01_k».proof.Proof.Gen.Reference9Ideal.Run
public import proofs.«01_k».proof.Defs

/-!
# The step of `w_in`

Every block of 512 columns the call leaves is the step of that block's entries, so its four arrays are the step of the whole weight;
the reference's lines are the same step.
-/

@[expose] public section

set_option maxRecDepth 16384

noncomputable section

namespace Cert.Proof.Adam.WIn

open Idealize.ShloMosaic Idealize.ShloMosaic.TcCoe Idealize.ShloMosaic.StableHlo
open Cert.Proof.Ffn (origin2)

/-- The matrix of the two halves, row by row. -/
def rows (p : BitVec 32) (mine other : FVec Ideal ⟨3, ![1030, 1, 512]⟩ .f32) : FVec Ideal ⟨3, ![1030, 1, 1024]⟩ .f32 := fun i =>
  side ((i 2).val / 512) p (mine (ix3 (i 0) (i 1) ⟨(i 2).val % 512, Nat.mod_lt _ (by decide)⟩)) (other (ix3 (i 0) (i 1) ⟨(i 2).val % 512, Nat.mod_lt _ (by decide)⟩))

theorem origin3 : (![0, 0, 0] : Fin 3 → ℕ) = fun _ => 0 := by
  funext a
  match a with
  | ⟨0, _⟩ | ⟨1, _⟩ | ⟨2, _⟩ => rfl

section Kernel

open Cert.Kernel9Ideal Cert.Kernel9Ideal.Gen

variable (m : (ℓ : Loc nD τ sig) → Buf (Elt Ideal) ℓ) (c : Dev nD) (hO : Ok m)

/-! ## Blocks -/

theorem index : ∀ t : Fin grid0.N, cc0_transform_0 (grid0.coords t) 0 = t.val % 5 ∧ cc0_transform_0 (grid0.coords t) 1 = 0 ∧ cc0_transform_0 (grid0.coords t) 2 = t.val / 5 := by decide +kernel
theorem half : ∀ t : Fin grid0.N, cc0_transform_1 (grid0.coords t) 0 = t.val % 5 ∧ cc0_transform_1 (grid0.coords t) 1 = 0 ∧ cc0_transform_1 (grid0.coords t) 2 = t.val / 5 % 2 := by decide +kernel
theorem coord : ∀ t : Fin grid0.N, (grid0.coords t 0).val = t.val / 10 := by decide +kernel

theorem points (t : Fin grid0.N) : t.val < 20 := t.isLt

/-- Entry `j` of point `t`'s block, in its array, -/
def spot (t : Fin grid0.N) (j : S206x1x256.Idx) : S1030x1x1024.Idx :=
  ix3 ⟨206 * (t.val % 5) + (j 0).val, by have h : (j 0).val < 206 := (j 0).isLt; omega⟩ (j 1) ⟨256 * (t.val / 5) + (j 2).val, by have h : (j 2).val < 256 := (j 2).isLt; have := points t; omega⟩

/-- and in a half. -/
def spot_half (t : Fin grid0.N) (j : S206x1x256.Idx) : S1030x1x512.Idx :=
  ix3 ⟨206 * (t.val % 5) + (j 0).val, by have h : (j 0).val < 206 := (j 0).isLt; omega⟩ (j 1) ⟨256 * (t.val / 5 % 2) + (j 2).val, by have h : (j 2).val < 256 := (j 2).isLt; omega⟩

theorem emb (t : Fin (cfgM m hO).N) (j : S206x1x256.Idx) : (((cfgM m hO).win 5).blk t).view.emb j = spot t j := by
  funext a
  match a with
  | ⟨0, _⟩ => exact Fin.ext (show cc0_transform_0 (grid0.coords t) 0 * 206 + 1 * (j 0).val = 206 * (t.val % 5) + (j 0).val by rw [(index t).1]; omega)
  | ⟨1, _⟩ => exact Fin.ext (show cc0_transform_0 (grid0.coords t) 1 * 1 + 1 * (j 1).val = (j 1).val by rw [(index t).2.1]; omega)
  | ⟨2, _⟩ => exact Fin.ext (show cc0_transform_0 (grid0.coords t) 2 * 256 + 1 * (j 2).val = 256 * (t.val / 5) + (j 2).val by rw [(index t).2.2]; omega)

theorem emb_half (t : Fin (cfgM m hO).N) (j : S206x1x256.Idx) : (((cfgM m hO).win 1).blk t).view.emb j = spot_half t j := by
  funext a
  match a with
  | ⟨0, _⟩ => exact Fin.ext (show cc0_transform_1 (grid0.coords t) 0 * 206 + 1 * (j 0).val = 206 * (t.val % 5) + (j 0).val by rw [(half t).1]; omega)
  | ⟨1, _⟩ => exact Fin.ext (show cc0_transform_1 (grid0.coords t) 1 * 1 + 1 * (j 1).val = (j 1).val by rw [(half t).2.1]; omega)
  | ⟨2, _⟩ => exact Fin.ext (show cc0_transform_1 (grid0.coords t) 2 * 256 + 1 * (j 2).val = 256 * (t.val / 5 % 2) + (j 2).val by rw [(half t).2.2]; omega)

theorem spot_surj (i : S1030x1x1024.Idx) : ∃ t j, spot t j = i := by
  have h0 : (i 0).val < 1030 := (i 0).isLt
  have h2 : (i 2).val < 1024 := (i 2).isLt
  refine ⟨⟨5 * ((i 2).val / 256) + (i 0).val / 206, show _ < 20 by omega⟩, ix3 ⟨(i 0).val % 206, by omega⟩ (i 1) ⟨(i 2).val % 256, by omega⟩, ?_⟩
  funext a
  match a with
  | ⟨0, _⟩ => exact Fin.ext (show 206 * ((5 * ((i 2).val / 256) + (i 0).val / 206) % 5) + (i 0).val % 206 = (i 0).val by omega)
  | ⟨1, _⟩ => rfl
  | ⟨2, _⟩ => exact Fin.ext (show 256 * ((5 * ((i 2).val / 256) + (i 0).val / 206) / 5) + (i 2).val % 256 = (i 2).val by omega)

theorem reached (i : S1030x1x1024.Idx) : ∃ t : Fin (cfgM m hO).N, i ∈ (((cfgM m hO).win 5).blk t).view.set :=
  let ⟨t, j, h⟩ := spot_surj i
  ⟨t, (emb m hO t j).trans h ▸ View.emb_mem_set _ j⟩

/-- A weight as the call takes it, row by row, -/
def take (w : Vec Ideal S1x1024x1030 .f32) : Vec Ideal S1030x1x1024 .f32 := transpose S1030x1x1024 [2, 0, 1] w transposes_S1x1024x1030_S1030x1x1024_2_0_1

/-- and an array of the call's as the weight's. -/
def put (a : Vec Ideal S1030x1x1024 .f32) : Vec Ideal S1x1024x1030 .f32 := transpose S1x1024x1030 [1, 2, 0] a transposes_S1030x1x1024_S1x1024x1030_1_2_0

theorem put_take (w : Vec Ideal S1x1024x1030 .f32) : put (take w) = w := by
  funext i
  pointwise [put, take]
  exact congrArg w (funext fun a => by
    match a with
    | ⟨0, _⟩ => exact Subsingleton.elim (α := Fin 1) _ _
    | ⟨1, _⟩ | ⟨2, _⟩ => rfl)

/-- The word, the arguments, and the gradient they make. -/
abbrev word : BitVec 32 := (m ((c : Thread nD τ).loc main_arg0) : Vec Ideal S2 .i32) (ix1 0)
abbrev wt : Vec Ideal S1x1024x1030 .f32 := m ((c : Thread nD τ).loc main_arg1)
abbrev mine : Vec Ideal S1030x1x512 .f32 := m ((c : Thread nD τ).loc main_arg2)
abbrev other : Vec Ideal S1030x1x512 .f32 := m ((c : Thread nD τ).loc main_arg3)
abbrev mom : Vec Ideal S1x1024x1030 .f32 := m ((c : Thread nD τ).loc main_arg4)
abbrev mom2 : Vec Ideal S1x1024x1030 .f32 := m ((c : Thread nD τ).loc main_arg5)
def grad : Vec Ideal S1030x1x1024 .f32 := rows (word m c) (mine m c) (other m c)

theorem found : (V m c main_v0 : Vec Ideal S1030x1x1024 .f32) = take (wt m c) ∧
    (V m c main_v1 : Vec Ideal S1030x1x1024 .f32) = take (mom m c) ∧ (V m c main_v2 : Vec Ideal S1030x1x1024 .f32) = take (mom2 m c) := by
  unfold V V0
  simp only [hostOps0, List.flatten_cons, List.flatten_nil, List.append_nil]
  refine ⟨?_, ?_, ?_⟩ <;> after_results_simp <;> rfl

theorem block0 (t : Fin (cfgM m hO).N) : (iblk m hO c 0 t : Vec Ideal S206x1x256 .f32) = fun j => take (wt m c) (spot t j) :=
  funext fun j => (congrArg (V m c main_v0 : Vec Ideal S1030x1x1024 .f32) (emb m hO t j)).trans (congrFun (found m c).1 _)
theorem block1 (t : Fin (cfgM m hO).N) : (iblk m hO c 1 t : Vec Ideal S206x1x256 .f32) = fun j => mine m c (spot_half t j) :=
  funext fun j => (congrArg (V m c main_arg2 : Vec Ideal S1030x1x512 .f32) (emb_half m hO t j)).trans (congrFun (V_main_arg2 m c) _)
theorem block2 (t : Fin (cfgM m hO).N) : (iblk m hO c 2 t : Vec Ideal S206x1x256 .f32) = fun j => other m c (spot_half t j) :=
  funext fun j => (congrArg (V m c main_arg3 : Vec Ideal S1030x1x512 .f32) (emb_half m hO t j)).trans (congrFun (V_main_arg3 m c) _)
theorem block3 (t : Fin (cfgM m hO).N) : (iblk m hO c 3 t : Vec Ideal S206x1x256 .f32) = fun j => take (mom m c) (spot t j) :=
  funext fun j => (congrArg (V m c main_v1 : Vec Ideal S1030x1x1024 .f32) (emb m hO t j)).trans (congrFun (found m c).2.1 _)
theorem block4 (t : Fin (cfgM m hO).N) : (iblk m hO c 4 t : Vec Ideal S206x1x256 .f32) = fun j => take (mom2 m c) (spot t j) :=
  funext fun j => (congrArg (V m c main_v2 : Vec Ideal S1030x1x1024 .f32) (emb m hO t j)).trans (congrFun (found m c).2.2 _)

theorem word_eq : kernelRun0_A.sl.r (F := Ideal) c (tbl m 0) = word m c := by
  obtain rfl : c = 0 := Subsingleton.elim _ _
  unfold kernelRun0_A.sl.r tbl
  rw [show V m 0 (pre0.ref 0) = m (((0 : Dev nD) : Thread nD τ).loc main_arg0) from V_main_arg0 m 0]
  exact congrArg (m (((0 : Dev nD) : Thread nD τ).loc main_arg0)) (funext fun a => by
    match a with
    | ⟨0, _⟩ => rfl)

/-! ## What a point leaves -/

/-- A load of a whole window reads its block. -/
theorem load {M : Memref sig .tc .vmem S206x1x256 .f32} (hM : M.IsWhole) (x : Vec Ideal S206x1x256 .f32) :
    M.view.readAt (Elt Ideal) (Rect.unit ![0, 0, 0] S206x1x256.size inb_S206x1x256_S206x1x256_0_0_0).toLoadRect (hM.unread x) = x :=
  load_whole hM origin3 _ x

theorem out5 (t : Fin (cfgM m hO).N) : (outsAt0 m hO c t).1 = k0_pay2 (grid0.coords t) (word m c) (iblk m hO c 1 t) (iblk m hO c 2 t) := by
  rw [← word_eq m c]
  unfold outsAt0 out0_A_5 kernelRun0_A
  dsimp only
  rw [read_whole VO0_5 _ (off := ![0, 0, 0]) origin3]
  exact congr (congrArg (k0_pay2 _ _) (load (hs0_1 m hO t) _)) (load (hs0_2 m hO t) _)

theorem out6 (t : Fin (cfgM m hO).N) : (outsAt0 m hO c t).2.1 = k0_pay1 (k0_pay5 (grid0.coords t) (word m c) (iblk m hO c 1 t) (iblk m hO c 2 t) (iblk m hO c 0 t) (iblk m hO c 3 t) (iblk m hO c 4 t)) := by
  rw [← word_eq m c]
  unfold outsAt0 out0_A_6 kernelRun0_A
  dsimp only
  rw [read_whole VO0_6 _ (off := ![0, 0, 0]) origin3]
  exact congrArg k0_pay1 (congr (congr (congr (congr (congrArg (k0_pay5 _ _) (load (hs0_1 m hO t) _)) (load (hs0_2 m hO t) _)) (load (hs0_0 m hO t) _)) (load (hs0_3 m hO t) _)) (load (hs0_4 m hO t) _))

theorem out7 (t : Fin (cfgM m hO).N) : (outsAt0 m hO c t).2.2.1 = k0_pay3 (grid0.coords t) (word m c) (iblk m hO c 1 t) (iblk m hO c 2 t) (iblk m hO c 3 t) := by
  rw [← word_eq m c]
  unfold outsAt0 out0_A_7 kernelRun0_A
  dsimp only
  rw [read_whole VO0_7 _ (off := ![0, 0, 0]) origin3]
  exact congr (congr (congrArg (k0_pay3 _ _) (load (hs0_1 m hO t) _)) (load (hs0_2 m hO t) _)) (load (hs0_3 m hO t) _)

theorem out8 (t : Fin (cfgM m hO).N) : (outsAt0 m hO c t).2.2.2 = k0_pay4 (grid0.coords t) (word m c) (iblk m hO c 1 t) (iblk m hO c 2 t) (iblk m hO c 4 t) := by
  rw [← word_eq m c]
  unfold outsAt0 out0_A_8 kernelRun0_A
  dsimp only
  rw [read_whole VO0_8 _ (off := ![0, 0, 0]) origin3]
  exact congr (congr (congrArg (k0_pay4 _ _) (load (hs0_1 m hO t) _)) (load (hs0_2 m hO t) _)) (load (hs0_4 m hO t) _)

variable (i : grid0.Coords) (p : BitVec 32) (g1 g2 w v1 v2 : Vec Ideal S206x1x256 .f32)

theorem pay_g : k0_pay2 i p g1 g2 = fun j => side (i 0).val p (g1 j) (g2 j) := select_side _ p g1 g2
theorem pay_m : k0_pay3 i p g1 g2 v1 = fun j => stepM (side (i 0).val p (g1 j) (g2 j)) (v1 j) := by
  unfold k0_pay3
  rw [pay_g]
  funext j
  pointwise [stepM]
theorem pay_v : k0_pay4 i p g1 g2 v2 = fun j => stepV (side (i 0).val p (g1 j) (g2 j)) (v2 j) := by
  unfold k0_pay4
  rw [pay_g]
  funext j
  pointwise [stepV]
theorem pay_d : k0_pay1 (k0_pay5 i p g1 g2 w v1 v2) = fun j => stepD (w j) (side (i 0).val p (g1 j) (g2 j)) (v1 j) (v2 j) := by
  unfold k0_pay1 k0_pay5
  rw [pay_m, pay_v]
  funext j
  pointwise [stepD, stepM, stepV]

theorem side_grad (t : Fin grid0.N) (j : S206x1x256.Idx) : side (grid0.coords t 0).val (word m c) (mine m c (spot_half t j)) (other m c (spot_half t j)) = grad m c (spot t j) := by
  have h2 : (j 2).val < 256 := (j 2).isLt
  have hi : spot_half t j = ix3 (spot t j 0) (spot t j 1) ⟨(spot t j 2).val % 512, Nat.mod_lt _ (by decide)⟩ := by
    funext a
    match a with
    | ⟨0, _⟩ => rfl
    | ⟨1, _⟩ => rfl
    | ⟨2, _⟩ => exact Fin.ext (show 256 * (t.val / 5 % 2) + (j 2).val = (256 * (t.val / 5) + (j 2).val) % 512 by omega)
  rw [coord, hi, show t.val / 10 = (spot t j 2).val / 512 from show t.val / 10 = (256 * (t.val / 5) + (j 2).val) / 512 by omega]
  rfl

/-! ## The arrays -/

theorem final5 : ((dats m hO 0 c).arrAt 5 (cfgM m hO).N : Vec Ideal S1030x1x1024 .f32) = grad m c :=
  (dats m hO 0 c).arrAt_eq_of_cover 5 (grad m c) (fun t _ => funext fun j => by
    refine Eq.trans ?_ (congrArg (grad m c) (emb m hO t j).symm)
    show ((dats m hO 0 c).after 5 t : Vec Ideal S206x1x256 .f32) j = _
    rw [after0_5, out5, block1, block2, pay_g]
    exact side_grad m c t j) fun i => let ⟨t, h⟩ := reached m hO i; ⟨t, flush0_5 _ t, h⟩
theorem final6 : ((dats m hO 0 c).arrAt 6 (cfgM m hO).N : Vec Ideal S1030x1x1024 .f32) = newD (take (wt m c)) (grad m c) (take (mom m c)) (take (mom2 m c)) :=
  (dats m hO 0 c).arrAt_eq_of_cover 6 (newD (take (wt m c)) (grad m c) (take (mom m c)) (take (mom2 m c))) (fun t _ => funext fun j => by
    refine Eq.trans ?_ (congrArg (newD (take (wt m c)) (grad m c) (take (mom m c)) (take (mom2 m c))) (emb m hO t j).symm)
    show ((dats m hO 0 c).after 6 t : Vec Ideal S206x1x256 .f32) j = _
    rw [after0_6, out6, block0, block1, block2, block3, block4, pay_d]
    exact congrArg (fun x => stepD _ x _ _) (side_grad m c t j)) fun i => let ⟨t, h⟩ := reached m hO i; ⟨t, flush0_6 _ t, h⟩
theorem final7 : ((dats m hO 0 c).arrAt 7 (cfgM m hO).N : Vec Ideal S1030x1x1024 .f32) = newM (grad m c) (take (mom m c)) :=
  (dats m hO 0 c).arrAt_eq_of_cover 7 (newM (grad m c) (take (mom m c))) (fun t _ => funext fun j => by
    refine Eq.trans ?_ (congrArg (newM (grad m c) (take (mom m c))) (emb m hO t j).symm)
    show ((dats m hO 0 c).after 7 t : Vec Ideal S206x1x256 .f32) j = _
    rw [after0_7, out7, block1, block2, block3, pay_m]
    exact congrArg (fun x => stepM x _) (side_grad m c t j)) fun i => let ⟨t, h⟩ := reached m hO i; ⟨t, flush0_7 _ t, h⟩
theorem final8 : ((dats m hO 0 c).arrAt 8 (cfgM m hO).N : Vec Ideal S1030x1x1024 .f32) = newV (grad m c) (take (mom2 m c)) :=
  (dats m hO 0 c).arrAt_eq_of_cover 8 (newV (grad m c) (take (mom2 m c))) (fun t _ => funext fun j => by
    refine Eq.trans ?_ (congrArg (newV (grad m c) (take (mom2 m c))) (emb m hO t j).symm)
    show ((dats m hO 0 c).after 8 t : Vec Ideal S206x1x256 .f32) j = _
    rw [after0_8, out8, block1, block2, block4, pay_v]
    exact congrArg (fun x => stepV x _) (side_grad m c t j)) fun i => let ⟨t, h⟩ := reached m hO i; ⟨t, flush0_8 _ t, h⟩

/-! ## The results -/

theorem read0 (W : Valuation τ sig (Elt Ideal)) : after hostOps1 W (Proc.devRef .tc main_v4) = put (W (Proc.devRef .tc main_v3_0)) := by
  simp only [hostOps1]
  after_results_simp <;> rfl
theorem read1 (W : Valuation τ sig (Elt Ideal)) : after hostOps1 W (Proc.devRef .tc main_v5) = put (W (Proc.devRef .tc main_v3_1)) := by
  simp only [hostOps1]
  after_results_simp <;> rfl
theorem read2 (W : Valuation τ sig (Elt Ideal)) : after hostOps1 W (Proc.devRef .tc main_v6) = put (W (Proc.devRef .tc main_v3_2)) := by
  simp only [hostOps1]
  after_results_simp <;> rfl
theorem read3 (W : Valuation τ sig (Elt Ideal)) : after hostOps1 W (Proc.devRef .tc main_v7) = put (W (Proc.devRef .tc main_v3_3)) := by
  simp only [hostOps1]
  after_results_simp <;> rfl

/-- What the operations after the call leave. -/
abbrev tail (b : Ref sig .tc) := Pipeline.afterTail pcfgs (fun _ => adm m hO) (dats m hO) 0 (V0 m) [hostOps1] c b

theorem left {w : Fin 9} {x : Buf (Elt Ideal) (((cfgM m hO).spec w).arr.view.loc (c.tc : Thread nD τ))} (h : (dats m hO 0 c).arrAt w (cfgM m hO).N = x) :
    Pipeline.withArrays (cfgM m hO).spec c (V0 m c) (fun w => (dats m hO 0 c).arrAt w (cfgM m hO).N) (Proc.devRef .tc (Pipeline.arrRef (cfgM m hO).spec w)) = x :=
  (Pipeline.withArrays_arr (cfgM m hO).spec winFacts0.arr_inj c (V0 m c) _ w).trans h

theorem at0 : tail m c hO main_v4 = put (grad m c) :=
  ((read0 _).trans (congrArg put (left m c hO (final5 m c hO))))
theorem at1 : tail m c hO main_v5 = newD (wt m c) (put (grad m c)) (mom m c) (mom2 m c) :=
  ((read1 _).trans (congrArg put (left m c hO (final6 m c hO)))).trans (congr (congr (congrArg (fun x => newD x (put (grad m c))) (put_take _)) (put_take _)) (put_take _))
theorem at2 : tail m c hO main_v6 = newM (put (grad m c)) (mom m c) :=
  ((read2 _).trans (congrArg put (left m c hO (final7 m c hO)))).trans (congrArg (newM (put (grad m c))) (put_take _))
theorem at3 : tail m c hO main_v7 = newV (put (grad m c)) (mom2 m c) :=
  ((read3 _).trans (congrArg put (left m c hO (final8 m c hO)))).trans (congrArg (newV (put (grad m c))) (put_take _))

end Kernel

section Host

open Cert.Reference9Ideal

/-- The reference's two halves side by side, row by row, -/
theorem host_rows {q : IVec S_ 32} {p : BitVec 32} (h : ∀ i, q i = p) (mine other : FVec Ideal S1030x1x512 .f32) :
    concatenate S1030x1x1024 2
      [⟨S1030x1x512, select (broadcastInDim S1030x1x512 ![] Gen.bcast_S_S1030x1x512 (cmpi .eq q (constantI S_ 32 0#32))) mine other⟩,
        ⟨S1030x1x512, select (broadcastInDim S1030x1x512 ![] Gen.bcast_S_S1030x1x512 (cmpi .eq q (constantI S_ 32 1#32))) mine other⟩] Gen.concatenates_S1030x1x512_S1030x1x512_S1030x1x1024_d2 = rows p mine other := by
  funext i
  have h2 : (i 2).val < 1024 := (i 2).isLt
  obtain hi | hi : (i 2).val / 512 = 0 ∨ (i 2).val / 512 = 1 := by omega
  · refine (concatenate_pair_apply_left (t := S1030x1x1024) (s₁ := S1030x1x512) (s₂ := S1030x1x512) 2 _ _ Gen.concatenates_S1030x1x512_S1030x1x512_S1030x1x1024_d2 i rfl (ix3 (n0 := 1030) (n1 := 1) (n2 := 512) (i 0) (i 1) ⟨(i 2).val % 512, Nat.mod_lt _ (by decide)⟩) fun b => ?_).trans ?_
    · match b with
      | ⟨0, _⟩ => rfl
      | ⟨1, _⟩ => rfl
      | ⟨2, _⟩ => exact (show (i 2).val % 512 = (i 2).val by omega)
    · refine (congrArg (fun x => Scalar.select (IntOp.cmpi .eq x 0#32) _ _) (h _)).trans ((where_side 0 p _ _).trans ?_)
      unfold rows
      rw [hi]
  · refine (concatenate_pair_apply_right (t := S1030x1x1024) (s₁ := S1030x1x512) (s₂ := S1030x1x512) 2 _ _ Gen.concatenates_S1030x1x512_S1030x1x512_S1030x1x1024_d2 i rfl rfl (ix3 (n0 := 1030) (n1 := 1) (n2 := 512) (i 0) (i 1) ⟨(i 2).val % 512, Nat.mod_lt _ (by decide)⟩) (fun b hb => ?_) ?_).trans ?_
    · match b with
      | ⟨0, _⟩ => rfl
      | ⟨1, _⟩ => rfl
      | ⟨2, _⟩ => exact absurd rfl hb
    · exact (show (i 2).val % 512 + 512 = (i 2).val by omega)
    · refine (congrArg (fun x => Scalar.select (IntOp.cmpi .eq x 1#32) _ _) (h _)).trans ((where_side 1 p _ _).trans ?_)
      unfold rows
      rw [hi]

/-- and turned to the weight's order. -/
theorem host_put (a : FVec Ideal S1030x1x1024 .f32) :
    broadcastInDim S1x1024x1030 ![1, 2] Gen.bcast_S1024x1030_S1x1024x1030_1_2 (transpose S1024x1030 [1, 0] (shapeCast S1030x1024 a Gen.shapeCasts_S1030x1x1024_S1030x1024) Gen.transposes_S1030x1024_S1024x1030_1_0) = put a := by
  funext i
  pointwise [put]

end Host

/-- The reference terminates with its arguments unchanged and its counters at zero. -/
theorem frame_reference : quiescent_Reference9Ideal (hReference9Ideal := Cert.Reference9Ideal.Gen.facts) := fun m g _ =>
  (θ_run _ _ _).mono (fun r h => ⟨fun c => (h c).2.2.2.2, sem_eq_zero_of_no_sems (by decide) r.2⟩) (Cert.Reference9Ideal.Value.run m g)

open Cert.Kernel9Ideal Cert.Kernel9Ideal.Gen in
/-- Idealized kernel and reference end with equal results: the gradient and its step. -/
theorem agree : algebraic_Kernel9Ideal_Reference9Ideal (hKernel9Ideal := Cert.Kernel9Ideal.Gen.facts)
    (hReference9Ideal := Cert.Reference9Ideal.Gen.facts) := by
  intro m g m' g' _ hag
  refine ⟨fun c => put (grad m c), fun c => newD (wt m c) (put (grad m c)) (mom m c) (mom2 m c), fun c => newM (put (grad m c)) (mom m c), fun c => newV (put (grad m c)) (mom2 m c),
    (θ_run _ _ _).mono (fun r h c => ?_) (θ_run_and (unchanged m g trivial) (run_main m g trivial)), (θ_run _ _ _).mono (fun r h c => ?_) (Cert.Reference9Ideal.Value.run m' g')⟩
  · have hc : ∀ b : Ref sig .tc, b.isScoped = false → (∀ w, Pipeline.arrRef spec0 w ≠ b) → r.2.mem ((c.tc : Thread nD τ).loc b) = tail m c trivial b :=
      fun b hs ha => (h.2 c).2 b (Pipeline.mem_restRefs_of b hs ha)
    exact ⟨(hc main_v4 (by decide) (by decide)).trans (at0 m c trivial), (hc main_v5 (by decide) (by decide)).trans (at1 m c trivial), (hc main_v6 (by decide) (by decide)).trans (at2 m c trivial), (hc main_v7 (by decide) (by decide)).trans (at3 m c trivial), h.1 c⟩
  · obtain ⟨h0, h1, h2, h3, hargs⟩ := h c
    obtain ⟨e0, e1, e2, e3, e4, e5⟩ := hag c
    have hp : ∀ i, _ = word m c := fun i => (host_word _ Cert.Reference9Ideal.Gen.slices_S2_S1_0 Cert.Reference9Ideal.Gen.shapeCasts_S1_S_ i).trans (congrFun e0 (ix1 0))
    have eg := (host_put _).trans (congrArg put ((host_rows hp _ _).trans (congr (congrArg (rows (word m c)) e2) e3)))
    exact ⟨h0.trans eg, h1.trans (host_d _ e1 eg e4 e5), h2.trans (host_m _ eg e4), h3.trans (host_v _ eg e5), hargs⟩

end Cert.Proof.Adam.WIn

end
-- ==== Proof.Norms.Spec.lean ====
module

public import proofs.«01_k».proof.Proof.Ffn.Spec
public import proofs.«01_k».proof.Proof.Gen.Reference10Ideal.Run
public import Idealize.ShloMosaic.Lib.Pointwise

/-!
# The norm over a head's channels, and the gradient of its weights

A row holds eight heads of 64 channels. The norm scales each head by the reciprocal root of its mean square, then by 64 weights that
all heads share; so a weight's gradient is a sum over the rows and over the heads. Here: that sum, and the reference's operations
read as it.
-/

@[expose] public section

set_option maxRecDepth 16384

noncomputable section

namespace Cert.Proof.Norms

open Cert.Reference10Ideal Cert.Reference10Ideal.Gen Idealize.ShloMosaic Idealize.ShloMosaic.TcCoe
open Cert.Proof.Ffn (eps)

/-- The channels of a head. -/
def headWidth : EReal := Ideal.ofBits .f32 0x42800000#32

/-- Mean square of head `h` of row `t`, kept from zero. -/
def msq (x : ℕ → ℕ → EReal) (t h : ℕ) : EReal := Ideal.div (∑ k : Fin 64, x t (64 * h + k) * x t (64 * h + k)) headWidth + eps
/-- What the norm scales the head by. -/
def rn (x : ℕ → ℕ → EReal) (t h : ℕ) : EReal := Ideal.rsqrt (msq x t h)
/-- The gradient of column `c`'s weight, were it not shared: `x` are the rows, `g` the gradient of the norm's result. -/
def column (x g : ℕ → ℕ → EReal) (c : ℕ) : EReal := ∑ t : Fin 2048, x t c * rn x t (c / 64) * g t c
/-- The gradient of the weight of channel `d`. -/
def grad (x g : ℕ → ℕ → EReal) : FVec Ideal S64 .f32 := fun i => ∑ h : Fin 8, column x g (64 * h + (i 0).val)

/-- An array's entry by its numbers. -/
def entry {n m : ℕ} (a : Vec Ideal ⟨2, ![n, m]⟩ .f32) (t c : ℕ) : EReal := if h : t < n ∧ c < m then a (ix2 ⟨t, h.1⟩ ⟨c, h.2⟩) else 0

theorem entry_of {n m : ℕ} {a : Vec Ideal ⟨2, ![n, m]⟩ .f32} {i : (⟨2, ![n, m]⟩ : Shape).Idx} {t c : ℕ} (e0 : (i 0).val = t) (e1 : (i 1).val = c) : a i = entry a t c := by
  subst e0 e1
  rw [entry, dif_pos (show (i 0).val < n ∧ (i 1).val < m from ⟨(i 0).isLt, (i 1).isLt⟩)]
  exact congrArg a (eq_ix2 i)

theorem entry_at {n m : ℕ} (a : Vec Ideal ⟨2, ![n, m]⟩ .f32) (t : Fin n) (c : Fin m) {k : ℕ} (h : k = c.val) : a (ix2 t c) = entry a t k := entry_of rfl h.symm

/-! ## The reference -/

abbrev Heads := FVec Ideal S2048x8x64 .f32

/-- The heads' mean squares, -/
def hMsq (x : Heads) : FVec Ideal S2048x8x1 .f32 :=
  addf (Host.divf (broadcastInDim S2048x8x1 ![0, 1] bcast_S2048x8_S2048x8x1_0_1 (Host.reduceAdd (mulf x x) (constant S_ .f32 0x00000000#32) reducesTo_S2048x8x64_S2048x8_d2 h_S_))
    (broadcastInDim S2048x8x1 ![] bcast_S_S2048x8x1 (constant S_ .f32 0x42800000#32))) (broadcastInDim S2048x8x1 ![] bcast_S_S2048x8x1 (constant S_ .f32 0x358637BD#32))
/-- and the weights' gradient. -/
def hGrad (x g : Heads) : FVec Ideal S64 .f32 :=
  Host.reduceAdd (shapeCast _ (Host.reduceAdd (mulf (mulf x (broadcastInDim S2048x8x64 ![0, 1, 2] bcast_S2048x8x1_S2048x8x64_0_1_2 (Host.rsqrt (hMsq x)))) g)
    (constant S_ .f32 0x00000000#32) reducesTo_S2048x8x64_S64_d0_1 h_S_) shapeCasts_S64_S1x1x64) (constant S_ .f32 0x00000000#32) reducesTo_S1x1x64_S64_d0_1 h_S_

/-- A sum along the first two of three axes. -/
theorem sum_two {n0 n1 n2 : ℕ} (h : (⟨3, ![n0, n1, n2]⟩ : Shape).ReducesTo [0, 1] ⟨1, ![n2]⟩) (v : FVec Ideal ⟨3, ![n0, n1, n2]⟩ .f32)
    (d : Fin n2) : Ideal.hostReduceAdd h v 0 (ix1 d) = ∑ a : Fin n0, ∑ b : Fin n1, v (ix3 a b d) := by
  unfold Ideal.hostReduceAdd
  rw [zero_add]
  refine (Finset.sum_filter_eq_sum_of_fiber _ (fun k : Fin n0 × Fin n1 => ix3 k.1 k.2 d) (fun _ _ e => Prod.ext (congrFun e 0) (congrFun e 1))
    (fun i => ⟨fun e => ⟨(i 0, i 1), ?_⟩, ?_⟩) v).trans (Fintype.sum_prod_type _)
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

variable {X G : ℕ → ℕ → EReal} {x g : Heads}

/-- The rows, head by head, are these numbers. -/
def Rows (X : ℕ → ℕ → EReal) (x : Heads) : Prop := ∀ (t : Fin 2048) (h : Fin 8) (d : Fin 64), x (ix3 t h d) = X t (64 * h + d)

theorem msq_at (hx : Rows X x) (t : Fin 2048) (h : Fin 8) (a : Fin 1) : hMsq x (ix3 t h a) = msq X t h := by
  pointwise [hMsq]
  simp only [hx t h]
  rfl

theorem term_at (hx : Rows X x) (hg : Rows G g) (t : Fin 2048) (h : Fin 8) (d : Fin 64) :
    mulf (mulf x (broadcastInDim S2048x8x64 ![0, 1, 2] bcast_S2048x8x1_S2048x8x64_0_1_2 (Host.rsqrt (hMsq x)))) g (ix3 t h d)
      = X t (64 * h + d) * rn X t ((64 * h + d) / 64) * G t (64 * h + d) := by
  have e := msq_at hx
  generalize hMsq x = Y at e ⊢
  pointwise
  rw [e, hx, hg, show (64 * h.val + d.val) / 64 = h by omega]
  rfl

/-- The reference's gradient is the sum over rows and heads. -/
theorem grad_at (hx : Rows X x) (hg : Rows G g) : hGrad x g = grad X G := by
  funext i
  obtain ⟨d, rfl⟩ : ∃ d : Fin 64, i = ix1 d := ⟨i 0, eq_ix1 i⟩
  have e := term_at hx hg
  unfold hGrad
  generalize mulf (mulf x _) g = Y at e ⊢
  pointwise
  rw [sum_two, Fin.sum_univ_one, Fin.sum_univ_one]
  pointwise
  rw [sum_two, Finset.sum_comm]
  simp only [e]
  rfl

end Cert.Proof.Norms

end
-- ==== Proof.Norms.Rows.lean ====
module

public import proofs.«01_k».proof.Proof.Norms.Spec
public import proofs.«01_k».proof.Proof.Scalars
public import proofs.«01_k».proof.Proof.Gen.Kernel10Ideal.Skeleton
public import proofs.«01_k».proof.Proof.Gen.Kernel12Ideal.Skeleton

/-!
# A block of two heads

A block of 128 columns holds two heads: sums over lanes below 64 are the first head's, the others the second's.
-/

@[expose] public section

set_option maxRecDepth 16384

noncomputable section

namespace Cert.Proof.Norms

open Cert.Kernel10Ideal Cert.Kernel10Ideal.Gen Idealize.ShloMosaic Idealize.ShloMosaic.TcCoe

/-- A row's sum over the lower half of 128 lanes, -/
theorem lower (f : ℕ → EReal) : ∑ k : Fin 128, (if k.val < 64 then f k else 0) = ∑ k : Fin 64, f k := by
  rw [← Finset.sum_range (fun k => if k < 64 then f k else 0), show (128 : ℕ) = 64 + 64 from rfl, Finset.sum_range_add, ← Finset.sum_range f,
    Finset.sum_congr rfl fun k hk => if_pos (Finset.mem_range.1 hk), Finset.sum_congr rfl fun k _ => if_neg (by omega : ¬ 64 + k < 64)]
  simp
/-- and over the upper half. -/
theorem upper (f : ℕ → EReal) : ∑ k : Fin 128, (if k.val < 64 then 0 else f k) = ∑ k : Fin 64, f (64 + k) := by
  rw [← Finset.sum_range (fun k => if k < 64 then 0 else f k), show (128 : ℕ) = 64 + 64 from rfl, Finset.sum_range_add, ← Finset.sum_range (fun k => f (64 + k)),
    Finset.sum_congr rfl fun k hk => if_pos (Finset.mem_range.1 hk), Finset.sum_congr rfl fun k _ => if_neg (by omega : ¬ 64 + k < 64)]
  simp

variable {X G : ℕ → ℕ → EReal} {b : ℕ} {x g : Vec Ideal S2048x128 .f32}

/-- The block of columns from `128 b` on. -/
def Block (X : ℕ → ℕ → EReal) (b : ℕ) (x : Vec Ideal S2048x128 .f32) : Prop := ∀ (t : Fin 2048) (c : Fin 128), x (ix2 t c) = X t (128 * b + c)

theorem choose (t : Fin 2048) (c : Fin 128) (p q : EReal) : Scalar.select (k0_pay4 (ix2 t c)) p q = if c.val < 64 then p else q := by
  pointwise [k0_pay4]
  exact select_slt (by omega) (by omega) p q

theorem pay_msq (hx : Block X b x) (t : Fin 2048) (c : Fin 128) : k0_pay5 x (ix2 t c) = msq X t ((128 * b + c) / 64) := by
  have e := choose
  unfold k0_pay5
  generalize k0_pay4 = M at e ⊢
  pointwise
  simp only [e, hx t]
  rw [lower fun k => X t (128 * b + k) * X t (128 * b + k), upper fun k => X t (128 * b + k) * X t (128 * b + k)]
  unfold msq
  split
  · rw [show 64 * ((128 * b + c.val) / 64) = 128 * b by omega]
    rfl
  · rw [show 64 * ((128 * b + c.val) / 64) = 128 * b + 64 by omega]
    simp only [Nat.add_assoc]
    rfl

theorem pay_rn (hx : Block X b x) (t : Fin 2048) (c : Fin 128) : k0_pay6 x (ix2 t c) = rn X t ((128 * b + c) / 64) := by
  have e := pay_msq hx
  unfold k0_pay6
  generalize k0_pay5 x = Y at e ⊢
  pointwise
  rw [e]
  rfl

theorem pay_column (hx : Block X b x) (hg : Block G b g) (a : Fin 1) (c : Fin 128) : k0_pay7 x g (ix2 a c) = column X G (128 * b + c) := by
  have e := pay_rn hx
  unfold k0_pay7
  generalize k0_pay6 x = Y at e ⊢
  pointwise
  simp only [e, hx _ c, hg _ c]
  rfl

theorem pay_out {v z : FVec Ideal S1x128 .f32} (hv : ∀ (a : Fin 1) (c : Fin 128), v (ix2 a c) = column X G (128 * b + c)) (hz : z = k0_pay2) (j : S1x128.Idx) :
    k0_pay3 v z j = column X G (128 * b + (j 1).val) := by
  obtain ⟨a, c, rfl⟩ : ∃ (a : Fin 1) (c : Fin 128), j = ix2 a c := ⟨j 0, j 1, eq_ix2 j⟩
  subst hz
  pointwise [k0_pay3, k0_pay2]
  exact hv a c

/-- The host's sum over the heads. -/
def fold (a : FVec Ideal S1x512 .f32) : FVec Ideal S64 .f32 :=
  Host.reduceAdd (shapeCast S8x64 a shapeCasts_S1x512_S8x64) (constant S_ .f32 0x00000000#32) reducesTo_S8x64_S64_d0 h_S_

theorem fold_columns : fold (fun i => column X G (i 1).val) = grad X G := by
  funext i
  obtain ⟨d, rfl⟩ : ∃ d : Fin 64, i = ix1 d := ⟨i 0, eq_ix1 i⟩
  pointwise [fold]
  exact Finset.sum_congr rfl fun h _ => congrArg (column X G) (by show h.val * 64 + d.val = 64 * h.val + d.val; omega)

/-! ## Stores -/

/-- The last of some stores, if it is over a whole buffer, is what the buffer then reads as. -/
theorem read_last {sig : RefSig} {S : Shape} {e : EltTy} (v : View sig .tc .vmem S e) (f : v.ty.Contents (Elt Ideal)) {off : Fin S.rank → ℕ}
    (h : off = fun _ => 0) (inb : ∀ a, off a + S.size a ≤ S.size a) (w : Vec Ideal S e) (L : List (View.Piece (Elt Ideal) S e)) :
    v.read (Elt Ideal) (v.writes (Elt Ideal) f (⟨Rect.unit off S.size inb, w⟩ :: L)) = w := by
  rw [View.read_writes_eq_canon v f _ fun y => ⟨_, List.mem_cons_self, View.mem_set_unit_zero h inb y⟩]
  exact View.canon_cons_unit_zero h inb w L

/-! ## The gated norm's block -/

open Cert.Kernel12Ideal.Gen in
theorem gated_column {z : Vec Ideal S2048x128 .f32} {Z : ℕ → ℕ → EReal} (hx : Block X b x) (hz : Block Z b z) (hg : Block G b g) (a : Fin 1) (c : Fin 128) :
    k0_pay13 (Cert.Kernel12Ideal.Gen.k0_pay6 x) (Cert.Kernel12Ideal.Gen.k0_pay10 z g) (ix2 a c) = column X (fun t c => G t c * (Z t c * Ideal.logistic (Z t c))) (128 * b + c) := by
  have e := pay_rn hx
  unfold k0_pay13 Cert.Kernel12Ideal.Gen.k0_pay10 Cert.Kernel12Ideal.Gen.k0_pay7 Cert.Kernel12Ideal.Gen.k0_pay6
  rw [show Cert.Kernel12Ideal.Gen.k0_pay4 (F := Ideal) x = Cert.Kernel10Ideal.Gen.k0_pay6 x from rfl]
  generalize Cert.Kernel10Ideal.Gen.k0_pay6 x = Y at e ⊢
  pointwise
  simp only [e, hx _ c, hz _ c, hg _ c]
  rfl

end Cert.Proof.Norms

end
-- ==== Proof.Norms.Queries.lean ====
module

public import proofs.«01_k».proof.Proof.Norms.Rows
public import proofs.«01_k».proof.Proof.Adam.Halves
public import proofs.«01_k».proof.Proof.Gen.Kernel10Ideal.Frame
public import proofs.«01_k».proof.Defs

/-!
# The gradient of the queries' norm's weights

Every block of two heads leaves its columns' gradients; the host's sum of them over the heads is the reference's gradient.
-/

@[expose] public section

set_option maxRecDepth 16384

noncomputable section

namespace Cert.Proof.Norms.Queries

open Idealize.ShloMosaic Idealize.ShloMosaic.TcCoe Idealize.ShloMosaic.StableHlo

section Kernel

open Cert.Kernel10Ideal Cert.Kernel10Ideal.Gen
open Cert.Proof.Adam (load_whole)
open Cert.Proof.Ffn (origin2)

variable (m : (ℓ : Loc nD τ sig) → Buf (Elt Ideal) ℓ) (c : Dev nD)

/-! ## Blocks -/

theorem index1 : ∀ t : Fin grid0.N, win0_1.index t 0 = 0 ∧ win0_1.index t 1 = 16 + t.val := by decide +kernel
theorem index2 : ∀ t : Fin grid0.N, win0_2.index t 0 = 0 ∧ win0_2.index t 1 = t.val := by decide +kernel
theorem index4 : ∀ t : Fin grid0.N, win0_4.index t 0 = 0 ∧ win0_4.index t 1 = t.val := by decide +kernel

/-- The queries before the norm, and the gradient after it. -/
abbrev X (t q : ℕ) : EReal := entry (m ((c : Thread nD τ).loc main_arg2) : Vec Ideal S2048x4224 .f32) t (2048 + q)
abbrev G : ℕ → ℕ → EReal := entry (m ((c : Thread nD τ).loc main_arg3) : Vec Ideal S2048x512 .f32)

theorem block1 (t : Fin cfg0.N) : Block (X m c) t.val (iblk m c 1 t) := fun r q => (congrFun (V_main_arg2 m c) _).trans (entry_of
  (by show win0_1.index t 0 * 2048 + 1 * r.val = r.val; rw [(index1 t).1]; omega)
  (by show win0_1.index t 1 * 128 + 1 * q.val = 2048 + (128 * t.val + q.val); rw [(index1 t).2]; omega))

theorem block2 (t : Fin cfg0.N) : Block (G m c) t.val (iblk m c 2 t) := fun r q => (congrFun (V_main_arg3 m c) _).trans (entry_of
  (by show win0_2.index t 0 * 2048 + 1 * r.val = r.val; rw [(index2 t).1]; omega)
  (by show win0_2.index t 1 * 128 + 1 * q.val = 128 * t.val + q.val; rw [(index2 t).2]; omega))

/-- Where a block's entry lies among the columns. -/
theorem place (t : Fin cfg0.N) (j : S1x128.Idx) : (((cfg0.win 4).blk t).view.emb j : S1x512.Idx) 1 = 128 * t.val + (j 1).val :=
  show win0_4.index t 1 * 128 + 1 * (j 1).val = _ by rw [(index4 t).2]; omega

theorem reached (i : S1x512.Idx) : ∃ t : Fin cfg0.N, i ∈ ((cfg0.win 4).blk t).view.set := by
  have h : (i 1).val < 512 := (i 1).isLt
  let t : Fin cfg0.N := ⟨(i 1).val / 128, Nat.lt_of_lt_of_eq (by omega : _ < 4) N_0.symm⟩
  let j : S1x128.Idx := ix2 0 ⟨(i 1).val % 128, by omega⟩
  have e : ((cfg0.win 4).blk t).view.emb j = i := funext fun a => by
    match a with
    | ⟨0, _⟩ => exact Subsingleton.elim (α := Fin 1) _ _
    | ⟨1, _⟩ => exact Fin.ext ((place t j).trans (show 128 * ((i 1).val / 128) + (i 1).val % 128 = (i 1).val by omega))
  exact ⟨t, e ▸ View.emb_mem_set _ j⟩

/-! ## The result -/

theorem out (t : Fin cfg0.N) : (outsAt0 m c t).2 = k0_pay3 (k0_pay7 (iblk m c 1 t) (iblk m c 2 t)) (k0_pay2 (F := Ideal)) := by
  unfold outsAt0 out0_A_4 kernelRun0_A
  dsimp only
  rw [read_last VO0_4 _ (off := ![0, 0]) origin2]
  unfold kernelRun0_A.sl.r_1 kernelRun0_A.sl.v67
  exact congr (congrArg k0_pay3 (congr (congrArg k0_pay7 (load_whole (hs0_1 t) origin2 _ _)) (load_whole (hs0_2 t) origin2 _ _))) (View.readCov_unit_zero _ origin2 _ _)

theorem columns : ((dats m 0 c).arrAt 4 cfg0.N : Vec Ideal S1x512 .f32) = fun i => column (X m c) (G m c) (i 1).val :=
  (dats m 0 c).arrAt_eq_of_cover 4 (fun i : S1x512.Idx => column (X m c) (G m c) (i 1).val) (fun t _ => funext fun j => by
    refine Eq.trans ?_ (congrArg (column (X m c) (G m c)) (place t j).symm)
    show ((dats m 0 c).after 4 t : Vec Ideal S1x128 .f32) j = _
    rw [after0_4, out]
    exact pay_out (pay_column (block1 m c t) (block2 m c t)) rfl j) fun i => let ⟨t, h⟩ := reached i; ⟨t, flush0_4 t, h⟩

theorem read (W : Valuation τ sig (Elt Ideal)) : after hostOps1 W (Proc.devRef .tc main_v9) = fold (W (Proc.devRef .tc main_v7_1)) := by
  simp only [hostOps1]
  after_results_simp <;> rfl

theorem result : Pipeline.afterTail₀ cfgs (dats m) 0 (V0 m) [hostOps1] c main_v9 = grad (X m c) (G m c) :=
  ((read _).trans (congrArg fold ((Pipeline.withArrays_arr (cfgs 0).spec winFacts0.arr_inj c (V0 m c) _ 4).trans (columns m c)))).trans fold_columns

end Kernel

/-- The reference terminates with its arguments unchanged and its counters at zero. -/
theorem frame_reference : quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run m g)

open Cert.Kernel10Ideal Cert.Kernel10Ideal.Gen in
/-- Idealized kernel and reference end with equal gradients. -/
theorem agree : algebraic_Kernel10Ideal_Reference10Ideal (hKernel10Ideal := Cert.Kernel10Ideal.Gen.facts)
    (hReference10Ideal := Cert.Reference10Ideal.Gen.facts) := by
  intro m g m' g' _ hag
  refine ⟨fun c => grad (X m c) (G m c), (θ_run _ _ _).mono (fun r h c => ?_) (θ_run_and (unchanged m g) (run_main m g)),
    (θ_run _ _ _).mono (fun r h c => ?_) (Cert.Reference10Ideal.Value.run m' g')⟩
  · exact ⟨((h.2 c).2 main_v9 (Pipeline.mem_restRefs_of main_v9 (by decide) (by decide))).trans (result m c), h.1 c⟩
  · obtain ⟨h0, hargs⟩ := h c
    obtain ⟨-, -, e2, e3⟩ := hag c
    refine ⟨h0.trans (grad_at (fun t h d => ?_) fun t h d => ?_), hargs⟩
    · rw [e2]
      pointwise
      exact entry_at _ _ _ (by show _ = 2048 + (h.val * 64 + d.val); omega)
    · rw [e3]
      pointwise
      exact entry_at _ _ _ (by show _ = h.val * 64 + d.val; omega)

end Cert.Proof.Norms.Queries

end
-- ==== Proof.Norms.Keys.lean ====
module

public import proofs.«01_k».proof.Proof.Norms.Rows
public import proofs.«01_k».proof.Proof.Adam.Halves
public import proofs.«01_k».proof.Proof.Gen.Kernel11Ideal.Frame
public import proofs.«01_k».proof.Proof.Gen.Reference11Ideal.Run
public import proofs.«01_k».proof.Defs

/-!
# The gradient of the keys' norm's weights

Every block of two heads leaves its columns' gradients; the host's sum of them over the heads is the reference's gradient.
-/

@[expose] public section

set_option maxRecDepth 16384

noncomputable section

namespace Cert.Proof.Norms.Keys

open Idealize.ShloMosaic Idealize.ShloMosaic.TcCoe Idealize.ShloMosaic.StableHlo

section Kernel

open Cert.Kernel11Ideal Cert.Kernel11Ideal.Gen
open Cert.Proof.Adam (load_whole)
open Cert.Proof.Ffn (origin2)

variable (m : (ℓ : Loc nD τ sig) → Buf (Elt Ideal) ℓ) (c : Dev nD)

/-! ## Blocks -/

theorem index1 : ∀ t : Fin grid0.N, win0_1.index t 0 = 0 ∧ win0_1.index t 1 = 20 + t.val := by decide +kernel
theorem index2 : ∀ t : Fin grid0.N, win0_2.index t 0 = 0 ∧ win0_2.index t 1 = t.val := by decide +kernel
theorem index4 : ∀ t : Fin grid0.N, win0_4.index t 0 = 0 ∧ win0_4.index t 1 = t.val := by decide +kernel

/-- The keys before the norm, and the gradient after it. -/
abbrev X (t q : ℕ) : EReal := entry (m ((c : Thread nD τ).loc main_arg2) : Vec Ideal S2048x4224 .f32) t (2560 + q)
abbrev G : ℕ → ℕ → EReal := entry (m ((c : Thread nD τ).loc main_arg3) : Vec Ideal S2048x512 .f32)

theorem block1 (t : Fin cfg0.N) : Block (X m c) t.val (iblk m c 1 t) := fun r q => (congrFun (V_main_arg2 m c) _).trans (entry_of
  (by show win0_1.index t 0 * 2048 + 1 * r.val = r.val; rw [(index1 t).1]; omega)
  (by show win0_1.index t 1 * 128 + 1 * q.val = 2560 + (128 * t.val + q.val); rw [(index1 t).2]; omega))

theorem block2 (t : Fin cfg0.N) : Block (G m c) t.val (iblk m c 2 t) := fun r q => (congrFun (V_main_arg3 m c) _).trans (entry_of
  (by show win0_2.index t 0 * 2048 + 1 * r.val = r.val; rw [(index2 t).1]; omega)
  (by show win0_2.index t 1 * 128 + 1 * q.val = 128 * t.val + q.val; rw [(index2 t).2]; omega))

/-- Where a block's entry lies among the columns. -/
theorem place (t : Fin cfg0.N) (j : S1x128.Idx) : (((cfg0.win 4).blk t).view.emb j : S1x512.Idx) 1 = 128 * t.val + (j 1).val :=
  show win0_4.index t 1 * 128 + 1 * (j 1).val = _ by rw [(index4 t).2]; omega

theorem reached (i : S1x512.Idx) : ∃ t : Fin cfg0.N, i ∈ ((cfg0.win 4).blk t).view.set := by
  have h : (i 1).val < 512 := (i 1).isLt
  let t : Fin cfg0.N := ⟨(i 1).val / 128, Nat.lt_of_lt_of_eq (by omega : _ < 4) N_0.symm⟩
  let j : S1x128.Idx := ix2 0 ⟨(i 1).val % 128, by omega⟩
  have e : ((cfg0.win 4).blk t).view.emb j = i := funext fun a => by
    match a with
    | ⟨0, _⟩ => exact Subsingleton.elim (α := Fin 1) _ _
    | ⟨1, _⟩ => exact Fin.ext ((place t j).trans (show 128 * ((i 1).val / 128) + (i 1).val % 128 = (i 1).val by omega))
  exact ⟨t, e ▸ View.emb_mem_set _ j⟩

/-! ## The result -/

theorem out (t : Fin cfg0.N) : (outsAt0 m c t).2 = k0_pay3 (k0_pay7 (iblk m c 1 t) (iblk m c 2 t)) (k0_pay2 (F := Ideal)) := by
  unfold outsAt0 out0_A_4 kernelRun0_A
  dsimp only
  rw [read_last VO0_4 _ (off := ![0, 0]) origin2]
  unfold kernelRun0_A.sl.r_1 kernelRun0_A.sl.v67
  exact congr (congrArg k0_pay3 (congr (congrArg k0_pay7 (load_whole (hs0_1 t) origin2 _ _)) (load_whole (hs0_2 t) origin2 _ _))) (View.readCov_unit_zero _ origin2 _ _)

theorem columns : ((dats m 0 c).arrAt 4 cfg0.N : Vec Ideal S1x512 .f32) = fun i => column (X m c) (G m c) (i 1).val :=
  (dats m 0 c).arrAt_eq_of_cover 4 (fun i : S1x512.Idx => column (X m c) (G m c) (i 1).val) (fun t _ => funext fun j => by
    refine Eq.trans ?_ (congrArg (column (X m c) (G m c)) (place t j).symm)
    show ((dats m 0 c).after 4 t : Vec Ideal S1x128 .f32) j = _
    rw [after0_4, out]
    exact pay_out (pay_column (block1 m c t) (block2 m c t)) rfl j) fun i => let ⟨t, h⟩ := reached i; ⟨t, flush0_4 t, h⟩

theorem read (W : Valuation τ sig (Elt Ideal)) : after hostOps1 W (Proc.devRef .tc main_v9) = fold (W (Proc.devRef .tc main_v7_1)) := by
  simp only [hostOps1]
  after_results_simp <;> rfl

theorem result : Pipeline.afterTail₀ cfgs (dats m) 0 (V0 m) [hostOps1] c main_v9 = grad (X m c) (G m c) :=
  ((read _).trans (congrArg fold ((Pipeline.withArrays_arr (cfgs 0).spec winFacts0.arr_inj c (V0 m c) _ 4).trans (columns m c)))).trans fold_columns

end Kernel

/-- The reference terminates with its arguments unchanged and its counters at zero. -/
theorem frame_reference : quiescent_Reference11Ideal (hReference11Ideal := Cert.Reference11Ideal.Gen.facts) := fun m g _ =>
  (θ_run _ _ _).mono (fun r h => ⟨fun c => (h c).2, sem_eq_zero_of_no_sems (by decide) r.2⟩) (Cert.Reference11Ideal.Value.run m g)

open Cert.Kernel11Ideal Cert.Kernel11Ideal.Gen in
/-- Idealized kernel and reference end with equal gradients. -/
theorem agree : algebraic_Kernel11Ideal_Reference11Ideal (hKernel11Ideal := Cert.Kernel11Ideal.Gen.facts)
    (hReference11Ideal := Cert.Reference11Ideal.Gen.facts) := by
  intro m g m' g' _ hag
  refine ⟨fun c => grad (X m c) (G m c), (θ_run _ _ _).mono (fun r h c => ?_) (θ_run_and (unchanged m g) (run_main m g)),
    (θ_run _ _ _).mono (fun r h c => ?_) (Cert.Reference11Ideal.Value.run m' g')⟩
  · exact ⟨((h.2 c).2 main_v9 (Pipeline.mem_restRefs_of main_v9 (by decide) (by decide))).trans (result m c), h.1 c⟩
  · obtain ⟨h0, hargs⟩ := h c
    obtain ⟨-, -, e2, e3⟩ := hag c
    refine ⟨h0.trans (grad_at (fun t h d => ?_) fun t h d => ?_), hargs⟩
    · rw [e2]
      pointwise
      exact entry_at _ _ _ (by show _ = 2560 + (h.val * 64 + d.val); omega)
    · rw [e3]
      pointwise
      exact entry_at _ _ _ (by show _ = h.val * 64 + d.val; omega)

end Cert.Proof.Norms.Keys

end
-- ==== Proof.Norms.Output.lean ====
module

public import proofs.«01_k».proof.Proof.Norms.Rows
public import proofs.«01_k».proof.Proof.Adam.Halves
public import proofs.«01_k».proof.Proof.Gen.Kernel12Ideal.Frame
public import proofs.«01_k».proof.Proof.Gen.Reference12Ideal.Run
public import proofs.«01_k».proof.Defs

/-!
# The gradient of the output norm's weights

Every block of two heads leaves its columns' gradients; the host's sum of them over the heads is the reference's gradient.
-/

@[expose] public section

set_option maxRecDepth 16384

noncomputable section

namespace Cert.Proof.Norms.Output

open Idealize.ShloMosaic Idealize.ShloMosaic.TcCoe Idealize.ShloMosaic.StableHlo

section Kernel

open Cert.Kernel12Ideal Cert.Kernel12Ideal.Gen
open Cert.Proof.Adam (load_whole)
open Cert.Proof.Ffn (origin2)

variable (m : (ℓ : Loc nD τ sig) → Buf (Elt Ideal) ℓ) (c : Dev nD)

/-! ## Blocks -/

theorem index1 : ∀ t : Fin grid0.N, win0_1.index t 0 = 0 ∧ win0_1.index t 1 = t.val := by decide +kernel
theorem index2 : ∀ t : Fin grid0.N, win0_2.index t 0 = 0 ∧ win0_2.index t 1 = 12 + t.val := by decide +kernel
theorem index3 : ∀ t : Fin grid0.N, win0_3.index t 0 = 0 ∧ win0_3.index t 1 = t.val := by decide +kernel
theorem index6 : ∀ t : Fin grid0.N, win0_6.index t 0 = 0 ∧ win0_6.index t 1 = t.val := by decide +kernel

/-- The delta rule's output, the gate, and the gradient of the gated norm. -/
abbrev X : ℕ → ℕ → EReal := entry (m ((c : Thread nD τ).loc main_arg1) : Vec Ideal S2048x512 .f32)
abbrev Z (t q : ℕ) : EReal := entry (m ((c : Thread nD τ).loc main_arg2) : Vec Ideal S2048x4224 .f32) t (1536 + q)
abbrev D : ℕ → ℕ → EReal := entry (m ((c : Thread nD τ).loc main_arg3) : Vec Ideal S2048x1024 .f32)
/-- The gradient after the norm, before the gate. -/
abbrev G (t q : ℕ) : EReal := D m c t q * (Z m c t q * Ideal.logistic (Z m c t q))

theorem block1 (t : Fin cfg0.N) : Block (X m c) t.val (iblk m c 1 t) := fun r q => (congrFun (V_main_arg1 m c) _).trans (entry_of
  (by show win0_1.index t 0 * 2048 + 1 * r.val = r.val; rw [(index1 t).1]; omega)
  (by show win0_1.index t 1 * 128 + 1 * q.val = 128 * t.val + q.val; rw [(index1 t).2]; omega))

theorem block2 (t : Fin cfg0.N) : Block (Z m c) t.val (iblk m c 2 t) := fun r q => (congrFun (V_main_arg2 m c) _).trans (entry_of
  (by show win0_2.index t 0 * 2048 + 1 * r.val = r.val; rw [(index2 t).1]; omega)
  (by show win0_2.index t 1 * 128 + 1 * q.val = 1536 + (128 * t.val + q.val); rw [(index2 t).2]; omega))

theorem block3 (t : Fin cfg0.N) : Block (D m c) t.val (iblk m c 3 t) := fun r q => (congrFun (V_main_arg3 m c) _).trans (entry_of
  (by show win0_3.index t 0 * 2048 + 1 * r.val = r.val; rw [(index3 t).1]; omega)
  (by show win0_3.index t 1 * 128 + 1 * q.val = 128 * t.val + q.val; rw [(index3 t).2]; omega))

/-- Where a block's entry lies among the columns. -/
theorem place (t : Fin cfg0.N) (j : S1x128.Idx) : (((cfg0.win 6).blk t).view.emb j : S1x512.Idx) 1 = 128 * t.val + (j 1).val :=
  show win0_6.index t 1 * 128 + 1 * (j 1).val = _ by rw [(index6 t).2]; omega

theorem reached (i : S1x512.Idx) : ∃ t : Fin cfg0.N, i ∈ ((cfg0.win 6).blk t).view.set := by
  have h : (i 1).val < 512 := (i 1).isLt
  let t : Fin cfg0.N := ⟨(i 1).val / 128, Nat.lt_of_lt_of_eq (by omega : _ < 4) N_0.symm⟩
  let j : S1x128.Idx := ix2 0 ⟨(i 1).val % 128, by omega⟩
  have e : ((cfg0.win 6).blk t).view.emb j = i := funext fun a => by
    match a with
    | ⟨0, _⟩ => exact Subsingleton.elim (α := Fin 1) _ _
    | ⟨1, _⟩ => exact Fin.ext ((place t j).trans (show 128 * ((i 1).val / 128) + (i 1).val % 128 = (i 1).val by omega))
  exact ⟨t, e ▸ View.emb_mem_set _ j⟩

/-! ## The result -/

theorem out (t : Fin cfg0.N) : (outsAt0 m c t).2.2 = k0_pay1 (k0_pay13 (k0_pay6 (iblk m c 1 t)) (k0_pay10 (iblk m c 2 t) (iblk m c 3 t))) (k0_pay16 (F := Ideal)) := by
  unfold outsAt0 out0_A_6 kernelRun0_A
  dsimp only
  rw [read_last VO0_6 _ (off := ![0, 0]) origin2]
  unfold kernelRun0_A.sl.r_9 kernelRun0_A.sl.r_4 kernelRun0_A.sl.r_6 kernelRun0_A.sl.v81
  exact congr (congrArg k0_pay1 (congr (congrArg k0_pay13 (congrArg k0_pay6 (load_whole (hs0_1 t) origin2 _ _)))
    (congr (congrArg k0_pay10 (load_whole (hs0_2 t) origin2 _ _)) (load_whole (hs0_3 t) origin2 _ _)))) (View.readCov_unit_zero _ origin2 _ _)

theorem columns : ((dats m 0 c).arrAt 6 cfg0.N : Vec Ideal S1x512 .f32) = fun i => column (X m c) (G m c) (i 1).val :=
  (dats m 0 c).arrAt_eq_of_cover 6 (fun i : S1x512.Idx => column (X m c) (G m c) (i 1).val) (fun t _ => funext fun j => by
    refine Eq.trans ?_ (congrArg (column (X m c) (G m c)) (place t j).symm)
    show ((dats m 0 c).after 6 t : Vec Ideal S1x128 .f32) j = _
    rw [after0_6, out]
    exact pay_out (gated_column (block1 m c t) (block2 m c t) (block3 m c t)) rfl j) fun i => let ⟨t, h⟩ := reached i; ⟨t, flush0_6 t, h⟩

theorem read (W : Valuation τ sig (Elt Ideal)) : after hostOps1 W (Proc.devRef .tc main_v5) = fold (W (Proc.devRef .tc main_v3_2)) := by
  simp only [hostOps1]
  after_results_simp <;> rfl

theorem result : Pipeline.afterTail₀ cfgs (dats m) 0 (V0 m) [hostOps1] c main_v5 = grad (X m c) (G m c) :=
  ((read _).trans (congrArg fold ((Pipeline.withArrays_arr (cfgs 0).spec winFacts0.arr_inj c (V0 m c) _ 6).trans (columns m c)))).trans fold_columns

end Kernel

/-- The reference terminates with its arguments unchanged and its counters at zero. -/
theorem frame_reference : quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run m g)

open Cert.Kernel12Ideal Cert.Kernel12Ideal.Gen in
/-- Idealized kernel and reference end with equal gradients. -/
theorem agree : algebraic_Kernel12Ideal_Reference12Ideal (hKernel12Ideal := Cert.Kernel12Ideal.Gen.facts)
    (hReference12Ideal := Cert.Reference12Ideal.Gen.facts) := by
  intro m g m' g' _ hag
  refine ⟨fun c => grad (X m c) (G m c), (θ_run _ _ _).mono (fun r h c => ?_) (θ_run_and (unchanged m g) (run_main m g)),
    (θ_run _ _ _).mono (fun r h c => ?_) (Cert.Reference12Ideal.Value.run m' g')⟩
  · exact ⟨((h.2 c).2 main_v5 (Pipeline.mem_restRefs_of main_v5 (by decide) (by decide))).trans (result m c), h.1 c⟩
  · obtain ⟨h0, hargs⟩ := h c
    obtain ⟨-, e1, e2, e3⟩ := hag c
    refine ⟨h0.trans (grad_at (fun t h d => ?_) fun t h d => ?_), hargs⟩
    · rw [e1]
      pointwise
      exact entry_at _ _ _ (by show _ = h.val * 64 + d.val; omega)
    · rw [e2, e3]
      pointwise
      exact congr (congrArg (· * ·) (entry_at (k := 64 * h.val + d.val) _ _ _ (by show _ = h.val * 64 + d.val; omega)))
        (congrArg (fun z => z * Ideal.logistic z) (entry_at (k := 1536 + (64 * h.val + d.val)) _ _ _ (by show _ = 1536 + (h.val * 64 + d.val); omega)))

end Cert.Proof.Norms.Output

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import proofs.«01_k».proof.Proof.Same
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Ffn.Equal
public import proofs.«01_k».proof.Proof.Proj.Equal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel5Ideal
public import proofs.«01_k».proof.Proof.Gen.Kernel6Ideal
public import proofs.«01_k».proof.Proof.Gen.Kernel7Ideal
public import proofs.«01_k».proof.Proof.Gen.Kernel8Ideal
public import proofs.«01_k».proof.Proof.Gen.Kernel9Ideal
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal.Run
public import proofs.«01_k».proof.Proof.Adam.Equal
public import proofs.«01_k».proof.Proof.Adam.WOut
public import proofs.«01_k».proof.Proof.Adam.WGate
public import proofs.«01_k».proof.Proof.Adam.WUp
public import proofs.«01_k».proof.Proof.Adam.WDown
public import proofs.«01_k».proof.Proof.Adam.WIn
public import proofs.«01_k».proof.Proof.Norms.Queries
public import proofs.«01_k».proof.Proof.Norms.Keys
public import proofs.«01_k».proof.Proof.Norms.Output
public import Idealize.ShloMosaic.Adequacy
public import Idealize.ShloMosaic.Init

@[expose] public section

noncomputable section

namespace Cert.Proof

open Idealize.ShloMosaic Idealize.SL.Sem Cert.Kernel

/-- The kernel's frame: the idealized program is the kernel's own text, so its run over the hardware's bits is the kernel's run. -/
theorem frame_kernel : Cert.quiescent_Kernel := by
  intro m ρ _
  have h := frame_run (F := Bits) m ρ
  rw [defs_same, main_same] at h
  exact h

/-- The frames of the thirty-six programs, the idealizations' rewrites (none), and the equality of the results: of the attention's backward
    pass on finite arguments; of the second half of the step, of the first norm and the input projection, of the small weights' optimiser step,
    of the five large weights' and of the gradients of the heads' norms' weights on any. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, preFacts,
  frame_kernel, fun m ρ _ => frame_run m ρ, fun m ρ _ => frame_run m ρ,
  fun m ρ _ => Ref.frame_run m ρ, fun m ρ _ => Ref.frame_run m ρ,
  fun m ρ _ => Cert.Kernel2.Gen.frame m ρ, fun m ρ _ => Cert.Kernel2Ideal.Gen.frame m ρ, fun m ρ _ => Ffn.frame_reference m ρ,
  fun m ρ _ => Cert.Kernel3.Gen.frame m ρ, fun m ρ _ => Cert.Kernel3Ideal.Gen.frame m ρ, fun m ρ _ => Proj.frame_reference m ρ,
  fun m ρ _ => Cert.Kernel4.Gen.frame m ρ, fun m ρ _ => Cert.Kernel4Ideal.Gen.frame m ρ, Adam.frame_reference,
  fun m ρ _ => Cert.Kernel5.Gen.frame m ρ trivial, fun m ρ _ => Cert.Kernel5Ideal.Gen.frame m ρ trivial, Adam.WOut.frame_reference,
  fun m ρ _ => Cert.Kernel6.Gen.frame m ρ trivial, fun m ρ _ => Cert.Kernel6Ideal.Gen.frame m ρ trivial, Adam.WGate.frame_reference,
  fun m ρ _ => Cert.Kernel7.Gen.frame m ρ trivial, fun m ρ _ => Cert.Kernel7Ideal.Gen.frame m ρ trivial, Adam.WUp.frame_reference,
  fun m ρ _ => Cert.Kernel8.Gen.frame m ρ trivial, fun m ρ _ => Cert.Kernel8Ideal.Gen.frame m ρ trivial, Adam.WDown.frame_reference,
  fun m ρ _ => Cert.Kernel9.Gen.frame m ρ trivial, fun m ρ _ => Cert.Kernel9Ideal.Gen.frame m ρ trivial, Adam.WIn.frame_reference,
  fun m ρ _ => Cert.Kernel10.Gen.frame m ρ, fun m ρ _ => Cert.Kernel10Ideal.Gen.frame m ρ, Norms.Queries.frame_reference,
  fun m ρ _ => Cert.Kernel11.Gen.frame m ρ, fun m ρ _ => Cert.Kernel11Ideal.Gen.frame m ρ, Norms.Keys.frame_reference,
  fun m ρ _ => Cert.Kernel12.Gen.frame m ρ, fun m ρ _ => Cert.Kernel12Ideal.Gen.frame m ρ, Norms.Output.frame_reference,
  trivial, agree, trivial, Ffn.agree, trivial, Proj.agree, trivial, Adam.agree,
  trivial, Adam.WOut.agree, trivial, Adam.WGate.agree, trivial, Adam.WUp.agree, trivial, Adam.WDown.agree, trivial, Adam.WIn.agree,
  trivial, Norms.Queries.agree, trivial, Norms.Keys.agree, trivial, Norms.Output.agree⟩

end Cert.Proof

end
